-- ==== Defs.lean ====
def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_AttBwd (m : (ℓ : Loc Cert.AttBwd.nD Cert.AttBwd.τ Cert.AttBwd.sig) → Buf (Elt Bits) ℓ) : Prop :=
  True

def Pre_AttBwdIdeal (m : (ℓ : Loc Cert.AttBwdIdeal.nD Cert.AttBwdIdeal.τ Cert.AttBwdIdeal.sig) → Buf (Elt Ideal) ℓ) : Prop :=
  True

def Pre_AttBwdIdeal_finite [hPre_finite : Cert.Pre_finite.Facts] (m : (ℓ : Loc Cert.AttBwdIdeal.nD Cert.AttBwdIdeal.τ Cert.AttBwdIdeal.sig) → Buf (Elt Ideal) ℓ) : Prop :=
  ∀ c : Dev Cert.AttBwdIdeal.nD,
    (Cert.Pre_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3))).1 = (fun _ => 1#1)
    ∧ (Cert.Pre_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3))).2.1 = (fun _ => 1#1)
    ∧ (Cert.Pre_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3))).2.2.1 = (fun _ => 1#1)
    ∧ (Cert.Pre_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3))).2.2.2 = (fun _ => 1#1)

def Pre_AttBwdRefIdeal (m : (ℓ : Loc Cert.AttBwdRefIdeal.nD Cert.AttBwdRefIdeal.τ Cert.AttBwdRefIdeal.sig) → Buf (Elt Ideal) ℓ) : Prop :=
  True

def Pre_AttBwdRefIdeal_finite [hPre_finite : Cert.Pre_finite.Facts] (m : (ℓ : Loc Cert.AttBwdRefIdeal.nD Cert.AttBwdRefIdeal.τ Cert.AttBwdRefIdeal.sig) → Buf (Elt Ideal) ℓ) : Prop :=
  ∀ c : Dev Cert.AttBwdRefIdeal.nD,
    (Cert.Pre_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3))).1 = (fun _ => 1#1)
    ∧ (Cert.Pre_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3))).2.1 = (fun _ => 1#1)
    ∧ (Cert.Pre_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3))).2.2.1 = (fun _ => 1#1)
    ∧ (Cert.Pre_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3))).2.2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_finite_qkv [hPre_finite_qkv : Cert.Pre_finite_qkv.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_finite_qkv.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))).1 = (fun _ => 1#1)
    ∧ (Cert.Pre_finite_qkv.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))).2.1 = (fun _ => 1#1)
    ∧ (Cert.Pre_finite_qkv.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))).2.2 = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_finite_qkv [hPre_finite_qkv : Cert.Pre_finite_qkv.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_finite_qkv.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2))).1 = (fun _ => 1#1)
    ∧ (Cert.Pre_finite_qkv.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2))).2.1 = (fun _ => 1#1)
    ∧ (Cert.Pre_finite_qkv.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2))).2.2 = (fun _ => 1#1)

def Pre_OdOut (m : (ℓ : Loc Cert.OdOut.nD Cert.OdOut.τ Cert.OdOut.sig) → Buf (Elt Bits) ℓ) : Prop :=
  True

def Pre_OdOutIdeal (m : (ℓ : Loc Cert.OdOutIdeal.nD Cert.OdOutIdeal.τ Cert.OdOutIdeal.sig) → Buf (Elt Ideal) ℓ) : Prop :=
  True

def Pre_OdOutRefIdeal (m : (ℓ : Loc Cert.OdOutRefIdeal.nD Cert.OdOutRefIdeal.τ Cert.OdOutRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_EvOut (m : (ℓ : Loc Cert.EvOut.nD Cert.EvOut.τ Cert.EvOut.sig) → Buf (Elt Bits) ℓ) : Prop :=
  True

def Pre_EvOutIdeal (m : (ℓ : Loc Cert.EvOutIdeal.nD Cert.EvOutIdeal.τ Cert.EvOutIdeal.sig) → Buf (Elt Ideal) ℓ) : Prop :=
  True

def Pre_EvOutRefIdeal (m : (ℓ : Loc Cert.EvOutRefIdeal.nD Cert.EvOutRefIdeal.τ Cert.EvOutRefIdeal.sig) → Buf (Elt Ideal) ℓ) : Prop :=
  True

def Pre_EvFwd (m : (ℓ : Loc Cert.EvFwd.nD Cert.EvFwd.τ Cert.EvFwd.sig) → Buf (Elt Bits) ℓ) : Prop :=
  True

def Pre_EvFwdIdeal (m : (ℓ : Loc Cert.EvFwdIdeal.nD Cert.EvFwdIdeal.τ Cert.EvFwdIdeal.sig) → Buf (Elt Ideal) ℓ) : Prop :=
  True

def Pre_EvFwdRefIdeal (m : (ℓ : Loc Cert.EvFwdRefIdeal.nD Cert.EvFwdRefIdeal.τ Cert.EvFwdRefIdeal.sig) → Buf (Elt Ideal) ℓ) : Prop :=
  True

def Pre_OdFwd (m : (ℓ : Loc Cert.OdFwd.nD Cert.OdFwd.τ Cert.OdFwd.sig) → Buf (Elt Bits) ℓ) : Prop :=
  True

def Pre_OdFwdIdeal (m : (ℓ : Loc Cert.OdFwdIdeal.nD Cert.OdFwdIdeal.τ Cert.OdFwdIdeal.sig) → Buf (Elt Ideal) ℓ) : Prop :=
  True

def Pre_OdFwdRefIdeal (m : (ℓ : Loc Cert.OdFwdRefIdeal.nD Cert.OdFwdRefIdeal.τ Cert.OdFwdRefIdeal.sig) → Buf (Elt Ideal) ℓ) : Prop :=
  True

def Pre_EvPre (m : (ℓ : Loc Cert.EvPre.nD Cert.EvPre.τ Cert.EvPre.sig) → Buf (Elt Bits) ℓ) : Prop :=
  True

def Pre_EvPreIdeal (m : (ℓ : Loc Cert.EvPreIdeal.nD Cert.EvPreIdeal.τ Cert.EvPreIdeal.sig) → Buf (Elt Ideal) ℓ) : Prop :=
  True

def Pre_EvPreRefIdeal (m : (ℓ : Loc Cert.EvPreRefIdeal.nD Cert.EvPreRefIdeal.τ Cert.EvPreRefIdeal.sig) → Buf (Elt Ideal) ℓ) : Prop :=
  True

def Pre_OdEnd (m : (ℓ : Loc Cert.OdEnd.nD Cert.OdEnd.τ Cert.OdEnd.sig) → Buf (Elt Bits) ℓ) : Prop :=
  True

def Pre_OdEndIdeal (m : (ℓ : Loc Cert.OdEndIdeal.nD Cert.OdEndIdeal.τ Cert.OdEndIdeal.sig) → Buf (Elt Ideal) ℓ) : Prop :=
  True

def Pre_OdEndRefIdeal (m : (ℓ : Loc Cert.OdEndRefIdeal.nD Cert.OdEndRefIdeal.τ Cert.OdEndRefIdeal.sig) → Buf (Elt Ideal) ℓ) : Prop :=
  True

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2)
      ∧ r.2.mem ((c.tc : Thread Cert.Du.nD Cert.Du.τ).loc Cert.Du.main_arg3) = m ((c.tc : Thread Cert.Du.nD Cert.Du.τ).loc Cert.Du.main_arg3))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3))
      ∧ r.2.sem = fun _ => 0)

def quiescent_AttBwd [hAttBwd : Cert.AttBwd.Facts] : Prop :=
  ∀ (m : (ℓ : Loc Cert.AttBwd.nD Cert.AttBwd.τ Cert.AttBwd.sig) → Buf (Elt Bits) ℓ) (g : Dev Cert.AttBwd.nD → PrngReg), Pre_AttBwd m →
    θ_run (Cert.AttBwd.defs (F := Bits)) (onTc (τ := Cert.AttBwd.τ) (Cert.AttBwd.main (F := Bits))) ⟨m, fun _ => 0, g⟩ (fun r => (∀ c : Dev Cert.AttBwd.nD,
      r.2.mem ((c.tc : Thread Cert.AttBwd.nD Cert.AttBwd.τ).loc Cert.AttBwd.main_arg0) = m ((c.tc : Thread Cert.AttBwd.nD Cert.AttBwd.τ).loc Cert.AttBwd.main_arg0)
      ∧ r.2.mem ((c.tc : Thread Cert.AttBwd.nD Cert.AttBwd.τ).loc Cert.AttBwd.main_arg1) = m ((c.tc : Thread Cert.AttBwd.nD Cert.AttBwd.τ).loc Cert.AttBwd.main_arg1)
      ∧ r.2.mem ((c.tc : Thread Cert.AttBwd.nD Cert.AttBwd.τ).loc Cert.AttBwd.main_arg2) = m ((c.tc : Thread Cert.AttBwd.nD Cert.AttBwd.τ).loc Cert.AttBwd.main_arg2)
      ∧ r.2.mem ((c.tc : Thread Cert.AttBwd.nD Cert.AttBwd.τ).loc Cert.AttBwd.main_arg3) = m ((c.tc : Thread Cert.AttBwd.nD Cert.AttBwd.τ).loc Cert.AttBwd.main_arg3))
      ∧ r.2.sem = fun _ => 0)

def quiescent_AttBwdIdeal [hAttBwdIdeal : Cert.AttBwdIdeal.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
      ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3))
      ∧ r.2.sem = fun _ => 0)

def quiescent_AttBwdIdeal_pre_finite [hAttBwdIdeal : Cert.AttBwdIdeal.Facts] [hPre_finite : Cert.Pre_finite.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal_finite m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
      ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3))
      ∧ r.2.sem = fun _ => 0)

def quiescent_AttBwdRefIdeal [hAttBwdRefIdeal : Cert.AttBwdRefIdeal.Facts] : Prop :=
  ∀ (m : (ℓ : Loc Cert.AttBwdRefIdeal.nD Cert.AttBwdRefIdeal.τ Cert.AttBwdRefIdeal.sig) → Buf (Elt Ideal) ℓ) (g : Dev Cert.AttBwdRefIdeal.nD → PrngReg), Pre_AttBwdRefIdeal m →
    θ_run (Cert.AttBwdRefIdeal.defs (F := Ideal)) (onTc (τ := Cert.AttBwdRefIdeal.τ) (Cert.AttBwdRefIdeal.main (F := Ideal))) ⟨m, fun _ => 0, g⟩ (fun r => (∀ c : Dev Cert.AttBwdRefIdeal.nD,
      r.2.mem ((c.tc : Thread Cert.AttBwdRefIdeal.nD Cert.AttBwdRefIdeal.τ).loc Cert.AttBwdRefIdeal.main_arg0) = m ((c.tc : Thread Cert.AttBwdRefIdeal.nD Cert.AttBwdRefIdeal.τ).loc Cert.AttBwdRefIdeal.main_arg0)
      ∧ r.2.mem ((c.tc : Thread Cert.AttBwdRefIdeal.nD Cert.AttBwdRefIdeal.τ).loc Cert.AttBwdRefIdeal.main_arg1) = m ((c.tc : Thread Cert.AttBwdRefIdeal.nD Cert.AttBwdRefIdeal.τ).loc Cert.AttBwdRefIdeal.main_arg1)
      ∧ r.2.mem ((c.tc : Thread Cert.AttBwdRefIdeal.nD Cert.AttBwdRefIdeal.τ).loc Cert.AttBwdRefIdeal.main_arg2) = m ((c.tc : Thread Cert.AttBwdRefIdeal.nD Cert.AttBwdRefIdeal.τ).loc Cert.AttBwdRefIdeal.main_arg2)
      ∧ r.2.mem ((c.tc : Thread Cert.AttBwdRefIdeal.nD Cert.AttBwdRefIdeal.τ).loc Cert.AttBwdRefIdeal.main_arg3) = m ((c.tc : Thread Cert.AttBwdRefIdeal.nD Cert.AttBwdRefIdeal.τ).loc Cert.AttBwdRefIdeal.main_arg3))
      ∧ r.2.sem = fun _ => 0)

def quiescent_AttBwdRefIdeal_pre_finite [hAttBwdRefIdeal : Cert.AttBwdRefIdeal.Facts] [hPre_finite : Cert.Pre_finite.Facts] : Prop :=
  ∀ (m : (ℓ : Loc Cert.AttBwdRefIdeal.nD Cert.AttBwdRefIdeal.τ Cert.AttBwdRefIdeal.sig) → Buf (Elt Ideal) ℓ) (g : Dev Cert.AttBwdRefIdeal.nD → PrngReg), Pre_AttBwdRefIdeal_finite m →
    θ_run (Cert.AttBwdRefIdeal.defs (F := Ideal)) (onTc (τ := Cert.AttBwdRefIdeal.τ) (Cert.AttBwdRefIdeal.main (F := Ideal))) ⟨m, fun _ => 0, g⟩ (fun r => (∀ c : Dev Cert.AttBwdRefIdeal.nD,
      r.2.mem ((c.tc : Thread Cert.AttBwdRefIdeal.nD Cert.AttBwdRefIdeal.τ).loc Cert.AttBwdRefIdeal.main_arg0) = m ((c.tc : Thread Cert.AttBwdRefIdeal.nD Cert.AttBwdRefIdeal.τ).loc Cert.AttBwdRefIdeal.main_arg0)
      ∧ r.2.mem ((c.tc : Thread Cert.AttBwdRefIdeal.nD Cert.AttBwdRefIdeal.τ).loc Cert.AttBwdRefIdeal.main_arg1) = m ((c.tc : Thread Cert.AttBwdRefIdeal.nD Cert.AttBwdRefIdeal.τ).loc Cert.AttBwdRefIdeal.main_arg1)
      ∧ r.2.mem ((c.tc : Thread Cert.AttBwdRefIdeal.nD Cert.AttBwdRefIdeal.τ).loc Cert.AttBwdRefIdeal.main_arg2) = m ((c.tc : Thread Cert.AttBwdRefIdeal.nD Cert.AttBwdRefIdeal.τ).loc Cert.AttBwdRefIdeal.main_arg2)
      ∧ r.2.mem ((c.tc : Thread Cert.AttBwdRefIdeal.nD Cert.AttBwdRefIdeal.τ).loc Cert.AttBwdRefIdeal.main_arg3) = m ((c.tc : Thread Cert.AttBwdRefIdeal.nD Cert.AttBwdRefIdeal.τ).loc Cert.AttBwdRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1)
      ∧ r.2.mem ((c.tc : Thread Cert.OdIn.nD Cert.OdIn.τ).loc Cert.OdIn.main_arg2) = m ((c.tc : Thread Cert.OdIn.nD Cert.OdIn.τ).loc Cert.OdIn.main_arg2)
      ∧ r.2.mem ((c.tc : Thread Cert.OdIn.nD Cert.OdIn.τ).loc Cert.OdIn.main_arg3) = m ((c.tc : Thread Cert.OdIn.nD Cert.OdIn.τ).loc Cert.OdIn.main_arg3)
      ∧ r.2.mem ((c.tc : Thread Cert.OdIn.nD Cert.OdIn.τ).loc Cert.OdIn.main_arg4) = m ((c.tc : Thread Cert.OdIn.nD Cert.OdIn.τ).loc Cert.OdIn.main_arg4)
      ∧ r.2.mem ((c.tc : Thread Cert.OdIn.nD Cert.OdIn.τ).loc Cert.OdIn.main_arg5) = m ((c.tc : Thread Cert.OdIn.nD Cert.OdIn.τ).loc Cert.OdIn.main_arg5)
      ∧ r.2.mem ((c.tc : Thread Cert.OdIn.nD Cert.OdIn.τ).loc Cert.OdIn.main_arg6) = m ((c.tc : Thread Cert.OdIn.nD Cert.OdIn.τ).loc Cert.OdIn.main_arg6)
      ∧ r.2.mem ((c.tc : Thread Cert.OdIn.nD Cert.OdIn.τ).loc Cert.OdIn.main_arg7) = m ((c.tc : Thread Cert.OdIn.nD Cert.OdIn.τ).loc Cert.OdIn.main_arg7)
      ∧ r.2.mem ((c.tc : Thread Cert.OdIn.nD Cert.OdIn.τ).loc Cert.OdIn.main_arg8) = m ((c.tc : Thread Cert.OdIn.nD Cert.OdIn.τ).loc Cert.OdIn.main_arg8))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1)
      ∧ r.2.mem ((c.tc : Thread Cert.OdInIdeal.nD Cert.OdInIdeal.τ).loc Cert.OdInIdeal.main_arg2) = m ((c.tc : Thread Cert.OdInIdeal.nD Cert.OdInIdeal.τ).loc Cert.OdInIdeal.main_arg2)
      ∧ r.2.mem ((c.tc : Thread Cert.OdInIdeal.nD Cert.OdInIdeal.τ).loc Cert.OdInIdeal.main_arg3) = m ((c.tc : Thread Cert.OdInIdeal.nD Cert.OdInIdeal.τ).loc Cert.OdInIdeal.main_arg3)
      ∧ r.2.mem ((c.tc : Thread Cert.OdInIdeal.nD Cert.OdInIdeal.τ).loc Cert.OdInIdeal.main_arg4) = m ((c.tc : Thread Cert.OdInIdeal.nD Cert.OdInIdeal.τ).loc Cert.OdInIdeal.main_arg4)
      ∧ r.2.mem ((c.tc : Thread Cert.OdInIdeal.nD Cert.OdInIdeal.τ).loc Cert.OdInIdeal.main_arg5) = m ((c.tc : Thread Cert.OdInIdeal.nD Cert.OdInIdeal.τ).loc Cert.OdInIdeal.main_arg5)
      ∧ r.2.mem ((c.tc : Thread Cert.OdInIdeal.nD Cert.OdInIdeal.τ).loc Cert.OdInIdeal.main_arg6) = m ((c.tc : Thread Cert.OdInIdeal.nD Cert.OdInIdeal.τ).loc Cert.OdInIdeal.main_arg6)
      ∧ r.2.mem ((c.tc : Thread Cert.OdInIdeal.nD Cert.OdInIdeal.τ).loc Cert.OdInIdeal.main_arg7) = m ((c.tc : Thread Cert.OdInIdeal.nD Cert.OdInIdeal.τ).loc Cert.OdInIdeal.main_arg7)
      ∧ r.2.mem ((c.tc : Thread Cert.OdInIdeal.nD Cert.OdInIdeal.τ).loc Cert.OdInIdeal.main_arg8) = m ((c.tc : Thread Cert.OdInIdeal.nD Cert.OdInIdeal.τ).loc Cert.OdInIdeal.main_arg8))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1)
      ∧ r.2.mem ((c.tc : Thread Cert.OdInRefIdeal.nD Cert.OdInRefIdeal.τ).loc Cert.OdInRefIdeal.main_arg2) = m ((c.tc : Thread Cert.OdInRefIdeal.nD Cert.OdInRefIdeal.τ).loc Cert.OdInRefIdeal.main_arg2)
      ∧ r.2.mem ((c.tc : Thread Cert.OdInRefIdeal.nD Cert.OdInRefIdeal.τ).loc Cert.OdInRefIdeal.main_arg3) = m ((c.tc : Thread Cert.OdInRefIdeal.nD Cert.OdInRefIdeal.τ).loc Cert.OdInRefIdeal.main_arg3)
      ∧ r.2.mem ((c.tc : Thread Cert.OdInRefIdeal.nD Cert.OdInRefIdeal.τ).loc Cert.OdInRefIdeal.main_arg4) = m ((c.tc : Thread Cert.OdInRefIdeal.nD Cert.OdInRefIdeal.τ).loc Cert.OdInRefIdeal.main_arg4)
      ∧ r.2.mem ((c.tc : Thread Cert.OdInRefIdeal.nD Cert.OdInRefIdeal.τ).loc Cert.OdInRefIdeal.main_arg5) = m ((c.tc : Thread Cert.OdInRefIdeal.nD Cert.OdInRefIdeal.τ).loc Cert.OdInRefIdeal.main_arg5)
      ∧ r.2.mem ((c.tc : Thread Cert.OdInRefIdeal.nD Cert.OdInRefIdeal.τ).loc Cert.OdInRefIdeal.main_arg6) = m ((c.tc : Thread Cert.OdInRefIdeal.nD Cert.OdInRefIdeal.τ).loc Cert.OdInRefIdeal.main_arg6)
      ∧ r.2.mem ((c.tc : Thread Cert.OdInRefIdeal.nD Cert.OdInRefIdeal.τ).loc Cert.OdInRefIdeal.main_arg7) = m ((c.tc : Thread Cert.OdInRefIdeal.nD Cert.OdInRefIdeal.τ).loc Cert.OdInRefIdeal.main_arg7)
      ∧ r.2.mem ((c.tc : Thread Cert.OdInRefIdeal.nD Cert.OdInRefIdeal.τ).loc Cert.OdInRefIdeal.main_arg8) = m ((c.tc : Thread Cert.OdInRefIdeal.nD Cert.OdInRefIdeal.τ).loc Cert.OdInRefIdeal.main_arg8))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ r.2.sem = fun _ => 0)

def quiescent_AttFwdIdeal_pre_finite_qkv [hAttFwdIdeal : Cert.AttFwdIdeal.Facts] [hPre_finite_qkv : Cert.Pre_finite_qkv.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_finite_qkv m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2))
      ∧ r.2.sem = fun _ => 0)

def quiescent_AttFwdRefIdeal_pre_finite_qkv [hAttFwdRefIdeal : Cert.AttFwdRefIdeal.Facts] [hPre_finite_qkv : Cert.Pre_finite_qkv.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_finite_qkv m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2))
      ∧ r.2.sem = fun _ => 0)

def quiescent_OdOut [hOdOut : Cert.OdOut.Facts] : Prop :=
  ∀ (m : (ℓ : Loc Cert.OdOut.nD Cert.OdOut.τ Cert.OdOut.sig) → Buf (Elt Bits) ℓ) (g : Dev Cert.OdOut.nD → PrngReg), Pre_OdOut m →
    θ_run (Cert.OdOut.defs (F := Bits)) (onTc (τ := Cert.OdOut.τ) (Cert.OdOut.main (F := Bits))) ⟨m, fun _ => 0, g⟩ (fun r => (∀ c : Dev Cert.OdOut.nD,
      r.2.mem ((c.tc : Thread Cert.OdOut.nD Cert.OdOut.τ).loc Cert.OdOut.main_arg0) = m ((c.tc : Thread Cert.OdOut.nD Cert.OdOut.τ).loc Cert.OdOut.main_arg0)
      ∧ r.2.mem ((c.tc : Thread Cert.OdOut.nD Cert.OdOut.τ).loc Cert.OdOut.main_arg1) = m ((c.tc : Thread Cert.OdOut.nD Cert.OdOut.τ).loc Cert.OdOut.main_arg1)
      ∧ r.2.mem ((c.tc : Thread Cert.OdOut.nD Cert.OdOut.τ).loc Cert.OdOut.main_arg2) = m ((c.tc : Thread Cert.OdOut.nD Cert.OdOut.τ).loc Cert.OdOut.main_arg2)
      ∧ r.2.mem ((c.tc : Thread Cert.OdOut.nD Cert.OdOut.τ).loc Cert.OdOut.main_arg3) = m ((c.tc : Thread Cert.OdOut.nD Cert.OdOut.τ).loc Cert.OdOut.main_arg3)
      ∧ r.2.mem ((c.tc : Thread Cert.OdOut.nD Cert.OdOut.τ).loc Cert.OdOut.main_arg4) = m ((c.tc : Thread Cert.OdOut.nD Cert.OdOut.τ).loc Cert.OdOut.main_arg4)
      ∧ r.2.mem ((c.tc : Thread Cert.OdOut.nD Cert.OdOut.τ).loc Cert.OdOut.main_arg5) = m ((c.tc : Thread Cert.OdOut.nD Cert.OdOut.τ).loc Cert.OdOut.main_arg5)
      ∧ r.2.mem ((c.tc : Thread Cert.OdOut.nD Cert.OdOut.τ).loc Cert.OdOut.main_arg6) = m ((c.tc : Thread Cert.OdOut.nD Cert.OdOut.τ).loc Cert.OdOut.main_arg6)
      ∧ r.2.mem ((c.tc : Thread Cert.OdOut.nD Cert.OdOut.τ).loc Cert.OdOut.main_arg7) = m ((c.tc : Thread Cert.OdOut.nD Cert.OdOut.τ).loc Cert.OdOut.main_arg7)
      ∧ r.2.mem ((c.tc : Thread Cert.OdOut.nD Cert.OdOut.τ).loc Cert.OdOut.main_arg8) = m ((c.tc : Thread Cert.OdOut.nD Cert.OdOut.τ).loc Cert.OdOut.main_arg8)
      ∧ r.2.mem ((c.tc : Thread Cert.OdOut.nD Cert.OdOut.τ).loc Cert.OdOut.main_arg9) = m ((c.tc : Thread Cert.OdOut.nD Cert.OdOut.τ).loc Cert.OdOut.main_arg9))
      ∧ r.2.sem = fun _ => 0)

def quiescent_OdOutIdeal [hOdOutIdeal : Cert.OdOutIdeal.Facts] : Prop :=
  ∀ (m : (ℓ : Loc Cert.OdOutIdeal.nD Cert.OdOutIdeal.τ Cert.OdOutIdeal.sig) → Buf (Elt Ideal) ℓ) (g : Dev Cert.OdOutIdeal.nD → PrngReg), Pre_OdOutIdeal m →
    θ_run (Cert.OdOutIdeal.defs (F := Ideal)) (onTc (τ := Cert.OdOutIdeal.τ) (Cert.OdOutIdeal.main (F := Ideal))) ⟨m, fun _ => 0, g⟩ (fun r => (∀ c : Dev Cert.OdOutIdeal.nD,
      r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
      ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
      ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2)
      ∧ r.2.mem ((c.tc : Thread Cert.OdOutIdeal.nD Cert.OdOutIdeal.τ).loc Cert.OdOutIdeal.main_arg3) = m ((c.tc : Thread Cert.OdOutIdeal.nD Cert.OdOutIdeal.τ).loc Cert.OdOutIdeal.main_arg3)
      ∧ r.2.mem ((c.tc : Thread Cert.OdOutIdeal.nD Cert.OdOutIdeal.τ).loc Cert.OdOutIdeal.main_arg4) = m ((c.tc : Thread Cert.OdOutIdeal.nD Cert.OdOutIdeal.τ).loc Cert.OdOutIdeal.main_arg4)
      ∧ r.2.mem ((c.tc : Thread Cert.OdOutIdeal.nD Cert.OdOutIdeal.τ).loc Cert.OdOutIdeal.main_arg5) = m ((c.tc : Thread Cert.OdOutIdeal.nD Cert.OdOutIdeal.τ).loc Cert.OdOutIdeal.main_arg5)
      ∧ r.2.mem ((c.tc : Thread Cert.OdOutIdeal.nD Cert.OdOutIdeal.τ).loc Cert.OdOutIdeal.main_arg6) = m ((c.tc : Thread Cert.OdOutIdeal.nD Cert.OdOutIdeal.τ).loc Cert.OdOutIdeal.main_arg6)
      ∧ r.2.mem ((c.tc : Thread Cert.OdOutIdeal.nD Cert.OdOutIdeal.τ).loc Cert.OdOutIdeal.main_arg7) = m ((c.tc : Thread Cert.OdOutIdeal.nD Cert.OdOutIdeal.τ).loc Cert.OdOutIdeal.main_arg7)
      ∧ r.2.mem ((c.tc : Thread Cert.OdOutIdeal.nD Cert.OdOutIdeal.τ).loc Cert.OdOutIdeal.main_arg8) = m ((c.tc : Thread Cert.OdOutIdeal.nD Cert.OdOutIdeal.τ).loc Cert.OdOutIdeal.main_arg8)
      ∧ r.2.mem ((c.tc : Thread Cert.OdOutIdeal.nD Cert.OdOutIdeal.τ).loc Cert.OdOutIdeal.main_arg9) = m ((c.tc : Thread Cert.OdOutIdeal.nD Cert.OdOutIdeal.τ).loc Cert.OdOutIdeal.main_arg9))
      ∧ r.2.sem = fun _ => 0)

def quiescent_OdOutRefIdeal [hOdOutRefIdeal : Cert.OdOutRefIdeal.Facts] : Prop :=
  ∀ (m : (ℓ : Loc Cert.OdOutRefIdeal.nD Cert.OdOutRefIdeal.τ Cert.OdOutRefIdeal.sig) → Buf (Elt Ideal) ℓ) (g : Dev Cert.OdOutRefIdeal.nD → PrngReg), Pre_OdOutRefIdeal m →
    θ_run (Cert.OdOutRefIdeal.defs (F := Ideal)) (onTc (τ := Cert.OdOutRefIdeal.τ) (Cert.OdOutRefIdeal.main (F := Ideal))) ⟨m, fun _ => 0, g⟩ (fun r => (∀ c : Dev Cert.OdOutRefIdeal.nD,
      r.2.mem ((c.tc : Thread Cert.OdOutRefIdeal.nD Cert.OdOutRefIdeal.τ).loc Cert.OdOutRefIdeal.main_arg0) = m ((c.tc : Thread Cert.OdOutRefIdeal.nD Cert.OdOutRefIdeal.τ).loc Cert.OdOutRefIdeal.main_arg0)
      ∧ r.2.mem ((c.tc : Thread Cert.OdOutRefIdeal.nD Cert.OdOutRefIdeal.τ).loc Cert.OdOutRefIdeal.main_arg1) = m ((c.tc : Thread Cert.OdOutRefIdeal.nD Cert.OdOutRefIdeal.τ).loc Cert.OdOutRefIdeal.main_arg1)
      ∧ r.2.mem ((c.tc : Thread Cert.OdOutRefIdeal.nD Cert.OdOutRefIdeal.τ).loc Cert.OdOutRefIdeal.main_arg2) = m ((c.tc : Thread Cert.OdOutRefIdeal.nD Cert.OdOutRefIdeal.τ).loc Cert.OdOutRefIdeal.main_arg2)
      ∧ r.2.mem ((c.tc : Thread Cert.OdOutRefIdeal.nD Cert.OdOutRefIdeal.τ).loc Cert.OdOutRefIdeal.main_arg3) = m ((c.tc : Thread Cert.OdOutRefIdeal.nD Cert.OdOutRefIdeal.τ).loc Cert.OdOutRefIdeal.main_arg3)
      ∧ r.2.mem ((c.tc : Thread Cert.OdOutRefIdeal.nD Cert.OdOutRefIdeal.τ).loc Cert.OdOutRefIdeal.main_arg4) = m ((c.tc : Thread Cert.OdOutRefIdeal.nD Cert.OdOutRefIdeal.τ).loc Cert.OdOutRefIdeal.main_arg4)
      ∧ r.2.mem ((c.tc : Thread Cert.OdOutRefIdeal.nD Cert.OdOutRefIdeal.τ).loc Cert.OdOutRefIdeal.main_arg5) = m ((c.tc : Thread Cert.OdOutRefIdeal.nD Cert.OdOutRefIdeal.τ).loc Cert.OdOutRefIdeal.main_arg5)
      ∧ r.2.mem ((c.tc : Thread Cert.OdOutRefIdeal.nD Cert.OdOutRefIdeal.τ).loc Cert.OdOutRefIdeal.main_arg6) = m ((c.tc : Thread Cert.OdOutRefIdeal.nD Cert.OdOutRefIdeal.τ).loc Cert.OdOutRefIdeal.main_arg6)
      ∧ r.2.mem ((c.tc : Thread Cert.OdOutRefIdeal.nD Cert.OdOutRefIdeal.τ).loc Cert.OdOutRefIdeal.main_arg7) = m ((c.tc : Thread Cert.OdOutRefIdeal.nD Cert.OdOutRefIdeal.τ).loc Cert.OdOutRefIdeal.main_arg7)
      ∧ r.2.mem ((c.tc : Thread Cert.OdOutRefIdeal.nD Cert.OdOutRefIdeal.τ).loc Cert.OdOutRefIdeal.main_arg8) = m ((c.tc : Thread Cert.OdOutRefIdeal.nD Cert.OdOutRefIdeal.τ).loc Cert.OdOutRefIdeal.main_arg8)
      ∧ r.2.mem ((c.tc : Thread Cert.OdOutRefIdeal.nD Cert.OdOutRefIdeal.τ).loc Cert.OdOutRefIdeal.main_arg9) = m ((c.tc : Thread Cert.OdOutRefIdeal.nD Cert.OdOutRefIdeal.τ).loc Cert.OdOutRefIdeal.main_arg9))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8)
      ∧ r.2.mem ((c.tc : Thread Cert.Loss.nD Cert.Loss.τ).loc Cert.Loss.main_arg9) = m ((c.tc : Thread Cert.Loss.nD Cert.Loss.τ).loc Cert.Loss.main_arg9)
      ∧ r.2.mem ((c.tc : Thread Cert.Loss.nD Cert.Loss.τ).loc Cert.Loss.main_arg10) = m ((c.tc : Thread Cert.Loss.nD Cert.Loss.τ).loc Cert.Loss.main_arg10))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
      ∧ r.2.mem ((c.tc : Thread Cert.LossIdeal.nD Cert.LossIdeal.τ).loc Cert.LossIdeal.main_arg10) = m ((c.tc : Thread Cert.LossIdeal.nD Cert.LossIdeal.τ).loc Cert.LossIdeal.main_arg10))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10))
      ∧ r.2.sem = fun _ => 0)

def quiescent_EvOut [hEvOut : Cert.EvOut.Facts] : Prop :=
  ∀ (m : (ℓ : Loc Cert.EvOut.nD Cert.EvOut.τ Cert.EvOut.sig) → Buf (Elt Bits) ℓ) (g : Dev Cert.EvOut.nD → PrngReg), Pre_EvOut m →
    θ_run (Cert.EvOut.defs (F := Bits)) (onTc (τ := Cert.EvOut.τ) (Cert.EvOut.main (F := Bits))) ⟨m, fun _ => 0, g⟩ (fun r => (∀ c : Dev Cert.EvOut.nD,
      r.2.mem ((c.tc : Thread Cert.EvOut.nD Cert.EvOut.τ).loc Cert.EvOut.main_arg0) = m ((c.tc : Thread Cert.EvOut.nD Cert.EvOut.τ).loc Cert.EvOut.main_arg0)
      ∧ r.2.mem ((c.tc : Thread Cert.EvOut.nD Cert.EvOut.τ).loc Cert.EvOut.main_arg1) = m ((c.tc : Thread Cert.EvOut.nD Cert.EvOut.τ).loc Cert.EvOut.main_arg1)
      ∧ r.2.mem ((c.tc : Thread Cert.EvOut.nD Cert.EvOut.τ).loc Cert.EvOut.main_arg2) = m ((c.tc : Thread Cert.EvOut.nD Cert.EvOut.τ).loc Cert.EvOut.main_arg2)
      ∧ r.2.mem ((c.tc : Thread Cert.EvOut.nD Cert.EvOut.τ).loc Cert.EvOut.main_arg3) = m ((c.tc : Thread Cert.EvOut.nD Cert.EvOut.τ).loc Cert.EvOut.main_arg3)
      ∧ r.2.mem ((c.tc : Thread Cert.EvOut.nD Cert.EvOut.τ).loc Cert.EvOut.main_arg4) = m ((c.tc : Thread Cert.EvOut.nD Cert.EvOut.τ).loc Cert.EvOut.main_arg4)
      ∧ r.2.mem ((c.tc : Thread Cert.EvOut.nD Cert.EvOut.τ).loc Cert.EvOut.main_arg5) = m ((c.tc : Thread Cert.EvOut.nD Cert.EvOut.τ).loc Cert.EvOut.main_arg5)
      ∧ r.2.mem ((c.tc : Thread Cert.EvOut.nD Cert.EvOut.τ).loc Cert.EvOut.main_arg6) = m ((c.tc : Thread Cert.EvOut.nD Cert.EvOut.τ).loc Cert.EvOut.main_arg6)
      ∧ r.2.mem ((c.tc : Thread Cert.EvOut.nD Cert.EvOut.τ).loc Cert.EvOut.main_arg7) = m ((c.tc : Thread Cert.EvOut.nD Cert.EvOut.τ).loc Cert.EvOut.main_arg7)
      ∧ r.2.mem ((c.tc : Thread Cert.EvOut.nD Cert.EvOut.τ).loc Cert.EvOut.main_arg8) = m ((c.tc : Thread Cert.EvOut.nD Cert.EvOut.τ).loc Cert.EvOut.main_arg8)
      ∧ r.2.mem ((c.tc : Thread Cert.EvOut.nD Cert.EvOut.τ).loc Cert.EvOut.main_arg9) = m ((c.tc : Thread Cert.EvOut.nD Cert.EvOut.τ).loc Cert.EvOut.main_arg9))
      ∧ r.2.sem = fun _ => 0)

def quiescent_EvOutIdeal [hEvOutIdeal : Cert.EvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg), Pre_EvOutIdeal m →
    θ_run (Cert.EvOutIdeal.defs (F := Ideal)) (onTc (τ := Cert.EvOutIdeal.τ) (Cert.EvOutIdeal.main (F := Ideal))) ⟨m, fun _ => 0, g⟩ (fun r => (∀ c : Dev Cert.EvOutIdeal.nD,
      r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
      ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
      ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
      ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3)
      ∧ r.2.mem ((c.tc : Thread Cert.EvOutIdeal.nD Cert.EvOutIdeal.τ).loc Cert.EvOutIdeal.main_arg4) = m ((c.tc : Thread Cert.EvOutIdeal.nD Cert.EvOutIdeal.τ).loc Cert.EvOutIdeal.main_arg4)
      ∧ r.2.mem ((c.tc : Thread Cert.EvOutIdeal.nD Cert.EvOutIdeal.τ).loc Cert.EvOutIdeal.main_arg5) = m ((c.tc : Thread Cert.EvOutIdeal.nD Cert.EvOutIdeal.τ).loc Cert.EvOutIdeal.main_arg5)
      ∧ r.2.mem ((c.tc : Thread Cert.EvOutIdeal.nD Cert.EvOutIdeal.τ).loc Cert.EvOutIdeal.main_arg6) = m ((c.tc : Thread Cert.EvOutIdeal.nD Cert.EvOutIdeal.τ).loc Cert.EvOutIdeal.main_arg6)
      ∧ r.2.mem ((c.tc : Thread Cert.EvOutIdeal.nD Cert.EvOutIdeal.τ).loc Cert.EvOutIdeal.main_arg7) = m ((c.tc : Thread Cert.EvOutIdeal.nD Cert.EvOutIdeal.τ).loc Cert.EvOutIdeal.main_arg7)
      ∧ r.2.mem ((c.tc : Thread Cert.EvOutIdeal.nD Cert.EvOutIdeal.τ).loc Cert.EvOutIdeal.main_arg8) = m ((c.tc : Thread Cert.EvOutIdeal.nD Cert.EvOutIdeal.τ).loc Cert.EvOutIdeal.main_arg8)
      ∧ r.2.mem ((c.tc : Thread Cert.EvOutIdeal.nD Cert.EvOutIdeal.τ).loc Cert.EvOutIdeal.main_arg9) = m ((c.tc : Thread Cert.EvOutIdeal.nD Cert.EvOutIdeal.τ).loc Cert.EvOutIdeal.main_arg9))
      ∧ r.2.sem = fun _ => 0)

def quiescent_EvOutRefIdeal [hEvOutRefIdeal : Cert.EvOutRefIdeal.Facts] : Prop :=
  ∀ (m : (ℓ : Loc Cert.EvOutRefIdeal.nD Cert.EvOutRefIdeal.τ Cert.EvOutRefIdeal.sig) → Buf (Elt Ideal) ℓ) (g : Dev Cert.EvOutRefIdeal.nD → PrngReg), Pre_EvOutRefIdeal m →
    θ_run (Cert.EvOutRefIdeal.defs (F := Ideal)) (onTc (τ := Cert.EvOutRefIdeal.τ) (Cert.EvOutRefIdeal.main (F := Ideal))) ⟨m, fun _ => 0, g⟩ (fun r => (∀ c : Dev Cert.EvOutRefIdeal.nD,
      r.2.mem ((c.tc : Thread Cert.EvOutRefIdeal.nD Cert.EvOutRefIdeal.τ).loc Cert.EvOutRefIdeal.main_arg0) = m ((c.tc : Thread Cert.EvOutRefIdeal.nD Cert.EvOutRefIdeal.τ).loc Cert.EvOutRefIdeal.main_arg0)
      ∧ r.2.mem ((c.tc : Thread Cert.EvOutRefIdeal.nD Cert.EvOutRefIdeal.τ).loc Cert.EvOutRefIdeal.main_arg1) = m ((c.tc : Thread Cert.EvOutRefIdeal.nD Cert.EvOutRefIdeal.τ).loc Cert.EvOutRefIdeal.main_arg1)
      ∧ r.2.mem ((c.tc : Thread Cert.EvOutRefIdeal.nD Cert.EvOutRefIdeal.τ).loc Cert.EvOutRefIdeal.main_arg2) = m ((c.tc : Thread Cert.EvOutRefIdeal.nD Cert.EvOutRefIdeal.τ).loc Cert.EvOutRefIdeal.main_arg2)
      ∧ r.2.mem ((c.tc : Thread Cert.EvOutRefIdeal.nD Cert.EvOutRefIdeal.τ).loc Cert.EvOutRefIdeal.main_arg3) = m ((c.tc : Thread Cert.EvOutRefIdeal.nD Cert.EvOutRefIdeal.τ).loc Cert.EvOutRefIdeal.main_arg3)
      ∧ r.2.mem ((c.tc : Thread Cert.EvOutRefIdeal.nD Cert.EvOutRefIdeal.τ).loc Cert.EvOutRefIdeal.main_arg4) = m ((c.tc : Thread Cert.EvOutRefIdeal.nD Cert.EvOutRefIdeal.τ).loc Cert.EvOutRefIdeal.main_arg4)
      ∧ r.2.mem ((c.tc : Thread Cert.EvOutRefIdeal.nD Cert.EvOutRefIdeal.τ).loc Cert.EvOutRefIdeal.main_arg5) = m ((c.tc : Thread Cert.EvOutRefIdeal.nD Cert.EvOutRefIdeal.τ).loc Cert.EvOutRefIdeal.main_arg5)
      ∧ r.2.mem ((c.tc : Thread Cert.EvOutRefIdeal.nD Cert.EvOutRefIdeal.τ).loc Cert.EvOutRefIdeal.main_arg6) = m ((c.tc : Thread Cert.EvOutRefIdeal.nD Cert.EvOutRefIdeal.τ).loc Cert.EvOutRefIdeal.main_arg6)
      ∧ r.2.mem ((c.tc : Thread Cert.EvOutRefIdeal.nD Cert.EvOutRefIdeal.τ).loc Cert.EvOutRefIdeal.main_arg7) = m ((c.tc : Thread Cert.EvOutRefIdeal.nD Cert.EvOutRefIdeal.τ).loc Cert.EvOutRefIdeal.main_arg7)
      ∧ r.2.mem ((c.tc : Thread Cert.EvOutRefIdeal.nD Cert.EvOutRefIdeal.τ).loc Cert.EvOutRefIdeal.main_arg8) = m ((c.tc : Thread Cert.EvOutRefIdeal.nD Cert.EvOutRefIdeal.τ).loc Cert.EvOutRefIdeal.main_arg8)
      ∧ r.2.mem ((c.tc : Thread Cert.EvOutRefIdeal.nD Cert.EvOutRefIdeal.τ).loc Cert.EvOutRefIdeal.main_arg9) = m ((c.tc : Thread Cert.EvOutRefIdeal.nD Cert.EvOutRefIdeal.τ).loc Cert.EvOutRefIdeal.main_arg9))
      ∧ r.2.sem = fun _ => 0)

def quiescent_EvFwd [hEvFwd : Cert.EvFwd.Facts] : Prop :=
  ∀ (m : (ℓ : Loc Cert.EvFwd.nD Cert.EvFwd.τ Cert.EvFwd.sig) → Buf (Elt Bits) ℓ) (g : Dev Cert.EvFwd.nD → PrngReg), Pre_EvFwd m →
    θ_run (Cert.EvFwd.defs (F := Bits)) (onTc (τ := Cert.EvFwd.τ) (Cert.EvFwd.main (F := Bits))) ⟨m, fun _ => 0, g⟩ (fun r => (∀ c : Dev Cert.EvFwd.nD,
      r.2.mem ((c.tc : Thread Cert.EvFwd.nD Cert.EvFwd.τ).loc Cert.EvFwd.main_arg0) = m ((c.tc : Thread Cert.EvFwd.nD Cert.EvFwd.τ).loc Cert.EvFwd.main_arg0)
      ∧ r.2.mem ((c.tc : Thread Cert.EvFwd.nD Cert.EvFwd.τ).loc Cert.EvFwd.main_arg1) = m ((c.tc : Thread Cert.EvFwd.nD Cert.EvFwd.τ).loc Cert.EvFwd.main_arg1)
      ∧ r.2.mem ((c.tc : Thread Cert.EvFwd.nD Cert.EvFwd.τ).loc Cert.EvFwd.main_arg2) = m ((c.tc : Thread Cert.EvFwd.nD Cert.EvFwd.τ).loc Cert.EvFwd.main_arg2)
      ∧ r.2.mem ((c.tc : Thread Cert.EvFwd.nD Cert.EvFwd.τ).loc Cert.EvFwd.main_arg3) = m ((c.tc : Thread Cert.EvFwd.nD Cert.EvFwd.τ).loc Cert.EvFwd.main_arg3)
      ∧ r.2.mem ((c.tc : Thread Cert.EvFwd.nD Cert.EvFwd.τ).loc Cert.EvFwd.main_arg4) = m ((c.tc : Thread Cert.EvFwd.nD Cert.EvFwd.τ).loc Cert.EvFwd.main_arg4)
      ∧ r.2.mem ((c.tc : Thread Cert.EvFwd.nD Cert.EvFwd.τ).loc Cert.EvFwd.main_arg5) = m ((c.tc : Thread Cert.EvFwd.nD Cert.EvFwd.τ).loc Cert.EvFwd.main_arg5)
      ∧ r.2.mem ((c.tc : Thread Cert.EvFwd.nD Cert.EvFwd.τ).loc Cert.EvFwd.main_arg6) = m ((c.tc : Thread Cert.EvFwd.nD Cert.EvFwd.τ).loc Cert.EvFwd.main_arg6)
      ∧ r.2.mem ((c.tc : Thread Cert.EvFwd.nD Cert.EvFwd.τ).loc Cert.EvFwd.main_arg7) = m ((c.tc : Thread Cert.EvFwd.nD Cert.EvFwd.τ).loc Cert.EvFwd.main_arg7)
      ∧ r.2.mem ((c.tc : Thread Cert.EvFwd.nD Cert.EvFwd.τ).loc Cert.EvFwd.main_arg8) = m ((c.tc : Thread Cert.EvFwd.nD Cert.EvFwd.τ).loc Cert.EvFwd.main_arg8)
      ∧ r.2.mem ((c.tc : Thread Cert.EvFwd.nD Cert.EvFwd.τ).loc Cert.EvFwd.main_arg9) = m ((c.tc : Thread Cert.EvFwd.nD Cert.EvFwd.τ).loc Cert.EvFwd.main_arg9))
      ∧ r.2.sem = fun _ => 0)

def quiescent_EvFwdIdeal [hEvFwdIdeal : Cert.EvFwdIdeal.Facts] : Prop :=
  ∀ (m : (ℓ : Loc Cert.EvFwdIdeal.nD Cert.EvFwdIdeal.τ Cert.EvFwdIdeal.sig) → Buf (Elt Ideal) ℓ) (g : Dev Cert.EvFwdIdeal.nD → PrngReg), Pre_EvFwdIdeal m →
    θ_run (Cert.EvFwdIdeal.defs (F := Ideal)) (onTc (τ := Cert.EvFwdIdeal.τ) (Cert.EvFwdIdeal.main (F := Ideal))) ⟨m, fun _ => 0, g⟩ (fun r => (∀ c : Dev Cert.EvFwdIdeal.nD,
      r.2.mem ((c.tc : Thread Cert.EvFwdIdeal.nD Cert.EvFwdIdeal.τ).loc Cert.EvFwdIdeal.main_arg0) = m ((c.tc : Thread Cert.EvFwdIdeal.nD Cert.EvFwdIdeal.τ).loc Cert.EvFwdIdeal.main_arg0)
      ∧ r.2.mem ((c.tc : Thread Cert.EvFwdIdeal.nD Cert.EvFwdIdeal.τ).loc Cert.EvFwdIdeal.main_arg1) = m ((c.tc : Thread Cert.EvFwdIdeal.nD Cert.EvFwdIdeal.τ).loc Cert.EvFwdIdeal.main_arg1)
      ∧ r.2.mem ((c.tc : Thread Cert.EvFwdIdeal.nD Cert.EvFwdIdeal.τ).loc Cert.EvFwdIdeal.main_arg2) = m ((c.tc : Thread Cert.EvFwdIdeal.nD Cert.EvFwdIdeal.τ).loc Cert.EvFwdIdeal.main_arg2)
      ∧ r.2.mem ((c.tc : Thread Cert.EvFwdIdeal.nD Cert.EvFwdIdeal.τ).loc Cert.EvFwdIdeal.main_arg3) = m ((c.tc : Thread Cert.EvFwdIdeal.nD Cert.EvFwdIdeal.τ).loc Cert.EvFwdIdeal.main_arg3)
      ∧ r.2.mem ((c.tc : Thread Cert.EvFwdIdeal.nD Cert.EvFwdIdeal.τ).loc Cert.EvFwdIdeal.main_arg4) = m ((c.tc : Thread Cert.EvFwdIdeal.nD Cert.EvFwdIdeal.τ).loc Cert.EvFwdIdeal.main_arg4)
      ∧ r.2.mem ((c.tc : Thread Cert.EvFwdIdeal.nD Cert.EvFwdIdeal.τ).loc Cert.EvFwdIdeal.main_arg5) = m ((c.tc : Thread Cert.EvFwdIdeal.nD Cert.EvFwdIdeal.τ).loc Cert.EvFwdIdeal.main_arg5)
      ∧ r.2.mem ((c.tc : Thread Cert.EvFwdIdeal.nD Cert.EvFwdIdeal.τ).loc Cert.EvFwdIdeal.main_arg6) = m ((c.tc : Thread Cert.EvFwdIdeal.nD Cert.EvFwdIdeal.τ).loc Cert.EvFwdIdeal.main_arg6)
      ∧ r.2.mem ((c.tc : Thread Cert.EvFwdIdeal.nD Cert.EvFwdIdeal.τ).loc Cert.EvFwdIdeal.main_arg7) = m ((c.tc : Thread Cert.EvFwdIdeal.nD Cert.EvFwdIdeal.τ).loc Cert.EvFwdIdeal.main_arg7)
      ∧ r.2.mem ((c.tc : Thread Cert.EvFwdIdeal.nD Cert.EvFwdIdeal.τ).loc Cert.EvFwdIdeal.main_arg8) = m ((c.tc : Thread Cert.EvFwdIdeal.nD Cert.EvFwdIdeal.τ).loc Cert.EvFwdIdeal.main_arg8)
      ∧ r.2.mem ((c.tc : Thread Cert.EvFwdIdeal.nD Cert.EvFwdIdeal.τ).loc Cert.EvFwdIdeal.main_arg9) = m ((c.tc : Thread Cert.EvFwdIdeal.nD Cert.EvFwdIdeal.τ).loc Cert.EvFwdIdeal.main_arg9))
      ∧ r.2.sem = fun _ => 0)

def quiescent_EvFwdRefIdeal [hEvFwdRefIdeal : Cert.EvFwdRefIdeal.Facts] : Prop :=
  ∀ (m : (ℓ : Loc Cert.EvFwdRefIdeal.nD Cert.EvFwdRefIdeal.τ Cert.EvFwdRefIdeal.sig) → Buf (Elt Ideal) ℓ) (g : Dev Cert.EvFwdRefIdeal.nD → PrngReg), Pre_EvFwdRefIdeal m →
    θ_run (Cert.EvFwdRefIdeal.defs (F := Ideal)) (onTc (τ := Cert.EvFwdRefIdeal.τ) (Cert.EvFwdRefIdeal.main (F := Ideal))) ⟨m, fun _ => 0, g⟩ (fun r => (∀ c : Dev Cert.EvFwdRefIdeal.nD,
      r.2.mem ((c.tc : Thread Cert.EvFwdRefIdeal.nD Cert.EvFwdRefIdeal.τ).loc Cert.EvFwdRefIdeal.main_arg0) = m ((c.tc : Thread Cert.EvFwdRefIdeal.nD Cert.EvFwdRefIdeal.τ).loc Cert.EvFwdRefIdeal.main_arg0)
      ∧ r.2.mem ((c.tc : Thread Cert.EvFwdRefIdeal.nD Cert.EvFwdRefIdeal.τ).loc Cert.EvFwdRefIdeal.main_arg1) = m ((c.tc : Thread Cert.EvFwdRefIdeal.nD Cert.EvFwdRefIdeal.τ).loc Cert.EvFwdRefIdeal.main_arg1)
      ∧ r.2.mem ((c.tc : Thread Cert.EvFwdRefIdeal.nD Cert.EvFwdRefIdeal.τ).loc Cert.EvFwdRefIdeal.main_arg2) = m ((c.tc : Thread Cert.EvFwdRefIdeal.nD Cert.EvFwdRefIdeal.τ).loc Cert.EvFwdRefIdeal.main_arg2)
      ∧ r.2.mem ((c.tc : Thread Cert.EvFwdRefIdeal.nD Cert.EvFwdRefIdeal.τ).loc Cert.EvFwdRefIdeal.main_arg3) = m ((c.tc : Thread Cert.EvFwdRefIdeal.nD Cert.EvFwdRefIdeal.τ).loc Cert.EvFwdRefIdeal.main_arg3)
      ∧ r.2.mem ((c.tc : Thread Cert.EvFwdRefIdeal.nD Cert.EvFwdRefIdeal.τ).loc Cert.EvFwdRefIdeal.main_arg4) = m ((c.tc : Thread Cert.EvFwdRefIdeal.nD Cert.EvFwdRefIdeal.τ).loc Cert.EvFwdRefIdeal.main_arg4)
      ∧ r.2.mem ((c.tc : Thread Cert.EvFwdRefIdeal.nD Cert.EvFwdRefIdeal.τ).loc Cert.EvFwdRefIdeal.main_arg5) = m ((c.tc : Thread Cert.EvFwdRefIdeal.nD Cert.EvFwdRefIdeal.τ).loc Cert.EvFwdRefIdeal.main_arg5)
      ∧ r.2.mem ((c.tc : Thread Cert.EvFwdRefIdeal.nD Cert.EvFwdRefIdeal.τ).loc Cert.EvFwdRefIdeal.main_arg6) = m ((c.tc : Thread Cert.EvFwdRefIdeal.nD Cert.EvFwdRefIdeal.τ).loc Cert.EvFwdRefIdeal.main_arg6)
      ∧ r.2.mem ((c.tc : Thread Cert.EvFwdRefIdeal.nD Cert.EvFwdRefIdeal.τ).loc Cert.EvFwdRefIdeal.main_arg7) = m ((c.tc : Thread Cert.EvFwdRefIdeal.nD Cert.EvFwdRefIdeal.τ).loc Cert.EvFwdRefIdeal.main_arg7)
      ∧ r.2.mem ((c.tc : Thread Cert.EvFwdRefIdeal.nD Cert.EvFwdRefIdeal.τ).loc Cert.EvFwdRefIdeal.main_arg8) = m ((c.tc : Thread Cert.EvFwdRefIdeal.nD Cert.EvFwdRefIdeal.τ).loc Cert.EvFwdRefIdeal.main_arg8)
      ∧ r.2.mem ((c.tc : Thread Cert.EvFwdRefIdeal.nD Cert.EvFwdRefIdeal.τ).loc Cert.EvFwdRefIdeal.main_arg9) = m ((c.tc : Thread Cert.EvFwdRefIdeal.nD Cert.EvFwdRefIdeal.τ).loc Cert.EvFwdRefIdeal.main_arg9))
      ∧ r.2.sem = fun _ => 0)

def quiescent_OdFwd [hOdFwd : Cert.OdFwd.Facts] : Prop :=
  ∀ (m : (ℓ : Loc Cert.OdFwd.nD Cert.OdFwd.τ Cert.OdFwd.sig) → Buf (Elt Bits) ℓ) (g : Dev Cert.OdFwd.nD → PrngReg), Pre_OdFwd m →
    θ_run (Cert.OdFwd.defs (F := Bits)) (onTc (τ := Cert.OdFwd.τ) (Cert.OdFwd.main (F := Bits))) ⟨m, fun _ => 0, g⟩ (fun r => (∀ c : Dev Cert.OdFwd.nD,
      r.2.mem ((c.tc : Thread Cert.OdFwd.nD Cert.OdFwd.τ).loc Cert.OdFwd.main_arg0) = m ((c.tc : Thread Cert.OdFwd.nD Cert.OdFwd.τ).loc Cert.OdFwd.main_arg0)
      ∧ r.2.mem ((c.tc : Thread Cert.OdFwd.nD Cert.OdFwd.τ).loc Cert.OdFwd.main_arg1) = m ((c.tc : Thread Cert.OdFwd.nD Cert.OdFwd.τ).loc Cert.OdFwd.main_arg1)
      ∧ r.2.mem ((c.tc : Thread Cert.OdFwd.nD Cert.OdFwd.τ).loc Cert.OdFwd.main_arg2) = m ((c.tc : Thread Cert.OdFwd.nD Cert.OdFwd.τ).loc Cert.OdFwd.main_arg2)
      ∧ r.2.mem ((c.tc : Thread Cert.OdFwd.nD Cert.OdFwd.τ).loc Cert.OdFwd.main_arg3) = m ((c.tc : Thread Cert.OdFwd.nD Cert.OdFwd.τ).loc Cert.OdFwd.main_arg3)
      ∧ r.2.mem ((c.tc : Thread Cert.OdFwd.nD Cert.OdFwd.τ).loc Cert.OdFwd.main_arg4) = m ((c.tc : Thread Cert.OdFwd.nD Cert.OdFwd.τ).loc Cert.OdFwd.main_arg4)
      ∧ r.2.mem ((c.tc : Thread Cert.OdFwd.nD Cert.OdFwd.τ).loc Cert.OdFwd.main_arg5) = m ((c.tc : Thread Cert.OdFwd.nD Cert.OdFwd.τ).loc Cert.OdFwd.main_arg5))
      ∧ r.2.sem = fun _ => 0)

def quiescent_OdFwdIdeal [hOdFwdIdeal : Cert.OdFwdIdeal.Facts] : Prop :=
  ∀ (m : (ℓ : Loc Cert.OdFwdIdeal.nD Cert.OdFwdIdeal.τ Cert.OdFwdIdeal.sig) → Buf (Elt Ideal) ℓ) (g : Dev Cert.OdFwdIdeal.nD → PrngReg), Pre_OdFwdIdeal m →
    θ_run (Cert.OdFwdIdeal.defs (F := Ideal)) (onTc (τ := Cert.OdFwdIdeal.τ) (Cert.OdFwdIdeal.main (F := Ideal))) ⟨m, fun _ => 0, g⟩ (fun r => (∀ c : Dev Cert.OdFwdIdeal.nD,
      r.2.mem ((c.tc : Thread Cert.OdFwdIdeal.nD Cert.OdFwdIdeal.τ).loc Cert.OdFwdIdeal.main_arg0) = m ((c.tc : Thread Cert.OdFwdIdeal.nD Cert.OdFwdIdeal.τ).loc Cert.OdFwdIdeal.main_arg0)
      ∧ r.2.mem ((c.tc : Thread Cert.OdFwdIdeal.nD Cert.OdFwdIdeal.τ).loc Cert.OdFwdIdeal.main_arg1) = m ((c.tc : Thread Cert.OdFwdIdeal.nD Cert.OdFwdIdeal.τ).loc Cert.OdFwdIdeal.main_arg1)
      ∧ r.2.mem ((c.tc : Thread Cert.OdFwdIdeal.nD Cert.OdFwdIdeal.τ).loc Cert.OdFwdIdeal.main_arg2) = m ((c.tc : Thread Cert.OdFwdIdeal.nD Cert.OdFwdIdeal.τ).loc Cert.OdFwdIdeal.main_arg2)
      ∧ r.2.mem ((c.tc : Thread Cert.OdFwdIdeal.nD Cert.OdFwdIdeal.τ).loc Cert.OdFwdIdeal.main_arg3) = m ((c.tc : Thread Cert.OdFwdIdeal.nD Cert.OdFwdIdeal.τ).loc Cert.OdFwdIdeal.main_arg3)
      ∧ r.2.mem ((c.tc : Thread Cert.OdFwdIdeal.nD Cert.OdFwdIdeal.τ).loc Cert.OdFwdIdeal.main_arg4) = m ((c.tc : Thread Cert.OdFwdIdeal.nD Cert.OdFwdIdeal.τ).loc Cert.OdFwdIdeal.main_arg4)
      ∧ r.2.mem ((c.tc : Thread Cert.OdFwdIdeal.nD Cert.OdFwdIdeal.τ).loc Cert.OdFwdIdeal.main_arg5) = m ((c.tc : Thread Cert.OdFwdIdeal.nD Cert.OdFwdIdeal.τ).loc Cert.OdFwdIdeal.main_arg5))
      ∧ r.2.sem = fun _ => 0)

def quiescent_OdFwdRefIdeal [hOdFwdRefIdeal : Cert.OdFwdRefIdeal.Facts] : Prop :=
  ∀ (m : (ℓ : Loc Cert.OdFwdRefIdeal.nD Cert.OdFwdRefIdeal.τ Cert.OdFwdRefIdeal.sig) → Buf (Elt Ideal) ℓ) (g : Dev Cert.OdFwdRefIdeal.nD → PrngReg), Pre_OdFwdRefIdeal m →
    θ_run (Cert.OdFwdRefIdeal.defs (F := Ideal)) (onTc (τ := Cert.OdFwdRefIdeal.τ) (Cert.OdFwdRefIdeal.main (F := Ideal))) ⟨m, fun _ => 0, g⟩ (fun r => (∀ c : Dev Cert.OdFwdRefIdeal.nD,
      r.2.mem ((c.tc : Thread Cert.OdFwdRefIdeal.nD Cert.OdFwdRefIdeal.τ).loc Cert.OdFwdRefIdeal.main_arg0) = m ((c.tc : Thread Cert.OdFwdRefIdeal.nD Cert.OdFwdRefIdeal.τ).loc Cert.OdFwdRefIdeal.main_arg0)
      ∧ r.2.mem ((c.tc : Thread Cert.OdFwdRefIdeal.nD Cert.OdFwdRefIdeal.τ).loc Cert.OdFwdRefIdeal.main_arg1) = m ((c.tc : Thread Cert.OdFwdRefIdeal.nD Cert.OdFwdRefIdeal.τ).loc Cert.OdFwdRefIdeal.main_arg1)
      ∧ r.2.mem ((c.tc : Thread Cert.OdFwdRefIdeal.nD Cert.OdFwdRefIdeal.τ).loc Cert.OdFwdRefIdeal.main_arg2) = m ((c.tc : Thread Cert.OdFwdRefIdeal.nD Cert.OdFwdRefIdeal.τ).loc Cert.OdFwdRefIdeal.main_arg2)
      ∧ r.2.mem ((c.tc : Thread Cert.OdFwdRefIdeal.nD Cert.OdFwdRefIdeal.τ).loc Cert.OdFwdRefIdeal.main_arg3) = m ((c.tc : Thread Cert.OdFwdRefIdeal.nD Cert.OdFwdRefIdeal.τ).loc Cert.OdFwdRefIdeal.main_arg3)
      ∧ r.2.mem ((c.tc : Thread Cert.OdFwdRefIdeal.nD Cert.OdFwdRefIdeal.τ).loc Cert.OdFwdRefIdeal.main_arg4) = m ((c.tc : Thread Cert.OdFwdRefIdeal.nD Cert.OdFwdRefIdeal.τ).loc Cert.OdFwdRefIdeal.main_arg4)
      ∧ r.2.mem ((c.tc : Thread Cert.OdFwdRefIdeal.nD Cert.OdFwdRefIdeal.τ).loc Cert.OdFwdRefIdeal.main_arg5) = m ((c.tc : Thread Cert.OdFwdRefIdeal.nD Cert.OdFwdRefIdeal.τ).loc Cert.OdFwdRefIdeal.main_arg5))
      ∧ r.2.sem = fun _ => 0)

def quiescent_EvPre [hEvPre : Cert.EvPre.Facts] : Prop :=
  ∀ (m : (ℓ : Loc Cert.EvPre.nD Cert.EvPre.τ Cert.EvPre.sig) → Buf (Elt Bits) ℓ) (g : Dev Cert.EvPre.nD → PrngReg), Pre_EvPre m →
    θ_run (Cert.EvPre.defs (F := Bits)) (onTc (τ := Cert.EvPre.τ) (Cert.EvPre.main (F := Bits))) ⟨m, fun _ => 0, g⟩ (fun r => (∀ c : Dev Cert.EvPre.nD,
      r.2.mem ((c.tc : Thread Cert.EvPre.nD Cert.EvPre.τ).loc Cert.EvPre.main_arg0) = m ((c.tc : Thread Cert.EvPre.nD Cert.EvPre.τ).loc Cert.EvPre.main_arg0)
      ∧ r.2.mem ((c.tc : Thread Cert.EvPre.nD Cert.EvPre.τ).loc Cert.EvPre.main_arg1) = m ((c.tc : Thread Cert.EvPre.nD Cert.EvPre.τ).loc Cert.EvPre.main_arg1)
      ∧ r.2.mem ((c.tc : Thread Cert.EvPre.nD Cert.EvPre.τ).loc Cert.EvPre.main_arg2) = m ((c.tc : Thread Cert.EvPre.nD Cert.EvPre.τ).loc Cert.EvPre.main_arg2)
      ∧ r.2.mem ((c.tc : Thread Cert.EvPre.nD Cert.EvPre.τ).loc Cert.EvPre.main_arg3) = m ((c.tc : Thread Cert.EvPre.nD Cert.EvPre.τ).loc Cert.EvPre.main_arg3)
      ∧ r.2.mem ((c.tc : Thread Cert.EvPre.nD Cert.EvPre.τ).loc Cert.EvPre.main_arg4) = m ((c.tc : Thread Cert.EvPre.nD Cert.EvPre.τ).loc Cert.EvPre.main_arg4))
      ∧ r.2.sem = fun _ => 0)

def quiescent_EvPreIdeal [hEvPreIdeal : Cert.EvPreIdeal.Facts] : Prop :=
  ∀ (m : (ℓ : Loc Cert.EvPreIdeal.nD Cert.EvPreIdeal.τ Cert.EvPreIdeal.sig) → Buf (Elt Ideal) ℓ) (g : Dev Cert.EvPreIdeal.nD → PrngReg), Pre_EvPreIdeal m →
    θ_run (Cert.EvPreIdeal.defs (F := Ideal)) (onTc (τ := Cert.EvPreIdeal.τ) (Cert.EvPreIdeal.main (F := Ideal))) ⟨m, fun _ => 0, g⟩ (fun r => (∀ c : Dev Cert.EvPreIdeal.nD,
      r.2.mem ((c.tc : Thread Cert.EvPreIdeal.nD Cert.EvPreIdeal.τ).loc Cert.EvPreIdeal.main_arg0) = m ((c.tc : Thread Cert.EvPreIdeal.nD Cert.EvPreIdeal.τ).loc Cert.EvPreIdeal.main_arg0)
      ∧ r.2.mem ((c.tc : Thread Cert.EvPreIdeal.nD Cert.EvPreIdeal.τ).loc Cert.EvPreIdeal.main_arg1) = m ((c.tc : Thread Cert.EvPreIdeal.nD Cert.EvPreIdeal.τ).loc Cert.EvPreIdeal.main_arg1)
      ∧ r.2.mem ((c.tc : Thread Cert.EvPreIdeal.nD Cert.EvPreIdeal.τ).loc Cert.EvPreIdeal.main_arg2) = m ((c.tc : Thread Cert.EvPreIdeal.nD Cert.EvPreIdeal.τ).loc Cert.EvPreIdeal.main_arg2)
      ∧ r.2.mem ((c.tc : Thread Cert.EvPreIdeal.nD Cert.EvPreIdeal.τ).loc Cert.EvPreIdeal.main_arg3) = m ((c.tc : Thread Cert.EvPreIdeal.nD Cert.EvPreIdeal.τ).loc Cert.EvPreIdeal.main_arg3)
      ∧ r.2.mem ((c.tc : Thread Cert.EvPreIdeal.nD Cert.EvPreIdeal.τ).loc Cert.EvPreIdeal.main_arg4) = m ((c.tc : Thread Cert.EvPreIdeal.nD Cert.EvPreIdeal.τ).loc Cert.EvPreIdeal.main_arg4))
      ∧ r.2.sem = fun _ => 0)

def quiescent_EvPreRefIdeal [hEvPreRefIdeal : Cert.EvPreRefIdeal.Facts] : Prop :=
  ∀ (m : (ℓ : Loc Cert.EvPreRefIdeal.nD Cert.EvPreRefIdeal.τ Cert.EvPreRefIdeal.sig) → Buf (Elt Ideal) ℓ) (g : Dev Cert.EvPreRefIdeal.nD → PrngReg), Pre_EvPreRefIdeal m →
    θ_run (Cert.EvPreRefIdeal.defs (F := Ideal)) (onTc (τ := Cert.EvPreRefIdeal.τ) (Cert.EvPreRefIdeal.main (F := Ideal))) ⟨m, fun _ => 0, g⟩ (fun r => (∀ c : Dev Cert.EvPreRefIdeal.nD,
      r.2.mem ((c.tc : Thread Cert.EvPreRefIdeal.nD Cert.EvPreRefIdeal.τ).loc Cert.EvPreRefIdeal.main_arg0) = m ((c.tc : Thread Cert.EvPreRefIdeal.nD Cert.EvPreRefIdeal.τ).loc Cert.EvPreRefIdeal.main_arg0)
      ∧ r.2.mem ((c.tc : Thread Cert.EvPreRefIdeal.nD Cert.EvPreRefIdeal.τ).loc Cert.EvPreRefIdeal.main_arg1) = m ((c.tc : Thread Cert.EvPreRefIdeal.nD Cert.EvPreRefIdeal.τ).loc Cert.EvPreRefIdeal.main_arg1)
      ∧ r.2.mem ((c.tc : Thread Cert.EvPreRefIdeal.nD Cert.EvPreRefIdeal.τ).loc Cert.EvPreRefIdeal.main_arg2) = m ((c.tc : Thread Cert.EvPreRefIdeal.nD Cert.EvPreRefIdeal.τ).loc Cert.EvPreRefIdeal.main_arg2)
      ∧ r.2.mem ((c.tc : Thread Cert.EvPreRefIdeal.nD Cert.EvPreRefIdeal.τ).loc Cert.EvPreRefIdeal.main_arg3) = m ((c.tc : Thread Cert.EvPreRefIdeal.nD Cert.EvPreRefIdeal.τ).loc Cert.EvPreRefIdeal.main_arg3)
      ∧ r.2.mem ((c.tc : Thread Cert.EvPreRefIdeal.nD Cert.EvPreRefIdeal.τ).loc Cert.EvPreRefIdeal.main_arg4) = m ((c.tc : Thread Cert.EvPreRefIdeal.nD Cert.EvPreRefIdeal.τ).loc Cert.EvPreRefIdeal.main_arg4))
      ∧ r.2.sem = fun _ => 0)

def quiescent_OdEnd [hOdEnd : Cert.OdEnd.Facts] : Prop :=
  ∀ (m : (ℓ : Loc Cert.OdEnd.nD Cert.OdEnd.τ Cert.OdEnd.sig) → Buf (Elt Bits) ℓ) (g : Dev Cert.OdEnd.nD → PrngReg), Pre_OdEnd m →
    θ_run (Cert.OdEnd.defs (F := Bits)) (onTc (τ := Cert.OdEnd.τ) (Cert.OdEnd.main (F := Bits))) ⟨m, fun _ => 0, g⟩ (fun r => (∀ c : Dev Cert.OdEnd.nD,
      r.2.mem ((c.tc : Thread Cert.OdEnd.nD Cert.OdEnd.τ).loc Cert.OdEnd.main_arg0) = m ((c.tc : Thread Cert.OdEnd.nD Cert.OdEnd.τ).loc Cert.OdEnd.main_arg0)
      ∧ r.2.mem ((c.tc : Thread Cert.OdEnd.nD Cert.OdEnd.τ).loc Cert.OdEnd.main_arg1) = m ((c.tc : Thread Cert.OdEnd.nD Cert.OdEnd.τ).loc Cert.OdEnd.main_arg1)
      ∧ r.2.mem ((c.tc : Thread Cert.OdEnd.nD Cert.OdEnd.τ).loc Cert.OdEnd.main_arg2) = m ((c.tc : Thread Cert.OdEnd.nD Cert.OdEnd.τ).loc Cert.OdEnd.main_arg2)
      ∧ r.2.mem ((c.tc : Thread Cert.OdEnd.nD Cert.OdEnd.τ).loc Cert.OdEnd.main_arg3) = m ((c.tc : Thread Cert.OdEnd.nD Cert.OdEnd.τ).loc Cert.OdEnd.main_arg3)
      ∧ r.2.mem ((c.tc : Thread Cert.OdEnd.nD Cert.OdEnd.τ).loc Cert.OdEnd.main_arg4) = m ((c.tc : Thread Cert.OdEnd.nD Cert.OdEnd.τ).loc Cert.OdEnd.main_arg4)
      ∧ r.2.mem ((c.tc : Thread Cert.OdEnd.nD Cert.OdEnd.τ).loc Cert.OdEnd.main_arg5) = m ((c.tc : Thread Cert.OdEnd.nD Cert.OdEnd.τ).loc Cert.OdEnd.main_arg5)
      ∧ r.2.mem ((c.tc : Thread Cert.OdEnd.nD Cert.OdEnd.τ).loc Cert.OdEnd.main_arg6) = m ((c.tc : Thread Cert.OdEnd.nD Cert.OdEnd.τ).loc Cert.OdEnd.main_arg6)
      ∧ r.2.mem ((c.tc : Thread Cert.OdEnd.nD Cert.OdEnd.τ).loc Cert.OdEnd.main_arg7) = m ((c.tc : Thread Cert.OdEnd.nD Cert.OdEnd.τ).loc Cert.OdEnd.main_arg7)
      ∧ r.2.mem ((c.tc : Thread Cert.OdEnd.nD Cert.OdEnd.τ).loc Cert.OdEnd.main_arg8) = m ((c.tc : Thread Cert.OdEnd.nD Cert.OdEnd.τ).loc Cert.OdEnd.main_arg8)
      ∧ r.2.mem ((c.tc : Thread Cert.OdEnd.nD Cert.OdEnd.τ).loc Cert.OdEnd.main_arg9) = m ((c.tc : Thread Cert.OdEnd.nD Cert.OdEnd.τ).loc Cert.OdEnd.main_arg9))
      ∧ r.2.sem = fun _ => 0)

def quiescent_OdEndIdeal [hOdEndIdeal : Cert.OdEndIdeal.Facts] : Prop :=
  ∀ (m : (ℓ : Loc Cert.OdEndIdeal.nD Cert.OdEndIdeal.τ Cert.OdEndIdeal.sig) → Buf (Elt Ideal) ℓ) (g : Dev Cert.OdEndIdeal.nD → PrngReg), Pre_OdEndIdeal m →
    θ_run (Cert.OdEndIdeal.defs (F := Ideal)) (onTc (τ := Cert.OdEndIdeal.τ) (Cert.OdEndIdeal.main (F := Ideal))) ⟨m, fun _ => 0, g⟩ (fun r => (∀ c : Dev Cert.OdEndIdeal.nD,
      r.2.mem ((c.tc : Thread Cert.OdEndIdeal.nD Cert.OdEndIdeal.τ).loc Cert.OdEndIdeal.main_arg0) = m ((c.tc : Thread Cert.OdEndIdeal.nD Cert.OdEndIdeal.τ).loc Cert.OdEndIdeal.main_arg0)
      ∧ r.2.mem ((c.tc : Thread Cert.OdEndIdeal.nD Cert.OdEndIdeal.τ).loc Cert.OdEndIdeal.main_arg1) = m ((c.tc : Thread Cert.OdEndIdeal.nD Cert.OdEndIdeal.τ).loc Cert.OdEndIdeal.main_arg1)
      ∧ r.2.mem ((c.tc : Thread Cert.OdEndIdeal.nD Cert.OdEndIdeal.τ).loc Cert.OdEndIdeal.main_arg2) = m ((c.tc : Thread Cert.OdEndIdeal.nD Cert.OdEndIdeal.τ).loc Cert.OdEndIdeal.main_arg2)
      ∧ r.2.mem ((c.tc : Thread Cert.OdEndIdeal.nD Cert.OdEndIdeal.τ).loc Cert.OdEndIdeal.main_arg3) = m ((c.tc : Thread Cert.OdEndIdeal.nD Cert.OdEndIdeal.τ).loc Cert.OdEndIdeal.main_arg3)
      ∧ r.2.mem ((c.tc : Thread Cert.OdEndIdeal.nD Cert.OdEndIdeal.τ).loc Cert.OdEndIdeal.main_arg4) = m ((c.tc : Thread Cert.OdEndIdeal.nD Cert.OdEndIdeal.τ).loc Cert.OdEndIdeal.main_arg4)
      ∧ r.2.mem ((c.tc : Thread Cert.OdEndIdeal.nD Cert.OdEndIdeal.τ).loc Cert.OdEndIdeal.main_arg5) = m ((c.tc : Thread Cert.OdEndIdeal.nD Cert.OdEndIdeal.τ).loc Cert.OdEndIdeal.main_arg5)
      ∧ r.2.mem ((c.tc : Thread Cert.OdEndIdeal.nD Cert.OdEndIdeal.τ).loc Cert.OdEndIdeal.main_arg6) = m ((c.tc : Thread Cert.OdEndIdeal.nD Cert.OdEndIdeal.τ).loc Cert.OdEndIdeal.main_arg6)
      ∧ r.2.mem ((c.tc : Thread Cert.OdEndIdeal.nD Cert.OdEndIdeal.τ).loc Cert.OdEndIdeal.main_arg7) = m ((c.tc : Thread Cert.OdEndIdeal.nD Cert.OdEndIdeal.τ).loc Cert.OdEndIdeal.main_arg7)
      ∧ r.2.mem ((c.tc : Thread Cert.OdEndIdeal.nD Cert.OdEndIdeal.τ).loc Cert.OdEndIdeal.main_arg8) = m ((c.tc : Thread Cert.OdEndIdeal.nD Cert.OdEndIdeal.τ).loc Cert.OdEndIdeal.main_arg8)
      ∧ r.2.mem ((c.tc : Thread Cert.OdEndIdeal.nD Cert.OdEndIdeal.τ).loc Cert.OdEndIdeal.main_arg9) = m ((c.tc : Thread Cert.OdEndIdeal.nD Cert.OdEndIdeal.τ).loc Cert.OdEndIdeal.main_arg9))
      ∧ r.2.sem = fun _ => 0)

def quiescent_OdEndRefIdeal [hOdEndRefIdeal : Cert.OdEndRefIdeal.Facts] : Prop :=
  ∀ (m : (ℓ : Loc Cert.OdEndRefIdeal.nD Cert.OdEndRefIdeal.τ Cert.OdEndRefIdeal.sig) → Buf (Elt Ideal) ℓ) (g : Dev Cert.OdEndRefIdeal.nD → PrngReg), Pre_OdEndRefIdeal m →
    θ_run (Cert.OdEndRefIdeal.defs (F := Ideal)) (onTc (τ := Cert.OdEndRefIdeal.τ) (Cert.OdEndRefIdeal.main (F := Ideal))) ⟨m, fun _ => 0, g⟩ (fun r => (∀ c : Dev Cert.OdEndRefIdeal.nD,
      r.2.mem ((c.tc : Thread Cert.OdEndRefIdeal.nD Cert.OdEndRefIdeal.τ).loc Cert.OdEndRefIdeal.main_arg0) = m ((c.tc : Thread Cert.OdEndRefIdeal.nD Cert.OdEndRefIdeal.τ).loc Cert.OdEndRefIdeal.main_arg0)
      ∧ r.2.mem ((c.tc : Thread Cert.OdEndRefIdeal.nD Cert.OdEndRefIdeal.τ).loc Cert.OdEndRefIdeal.main_arg1) = m ((c.tc : Thread Cert.OdEndRefIdeal.nD Cert.OdEndRefIdeal.τ).loc Cert.OdEndRefIdeal.main_arg1)
      ∧ r.2.mem ((c.tc : Thread Cert.OdEndRefIdeal.nD Cert.OdEndRefIdeal.τ).loc Cert.OdEndRefIdeal.main_arg2) = m ((c.tc : Thread Cert.OdEndRefIdeal.nD Cert.OdEndRefIdeal.τ).loc Cert.OdEndRefIdeal.main_arg2)
      ∧ r.2.mem ((c.tc : Thread Cert.OdEndRefIdeal.nD Cert.OdEndRefIdeal.τ).loc Cert.OdEndRefIdeal.main_arg3) = m ((c.tc : Thread Cert.OdEndRefIdeal.nD Cert.OdEndRefIdeal.τ).loc Cert.OdEndRefIdeal.main_arg3)
      ∧ r.2.mem ((c.tc : Thread Cert.OdEndRefIdeal.nD Cert.OdEndRefIdeal.τ).loc Cert.OdEndRefIdeal.main_arg4) = m ((c.tc : Thread Cert.OdEndRefIdeal.nD Cert.OdEndRefIdeal.τ).loc Cert.OdEndRefIdeal.main_arg4)
      ∧ r.2.mem ((c.tc : Thread Cert.OdEndRefIdeal.nD Cert.OdEndRefIdeal.τ).loc Cert.OdEndRefIdeal.main_arg5) = m ((c.tc : Thread Cert.OdEndRefIdeal.nD Cert.OdEndRefIdeal.τ).loc Cert.OdEndRefIdeal.main_arg5)
      ∧ r.2.mem ((c.tc : Thread Cert.OdEndRefIdeal.nD Cert.OdEndRefIdeal.τ).loc Cert.OdEndRefIdeal.main_arg6) = m ((c.tc : Thread Cert.OdEndRefIdeal.nD Cert.OdEndRefIdeal.τ).loc Cert.OdEndRefIdeal.main_arg6)
      ∧ r.2.mem ((c.tc : Thread Cert.OdEndRefIdeal.nD Cert.OdEndRefIdeal.τ).loc Cert.OdEndRefIdeal.main_arg7) = m ((c.tc : Thread Cert.OdEndRefIdeal.nD Cert.OdEndRefIdeal.τ).loc Cert.OdEndRefIdeal.main_arg7)
      ∧ r.2.mem ((c.tc : Thread Cert.OdEndRefIdeal.nD Cert.OdEndRefIdeal.τ).loc Cert.OdEndRefIdeal.main_arg8) = m ((c.tc : Thread Cert.OdEndRefIdeal.nD Cert.OdEndRefIdeal.τ).loc Cert.OdEndRefIdeal.main_arg8)
      ∧ r.2.mem ((c.tc : Thread Cert.OdEndRefIdeal.nD Cert.OdEndRefIdeal.τ).loc Cert.OdEndRefIdeal.main_arg9) = m ((c.tc : Thread Cert.OdEndRefIdeal.nD Cert.OdEndRefIdeal.τ).loc Cert.OdEndRefIdeal.main_arg9))
      ∧ r.2.sem = fun _ => 0)

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)
      ∧ m' ((c.tc : Thread Cert.DuRefIdeal.nD Cert.DuRefIdeal.τ).loc Cert.DuRefIdeal.main_arg3) = m ((c.tc : Thread Cert.DuIdeal.nD Cert.DuIdeal.τ).loc Cert.DuIdeal.main_arg3)) →
    ∃ (v0 : (c : Dev Cert.DuIdeal.nD) → Buf (Elt Ideal) ((c.tc : Thread Cert.DuIdeal.nD Cert.DuIdeal.τ).loc Cert.DuIdeal.main_v4)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v4) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
          ∧ r.2.mem ((c.tc : Thread Cert.DuIdeal.nD Cert.DuIdeal.τ).loc Cert.DuIdeal.main_arg3) = m ((c.tc : Thread Cert.DuIdeal.nD Cert.DuIdeal.τ).loc Cert.DuIdeal.main_arg3))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v39) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2)
          ∧ r.2.mem ((c.tc : Thread Cert.DuRefIdeal.nD Cert.DuRefIdeal.τ).loc Cert.DuRefIdeal.main_arg3) = m' ((c.tc : Thread Cert.DuRefIdeal.nD Cert.DuRefIdeal.τ).loc Cert.DuRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v42) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3))

def preserves_AttBwd_AttBwdIdeal : Prop :=
  True

def algebraic_AttBwdIdeal_AttBwdRefIdeal_pre_finite [hAttBwdIdeal : Cert.AttBwdIdeal.Facts] [hAttBwdRefIdeal : Cert.AttBwdRefIdeal.Facts] [hPre_finite : Cert.Pre_finite.Facts] : Prop :=
  ∀ (m : (ℓ : Loc Cert.AttBwdIdeal.nD Cert.AttBwdIdeal.τ Cert.AttBwdIdeal.sig) → Buf (Elt Ideal) ℓ) (g : Dev Cert.AttBwdIdeal.nD → PrngReg)
    (m' : (ℓ : Loc Cert.AttBwdRefIdeal.nD Cert.AttBwdRefIdeal.τ Cert.AttBwdRefIdeal.sig) → Buf (Elt Ideal) ℓ) (g' : Dev Cert.AttBwdRefIdeal.nD → PrngReg), Pre_AttBwdIdeal_finite m →
    (∀ c : Dev Cert.AttBwdIdeal.nD,
      m' ((c.tc : Thread Cert.AttBwdRefIdeal.nD Cert.AttBwdRefIdeal.τ).loc Cert.AttBwdRefIdeal.main_arg0) = m ((c.tc : Thread Cert.AttBwdIdeal.nD Cert.AttBwdIdeal.τ).loc Cert.AttBwdIdeal.main_arg0)
      ∧ m' ((c.tc : Thread Cert.AttBwdRefIdeal.nD Cert.AttBwdRefIdeal.τ).loc Cert.AttBwdRefIdeal.main_arg1) = m ((c.tc : Thread Cert.AttBwdIdeal.nD Cert.AttBwdIdeal.τ).loc Cert.AttBwdIdeal.main_arg1)
      ∧ m' ((c.tc : Thread Cert.AttBwdRefIdeal.nD Cert.AttBwdRefIdeal.τ).loc Cert.AttBwdRefIdeal.main_arg2) = m ((c.tc : Thread Cert.AttBwdIdeal.nD Cert.AttBwdIdeal.τ).loc Cert.AttBwdIdeal.main_arg2)
      ∧ m' ((c.tc : Thread Cert.AttBwdRefIdeal.nD Cert.AttBwdRefIdeal.τ).loc Cert.AttBwdRefIdeal.main_arg3) = m ((c.tc : Thread Cert.AttBwdIdeal.nD Cert.AttBwdIdeal.τ).loc Cert.AttBwdIdeal.main_arg3)) →
    ∃ (v0 : (c : Dev Cert.AttBwdIdeal.nD) → Buf (Elt Ideal) ((c.tc : Thread Cert.AttBwdIdeal.nD Cert.AttBwdIdeal.τ).loc Cert.AttBwdIdeal.main_v42)) (v1 : (c : Dev Cert.AttBwdIdeal.nD) → Buf (Elt Ideal) ((c.tc : Thread Cert.AttBwdIdeal.nD Cert.AttBwdIdeal.τ).loc Cert.AttBwdIdeal.main_v47)) (v2 : (c : Dev Cert.AttBwdIdeal.nD) → Buf (Elt Ideal) ((c.tc : Thread Cert.AttBwdIdeal.nD Cert.AttBwdIdeal.τ).loc Cert.AttBwdIdeal.main_v48)),
      θ_run (Cert.AttBwdIdeal.defs (F := Ideal)) (onTc (τ := Cert.AttBwdIdeal.τ) (Cert.AttBwdIdeal.main (F := Ideal))) ⟨m, fun _ => 0, g⟩ (fun r => ∀ c : Dev Cert.AttBwdIdeal.nD,
          r.2.mem ((c.tc : Thread Cert.AttBwdIdeal.nD Cert.AttBwdIdeal.τ).loc Cert.AttBwdIdeal.main_v42) = v0 c
          ∧ r.2.mem ((c.tc : Thread Cert.AttBwdIdeal.nD Cert.AttBwdIdeal.τ).loc Cert.AttBwdIdeal.main_v47) = v1 c
          ∧ r.2.mem ((c.tc : Thread Cert.AttBwdIdeal.nD Cert.AttBwdIdeal.τ).loc Cert.AttBwdIdeal.main_v48) = v2 c
          ∧ r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
          ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
          ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
          ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3))
      ∧ θ_run (Cert.AttBwdRefIdeal.defs (F := Ideal)) (onTc (τ := Cert.AttBwdRefIdeal.τ) (Cert.AttBwdRefIdeal.main (F := Ideal))) ⟨m', fun _ => 0, g'⟩ (fun r => ∀ c : Dev Cert.AttBwdRefIdeal.nD,
          r.2.mem ((c.tc : Thread Cert.AttBwdRefIdeal.nD Cert.AttBwdRefIdeal.τ).loc Cert.AttBwdRefIdeal.main_v54) = v0 c
          ∧ r.2.mem ((c.tc : Thread Cert.AttBwdRefIdeal.nD Cert.AttBwdRefIdeal.τ).loc Cert.AttBwdRefIdeal.main_v52) = v1 c
          ∧ r.2.mem ((c.tc : Thread Cert.AttBwdRefIdeal.nD Cert.AttBwdRefIdeal.τ).loc Cert.AttBwdRefIdeal.main_v36) = v2 c
          ∧ r.2.mem ((c.tc : Thread Cert.AttBwdRefIdeal.nD Cert.AttBwdRefIdeal.τ).loc Cert.AttBwdRefIdeal.main_arg0) = m' ((c.tc : Thread Cert.AttBwdRefIdeal.nD Cert.AttBwdRefIdeal.τ).loc Cert.AttBwdRefIdeal.main_arg0)
          ∧ r.2.mem ((c.tc : Thread Cert.AttBwdRefIdeal.nD Cert.AttBwdRefIdeal.τ).loc Cert.AttBwdRefIdeal.main_arg1) = m' ((c.tc : Thread Cert.AttBwdRefIdeal.nD Cert.AttBwdRefIdeal.τ).loc Cert.AttBwdRefIdeal.main_arg1)
          ∧ r.2.mem ((c.tc : Thread Cert.AttBwdRefIdeal.nD Cert.AttBwdRefIdeal.τ).loc Cert.AttBwdRefIdeal.main_arg2) = m' ((c.tc : Thread Cert.AttBwdRefIdeal.nD Cert.AttBwdRefIdeal.τ).loc Cert.AttBwdRefIdeal.main_arg2)
          ∧ r.2.mem ((c.tc : Thread Cert.AttBwdRefIdeal.nD Cert.AttBwdRefIdeal.τ).loc Cert.AttBwdRefIdeal.main_arg3) = m' ((c.tc : Thread Cert.AttBwdRefIdeal.nD Cert.AttBwdRefIdeal.τ).loc Cert.AttBwdRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)) →
    ∃ (v0 : (c : Dev Cert.MidIdeal.nD) → Buf (Elt Ideal) ((c.tc : Thread Cert.MidIdeal.nD Cert.MidIdeal.τ).loc Cert.MidIdeal.main_v22)) (v1 : (c : Dev Cert.MidIdeal.nD) → Buf (Elt Ideal) ((c.tc : Thread Cert.MidIdeal.nD Cert.MidIdeal.τ).loc Cert.MidIdeal.main_v23)) (v2 : (c : Dev Cert.MidIdeal.nD) → Buf (Elt Ideal) ((c.tc : Thread Cert.MidIdeal.nD Cert.MidIdeal.τ).loc Cert.MidIdeal.main_v18_2)) (v3 : (c : Dev Cert.MidIdeal.nD) → Buf (Elt Ideal) ((c.tc : Thread Cert.MidIdeal.nD Cert.MidIdeal.τ).loc Cert.MidIdeal.main_v18_3)) (v4 : (c : Dev Cert.MidIdeal.nD) → Buf (Elt Ideal) ((c.tc : Thread Cert.MidIdeal.nD Cert.MidIdeal.τ).loc Cert.MidIdeal.main_v24)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v22) = v0 c
          ∧ r.2.mem ((c.tc : Thread Cert.MidIdeal.nD Cert.MidIdeal.τ).loc Cert.MidIdeal.main_v23) = v1 c
          ∧ r.2.mem ((c.tc : Thread Cert.MidIdeal.nD Cert.MidIdeal.τ).loc Cert.MidIdeal.main_v18_2) = v2 c
          ∧ r.2.mem ((c.tc : Thread Cert.MidIdeal.nD Cert.MidIdeal.τ).loc Cert.MidIdeal.main_v18_3) = v3 c
          ∧ r.2.mem ((c.tc : Thread Cert.MidIdeal.nD Cert.MidIdeal.τ).loc Cert.MidIdeal.main_v24) = v4 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v66) = v0 c
          ∧ r.2.mem ((c.tc : Thread Cert.MidRefIdeal.nD Cert.MidRefIdeal.τ).loc Cert.MidRefIdeal.main_v44) = v1 c
          ∧ r.2.mem ((c.tc : Thread Cert.MidRefIdeal.nD Cert.MidRefIdeal.τ).loc Cert.MidRefIdeal.main_v67) = v2 c
          ∧ r.2.mem ((c.tc : Thread Cert.MidRefIdeal.nD Cert.MidRefIdeal.τ).loc Cert.MidRefIdeal.main_v68) = v3 c
          ∧ r.2.mem ((c.tc : Thread Cert.MidRefIdeal.nD Cert.MidRefIdeal.τ).loc Cert.MidRefIdeal.main_v40) = v4 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)
      ∧ m' ((c.tc : Thread Cert.OdInRefIdeal.nD Cert.OdInRefIdeal.τ).loc Cert.OdInRefIdeal.main_arg2) = m ((c.tc : Thread Cert.OdInIdeal.nD Cert.OdInIdeal.τ).loc Cert.OdInIdeal.main_arg2)
      ∧ m' ((c.tc : Thread Cert.OdInRefIdeal.nD Cert.OdInRefIdeal.τ).loc Cert.OdInRefIdeal.main_arg3) = m ((c.tc : Thread Cert.OdInIdeal.nD Cert.OdInIdeal.τ).loc Cert.OdInIdeal.main_arg3)
      ∧ m' ((c.tc : Thread Cert.OdInRefIdeal.nD Cert.OdInRefIdeal.τ).loc Cert.OdInRefIdeal.main_arg4) = m ((c.tc : Thread Cert.OdInIdeal.nD Cert.OdInIdeal.τ).loc Cert.OdInIdeal.main_arg4)
      ∧ m' ((c.tc : Thread Cert.OdInRefIdeal.nD Cert.OdInRefIdeal.τ).loc Cert.OdInRefIdeal.main_arg5) = m ((c.tc : Thread Cert.OdInIdeal.nD Cert.OdInIdeal.τ).loc Cert.OdInIdeal.main_arg5)
      ∧ m' ((c.tc : Thread Cert.OdInRefIdeal.nD Cert.OdInRefIdeal.τ).loc Cert.OdInRefIdeal.main_arg6) = m ((c.tc : Thread Cert.OdInIdeal.nD Cert.OdInIdeal.τ).loc Cert.OdInIdeal.main_arg6)
      ∧ m' ((c.tc : Thread Cert.OdInRefIdeal.nD Cert.OdInRefIdeal.τ).loc Cert.OdInRefIdeal.main_arg7) = m ((c.tc : Thread Cert.OdInIdeal.nD Cert.OdInIdeal.τ).loc Cert.OdInIdeal.main_arg7)
      ∧ m' ((c.tc : Thread Cert.OdInRefIdeal.nD Cert.OdInRefIdeal.τ).loc Cert.OdInRefIdeal.main_arg8) = m ((c.tc : Thread Cert.OdInIdeal.nD Cert.OdInIdeal.τ).loc Cert.OdInIdeal.main_arg8)) →
    ∃ (v0 : (c : Dev Cert.OdInIdeal.nD) → Buf (Elt Ideal) ((c.tc : Thread Cert.OdInIdeal.nD Cert.OdInIdeal.τ).loc Cert.OdInIdeal.main_v5)) (v1 : (c : Dev Cert.OdInIdeal.nD) → Buf (Elt Ideal) ((c.tc : Thread Cert.OdInIdeal.nD Cert.OdInIdeal.τ).loc Cert.OdInIdeal.main_v4_1)) (v2 : (c : Dev Cert.OdInIdeal.nD) → Buf (Elt Ideal) ((c.tc : Thread Cert.OdInIdeal.nD Cert.OdInIdeal.τ).loc Cert.OdInIdeal.main_v4_2)) (v3 : (c : Dev Cert.OdInIdeal.nD) → Buf (Elt Ideal) ((c.tc : Thread Cert.OdInIdeal.nD Cert.OdInIdeal.τ).loc Cert.OdInIdeal.main_v4_3)) (v4 : (c : Dev Cert.OdInIdeal.nD) → Buf (Elt Ideal) ((c.tc : Thread Cert.OdInIdeal.nD Cert.OdInIdeal.τ).loc Cert.OdInIdeal.main_v4_4)) (v5 : (c : Dev Cert.OdInIdeal.nD) → Buf (Elt Ideal) ((c.tc : Thread Cert.OdInIdeal.nD Cert.OdInIdeal.τ).loc Cert.OdInIdeal.main_v4_5)) (v6 : (c : Dev Cert.OdInIdeal.nD) → Buf (Elt Ideal) ((c.tc : Thread Cert.OdInIdeal.nD Cert.OdInIdeal.τ).loc Cert.OdInIdeal.main_v4_6)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v5) = v0 c
          ∧ r.2.mem ((c.tc : Thread Cert.OdInIdeal.nD Cert.OdInIdeal.τ).loc Cert.OdInIdeal.main_v4_1) = v1 c
          ∧ r.2.mem ((c.tc : Thread Cert.OdInIdeal.nD Cert.OdInIdeal.τ).loc Cert.OdInIdeal.main_v4_2) = v2 c
          ∧ r.2.mem ((c.tc : Thread Cert.OdInIdeal.nD Cert.OdInIdeal.τ).loc Cert.OdInIdeal.main_v4_3) = v3 c
          ∧ r.2.mem ((c.tc : Thread Cert.OdInIdeal.nD Cert.OdInIdeal.τ).loc Cert.OdInIdeal.main_v4_4) = v4 c
          ∧ r.2.mem ((c.tc : Thread Cert.OdInIdeal.nD Cert.OdInIdeal.τ).loc Cert.OdInIdeal.main_v4_5) = v5 c
          ∧ r.2.mem ((c.tc : Thread Cert.OdInIdeal.nD Cert.OdInIdeal.τ).loc Cert.OdInIdeal.main_v4_6) = v6 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1)
          ∧ r.2.mem ((c.tc : Thread Cert.OdInIdeal.nD Cert.OdInIdeal.τ).loc Cert.OdInIdeal.main_arg2) = m ((c.tc : Thread Cert.OdInIdeal.nD Cert.OdInIdeal.τ).loc Cert.OdInIdeal.main_arg2)
          ∧ r.2.mem ((c.tc : Thread Cert.OdInIdeal.nD Cert.OdInIdeal.τ).loc Cert.OdInIdeal.main_arg3) = m ((c.tc : Thread Cert.OdInIdeal.nD Cert.OdInIdeal.τ).loc Cert.OdInIdeal.main_arg3)
          ∧ r.2.mem ((c.tc : Thread Cert.OdInIdeal.nD Cert.OdInIdeal.τ).loc Cert.OdInIdeal.main_arg4) = m ((c.tc : Thread Cert.OdInIdeal.nD Cert.OdInIdeal.τ).loc Cert.OdInIdeal.main_arg4)
          ∧ r.2.mem ((c.tc : Thread Cert.OdInIdeal.nD Cert.OdInIdeal.τ).loc Cert.OdInIdeal.main_arg5) = m ((c.tc : Thread Cert.OdInIdeal.nD Cert.OdInIdeal.τ).loc Cert.OdInIdeal.main_arg5)
          ∧ r.2.mem ((c.tc : Thread Cert.OdInIdeal.nD Cert.OdInIdeal.τ).loc Cert.OdInIdeal.main_arg6) = m ((c.tc : Thread Cert.OdInIdeal.nD Cert.OdInIdeal.τ).loc Cert.OdInIdeal.main_arg6)
          ∧ r.2.mem ((c.tc : Thread Cert.OdInIdeal.nD Cert.OdInIdeal.τ).loc Cert.OdInIdeal.main_arg7) = m ((c.tc : Thread Cert.OdInIdeal.nD Cert.OdInIdeal.τ).loc Cert.OdInIdeal.main_arg7)
          ∧ r.2.mem ((c.tc : Thread Cert.OdInIdeal.nD Cert.OdInIdeal.τ).loc Cert.OdInIdeal.main_arg8) = m ((c.tc : Thread Cert.OdInIdeal.nD Cert.OdInIdeal.τ).loc Cert.OdInIdeal.main_arg8))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v52) = v0 c
          ∧ r.2.mem ((c.tc : Thread Cert.OdInRefIdeal.nD Cert.OdInRefIdeal.τ).loc Cert.OdInRefIdeal.main_v85) = v1 c
          ∧ r.2.mem ((c.tc : Thread Cert.OdInRefIdeal.nD Cert.OdInRefIdeal.τ).loc Cert.OdInRefIdeal.main_v55) = v2 c
          ∧ r.2.mem ((c.tc : Thread Cert.OdInRefIdeal.nD Cert.OdInRefIdeal.τ).loc Cert.OdInRefIdeal.main_v56) = v3 c
          ∧ r.2.mem ((c.tc : Thread Cert.OdInRefIdeal.nD Cert.OdInRefIdeal.τ).loc Cert.OdInRefIdeal.main_v68) = v4 c
          ∧ r.2.mem ((c.tc : Thread Cert.OdInRefIdeal.nD Cert.OdInRefIdeal.τ).loc Cert.OdInRefIdeal.main_v63) = v5 c
          ∧ r.2.mem ((c.tc : Thread Cert.OdInRefIdeal.nD Cert.OdInRefIdeal.τ).loc Cert.OdInRefIdeal.main_v60) = v6 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1)
          ∧ r.2.mem ((c.tc : Thread Cert.OdInRefIdeal.nD Cert.OdInRefIdeal.τ).loc Cert.OdInRefIdeal.main_arg2) = m' ((c.tc : Thread Cert.OdInRefIdeal.nD Cert.OdInRefIdeal.τ).loc Cert.OdInRefIdeal.main_arg2)
          ∧ r.2.mem ((c.tc : Thread Cert.OdInRefIdeal.nD Cert.OdInRefIdeal.τ).loc Cert.OdInRefIdeal.main_arg3) = m' ((c.tc : Thread Cert.OdInRefIdeal.nD Cert.OdInRefIdeal.τ).loc Cert.OdInRefIdeal.main_arg3)
          ∧ r.2.mem ((c.tc : Thread Cert.OdInRefIdeal.nD Cert.OdInRefIdeal.τ).loc Cert.OdInRefIdeal.main_arg4) = m' ((c.tc : Thread Cert.OdInRefIdeal.nD Cert.OdInRefIdeal.τ).loc Cert.OdInRefIdeal.main_arg4)
          ∧ r.2.mem ((c.tc : Thread Cert.OdInRefIdeal.nD Cert.OdInRefIdeal.τ).loc Cert.OdInRefIdeal.main_arg5) = m' ((c.tc : Thread Cert.OdInRefIdeal.nD Cert.OdInRefIdeal.τ).loc Cert.OdInRefIdeal.main_arg5)
          ∧ r.2.mem ((c.tc : Thread Cert.OdInRefIdeal.nD Cert.OdInRefIdeal.τ).loc Cert.OdInRefIdeal.main_arg6) = m' ((c.tc : Thread Cert.OdInRefIdeal.nD Cert.OdInRefIdeal.τ).loc Cert.OdInRefIdeal.main_arg6)
          ∧ r.2.mem ((c.tc : Thread Cert.OdInRefIdeal.nD Cert.OdInRefIdeal.τ).loc Cert.OdInRefIdeal.main_arg7) = m' ((c.tc : Thread Cert.OdInRefIdeal.nD Cert.OdInRefIdeal.τ).loc Cert.OdInRefIdeal.main_arg7)
          ∧ r.2.mem ((c.tc : Thread Cert.OdInRefIdeal.nD Cert.OdInRefIdeal.τ).loc Cert.OdInRefIdeal.main_arg8) = m' ((c.tc : Thread Cert.OdInRefIdeal.nD Cert.OdInRefIdeal.τ).loc Cert.OdInRefIdeal.main_arg8))

def preserves_AttFwd_AttFwdIdeal : Prop :=
  IdealRules.named_const.Statement Cert.AttFwdIdeal.κ "INV_LN2" .f32 0x3FB8AA3B#32 (((Real.log 2)⁻¹ : ℝ) : EReal)

def algebraic_AttFwdIdeal_AttFwdRefIdeal_pre_finite_qkv [hAttFwdIdeal : Cert.AttFwdIdeal.Facts] [hAttFwdRefIdeal : Cert.AttFwdRefIdeal.Facts] [hPre_finite_qkv : Cert.Pre_finite_qkv.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_finite_qkv m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)
      ∧ m' ((c.tc : Thread Cert.AttFwdRefIdeal.nD Cert.AttFwdRefIdeal.τ).loc Cert.AttFwdRefIdeal.main_arg2) = m ((c.tc : Thread Cert.AttFwdIdeal.nD Cert.AttFwdIdeal.τ).loc Cert.AttFwdIdeal.main_arg2)) →
    ∃ (v0 : (c : Dev Cert.AttFwdIdeal.nD) → Buf (Elt Ideal) ((c.tc : Thread Cert.AttFwdIdeal.nD Cert.AttFwdIdeal.τ).loc Cert.AttFwdIdeal.main_v14)) (v1 : (c : Dev Cert.AttFwdIdeal.nD) → Buf (Elt Ideal) ((c.tc : Thread Cert.AttFwdIdeal.nD Cert.AttFwdIdeal.τ).loc Cert.AttFwdIdeal.main_v15)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v14) = v0 c
          ∧ r.2.mem ((c.tc : Thread Cert.AttFwdIdeal.nD Cert.AttFwdIdeal.τ).loc Cert.AttFwdIdeal.main_v15) = v1 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v18) = v0 c
          ∧ r.2.mem ((c.tc : Thread Cert.AttFwdRefIdeal.nD Cert.AttFwdRefIdeal.τ).loc Cert.AttFwdRefIdeal.main_v24) = v1 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1)
          ∧ r.2.mem ((c.tc : Thread Cert.AttFwdRefIdeal.nD Cert.AttFwdRefIdeal.τ).loc Cert.AttFwdRefIdeal.main_arg2) = m' ((c.tc : Thread Cert.AttFwdRefIdeal.nD Cert.AttFwdRefIdeal.τ).loc Cert.AttFwdRefIdeal.main_arg2))

def preserves_OdOut_OdOutIdeal : Prop :=
  True

def algebraic_OdOutIdeal_OdOutRefIdeal [hOdOutIdeal : Cert.OdOutIdeal.Facts] [hOdOutRefIdeal : Cert.OdOutRefIdeal.Facts] : Prop :=
  ∀ (m : (ℓ : Loc Cert.OdOutIdeal.nD Cert.OdOutIdeal.τ Cert.OdOutIdeal.sig) → Buf (Elt Ideal) ℓ) (g : Dev Cert.OdOutIdeal.nD → PrngReg)
    (m' : (ℓ : Loc Cert.OdOutRefIdeal.nD Cert.OdOutRefIdeal.τ Cert.OdOutRefIdeal.sig) → Buf (Elt Ideal) ℓ) (g' : Dev Cert.OdOutRefIdeal.nD → PrngReg), Pre_OdOutIdeal m →
    (∀ c : Dev Cert.OdOutIdeal.nD,
      m' ((c.tc : Thread Cert.OdOutRefIdeal.nD Cert.OdOutRefIdeal.τ).loc Cert.OdOutRefIdeal.main_arg0) = m ((c.tc : Thread Cert.OdOutIdeal.nD Cert.OdOutIdeal.τ).loc Cert.OdOutIdeal.main_arg0)
      ∧ m' ((c.tc : Thread Cert.OdOutRefIdeal.nD Cert.OdOutRefIdeal.τ).loc Cert.OdOutRefIdeal.main_arg1) = m ((c.tc : Thread Cert.OdOutIdeal.nD Cert.OdOutIdeal.τ).loc Cert.OdOutIdeal.main_arg1)
      ∧ m' ((c.tc : Thread Cert.OdOutRefIdeal.nD Cert.OdOutRefIdeal.τ).loc Cert.OdOutRefIdeal.main_arg2) = m ((c.tc : Thread Cert.OdOutIdeal.nD Cert.OdOutIdeal.τ).loc Cert.OdOutIdeal.main_arg2)
      ∧ m' ((c.tc : Thread Cert.OdOutRefIdeal.nD Cert.OdOutRefIdeal.τ).loc Cert.OdOutRefIdeal.main_arg3) = m ((c.tc : Thread Cert.OdOutIdeal.nD Cert.OdOutIdeal.τ).loc Cert.OdOutIdeal.main_arg3)
      ∧ m' ((c.tc : Thread Cert.OdOutRefIdeal.nD Cert.OdOutRefIdeal.τ).loc Cert.OdOutRefIdeal.main_arg4) = m ((c.tc : Thread Cert.OdOutIdeal.nD Cert.OdOutIdeal.τ).loc Cert.OdOutIdeal.main_arg4)
      ∧ m' ((c.tc : Thread Cert.OdOutRefIdeal.nD Cert.OdOutRefIdeal.τ).loc Cert.OdOutRefIdeal.main_arg5) = m ((c.tc : Thread Cert.OdOutIdeal.nD Cert.OdOutIdeal.τ).loc Cert.OdOutIdeal.main_arg5)
      ∧ m' ((c.tc : Thread Cert.OdOutRefIdeal.nD Cert.OdOutRefIdeal.τ).loc Cert.OdOutRefIdeal.main_arg6) = m ((c.tc : Thread Cert.OdOutIdeal.nD Cert.OdOutIdeal.τ).loc Cert.OdOutIdeal.main_arg6)
      ∧ m' ((c.tc : Thread Cert.OdOutRefIdeal.nD Cert.OdOutRefIdeal.τ).loc Cert.OdOutRefIdeal.main_arg7) = m ((c.tc : Thread Cert.OdOutIdeal.nD Cert.OdOutIdeal.τ).loc Cert.OdOutIdeal.main_arg7)
      ∧ m' ((c.tc : Thread Cert.OdOutRefIdeal.nD Cert.OdOutRefIdeal.τ).loc Cert.OdOutRefIdeal.main_arg8) = m ((c.tc : Thread Cert.OdOutIdeal.nD Cert.OdOutIdeal.τ).loc Cert.OdOutIdeal.main_arg8)
      ∧ m' ((c.tc : Thread Cert.OdOutRefIdeal.nD Cert.OdOutRefIdeal.τ).loc Cert.OdOutRefIdeal.main_arg9) = m ((c.tc : Thread Cert.OdOutIdeal.nD Cert.OdOutIdeal.τ).loc Cert.OdOutIdeal.main_arg9)) →
    ∃ (v0 : (c : Dev Cert.OdOutIdeal.nD) → Buf (Elt Ideal) ((c.tc : Thread Cert.OdOutIdeal.nD Cert.OdOutIdeal.τ).loc Cert.OdOutIdeal.main_v4)) (v1 : (c : Dev Cert.OdOutIdeal.nD) → Buf (Elt Ideal) ((c.tc : Thread Cert.OdOutIdeal.nD Cert.OdOutIdeal.τ).loc Cert.OdOutIdeal.main_v3_1)) (v2 : (c : Dev Cert.OdOutIdeal.nD) → Buf (Elt Ideal) ((c.tc : Thread Cert.OdOutIdeal.nD Cert.OdOutIdeal.τ).loc Cert.OdOutIdeal.main_v5)) (v3 : (c : Dev Cert.OdOutIdeal.nD) → Buf (Elt Ideal) ((c.tc : Thread Cert.OdOutIdeal.nD Cert.OdOutIdeal.τ).loc Cert.OdOutIdeal.main_v3_3)) (v4 : (c : Dev Cert.OdOutIdeal.nD) → Buf (Elt Ideal) ((c.tc : Thread Cert.OdOutIdeal.nD Cert.OdOutIdeal.τ).loc Cert.OdOutIdeal.main_v3_4)) (v5 : (c : Dev Cert.OdOutIdeal.nD) → Buf (Elt Ideal) ((c.tc : Thread Cert.OdOutIdeal.nD Cert.OdOutIdeal.τ).loc Cert.OdOutIdeal.main_v3_5)) (v6 : (c : Dev Cert.OdOutIdeal.nD) → Buf (Elt Ideal) ((c.tc : Thread Cert.OdOutIdeal.nD Cert.OdOutIdeal.τ).loc Cert.OdOutIdeal.main_v3_6)) (v7 : (c : Dev Cert.OdOutIdeal.nD) → Buf (Elt Ideal) ((c.tc : Thread Cert.OdOutIdeal.nD Cert.OdOutIdeal.τ).loc Cert.OdOutIdeal.main_v3_7)),
      θ_run (Cert.OdOutIdeal.defs (F := Ideal)) (onTc (τ := Cert.OdOutIdeal.τ) (Cert.OdOutIdeal.main (F := Ideal))) ⟨m, fun _ => 0, g⟩ (fun r => ∀ c : Dev Cert.OdOutIdeal.nD,
          r.2.mem ((c.tc : Thread Cert.OdOutIdeal.nD Cert.OdOutIdeal.τ).loc Cert.OdOutIdeal.main_v4) = v0 c
          ∧ r.2.mem ((c.tc : Thread Cert.OdOutIdeal.nD Cert.OdOutIdeal.τ).loc Cert.OdOutIdeal.main_v3_1) = v1 c
          ∧ r.2.mem ((c.tc : Thread Cert.OdOutIdeal.nD Cert.OdOutIdeal.τ).loc Cert.OdOutIdeal.main_v5) = v2 c
          ∧ r.2.mem ((c.tc : Thread Cert.OdOutIdeal.nD Cert.OdOutIdeal.τ).loc Cert.OdOutIdeal.main_v3_3) = v3 c
          ∧ r.2.mem ((c.tc : Thread Cert.OdOutIdeal.nD Cert.OdOutIdeal.τ).loc Cert.OdOutIdeal.main_v3_4) = v4 c
          ∧ r.2.mem ((c.tc : Thread Cert.OdOutIdeal.nD Cert.OdOutIdeal.τ).loc Cert.OdOutIdeal.main_v3_5) = v5 c
          ∧ r.2.mem ((c.tc : Thread Cert.OdOutIdeal.nD Cert.OdOutIdeal.τ).loc Cert.OdOutIdeal.main_v3_6) = v6 c
          ∧ r.2.mem ((c.tc : Thread Cert.OdOutIdeal.nD Cert.OdOutIdeal.τ).loc Cert.OdOutIdeal.main_v3_7) = v7 c
          ∧ r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
          ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
          ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2)
          ∧ r.2.mem ((c.tc : Thread Cert.OdOutIdeal.nD Cert.OdOutIdeal.τ).loc Cert.OdOutIdeal.main_arg3) = m ((c.tc : Thread Cert.OdOutIdeal.nD Cert.OdOutIdeal.τ).loc Cert.OdOutIdeal.main_arg3)
          ∧ r.2.mem ((c.tc : Thread Cert.OdOutIdeal.nD Cert.OdOutIdeal.τ).loc Cert.OdOutIdeal.main_arg4) = m ((c.tc : Thread Cert.OdOutIdeal.nD Cert.OdOutIdeal.τ).loc Cert.OdOutIdeal.main_arg4)
          ∧ r.2.mem ((c.tc : Thread Cert.OdOutIdeal.nD Cert.OdOutIdeal.τ).loc Cert.OdOutIdeal.main_arg5) = m ((c.tc : Thread Cert.OdOutIdeal.nD Cert.OdOutIdeal.τ).loc Cert.OdOutIdeal.main_arg5)
          ∧ r.2.mem ((c.tc : Thread Cert.OdOutIdeal.nD Cert.OdOutIdeal.τ).loc Cert.OdOutIdeal.main_arg6) = m ((c.tc : Thread Cert.OdOutIdeal.nD Cert.OdOutIdeal.τ).loc Cert.OdOutIdeal.main_arg6)
          ∧ r.2.mem ((c.tc : Thread Cert.OdOutIdeal.nD Cert.OdOutIdeal.τ).loc Cert.OdOutIdeal.main_arg7) = m ((c.tc : Thread Cert.OdOutIdeal.nD Cert.OdOutIdeal.τ).loc Cert.OdOutIdeal.main_arg7)
          ∧ r.2.mem ((c.tc : Thread Cert.OdOutIdeal.nD Cert.OdOutIdeal.τ).loc Cert.OdOutIdeal.main_arg8) = m ((c.tc : Thread Cert.OdOutIdeal.nD Cert.OdOutIdeal.τ).loc Cert.OdOutIdeal.main_arg8)
          ∧ r.2.mem ((c.tc : Thread Cert.OdOutIdeal.nD Cert.OdOutIdeal.τ).loc Cert.OdOutIdeal.main_arg9) = m ((c.tc : Thread Cert.OdOutIdeal.nD Cert.OdOutIdeal.τ).loc Cert.OdOutIdeal.main_arg9))
      ∧ θ_run (Cert.OdOutRefIdeal.defs (F := Ideal)) (onTc (τ := Cert.OdOutRefIdeal.τ) (Cert.OdOutRefIdeal.main (F := Ideal))) ⟨m', fun _ => 0, g'⟩ (fun r => ∀ c : Dev Cert.OdOutRefIdeal.nD,
          r.2.mem ((c.tc : Thread Cert.OdOutRefIdeal.nD Cert.OdOutRefIdeal.τ).loc Cert.OdOutRefIdeal.main_v77) = v0 c
          ∧ r.2.mem ((c.tc : Thread Cert.OdOutRefIdeal.nD Cert.OdOutRefIdeal.τ).loc Cert.OdOutRefIdeal.main_v115) = v1 c
          ∧ r.2.mem ((c.tc : Thread Cert.OdOutRefIdeal.nD Cert.OdOutRefIdeal.τ).loc Cert.OdOutRefIdeal.main_v81) = v2 c
          ∧ r.2.mem ((c.tc : Thread Cert.OdOutRefIdeal.nD Cert.OdOutRefIdeal.τ).loc Cert.OdOutRefIdeal.main_v61) = v3 c
          ∧ r.2.mem ((c.tc : Thread Cert.OdOutRefIdeal.nD Cert.OdOutRefIdeal.τ).loc Cert.OdOutRefIdeal.main_v58) = v4 c
          ∧ r.2.mem ((c.tc : Thread Cert.OdOutRefIdeal.nD Cert.OdOutRefIdeal.τ).loc Cert.OdOutRefIdeal.main_v83) = v5 c
          ∧ r.2.mem ((c.tc : Thread Cert.OdOutRefIdeal.nD Cert.OdOutRefIdeal.τ).loc Cert.OdOutRefIdeal.main_v89) = v6 c
          ∧ r.2.mem ((c.tc : Thread Cert.OdOutRefIdeal.nD Cert.OdOutRefIdeal.τ).loc Cert.OdOutRefIdeal.main_v86) = v7 c
          ∧ r.2.mem ((c.tc : Thread Cert.OdOutRefIdeal.nD Cert.OdOutRefIdeal.τ).loc Cert.OdOutRefIdeal.main_arg0) = m' ((c.tc : Thread Cert.OdOutRefIdeal.nD Cert.OdOutRefIdeal.τ).loc Cert.OdOutRefIdeal.main_arg0)
          ∧ r.2.mem ((c.tc : Thread Cert.OdOutRefIdeal.nD Cert.OdOutRefIdeal.τ).loc Cert.OdOutRefIdeal.main_arg1) = m' ((c.tc : Thread Cert.OdOutRefIdeal.nD Cert.OdOutRefIdeal.τ).loc Cert.OdOutRefIdeal.main_arg1)
          ∧ r.2.mem ((c.tc : Thread Cert.OdOutRefIdeal.nD Cert.OdOutRefIdeal.τ).loc Cert.OdOutRefIdeal.main_arg2) = m' ((c.tc : Thread Cert.OdOutRefIdeal.nD Cert.OdOutRefIdeal.τ).loc Cert.OdOutRefIdeal.main_arg2)
          ∧ r.2.mem ((c.tc : Thread Cert.OdOutRefIdeal.nD Cert.OdOutRefIdeal.τ).loc Cert.OdOutRefIdeal.main_arg3) = m' ((c.tc : Thread Cert.OdOutRefIdeal.nD Cert.OdOutRefIdeal.τ).loc Cert.OdOutRefIdeal.main_arg3)
          ∧ r.2.mem ((c.tc : Thread Cert.OdOutRefIdeal.nD Cert.OdOutRefIdeal.τ).loc Cert.OdOutRefIdeal.main_arg4) = m' ((c.tc : Thread Cert.OdOutRefIdeal.nD Cert.OdOutRefIdeal.τ).loc Cert.OdOutRefIdeal.main_arg4)
          ∧ r.2.mem ((c.tc : Thread Cert.OdOutRefIdeal.nD Cert.OdOutRefIdeal.τ).loc Cert.OdOutRefIdeal.main_arg5) = m' ((c.tc : Thread Cert.OdOutRefIdeal.nD Cert.OdOutRefIdeal.τ).loc Cert.OdOutRefIdeal.main_arg5)
          ∧ r.2.mem ((c.tc : Thread Cert.OdOutRefIdeal.nD Cert.OdOutRefIdeal.τ).loc Cert.OdOutRefIdeal.main_arg6) = m' ((c.tc : Thread Cert.OdOutRefIdeal.nD Cert.OdOutRefIdeal.τ).loc Cert.OdOutRefIdeal.main_arg6)
          ∧ r.2.mem ((c.tc : Thread Cert.OdOutRefIdeal.nD Cert.OdOutRefIdeal.τ).loc Cert.OdOutRefIdeal.main_arg7) = m' ((c.tc : Thread Cert.OdOutRefIdeal.nD Cert.OdOutRefIdeal.τ).loc Cert.OdOutRefIdeal.main_arg7)
          ∧ r.2.mem ((c.tc : Thread Cert.OdOutRefIdeal.nD Cert.OdOutRefIdeal.τ).loc Cert.OdOutRefIdeal.main_arg8) = m' ((c.tc : Thread Cert.OdOutRefIdeal.nD Cert.OdOutRefIdeal.τ).loc Cert.OdOutRefIdeal.main_arg8)
          ∧ r.2.mem ((c.tc : Thread Cert.OdOutRefIdeal.nD Cert.OdOutRefIdeal.τ).loc Cert.OdOutRefIdeal.main_arg9) = m' ((c.tc : Thread Cert.OdOutRefIdeal.nD Cert.OdOutRefIdeal.τ).loc Cert.OdOutRefIdeal.main_arg9))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)
      ∧ m' ((c.tc : Thread Cert.LossRefIdeal.nD Cert.LossRefIdeal.τ).loc Cert.LossRefIdeal.main_arg9) = m ((c.tc : Thread Cert.LossIdeal.nD Cert.LossIdeal.τ).loc Cert.LossIdeal.main_arg9)
      ∧ m' ((c.tc : Thread Cert.LossRefIdeal.nD Cert.LossRefIdeal.τ).loc Cert.LossRefIdeal.main_arg10) = m ((c.tc : Thread Cert.LossIdeal.nD Cert.LossIdeal.τ).loc Cert.LossIdeal.main_arg10)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v4) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
          ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
          ∧ r.2.mem ((c.tc : Thread Cert.LossIdeal.nD Cert.LossIdeal.τ).loc Cert.LossIdeal.main_arg10) = m ((c.tc : Thread Cert.LossIdeal.nD Cert.LossIdeal.τ).loc Cert.LossIdeal.main_arg10))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v28) = v0 c
          ∧ r.2.mem ((c.tc : Thread Cert.LossRefIdeal.nD Cert.LossRefIdeal.τ).loc Cert.LossRefIdeal.main_v29) = v1 c
          ∧ r.2.mem ((c.tc : Thread Cert.LossRefIdeal.nD Cert.LossRefIdeal.τ).loc Cert.LossRefIdeal.main_v61) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8)
          ∧ r.2.mem ((c.tc : Thread Cert.LossRefIdeal.nD Cert.LossRefIdeal.τ).loc Cert.LossRefIdeal.main_arg9) = m' ((c.tc : Thread Cert.LossRefIdeal.nD Cert.LossRefIdeal.τ).loc Cert.LossRefIdeal.main_arg9)
          ∧ r.2.mem ((c.tc : Thread Cert.LossRefIdeal.nD Cert.LossRefIdeal.τ).loc Cert.LossRefIdeal.main_arg10) = m' ((c.tc : Thread Cert.LossRefIdeal.nD Cert.LossRefIdeal.τ).loc Cert.LossRefIdeal.main_arg10))

def preserves_EvOut_EvOutIdeal : Prop :=
  True

def algebraic_EvOutIdeal_EvOutRefIdeal [hEvOutIdeal : Cert.EvOutIdeal.Facts] [hEvOutRefIdeal : Cert.EvOutRefIdeal.Facts] : Prop :=
  ∀ (m : (ℓ : Loc Cert.EvOutIdeal.nD Cert.EvOutIdeal.τ Cert.EvOutIdeal.sig) → Buf (Elt Ideal) ℓ) (g : Dev Cert.EvOutIdeal.nD → PrngReg)
    (m' : (ℓ : Loc Cert.EvOutRefIdeal.nD Cert.EvOutRefIdeal.τ Cert.EvOutRefIdeal.sig) → Buf (Elt Ideal) ℓ) (g' : Dev Cert.EvOutRefIdeal.nD → PrngReg), Pre_EvOutIdeal m →
    (∀ c : Dev Cert.EvOutIdeal.nD,
      m' ((c.tc : Thread Cert.EvOutRefIdeal.nD Cert.EvOutRefIdeal.τ).loc Cert.EvOutRefIdeal.main_arg0) = m ((c.tc : Thread Cert.EvOutIdeal.nD Cert.EvOutIdeal.τ).loc Cert.EvOutIdeal.main_arg0)
      ∧ m' ((c.tc : Thread Cert.EvOutRefIdeal.nD Cert.EvOutRefIdeal.τ).loc Cert.EvOutRefIdeal.main_arg1) = m ((c.tc : Thread Cert.EvOutIdeal.nD Cert.EvOutIdeal.τ).loc Cert.EvOutIdeal.main_arg1)
      ∧ m' ((c.tc : Thread Cert.EvOutRefIdeal.nD Cert.EvOutRefIdeal.τ).loc Cert.EvOutRefIdeal.main_arg2) = m ((c.tc : Thread Cert.EvOutIdeal.nD Cert.EvOutIdeal.τ).loc Cert.EvOutIdeal.main_arg2)
      ∧ m' ((c.tc : Thread Cert.EvOutRefIdeal.nD Cert.EvOutRefIdeal.τ).loc Cert.EvOutRefIdeal.main_arg3) = m ((c.tc : Thread Cert.EvOutIdeal.nD Cert.EvOutIdeal.τ).loc Cert.EvOutIdeal.main_arg3)
      ∧ m' ((c.tc : Thread Cert.EvOutRefIdeal.nD Cert.EvOutRefIdeal.τ).loc Cert.EvOutRefIdeal.main_arg4) = m ((c.tc : Thread Cert.EvOutIdeal.nD Cert.EvOutIdeal.τ).loc Cert.EvOutIdeal.main_arg4)
      ∧ m' ((c.tc : Thread Cert.EvOutRefIdeal.nD Cert.EvOutRefIdeal.τ).loc Cert.EvOutRefIdeal.main_arg5) = m ((c.tc : Thread Cert.EvOutIdeal.nD Cert.EvOutIdeal.τ).loc Cert.EvOutIdeal.main_arg5)
      ∧ m' ((c.tc : Thread Cert.EvOutRefIdeal.nD Cert.EvOutRefIdeal.τ).loc Cert.EvOutRefIdeal.main_arg6) = m ((c.tc : Thread Cert.EvOutIdeal.nD Cert.EvOutIdeal.τ).loc Cert.EvOutIdeal.main_arg6)
      ∧ m' ((c.tc : Thread Cert.EvOutRefIdeal.nD Cert.EvOutRefIdeal.τ).loc Cert.EvOutRefIdeal.main_arg7) = m ((c.tc : Thread Cert.EvOutIdeal.nD Cert.EvOutIdeal.τ).loc Cert.EvOutIdeal.main_arg7)
      ∧ m' ((c.tc : Thread Cert.EvOutRefIdeal.nD Cert.EvOutRefIdeal.τ).loc Cert.EvOutRefIdeal.main_arg8) = m ((c.tc : Thread Cert.EvOutIdeal.nD Cert.EvOutIdeal.τ).loc Cert.EvOutIdeal.main_arg8)
      ∧ m' ((c.tc : Thread Cert.EvOutRefIdeal.nD Cert.EvOutRefIdeal.τ).loc Cert.EvOutRefIdeal.main_arg9) = m ((c.tc : Thread Cert.EvOutIdeal.nD Cert.EvOutIdeal.τ).loc Cert.EvOutIdeal.main_arg9)) →
    ∃ (v0 : (c : Dev Cert.EvOutIdeal.nD) → Buf (Elt Ideal) ((c.tc : Thread Cert.EvOutIdeal.nD Cert.EvOutIdeal.τ).loc Cert.EvOutIdeal.main_v35)) (v1 : (c : Dev Cert.EvOutIdeal.nD) → Buf (Elt Ideal) ((c.tc : Thread Cert.EvOutIdeal.nD Cert.EvOutIdeal.τ).loc Cert.EvOutIdeal.main_v36)) (v2 : (c : Dev Cert.EvOutIdeal.nD) → Buf (Elt Ideal) ((c.tc : Thread Cert.EvOutIdeal.nD Cert.EvOutIdeal.τ).loc Cert.EvOutIdeal.main_v34_2)) (v3 : (c : Dev Cert.EvOutIdeal.nD) → Buf (Elt Ideal) ((c.tc : Thread Cert.EvOutIdeal.nD Cert.EvOutIdeal.τ).loc Cert.EvOutIdeal.main_v37)) (v4 : (c : Dev Cert.EvOutIdeal.nD) → Buf (Elt Ideal) ((c.tc : Thread Cert.EvOutIdeal.nD Cert.EvOutIdeal.τ).loc Cert.EvOutIdeal.main_v34_4)) (v5 : (c : Dev Cert.EvOutIdeal.nD) → Buf (Elt Ideal) ((c.tc : Thread Cert.EvOutIdeal.nD Cert.EvOutIdeal.τ).loc Cert.EvOutIdeal.main_v34_5)) (v6 : (c : Dev Cert.EvOutIdeal.nD) → Buf (Elt Ideal) ((c.tc : Thread Cert.EvOutIdeal.nD Cert.EvOutIdeal.τ).loc Cert.EvOutIdeal.main_v34_6)),
      θ_run (Cert.EvOutIdeal.defs (F := Ideal)) (onTc (τ := Cert.EvOutIdeal.τ) (Cert.EvOutIdeal.main (F := Ideal))) ⟨m, fun _ => 0, g⟩ (fun r => ∀ c : Dev Cert.EvOutIdeal.nD,
          r.2.mem ((c.tc : Thread Cert.EvOutIdeal.nD Cert.EvOutIdeal.τ).loc Cert.EvOutIdeal.main_v35) = v0 c
          ∧ r.2.mem ((c.tc : Thread Cert.EvOutIdeal.nD Cert.EvOutIdeal.τ).loc Cert.EvOutIdeal.main_v36) = v1 c
          ∧ r.2.mem ((c.tc : Thread Cert.EvOutIdeal.nD Cert.EvOutIdeal.τ).loc Cert.EvOutIdeal.main_v34_2) = v2 c
          ∧ r.2.mem ((c.tc : Thread Cert.EvOutIdeal.nD Cert.EvOutIdeal.τ).loc Cert.EvOutIdeal.main_v37) = v3 c
          ∧ r.2.mem ((c.tc : Thread Cert.EvOutIdeal.nD Cert.EvOutIdeal.τ).loc Cert.EvOutIdeal.main_v34_4) = v4 c
          ∧ r.2.mem ((c.tc : Thread Cert.EvOutIdeal.nD Cert.EvOutIdeal.τ).loc Cert.EvOutIdeal.main_v34_5) = v5 c
          ∧ r.2.mem ((c.tc : Thread Cert.EvOutIdeal.nD Cert.EvOutIdeal.τ).loc Cert.EvOutIdeal.main_v34_6) = v6 c
          ∧ r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
          ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
          ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
          ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3)
          ∧ r.2.mem ((c.tc : Thread Cert.EvOutIdeal.nD Cert.EvOutIdeal.τ).loc Cert.EvOutIdeal.main_arg4) = m ((c.tc : Thread Cert.EvOutIdeal.nD Cert.EvOutIdeal.τ).loc Cert.EvOutIdeal.main_arg4)
          ∧ r.2.mem ((c.tc : Thread Cert.EvOutIdeal.nD Cert.EvOutIdeal.τ).loc Cert.EvOutIdeal.main_arg5) = m ((c.tc : Thread Cert.EvOutIdeal.nD Cert.EvOutIdeal.τ).loc Cert.EvOutIdeal.main_arg5)
          ∧ r.2.mem ((c.tc : Thread Cert.EvOutIdeal.nD Cert.EvOutIdeal.τ).loc Cert.EvOutIdeal.main_arg6) = m ((c.tc : Thread Cert.EvOutIdeal.nD Cert.EvOutIdeal.τ).loc Cert.EvOutIdeal.main_arg6)
          ∧ r.2.mem ((c.tc : Thread Cert.EvOutIdeal.nD Cert.EvOutIdeal.τ).loc Cert.EvOutIdeal.main_arg7) = m ((c.tc : Thread Cert.EvOutIdeal.nD Cert.EvOutIdeal.τ).loc Cert.EvOutIdeal.main_arg7)
          ∧ r.2.mem ((c.tc : Thread Cert.EvOutIdeal.nD Cert.EvOutIdeal.τ).loc Cert.EvOutIdeal.main_arg8) = m ((c.tc : Thread Cert.EvOutIdeal.nD Cert.EvOutIdeal.τ).loc Cert.EvOutIdeal.main_arg8)
          ∧ r.2.mem ((c.tc : Thread Cert.EvOutIdeal.nD Cert.EvOutIdeal.τ).loc Cert.EvOutIdeal.main_arg9) = m ((c.tc : Thread Cert.EvOutIdeal.nD Cert.EvOutIdeal.τ).loc Cert.EvOutIdeal.main_arg9))
      ∧ θ_run (Cert.EvOutRefIdeal.defs (F := Ideal)) (onTc (τ := Cert.EvOutRefIdeal.τ) (Cert.EvOutRefIdeal.main (F := Ideal))) ⟨m', fun _ => 0, g'⟩ (fun r => ∀ c : Dev Cert.EvOutRefIdeal.nD,
          r.2.mem ((c.tc : Thread Cert.EvOutRefIdeal.nD Cert.EvOutRefIdeal.τ).loc Cert.EvOutRefIdeal.main_v74) = v0 c
          ∧ r.2.mem ((c.tc : Thread Cert.EvOutRefIdeal.nD Cert.EvOutRefIdeal.τ).loc Cert.EvOutRefIdeal.main_v109) = v1 c
          ∧ r.2.mem ((c.tc : Thread Cert.EvOutRefIdeal.nD Cert.EvOutRefIdeal.τ).loc Cert.EvOutRefIdeal.main_v83) = v2 c
          ∧ r.2.mem ((c.tc : Thread Cert.EvOutRefIdeal.nD Cert.EvOutRefIdeal.τ).loc Cert.EvOutRefIdeal.main_v79) = v3 c
          ∧ r.2.mem ((c.tc : Thread Cert.EvOutRefIdeal.nD Cert.EvOutRefIdeal.τ).loc Cert.EvOutRefIdeal.main_v80) = v4 c
          ∧ r.2.mem ((c.tc : Thread Cert.EvOutRefIdeal.nD Cert.EvOutRefIdeal.τ).loc Cert.EvOutRefIdeal.main_v58) = v5 c
          ∧ r.2.mem ((c.tc : Thread Cert.EvOutRefIdeal.nD Cert.EvOutRefIdeal.τ).loc Cert.EvOutRefIdeal.main_v55) = v6 c
          ∧ r.2.mem ((c.tc : Thread Cert.EvOutRefIdeal.nD Cert.EvOutRefIdeal.τ).loc Cert.EvOutRefIdeal.main_arg0) = m' ((c.tc : Thread Cert.EvOutRefIdeal.nD Cert.EvOutRefIdeal.τ).loc Cert.EvOutRefIdeal.main_arg0)
          ∧ r.2.mem ((c.tc : Thread Cert.EvOutRefIdeal.nD Cert.EvOutRefIdeal.τ).loc Cert.EvOutRefIdeal.main_arg1) = m' ((c.tc : Thread Cert.EvOutRefIdeal.nD Cert.EvOutRefIdeal.τ).loc Cert.EvOutRefIdeal.main_arg1)
          ∧ r.2.mem ((c.tc : Thread Cert.EvOutRefIdeal.nD Cert.EvOutRefIdeal.τ).loc Cert.EvOutRefIdeal.main_arg2) = m' ((c.tc : Thread Cert.EvOutRefIdeal.nD Cert.EvOutRefIdeal.τ).loc Cert.EvOutRefIdeal.main_arg2)
          ∧ r.2.mem ((c.tc : Thread Cert.EvOutRefIdeal.nD Cert.EvOutRefIdeal.τ).loc Cert.EvOutRefIdeal.main_arg3) = m' ((c.tc : Thread Cert.EvOutRefIdeal.nD Cert.EvOutRefIdeal.τ).loc Cert.EvOutRefIdeal.main_arg3)
          ∧ r.2.mem ((c.tc : Thread Cert.EvOutRefIdeal.nD Cert.EvOutRefIdeal.τ).loc Cert.EvOutRefIdeal.main_arg4) = m' ((c.tc : Thread Cert.EvOutRefIdeal.nD Cert.EvOutRefIdeal.τ).loc Cert.EvOutRefIdeal.main_arg4)
          ∧ r.2.mem ((c.tc : Thread Cert.EvOutRefIdeal.nD Cert.EvOutRefIdeal.τ).loc Cert.EvOutRefIdeal.main_arg5) = m' ((c.tc : Thread Cert.EvOutRefIdeal.nD Cert.EvOutRefIdeal.τ).loc Cert.EvOutRefIdeal.main_arg5)
          ∧ r.2.mem ((c.tc : Thread Cert.EvOutRefIdeal.nD Cert.EvOutRefIdeal.τ).loc Cert.EvOutRefIdeal.main_arg6) = m' ((c.tc : Thread Cert.EvOutRefIdeal.nD Cert.EvOutRefIdeal.τ).loc Cert.EvOutRefIdeal.main_arg6)
          ∧ r.2.mem ((c.tc : Thread Cert.EvOutRefIdeal.nD Cert.EvOutRefIdeal.τ).loc Cert.EvOutRefIdeal.main_arg7) = m' ((c.tc : Thread Cert.EvOutRefIdeal.nD Cert.EvOutRefIdeal.τ).loc Cert.EvOutRefIdeal.main_arg7)
          ∧ r.2.mem ((c.tc : Thread Cert.EvOutRefIdeal.nD Cert.EvOutRefIdeal.τ).loc Cert.EvOutRefIdeal.main_arg8) = m' ((c.tc : Thread Cert.EvOutRefIdeal.nD Cert.EvOutRefIdeal.τ).loc Cert.EvOutRefIdeal.main_arg8)
          ∧ r.2.mem ((c.tc : Thread Cert.EvOutRefIdeal.nD Cert.EvOutRefIdeal.τ).loc Cert.EvOutRefIdeal.main_arg9) = m' ((c.tc : Thread Cert.EvOutRefIdeal.nD Cert.EvOutRefIdeal.τ).loc Cert.EvOutRefIdeal.main_arg9))

def preserves_EvFwd_EvFwdIdeal : Prop :=
  True

def algebraic_EvFwdIdeal_EvFwdRefIdeal [hEvFwdIdeal : Cert.EvFwdIdeal.Facts] [hEvFwdRefIdeal : Cert.EvFwdRefIdeal.Facts] : Prop :=
  ∀ (m : (ℓ : Loc Cert.EvFwdIdeal.nD Cert.EvFwdIdeal.τ Cert.EvFwdIdeal.sig) → Buf (Elt Ideal) ℓ) (g : Dev Cert.EvFwdIdeal.nD → PrngReg)
    (m' : (ℓ : Loc Cert.EvFwdRefIdeal.nD Cert.EvFwdRefIdeal.τ Cert.EvFwdRefIdeal.sig) → Buf (Elt Ideal) ℓ) (g' : Dev Cert.EvFwdRefIdeal.nD → PrngReg), Pre_EvFwdIdeal m →
    (∀ c : Dev Cert.EvFwdIdeal.nD,
      m' ((c.tc : Thread Cert.EvFwdRefIdeal.nD Cert.EvFwdRefIdeal.τ).loc Cert.EvFwdRefIdeal.main_arg0) = m ((c.tc : Thread Cert.EvFwdIdeal.nD Cert.EvFwdIdeal.τ).loc Cert.EvFwdIdeal.main_arg0)
      ∧ m' ((c.tc : Thread Cert.EvFwdRefIdeal.nD Cert.EvFwdRefIdeal.τ).loc Cert.EvFwdRefIdeal.main_arg1) = m ((c.tc : Thread Cert.EvFwdIdeal.nD Cert.EvFwdIdeal.τ).loc Cert.EvFwdIdeal.main_arg1)
      ∧ m' ((c.tc : Thread Cert.EvFwdRefIdeal.nD Cert.EvFwdRefIdeal.τ).loc Cert.EvFwdRefIdeal.main_arg2) = m ((c.tc : Thread Cert.EvFwdIdeal.nD Cert.EvFwdIdeal.τ).loc Cert.EvFwdIdeal.main_arg2)
      ∧ m' ((c.tc : Thread Cert.EvFwdRefIdeal.nD Cert.EvFwdRefIdeal.τ).loc Cert.EvFwdRefIdeal.main_arg3) = m ((c.tc : Thread Cert.EvFwdIdeal.nD Cert.EvFwdIdeal.τ).loc Cert.EvFwdIdeal.main_arg3)
      ∧ m' ((c.tc : Thread Cert.EvFwdRefIdeal.nD Cert.EvFwdRefIdeal.τ).loc Cert.EvFwdRefIdeal.main_arg4) = m ((c.tc : Thread Cert.EvFwdIdeal.nD Cert.EvFwdIdeal.τ).loc Cert.EvFwdIdeal.main_arg4)
      ∧ m' ((c.tc : Thread Cert.EvFwdRefIdeal.nD Cert.EvFwdRefIdeal.τ).loc Cert.EvFwdRefIdeal.main_arg5) = m ((c.tc : Thread Cert.EvFwdIdeal.nD Cert.EvFwdIdeal.τ).loc Cert.EvFwdIdeal.main_arg5)
      ∧ m' ((c.tc : Thread Cert.EvFwdRefIdeal.nD Cert.EvFwdRefIdeal.τ).loc Cert.EvFwdRefIdeal.main_arg6) = m ((c.tc : Thread Cert.EvFwdIdeal.nD Cert.EvFwdIdeal.τ).loc Cert.EvFwdIdeal.main_arg6)
      ∧ m' ((c.tc : Thread Cert.EvFwdRefIdeal.nD Cert.EvFwdRefIdeal.τ).loc Cert.EvFwdRefIdeal.main_arg7) = m ((c.tc : Thread Cert.EvFwdIdeal.nD Cert.EvFwdIdeal.τ).loc Cert.EvFwdIdeal.main_arg7)
      ∧ m' ((c.tc : Thread Cert.EvFwdRefIdeal.nD Cert.EvFwdRefIdeal.τ).loc Cert.EvFwdRefIdeal.main_arg8) = m ((c.tc : Thread Cert.EvFwdIdeal.nD Cert.EvFwdIdeal.τ).loc Cert.EvFwdIdeal.main_arg8)
      ∧ m' ((c.tc : Thread Cert.EvFwdRefIdeal.nD Cert.EvFwdRefIdeal.τ).loc Cert.EvFwdRefIdeal.main_arg9) = m ((c.tc : Thread Cert.EvFwdIdeal.nD Cert.EvFwdIdeal.τ).loc Cert.EvFwdIdeal.main_arg9)) →
    ∃ (v0 : (c : Dev Cert.EvFwdIdeal.nD) → Buf (Elt Ideal) ((c.tc : Thread Cert.EvFwdIdeal.nD Cert.EvFwdIdeal.τ).loc Cert.EvFwdIdeal.main_v7)) (v1 : (c : Dev Cert.EvFwdIdeal.nD) → Buf (Elt Ideal) ((c.tc : Thread Cert.EvFwdIdeal.nD Cert.EvFwdIdeal.τ).loc Cert.EvFwdIdeal.main_v6_1)) (v2 : (c : Dev Cert.EvFwdIdeal.nD) → Buf (Elt Ideal) ((c.tc : Thread Cert.EvFwdIdeal.nD Cert.EvFwdIdeal.τ).loc Cert.EvFwdIdeal.main_v6_2)),
      θ_run (Cert.EvFwdIdeal.defs (F := Ideal)) (onTc (τ := Cert.EvFwdIdeal.τ) (Cert.EvFwdIdeal.main (F := Ideal))) ⟨m, fun _ => 0, g⟩ (fun r => ∀ c : Dev Cert.EvFwdIdeal.nD,
          r.2.mem ((c.tc : Thread Cert.EvFwdIdeal.nD Cert.EvFwdIdeal.τ).loc Cert.EvFwdIdeal.main_v7) = v0 c
          ∧ r.2.mem ((c.tc : Thread Cert.EvFwdIdeal.nD Cert.EvFwdIdeal.τ).loc Cert.EvFwdIdeal.main_v6_1) = v1 c
          ∧ r.2.mem ((c.tc : Thread Cert.EvFwdIdeal.nD Cert.EvFwdIdeal.τ).loc Cert.EvFwdIdeal.main_v6_2) = v2 c
          ∧ r.2.mem ((c.tc : Thread Cert.EvFwdIdeal.nD Cert.EvFwdIdeal.τ).loc Cert.EvFwdIdeal.main_arg0) = m ((c.tc : Thread Cert.EvFwdIdeal.nD Cert.EvFwdIdeal.τ).loc Cert.EvFwdIdeal.main_arg0)
          ∧ r.2.mem ((c.tc : Thread Cert.EvFwdIdeal.nD Cert.EvFwdIdeal.τ).loc Cert.EvFwdIdeal.main_arg1) = m ((c.tc : Thread Cert.EvFwdIdeal.nD Cert.EvFwdIdeal.τ).loc Cert.EvFwdIdeal.main_arg1)
          ∧ r.2.mem ((c.tc : Thread Cert.EvFwdIdeal.nD Cert.EvFwdIdeal.τ).loc Cert.EvFwdIdeal.main_arg2) = m ((c.tc : Thread Cert.EvFwdIdeal.nD Cert.EvFwdIdeal.τ).loc Cert.EvFwdIdeal.main_arg2)
          ∧ r.2.mem ((c.tc : Thread Cert.EvFwdIdeal.nD Cert.EvFwdIdeal.τ).loc Cert.EvFwdIdeal.main_arg3) = m ((c.tc : Thread Cert.EvFwdIdeal.nD Cert.EvFwdIdeal.τ).loc Cert.EvFwdIdeal.main_arg3)
          ∧ r.2.mem ((c.tc : Thread Cert.EvFwdIdeal.nD Cert.EvFwdIdeal.τ).loc Cert.EvFwdIdeal.main_arg4) = m ((c.tc : Thread Cert.EvFwdIdeal.nD Cert.EvFwdIdeal.τ).loc Cert.EvFwdIdeal.main_arg4)
          ∧ r.2.mem ((c.tc : Thread Cert.EvFwdIdeal.nD Cert.EvFwdIdeal.τ).loc Cert.EvFwdIdeal.main_arg5) = m ((c.tc : Thread Cert.EvFwdIdeal.nD Cert.EvFwdIdeal.τ).loc Cert.EvFwdIdeal.main_arg5)
          ∧ r.2.mem ((c.tc : Thread Cert.EvFwdIdeal.nD Cert.EvFwdIdeal.τ).loc Cert.EvFwdIdeal.main_arg6) = m ((c.tc : Thread Cert.EvFwdIdeal.nD Cert.EvFwdIdeal.τ).loc Cert.EvFwdIdeal.main_arg6)
          ∧ r.2.mem ((c.tc : Thread Cert.EvFwdIdeal.nD Cert.EvFwdIdeal.τ).loc Cert.EvFwdIdeal.main_arg7) = m ((c.tc : Thread Cert.EvFwdIdeal.nD Cert.EvFwdIdeal.τ).loc Cert.EvFwdIdeal.main_arg7)
          ∧ r.2.mem ((c.tc : Thread Cert.EvFwdIdeal.nD Cert.EvFwdIdeal.τ).loc Cert.EvFwdIdeal.main_arg8) = m ((c.tc : Thread Cert.EvFwdIdeal.nD Cert.EvFwdIdeal.τ).loc Cert.EvFwdIdeal.main_arg8)
          ∧ r.2.mem ((c.tc : Thread Cert.EvFwdIdeal.nD Cert.EvFwdIdeal.τ).loc Cert.EvFwdIdeal.main_arg9) = m ((c.tc : Thread Cert.EvFwdIdeal.nD Cert.EvFwdIdeal.τ).loc Cert.EvFwdIdeal.main_arg9))
      ∧ θ_run (Cert.EvFwdRefIdeal.defs (F := Ideal)) (onTc (τ := Cert.EvFwdRefIdeal.τ) (Cert.EvFwdRefIdeal.main (F := Ideal))) ⟨m', fun _ => 0, g'⟩ (fun r => ∀ c : Dev Cert.EvFwdRefIdeal.nD,
          r.2.mem ((c.tc : Thread Cert.EvFwdRefIdeal.nD Cert.EvFwdRefIdeal.τ).loc Cert.EvFwdRefIdeal.main_v25) = v0 c
          ∧ r.2.mem ((c.tc : Thread Cert.EvFwdRefIdeal.nD Cert.EvFwdRefIdeal.τ).loc Cert.EvFwdRefIdeal.main_v26) = v1 c
          ∧ r.2.mem ((c.tc : Thread Cert.EvFwdRefIdeal.nD Cert.EvFwdRefIdeal.τ).loc Cert.EvFwdRefIdeal.main_v43) = v2 c
          ∧ r.2.mem ((c.tc : Thread Cert.EvFwdRefIdeal.nD Cert.EvFwdRefIdeal.τ).loc Cert.EvFwdRefIdeal.main_arg0) = m' ((c.tc : Thread Cert.EvFwdRefIdeal.nD Cert.EvFwdRefIdeal.τ).loc Cert.EvFwdRefIdeal.main_arg0)
          ∧ r.2.mem ((c.tc : Thread Cert.EvFwdRefIdeal.nD Cert.EvFwdRefIdeal.τ).loc Cert.EvFwdRefIdeal.main_arg1) = m' ((c.tc : Thread Cert.EvFwdRefIdeal.nD Cert.EvFwdRefIdeal.τ).loc Cert.EvFwdRefIdeal.main_arg1)
          ∧ r.2.mem ((c.tc : Thread Cert.EvFwdRefIdeal.nD Cert.EvFwdRefIdeal.τ).loc Cert.EvFwdRefIdeal.main_arg2) = m' ((c.tc : Thread Cert.EvFwdRefIdeal.nD Cert.EvFwdRefIdeal.τ).loc Cert.EvFwdRefIdeal.main_arg2)
          ∧ r.2.mem ((c.tc : Thread Cert.EvFwdRefIdeal.nD Cert.EvFwdRefIdeal.τ).loc Cert.EvFwdRefIdeal.main_arg3) = m' ((c.tc : Thread Cert.EvFwdRefIdeal.nD Cert.EvFwdRefIdeal.τ).loc Cert.EvFwdRefIdeal.main_arg3)
          ∧ r.2.mem ((c.tc : Thread Cert.EvFwdRefIdeal.nD Cert.EvFwdRefIdeal.τ).loc Cert.EvFwdRefIdeal.main_arg4) = m' ((c.tc : Thread Cert.EvFwdRefIdeal.nD Cert.EvFwdRefIdeal.τ).loc Cert.EvFwdRefIdeal.main_arg4)
          ∧ r.2.mem ((c.tc : Thread Cert.EvFwdRefIdeal.nD Cert.EvFwdRefIdeal.τ).loc Cert.EvFwdRefIdeal.main_arg5) = m' ((c.tc : Thread Cert.EvFwdRefIdeal.nD Cert.EvFwdRefIdeal.τ).loc Cert.EvFwdRefIdeal.main_arg5)
          ∧ r.2.mem ((c.tc : Thread Cert.EvFwdRefIdeal.nD Cert.EvFwdRefIdeal.τ).loc Cert.EvFwdRefIdeal.main_arg6) = m' ((c.tc : Thread Cert.EvFwdRefIdeal.nD Cert.EvFwdRefIdeal.τ).loc Cert.EvFwdRefIdeal.main_arg6)
          ∧ r.2.mem ((c.tc : Thread Cert.EvFwdRefIdeal.nD Cert.EvFwdRefIdeal.τ).loc Cert.EvFwdRefIdeal.main_arg7) = m' ((c.tc : Thread Cert.EvFwdRefIdeal.nD Cert.EvFwdRefIdeal.τ).loc Cert.EvFwdRefIdeal.main_arg7)
          ∧ r.2.mem ((c.tc : Thread Cert.EvFwdRefIdeal.nD Cert.EvFwdRefIdeal.τ).loc Cert.EvFwdRefIdeal.main_arg8) = m' ((c.tc : Thread Cert.EvFwdRefIdeal.nD Cert.EvFwdRefIdeal.τ).loc Cert.EvFwdRefIdeal.main_arg8)
          ∧ r.2.mem ((c.tc : Thread Cert.EvFwdRefIdeal.nD Cert.EvFwdRefIdeal.τ).loc Cert.EvFwdRefIdeal.main_arg9) = m' ((c.tc : Thread Cert.EvFwdRefIdeal.nD Cert.EvFwdRefIdeal.τ).loc Cert.EvFwdRefIdeal.main_arg9))

def preserves_OdFwd_OdFwdIdeal : Prop :=
  True

def algebraic_OdFwdIdeal_OdFwdRefIdeal [hOdFwdIdeal : Cert.OdFwdIdeal.Facts] [hOdFwdRefIdeal : Cert.OdFwdRefIdeal.Facts] : Prop :=
  ∀ (m : (ℓ : Loc Cert.OdFwdIdeal.nD Cert.OdFwdIdeal.τ Cert.OdFwdIdeal.sig) → Buf (Elt Ideal) ℓ) (g : Dev Cert.OdFwdIdeal.nD → PrngReg)
    (m' : (ℓ : Loc Cert.OdFwdRefIdeal.nD Cert.OdFwdRefIdeal.τ Cert.OdFwdRefIdeal.sig) → Buf (Elt Ideal) ℓ) (g' : Dev Cert.OdFwdRefIdeal.nD → PrngReg), Pre_OdFwdIdeal m →
    (∀ c : Dev Cert.OdFwdIdeal.nD,
      m' ((c.tc : Thread Cert.OdFwdRefIdeal.nD Cert.OdFwdRefIdeal.τ).loc Cert.OdFwdRefIdeal.main_arg0) = m ((c.tc : Thread Cert.OdFwdIdeal.nD Cert.OdFwdIdeal.τ).loc Cert.OdFwdIdeal.main_arg0)
      ∧ m' ((c.tc : Thread Cert.OdFwdRefIdeal.nD Cert.OdFwdRefIdeal.τ).loc Cert.OdFwdRefIdeal.main_arg1) = m ((c.tc : Thread Cert.OdFwdIdeal.nD Cert.OdFwdIdeal.τ).loc Cert.OdFwdIdeal.main_arg1)
      ∧ m' ((c.tc : Thread Cert.OdFwdRefIdeal.nD Cert.OdFwdRefIdeal.τ).loc Cert.OdFwdRefIdeal.main_arg2) = m ((c.tc : Thread Cert.OdFwdIdeal.nD Cert.OdFwdIdeal.τ).loc Cert.OdFwdIdeal.main_arg2)
      ∧ m' ((c.tc : Thread Cert.OdFwdRefIdeal.nD Cert.OdFwdRefIdeal.τ).loc Cert.OdFwdRefIdeal.main_arg3) = m ((c.tc : Thread Cert.OdFwdIdeal.nD Cert.OdFwdIdeal.τ).loc Cert.OdFwdIdeal.main_arg3)
      ∧ m' ((c.tc : Thread Cert.OdFwdRefIdeal.nD Cert.OdFwdRefIdeal.τ).loc Cert.OdFwdRefIdeal.main_arg4) = m ((c.tc : Thread Cert.OdFwdIdeal.nD Cert.OdFwdIdeal.τ).loc Cert.OdFwdIdeal.main_arg4)
      ∧ m' ((c.tc : Thread Cert.OdFwdRefIdeal.nD Cert.OdFwdRefIdeal.τ).loc Cert.OdFwdRefIdeal.main_arg5) = m ((c.tc : Thread Cert.OdFwdIdeal.nD Cert.OdFwdIdeal.τ).loc Cert.OdFwdIdeal.main_arg5)) →
    ∃ (v0 : (c : Dev Cert.OdFwdIdeal.nD) → Buf (Elt Ideal) ((c.tc : Thread Cert.OdFwdIdeal.nD Cert.OdFwdIdeal.τ).loc Cert.OdFwdIdeal.main_v2)) (v1 : (c : Dev Cert.OdFwdIdeal.nD) → Buf (Elt Ideal) ((c.tc : Thread Cert.OdFwdIdeal.nD Cert.OdFwdIdeal.τ).loc Cert.OdFwdIdeal.main_v1_1)) (v2 : (c : Dev Cert.OdFwdIdeal.nD) → Buf (Elt Ideal) ((c.tc : Thread Cert.OdFwdIdeal.nD Cert.OdFwdIdeal.τ).loc Cert.OdFwdIdeal.main_v1_2)),
      θ_run (Cert.OdFwdIdeal.defs (F := Ideal)) (onTc (τ := Cert.OdFwdIdeal.τ) (Cert.OdFwdIdeal.main (F := Ideal))) ⟨m, fun _ => 0, g⟩ (fun r => ∀ c : Dev Cert.OdFwdIdeal.nD,
          r.2.mem ((c.tc : Thread Cert.OdFwdIdeal.nD Cert.OdFwdIdeal.τ).loc Cert.OdFwdIdeal.main_v2) = v0 c
          ∧ r.2.mem ((c.tc : Thread Cert.OdFwdIdeal.nD Cert.OdFwdIdeal.τ).loc Cert.OdFwdIdeal.main_v1_1) = v1 c
          ∧ r.2.mem ((c.tc : Thread Cert.OdFwdIdeal.nD Cert.OdFwdIdeal.τ).loc Cert.OdFwdIdeal.main_v1_2) = v2 c
          ∧ r.2.mem ((c.tc : Thread Cert.OdFwdIdeal.nD Cert.OdFwdIdeal.τ).loc Cert.OdFwdIdeal.main_arg0) = m ((c.tc : Thread Cert.OdFwdIdeal.nD Cert.OdFwdIdeal.τ).loc Cert.OdFwdIdeal.main_arg0)
          ∧ r.2.mem ((c.tc : Thread Cert.OdFwdIdeal.nD Cert.OdFwdIdeal.τ).loc Cert.OdFwdIdeal.main_arg1) = m ((c.tc : Thread Cert.OdFwdIdeal.nD Cert.OdFwdIdeal.τ).loc Cert.OdFwdIdeal.main_arg1)
          ∧ r.2.mem ((c.tc : Thread Cert.OdFwdIdeal.nD Cert.OdFwdIdeal.τ).loc Cert.OdFwdIdeal.main_arg2) = m ((c.tc : Thread Cert.OdFwdIdeal.nD Cert.OdFwdIdeal.τ).loc Cert.OdFwdIdeal.main_arg2)
          ∧ r.2.mem ((c.tc : Thread Cert.OdFwdIdeal.nD Cert.OdFwdIdeal.τ).loc Cert.OdFwdIdeal.main_arg3) = m ((c.tc : Thread Cert.OdFwdIdeal.nD Cert.OdFwdIdeal.τ).loc Cert.OdFwdIdeal.main_arg3)
          ∧ r.2.mem ((c.tc : Thread Cert.OdFwdIdeal.nD Cert.OdFwdIdeal.τ).loc Cert.OdFwdIdeal.main_arg4) = m ((c.tc : Thread Cert.OdFwdIdeal.nD Cert.OdFwdIdeal.τ).loc Cert.OdFwdIdeal.main_arg4)
          ∧ r.2.mem ((c.tc : Thread Cert.OdFwdIdeal.nD Cert.OdFwdIdeal.τ).loc Cert.OdFwdIdeal.main_arg5) = m ((c.tc : Thread Cert.OdFwdIdeal.nD Cert.OdFwdIdeal.τ).loc Cert.OdFwdIdeal.main_arg5))
      ∧ θ_run (Cert.OdFwdRefIdeal.defs (F := Ideal)) (onTc (τ := Cert.OdFwdRefIdeal.τ) (Cert.OdFwdRefIdeal.main (F := Ideal))) ⟨m', fun _ => 0, g'⟩ (fun r => ∀ c : Dev Cert.OdFwdRefIdeal.nD,
          r.2.mem ((c.tc : Thread Cert.OdFwdRefIdeal.nD Cert.OdFwdRefIdeal.τ).loc Cert.OdFwdRefIdeal.main_v20) = v0 c
          ∧ r.2.mem ((c.tc : Thread Cert.OdFwdRefIdeal.nD Cert.OdFwdRefIdeal.τ).loc Cert.OdFwdRefIdeal.main_v21) = v1 c
          ∧ r.2.mem ((c.tc : Thread Cert.OdFwdRefIdeal.nD Cert.OdFwdRefIdeal.τ).loc Cert.OdFwdRefIdeal.main_v37) = v2 c
          ∧ r.2.mem ((c.tc : Thread Cert.OdFwdRefIdeal.nD Cert.OdFwdRefIdeal.τ).loc Cert.OdFwdRefIdeal.main_arg0) = m' ((c.tc : Thread Cert.OdFwdRefIdeal.nD Cert.OdFwdRefIdeal.τ).loc Cert.OdFwdRefIdeal.main_arg0)
          ∧ r.2.mem ((c.tc : Thread Cert.OdFwdRefIdeal.nD Cert.OdFwdRefIdeal.τ).loc Cert.OdFwdRefIdeal.main_arg1) = m' ((c.tc : Thread Cert.OdFwdRefIdeal.nD Cert.OdFwdRefIdeal.τ).loc Cert.OdFwdRefIdeal.main_arg1)
          ∧ r.2.mem ((c.tc : Thread Cert.OdFwdRefIdeal.nD Cert.OdFwdRefIdeal.τ).loc Cert.OdFwdRefIdeal.main_arg2) = m' ((c.tc : Thread Cert.OdFwdRefIdeal.nD Cert.OdFwdRefIdeal.τ).loc Cert.OdFwdRefIdeal.main_arg2)
          ∧ r.2.mem ((c.tc : Thread Cert.OdFwdRefIdeal.nD Cert.OdFwdRefIdeal.τ).loc Cert.OdFwdRefIdeal.main_arg3) = m' ((c.tc : Thread Cert.OdFwdRefIdeal.nD Cert.OdFwdRefIdeal.τ).loc Cert.OdFwdRefIdeal.main_arg3)
          ∧ r.2.mem ((c.tc : Thread Cert.OdFwdRefIdeal.nD Cert.OdFwdRefIdeal.τ).loc Cert.OdFwdRefIdeal.main_arg4) = m' ((c.tc : Thread Cert.OdFwdRefIdeal.nD Cert.OdFwdRefIdeal.τ).loc Cert.OdFwdRefIdeal.main_arg4)
          ∧ r.2.mem ((c.tc : Thread Cert.OdFwdRefIdeal.nD Cert.OdFwdRefIdeal.τ).loc Cert.OdFwdRefIdeal.main_arg5) = m' ((c.tc : Thread Cert.OdFwdRefIdeal.nD Cert.OdFwdRefIdeal.τ).loc Cert.OdFwdRefIdeal.main_arg5))

def preserves_EvPre_EvPreIdeal : Prop :=
  True

def algebraic_EvPreIdeal_EvPreRefIdeal [hEvPreIdeal : Cert.EvPreIdeal.Facts] [hEvPreRefIdeal : Cert.EvPreRefIdeal.Facts] : Prop :=
  ∀ (m : (ℓ : Loc Cert.EvPreIdeal.nD Cert.EvPreIdeal.τ Cert.EvPreIdeal.sig) → Buf (Elt Ideal) ℓ) (g : Dev Cert.EvPreIdeal.nD → PrngReg)
    (m' : (ℓ : Loc Cert.EvPreRefIdeal.nD Cert.EvPreRefIdeal.τ Cert.EvPreRefIdeal.sig) → Buf (Elt Ideal) ℓ) (g' : Dev Cert.EvPreRefIdeal.nD → PrngReg), Pre_EvPreIdeal m →
    (∀ c : Dev Cert.EvPreIdeal.nD,
      m' ((c.tc : Thread Cert.EvPreRefIdeal.nD Cert.EvPreRefIdeal.τ).loc Cert.EvPreRefIdeal.main_arg0) = m ((c.tc : Thread Cert.EvPreIdeal.nD Cert.EvPreIdeal.τ).loc Cert.EvPreIdeal.main_arg0)
      ∧ m' ((c.tc : Thread Cert.EvPreRefIdeal.nD Cert.EvPreRefIdeal.τ).loc Cert.EvPreRefIdeal.main_arg1) = m ((c.tc : Thread Cert.EvPreIdeal.nD Cert.EvPreIdeal.τ).loc Cert.EvPreIdeal.main_arg1)
      ∧ m' ((c.tc : Thread Cert.EvPreRefIdeal.nD Cert.EvPreRefIdeal.τ).loc Cert.EvPreRefIdeal.main_arg2) = m ((c.tc : Thread Cert.EvPreIdeal.nD Cert.EvPreIdeal.τ).loc Cert.EvPreIdeal.main_arg2)
      ∧ m' ((c.tc : Thread Cert.EvPreRefIdeal.nD Cert.EvPreRefIdeal.τ).loc Cert.EvPreRefIdeal.main_arg3) = m ((c.tc : Thread Cert.EvPreIdeal.nD Cert.EvPreIdeal.τ).loc Cert.EvPreIdeal.main_arg3)
      ∧ m' ((c.tc : Thread Cert.EvPreRefIdeal.nD Cert.EvPreRefIdeal.τ).loc Cert.EvPreRefIdeal.main_arg4) = m ((c.tc : Thread Cert.EvPreIdeal.nD Cert.EvPreIdeal.τ).loc Cert.EvPreIdeal.main_arg4)) →
    ∃ (v0 : (c : Dev Cert.EvPreIdeal.nD) → Buf (Elt Ideal) ((c.tc : Thread Cert.EvPreIdeal.nD Cert.EvPreIdeal.τ).loc Cert.EvPreIdeal.main_v18)) (v1 : (c : Dev Cert.EvPreIdeal.nD) → Buf (Elt Ideal) ((c.tc : Thread Cert.EvPreIdeal.nD Cert.EvPreIdeal.τ).loc Cert.EvPreIdeal.main_v31)),
      θ_run (Cert.EvPreIdeal.defs (F := Ideal)) (onTc (τ := Cert.EvPreIdeal.τ) (Cert.EvPreIdeal.main (F := Ideal))) ⟨m, fun _ => 0, g⟩ (fun r => ∀ c : Dev Cert.EvPreIdeal.nD,
          r.2.mem ((c.tc : Thread Cert.EvPreIdeal.nD Cert.EvPreIdeal.τ).loc Cert.EvPreIdeal.main_v18) = v0 c
          ∧ r.2.mem ((c.tc : Thread Cert.EvPreIdeal.nD Cert.EvPreIdeal.τ).loc Cert.EvPreIdeal.main_v31) = v1 c
          ∧ r.2.mem ((c.tc : Thread Cert.EvPreIdeal.nD Cert.EvPreIdeal.τ).loc Cert.EvPreIdeal.main_arg0) = m ((c.tc : Thread Cert.EvPreIdeal.nD Cert.EvPreIdeal.τ).loc Cert.EvPreIdeal.main_arg0)
          ∧ r.2.mem ((c.tc : Thread Cert.EvPreIdeal.nD Cert.EvPreIdeal.τ).loc Cert.EvPreIdeal.main_arg1) = m ((c.tc : Thread Cert.EvPreIdeal.nD Cert.EvPreIdeal.τ).loc Cert.EvPreIdeal.main_arg1)
          ∧ r.2.mem ((c.tc : Thread Cert.EvPreIdeal.nD Cert.EvPreIdeal.τ).loc Cert.EvPreIdeal.main_arg2) = m ((c.tc : Thread Cert.EvPreIdeal.nD Cert.EvPreIdeal.τ).loc Cert.EvPreIdeal.main_arg2)
          ∧ r.2.mem ((c.tc : Thread Cert.EvPreIdeal.nD Cert.EvPreIdeal.τ).loc Cert.EvPreIdeal.main_arg3) = m ((c.tc : Thread Cert.EvPreIdeal.nD Cert.EvPreIdeal.τ).loc Cert.EvPreIdeal.main_arg3)
          ∧ r.2.mem ((c.tc : Thread Cert.EvPreIdeal.nD Cert.EvPreIdeal.τ).loc Cert.EvPreIdeal.main_arg4) = m ((c.tc : Thread Cert.EvPreIdeal.nD Cert.EvPreIdeal.τ).loc Cert.EvPreIdeal.main_arg4))
      ∧ θ_run (Cert.EvPreRefIdeal.defs (F := Ideal)) (onTc (τ := Cert.EvPreRefIdeal.τ) (Cert.EvPreRefIdeal.main (F := Ideal))) ⟨m', fun _ => 0, g'⟩ (fun r => ∀ c : Dev Cert.EvPreRefIdeal.nD,
          r.2.mem ((c.tc : Thread Cert.EvPreRefIdeal.nD Cert.EvPreRefIdeal.τ).loc Cert.EvPreRefIdeal.main_v20) = v0 c
          ∧ r.2.mem ((c.tc : Thread Cert.EvPreRefIdeal.nD Cert.EvPreRefIdeal.τ).loc Cert.EvPreRefIdeal.main_v21) = v1 c
          ∧ r.2.mem ((c.tc : Thread Cert.EvPreRefIdeal.nD Cert.EvPreRefIdeal.τ).loc Cert.EvPreRefIdeal.main_arg0) = m' ((c.tc : Thread Cert.EvPreRefIdeal.nD Cert.EvPreRefIdeal.τ).loc Cert.EvPreRefIdeal.main_arg0)
          ∧ r.2.mem ((c.tc : Thread Cert.EvPreRefIdeal.nD Cert.EvPreRefIdeal.τ).loc Cert.EvPreRefIdeal.main_arg1) = m' ((c.tc : Thread Cert.EvPreRefIdeal.nD Cert.EvPreRefIdeal.τ).loc Cert.EvPreRefIdeal.main_arg1)
          ∧ r.2.mem ((c.tc : Thread Cert.EvPreRefIdeal.nD Cert.EvPreRefIdeal.τ).loc Cert.EvPreRefIdeal.main_arg2) = m' ((c.tc : Thread Cert.EvPreRefIdeal.nD Cert.EvPreRefIdeal.τ).loc Cert.EvPreRefIdeal.main_arg2)
          ∧ r.2.mem ((c.tc : Thread Cert.EvPreRefIdeal.nD Cert.EvPreRefIdeal.τ).loc Cert.EvPreRefIdeal.main_arg3) = m' ((c.tc : Thread Cert.EvPreRefIdeal.nD Cert.EvPreRefIdeal.τ).loc Cert.EvPreRefIdeal.main_arg3)
          ∧ r.2.mem ((c.tc : Thread Cert.EvPreRefIdeal.nD Cert.EvPreRefIdeal.τ).loc Cert.EvPreRefIdeal.main_arg4) = m' ((c.tc : Thread Cert.EvPreRefIdeal.nD Cert.EvPreRefIdeal.τ).loc Cert.EvPreRefIdeal.main_arg4))

def preserves_OdEnd_OdEndIdeal : Prop :=
  True

def algebraic_OdEndIdeal_OdEndRefIdeal [hOdEndIdeal : Cert.OdEndIdeal.Facts] [hOdEndRefIdeal : Cert.OdEndRefIdeal.Facts] : Prop :=
  ∀ (m : (ℓ : Loc Cert.OdEndIdeal.nD Cert.OdEndIdeal.τ Cert.OdEndIdeal.sig) → Buf (Elt Ideal) ℓ) (g : Dev Cert.OdEndIdeal.nD → PrngReg)
    (m' : (ℓ : Loc Cert.OdEndRefIdeal.nD Cert.OdEndRefIdeal.τ Cert.OdEndRefIdeal.sig) → Buf (Elt Ideal) ℓ) (g' : Dev Cert.OdEndRefIdeal.nD → PrngReg), Pre_OdEndIdeal m →
    (∀ c : Dev Cert.OdEndIdeal.nD,
      m' ((c.tc : Thread Cert.OdEndRefIdeal.nD Cert.OdEndRefIdeal.τ).loc Cert.OdEndRefIdeal.main_arg0) = m ((c.tc : Thread Cert.OdEndIdeal.nD Cert.OdEndIdeal.τ).loc Cert.OdEndIdeal.main_arg0)
      ∧ m' ((c.tc : Thread Cert.OdEndRefIdeal.nD Cert.OdEndRefIdeal.τ).loc Cert.OdEndRefIdeal.main_arg1) = m ((c.tc : Thread Cert.OdEndIdeal.nD Cert.OdEndIdeal.τ).loc Cert.OdEndIdeal.main_arg1)
      ∧ m' ((c.tc : Thread Cert.OdEndRefIdeal.nD Cert.OdEndRefIdeal.τ).loc Cert.OdEndRefIdeal.main_arg2) = m ((c.tc : Thread Cert.OdEndIdeal.nD Cert.OdEndIdeal.τ).loc Cert.OdEndIdeal.main_arg2)
      ∧ m' ((c.tc : Thread Cert.OdEndRefIdeal.nD Cert.OdEndRefIdeal.τ).loc Cert.OdEndRefIdeal.main_arg3) = m ((c.tc : Thread Cert.OdEndIdeal.nD Cert.OdEndIdeal.τ).loc Cert.OdEndIdeal.main_arg3)
      ∧ m' ((c.tc : Thread Cert.OdEndRefIdeal.nD Cert.OdEndRefIdeal.τ).loc Cert.OdEndRefIdeal.main_arg4) = m ((c.tc : Thread Cert.OdEndIdeal.nD Cert.OdEndIdeal.τ).loc Cert.OdEndIdeal.main_arg4)
      ∧ m' ((c.tc : Thread Cert.OdEndRefIdeal.nD Cert.OdEndRefIdeal.τ).loc Cert.OdEndRefIdeal.main_arg5) = m ((c.tc : Thread Cert.OdEndIdeal.nD Cert.OdEndIdeal.τ).loc Cert.OdEndIdeal.main_arg5)
      ∧ m' ((c.tc : Thread Cert.OdEndRefIdeal.nD Cert.OdEndRefIdeal.τ).loc Cert.OdEndRefIdeal.main_arg6) = m ((c.tc : Thread Cert.OdEndIdeal.nD Cert.OdEndIdeal.τ).loc Cert.OdEndIdeal.main_arg6)
      ∧ m' ((c.tc : Thread Cert.OdEndRefIdeal.nD Cert.OdEndRefIdeal.τ).loc Cert.OdEndRefIdeal.main_arg7) = m ((c.tc : Thread Cert.OdEndIdeal.nD Cert.OdEndIdeal.τ).loc Cert.OdEndIdeal.main_arg7)
      ∧ m' ((c.tc : Thread Cert.OdEndRefIdeal.nD Cert.OdEndRefIdeal.τ).loc Cert.OdEndRefIdeal.main_arg8) = m ((c.tc : Thread Cert.OdEndIdeal.nD Cert.OdEndIdeal.τ).loc Cert.OdEndIdeal.main_arg8)
      ∧ m' ((c.tc : Thread Cert.OdEndRefIdeal.nD Cert.OdEndRefIdeal.τ).loc Cert.OdEndRefIdeal.main_arg9) = m ((c.tc : Thread Cert.OdEndIdeal.nD Cert.OdEndIdeal.τ).loc Cert.OdEndIdeal.main_arg9)) →
    ∃ (v0 : (c : Dev Cert.OdEndIdeal.nD) → Buf (Elt Ideal) ((c.tc : Thread Cert.OdEndIdeal.nD Cert.OdEndIdeal.τ).loc Cert.OdEndIdeal.main_v2)) (v1 : (c : Dev Cert.OdEndIdeal.nD) → Buf (Elt Ideal) ((c.tc : Thread Cert.OdEndIdeal.nD Cert.OdEndIdeal.τ).loc Cert.OdEndIdeal.main_v1_1)) (v2 : (c : Dev Cert.OdEndIdeal.nD) → Buf (Elt Ideal) ((c.tc : Thread Cert.OdEndIdeal.nD Cert.OdEndIdeal.τ).loc Cert.OdEndIdeal.main_v1_2)),
      θ_run (Cert.OdEndIdeal.defs (F := Ideal)) (onTc (τ := Cert.OdEndIdeal.τ) (Cert.OdEndIdeal.main (F := Ideal))) ⟨m, fun _ => 0, g⟩ (fun r => ∀ c : Dev Cert.OdEndIdeal.nD,
          r.2.mem ((c.tc : Thread Cert.OdEndIdeal.nD Cert.OdEndIdeal.τ).loc Cert.OdEndIdeal.main_v2) = v0 c
          ∧ r.2.mem ((c.tc : Thread Cert.OdEndIdeal.nD Cert.OdEndIdeal.τ).loc Cert.OdEndIdeal.main_v1_1) = v1 c
          ∧ r.2.mem ((c.tc : Thread Cert.OdEndIdeal.nD Cert.OdEndIdeal.τ).loc Cert.OdEndIdeal.main_v1_2) = v2 c
          ∧ r.2.mem ((c.tc : Thread Cert.OdEndIdeal.nD Cert.OdEndIdeal.τ).loc Cert.OdEndIdeal.main_arg0) = m ((c.tc : Thread Cert.OdEndIdeal.nD Cert.OdEndIdeal.τ).loc Cert.OdEndIdeal.main_arg0)
          ∧ r.2.mem ((c.tc : Thread Cert.OdEndIdeal.nD Cert.OdEndIdeal.τ).loc Cert.OdEndIdeal.main_arg1) = m ((c.tc : Thread Cert.OdEndIdeal.nD Cert.OdEndIdeal.τ).loc Cert.OdEndIdeal.main_arg1)
          ∧ r.2.mem ((c.tc : Thread Cert.OdEndIdeal.nD Cert.OdEndIdeal.τ).loc Cert.OdEndIdeal.main_arg2) = m ((c.tc : Thread Cert.OdEndIdeal.nD Cert.OdEndIdeal.τ).loc Cert.OdEndIdeal.main_arg2)
          ∧ r.2.mem ((c.tc : Thread Cert.OdEndIdeal.nD Cert.OdEndIdeal.τ).loc Cert.OdEndIdeal.main_arg3) = m ((c.tc : Thread Cert.OdEndIdeal.nD Cert.OdEndIdeal.τ).loc Cert.OdEndIdeal.main_arg3)
          ∧ r.2.mem ((c.tc : Thread Cert.OdEndIdeal.nD Cert.OdEndIdeal.τ).loc Cert.OdEndIdeal.main_arg4) = m ((c.tc : Thread Cert.OdEndIdeal.nD Cert.OdEndIdeal.τ).loc Cert.OdEndIdeal.main_arg4)
          ∧ r.2.mem ((c.tc : Thread Cert.OdEndIdeal.nD Cert.OdEndIdeal.τ).loc Cert.OdEndIdeal.main_arg5) = m ((c.tc : Thread Cert.OdEndIdeal.nD Cert.OdEndIdeal.τ).loc Cert.OdEndIdeal.main_arg5)
          ∧ r.2.mem ((c.tc : Thread Cert.OdEndIdeal.nD Cert.OdEndIdeal.τ).loc Cert.OdEndIdeal.main_arg6) = m ((c.tc : Thread Cert.OdEndIdeal.nD Cert.OdEndIdeal.τ).loc Cert.OdEndIdeal.main_arg6)
          ∧ r.2.mem ((c.tc : Thread Cert.OdEndIdeal.nD Cert.OdEndIdeal.τ).loc Cert.OdEndIdeal.main_arg7) = m ((c.tc : Thread Cert.OdEndIdeal.nD Cert.OdEndIdeal.τ).loc Cert.OdEndIdeal.main_arg7)
          ∧ r.2.mem ((c.tc : Thread Cert.OdEndIdeal.nD Cert.OdEndIdeal.τ).loc Cert.OdEndIdeal.main_arg8) = m ((c.tc : Thread Cert.OdEndIdeal.nD Cert.OdEndIdeal.τ).loc Cert.OdEndIdeal.main_arg8)
          ∧ r.2.mem ((c.tc : Thread Cert.OdEndIdeal.nD Cert.OdEndIdeal.τ).loc Cert.OdEndIdeal.main_arg9) = m ((c.tc : Thread Cert.OdEndIdeal.nD Cert.OdEndIdeal.τ).loc Cert.OdEndIdeal.main_arg9))
      ∧ θ_run (Cert.OdEndRefIdeal.defs (F := Ideal)) (onTc (τ := Cert.OdEndRefIdeal.τ) (Cert.OdEndRefIdeal.main (F := Ideal))) ⟨m', fun _ => 0, g'⟩ (fun r => ∀ c : Dev Cert.OdEndRefIdeal.nD,
          r.2.mem ((c.tc : Thread Cert.OdEndRefIdeal.nD Cert.OdEndRefIdeal.τ).loc Cert.OdEndRefIdeal.main_v28) = v0 c
          ∧ r.2.mem ((c.tc : Thread Cert.OdEndRefIdeal.nD Cert.OdEndRefIdeal.τ).loc Cert.OdEndRefIdeal.main_v29) = v1 c
          ∧ r.2.mem ((c.tc : Thread Cert.OdEndRefIdeal.nD Cert.OdEndRefIdeal.τ).loc Cert.OdEndRefIdeal.main_v46) = v2 c
          ∧ r.2.mem ((c.tc : Thread Cert.OdEndRefIdeal.nD Cert.OdEndRefIdeal.τ).loc Cert.OdEndRefIdeal.main_arg0) = m' ((c.tc : Thread Cert.OdEndRefIdeal.nD Cert.OdEndRefIdeal.τ).loc Cert.OdEndRefIdeal.main_arg0)
          ∧ r.2.mem ((c.tc : Thread Cert.OdEndRefIdeal.nD Cert.OdEndRefIdeal.τ).loc Cert.OdEndRefIdeal.main_arg1) = m' ((c.tc : Thread Cert.OdEndRefIdeal.nD Cert.OdEndRefIdeal.τ).loc Cert.OdEndRefIdeal.main_arg1)
          ∧ r.2.mem ((c.tc : Thread Cert.OdEndRefIdeal.nD Cert.OdEndRefIdeal.τ).loc Cert.OdEndRefIdeal.main_arg2) = m' ((c.tc : Thread Cert.OdEndRefIdeal.nD Cert.OdEndRefIdeal.τ).loc Cert.OdEndRefIdeal.main_arg2)
          ∧ r.2.mem ((c.tc : Thread Cert.OdEndRefIdeal.nD Cert.OdEndRefIdeal.τ).loc Cert.OdEndRefIdeal.main_arg3) = m' ((c.tc : Thread Cert.OdEndRefIdeal.nD Cert.OdEndRefIdeal.τ).loc Cert.OdEndRefIdeal.main_arg3)
          ∧ r.2.mem ((c.tc : Thread Cert.OdEndRefIdeal.nD Cert.OdEndRefIdeal.τ).loc Cert.OdEndRefIdeal.main_arg4) = m' ((c.tc : Thread Cert.OdEndRefIdeal.nD Cert.OdEndRefIdeal.τ).loc Cert.OdEndRefIdeal.main_arg4)
          ∧ r.2.mem ((c.tc : Thread Cert.OdEndRefIdeal.nD Cert.OdEndRefIdeal.τ).loc Cert.OdEndRefIdeal.main_arg5) = m' ((c.tc : Thread Cert.OdEndRefIdeal.nD Cert.OdEndRefIdeal.τ).loc Cert.OdEndRefIdeal.main_arg5)
          ∧ r.2.mem ((c.tc : Thread Cert.OdEndRefIdeal.nD Cert.OdEndRefIdeal.τ).loc Cert.OdEndRefIdeal.main_arg6) = m' ((c.tc : Thread Cert.OdEndRefIdeal.nD Cert.OdEndRefIdeal.τ).loc Cert.OdEndRefIdeal.main_arg6)
          ∧ r.2.mem ((c.tc : Thread Cert.OdEndRefIdeal.nD Cert.OdEndRefIdeal.τ).loc Cert.OdEndRefIdeal.main_arg7) = m' ((c.tc : Thread Cert.OdEndRefIdeal.nD Cert.OdEndRefIdeal.τ).loc Cert.OdEndRefIdeal.main_arg7)
          ∧ r.2.mem ((c.tc : Thread Cert.OdEndRefIdeal.nD Cert.OdEndRefIdeal.τ).loc Cert.OdEndRefIdeal.main_arg8) = m' ((c.tc : Thread Cert.OdEndRefIdeal.nD Cert.OdEndRefIdeal.τ).loc Cert.OdEndRefIdeal.main_arg8)
          ∧ r.2.mem ((c.tc : Thread Cert.OdEndRefIdeal.nD Cert.OdEndRefIdeal.τ).loc Cert.OdEndRefIdeal.main_arg9) = m' ((c.tc : Thread Cert.OdEndRefIdeal.nD Cert.OdEndRefIdeal.τ).loc Cert.OdEndRefIdeal.main_arg9))

def Claim : Prop :=
  ∃ (hDu : Cert.Du.Facts) (hDuIdeal : Cert.DuIdeal.Facts) (hDuRefIdeal : Cert.DuRefIdeal.Facts) (hDw : Cert.Dw.Facts) (hDwIdeal : Cert.DwIdeal.Facts) (hDwRefIdeal : Cert.DwRefIdeal.Facts) (hAttBwd : Cert.AttBwd.Facts) (hAttBwdIdeal : Cert.AttBwdIdeal.Facts) (hAttBwdRefIdeal : Cert.AttBwdRefIdeal.Facts) (hMid : Cert.Mid.Facts) (hMidIdeal : Cert.MidIdeal.Facts) (hMidRefIdeal : Cert.MidRefIdeal.Facts) (hOdIn : Cert.OdIn.Facts) (hOdInIdeal : Cert.OdInIdeal.Facts) (hOdInRefIdeal : Cert.OdInRefIdeal.Facts) (hAttFwd : Cert.AttFwd.Facts) (hAttFwdIdeal : Cert.AttFwdIdeal.Facts) (hAttFwdRefIdeal : Cert.AttFwdRefIdeal.Facts) (hOdOut : Cert.OdOut.Facts) (hOdOutIdeal : Cert.OdOutIdeal.Facts) (hOdOutRefIdeal : Cert.OdOutRefIdeal.Facts) (hLoss : Cert.Loss.Facts) (hLossIdeal : Cert.LossIdeal.Facts) (hLossRefIdeal : Cert.LossRefIdeal.Facts) (hEvOut : Cert.EvOut.Facts) (hEvOutIdeal : Cert.EvOutIdeal.Facts) (hEvOutRefIdeal : Cert.EvOutRefIdeal.Facts) (hEvFwd : Cert.EvFwd.Facts) (hEvFwdIdeal : Cert.EvFwdIdeal.Facts) (hEvFwdRefIdeal : Cert.EvFwdRefIdeal.Facts) (hOdFwd : Cert.OdFwd.Facts) (hOdFwdIdeal : Cert.OdFwdIdeal.Facts) (hOdFwdRefIdeal : Cert.OdFwdRefIdeal.Facts) (hEvPre : Cert.EvPre.Facts) (hEvPreIdeal : Cert.EvPreIdeal.Facts) (hEvPreRefIdeal : Cert.EvPreRefIdeal.Facts) (hOdEnd : Cert.OdEnd.Facts) (hOdEndIdeal : Cert.OdEndIdeal.Facts) (hOdEndRefIdeal : Cert.OdEndRefIdeal.Facts) (hPre_finite : Cert.Pre_finite.Facts) (hPre_finite_qkv : Cert.Pre_finite_qkv.Facts),
    quiescent_Du (hDu := hDu)
    ∧ quiescent_DuIdeal (hDuIdeal := hDuIdeal)
    ∧ quiescent_DuRefIdeal (hDuRefIdeal := hDuRefIdeal)
    ∧ quiescent_Dw (hDw := hDw)
    ∧ quiescent_DwIdeal (hDwIdeal := hDwIdeal)
    ∧ quiescent_DwRefIdeal (hDwRefIdeal := hDwRefIdeal)
    ∧ quiescent_AttBwd (hAttBwd := hAttBwd)
    ∧ quiescent_AttBwdIdeal (hAttBwdIdeal := hAttBwdIdeal)
    ∧ quiescent_AttBwdIdeal_pre_finite (hAttBwdIdeal := hAttBwdIdeal) (hPre_finite := hPre_finite)
    ∧ quiescent_AttBwdRefIdeal (hAttBwdRefIdeal := hAttBwdRefIdeal)
    ∧ quiescent_AttBwdRefIdeal_pre_finite (hAttBwdRefIdeal := hAttBwdRefIdeal) (hPre_finite := hPre_finite)
    ∧ quiescent_Mid (hMid := hMid)
    ∧ quiescent_MidIdeal (hMidIdeal := hMidIdeal)
    ∧ quiescent_MidRefIdeal (hMidRefIdeal := hMidRefIdeal)
    ∧ quiescent_OdIn (hOdIn := hOdIn)
    ∧ quiescent_OdInIdeal (hOdInIdeal := hOdInIdeal)
    ∧ quiescent_OdInRefIdeal (hOdInRefIdeal := hOdInRefIdeal)
    ∧ quiescent_AttFwd (hAttFwd := hAttFwd)
    ∧ quiescent_AttFwdIdeal (hAttFwdIdeal := hAttFwdIdeal)
    ∧ quiescent_AttFwdIdeal_pre_finite_qkv (hAttFwdIdeal := hAttFwdIdeal) (hPre_finite_qkv := hPre_finite_qkv)
    ∧ quiescent_AttFwdRefIdeal (hAttFwdRefIdeal := hAttFwdRefIdeal)
    ∧ quiescent_AttFwdRefIdeal_pre_finite_qkv (hAttFwdRefIdeal := hAttFwdRefIdeal) (hPre_finite_qkv := hPre_finite_qkv)
    ∧ quiescent_OdOut (hOdOut := hOdOut)
    ∧ quiescent_OdOutIdeal (hOdOutIdeal := hOdOutIdeal)
    ∧ quiescent_OdOutRefIdeal (hOdOutRefIdeal := hOdOutRefIdeal)
    ∧ quiescent_Loss (hLoss := hLoss)
    ∧ quiescent_LossIdeal (hLossIdeal := hLossIdeal)
    ∧ quiescent_LossRefIdeal (hLossRefIdeal := hLossRefIdeal)
    ∧ quiescent_EvOut (hEvOut := hEvOut)
    ∧ quiescent_EvOutIdeal (hEvOutIdeal := hEvOutIdeal)
    ∧ quiescent_EvOutRefIdeal (hEvOutRefIdeal := hEvOutRefIdeal)
    ∧ quiescent_EvFwd (hEvFwd := hEvFwd)
    ∧ quiescent_EvFwdIdeal (hEvFwdIdeal := hEvFwdIdeal)
    ∧ quiescent_EvFwdRefIdeal (hEvFwdRefIdeal := hEvFwdRefIdeal)
    ∧ quiescent_OdFwd (hOdFwd := hOdFwd)
    ∧ quiescent_OdFwdIdeal (hOdFwdIdeal := hOdFwdIdeal)
    ∧ quiescent_OdFwdRefIdeal (hOdFwdRefIdeal := hOdFwdRefIdeal)
    ∧ quiescent_EvPre (hEvPre := hEvPre)
    ∧ quiescent_EvPreIdeal (hEvPreIdeal := hEvPreIdeal)
    ∧ quiescent_EvPreRefIdeal (hEvPreRefIdeal := hEvPreRefIdeal)
    ∧ quiescent_OdEnd (hOdEnd := hOdEnd)
    ∧ quiescent_OdEndIdeal (hOdEndIdeal := hOdEndIdeal)
    ∧ quiescent_OdEndRefIdeal (hOdEndRefIdeal := hOdEndRefIdeal)
    ∧ preserves_Du_DuIdeal
    ∧ algebraic_DuIdeal_DuRefIdeal (hDuIdeal := hDuIdeal) (hDuRefIdeal := hDuRefIdeal)
    ∧ preserves_Dw_DwIdeal
    ∧ algebraic_DwIdeal_DwRefIdeal (hDwIdeal := hDwIdeal) (hDwRefIdeal := hDwRefIdeal)
    ∧ preserves_AttBwd_AttBwdIdeal
    ∧ algebraic_AttBwdIdeal_AttBwdRefIdeal_pre_finite (hAttBwdIdeal := hAttBwdIdeal) (hAttBwdRefIdeal := hAttBwdRefIdeal) (hPre_finite := hPre_finite)
    ∧ preserves_Mid_MidIdeal
    ∧ algebraic_MidIdeal_MidRefIdeal (hMidIdeal := hMidIdeal) (hMidRefIdeal := hMidRefIdeal)
    ∧ preserves_OdIn_OdInIdeal
    ∧ algebraic_OdInIdeal_OdInRefIdeal (hOdInIdeal := hOdInIdeal) (hOdInRefIdeal := hOdInRefIdeal)
    ∧ preserves_AttFwd_AttFwdIdeal
    ∧ algebraic_AttFwdIdeal_AttFwdRefIdeal_pre_finite_qkv (hAttFwdIdeal := hAttFwdIdeal) (hAttFwdRefIdeal := hAttFwdRefIdeal) (hPre_finite_qkv := hPre_finite_qkv)
    ∧ preserves_OdOut_OdOutIdeal
    ∧ algebraic_OdOutIdeal_OdOutRefIdeal (hOdOutIdeal := hOdOutIdeal) (hOdOutRefIdeal := hOdOutRefIdeal)
    ∧ preserves_Loss_LossIdeal
    ∧ algebraic_LossIdeal_LossRefIdeal (hLossIdeal := hLossIdeal) (hLossRefIdeal := hLossRefIdeal)
    ∧ preserves_EvOut_EvOutIdeal
    ∧ algebraic_EvOutIdeal_EvOutRefIdeal (hEvOutIdeal := hEvOutIdeal) (hEvOutRefIdeal := hEvOutRefIdeal)
    ∧ preserves_EvFwd_EvFwdIdeal
    ∧ algebraic_EvFwdIdeal_EvFwdRefIdeal (hEvFwdIdeal := hEvFwdIdeal) (hEvFwdRefIdeal := hEvFwdRefIdeal)
    ∧ preserves_OdFwd_OdFwdIdeal
    ∧ algebraic_OdFwdIdeal_OdFwdRefIdeal (hOdFwdIdeal := hOdFwdIdeal) (hOdFwdRefIdeal := hOdFwdRefIdeal)
    ∧ preserves_EvPre_EvPreIdeal
    ∧ algebraic_EvPreIdeal_EvPreRefIdeal (hEvPreIdeal := hEvPreIdeal) (hEvPreRefIdeal := hEvPreRefIdeal)
    ∧ preserves_OdEnd_OdEndIdeal
    ∧ algebraic_OdEndIdeal_OdEndRefIdeal (hOdEndIdeal := hOdEndIdeal) (hOdEndRefIdeal := hOdEndRefIdeal)
-- ==== Pre_finite.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  bcast_S_S8192x4x128 : S_.BroadcastsInDim S8192x4x128 (![] : Fin 0 → Fin S8192x4x128.rank)

variable [Facts]

def fn {F : FTy → Type} [FloatOps F] (main_arg0 : FVec F S8192x4x192 .f32) (main_arg1 : FVec F S8192x4x192 .f32) (main_arg2 : FVec F S8192x4x128 .f32) (main_arg3 : FVec F S8192x4x128 .f32) : IVec S8192x4x192 1 × IVec S8192x4x192 1 × IVec S8192x4x128 1 × IVec S8192x4x128 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_v3 : FVec F S8192x4x192 .f32 := Host.absf main_arg1
  let main_cst_0 : FVec F S_ .f32 := constant S_ .f32 0x7F800000#32
  let main_v4 : FVec F S8192x4x192 .f32 := broadcastInDim S8192x4x192 ![] bcast_S_S8192x4x192 main_cst_0
  let main_v5 : IVec S8192x4x192 1 := cmpf .olt main_v3 main_v4
  let main_v6 : FVec F S8192x4x128 .f32 := Host.absf main_arg2
  let main_cst_1 : FVec F S_ .f32 := constant S_ .f32 0x7F800000#32
  let main_v7 : FVec F S8192x4x128 .f32 := broadcastInDim S8192x4x128 ![] bcast_S_S8192x4x128 main_cst_1
  let main_v8 : IVec S8192x4x128 1 := cmpf .olt main_v6 main_v7
  let main_v9 : FVec F S8192x4x128 .f32 := Host.absf main_arg3
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  (main_v2, main_v5, main_v8, main_v11)
-- ==== Pre_finite_qkv.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  bcast_S_S8192x4x128 : S_.BroadcastsInDim S8192x4x128 (![] : Fin 0 → Fin S8192x4x128.rank)

variable [Facts]

def fn {F : FTy → Type} [FloatOps F] (main_arg0 : FVec F S8192x4x192 .f32) (main_arg1 : FVec F S8192x4x192 .f32) (main_arg2 : FVec F S8192x4x128 .f32) : IVec S8192x4x192 1 × IVec S8192x4x192 1 × IVec S8192x4x128 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_v3 : FVec F S8192x4x192 .f32 := Host.absf main_arg1
  let main_cst_0 : FVec F S_ .f32 := constant S_ .f32 0x7F800000#32
  let main_v4 : FVec F S8192x4x192 .f32 := broadcastInDim S8192x4x192 ![] bcast_S_S8192x4x192 main_cst_0
  let main_v5 : IVec S8192x4x192 1 := cmpf .olt main_v3 main_v4
  let main_v6 : FVec F S8192x4x128 .f32 := Host.absf main_arg2
  let main_cst_1 : FVec F S_ .f32 := constant S_ .f32 0x7F800000#32
  let main_v7 : FVec F S8192x4x128 .f32 := broadcastInDim S8192x4x128 ![] bcast_S_S8192x4x128 main_cst_1
  let main_v8 : IVec S8192x4x128 1 := cmpf .olt main_v6 main_v7
  (main_v2, main_v5, main_v8)
-- ==== Du.lean ====
abbrev S8192x1024 : Shape := ⟨2, ![8192, 1024]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S8192x128 : Shape := ⟨2, ![8192, 128]⟩
abbrev S32x128 : Shape := ⟨2, ![32, 128]⟩
abbrev S1x128 : Shape := ⟨2, ![1, 128]⟩
abbrev S8224x128 : Shape := ⟨2, ![8224, 128]⟩
abbrev S16x128 : Shape := ⟨2, ![16, 128]⟩
abbrev S256x128 : Shape := ⟨2, ![256, 128]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S31x1024, .f32⟩
  | .hbm, ⟨2, _⟩ => ⟨S1024, .f32⟩
  | .hbm, ⟨3, _⟩ => ⟨S8192x1024, .f32⟩
  | .hbm, ⟨4, _⟩ => ⟨S31x1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S8192x1024, .f32⟩
  | .local _ .vmem, ⟨0, _⟩ => ⟨S8192x128, .f32⟩
  | .local _ .vmem, ⟨1, _⟩ => ⟨S8192x128, .f32⟩
  | .local _ .vmem, ⟨2, _⟩ => ⟨S32x128, .f32⟩
  | .local _ .vmem, ⟨3, _⟩ => ⟨S32x128, .f32⟩
  | .local _ .vmem, ⟨4, _⟩ => ⟨S1x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S8224x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v16 : BitVec 32 := Scalar.addi c0_i32 c32_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v17 : BitVec 32 := Scalar.muli arg6 c256_i32
  v17
def k0_off1 (k0_t1 : Fin k0_t1_loop.trips) (c1_i32_11 : BitVec 32) : Fin 2 → Nat :=
  let c0_i32 : BitVec 32 := 0#32
  let c1_i32 : BitVec 32 := 1#32
  let arg6 : BitVec 32 := Scf.iv c0_i32 c1_i32 k0_t1
  let c256_i32 : BitVec 32 := 256#32
  let v17 : BitVec 32 := Scalar.muli arg6 c256_i32
  let v18 : BitVec 32 := v17
  let v21 : BitVec 32 := Scalar.addi v18 c1_i32_11
  let v22 : Index := Scalar.indexCast v21
  let c0_12 : Index := 0#32
  ![v22.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v17 : BitVec 32 := Scalar.muli arg6 c256_i32
  let v18 : BitVec 32 := v17
  let v238 : Index := Scalar.indexCast v18
  let c0_43 : Index := 0#32
  ![v238.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DuRefIdeal.lean ====
abbrev S8192x1024 : Shape := ⟨2, ![8192, 1024]⟩
abbrev S31x1024 : Shape := ⟨2, ![31, 1024]⟩
abbrev S1024 : Shape := ⟨1, ![1024]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S_ : Shape := ⟨0, ![]⟩
abbrev S15x1024 : Shape := ⟨2, ![15, 1024]⟩
abbrev S8222x1024 : Shape := ⟨2, ![8222, 1024]⟩
abbrev S8192x31x1 : Shape := ⟨3, ![8192, 31, 1]⟩
abbrev S8192x31x1024 : Shape := ⟨3, ![8192, 31, 1024]⟩
abbrev S1x31x1024 : Shape := ⟨3, ![1, 31, 1024]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S31x1024, .f32⟩
  | .hbm, ⟨2, _⟩ => ⟨S1024, .f32⟩
  | .hbm, ⟨3, _⟩ => ⟨S8192x1024, .f32⟩
  | .hbm, ⟨4, _⟩ => ⟨S8192, .i32⟩
  | .hbm, ⟨5, _⟩ => ⟨S8192x1, .i32⟩
  | .hbm, ⟨6, _⟩ => ⟨S31, .i32⟩
  | .hbm, ⟨7, _⟩ => ⟨S1x31, .i32⟩
  | .hbm, ⟨8, _⟩ => ⟨S8192x31, .i32⟩
  | .hbm, ⟨9, _⟩ => ⟨S8192x31, .i32⟩
  | .hbm, ⟨10, _⟩ => ⟨S8192x31, .i32⟩
  | .hbm, ⟨11, _⟩ => ⟨S_, .f32⟩
  | .hbm, ⟨12, _⟩ => ⟨S15x1024, .f32⟩
  | .hbm, ⟨13, _⟩ => ⟨S8222x1024, .f32⟩
  | .hbm, ⟨14, _⟩ => ⟨S_, .f32⟩
  | .hbm, ⟨15, _⟩ => ⟨S15x1024, .f32⟩
  | .hbm, ⟨16, _⟩ => ⟨S_, .f32⟩
  | .hbm, ⟨17, _⟩ => ⟨S15x1024, .f32⟩
  | .hbm, ⟨18, _⟩ => ⟨S_, .i32⟩
  | .hbm, ⟨19, _⟩ => ⟨S8192x31, .i32⟩
  | .hbm, ⟨20, _⟩ => ⟨S8192x31, .i1⟩
  | .hbm, ⟨21, _⟩ => ⟨S_, .i32⟩
  | .hbm, ⟨22, _⟩ => ⟨S8192x31, .i32⟩
  | .hbm, ⟨23, _⟩ => ⟨S8192x31, .i32⟩
  | .hbm, ⟨24, _⟩ => ⟨S8192x31, .i32⟩
  | .hbm, ⟨25, _⟩ => ⟨S8192x31x1, .i32⟩
  | .hbm, ⟨26, _⟩ => ⟨S8192x31x1024, .f32⟩
  | .hbm, ⟨27, _⟩ => ⟨S1x31x1024, .f32⟩
  | .hbm, ⟨28, _⟩ => ⟨S8192x31x1024, .f32⟩
  | .hbm, ⟨29, _⟩ => ⟨S8192x31x1024, .f32⟩
  | .hbm, ⟨30, _⟩ => ⟨S_, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S8192x31x1024, .f32⟩
  | .hbm, ⟨42, _⟩ => ⟨S8192x31x1024, .f32⟩
  | .hbm, ⟨43, _⟩ => ⟨S_, .f32⟩
  | .hbm, ⟨44, _⟩ => ⟨S31x1024, .f32⟩
  | .hbm, ⟨45, _⟩ => ⟨S1x31x1024, .f32⟩
  | .hbm, ⟨46, _⟩ => ⟨S8192x31x1024, .f32⟩
  | .hbm, ⟨47, _⟩ => ⟨S8192x31x1024, .f32⟩
  | .hbm, ⟨48, _⟩ => ⟨S_, .f32⟩
  | .hbm, ⟨49, _⟩ => ⟨S31x1024, .f32⟩
  | .hbm, ⟨50, _⟩ => ⟨S_, .f32⟩
  | .hbm, ⟨51, _⟩ => ⟨S8222x1024, .f32⟩
  | .hbm, ⟨52, _⟩ => ⟨S8222x1024, .f32⟩
  | .hbm, ⟨53, _⟩ => ⟨S15x1024, .f32⟩
  | .hbm, ⟨54, _⟩ => ⟨S8192x1024, .f32⟩
  | .hbm, ⟨55, _⟩ => ⟨S15x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Dw.lean ====
abbrev S8192x1024 : Shape := ⟨2, ![8192, 1024]⟩
abbrev S31x1024 : Shape := ⟨2, ![31, 1024]⟩
abbrev S1024 : Shape := ⟨1, ![1024]⟩
abbrev S32x1024 : Shape := ⟨2, ![32, 1024]⟩
abbrev S8192x128 : Shape := ⟨2, ![8192, 128]⟩
abbrev S32x128 : Shape := ⟨2, ![32, 128]⟩
abbrev S8224x128 : Shape := ⟨2, ![8224, 128]⟩
abbrev S256x128 : Shape := ⟨2, ![256, 128]⟩
abbrev S16x128 : Shape := ⟨2, ![16, 128]⟩
abbrev S8x128 : Shape := ⟨2, ![8, 128]⟩
abbrev S32x8x128 : Shape := ⟨3, ![32, 8, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S31x1024, .f32⟩
  | .hbm, ⟨2, _⟩ => ⟨S1024, .f32⟩
  | .hbm, ⟨3, _⟩ => ⟨S8192x1024, .f32⟩
  | .hbm, ⟨4, _⟩ => ⟨S32x1024, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S32x128, .f32⟩
  | .local _ .vmem, ⟨5, _⟩ => ⟨S32x128, .f32⟩
  | .local _ .vmem, ⟨6, _⟩ => ⟨S8224x128, .f32⟩
  | .local _ .vmem, ⟨7, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v16 : BitVec 32 := Scalar.addi c0_i32 c32_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v21 : BitVec 32 := Scalar.muli arg6 c256_i32
  v21
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v21 : BitVec 32 := Scalar.muli arg6 c256_i32
  let v22 : BitVec 32 := v21
  let v23 : Index := Scalar.indexCast v22
  let c0_15 : Index := 0#32
  ![v23.toNat, 0]
def k0_off2 (k0_t1 : Fin k0_t1_loop.trips) (c1_i32_18 : BitVec 32) : Fin 2 → Nat :=
  let c0_i32 : BitVec 32 := 0#32
  let c1_i32 : BitVec 32 := 1#32
  let arg6 : BitVec 32 := Scf.iv c0_i32 c1_i32 k0_t1
  let c256_i32 : BitVec 32 := 256#32
  let v21 : BitVec 32 := Scalar.muli arg6 c256_i32
  let v22 : BitVec 32 := v21
  let v26 : BitVec 32 := Scalar.addi v22 c1_i32_18
  let v27 : Index := Scalar.indexCast v26
  let c0_19 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwRefIdeal.lean ====
abbrev S8192x1024 : Shape := ⟨2, ![8192, 1024]⟩
abbrev S31x1024 : Shape := ⟨2, ![31, 1024]⟩
abbrev S1024 : Shape := ⟨1, ![1024]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S_ : Shape := ⟨0, ![]⟩
abbrev S15x1024 : Shape := ⟨2, ![15, 1024]⟩
abbrev S8222x1024 : Shape := ⟨2, ![8222, 1024]⟩
abbrev S8192x31x1 : Shape := ⟨3, ![8192, 31, 1]⟩
abbrev S8192x31x1024 : Shape := ⟨3, ![8192, 31, 1024]⟩
abbrev S1x31x1024 : Shape := ⟨3, ![1, 31, 1024]⟩
abbrev S1x1024 : Shape := ⟨2, ![1, 1024]⟩
abbrev S32x1024 : Shape := ⟨2, ![32, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S31x1024, .f32⟩
  | .hbm, ⟨2, _⟩ => ⟨S1024, .f32⟩
  | .hbm, ⟨3, _⟩ => ⟨S8192x1024, .f32⟩
  | .hbm, ⟨4, _⟩ => ⟨S8192, .i32⟩
  | .hbm, ⟨5, _⟩ => ⟨S8192x1, .i32⟩
  | .hbm, ⟨6, _⟩ => ⟨S31, .i32⟩
  | .hbm, ⟨7, _⟩ => ⟨S1x31, .i32⟩
  | .hbm, ⟨8, _⟩ => ⟨S8192x31, .i32⟩
  | .hbm, ⟨9, _⟩ => ⟨S8192x31, .i32⟩
  | .hbm, ⟨10, _⟩ => ⟨S8192x31, .i32⟩
  | .hbm, ⟨11, _⟩ => ⟨S_, .f32⟩
  | .hbm, ⟨12, _⟩ => ⟨S15x1024, .f32⟩
  | .hbm, ⟨13, _⟩ => ⟨S8222x1024, .f32⟩
  | .hbm, ⟨14, _⟩ => ⟨S_, .f32⟩
  | .hbm, ⟨15, _⟩ => ⟨S15x1024, .f32⟩
  | .hbm, ⟨16, _⟩ => ⟨S_, .f32⟩
  | .hbm, ⟨17, _⟩ => ⟨S15x1024, .f32⟩
  | .hbm, ⟨18, _⟩ => ⟨S_, .i32⟩
  | .hbm, ⟨19, _⟩ => ⟨S8192x31, .i32⟩
  | .hbm, ⟨20, _⟩ => ⟨S8192x31, .i1⟩
  | .hbm, ⟨21, _⟩ => ⟨S_, .i32⟩
  | .hbm, ⟨22, _⟩ => ⟨S8192x31, .i32⟩
  | .hbm, ⟨23, _⟩ => ⟨S8192x31, .i32⟩
  | .hbm, ⟨24, _⟩ => ⟨S8192x31, .i32⟩
  | .hbm, ⟨25, _⟩ => ⟨S8192x31x1, .i32⟩
  | .hbm, ⟨26, _⟩ => ⟨S8192x31x1024, .f32⟩
  | .hbm, ⟨27, _⟩ => ⟨S1x31x1024, .f32⟩
  | .hbm, ⟨28, _⟩ => ⟨S8192x31x1024, .f32⟩
  | .hbm, ⟨29, _⟩ => ⟨S8192x31x1024, .f32⟩
  | .hbm, ⟨30, _⟩ => ⟨S_, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S8192x31x1024, .f32⟩
  | .hbm, ⟨42, _⟩ => ⟨S8192x31x1024, .f32⟩
  | .hbm, ⟨43, _⟩ => ⟨S_, .f32⟩
  | .hbm, ⟨44, _⟩ => ⟨S31x1024, .f32⟩
  | .hbm, ⟨45, _⟩ => ⟨S1x31x1024, .f32⟩
  | .hbm, ⟨46, _⟩ => ⟨S8192x31x1024, .f32⟩
  | .hbm, ⟨47, _⟩ => ⟨S8192x31x1024, .f32⟩
  | .hbm, ⟨48, _⟩ => ⟨S_, .f32⟩
  | .hbm, ⟨49, _⟩ => ⟨S31x1024, .f32⟩
  | .hbm, ⟨50, _⟩ => ⟨S_, .f32⟩
  | .hbm, ⟨51, _⟩ => ⟨S8222x1024, .f32⟩
  | .hbm, ⟨52, _⟩ => ⟨S8222x1024, .f32⟩
  | .hbm, ⟨53, _⟩ => ⟨S15x1024, .f32⟩
  | .hbm, ⟨54, _⟩ => ⟨S8192x1024, .f32⟩
  | .hbm, ⟨55, _⟩ => ⟨S15x1024, .f32⟩
  | .hbm, ⟨56, _⟩ => ⟨S1x1024, .f32⟩
  | .hbm, ⟨57, _⟩ => ⟨S32x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== AttBwd.lean ====
abbrev S8192x4x192 : Shape := ⟨3, ![8192, 4, 192]⟩
abbrev S8192x4x128 : Shape := ⟨3, ![8192, 4, 128]⟩
abbrev S_ : Shape := ⟨0, ![]⟩
abbrev S4x8192x8192 : Shape := ⟨3, ![4, 8192, 8192]⟩
abbrev S4x8192 : Shape := ⟨2, ![4, 8192]⟩
abbrev S4x1x8192 : Shape := ⟨3, ![4, 1, 8192]⟩
abbrev S4x128x8192 : Shape := ⟨3, ![4, 128, 8192]⟩
abbrev S8192x512 : Shape := ⟨2, ![8192, 512]⟩
abbrev S8192x4x256 : Shape := ⟨3, ![8192, 4, 256]⟩
abbrev S8192x1024 : Shape := ⟨2, ![8192, 1024]⟩
abbrev S2048x256 : Shape := ⟨2, ![2048, 256]⟩
abbrev S2048x128 : Shape := ⟨2, ![2048, 128]⟩
abbrev S1x1x2048 : Shape := ⟨3, ![1, 1, 2048]⟩
abbrev S8192x256 : Shape := ⟨2, ![8192, 256]⟩
abbrev S8192x128 : Shape := ⟨2, ![8192, 128]⟩
abbrev S128x2048 : Shape := ⟨2, ![128, 2048]⟩
abbrev S2048 : Shape := ⟨1, ![2048]⟩
abbrev S1x2048 : Shape := ⟨2, ![1, 2048]⟩
abbrev S1024x256 : Shape := ⟨2, ![1024, 256]⟩
abbrev S1024x2048 : Shape := ⟨2, ![1024, 2048]⟩
abbrev S1024x128 : Shape := ⟨2, ![1024, 128]⟩

abbrev nBuf : Space → Nat
  | .hbm => 68
  | .vmem => 18
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4x192, .f32⟩
  | .hbm, ⟨9, _⟩ => ⟨S8192x4x192, .f32⟩
  | .hbm, ⟨10, _⟩ => ⟨S8192x4x192, .bf16⟩
  | .hbm, ⟨11, _⟩ => ⟨S8192x4x192, .bf16⟩
  | .hbm, ⟨12, _⟩ => ⟨S8192x4x128, .bf16⟩
  | .hbm, ⟨13, _⟩ => ⟨S8192x4x128, .bf16⟩
  | .hbm, ⟨14, _⟩ => ⟨S4x8192x8192, .f32⟩
  | .hbm, ⟨15, _⟩ => ⟨S_, .f32⟩
  | .hbm, ⟨16, _⟩ => ⟨S4x8192, .f32⟩
  | .hbm, ⟨17, _⟩ => ⟨S4x1x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S_, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S4x1x8192, .f32⟩
  | .hbm, ⟨28, _⟩ => ⟨S4x8192x8192, .bf16⟩
  | .hbm, ⟨29, _⟩ => ⟨S4x128x8192, .f32⟩
  | .hbm, ⟨30, _⟩ => ⟨S_, .f32⟩
  | .hbm, ⟨31, _⟩ => ⟨S4x1x8192, .f32⟩
  | .hbm, ⟨32, _⟩ => ⟨S4x1x8192, .f32⟩
  | .hbm, ⟨33, _⟩ => ⟨S4x128x8192, .f32⟩
  | .hbm, ⟨34, _⟩ => ⟨S4x128x8192, .f32⟩
  | .hbm, ⟨35, _⟩ => ⟨S8192x4x128, .f32⟩
  | .hbm, ⟨36, _⟩ => ⟨S8192x512, .f32⟩
  | .hbm, ⟨37, _⟩ => ⟨S4x1x8192, .f32⟩
  | .hbm, ⟨38, _⟩ => ⟨S_, .f32⟩
  | .hbm, ⟨39, _⟩ => ⟨S_, .f32⟩
  | .hbm, ⟨40, _⟩ => ⟨S4x1x8192, .f32⟩
  | .hbm, ⟨41, _⟩ => ⟨S4x1x8192, .f32⟩
  | .hbm, ⟨42, _⟩ => ⟨S4x1x8192, .f32⟩
  | .hbm, ⟨43, _⟩ => ⟨S_, .i32⟩
  | .hbm, ⟨44, _⟩ => ⟨S_, .bf16⟩
  | .hbm, ⟨45, _⟩ => ⟨S8192x4x256, .bf16⟩
  | .hbm, ⟨46, _⟩ => ⟨S8192x1024, .bf16⟩
  | .hbm, ⟨47, _⟩ => ⟨S_, .i32⟩
  | .hbm, ⟨48, _⟩ => ⟨S_, .bf16⟩
  | .hbm, ⟨49, _⟩ => ⟨S8192x4x256, .bf16⟩
  | .hbm, ⟨50, _⟩ => ⟨S8192x1024, .bf16⟩
  | .hbm, ⟨51, _⟩ => ⟨S8192x512, .bf16⟩
  | .hbm, ⟨52, _⟩ => ⟨S8192x512, .bf16⟩
  | .hbm, ⟨53, _⟩ => ⟨S8192x1024, .f32⟩
  | .hbm, ⟨54, _⟩ => ⟨S8192x1024, .f32⟩
  | .hbm, ⟨55, _⟩ => ⟨S8192x512, .f32⟩
  | .hbm, ⟨56, _⟩ => ⟨S8192x4x256, .f32⟩
  | .hbm, ⟨57, _⟩ => ⟨S8192x4x192, .f32⟩
  | .hbm, ⟨58, _⟩ => ⟨S_, .f32⟩
  | .hbm, ⟨59, _⟩ => ⟨S8192x4x192, .f32⟩
  | .hbm, ⟨60, _⟩ => ⟨S8192x4x192, .f32⟩
  | .hbm, ⟨61, _⟩ => ⟨S8192x4x256, .f32⟩
  | .hbm, ⟨62, _⟩ => ⟨S8192x4x192, .f32⟩
  | .hbm, ⟨63, _⟩ => ⟨S_, .f32⟩
  | .hbm, ⟨64, _⟩ => ⟨S_, .f32⟩
  | .hbm, ⟨65, _⟩ => ⟨S8192x4x192, .f32⟩
  | .hbm, ⟨66, _⟩ => ⟨S8192x4x192, .f32⟩
  | .hbm, ⟨67, _⟩ => ⟨S8192x4x128, .f32⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S1x1x2048, .f32⟩
  | .local _ .vmem, ⟨7, _⟩ => ⟨S1x1x2048, .f32⟩
  | .local _ .vmem, ⟨8, _⟩ => ⟨S8192x256, .bf16⟩
  | .local _ .vmem, ⟨9, _⟩ => ⟨S8192x256, .bf16⟩
  | .local _ .vmem, ⟨10, _⟩ => ⟨S8192x128, .bf16⟩
  | .local _ .vmem, ⟨11, _⟩ => ⟨S2048x256, .f32⟩
  | .local _ .vmem, ⟨12, _⟩ => ⟨S2048x256, .f32⟩
  | .local _ .vmem, ⟨13, _⟩ => ⟨S8192x256, .f32⟩
  | .local _ .vmem, ⟨14, _⟩ => ⟨S8192x256, .f32⟩
  | .local _ .vmem, ⟨15, _⟩ => ⟨S8192x128, .f32⟩
  | .local _ .vmem, ⟨16, _⟩ => ⟨S8192x128, .f32⟩
  | .local _ .vmem, ⟨17, _⟩ => ⟨S2048x256, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call0_v0 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_call1_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v38_2 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_10 : BitVec 32 := 0#32
  let c8_i32 : BitVec 32 := 8#32
  let v18 : BitVec 32 := Scalar.addi c0_i32_10 c8_i32
  let c1_i32 : BitVec 32 := 1#32
  ⟨c0_i32_10, v18, c1_i32⟩
def k0_mult1 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32 : BitVec 32 := 1024#32
  let v21 : BitVec 32 := Scalar.muli arg12 c1024_i32
  v21
def k0_off1 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c1024_i32 : BitVec 32 := 1024#32
  let v21 : BitVec 32 := Scalar.muli arg12 c1024_i32
  let v22 : BitVec 32 := v21
  let v23 : Index := Scalar.indexCast v22
  let c0_16 : Index := 0#32
  ![v23.toNat, 0]
def k0_mult2 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32_20 : BitVec 32 := 1024#32
  let v29 : BitVec 32 := Scalar.muli arg12 c1024_i32_20
  v29
def k0_off2 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c1024_i32_20 : BitVec 32 := 1024#32
  let v29 : BitVec 32 := Scalar.muli arg12 c1024_i32_20
  let v30 : BitVec 32 := v29
  let v31 : Index := Scalar.indexCast v30
  let c0_21 : Index := 0#32
  ![v31.toNat, 0]
def k0_mult3 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32_25 : BitVec 32 := 1024#32
  let v44 : BitVec 32 := Scalar.muli arg12 c1024_i32_25
  v44
def k0_mult4 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32_31 : BitVec 32 := 1024#32
  let v56 : BitVec 32 := Scalar.muli arg12 c1024_i32_31
  v56
def k0_mult5 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32_39 : BitVec 32 := 1024#32
  let v68 : BitVec 32 := Scalar.muli arg12 c1024_i32_39
  v68
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttBwdRefIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩

abbrev nBuf : Space → Nat
  | .hbm => 73
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x8192, .f32⟩
  | .hbm, ⟨12, _⟩ => ⟨S4x8192x8192, .i1⟩
  | .hbm, ⟨13, _⟩ => ⟨S4x8192x8192, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .i1⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S4x8192, .f32⟩
  | .hbm, ⟨33, _⟩ => ⟨S4x8192x1, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x8192, .f32⟩
  | .hbm, ⟨41, _⟩ => ⟨S4x8192x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x128x8192, .f32⟩
  | .hbm, ⟨47, _⟩ => ⟨S8192x4x128, .f32⟩
  | .hbm, ⟨48, _⟩ => ⟨S4x128x8192, .f32⟩
  | .hbm, ⟨49, _⟩ => ⟨S4x8192x8192, .f32⟩
  | .hbm, ⟨50, _⟩ => ⟨S4x128x8192, .f32⟩
  | .hbm, ⟨51, _⟩ => ⟨S8192x4x128, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x1, .f32⟩
  | .hbm, ⟨59, _⟩ => ⟨S4x8192x8192, .f32⟩
  | .hbm, ⟨60, _⟩ => ⟨S4x8192x8192, .f32⟩
  | .hbm, ⟨61, _⟩ => ⟨S_, .f32⟩
  | .hbm, ⟨62, _⟩ => ⟨S4x8192, .f32⟩
  | .hbm, ⟨63, _⟩ => ⟨S4x8192x8192, .f32⟩
  | .hbm, ⟨64, _⟩ => ⟨S4x8192x8192, .f32⟩
  | .hbm, ⟨65, _⟩ => ⟨S4x8192x8192, .f32⟩
  | .hbm, ⟨66, _⟩ => ⟨S_, .f32⟩
  | .hbm, ⟨67, _⟩ => ⟨S4x8192x8192, .f32⟩
  | .hbm, ⟨68, _⟩ => ⟨S4x8192x8192, .f32⟩
  | .hbm, ⟨69, _⟩ => ⟨S4x8192x192, .f32⟩
  | .hbm, ⟨70, _⟩ => ⟨S8192x4x192, .f32⟩
  | .hbm, ⟨71, _⟩ => ⟨S4x8192x192, .f32⟩
  | .hbm, ⟨72, _⟩ => ⟨S8192x4x192, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Mid.lean ====
abbrev S8192x384 : Shape := ⟨2, ![8192, 384]⟩
abbrev S8192x256 : Shape := ⟨2, ![8192, 256]⟩
abbrev S8192x64 : Shape := ⟨2, ![8192, 64]⟩
abbrev S8192x32 : Shape := ⟨2, ![8192, 32]⟩
abbrev S384x768 : Shape := ⟨2, ![384, 768]⟩
abbrev S256x1024 : Shape := ⟨2, ![256, 1024]⟩
abbrev S8192x4x192 : Shape := ⟨3, ![8192, 4, 192]⟩
abbrev S8192x4x128 : Shape := ⟨3, ![8192, 4, 128]⟩
abbrev S384x4x192 : Shape := ⟨3, ![384, 4, 192]⟩
abbrev S_ : Shape := ⟨0, ![]⟩
abbrev S384x4x256 : Shape := ⟨3, ![384, 4, 256]⟩
abbrev S8192x4x256 : Shape := ⟨3, ![8192, 4, 256]⟩
abbrev S8192x1024 : Shape := ⟨2, ![8192, 1024]⟩
abbrev S8192x512 : Shape := ⟨2, ![8192, 512]⟩
abbrev S8192x128 : Shape := ⟨2, ![8192, 128]⟩
abbrev S384x1024 : Shape := ⟨2, ![384, 1024]⟩
abbrev S512x1024 : Shape := ⟨2, ![512, 1024]⟩
abbrev S512x512 : Shape := ⟨2, ![512, 512]⟩
abbrev S512x128 : Shape := ⟨2, ![512, 128]⟩
abbrev S512x384 : Shape := ⟨2, ![512, 384]⟩
abbrev S512x256 : Shape := ⟨2, ![512, 256]⟩
abbrev S8192x768 : Shape := ⟨2, ![8192, 768]⟩

abbrev nBuf : Space → Nat
  | .hbm => 49
  | .vmem => 22
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x64, .f32⟩
  | .hbm, ⟨3, _⟩ => ⟨S8192x32, .f32⟩
  | .hbm, ⟨4, _⟩ => ⟨S8192x32, .f32⟩
  | .hbm, ⟨5, _⟩ => ⟨S384x768, .f32⟩
  | .hbm, ⟨6, _⟩ => ⟨S256x1024, .f32⟩
  | .hbm, ⟨7, _⟩ => ⟨S8192x4x192, .f32⟩
  | .hbm, ⟨8, _⟩ => ⟨S8192x4x192, .f32⟩
  | .hbm, ⟨9, _⟩ => ⟨S8192x4x128, .f32⟩
  | .hbm, ⟨10, _⟩ => ⟨S384x4x192, .f32⟩
  | .hbm, ⟨11, _⟩ => ⟨S_, .i32⟩
  | .hbm, ⟨12, _⟩ => ⟨S_, .f32⟩
  | .hbm, ⟨13, _⟩ => ⟨S384x4x256, .f32⟩
  | .hbm, ⟨14, _⟩ => ⟨S_, .f32⟩
  | .hbm, ⟨15, _⟩ => ⟨S8192x4x192, .f32⟩
  | .hbm, ⟨16, _⟩ => ⟨S8192x4x192, .f32⟩
  | .hbm, ⟨17, _⟩ => ⟨S_, .i32⟩
  | .hbm, ⟨18, _⟩ => ⟨S_, .f32⟩
  | .hbm, ⟨19, _⟩ => ⟨S8192x4x256, .f32⟩
  | .hbm, ⟨20, _⟩ => ⟨S8192x1024, .f32⟩
  | .hbm, ⟨21, _⟩ => ⟨S_, .f32⟩
  | .hbm, ⟨22, _⟩ => ⟨S8192x4x192, .f32⟩
  | .hbm, ⟨23, _⟩ => ⟨S8192x4x192, .f32⟩
  | .hbm, ⟨24, _⟩ => ⟨S_, .i32⟩
  | .hbm, ⟨25, _⟩ => ⟨S_, .f32⟩
  | .hbm, ⟨26, _⟩ => ⟨S8192x4x256, .f32⟩
  | .hbm, ⟨27, _⟩ => ⟨S8192x1024, .f32⟩
  | .hbm, ⟨28, _⟩ => ⟨S8192x512, .f32⟩
  | .hbm, ⟨29, _⟩ => ⟨S_, .f32⟩
  | .hbm, ⟨30, _⟩ => ⟨S8192x64, .f32⟩
  | .hbm, ⟨31, _⟩ => ⟨S8192x128, .f32⟩
  | .hbm, ⟨32, _⟩ => ⟨S_, .f32⟩
  | .hbm, ⟨33, _⟩ => ⟨S8192x64, .f32⟩
  | .hbm, ⟨34, _⟩ => ⟨S8192x128, .f32⟩
  | .hbm, ⟨35, _⟩ => ⟨S384x1024, .f32⟩
  | .hbm, ⟨36, _⟩ => ⟨S384x1024, .bf16⟩
  | .hbm, ⟨37, _⟩ => ⟨S256x1024, .bf16⟩
  | .hbm, ⟨38, _⟩ => ⟨S8192x1024, .bf16⟩
  | .hbm, ⟨39, _⟩ => ⟨S8192x1024, .bf16⟩
  | .hbm, ⟨40, _⟩ => ⟨S8192x384, .f32⟩
  | .hbm, ⟨41, _⟩ => ⟨S8192x256, .f32⟩
  | .hbm, ⟨42, _⟩ => ⟨S8192x128, .f32⟩
  | .hbm, ⟨43, _⟩ => ⟨S8192x4x256, .bf16⟩
  | .hbm, ⟨44, _⟩ => ⟨S8192x4x192, .bf16⟩
  | .hbm, ⟨45, _⟩ => ⟨S8192x768, .bf16⟩
  | .hbm, ⟨46, _⟩ => ⟨S8192x768, .f32⟩
  | .hbm, ⟨47, _⟩ => ⟨S8192x1024, .f32⟩
  | .hbm, ⟨48, _⟩ => ⟨S8192x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S384x1024, .bf16⟩
  | .local _ .vmem, ⟨11, _⟩ => ⟨S256x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x384, .f32⟩
  | .local _ .vmem, ⟨17, _⟩ => ⟨S512x384, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_call2_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev main_v18_3 : Ref sig .tc := ⟨.hbm, 41, rfl⟩
abbrev main_v18_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MidRefIdeal.lean ====
abbrev S8192x384 : Shape := ⟨2, ![8192, 384]⟩
abbrev S8192x256 : Shape := ⟨2, ![8192, 256]⟩
abbrev S8192x64 : Shape := ⟨2, ![8192, 64]⟩
abbrev S8192x32 : Shape := ⟨2, ![8192, 32]⟩
abbrev S384x768 : Shape := ⟨2, ![384, 768]⟩
abbrev S256x1024 : Shape := ⟨2, ![256, 1024]⟩
abbrev S8192x4x192 : Shape := ⟨3, ![8192, 4, 192]⟩
abbrev S8192x4x128 : Shape := ⟨3, ![8192, 4, 128]⟩
abbrev S8192x768 : Shape := ⟨2, ![8192, 768]⟩
abbrev S8192x1024 : Shape := ⟨2, ![8192, 1024]⟩
abbrev S8192x4x64 : Shape := ⟨3, ![8192, 4, 64]⟩
abbrev S8192x1x32 : Shape := ⟨3, ![8192, 1, 32]⟩
abbrev S8192x4x32 : Shape := ⟨3, ![8192, 4, 32]⟩
abbrev S8192x4x256 : Shape := ⟨3, ![8192, 4, 256]⟩
abbrev S8192x1x64 : Shape := ⟨3, ![8192, 1, 64]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x64, .f32⟩
  | .hbm, ⟨3, _⟩ => ⟨S8192x32, .f32⟩
  | .hbm, ⟨4, _⟩ => ⟨S8192x32, .f32⟩
  | .hbm, ⟨5, _⟩ => ⟨S384x768, .f32⟩
  | .hbm, ⟨6, _⟩ => ⟨S256x1024, .f32⟩
  | .hbm, ⟨7, _⟩ => ⟨S8192x4x192, .f32⟩
  | .hbm, ⟨8, _⟩ => ⟨S8192x4x192, .f32⟩
  | .hbm, ⟨9, _⟩ => ⟨S8192x4x128, .f32⟩
  | .hbm, ⟨10, _⟩ => ⟨S8192x768, .f32⟩
  | .hbm, ⟨11, _⟩ => ⟨S8192x1024, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x64, .f32⟩
  | .hbm, ⟨21, _⟩ => ⟨S8192x4x192, .f32⟩
  | .hbm, ⟨22, _⟩ => ⟨S8192x4x128, .f32⟩
  | .hbm, ⟨23, _⟩ => ⟨S8192x4x64, .f32⟩
  | .hbm, ⟨24, _⟩ => ⟨S8192x1x32, .f32⟩
  | .hbm, ⟨25, _⟩ => ⟨S8192x1x32, .f32⟩
  | .hbm, ⟨26, _⟩ => ⟨S8192x4x32, .f32⟩
  | .hbm, ⟨27, _⟩ => ⟨S8192x4x32, .f32⟩
  | .hbm, ⟨28, _⟩ => ⟨S8192x4x32, .f32⟩
  | .hbm, ⟨29, _⟩ => ⟨S8192x4x32, .f32⟩
  | .hbm, ⟨30, _⟩ => ⟨S8192x4x32, .f32⟩
  | .hbm, ⟨31, _⟩ => ⟨S8192x4x32, .f32⟩
  | .hbm, ⟨32, _⟩ => ⟨S8192x4x32, .f32⟩
  | .hbm, ⟨33, _⟩ => ⟨S8192x4x32, .f32⟩
  | .hbm, ⟨34, _⟩ => ⟨S8192x4x32, .f32⟩
  | .hbm, ⟨35, _⟩ => ⟨S8192x4x32, .f32⟩
  | .hbm, ⟨36, _⟩ => ⟨S8192x4x32, .f32⟩
  | .hbm, ⟨37, _⟩ => ⟨S8192x4x32, .f32⟩
  | .hbm, ⟨38, _⟩ => ⟨S8192x4x64, .f32⟩
  | .hbm, ⟨39, _⟩ => ⟨S8192x4x192, .f32⟩
  | .hbm, ⟨40, _⟩ => ⟨S8192x4x256, .f32⟩
  | .hbm, ⟨41, _⟩ => ⟨S8192x4x128, .f32⟩
  | .hbm, ⟨42, _⟩ => ⟨S8192x4x128, .f32⟩
  | .hbm, ⟨43, _⟩ => ⟨S8192x1x64, .f32⟩
  | .hbm, ⟨44, _⟩ => ⟨S8192x4x64, .f32⟩
  | .hbm, ⟨45, _⟩ => ⟨S8192x4x192, .f32⟩
  | .hbm, ⟨46, _⟩ => ⟨S8192x4x128, .f32⟩
  | .hbm, ⟨47, _⟩ => ⟨S8192x4x64, .f32⟩
  | .hbm, ⟨48, _⟩ => ⟨S_, .f32⟩
  | .hbm, ⟨49, _⟩ => ⟨S8192x64, .f32⟩
  | .hbm, ⟨50, _⟩ => ⟨S8192x1x64, .f32⟩
  | .hbm, ⟨51, _⟩ => ⟨S_, .f32⟩
  | .hbm, ⟨52, _⟩ => ⟨S8192x64, .f32⟩
  | .hbm, ⟨53, _⟩ => ⟨S_, .f32⟩
  | .hbm, ⟨54, _⟩ => ⟨S8192x4x256, .f32⟩
  | .hbm, ⟨55, _⟩ => ⟨S_, .f32⟩
  | .hbm, ⟨56, _⟩ => ⟨S8192x4x256, .f32⟩
  | .hbm, ⟨57, _⟩ => ⟨S8192x4x256, .f32⟩
  | .hbm, ⟨58, _⟩ => ⟨S8192x1024, .f32⟩
  | .hbm, ⟨59, _⟩ => ⟨S8192x4x128, .f32⟩
  | .hbm, ⟨60, _⟩ => ⟨S8192x4x64, .f32⟩
  | .hbm, ⟨61, _⟩ => ⟨S8192x4x32, .f32⟩
  | .hbm, ⟨62, _⟩ => ⟨S8192x4x32, .f32⟩
  | .hbm, ⟨63, _⟩ => ⟨S8192x4x32, .f32⟩
  | .hbm, ⟨64, _⟩ => ⟨S8192x4x32, .f32⟩
  | .hbm, ⟨65, _⟩ => ⟨S8192x4x32, .f32⟩
  | .hbm, ⟨66, _⟩ => ⟨S8192x4x32, .f32⟩
  | .hbm, ⟨67, _⟩ => ⟨S8192x4x32, .f32⟩
  | .hbm, ⟨68, _⟩ => ⟨S8192x4x32, .f32⟩
  | .hbm, ⟨69, _⟩ => ⟨S8192x4x32, .f32⟩
  | .hbm, ⟨70, _⟩ => ⟨S8192x4x32, .f32⟩
  | .hbm, ⟨71, _⟩ => ⟨S8192x4x32, .f32⟩
  | .hbm, ⟨72, _⟩ => ⟨S8192x4x32, .f32⟩
  | .hbm, ⟨73, _⟩ => ⟨S8192x4x32, .f32⟩
  | .hbm, ⟨74, _⟩ => ⟨S_, .f32⟩
  | .hbm, ⟨75, _⟩ => ⟨S8192x4x64, .f32⟩
  | .hbm, ⟨76, _⟩ => ⟨S_, .f32⟩
  | .hbm, ⟨77, _⟩ => ⟨S8192x4x64, .f32⟩
  | .hbm, ⟨78, _⟩ => ⟨S8192x4x64, .f32⟩
  | .hbm, ⟨79, _⟩ => ⟨S_, .f32⟩
  | .hbm, ⟨80, _⟩ => ⟨S8192x4x192, .f32⟩
  | .hbm, ⟨81, _⟩ => ⟨S_, .f32⟩
  | .hbm, ⟨82, _⟩ => ⟨S8192x4x192, .f32⟩
  | .hbm, ⟨83, _⟩ => ⟨S8192x4x192, .f32⟩
  | .hbm, ⟨84, _⟩ => ⟨S8192x768, .f32⟩
  | .hbm, ⟨85, _⟩ => ⟨S8192x384, .f32⟩
  | .hbm, ⟨86, _⟩ => ⟨S8192x256, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_3 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_cst_5 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== OdIn.lean ====
abbrev S8192x1024 : Shape := ⟨2, ![8192, 1024]⟩
abbrev S1x1024 : Shape := ⟨2, ![1, 1024]⟩
abbrev S1x3072 : Shape := ⟨2, ![1, 3072]⟩
abbrev S1024x3072 : Shape := ⟨2, ![1024, 3072]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S256x1024 : Shape := ⟨2, ![256, 1024]⟩
abbrev S256x3072 : Shape := ⟨2, ![256, 3072]⟩
abbrev S1024 : Shape := ⟨1, ![1024]⟩
abbrev S256 : Shape := ⟨1, ![256]⟩
abbrev S256x1 : Shape := ⟨2, ![256, 1]⟩

abbrev nBuf : Space → Nat
  | .hbm => 23
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x3072, .f32⟩
  | .hbm, ⟨5, _⟩ => ⟨S1x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x3072, .bf16⟩
  | .hbm, ⟨10, _⟩ => ⟨S8192x1024, .bf16⟩
  | .hbm, ⟨11, _⟩ => ⟨S8192x3072, .f32⟩
  | .hbm, ⟨12, _⟩ => ⟨S8192x1024, .f32⟩
  | .hbm, ⟨13, _⟩ => ⟨S8192x1024, .bf16⟩
  | .hbm, ⟨14, _⟩ => ⟨S1024x3072, .bf16⟩
  | .hbm, ⟨15, _⟩ => ⟨S8192x3072, .bf16⟩
  | .hbm, ⟨16, _⟩ => ⟨S8192x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1024x3072, .bf16⟩
  | .local _ .vmem, ⟨7, _⟩ => ⟨S512x1024, .bf16⟩
  | .local _ .vmem, ⟨8, _⟩ => ⟨S512x1024, .bf16⟩
  | .local _ .vmem, ⟨9, _⟩ => ⟨S512x3072, .f32⟩
  | .local _ .vmem, ⟨10, _⟩ => ⟨S512x3072, .f32⟩
  | .local _ .vmem, ⟨11, _⟩ => ⟨S512x1024, .f32⟩
  | .local _ .vmem, ⟨12, _⟩ => ⟨S512x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x3072, .f32⟩
  | .local _ .vmem, ⟨26, _⟩ => ⟨S1x1024, .f32⟩
  | .local _ .vmem, ⟨27, _⟩ => ⟨S1x3072, .f32⟩
  | .local _ .vmem, ⟨28, _⟩ => ⟨S1x3072, .f32⟩
  | .local _ .vmem, ⟨29, _⟩ => ⟨S1024x3072, .bf16⟩
  | .local _ .vmem, ⟨30, _⟩ => ⟨S256x3072, .bf16⟩
  | .local _ .vmem, ⟨31, _⟩ => ⟨S256x3072, .bf16⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_v5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg15_0 : Ref sig .tc := ⟨.vmem, 36, rfl⟩
abbrev cc1_stg16_0 : Ref sig .tc := ⟨.vmem, 37, rfl⟩
abbrev cc1_stg17_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem14_0 : DmaSem sig := 35
abbrev cc1_sem15_0 : DmaSem sig := 36
abbrev cc1_sem16_0 : DmaSem sig := 37
abbrev cc1_sem17_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x3072 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x3072 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x3072 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x3072 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x3072 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== OdInRefIdeal.lean ====
abbrev S8192x1024 : Shape := ⟨2, ![8192, 1024]⟩
abbrev S1x1024 : Shape := ⟨2, ![1, 1024]⟩
abbrev S1x3072 : Shape := ⟨2, ![1, 3072]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S3072 : Shape := ⟨1, ![3072]⟩
abbrev S1024 : Shape := ⟨1, ![1024]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x3072, .f32⟩
  | .hbm, ⟨5, _⟩ => ⟨S1x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x3072, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x3072, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x3072, .f32⟩
  | .hbm, ⟨43, _⟩ => ⟨S_, .f32⟩
  | .hbm, ⟨44, _⟩ => ⟨S1x1024, .f32⟩
  | .hbm, ⟨45, _⟩ => ⟨S8192x3072, .f32⟩
  | .hbm, ⟨46, _⟩ => ⟨S8192x3072, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x3072, .f32⟩
  | .hbm, ⟨68, _⟩ => ⟨S_, .f32⟩
  | .hbm, ⟨69, _⟩ => ⟨S8192x3072, .f32⟩
  | .hbm, ⟨70, _⟩ => ⟨S8192x3072, .f32⟩
  | .hbm, ⟨71, _⟩ => ⟨S_, .f32⟩
  | .hbm, ⟨72, _⟩ => ⟨S8192x3072, .f32⟩
  | .hbm, ⟨73, _⟩ => ⟨S8192x3072, .f32⟩
  | .hbm, ⟨74, _⟩ => ⟨S_, .f32⟩
  | .hbm, ⟨75, _⟩ => ⟨S3072, .f32⟩
  | .hbm, ⟨76, _⟩ => ⟨S1x3072, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192, .f32⟩
  | .hbm, ⟨99, _⟩ => ⟨S8192x1, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== AttFwd.lean ====
abbrev S8192x4x192 : Shape := ⟨3, ![8192, 4, 192]⟩
abbrev S8192x4x128 : Shape := ⟨3, ![8192, 4, 128]⟩
abbrev S_ : Shape := ⟨0, ![]⟩
abbrev S8192x4x256 : Shape := ⟨3, ![8192, 4, 256]⟩
abbrev S8192x1024 : Shape := ⟨2, ![8192, 1024]⟩
abbrev S8192x512 : Shape := ⟨2, ![8192, 512]⟩
abbrev S4x1x8192 : Shape := ⟨3, ![4, 1, 8192]⟩
abbrev S2048x256 : Shape := ⟨2, ![2048, 256]⟩
abbrev S8192x256 : Shape := ⟨2, ![8192, 256]⟩
abbrev S8192x128 : Shape := ⟨2, ![8192, 128]⟩
abbrev S2048x128 : Shape := ⟨2, ![2048, 128]⟩
abbrev S1x1x2048 : Shape := ⟨3, ![1, 1, 2048]⟩
abbrev S1x2048 : Shape := ⟨2, ![1, 2048]⟩
abbrev S128x2048 : Shape := ⟨2, ![128, 2048]⟩
abbrev S1024x2048 : Shape := ⟨2, ![1024, 2048]⟩
abbrev S1024x256 : Shape := ⟨2, ![1024, 256]⟩
abbrev S2048 : Shape := ⟨1, ![2048]⟩
abbrev S1024x128 : Shape := ⟨2, ![1024, 128]⟩
abbrev S4x8192 : Shape := ⟨2, ![4, 8192]⟩

abbrev nBuf : Space → Nat
  | .hbm => 26
  | .vmem => 15
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x4x192, .f32⟩
  | .hbm, ⟨8, _⟩ => ⟨S8192x4x192, .f32⟩
  | .hbm, ⟨9, _⟩ => ⟨S8192x4x192, .bf16⟩
  | .hbm, ⟨10, _⟩ => ⟨S8192x4x192, .bf16⟩
  | .hbm, ⟨11, _⟩ => ⟨S8192x4x128, .bf16⟩
  | .hbm, ⟨12, _⟩ => ⟨S8192x4x128, .bf16⟩
  | .hbm, ⟨13, _⟩ => ⟨S_, .i32⟩
  | .hbm, ⟨14, _⟩ => ⟨S_, .bf16⟩
  | .hbm, ⟨15, _⟩ => ⟨S8192x4x256, .bf16⟩
  | .hbm, ⟨16, _⟩ => ⟨S8192x1024, .bf16⟩
  | .hbm, ⟨17, _⟩ => ⟨S_, .i32⟩
  | .hbm, ⟨18, _⟩ => ⟨S_, .bf16⟩
  | .hbm, ⟨19, _⟩ => ⟨S8192x4x256, .bf16⟩
  | .hbm, ⟨20, _⟩ => ⟨S8192x1024, .bf16⟩
  | .hbm, ⟨21, _⟩ => ⟨S8192x512, .bf16⟩
  | .hbm, ⟨22, _⟩ => ⟨S8192x512, .f32⟩
  | .hbm, ⟨23, _⟩ => ⟨S4x1x8192, .f32⟩
  | .hbm, ⟨24, _⟩ => ⟨S8192x4x128, .f32⟩
  | .hbm, ⟨25, _⟩ => ⟨S4x8192, .f32⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .f32⟩
  | .local _ .vmem, ⟨7, _⟩ => ⟨S2048x128, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S1024x2048, .f32⟩
  | .local _ .vmem, ⟨14, _⟩ => ⟨S1024x2048, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
@[reducible] def k0_t1_loop : Scf.Loop 32 :=
  let c0_i32_13 : BitVec 32 := 0#32
  let c4_i32 : BitVec 32 := 4#32
  let v22 : BitVec 32 := Scalar.addi c0_i32_13 c4_i32
  let c1_i32 : BitVec 32 := 1#32
  ⟨c0_i32_13, v22, c1_i32⟩
def k0_mult2 (k0_t1 : Fin k0_t1_loop.trips) : BitVec 32 :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1_i32_28 : BitVec 32 := 1#32
  let v40 : BitVec 32 := Scalar.addi v39 c1_i32_28
  let c1024_i32 : BitVec 32 := 1024#32
  let v41 : BitVec 32 := Scalar.muli v40 c1024_i32
  v41
def k0_off1 (k0_t1 : Fin k0_t1_loop.trips) : Fin 2 → Nat :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1_i32_28 : BitVec 32 := 1#32
  let v40 : BitVec 32 := Scalar.addi v39 c1_i32_28
  let c1024_i32 : BitVec 32 := 1024#32
  let v41 : BitVec 32 := Scalar.muli v40 c1024_i32
  let v42 : BitVec 32 := v41
  let v43 : Index := Scalar.indexCast v42
  let c0_29 : Index := 0#32
  ![v43.toNat, 0]
def k0_mult3 (k0_t1 : Fin k0_t1_loop.trips) : BitVec 32 :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1024_i32_45 : BitVec 32 := 1024#32
  let v70 : BitVec 32 := Scalar.muli v39 c1024_i32_45
  v70
def k0_off2 (k0_t1 : Fin k0_t1_loop.trips) : Fin 2 → Nat :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1024_i32_45 : BitVec 32 := 1024#32
  let v70 : BitVec 32 := Scalar.muli v39 c1024_i32_45
  let v71 : BitVec 32 := v70
  let v72 : Index := Scalar.indexCast v71
  let c0_46 : Index := 0#32
  ![v72.toNat, 0]
def k0_mult4 (k0_t1 : Fin k0_t1_loop.trips) : BitVec 32 :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c2_i32_54 : BitVec 32 := 2#32
  let v87 : BitVec 32 := Scalar.addi v39 c2_i32_54
  let c7_i32 : BitVec 32 := 7#32
  let v88 : BitVec 32 := Scalar.minsi v87 c7_i32
  let c1024_i32_55 : BitVec 32 := 1024#32
  let v89 : BitVec 32 := Scalar.muli v88 c1024_i32_55
  v89
def k0_off3 (k0_t1 : Fin k0_t1_loop.trips) : Fin 2 → Nat :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c2_i32_54 : BitVec 32 := 2#32
  let v87 : BitVec 32 := Scalar.addi v39 c2_i32_54
  let c7_i32 : BitVec 32 := 7#32
  let v88 : BitVec 32 := Scalar.minsi v87 c7_i32
  let c1024_i32_55 : BitVec 32 := 1024#32
  let v89 : BitVec 32 := Scalar.muli v88 c1024_i32_55
  let v90 : BitVec 32 := v89
  let v91 : Index := Scalar.indexCast v90
  let c0_56 : Index := 0#32
  ![v91.toNat, 0]
def k0_mult5 (k0_t1 : Fin k0_t1_loop.trips) : BitVec 32 :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1_i32_64 : BitVec 32 := 1#32
  let v101 : BitVec 32 := Scalar.addi v39 c1_i32_64
  let c1024_i32_73 : BitVec 32 := 1024#32
  let v119 : BitVec 32 := Scalar.muli v101 c1024_i32_73
  v119
def k0_off4 (k0_t1 : Fin k0_t1_loop.trips) : Fin 2 → Nat :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1_i32_64 : BitVec 32 := 1#32
  let v101 : BitVec 32 := Scalar.addi v39 c1_i32_64
  let c1024_i32_73 : BitVec 32 := 1024#32
  let v119 : BitVec 32 := Scalar.muli v101 c1024_i32_73
  let v120 : BitVec 32 := v119
  let v121 : Index := Scalar.indexCast v120
  let c0_74 : Index := 0#32
  ![v121.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttFwdIdeal.lean ====
variable {F : FTy → Type} [FloatOps F] [Named F]
def κ : String → Option EReal := fun
  | "INV_LN2" => some (((Real.log 2)⁻¹ : ℝ) : EReal)
  | _ => none
-- ==== AttFwdRefIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S4x8192x8192, .f32⟩
  | .hbm, ⟨4, _⟩ => ⟨S_, .f32⟩
  | .hbm, ⟨5, _⟩ => ⟨S4x8192x8192, .f32⟩
  | .hbm, ⟨6, _⟩ => ⟨S4x8192x8192, .f32⟩
  | .hbm, ⟨7, _⟩ => ⟨S4x8192x8192, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S4x8192x1, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x8192, .f32⟩
  | .hbm, ⟨24, _⟩ => ⟨S4x8192x8192, .f32⟩
  | .hbm, ⟨25, _⟩ => ⟨S4x128x8192, .f32⟩
  | .hbm, ⟨26, _⟩ => ⟨S8192x4x128, .f32⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S4x8192, .f32⟩
  | .hbm, ⟨31, _⟩ => ⟨S_, .f32⟩
  | .hbm, ⟨32, _⟩ => ⟨S_, .f32⟩
  | .hbm, ⟨33, _⟩ => ⟨S4x8192, .f32⟩
  | .hbm, ⟨34, _⟩ => ⟨S4x8192, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== OdOut.lean ====
abbrev S8192x1024 : Shape := ⟨2, ![8192, 1024]⟩
abbrev S8192x3072 : Shape := ⟨2, ![8192, 3072]⟩
abbrev S1x3072 : Shape := ⟨2, ![1, 3072]⟩
abbrev S1x1024 : Shape := ⟨2, ![1, 1024]⟩
abbrev S1024x1024 : Shape := ⟨2, ![1024, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 45
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1x3072, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1x1024, .f32⟩
  | .hbm, ⟨7, _⟩ => ⟨S1x3072, .f32⟩
  | .hbm, ⟨8, _⟩ => ⟨S1x3072, .f32⟩
  | .hbm, ⟨9, _⟩ => ⟨S8192x1024, .f32⟩
  | .hbm, ⟨10, _⟩ => ⟨S1024x1024, .bf16⟩
  | .hbm, ⟨11, _⟩ => ⟨S_, .f32⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x3072, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x3072, .f32⟩
  | .local _ .vmem, ⟨11, _⟩ => ⟨S1x3072, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1x3072, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x3072, .f32⟩
  | .local _ .vmem, ⟨32, _⟩ => ⟨S1x3072, .f32⟩
  | .local _ .vmem, ⟨33, _⟩ => ⟨S1024x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .f32⟩
  | .local _ .vmem, ⟨37, _⟩ => ⟨S512x1024, .f32⟩
  | .local _ .vmem, ⟨38, _⟩ => ⟨S512x1024, .bf16⟩
  | .local _ .vmem, ⟨39, _⟩ => ⟨S512x1024, .bf16⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v3_4 : Ref sig .tc := ⟨.hbm, 20, rfl⟩
abbrev main_v3_5 : Ref sig .tc := ⟨.hbm, 21, rfl⟩
abbrev main_v3_6 : Ref sig .tc := ⟨.hbm, 22, rfl⟩
abbrev main_v3_7 : Ref sig .tc := ⟨.hbm, 23, rfl⟩
abbrev main_v4 : Ref sig .tc := ⟨.hbm, 24, rfl⟩
abbrev main_v5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc1_stg13_0 : Ref sig .tc := ⟨.vmem, 38, rfl⟩
abbrev cc1_stg13_1 : Ref sig .tc := ⟨.vmem, 39, rfl⟩
abbrev cc1_stg14_0 : Ref sig .tc := ⟨.vmem, 40, rfl⟩
abbrev cc1_stg15_0 : Ref sig .tc := ⟨.vmem, 41, rfl⟩
abbrev cc1_stg16_0 : Ref sig .tc := ⟨.vmem, 42, rfl⟩
abbrev cc1_stg17_0 : Ref sig .tc := ⟨.vmem, 43, rfl⟩
abbrev cc1_stg18_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35
abbrev cc1_sem12_0 : DmaSem sig := 36
abbrev cc1_sem12_1 : DmaSem sig := 37
abbrev cc1_sem13_0 : DmaSem sig := 38
abbrev cc1_sem13_1 : DmaSem sig := 39
abbrev cc1_sem14_0 : DmaSem sig := 40
abbrev cc1_sem15_0 : DmaSem sig := 41
abbrev cc1_sem16_0 : DmaSem sig := 42
abbrev cc1_sem17_0 : DmaSem sig := 43
abbrev cc1_sem18_0 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x3072 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x3072 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]
-- ==== OdOutRefIdeal.lean ====
abbrev S8192x1024 : Shape := ⟨2, ![8192, 1024]⟩
abbrev S8192x3072 : Shape := ⟨2, ![8192, 3072]⟩
abbrev S1x3072 : Shape := ⟨2, ![1, 3072]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 182
  | .vmem => 0
  | .smem => 0
  | _ => 0

abbrev hbmTy0_0 (i : Nat) : BufTy := match i % 128 with
  | 0 => ⟨S8192x1024, .f32⟩
  | 1 => ⟨S8192x3072, .f32⟩
  | 2 => ⟨S1x3072, .f32⟩
  | 3 => ⟨S1x1024, .f32⟩
  | 4 => ⟨S1x1024, .f32⟩
  | 5 => ⟨S1024x1024, .f32⟩
  | 6 => ⟨S1x1024, .f32⟩
  | 7 => ⟨S1x3072, .f32⟩
  | 8 => ⟨S1x3072, .f32⟩
  | 9 => ⟨S8192x1024, .f32⟩
  | 10 => ⟨S8192x1024, .f32⟩
  | 11 => ⟨S1x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S1x3072, .f32⟩
  | 77 => ⟨S1x1024, .f32⟩
  | 78 => ⟨S8192x1024, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S_, .f32⟩
  | 113 => ⟨S8192, .f32⟩
  | 114 => ⟨S8192x1, .f32⟩
  | 115 => ⟨S8192x1024, .f32⟩
  | 116 => ⟨S8192x1024, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S1024, .f32⟩
  | 16 => ⟨S1x1024, .f32⟩
  | 17 => ⟨S8192x1024, .f32⟩
  | 18 => ⟨S_, .f32⟩
  | 19 => ⟨S1024, .f32⟩
  | 20 => ⟨S1x1024, .f32⟩
  | 21 => ⟨S8192x1024, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S8192x1024, .f32⟩
  | 28 => ⟨S8192x1024, .f32⟩
  | 29 => ⟨S8192x1, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192, .f32⟩
  | 39 => ⟨S8192x1024, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S8192x1024, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192, .f32⟩
  | 52 => ⟨S8192x1024, .f32⟩
  | 53 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v29_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v29_1 : Ref sig .tc := ⟨.hbm, 57, rfl⟩
abbrev main_v29_0 : Ref sig .tc := ⟨.hbm, 58, rfl⟩
abbrev main_v30 : Ref sig .tc := ⟨.hbm, 59, rfl⟩
abbrev main_v31 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_v32_2 : Ref sig .tc := ⟨.hbm, 68, rfl⟩
abbrev main_call1_cst_1 : Ref sig .tc := ⟨.hbm, 69, rfl⟩
abbrev main_call1_v6 : Ref sig .tc := ⟨.hbm, 70, rfl⟩
abbrev main_call1_v7 : Ref sig .tc := ⟨.hbm, 71, rfl⟩
abbrev main_v32_1 : Ref sig .tc := ⟨.hbm, 72, rfl⟩
abbrev main_v32_0 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_6 : Ref sig .tc := ⟨.hbm, 79, rfl⟩
abbrev main_v38 : Ref sig .tc := ⟨.hbm, 80, rfl⟩
abbrev main_v39 : Ref sig .tc := ⟨.hbm, 81, rfl⟩
abbrev main_cst_7 : Ref sig .tc := ⟨.hbm, 82, rfl⟩
abbrev main_v40 : Ref sig .tc := ⟨.hbm, 83, rfl⟩
abbrev main_v41 : Ref sig .tc := ⟨.hbm, 84, rfl⟩
abbrev main_cst_8 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_9 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_10 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_11 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_12 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_13 : Ref sig .tc := ⟨.hbm, 118, rfl⟩
abbrev main_v70 : Ref sig .tc := ⟨.hbm, 119, rfl⟩
abbrev main_v71 : Ref sig .tc := ⟨.hbm, 120, rfl⟩
abbrev main_cst_14 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_v81 : Ref sig .tc := ⟨.hbm, 134, rfl⟩
abbrev main_cst_15 : Ref sig .tc := ⟨.hbm, 135, rfl⟩
abbrev main_v82 : Ref sig .tc := ⟨.hbm, 136, rfl⟩
abbrev main_v83 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v84 : Ref sig .tc := ⟨.hbm, 141, rfl⟩
abbrev main_cst_16 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_cst_17 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_18 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_19 : Ref sig .tc := ⟨.hbm, 159, rfl⟩
abbrev main_v99 : Ref sig .tc := ⟨.hbm, 160, rfl⟩
abbrev main_v100 : Ref sig .tc := ⟨.hbm, 161, rfl⟩
abbrev main_cst_20 : Ref sig .tc := ⟨.hbm, 162, rfl⟩
abbrev main_v101 : Ref sig .tc := ⟨.hbm, 163, rfl⟩
abbrev main_v102 : Ref sig .tc := ⟨.hbm, 164, rfl⟩
abbrev main_cst_21 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_22 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_23 : Ref sig .tc := ⟨.hbm, 175, rfl⟩
abbrev main_v111 : Ref sig .tc := ⟨.hbm, 176, rfl⟩
abbrev main_v112 : Ref sig .tc := ⟨.hbm, 177, rfl⟩
abbrev main_cst_24 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩

abbrev nD : Nat := 1
abbrev τ : Topo := Topo.v7x

variable {F : FTy → Type} [FloatOps F]
-- ==== Loss.lean ====
abbrev S8192x1024 : Shape := ⟨2, ![8192, 1024]⟩
abbrev S8192x3072 : Shape := ⟨2, ![8192, 3072]⟩
abbrev S1024x1024 : Shape := ⟨2, ![1024, 1024]⟩
abbrev S1x3072 : Shape := ⟨2, ![1, 3072]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 19
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .f32⟩
  | .hbm, ⟨3, _⟩ => ⟨S1024x1024, .f32⟩
  | .hbm, ⟨4, _⟩ => ⟨S1x3072, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x3072, .f32⟩
  | .hbm, ⟨9, _⟩ => ⟨S1x3072, .f32⟩
  | .hbm, ⟨10, _⟩ => ⟨S8192x1024, .f32⟩
  | .hbm, ⟨11, _⟩ => ⟨S1024x1024, .bf16⟩
  | .hbm, ⟨12, _⟩ => ⟨S8192x1024, .bf16⟩
  | .hbm, ⟨13, _⟩ => ⟨S8192x1024, .f32⟩
  | .hbm, ⟨14, _⟩ => ⟨S8192x1024, .f32⟩
  | .hbm, ⟨15, _⟩ => ⟨S1x128, .f32⟩
  | .hbm, ⟨16, _⟩ => ⟨S8192x1024, .f32⟩
  | .hbm, ⟨17, _⟩ => ⟨S1x1, .f32⟩
  | .hbm, ⟨18, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x3072, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x3072, .f32⟩
  | .local _ .vmem, ⟨13, _⟩ => ⟨S1x3072, .f32⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== LossRefIdeal.lean ====
abbrev S8192x1024 : Shape := ⟨2, ![8192, 1024]⟩
abbrev S8192x3072 : Shape := ⟨2, ![8192, 3072]⟩
abbrev S1024x1024 : Shape := ⟨2, ![1024, 1024]⟩
abbrev S1x3072 : Shape := ⟨2, ![1, 3072]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .f32⟩
  | .hbm, ⟨3, _⟩ => ⟨S1024x1024, .f32⟩
  | .hbm, ⟨4, _⟩ => ⟨S1x3072, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x3072, .f32⟩
  | .hbm, ⟨9, _⟩ => ⟨S1x3072, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x3072, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S8192, .f32⟩
  | .hbm, ⟨100, _⟩ => ⟨S_, .f32⟩
  | .hbm, ⟨101, _⟩ => ⟨S8192, .f32⟩
  | .hbm, ⟨102, _⟩ => ⟨S8192, .f32⟩
  | .hbm, ⟨103, _⟩ => ⟨S8192x1024, .f32⟩
  | .hbm, ⟨104, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_cst_5 : Ref sig .tc := ⟨.hbm, 68, rfl⟩
abbrev main_v35 : Ref sig .tc := ⟨.hbm, 69, rfl⟩
abbrev main_v36 : Ref sig .tc := ⟨.hbm, 70, rfl⟩
abbrev main_cst_6 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_7 : Ref sig .tc := ⟨.hbm, 84, rfl⟩
abbrev main_v49 : Ref sig .tc := ⟨.hbm, 85, rfl⟩
abbrev main_v50 : Ref sig .tc := ⟨.hbm, 86, rfl⟩
abbrev main_cst_8 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_v53 : Ref sig .tc := ⟨.hbm, 91, rfl⟩
abbrev main_cst_10 : Ref sig .tc := ⟨.hbm, 92, rfl⟩
abbrev main_v54 : Ref sig .tc := ⟨.hbm, 93, rfl⟩
abbrev main_cst_11 : Ref sig .tc := ⟨.hbm, 94, rfl⟩
abbrev main_v55 : Ref sig .tc := ⟨.hbm, 95, rfl⟩
abbrev main_cst_12 : Ref sig .tc := ⟨.hbm, 96, rfl⟩
abbrev main_cst_13 : Ref sig .tc := ⟨.hbm, 97, rfl⟩
abbrev main_v56 : Ref sig .tc := ⟨.hbm, 98, rfl⟩
abbrev main_v57 : Ref sig .tc := ⟨.hbm, 99, rfl⟩
abbrev main_cst_14 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩

abbrev nD : Nat := 1
abbrev τ : Topo := Topo.v7x

variable {F : FTy → Type} [FloatOps F]
-- ==== EvOut.lean ====
abbrev S8192x512 : Shape := ⟨2, ![8192, 512]⟩
abbrev S1024x1024 : Shape := ⟨2, ![1024, 1024]⟩
abbrev S1x1024 : Shape := ⟨2, ![1, 1024]⟩
abbrev S1x3072 : Shape := ⟨2, ![1, 3072]⟩
abbrev S8192x1024 : Shape := ⟨2, ![8192, 1024]⟩
abbrev S_ : Shape := ⟨0, ![]⟩
abbrev S8192x1536 : Shape := ⟨2, ![8192, 1536]⟩
abbrev S8192x768 : Shape := ⟨2, ![8192, 768]⟩
abbrev S8192x3328 : Shape := ⟨2, ![8192, 3328]⟩
abbrev S8192x4x128 : Shape := ⟨3, ![8192, 4, 128]⟩
abbrev S8192x4 : Shape := ⟨2, ![8192, 4]⟩
abbrev S8192x4x1 : Shape := ⟨3, ![8192, 4, 1]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S512x128 : Shape := ⟨2, ![512, 128]⟩
abbrev S512x384 : Shape := ⟨2, ![512, 384]⟩
abbrev S512x256 : Shape := ⟨2, ![512, 256]⟩

abbrev nBuf : Space → Nat
  | .hbm => 77
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x1024, .f32⟩
  | .hbm, ⟨6, _⟩ => ⟨S1x1024, .f32⟩
  | .hbm, ⟨7, _⟩ => ⟨S1x3072, .f32⟩
  | .hbm, ⟨8, _⟩ => ⟨S1x3072, .f32⟩
  | .hbm, ⟨9, _⟩ => ⟨S8192x1024, .f32⟩
  | .hbm, ⟨10, _⟩ => ⟨S8192x1024, .f32⟩
  | .hbm, ⟨11, _⟩ => ⟨S8192x512, .bf16⟩
  | .hbm, ⟨12, _⟩ => ⟨S1024x1024, .bf16⟩
  | .hbm, ⟨13, _⟩ => ⟨S_, .f32⟩
  | .hbm, ⟨14, _⟩ => ⟨S8192x1536, .f32⟩
  | .hbm, ⟨15, _⟩ => ⟨S_, .f32⟩
  | .hbm, ⟨16, _⟩ => ⟨S8192x768, .f32⟩
  | .hbm, ⟨17, _⟩ => ⟨S8192x3328, .f32⟩
  | .hbm, ⟨18, _⟩ => ⟨S8192x512, .f32⟩
  | .hbm, ⟨19, _⟩ => ⟨S8192x4x128, .f32⟩
  | .hbm, ⟨20, _⟩ => ⟨S_, .f32⟩
  | .hbm, ⟨21, _⟩ => ⟨S8192x4, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S_, .f32⟩
  | .hbm, ⟨30, _⟩ => ⟨S8192x4, .f32⟩
  | .hbm, ⟨31, _⟩ => ⟨S8192x4x1, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S8192x4x128, .f32⟩
  | .hbm, ⟨36, _⟩ => ⟨S8192x4x128, .f32⟩
  | .hbm, ⟨37, _⟩ => ⟨S_, .f32⟩
  | .hbm, ⟨38, _⟩ => ⟨S8192x4x1, .f32⟩
  | .hbm, ⟨39, _⟩ => ⟨S8192x4x1, .f32⟩
  | .hbm, ⟨40, _⟩ => ⟨S8192x4x1, .f32⟩
  | .hbm, ⟨41, _⟩ => ⟨S8192x4x128, .f32⟩
  | .hbm, ⟨42, _⟩ => ⟨S8192x4x128, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x1024, .f32⟩
  | .hbm, ⟨65, _⟩ => ⟨S8192x1024, .bf16⟩
  | .hbm, ⟨66, _⟩ => ⟨S8192x1024, .f32⟩
  | .hbm, ⟨67, _⟩ => ⟨S8192x1024, .bf16⟩
  | .hbm, ⟨68, _⟩ => ⟨S8192x512, .bf16⟩
  | .hbm, ⟨69, _⟩ => ⟨S8192x512, .f32⟩
  | .hbm, ⟨70, _⟩ => ⟨S8192x512, .bf16⟩
  | .hbm, ⟨71, _⟩ => ⟨S8192x512, .f32⟩
  | .hbm, ⟨72, _⟩ => ⟨S1x1024, .f32⟩
  | .hbm, ⟨73, _⟩ => ⟨S1x1024, .f32⟩
  | .hbm, ⟨74, _⟩ => ⟨S8192x1024, .f32⟩
  | .hbm, ⟨75, _⟩ => ⟨S8192x512, .f32⟩
  | .hbm, ⟨76, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x1024, .f32⟩
  | .local _ .vmem, ⟨13, _⟩ => ⟨S1x3072, .f32⟩
  | .local _ .vmem, ⟨14, _⟩ => ⟨S1x3072, .f32⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S1x1024, .f32⟩
  | .local _ .vmem, ⟨27, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v27 : Ref sig .tc := ⟨.hbm, 52, rfl⟩
abbrev main_v28 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34_0 : Ref sig .tc := ⟨.hbm, 67, rfl⟩
abbrev main_v34_1 : Ref sig .tc := ⟨.hbm, 68, rfl⟩
abbrev main_v34_2 : Ref sig .tc := ⟨.hbm, 69, rfl⟩
abbrev main_v34_3 : Ref sig .tc := ⟨.hbm, 70, rfl⟩
abbrev main_v34_4 : Ref sig .tc := ⟨.hbm, 71, rfl⟩
abbrev main_v34_5 : Ref sig .tc := ⟨.hbm, 72, rfl⟩
abbrev main_v34_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== EvOutRefIdeal.lean ====
abbrev S8192x512 : Shape := ⟨2, ![8192, 512]⟩
abbrev S1024x1024 : Shape := ⟨2, ![1024, 1024]⟩
abbrev S1x1024 : Shape := ⟨2, ![1, 1024]⟩
abbrev S1x3072 : Shape := ⟨2, ![1, 3072]⟩
abbrev S8192x1024 : Shape := ⟨2, ![8192, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S8192 : Shape := ⟨1, ![8192]⟩
abbrev S8192x1 : Shape := ⟨2, ![8192, 1]⟩
abbrev S1024 : Shape := ⟨1, ![1024]⟩

abbrev nBuf : Space → Nat
  | .hbm => 173
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S1024x1024, .f32⟩
  | 6 => ⟨S1x1024, .f32⟩
  | 7 => ⟨S1x3072, .f32⟩
  | 8 => ⟨S1x3072, .f32⟩
  | 9 => ⟨S8192x1024, .f32⟩
  | 10 => ⟨S8192x512, .f32⟩
  | 11 => ⟨S8192x4x128, .f32⟩
  | 12 => ⟨S_, .f32⟩
  | 13 => ⟨S8192x4, .f32⟩
  | 14 => ⟨S8192x4x1, .f32⟩
  | 15 => ⟨S_, .f32⟩
  | 16 => ⟨S8192x4x1, .f32⟩
  | 17 => ⟨S8192x4x1, .f32⟩
  | 18 => ⟨S8192x4x128, .f32⟩
  | 19 => ⟨S8192x4x128, .f32⟩
  | 20 => ⟨S8192x4x128, .f32⟩
  | 21 => ⟨S_, .f32⟩
  | 22 => ⟨S8192x4x128, .f32⟩
  | 23 => ⟨S8192x4x128, .f32⟩
  | 24 => ⟨S_, .f32⟩
  | 25 => ⟨S8192x4, .f32⟩
  | 26 => ⟨S8192x4x1, .f32⟩
  | 27 => ⟨S_, .f32⟩
  | 28 => ⟨S8192x4x1, .f32⟩
  | 29 => ⟨S8192x4x1, .f32⟩
  | 30 => ⟨S8192x4x128, .f32⟩
  | 31 => ⟨S8192x4x128, .f32⟩
  | 32 => ⟨S_, .f32⟩
  | 33 => ⟨S8192x4x1, .f32⟩
  | 34 => ⟨S8192x4x1, .f32⟩
  | 35 => ⟨S8192x4x1, .f32⟩
  | 36 => ⟨S8192x4x1, .f32⟩
  | 37 => ⟨S_, .f32⟩
  | 38 => ⟨S8192x4x1, .f32⟩
  | 39 => ⟨S8192x4x1, .f32⟩
  | 40 => ⟨S8192x4x128, .f32⟩
  | 41 => ⟨S8192x4x128, .f32⟩
  | 42 => ⟨S8192x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S_, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S8192x1024, .f32⟩
  | 72 => ⟨S8192x1024, .f32⟩
  | 73 => ⟨S1x3072, .f32⟩
  | 74 => ⟨S1x1024, .f32⟩
  | 75 => ⟨S8192x1024, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x512, .f32⟩
  | 127 => ⟨S8192x512, .f32⟩
  | _ => ⟨S8192x512, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x4x128, .f32⟩
  | 13 => ⟨S8192x4x128, .f32⟩
  | 14 => ⟨S_, .f32⟩
  | 15 => ⟨S8192x4, .f32⟩
  | 16 => ⟨S8192x4x1, .f32⟩
  | 17 => ⟨S8192x4x128, .f32⟩
  | 18 => ⟨S8192x4x128, .f32⟩
  | 19 => ⟨S8192x4x1, .f32⟩
  | 20 => ⟨S8192x4x128, .f32⟩
  | 21 => ⟨S_, .f32⟩
  | 22 => ⟨S8192x4, .f32⟩
  | 23 => ⟨S8192x4x1, .f32⟩
  | 24 => ⟨S_, .f32⟩
  | 25 => ⟨S8192x4x1, .f32⟩
  | 26 => ⟨S8192x4x1, .f32⟩
  | 27 => ⟨S_, .f32⟩
  | 28 => ⟨S8192x4, .f32⟩
  | 29 => ⟨S8192x4x128, .f32⟩
  | 30 => ⟨S8192x4x128, .f32⟩
  | 31 => ⟨S8192x4x128, .f32⟩
  | 32 => ⟨S_, .f32⟩
  | 33 => ⟨S8192x4, .f32⟩
  | 34 => ⟨S8192x4x1, .f32⟩
  | 35 => ⟨S8192x4x128, .f32⟩
  | 36 => ⟨S8192x4x1, .f32⟩
  | 37 => ⟨S_, .f32⟩
  | 38 => ⟨S8192x4x1, .f32⟩
  | 39 => ⟨S8192x4x1, .f32⟩
  | 40 => ⟨S_, .f32⟩
  | 41 => ⟨S8192x4, .f32⟩
  | 42 => ⟨S8192x4x128, .f32⟩
  | 43 => ⟨S8192x4x128, .f32⟩
  | 44 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v26_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v26_1 : Ref sig .tc := ⟨.hbm, 54, rfl⟩
abbrev main_v26_0 : Ref sig .tc := ⟨.hbm, 55, rfl⟩
abbrev main_v27 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_v28_2 : Ref sig .tc := ⟨.hbm, 64, rfl⟩
abbrev main_call1_cst_1 : Ref sig .tc := ⟨.hbm, 65, rfl⟩
abbrev main_call1_v6 : Ref sig .tc := ⟨.hbm, 66, rfl⟩
abbrev main_call1_v7 : Ref sig .tc := ⟨.hbm, 67, rfl⟩
abbrev main_v28_1 : Ref sig .tc := ⟨.hbm, 68, rfl⟩
abbrev main_v28_0 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_6 : Ref sig .tc := ⟨.hbm, 76, rfl⟩
abbrev main_v35 : Ref sig .tc := ⟨.hbm, 77, rfl⟩
abbrev main_v36 : Ref sig .tc := ⟨.hbm, 78, rfl⟩
abbrev main_cst_7 : Ref sig .tc := ⟨.hbm, 79, rfl⟩
abbrev main_v37 : Ref sig .tc := ⟨.hbm, 80, rfl⟩
abbrev main_v38 : Ref sig .tc := ⟨.hbm, 81, rfl⟩
abbrev main_cst_8 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_9 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_10 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_11 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_12 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_13 : Ref sig .tc := ⟨.hbm, 115, rfl⟩
abbrev main_v67 : Ref sig .tc := ⟨.hbm, 116, rfl⟩
abbrev main_v68 : Ref sig .tc := ⟨.hbm, 117, rfl⟩
abbrev main_cst_14 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_15 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_16 : Ref sig .tc := ⟨.hbm, 149, rfl⟩
abbrev main_v92 : Ref sig .tc := ⟨.hbm, 150, rfl⟩
abbrev main_v93 : Ref sig .tc := ⟨.hbm, 151, rfl⟩
abbrev main_cst_17 : Ref sig .tc := ⟨.hbm, 152, rfl⟩
abbrev main_v94 : Ref sig .tc := ⟨.hbm, 153, rfl⟩
abbrev main_v95 : Ref sig .tc := ⟨.hbm, 154, rfl⟩
abbrev main_cst_18 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_19 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_20 : Ref sig .tc := ⟨.hbm, 165, rfl⟩
abbrev main_v104 : Ref sig .tc := ⟨.hbm, 166, rfl⟩
abbrev main_v105 : Ref sig .tc := ⟨.hbm, 167, rfl⟩
abbrev main_cst_21 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩

abbrev nD : Nat := 1
abbrev τ : Topo := Topo.v7x

variable {F : FTy → Type} [FloatOps F]
-- ==== EvFwd.lean ====
abbrev S8192x512 : Shape := ⟨2, ![8192, 512]⟩
abbrev S1024x1024 : Shape := ⟨2, ![1024, 1024]⟩
abbrev S1x1024 : Shape := ⟨2, ![1, 1024]⟩
abbrev S1x3072 : Shape := ⟨2, ![1, 3072]⟩
abbrev S8192x1024 : Shape := ⟨2, ![8192, 1024]⟩
abbrev S_ : Shape := ⟨0, ![]⟩
abbrev S8192x1536 : Shape := ⟨2, ![8192, 1536]⟩
abbrev S8192x768 : Shape := ⟨2, ![8192, 768]⟩
abbrev S8192x3328 : Shape := ⟨2, ![8192, 3328]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 22
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x1024, .f32⟩
  | .hbm, ⟨6, _⟩ => ⟨S1x1024, .f32⟩
  | .hbm, ⟨7, _⟩ => ⟨S1x3072, .f32⟩
  | .hbm, ⟨8, _⟩ => ⟨S1x3072, .f32⟩
  | .hbm, ⟨9, _⟩ => ⟨S8192x1024, .f32⟩
  | .hbm, ⟨10, _⟩ => ⟨S_, .f32⟩
  | .hbm, ⟨11, _⟩ => ⟨S8192x1536, .f32⟩
  | .hbm, ⟨12, _⟩ => ⟨S_, .f32⟩
  | .hbm, ⟨13, _⟩ => ⟨S8192x768, .f32⟩
  | .hbm, ⟨14, _⟩ => ⟨S8192x3328, .f32⟩
  | .hbm, ⟨15, _⟩ => ⟨S8192x1024, .f32⟩
  | .hbm, ⟨16, _⟩ => ⟨S8192x512, .bf16⟩
  | .hbm, ⟨17, _⟩ => ⟨S1024x1024, .bf16⟩
  | .hbm, ⟨18, _⟩ => ⟨S8192x1024, .bf16⟩
  | .hbm, ⟨19, _⟩ => ⟨S8192x1024, .f32⟩
  | .hbm, ⟨20, _⟩ => ⟨S8192x1024, .f32⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x3072, .f32⟩
  | .local _ .vmem, ⟨12, _⟩ => ⟨S1x3072, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== EvFwdRefIdeal.lean ====
abbrev S8192x512 : Shape := ⟨2, ![8192, 512]⟩
abbrev S1024x1024 : Shape := ⟨2, ![1024, 1024]⟩
abbrev S1x1024 : Shape := ⟨2, ![1, 1024]⟩
abbrev S1x3072 : Shape := ⟨2, ![1, 3072]⟩
abbrev S8192x1024 : Shape := ⟨2, ![8192, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S8192 : Shape := ⟨1, ![8192]⟩
abbrev S8192x1 : Shape := ⟨2, ![8192, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x1024, .f32⟩
  | .hbm, ⟨6, _⟩ => ⟨S1x1024, .f32⟩
  | .hbm, ⟨7, _⟩ => ⟨S1x3072, .f32⟩
  | .hbm, ⟨8, _⟩ => ⟨S1x3072, .f32⟩
  | .hbm, ⟨9, _⟩ => ⟨S8192x1024, .f32⟩
  | .hbm, ⟨10, _⟩ => ⟨S8192x512, .f32⟩
  | .hbm, ⟨11, _⟩ => ⟨S8192x4x128, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S8192x4x128, .f32⟩
  | .hbm, ⟨19, _⟩ => ⟨S8192x4x128, .f32⟩
  | .hbm, ⟨20, _⟩ => ⟨S8192x4x128, .f32⟩
  | .hbm, ⟨21, _⟩ => ⟨S_, .f32⟩
  | .hbm, ⟨22, _⟩ => ⟨S8192x4, .f32⟩
  | .hbm, ⟨23, _⟩ => ⟨S8192x4x1, .f32⟩
  | .hbm, ⟨24, _⟩ => ⟨S_, .f32⟩
  | .hbm, ⟨25, _⟩ => ⟨S8192x4x1, .f32⟩
  | .hbm, ⟨26, _⟩ => ⟨S8192x4x1, .f32⟩
  | .hbm, ⟨27, _⟩ => ⟨S8192x4x128, .f32⟩
  | .hbm, ⟨28, _⟩ => ⟨S8192x4x128, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S8192x4x128, .f32⟩
  | .hbm, ⟨34, _⟩ => ⟨S8192x4x128, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x1024, .f32⟩
  | .hbm, ⟨57, _⟩ => ⟨S8192x1024, .f32⟩
  | .hbm, ⟨58, _⟩ => ⟨S1x3072, .f32⟩
  | .hbm, ⟨59, _⟩ => ⟨S1x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v21 : Ref sig .tc := ⟨.hbm, 44, rfl⟩
abbrev main_v22 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_cst_6 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]
-- ==== OdFwd.lean ====
abbrev S8192x1024 : Shape := ⟨2, ![8192, 1024]⟩
abbrev S1x1024 : Shape := ⟨2, ![1, 1024]⟩
abbrev S1x3072 : Shape := ⟨2, ![1, 3072]⟩
abbrev S1024x3072 : Shape := ⟨2, ![1024, 3072]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x3072, .f32⟩
  | .hbm, ⟨5, _⟩ => ⟨S1x3072, .f32⟩
  | .hbm, ⟨6, _⟩ => ⟨S1024x3072, .bf16⟩
  | .hbm, ⟨7, _⟩ => ⟨S8192x1024, .bf16⟩
  | .hbm, ⟨8, _⟩ => ⟨S8192x3072, .f32⟩
  | .hbm, ⟨9, _⟩ => ⟨S8192x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1024x3072, .bf16⟩
  | .local _ .vmem, ⟨7, _⟩ => ⟨S512x1024, .bf16⟩
  | .local _ .vmem, ⟨8, _⟩ => ⟨S512x1024, .bf16⟩
  | .local _ .vmem, ⟨9, _⟩ => ⟨S512x3072, .f32⟩
  | .local _ .vmem, ⟨10, _⟩ => ⟨S512x3072, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OdFwdRefIdeal.lean ====
abbrev S8192x1024 : Shape := ⟨2, ![8192, 1024]⟩
abbrev S1x1024 : Shape := ⟨2, ![1, 1024]⟩
abbrev S1x3072 : Shape := ⟨2, ![1, 3072]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x3072, .f32⟩
  | .hbm, ⟨5, _⟩ => ⟨S1x3072, .f32⟩
  | .hbm, ⟨6, _⟩ => ⟨S1x3072, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x3072, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x3072, .f32⟩
  | .hbm, ⟨36, _⟩ => ⟨S8192x3072, .f32⟩
  | .hbm, ⟨37, _⟩ => ⟨S8192x3072, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== EvPre.lean ====
abbrev S8192x1024 : Shape := ⟨2, ![8192, 1024]⟩
abbrev S1x1024 : Shape := ⟨2, ![1, 1024]⟩
abbrev S1x3072 : Shape := ⟨2, ![1, 3072]⟩
abbrev S1024x2752 : Shape := ⟨2, ![1024, 2752]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S1024x1024 : Shape := ⟨2, ![1024, 1024]⟩
abbrev S1024x640 : Shape := ⟨2, ![1024, 640]⟩
abbrev S1024x64 : Shape := ⟨2, ![1024, 64]⟩
abbrev S1024x1x64 : Shape := ⟨3, ![1024, 1, 64]⟩
abbrev S1024x1x128 : Shape := ⟨3, ![1024, 1, 128]⟩
abbrev S1024x128 : Shape := ⟨2, ![1024, 128]⟩
abbrev S1024x3328 : Shape := ⟨2, ![1024, 3328]⟩
abbrev S8192x3328 : Shape := ⟨2, ![8192, 3328]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩
abbrev S8192x512 : Shape := ⟨2, ![8192, 512]⟩
abbrev S8192x4x128 : Shape := ⟨3, ![8192, 4, 128]⟩
abbrev S8192x4x64 : Shape := ⟨3, ![8192, 4, 64]⟩
abbrev S8192x256 : Shape := ⟨2, ![8192, 256]⟩
abbrev S8192x640 : Shape := ⟨2, ![8192, 640]⟩
abbrev S8192x64 : Shape := ⟨2, ![8192, 64]⟩
abbrev S8192x2752 : Shape := ⟨2, ![8192, 2752]⟩

abbrev nBuf : Space → Nat
  | .hbm => 44
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x2752, .f32⟩
  | .hbm, ⟨5, _⟩ => ⟨S1024x256, .f32⟩
  | .hbm, ⟨6, _⟩ => ⟨S1024x4x64, .f32⟩
  | .hbm, ⟨7, _⟩ => ⟨S_, .i32⟩
  | .hbm, ⟨8, _⟩ => ⟨S_, .f32⟩
  | .hbm, ⟨9, _⟩ => ⟨S1024x4x128, .f32⟩
  | .hbm, ⟨10, _⟩ => ⟨S1024x512, .f32⟩
  | .hbm, ⟨11, _⟩ => ⟨S1024x256, .f32⟩
  | .hbm, ⟨12, _⟩ => ⟨S1024x4x64, .f32⟩
  | .hbm, ⟨13, _⟩ => ⟨S_, .i32⟩
  | .hbm, ⟨14, _⟩ => ⟨S_, .f32⟩
  | .hbm, ⟨15, _⟩ => ⟨S1024x4x128, .f32⟩
  | .hbm, ⟨16, _⟩ => ⟨S1024x512, .f32⟩
  | .hbm, ⟨17, _⟩ => ⟨S1024x1024, .f32⟩
  | .hbm, ⟨18, _⟩ => ⟨S1024x512, .f32⟩
  | .hbm, ⟨19, _⟩ => ⟨S1024x640, .f32⟩
  | .hbm, ⟨20, _⟩ => ⟨S1024x64, .f32⟩
  | .hbm, ⟨21, _⟩ => ⟨S1024x1x64, .f32⟩
  | .hbm, ⟨22, _⟩ => ⟨S_, .i32⟩
  | .hbm, ⟨23, _⟩ => ⟨S_, .f32⟩
  | .hbm, ⟨24, _⟩ => ⟨S1024x1x128, .f32⟩
  | .hbm, ⟨25, _⟩ => ⟨S1024x128, .f32⟩
  | .hbm, ⟨26, _⟩ => ⟨S1024x3328, .f32⟩
  | .hbm, ⟨27, _⟩ => ⟨S1024x3328, .bf16⟩
  | .hbm, ⟨28, _⟩ => ⟨S8192x1024, .bf16⟩
  | .hbm, ⟨29, _⟩ => ⟨S8192x3328, .f32⟩
  | .hbm, ⟨30, _⟩ => ⟨S8192x1024, .f32⟩
  | .hbm, ⟨31, _⟩ => ⟨S8192x512, .f32⟩
  | .hbm, ⟨32, _⟩ => ⟨S8192x4x128, .f32⟩
  | .hbm, ⟨33, _⟩ => ⟨S8192x4x64, .f32⟩
  | .hbm, ⟨34, _⟩ => ⟨S8192x256, .f32⟩
  | .hbm, ⟨35, _⟩ => ⟨S8192x512, .f32⟩
  | .hbm, ⟨36, _⟩ => ⟨S8192x4x128, .f32⟩
  | .hbm, ⟨37, _⟩ => ⟨S8192x4x64, .f32⟩
  | .hbm, ⟨38, _⟩ => ⟨S8192x256, .f32⟩
  | .hbm, ⟨39, _⟩ => ⟨S8192x1024, .f32⟩
  | .hbm, ⟨40, _⟩ => ⟨S8192x640, .f32⟩
  | .hbm, ⟨41, _⟩ => ⟨S8192x64, .f32⟩
  | .hbm, ⟨42, _⟩ => ⟨S8192x512, .f32⟩
  | .hbm, ⟨43, _⟩ => ⟨S8192x2752, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3072, .f32⟩
  | .local _ .vmem, ⟨4, _⟩ => ⟨S1x3072, .f32⟩
  | .local _ .vmem, ⟨5, _⟩ => ⟨S1024x3328, .bf16⟩
  | .local _ .vmem, ⟨6, _⟩ => ⟨S512x1024, .bf16⟩
  | .local _ .vmem, ⟨7, _⟩ => ⟨S512x1024, .bf16⟩
  | .local _ .vmem, ⟨8, _⟩ => ⟨S512x3328, .f32⟩
  | .local _ .vmem, ⟨9, _⟩ => ⟨S512x3328, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3328 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvPreRefIdeal.lean ====
abbrev S8192x1024 : Shape := ⟨2, ![8192, 1024]⟩
abbrev S1x1024 : Shape := ⟨2, ![1, 1024]⟩
abbrev S1x3072 : Shape := ⟨2, ![1, 3072]⟩
abbrev S1024x2752 : Shape := ⟨2, ![1024, 2752]⟩
abbrev S_ : Shape := ⟨0, ![]⟩
abbrev S8192 : Shape := ⟨1, ![8192]⟩
abbrev S8192x1 : Shape := ⟨2, ![8192, 1]⟩
abbrev S8192x2752 : Shape := ⟨2, ![8192, 2752]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x2752, .f32⟩
  | .hbm, ⟨5, _⟩ => ⟨S1x3072, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x2752, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OdEnd.lean ====
abbrev S8192x1024 : Shape := ⟨2, ![8192, 1024]⟩
abbrev S8192x3072 : Shape := ⟨2, ![8192, 3072]⟩
abbrev S1024x1024 : Shape := ⟨2, ![1024, 1024]⟩
abbrev S1x3072 : Shape := ⟨2, ![1, 3072]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .f32⟩
  | .hbm, ⟨3, _⟩ => ⟨S1024x1024, .f32⟩
  | .hbm, ⟨4, _⟩ => ⟨S1x3072, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x3072, .f32⟩
  | .hbm, ⟨9, _⟩ => ⟨S1x3072, .f32⟩
  | .hbm, ⟨10, _⟩ => ⟨S1024x1024, .bf16⟩
  | .hbm, ⟨11, _⟩ => ⟨S8192x1024, .bf16⟩
  | .hbm, ⟨12, _⟩ => ⟨S8192x1024, .f32⟩
  | .hbm, ⟨13, _⟩ => ⟨S8192x1024, .f32⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x3072, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x3072, .f32⟩
  | .local _ .vmem, ⟨11, _⟩ => ⟨S1x3072, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OdEndRefIdeal.lean ====
abbrev S8192x1024 : Shape := ⟨2, ![8192, 1024]⟩
abbrev S8192x3072 : Shape := ⟨2, ![8192, 3072]⟩
abbrev S1024x1024 : Shape := ⟨2, ![1024, 1024]⟩
abbrev S1x3072 : Shape := ⟨2, ![1, 3072]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .f32⟩
  | .hbm, ⟨3, _⟩ => ⟨S1024x1024, .f32⟩
  | .hbm, ⟨4, _⟩ => ⟨S1x3072, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x3072, .f32⟩
  | .hbm, ⟨9, _⟩ => ⟨S1x3072, .f32⟩
  | .hbm, ⟨10, _⟩ => ⟨S8192x1024, .f32⟩
  | .hbm, ⟨11, _⟩ => ⟨S1x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x3072, .f32⟩
  | .hbm, ⟨62, _⟩ => ⟨S1x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩

abbrev nD : Nat := 1
abbrev τ : Topo := Topo.v7x

variable {F : FTy → Type} [FloatOps F]
-- ==== Proof.AttFwdRun.lean ====
module
public import proofs.«01_k».proof.Proof.Gen.AttFwdIdeal.Frame.Runs
public import Idealize.ShloMosaic.Lib.WholeRead
public import Idealize.ShloMosaic.Lib.VecWindow
@[expose] public section
set_option maxRecDepth 16384
noncomputable section
namespace Cert.AttFwdIdeal.Val
open Cert.AttFwdIdeal Cert.AttFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The running maximum, sum, weighted sum, and the first of the two score blocks. -/
abbrev State (F : FTy → Type) := Vec F S1x2048 .f32 × Vec F S1x2048 .f32 × Vec F S128x2048 .f32 × Vec F S1024x2048 .f32

/-- The band of a block's rows that begins at an offset. -/
abbrev band {A B W : ℕ} {e : EltTy} (x : Vec F (⟨2, ![A, B]⟩ : Shape) e) (off : Fin 2 → ℕ) (inb : ∀ a : Fin 2, off a + (![W, B] : Fin 2 → ℕ) a ≤ (![A, B] : Fin 2 → ℕ) a) : Vec F (⟨2, ![W, B]⟩ : Shape) e :=
  fun j => x ((Rect.unit (s := (⟨2, ![A, B]⟩ : Shape)) off ![W, B] inb).toLoadRect.idx j)

/-- A load of a whole buffer reads its contents. -/
theorem whole_read {A B : ℕ} {e : EltTy} {a : Memref sig .tc .vmem (⟨2, ![A, B]⟩ : Shape) e} (h : a.IsWhole) (x : Vec F (⟨2, ![A, B]⟩ : Shape) e) {off : Fin 2 → ℕ} (inb : ∀ a : Fin 2, off a + (![A, B] : Fin 2 → ℕ) a ≤ (![A, B] : Fin 2 → ℕ) a) :
    View.readAt (Elt F) a.view (Rect.unit (s := (⟨2, ![A, B]⟩ : Shape)) off ![A, B] inb).toLoadRect (h.unread x) = x := by
  funext j
  rw [h.readAt_unread]
  congr 1
  funext b
  refine Fin.ext ?_
  show off b + 1 * (j b).val = (j b).val
  have := inb b
  omega

/-- A store of a whole buffer leaves what was stored. -/
theorem whole_left {A B : ℕ} {e : EltTy} (v : View sig .tc .vmem (⟨2, ![A, B]⟩ : Shape) e) (f : v.ty.Contents (Elt F)) {off : Fin 2 → ℕ} (inb : ∀ a : Fin 2, off a + (![A, B] : Fin 2 → ℕ) a ≤ (![A, B] : Fin 2 → ℕ) a)
    (w : Vec F (⟨2, ![A, B]⟩ : Shape) e) (L : List (View.Piece (Elt F) (⟨2, ![A, B]⟩ : Shape) e)) :
    v.read (Elt F) (v.writes (Elt F) f (⟨Rect.unit (s := (⟨2, ![A, B]⟩ : Shape)) off ![A, B] inb, w⟩ :: L)) = w :=
  View.read_writes_full v f inb w L

/-- A load of a whole buffer just stored reads what was stored. -/
theorem whole_back {A B : ℕ} {e : EltTy} (v : View sig .tc .vmem (⟨2, ![A, B]⟩ : Shape) e) {off off' : Fin 2 → ℕ} (inb : ∀ a : Fin 2, off a + (![A, B] : Fin 2 → ℕ) a ≤ (![A, B] : Fin 2 → ℕ) a)
    (inb' : ∀ a : Fin 2, off' a + (![A, B] : Fin 2 → ℕ) a ≤ (![A, B] : Fin 2 → ℕ) a)
    (w : Vec F (⟨2, ![A, B]⟩ : Shape) e) (L : List (View.Piece (Elt F) (⟨2, ![A, B]⟩ : Shape) e)) :
    v.readCov (⟨Rect.unit (s := (⟨2, ![A, B]⟩ : Shape)) off' ![A, B] inb', w⟩ :: L) (Rect.unit (s := (⟨2, ![A, B]⟩ : Shape)) off ![A, B] inb).toLoadRect = w :=
  View.readCov_full v inb inb' w L

/-- A load of a band of rows reads the band of the contents. -/
theorem band_load {A B W : ℕ} {e : EltTy} {a : Memref sig .tc .vmem (⟨2, ![A, B]⟩ : Shape) e} (h : a.IsWhole) (x : Vec F (⟨2, ![A, B]⟩ : Shape) e) (off : Fin 2 → ℕ) (inb : ∀ a : Fin 2, off a + (![W, B] : Fin 2 → ℕ) a ≤ (![A, B] : Fin 2 → ℕ) a) :
    View.readAt (Elt F) a.view (Rect.unit (s := (⟨2, ![A, B]⟩ : Shape)) off ![W, B] inb).toLoadRect (h.unread x) = band x off inb :=
  funext fun j => h.readAt_unread x _ j

variable (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole)
  (x0 : Vec F S2048x256 .bf16) (x1 : Vec F S8192x256 .bf16) (x2 : Vec F S8192x128 .bf16)

/-- One trip on values: two blocks of keys are consumed and the scores of the next two are computed. -/
def trip (k : Fin k0_t1_loop.trips) (s : State F) : State F :=
  have sb := k0_pay3 (band x1 (k0_off1 k) (k0_off1_inb k)) x0
  have m1 := k0_pay10 (k0_pay4 s.2.2.2 s.1)
  have l1 := k0_pay7 s.2.2.2 s.1 s.2.1
  have a1 := k0_pay9 (k0_pay5 s.2.2.2 s.1) (k0_pay6 s.2.2.2 s.1) (k0_pay8 (band x2 (k0_off2 k) (k0_off2_inb k))) s.2.2.1
  (k0_pay22 (k0_pay12 sb m1), k0_pay20 (k0_pay13 sb m1) (k0_pay14 sb m1) l1,
    k0_pay21 (k0_pay13 sb m1) (k0_pay14 sb m1) (band x2 (k0_off4 k) (k0_off4_inb k)) a1, k0_pay11 (band x1 (k0_off3 k) (k0_off3_inb k)) x0)

/-- What the loop's region holds: the blocks it reads, and the running values. -/
abbrev Held (s : State F) : sProp 𝕄 :=
  iprop(owns (c : Thread nD τ) arg2 fullShare x0 ∗ owns (c : Thread nD τ) arg3 fullShare x1 ∗ owns (c : Thread nD τ) arg4 fullShare x2
    ∗ owns (c : Thread nD τ) arg7 fullShare s.1 ∗ owns (c : Thread nD τ) arg8 fullShare s.2.1 ∗ owns (c : Thread nD τ) arg9 fullShare s.2.2.1
    ∗ owns (c : Thread nD τ) arg10 fullShare s.2.2.2 ∗ (∃ d, owns (c : Thread nD τ) arg11 fullShare d))

/-- A trip takes the running values to the trip's. -/
theorem trip_wp (E : Set ℕ) (k : Fin k0_t1_loop.trips) (s : State F) :
    Held c arg2 arg3 arg4 arg7 arg8 arg9 arg10 arg11 x0 x1 x2 s
    ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 k PUnit.unit)
      (fun _ => Held c arg2 arg3 arg4 arg7 arg8 arg9 arg10 arg11 x0 x1 x2 (trip x0 x1 x2 k s)) := by
  have hk : k.val < 4 := Nat.lt_of_lt_of_le k.isLt k0_t1_abs.2.1
  obtain ⟨m, l, a, sa⟩ := s
  unfold k0_t1_body Held owns
  iintro ⟨⟨%f2, %h2, H2⟩, ⟨%f3, %h3, H3⟩, ⟨%f4, %h4, H4⟩, ⟨%f7, %h7, H7⟩, ⟨%f8, %h8, H8⟩, ⟨%f9, %h9, H9⟩, ⟨%f10, %h10, H10⟩, ⟨%d11, %f11, -, H11⟩⟩
  obtain rfl := harg2.eq_unread h2; obtain rfl := harg3.eq_unread h3; obtain rfl := harg4.eq_unread h4
  obtain rfl := harg7.eq_unread h7; obtain rfl := harg8.eq_unread h8; obtain rfl := harg9.eq_unread h9; obtain rfl := harg10.eq_unread h10
  sl_exec
  sl_step
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H7]
  · iexists _; isplitr; swap; · iexact H7
    ipureintro; sl_unfold_run_names
    simp only [whole_left, whole_back, whole_read, band_load]
    rfl
  isplitl [H8]
  · iexists _; isplitr; swap; · iexact H8
    ipureintro; sl_unfold_run_names
    simp only [whole_left, whole_back, whole_read, band_load]
    rfl
  isplitl [H9]
  · iexists _; isplitr; swap; · iexact H9
    ipureintro; sl_unfold_run_names
    simp only [whole_left, whole_back, whole_read, band_load]
    rfl
  isplitl [H10]
  · iexists _; isplitr; swap; · iexact H10
    ipureintro; sl_unfold_run_names
    simp only [whole_left, whole_back, whole_read, band_load]
    rfl
  iexists _, _; isplitr; swap; · iexact H11
  ipureintro; rfl

/-- The running values after the first trips, from those before the loop. -/
def iter (s : State F) : ℕ → State F
  | 0 => s
  | n + 1 => if h : n < k0_t1_loop.trips then trip x0 x1 x2 ⟨n, h⟩ (iter s n) else iter s n

theorem iter_succ (s : State F) (k : Fin k0_t1_loop.trips) : iter x0 x1 x2 s (k.val + 1) = trip x0 x1 x2 k (iter x0 x1 x2 s k.val) := by
  rw [iter]; exact dif_pos k.isLt

/-- The loop takes the running values through all of its trips. -/
theorem loop_wp (E : Set ℕ) (s : State F) :
    Held c arg2 arg3 arg4 arg7 arg8 arg9 arg10 arg11 x0 x1 x2 s
    ⊢ wp frame (wpE (defs₀ (F := F)) Variants.none c none) E (Scf.Loop.for k0_t1_loop k0_t1_ok PUnit.unit (k0_t1_body (F := F) i arg2 harg2 arg3 harg3 arg4 harg4 arg5 harg5 arg6 harg6 arg7 harg7 arg8 harg8 arg9 harg9 arg10 harg10 arg11 harg11))
      (fun _ => Held c arg2 arg3 arg4 arg7 arg8 arg9 arg10 arg11 x0 x1 x2 (iter x0 x1 x2 s k0_t1_loop.trips)) := by
  have step : ∀ (k : Fin k0_t1_loop.trips) (acc : PUnit), Held c arg2 arg3 arg4 arg7 arg8 arg9 arg10 arg11 x0 x1 x2 (iter x0 x1 x2 s k.val)
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 k acc)
        (fun _ => Held c arg2 arg3 arg4 arg7 arg8 arg9 arg10 arg11 x0 x1 x2 (iter x0 x1 x2 s (k.val + 1))) := fun k acc => by
    rw [iter_succ]
    exact trip_wp c i arg2 harg2 arg3 harg3 arg4 harg4 arg5 harg5 arg6 harg6 arg7 harg7 arg8 harg8 arg9 harg9 arg10 harg10 arg11 harg11 x0 x1 x2 E k _
  iintro H
  iapply (Scf.wp_for frame (wpE (defs₀ (F := F)) Variants.none (c : Thread nD τ) none) E k0_t1_loop.lb k0_t1_loop.ub k0_t1_loop.st k0_t1_ok PUnit.unit _
    (fun k _ => Held c arg2 arg3 arg4 arg7 arg8 arg9 arg10 arg11 x0 x1 x2 (iter x0 x1 x2 s k)) step)
  isplitl [H]; · iexact H
  iintro %acc H
  iexact H

/-- What the first scores are, and where the running values begin. -/
def start : State F := (k0_pay15, k0_pay16, k0_pay17, k0_pay18 (band x1 ![0, 0] inb_S8192x256_S1024x256_0_0) x0)

/-- The running values when every key has been consumed. -/
def final : State F := iter x0 x1 x2 (start x0 x1) k0_t1_loop.trips

/-- The kernel on a query block: from the blocks of queries, keys and values it leaves the output block and the block of logarithms. -/
theorem kernel_run (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2
        ∗ owns (c : Thread nD τ) arg5 fullShare (k0_pay1 (final x0 x1 x2).2.2.1 (k0_pay23 (final x0 x1 x2).2.1)) ∗ owns (c : Thread nD τ) arg6 fullShare (k0_pay2 (final x0 x1 x2).2.1 (final x0 x1 x2).1)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
    ⊢ wp frame (wpE (defs₀ (F := F)) Variants.none c none) E (cc0_flash_fwd i arg2 harg2 arg3 harg3 arg4 harg4 arg5 harg5 arg6 harg6 arg7 harg7 arg8 harg8 arg9 harg9 arg10 harg10 arg11 harg11) K := by
  have loop := loop_wp c i arg2 harg2 arg3 harg3 arg4 harg4 arg5 harg5 arg6 harg6 arg7 harg7 arg8 harg8 arg9 harg9 arg10 harg10 arg11 harg11 x0 x1 x2 E (start x0 x1)
  simp only [cc0_flash_fwd_eq_skeleton]
  unfold cc0_flash_fwd_skel
  simp only [k0_part3_eq_skeleton]
  unfold k0_part3_skel
  change _ ⊢ wp frame _ _ _ _ at loop
  generalize Scf.Loop.for k0_t1_loop k0_t1_ok PUnit.unit (k0_t1_body (F := F) i arg2 harg2 arg3 harg3 arg4 harg4 arg5 harg5 arg6 harg6 arg7 harg7 arg8 harg8 arg9 harg9 arg10 harg10 arg11 harg11) = prg at loop ⊢
  have fin : iter x0 x1 x2 (start x0 x1) k0_t1_loop.trips = final x0 x1 x2 := rfl
  rw [fin] at loop
  generalize final x0 x1 x2 = z at loop ⊢
  clear fin
  unfold Held owns at loop
  unfold owns
  iintro ⟨⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread h2; obtain rfl := harg3.eq_unread h3; obtain rfl := harg4.eq_unread h4
  sl_exec
  rw [wp_bind, wp_bind]
  iapply (wp_wand_r frame (wpE (defs₀ (F := F)) Variants.none (c : Thread nD τ) none) E)
  isplitl [H2 H3 H4 H7 H8 H9 H10 H11]
  · iapply loop
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H7]
    · iexists _; isplitr; swap; · iexact H7
      ipureintro; exact View.read_writes_full _ _ _ _ _
    isplitl [H8]
    · iexists _; isplitr; swap; · iexact H8
      ipureintro; exact View.read_writes_full _ _ _ _ _
    isplitl [H9]
    · iexists _; isplitr; swap; · iexact H9
      ipureintro; exact View.read_writes_full _ _ _ _ _
    isplitl [H10]
    · iexists _; isplitr; swap; · iexact H10
      ipureintro; exact (View.read_writes_full _ _ _ _ _).trans (congrArg₂ k0_pay18 (band_load harg3 x1 _ _) (whole_read harg2 x0 _))
    iexists _, _; isplitr; swap; · iexact H11
    ipureintro; rfl
  iintro %_ ⟨⟨%g2, %e2, H2⟩, ⟨%g3, %e3, H3⟩, ⟨%g4, %e4, H4⟩, ⟨%g7, %e7, H7⟩, ⟨%g8, %e8, H8⟩, ⟨%g9, %e9, H9⟩, ⟨%g10, %e10, H10⟩, ⟨%d11, %g11, -, H11⟩⟩
  obtain rfl := harg7.eq_unread e7; obtain rfl := harg8.eq_unread e8; obtain rfl := harg9.eq_unread e9
  sl_exec
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; sl_unfold_run_names
    refine (View.read_writes_full _ _ _ _ _).trans ?_
    rw [whole_read harg9, whole_read harg8]
  isplitl [H6]
  · iexists _; isplitr; swap; · iexact H6
    ipureintro; sl_unfold_run_names
    refine (View.read_writes_full _ _ _ _ _).trans ?_
    rw [whole_read harg8, whole_read harg7]
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.AttFwdIdeal.Val
end
-- ==== Proof.AttFwdFrame.lean ====
module
public import proofs.«01_k».proof.Proof.AttFwdRun
public import Idealize.ShloMosaic.Lib.Claim
@[expose] public section
set_option maxRecDepth 16384
noncomputable section
namespace Cert.AttFwdIdeal.Val
open Cert.AttFwdIdeal Cert.AttFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The running values at the end of a grid point, from the blocks of queries, keys and values it reads. -/
def finalAt (c : Dev nD) (t : Fin cfg0.N) : State F := final (iblk m c 0 t) (iblk m c 1 t) (iblk m c 2 t)

/-- The output block of a grid point. -/
def outAt (c : Dev nD) (t : Fin cfg0.N) : Vec F S2048x128 .f32 := k0_pay1 (finalAt m c t).2.2.1 (k0_pay23 (finalAt m c t).2.1)

/-- The block of logarithms of a grid point. -/
def lseAt (c : Dev nD) (t : Fin cfg0.N) : Vec F S1x1x2048 .f32 := k0_pay2 (finalAt m c t).2.1 (finalAt m c t).1

/-- The grid's data: every input window keeps its block, the two output windows end with the point's blocks. -/
def kit (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => lseAt m c t
  Φ _ := Pipeline.ΦA spec0 c
  q _ := fullShare
  owed _ := 0

/-- The data's arrays are those the grid finds. -/
theorem kit_A (c : Dev nD) (w : Fin cfg0.W) : (kit m 0 c).A w = V m c (Pipeline.arrRef spec0 w) := by
  dsimp only [kit]

/-- The body at a grid point takes the windows from what they hold before to what they hold after. -/
theorem body_triple (c : Dev nD) (t : Fin cfg0.N) :
    iprop((kit m 0 c).Φ t.castSucc ∗ (kit m 0 c).owesAt () t.castSucc
      ∗ (∃ d, owns (c : Thread nD τ) (ms0_0 t) fullShare ((kit m 0 c).before 0 t d))
      ∗ (∃ d, owns (c : Thread nD τ) (ms0_1 t) fullShare ((kit m 0 c).before 1 t d))
      ∗ (∃ d, owns (c : Thread nD τ) (ms0_2 t) fullShare ((kit m 0 c).before 2 t d))
      ∗ (∃ d, owns (c : Thread nD τ) (ms0_3 t) fullShare ((kit m 0 c).before 3 t d))
      ∗ (∃ d, owns (c : Thread nD τ) (ms0_4 t) fullShare ((kit m 0 c).before 4 t d)))
    ⊢ wp frame (wpE (defs₀ (F := F)) Variants.none c none) Set.univ (bodyAt0 t) (fun _ =>
      iprop((kit m 0 c).Φ t.succ ∗ (kit m 0 c).owesAt () t.succ
        ∗ owns (c : Thread nD τ) (ms0_0 t) fullShare ((kit m 0 c).after 0 t)
        ∗ owns (c : Thread nD τ) (ms0_1 t) fullShare ((kit m 0 c).after 1 t)
        ∗ owns (c : Thread nD τ) (ms0_2 t) fullShare ((kit m 0 c).after 2 t)
        ∗ owns (c : Thread nD τ) (ms0_3 t) fullShare ((kit m 0 c).after 3 t)
        ∗ owns (c : Thread nD τ) (ms0_4 t) fullShare ((kit m 0 c).after 4 t))) := by
  have b0 := before0_0_of m (kit m 0 c) (kit_A m c 0) fun t => by dsimp only [kit]
  have b1 := before0_1_of m (kit m 0 c) (kit_A m c 1) fun t => by dsimp only [kit]
  have b2 := before0_2_of m (kit m 0 c) (kit_A m c 2) fun t => by dsimp only [kit]
  simp only [b0, b1, b2]
  rw [show (kit m 0 c).after 0 t = iblk m c 0 t from by dsimp only [kit], show (kit m 0 c).after 1 t = iblk m c 1 t from by dsimp only [kit],
    show (kit m 0 c).after 2 t = iblk m c 2 t from by dsimp only [kit], show (kit m 0 c).after 3 t = outAt m c t from by dsimp only [kit],
    show (kit m 0 c).after 4 t = lseAt m c t from by dsimp only [kit],
    show (kit m 0 c).Φ t.castSucc = Pipeline.ΦA spec0 c from rfl, show (kit m 0 c).Φ t.succ = Pipeline.ΦA spec0 c from rfl,
    show (kit m 0 c).owesAt () t.succ = (kit m 0 c).owesAt () t.castSucc from rfl, PhiA0_eq]
  unfold bodyAt0 outAt lseAt finalAt
  iintro ⟨⟨⟨S0, S1, S2, S3, S4⟩, Hg⟩, Ho, ⟨%d0, H0⟩, ⟨%d1, H1⟩, ⟨%d2, H2⟩, ⟨%d3, H3⟩, ⟨%d4, H4⟩⟩
  iapply (kernel_run c (grid0.coords t) _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  isplitl [S2]; · iexact S2
  isplitl [S3]; · iexact S3
  isplitl [S4]; · iexact S4
  iintro ⟨H0, H1, H2, H3, H4, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  iexact H4

/-- The body's obligation at every grid point. -/
theorem obligation (c : Dev nD) : BodyObligation (kit (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_triple m c t) rfl .rfl fun _ => .rfl

set_option backward.isDefEq.respectTransparency.types false in
set_option maxHeartbeats 800000 in
/-- The whole program: every array ends at what the grid's data make of it, the lines after the grid are done, and every counter is at zero. -/
theorem run_all : θ_run defs (onTc (τ := τ) (main (F := F))) (s₀ m ρ) (fun r => (Pipeline.FramePost cfgs (kit m) 0 (Pipeline.afterTail₀ cfgs (kit m) 0 (V0 m) [hostOps1])) r ∧ r.2.sem = fun _ => 0) :=
  Pipeline.θ_run_frame_around (Q' := _) cfgs (kit m) (0 : Fin 1) launch0 defs₀ Variants.none m ρ main
    (hbody := fun c => (obligation m c).loose) (hshare := fun c => (kit m 0 c).share_full fun _ => rfl)
    (howed := fun _ _ => rfl) (V₀ := V0 m) (opss := [hostOps1]) (hsub := sfx_sub) (hfresh := sfx_fresh) (hkeep := sfx_keeps)
    (hmain := hmain m Variants.none) (hA := kit_A m) (hΦ := fun _ _ => rfl)

/-- The program ends, leaves its arguments as they were and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (kit m) (kit_A m) ((θ_run defs _ _).mono (fun _ h => h.1) (run_all m ρ))) ((θ_run defs _ _).mono (fun _ h => h.2) (run_all m ρ))

end Cert.AttFwdIdeal.Val
end
-- ==== Proof.Quiet.lean ====
/- A program that declares no semaphore ends with every counter at zero: there is no counter. -/
module
public import Idealize.ShloMosaic.Lib.StableHlo.Run
@[expose] public section
namespace Cert.Quiet
open Idealize.ShloMosaic Idealize.SL.Sem

/-- On a signature without semaphores every counter of every state is zero. -/
theorem sem_zero {nD : ℕ} {τ : Topo} {sig : RefSig} {Val : EltTy → Type} (hE : SemLoc sig → False) (s : MemSt nD τ sig Val) :
    s.sem = fun _ => 0 := funext fun g => (hE g.2).elim
end Cert.Quiet
-- ==== Proof.ConvDu.lean ====
module
public import proofs.«01_k».proof.Proof.Gen.DuIdeal.Value
public import Idealize.ShloMosaic.Lib.Pointwise
public import Idealize.ShloMosaic.Lib.Pipeline.ValueKit
@[expose] public section
set_option maxRecDepth 16384
noncomputable section
namespace Cert.DuIdeal.Val
open Cert.DuIdeal Cert.DuIdeal.Gen Idealize.ShloMosaic Idealize.ShloMosaic.TcCoe Idealize.SL.Sem

/-- The scratch after its three stores: 16 zero rows, the block's 8192 rows, 16 zero rows. -/
def padded (x0 : Vec Ideal S8192x128 .f32) : S8224x128.Idx → Elt Ideal .f32 := fun y =>
  if h : 16 ≤ (y 0).val ∧ (y 0).val < 8208 then x0 (ix2 ⟨(y 0).val - 16, by omega⟩ (y 1)) else 0

/-- One block of the result: the bias and the 31 shifted products. -/
def blockOut (x0 : Vec Ideal S8192x128 .f32) (x1 : Vec Ideal S32x128 .f32) (x2 : Vec Ideal S1x128 .f32) : S8192x128.Idx → EReal := fun y =>
  x2 (ix2 0 (y 1)) + ∑ k : Fin 31, padded x0 (ix2 ⟨(y 0).val + (k.val + 1), by have := (y 0).isLt; change (y 0).val < 8192 at this; omega⟩ (y 1)) * x1 (ix2 ⟨k.val, by omega⟩ (y 1))

abbrev padPieces {F : FTy → Type} [FloatOps F] (x0 : Vec F S8192x128 .f32) : List (View.Piece (Elt F) S8224x128 .f32) :=
  [⟨Rect.unit ![16, 0] ![8192, 128] inb_S8224x128_S8192x128_16_0, k0_pay3 x0⟩,
            ⟨Rect.unit ![8208, 0] ![16, 128] inb_S8224x128_S16x128_8208_0, k0_pay2⟩,
            ⟨Rect.unit ![0, 0] ![16, 128] inb_S8224x128_S16x128_0_0, k0_pay1⟩]

theorem canon_pad (x0 : Vec Ideal S8192x128 .f32) (y : S8224x128.Idx) : View.canon (padPieces (F := Ideal) x0) y = padded x0 y := by
  refine View.canon_apply_of_pieces (Val := Elt Ideal) (e := .f32) (padded x0) _ ?_ y ?_
  · intro p hp x
    simp only [List.mem_cons, List.not_mem_nil, or_false] at hp
    rcases hp with rfl | rfl | rfl
    · have h0 : (((Rect.unit (s := S8224x128) ![16, 0] ![8192, 128] inb_S8224x128_S8192x128_16_0).idx x) 0).val = 16 + (x 0).val :=
        Rect.idx_unit_val _ _ _ x 0
      have h1 : (((Rect.unit (s := S8224x128) ![16, 0] ![8192, 128] inb_S8224x128_S8192x128_16_0).idx x) 1).val = 0 + (x 1).val :=
        Rect.idx_unit_val _ _ _ x 1
      have hx : (x 0).val < 8192 := (x 0).isLt
      show k0_pay3 (F := Ideal) x0 x = padded x0 ((Rect.unit (s := S8224x128) ![16, 0] ![8192, 128] inb_S8224x128_S8192x128_16_0).idx x)
      unfold padded k0_pay3
      rw [dif_pos (by omega)]
      pointwise
      try (congr 1; idx_ext <;> omega)
    · have h0 : (((Rect.unit (s := S8224x128) ![8208, 0] ![16, 128] inb_S8224x128_S16x128_8208_0).idx x) 0).val = 8208 + (x 0).val :=
        Rect.idx_unit_val _ _ _ x 0
      show k0_pay2 (F := Ideal) x = padded x0 ((Rect.unit (s := S8224x128) ![8208, 0] ![16, 128] inb_S8224x128_S16x128_8208_0).idx x)
      unfold padded k0_pay2
      rw [dif_neg (by omega)]
      pointwise
    · have h0 : (((Rect.unit (s := S8224x128) ![0, 0] ![16, 128] inb_S8224x128_S16x128_0_0).idx x) 0).val = 0 + (x 0).val :=
        Rect.idx_unit_val _ _ _ x 0
      have hx : (x 0).val < 16 := (x 0).isLt
      show k0_pay1 (F := Ideal) x = padded x0 ((Rect.unit (s := S8224x128) ![0, 0] ![16, 128] inb_S8224x128_S16x128_0_0).idx x)
      unfold padded k0_pay1
      rw [dif_neg (by omega)]
      pointwise
  · idx_vars y
    simp only [padPieces, List.mem_cons, List.not_mem_nil, or_false, exists_eq_or_imp, exists_eq_left]
    rw [Rect.mem_set_unit, Rect.mem_set_unit, Rect.mem_set_unit]
    simp only [Fin.forall_fin_two]
    have := y1.isLt
    simp
    omega

theorem off1_eq (k : Fin k0_t1_loop.trips) (j : Fin 31) : k0_off1 k (BitVec.ofNat 32 (1 + j.val)) = ![k.val * 256 + (j.val + 1), 0] := by
  revert k j; decide +kernel

theorem off2_eq (k : Fin k0_t1_loop.trips) : k0_off2 k = ![k.val * 256, 0] := by
  revert k; decide +kernel

theorem load_pad (m5 : Memref sig .tc .vmem S8224x128 .f32) (x0 : Vec Ideal S8192x128 .f32) (k : Fin k0_t1_loop.trips) (j : Fin 31) (b : BitVec 32) (hb : b = BitVec.ofNat 32 (1 + j.val)) (inb) (r : Fin 256) (l : Fin 128) :
   View.readAt (Elt Ideal) m5.view (Rect.unit (s := S8224x128) (k0_off1 k b) S256x128.size inb).toLoadRect (m5.view.writes (Elt Ideal) m5.view.junk (padPieces (F := Ideal) x0)) (ix2 r l)
   = padded x0 (ix2 ⟨k.val * 256 + r.val + (j.val + 1), by have := k.isLt; change k.val < 32 at this; omega⟩ l) := by
  subst hb
  rw [View.readAt_eq_ld, View.read_writes_junk_eq_canon]
  rw [View.ld_unit_apply_of _ _ _ _ _ (ix2 ⟨k.val * 256 + r.val + (j.val + 1), by have := k.isLt; change k.val < 32 at this; omega⟩ l), canon_pad]
  intro a
  have e := congrFun (off1_eq k j) a
  rw [e]
  fin_cases a
  · simp; omega
  · simp

/-- A sum of 31 terms added to a start value, one term after the other. -/
theorem fold31 (b : EReal) (f : Fin 31 → EReal) : b + ∑ k, f k =
    b + f 0 + f 1 + f 2 + f 3 + f 4 + f 5 + f 6 + f 7 + f 8 + f 9 + f 10 + f 11 + f 12 + f 13 + f 14 + f 15 + f 16 + f 17
      + f 18 + f 19 + f 20 + f 21 + f 22 + f 23 + f 24 + f 25 + f 26 + f 27 + f 28 + f 29 + f 30 := by
  simp only [Fin.sum_univ_castSucc, Fin.sum_univ_zero, zero_add, ← add_assoc]
  rfl

/-- What a trip stores, of its 31 loads: the bias and the loads times the taps, one after the other. -/
theorem pay_at (x1 : Vec Ideal S32x128 .f32) (x2 : Vec Ideal S1x128 .f32) (v : Fin 31 → Vec Ideal S256x128 .f32) (r : Fin 256) (l : Fin 128) :
    k0_pay6 (F := Ideal) x1 (k0_pay11 (k0_pay4 x1) (k0_pay10 (k0_pay4 x1) (k0_pay8 (k0_pay4 x1) (k0_pay7 (k0_pay4 x1) (k0_pay5 x2)
      (v 0) (v 1) (v 2) (v 3) (v 4) (v 5)) (v 6) (v 7) (v 8) (v 9) (v 10) (v 11)) (v 12) (k0_pay9 (k0_pay4 x1)) (v 13) (v 14) (v 15) (v 16) (v 17) (v 18))
      (v 19) (v 20) (v 21) (v 22) (v 23) (v 24) (v 25)) (v 26) (v 27) (v 28) (v 29) (v 30) (ix2 r l)
    = x2 (ix2 0 l) + ∑ k : Fin 31, v k (ix2 r l) * x1 (ix2 ⟨k.val, by omega⟩ l) := by
  unfold k0_pay6 k0_pay11 k0_pay10 k0_pay9 k0_pay8 k0_pay7 k0_pay4 k0_pay5
  pointwise
  rw [fold31]
  rfl

set_option maxHeartbeats 1000000 in
theorem trip_at (𝒱 : Variants) (c : Dev nD) (bd : Option 𝒱.V) (i : grid0.Coords) (arg1 : Memref sig .tc .vmem S8192x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S8224x128 .f32) (harg5 : arg5.IsWhole) (x0 : Vec Ideal S8192x128 .f32) (x1 : Vec Ideal S32x128 .f32) (x2 : Vec Ideal S1x128 .f32) (k : Fin k0_t1_loop.trips) :
   ∀ p ∈ tripL_k0_t1 (F := Ideal) 𝒱 c bd i arg1 harg1 arg2 harg2 arg3 harg3 arg4 harg4 arg5 harg5 x1 x2 (arg5.view.writes (Elt Ideal) arg5.view.junk (padPieces (F := Ideal) x0)) k,
     ∀ x : p.1.shape.Idx, p.2 x = blockOut x0 x1 x2 (p.1.emb x) := by
  unfold tripL_k0_t1 trip_k0_t1
  sl_unfold_run_names
  intro p hp
  simp only [List.mem_cons, List.not_mem_nil, or_false] at hp
  subst hp
  intro (x : S256x128.Idx)
  have hk : k.val < 32 := k.isLt
  obtain ⟨r, l, rfl⟩ : ∃ (r : Fin 256) (l : Fin 128), x = ix2 r l := ⟨x 0, x 1, eq_ix2 x⟩
  have hemb : ((Rect.unit (s := S8192x128) (k0_off2 k) S256x128.size (k0_off2_inb k)).emb (ix2 r l)) = ix2 (⟨k.val * 256 + r.val, by omega⟩ : Fin 8192) l := by
    have e := off2_eq k
    funext a
    have h := Rect.idx_unit_val (s := S8192x128) (k0_off2 k) S256x128.size (k0_off2_inb k) (ix2 r l) a
    refine Fin.ext (h.trans ?_)
    rw [congrFun e a]
    fin_cases a
    · rfl
    · simp
  show _ = blockOut x0 x1 x2 ((Rect.unit (s := S8192x128) (k0_off2 k) S256x128.size (k0_off2_inb k)).emb (ix2 r l))
  rw [hemb]
  refine (pay_at x1 x2 (fun j => View.readAt (Elt Ideal) arg5.view (Rect.unit (s := S8224x128) (k0_off1 k (BitVec.ofNat 32 (1 + j.val))) S256x128.size (k0_off1_inb k j)).toLoadRect (arg5.view.writes (Elt Ideal) arg5.view.junk (padPieces (F := Ideal) x0))) r l).trans ?_
  simp only [load_pad arg5 x0 k _ _ rfl]
  rfl

theorem pieces_at (𝒱 : Variants) (c : Dev nD) (bd : Option 𝒱.V) (i : grid0.Coords) (arg1 : Memref sig .tc .vmem S8192x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S8224x128 .f32) (harg5 : arg5.IsWhole) (x0 : Vec Ideal S8192x128 .f32) (x1 : Vec Ideal S32x128 .f32) (x2 : Vec Ideal S1x128 .f32) (n : ℕ) (hn : n ≤ k0_t1_loop.trips) :
   ∀ p ∈ pb_k0_t1 (F := Ideal) 𝒱 c bd i arg1 harg1 arg2 harg2 arg3 harg3 arg4 harg4 arg5 harg5 x1 x2 (arg5.view.writes (Elt Ideal) arg5.view.junk (padPieces (F := Ideal) x0)) n,
     ∀ x : p.1.shape.Idx, p.2 x = blockOut x0 x1 x2 (p.1.emb x) := by
  induction n with
  | zero => intro p hp; cases hp
  | succ n ih =>
    intro p hp
    rw [pb_k0_t1_succ (F := Ideal) 𝒱 c bd i arg1 harg1 arg2 harg2 arg3 harg3 arg4 harg4 arg5 harg5 x1 x2 _ ⟨n, hn⟩] at hp
    rcases List.mem_append.mp hp with h | h
    · exact trip_at 𝒱 c bd i arg1 harg1 arg2 harg2 arg3 harg3 arg4 harg4 arg5 harg5 x0 x1 x2 ⟨n, hn⟩ p h
    · exact ih (Nat.le_of_succ_le hn) p h

theorem out_at (c : Dev nD) (i : grid0.Coords) (arg1 : Memref sig .tc .vmem S8192x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S8224x128 .f32) (harg5 : arg5.IsWhole)
    (x0 : Vec Ideal S8192x128 .f32) (x1 : Vec Ideal S32x128 .f32) (x2 : Vec Ideal S1x128 .f32) (y : S8192x128.Idx) :
    out0_A_3 c i arg1 harg1 arg2 harg2 arg3 harg3 arg4 harg4 arg5 harg5 x0 x1 x2 y = blockOut x0 x1 x2 y := by
  have hc := cover0_A_3 c i arg1 harg1 arg2 harg2 arg3 harg3 arg4 harg4 arg5 harg5 x0 x1 x2 y
  frame_out at hc
  frame_out
  exact View.canon_apply_of_pieces (Val := Elt Ideal) (e := .f32) (blockOut x0 x1 x2) _ (pieces_at _ c _ i arg1 harg1 arg2 harg2 arg3 harg3 arg4 harg4 arg5 harg5 x0 x1 x2 _ (le_refl _)) y hc

variable (m : (ℓ : Loc nD τ sig) → Buf (Elt Ideal) ℓ)

/-- The whole result in terms of the arguments: the bias is zero, the taps are reversed, row 31 of them is zero. -/
def du (ct : S8192x1024.Idx → EReal) (w : S31x1024.Idx → EReal) : S8192x1024.Idx → EReal := fun y =>
  ∑ k : Fin 31, (if h : 16 ≤ (y 0).val + (k.val + 1) ∧ (y 0).val + (k.val + 1) < 8208 then ct (ix2 ⟨(y 0).val + (k.val + 1) - 16, by omega⟩ (y 1)) else 0)
    * w (ix2 ⟨30 - k.val, by omega⟩ (y 1))

theorem idx0 : ∀ t : Fin cfg0.N, win0_0.index t = ![0, t.val] := by decide +kernel
theorem idx1 : ∀ t : Fin cfg0.N, win0_1.index t = ![0, t.val] := by decide +kernel
theorem idx2 : ∀ t : Fin cfg0.N, win0_2.index t = ![0, t.val] := by decide +kernel
theorem idx3 : ∀ t : Fin cfg0.N, win0_3.index t = ![0, t.val] := by decide +kernel

theorem lane_lt (t : Fin cfg0.N) (l : Fin 128) : t.val * 128 + l.val < 1024 := by
  have h : t.val < 8 := t.isLt
  omega

theorem blk0 (c : Dev nD) (t : Fin cfg0.N) (r : Fin 8192) (l : Fin 128) :
    (iblk m c 0 t : S8192x128.Idx → EReal) (ix2 r l) = m ((c : Thread nD τ).loc main_arg3) (ix2 r ⟨t.val * 128 + l.val, lane_lt t l⟩) := by
  blk_point [iblk, idx0]

/-- The region finds the taps reversed, with a zero row after them. -/
theorem taps_at (c : Dev nD) (k : Fin 31) (l : Fin 1024) :
   (V m c main_v1 : S32x1024.Idx → EReal) (ix2 ⟨k.val, by omega⟩ l) = m ((c : Thread nD τ).loc main_arg1) (ix2 ⟨30 - k.val, by omega⟩ l) := by
  dsimp only [V]
  dsimp only [hostOps0, hostOps0_1, hostOps0_2, List.flatten, List.append, List.cons_append, List.nil_append]
  entry_read
  show pad S32x1024 ![0,0] ![1,0] ![0,0] (Host.reverse [0] (m ((c : Thread nD τ).loc main_arg1) : S31x1024.Idx → EReal)) (sitofp (F := Ideal) .f32 (constantI S_ 32 0#32)) pads_S31x1024_S32x1024_010_000 h_S_ (ix2 ⟨k.val, by omega⟩ l) = _
  have hk := k.isLt
  pointwise
  rw [dif_pos (by intro a; fin_cases a <;> simp [Nat.mod_one])]
  congr 1
  idx_ext <;> simp

theorem bias_at (c : Dev nD) (l : Fin 1024) : (V m c main_v3 : S1x1024.Idx → EReal) (ix2 0 l) = (0 : EReal) := by
  dsimp only [V]
  dsimp only [hostOps0, hostOps0_1, hostOps0_2, List.flatten, List.append, List.cons_append, List.nil_append]
  entry_read
  pointwise

theorem blk1 (c : Dev nD) (t : Fin cfg0.N) (k : Fin 31) (l : Fin 128) :
    (iblk m c 1 t : S32x128.Idx → EReal) (ix2 ⟨k.val, by omega⟩ l) = m ((c : Thread nD τ).loc main_arg1) (ix2 ⟨30 - k.val, by omega⟩ ⟨t.val * 128 + l.val, lane_lt t l⟩) := by
  refine Eq.trans ?_ (taps_at m c k ⟨t.val * 128 + l.val, lane_lt t l⟩)
  unfold iblk
  show V m c main_v1 ((win0_1.blk t).view.emb _) = V m c main_v1 _
  congr 1
  blk_ext! [idx1]
theorem blk2 (c : Dev nD) (t : Fin cfg0.N) (l : Fin 128) :
    (iblk m c 2 t : S1x128.Idx → EReal) (ix2 0 l) = (0 : EReal) := by
  refine Eq.trans ?_ (bias_at m c ⟨t.val * 128 + l.val, lane_lt t l⟩)
  unfold iblk
  show V m c main_v3 ((win0_2.blk t).view.emb _) = V m c main_v3 _
  congr 1
  blk_ext! [idx2]

/-- A block of lanes of the result, of the blocks of the two arguments. -/
theorem blockOut_eq (x0 : S8192x128.Idx → EReal) (x1 : S32x128.Idx → EReal) (x2 : S1x128.Idx → EReal) (ct : S8192x1024.Idx → EReal) (w : S31x1024.Idx → EReal)
    (r : Fin 8192) (l : Fin 128) (j : Fin 1024) (h0 : ∀ r : Fin 8192, x0 (ix2 r l) = ct (ix2 r j))
    (h1 : ∀ k : Fin 31, x1 (ix2 ⟨k.val, by omega⟩ l) = w (ix2 ⟨30 - k.val, by omega⟩ j)) (h2 : x2 (ix2 0 l) = 0) :
    blockOut x0 x1 x2 (ix2 r l) = du ct w (ix2 r j) := by
  unfold blockOut du padded
  show x2 (ix2 0 l) + ∑ k : Fin 31, (if h : 16 ≤ r.val + (k.val + 1) ∧ r.val + (k.val + 1) < 8208 then x0 (ix2 ⟨r.val + (k.val + 1) - 16, by omega⟩ l) else 0) * x1 (ix2 ⟨k.val, by omega⟩ l)
    = ∑ k : Fin 31, (if h : 16 ≤ r.val + (k.val + 1) ∧ r.val + (k.val + 1) < 8208 then ct (ix2 ⟨r.val + (k.val + 1) - 16, by omega⟩ j) else 0) * w (ix2 ⟨30 - k.val, by omega⟩ j)
  rw [h2, zero_add]
  simp only [h0, h1]

theorem arr_eq (c : Dev nD) : (dats m 0 c).arrAt 3 cfg0.N = du (m ((c : Thread nD τ).loc main_arg3)) (m ((c : Thread nD τ).loc main_arg1)) := by
  refine (dats m 0 c).arrAt_eq_of_covers 3 _ (by decide +kernel) fun t hf y => ?_
  have e := out_at c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) y
  rw [after0_3]
  unfold outsAt0
  blk_simp [e]
  obtain ⟨r, l, rfl⟩ : ∃ (r : Fin 8192) (l : Fin 128), y = ix2 r l := ⟨y 0, y 1, eq_ix2 y⟩
  have hemb : (win0_3.blk t).view.emb (ix2 r l) = ix2 r ⟨t.val * 128 + l.val, lane_lt t l⟩ := by
    blk_ext! [idx3]
  rw [hemb]
  exact blockOut_eq _ _ _ _ _ r l _ (fun r => blk0 m c t r l) (fun k => blk1 m c t k l) (blk2 m c t l)
-- ==== Proof.ConvDuRef.lean ====
module
public import proofs.«01_k».proof.Proof.Gen.DuRefIdeal.Run
public import Idealize.ShloMosaic.Lib.Pointwise
public import Idealize.ShloMosaic.Lib.Routing.OpsPair
@[expose] public section
set_option maxRecDepth 16384
noncomputable section
namespace Cert.DuRefIdeal.Val
open Cert.DuRefIdeal Cert.DuRefIdeal.Gen Idealize.ShloMosaic Idealize.ShloMosaic.TcCoe Idealize.SL.Sem

abbrev dS := scatter_S8222x1024_S8192x31x1_S8192x31x1024_2_0_0_2

theorem start0 (s : Fin 8192) (k : Fin 31) (l : Fin 1024) (I : IVec S8192x31x1 32) : dS.start (ix3 s k l) I 0 = (I (ix3 s k 0)).toInt := by
  show (I _).toInt = _
  congr 2
  funext a
  match a with
  | ⟨0, _⟩ => rfl
  | ⟨1, _⟩ => rfl
  | ⟨2, _⟩ => rfl
theorem start1 (s : Fin 8192) (k : Fin 31) (l : Fin 1024) (I : IVec S8192x31x1 32) : dS.start (ix3 s k l) I 1 = 0 := rfl
theorem window0 (s : Fin 8192) (k : Fin 31) (l : Fin 1024) : dS.window (ix3 s k l) 0 = 0 := rfl
theorem window1 (s : Fin 8192) (k : Fin 31) (l : Fin 1024) : dS.window (ix3 s k l) 1 = l.val := rfl

theorem lands_iff (s : Fin 8192) (k : Fin 31) (l : Fin 1024) (I : IVec S8192x31x1 32) (hI : I (ix3 s k 0) = BitVec.ofNat 32 (s.val + k.val)) (r : Fin 8222) (l' : Fin 1024) :
   dS.resultIdx? (ix3 s k l) I = some (ix2 r l') ↔ s.val + k.val = r.val ∧ l = l' := by
  rw [Routing.resultIdx?_eq_some]
  have hs := s.isLt
  have hk := k.isLt
  have e : (BitVec.ofNat 32 (s.val + k.val)).toInt = ((s.val + k.val : ℕ) : Int) := by
    rw [BitVec.toInt_eq_toNat_of_lt] <;> rw [BitVec.toNat_ofNat, Nat.mod_eq_of_lt (by omega)]
    omega
  constructor
  · intro h
    have h0 := h 0
    have h1 := h 1
    rw [start0, window0, hI, e] at h0
    rw [start1, window1] at h1
    change _ = (r.val : Int) at h0
    change _ = (l'.val : Int) at h1
    refine ⟨by omega, Fin.ext (by omega)⟩
  · rintro ⟨h, rfl⟩ a
    match a with
    | ⟨0, _⟩ =>
      show dS.start (ix3 s k l) I 0 + (dS.window (ix3 s k l) 0 : Int) = (r.val : Int)
      rw [start0, window0, hI, e]; omega
    | ⟨1, _⟩ =>
      show dS.start (ix3 s k l) I 1 + (dS.window (ix3 s k l) 1 : Int) = (l.val : Int)
      rw [start1, window1]; omega

/-- The sum of the windows' contributions at row `r`: tap `k` contributes from row `r - k`. -/
theorem scatter_at (x : S8222x1024.Idx → EReal) (I : IVec S8192x31x1 32) (U : S8192x31x1024.Idx → EReal)
    (hI : ∀ (s : Fin 8192) (k : Fin 31), I (ix3 s k 0) = BitVec.ofNat 32 (s.val + k.val)) (r : Fin 8222) (l : Fin 1024) :
    Ideal.hostScatterAdd dS x I U (ix2 r l) = x (ix2 r l) + ∑ k : Fin 31, if h : k.val ≤ r.val ∧ r.val - k.val < 8192 then U (ix3 ⟨r.val - k.val, h.2⟩ k l) else 0 := by
  unfold Ideal.hostScatterAdd
  congr 1
  rw [Finset.sum_filter, sum_idx3, Finset.sum_comm]
  refine Finset.sum_congr rfl fun k _ => ?_
  simp only [fun s l' => lands_iff s k l' I (hI s k) r l]
  split
  · next h =>
    rw [Finset.sum_eq_single ⟨r.val - k.val, h.2⟩]
    · rw [Finset.sum_eq_single l]
      · rw [if_pos ⟨by simp; omega, rfl⟩]
      · intro b _ hb; rw [if_neg (fun h => hb h.2)]
      · intro h; exact absurd (Finset.mem_univ _) h
    · intro b _ hb
      refine Finset.sum_eq_zero fun l' _ => ?_
      rw [if_neg]
      rintro ⟨h1, -⟩
      exact hb (Fin.ext (by simp; omega))
    · intro h; exact absurd (Finset.mem_univ _) h
  · next h =>
    refine Finset.sum_eq_zero fun s _ => Finset.sum_eq_zero fun l' _ => ?_
    rw [if_neg]
    rintro ⟨h1, -⟩
    have := s.isLt
    exact h ⟨by omega, by omega⟩

/-- The window's row numbers: entry `(s, k)` is the word of `s + k`. -/
def rows : IVec S8192x31x1 32 := (broadcastInDim S8192x31x1 ![0, 1] bcast_S8192x31_S8192x31x1_0_1 (select (cmpi .slt (addi (broadcastInDim S8192x31 ![0, 1] bcast_S8192x1_S8192x31_0_1 (broadcastInDim S8192x1 ![0] bcast_S8192_S8192x1_0 (iotaInDim S8192 32 0))) (broadcastInDim S8192x31 ![0, 1] bcast_S1x31_S8192x31_0_1 (broadcastInDim S1x31 ![1] bcast_S31_S1x31_1 (iotaInDim S31 32 0)))) (broadcastInDim S8192x31 ![] bcast_S_S8192x31 (constantI S_ 32 0#32))) (addi (addi (broadcastInDim S8192x31 ![0, 1] bcast_S8192x1_S8192x31_0_1 (broadcastInDim S8192x1 ![0] bcast_S8192_S8192x1_0 (iotaInDim S8192 32 0))) (broadcastInDim S8192x31 ![0, 1] bcast_S1x31_S8192x31_0_1 (broadcastInDim S1x31 ![1] bcast_S31_S1x31_1 (iotaInDim S31 32 0)))) (broadcastInDim S8192x31 ![] bcast_S_S8192x31 (constantI S_ 32 8222#32))) (addi (broadcastInDim S8192x31 ![0, 1] bcast_S8192x1_S8192x31_0_1 (broadcastInDim S8192x1 ![0] bcast_S8192_S8192x1_0 (iotaInDim S8192 32 0))) (broadcastInDim S8192x31 ![0, 1] bcast_S1x31_S8192x31_0_1 (broadcastInDim S1x31 ![1] bcast_S31_S1x31_1 (iotaInDim S31 32 0))))))

theorem rows_at (s : Fin 8192) (k : Fin 31) : rows (ix3 s k 0) = BitVec.ofNat 32 (s.val + k.val) := by
  unfold rows
  pointwise
  have hs := s.isLt
  have hk := k.isLt
  have e : IntOp.addi (BitVec.ofNat 32 s.val) (BitVec.ofNat 32 k.val) = BitVec.ofNat 32 (s.val + k.val) := (BitVec.ofNat_add ..).symm
  rw [e, show (0#32 : BitVec 32) = BitVec.ofNat 32 0 from rfl, WordCmp.cmpi_slt_ofNat (by norm_num; omega) (by norm_num)]
  simp [Scalar.select]

/-- The reference's gradient of the convolution's input, at row `s`: tap `k` meets the cotangent's row `s + 15 - k`. -/
def duRef (ct : S8192x1024.Idx → EReal) (w : S31x1024.Idx → EReal) : S8192x1024.Idx → EReal := fun y =>
  ∑ k : Fin 31, if h : k.val ≤ (y 0).val + 15 ∧ (y 0).val + 15 - k.val < 8192 then ct (ix2 ⟨(y 0).val + 15 - k.val, h.2⟩ (y 1)) * w (ix2 k (y 1)) else 0

/-- Cutting rows 15 to 8207 out: row `s` is row `s + 15`. -/
theorem slice_at {α : Type} (x : S8222x1024.Idx → α) (s : Fin 8192) (l : Fin 1024) :
    extractStridedSlice S8192x1024 ![15, 0] x slices_S8222x1024_S8192x1024_15_0 (ix2 s l) = x (ix2 ⟨s.val + 15, by omega⟩ l) := by
  unfold extractStridedSlice
  congr 1
  idx_ext <;> simp <;> omega

/-- The products of cotangent rows and taps, one per window row. -/
def updates (ct : S8192x1024.Idx → EReal) (w : S31x1024.Idx → EReal) : S8192x31x1024.Idx → EReal :=
  mulf (F := Ideal) (φ := .f32) (broadcastInDim S8192x31x1024 ![0, 2] bcast_S8192x1024_S8192x31x1024_0_2 (shapeCast _ ct shapeCasts_S8192x1024_S8192x1024)) (broadcastInDim S8192x31x1024 ![0, 1, 2] bcast_S1x31x1024_S8192x31x1024_0_1_2 (broadcastInDim S1x31x1024 ![1, 2] bcast_S31x1024_S1x31x1024_1_2 w))

theorem updates_at (ct : S8192x1024.Idx → EReal) (w : S31x1024.Idx → EReal) (s : Fin 8192) (k : Fin 31) (l : Fin 1024) :
    updates ct w (ix3 s k l) = ct (ix2 s l) * w (ix2 k l) := by
  unfold updates
  simp only [shapeCast_self]
  pointwise

/-- The reference's composed term is `duRef` of the cotangent and the taps. -/
theorem term_eq (ct : S8192x1024.Idx → EReal) (w : S31x1024.Idx → EReal) :
    extractStridedSlice S8192x1024 ![15, 0] (Host.scatterAdd (F := Ideal) (φ := .f32) dS (broadcastInDim S8222x1024 ![] bcast_S_S8222x1024 (constant S_ .f32 0x00000000#32)) rows (updates ct w)) slices_S8222x1024_S8192x1024_15_0
    = duRef ct w := by
  funext y
  obtain ⟨s, l, rfl⟩ : ∃ (s : Fin 8192) (l : Fin 1024), y = ix2 s l := ⟨y 0, y 1, eq_ix2 y⟩
  rw [slice_at]
  unfold Host.scatterAdd
  rw [Ideal.hostScatterAdd_def, scatter_at _ _ _ rows_at]
  simp only [updates_at]
  have e0 : (broadcastInDim S8222x1024 ![] bcast_S_S8222x1024 (constant (F := Ideal) S_ .f32 0x00000000#32)) (ix2 ⟨s.val + 15, by omega⟩ l) = (0 : EReal) := by pointwise
  rw [e0, zero_add]
  rfl
-- ==== Proof.ConvDuClaim.lean ====
module
public import proofs.«01_k».proof.Proof.ConvDu
public import proofs.«01_k».proof.Proof.ConvDuRef
@[expose] public section
noncomputable section
namespace Cert.ConvDuClaim
open Idealize.ShloMosaic Idealize.ShloMosaic.TcCoe Idealize.SL.Sem

/-- The kernel's sum over the reversed taps is the reference's sum over the taps. -/
theorem du_eq (ct : Cert.DuIdeal.S8192x1024.Idx → EReal) (w : Cert.DuIdeal.S31x1024.Idx → EReal) :
    Cert.DuIdeal.Val.du ct w = Cert.DuRefIdeal.Val.duRef ct w := by
  funext y
  unfold Cert.DuIdeal.Val.du Cert.DuRefIdeal.Val.duRef
  rw [← Equiv.sum_comp Fin.revPerm]
  refine Finset.sum_congr rfl fun k _ => ?_
  have hk := k.isLt
  have hr : (Fin.revPerm k).val = 30 - k.val := by simp [Fin.rev]
  have hy : (y 0).val < 8192 := (y 0).isLt
  have hw : (⟨30 - (Fin.revPerm k).val, by omega⟩ : Fin 31) = k := Fin.ext (by simp only [hr]; omega)
  rw [hw]
  by_cases h : k.val ≤ (y 0).val + 15 ∧ (y 0).val + 15 - k.val < 8192
  · rw [dif_pos h, dif_pos (by omega)]
    congr 3
    refine Fin.ext ?_
    show (y 0).val + ((Fin.revPerm k).val + 1) - 16 = (y 0).val + 15 - k.val
    omega
  · rw [dif_neg h, dif_neg (by omega), zero_mul]

open Cert.DuRefIdeal Cert.DuRefIdeal.Gen in
/-- The reference terminates with the gradient `duRef` of its arguments, which it leaves unchanged. -/
theorem runR (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = Cert.DuRefIdeal.Val.duRef (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Cert.DuRefIdeal.Val.term_eq _ _), (h c).2⟩) (Cert.DuRefIdeal.Value.run m ρ)
-- ==== Proof.Sums.lean ====
module
public import Idealize.ShloMosaic.Lib.Pointwise
@[expose] public section
namespace Cert.Sums

/-- A term of a sum over `N` rows, zero past the last row. -/
noncomputable def ext0 {N : ℕ} (f : Fin N → EReal) (n : ℕ) : EReal := if h : n < N then f ⟨n, h⟩ else 0

theorem ext0_of_lt {N : ℕ} (f : Fin N → EReal) {n : ℕ} (h : n < N) : ext0 f n = f ⟨n, h⟩ := dif_pos h

/-- A sum over `A` blocks of `B` rows each is the sum over all rows. -/
theorem sum_blocks {A B N : ℕ} (hN : A * B = N) (f : Fin N → EReal) :
    ∑ q ∈ Finset.range A, ∑ x : Fin B, ext0 f (q * B + x.val) = ∑ j : Fin N, f j := by
  subst hN
  rw [Finset.sum_range, ← (finProdFinEquiv (m := A) (n := B)).sum_comp, Fintype.sum_prod_type]
  refine Finset.sum_congr rfl fun q _ => Finset.sum_congr rfl fun x _ => ?_
  have hlt : q.val * B + x.val < A * B := by
    have hx := x.isLt
    have hq : q.val + 1 ≤ A := q.isLt
    calc q.val * B + x.val < q.val * B + B := by omega
      _ = (q.val + 1) * B := by ring
      _ ≤ A * B := Nat.mul_le_mul_right B hq
  rw [ext0_of_lt f hlt]
  congr 1
  refine Fin.ext ?_
  show q.val * B + x.val = x.val + B * q.val
  ring

end Cert.Sums
-- ==== Proof.ConvDw.lean ====
module
public import proofs.«01_k».proof.Proof.Gen.DwIdeal.Value
public import proofs.«01_k».proof.Proof.ConvDu
public import proofs.«01_k».proof.Proof.Sums
public import Idealize.ShloMosaic.Lib.VecWindow
@[expose] public section
set_option maxRecDepth 16384
noncomputable section
namespace Cert.DwIdeal.Val
open Cert.DwIdeal Cert.DwIdeal.Gen Idealize.ShloMosaic Idealize.ShloMosaic.TcCoe Idealize.SL.Sem
open Cert.DuIdeal.Val (padded padPieces canon_pad)

/-- What trip `n` adds to row `8 j + s` of the sums: for tap `j < 31` the products of the trip's cotangent rows `8 g + s` and the
    padded rows `j + 1` further down, for `j = 31` those cotangent rows alone. -/
def gain (P : S8224x128.Idx → EReal) (D : S8192x128.Idx → EReal) (n : Fin 32) : S256x128.Idx → EReal := fun y =>
  ∑ g : Fin 32, (if (y 0).val / 8 < 31 then P (ix2 ⟨n.val * 256 + (g.val * 8 + (y 0).val % 8) + ((y 0).val / 8 + 1), by
      have := (y 0).isLt; change (y 0).val < 256 at this; omega⟩ (y 1)) else 1)
    * D (ix2 ⟨n.val * 256 + (g.val * 8 + (y 0).val % 8), by omega⟩ (y 1))

theorem gain_tap (P : S8224x128.Idx → EReal) (D : S8192x128.Idx → EReal) (n : Fin 32) (j : Fin 31) (s : Fin 8) (l : Fin 128) (q : Fin 256) (hq : q.val = 8 * j.val + s.val) :
    gain P D n (ix2 q l) = ∑ g : Fin 32, P (ix2 ⟨n.val * 256 + (g.val * 8 + s.val) + (j.val + 1), by omega⟩ l) * D (ix2 ⟨n.val * 256 + (g.val * 8 + s.val), by omega⟩ l) := by
  have e1 : q.val / 8 = j.val := by omega
  have e2 : q.val % 8 = s.val := by omega
  refine Finset.sum_congr rfl fun g _ => ?_
  show (if q.val / 8 < 31 then P (ix2 ⟨n.val * 256 + (g.val * 8 + q.val % 8) + (q.val / 8 + 1), _⟩ l) else 1) * D (ix2 ⟨n.val * 256 + (g.val * 8 + q.val % 8), _⟩ l) = _
  rw [if_pos (by omega)]
  simp only [e1, e2]

theorem gain_last (P : S8224x128.Idx → EReal) (D : S8192x128.Idx → EReal) (n : Fin 32) (s : Fin 8) (l : Fin 128) (q : Fin 256) (hq : q.val = 248 + s.val) :
    gain P D n (ix2 q l) = ∑ g : Fin 32, D (ix2 ⟨n.val * 256 + (g.val * 8 + s.val), by omega⟩ l) := by
  have e2 : q.val % 8 = s.val := by omega
  refine Finset.sum_congr rfl fun g _ => ?_
  show (if q.val / 8 < 31 then P (ix2 ⟨n.val * 256 + (g.val * 8 + q.val % 8) + (q.val / 8 + 1), _⟩ l) else 1) * D (ix2 ⟨n.val * 256 + (g.val * 8 + q.val % 8), _⟩ l) = _
  rw [if_neg (by omega), one_mul]
  simp only [e2]

theorem doff_eq (k : Fin k0_t1_loop.trips) : k0_off1 k = ![k.val * 256, 0] := by
  revert k; decide +kernel

theorem poff_eq (k : Fin k0_t1_loop.trips) (j : Fin 31) : k0_off2 k (BitVec.ofNat 32 (1 + j.val)) = ![k.val * 256 + (j.val + 1), 0] := by
  revert k j; decide +kernel

/-- A trip's update of one tap's eight rows: the products folded onto the eight sublanes are added. -/
theorem fold_at (a b : Vec Ideal S256x128 .f32) (v : Vec Ideal S8x128 .f32) (s : Fin 8) (l : Fin 128) :
    k0_pay7 (F := Ideal) a v b (ix2 s l) = v (ix2 s l) + ∑ g : Fin 32, b (ix2 ⟨g.val * 8 + s.val, by omega⟩ l) * a (ix2 ⟨g.val * 8 + s.val, by omega⟩ l) := by
  unfold k0_pay7
  pointwise

theorem fold_last (a : Vec Ideal S256x128 .f32) (v : Vec Ideal S8x128 .f32) (s : Fin 8) (l : Fin 128) :
    k0_pay5 (F := Ideal) v (k0_pay42 a) (ix2 s l) = v (ix2 s l) + ∑ g : Fin 32, a (ix2 ⟨g.val * 8 + s.val, by omega⟩ l) := by
  unfold k0_pay5 k0_pay42
  pointwise

/-- The eight sublanes of every tap are added at the end. -/
theorem total_at (v : Vec Ideal S256x128 .f32) (k : Fin 32) (l : Fin 128) :
    k0_pay6 (F := Ideal) v (ix2 k l) = ∑ s : Fin 8, v (ix2 ⟨k.val * 8 + s.val, by omega⟩ l) := by
  unfold k0_pay6
  pointwise

theorem load_d (m2 : Memref sig .tc .vmem S8192x128 .f32) (X : BufTy.Contents (Elt Ideal) m2.view.ty) (k : Fin k0_t1_loop.trips) (r : Fin 256) (l : Fin 128) :
    View.readAt (Elt Ideal) m2.view (Rect.unit (s := S8192x128) (k0_off1 k) S256x128.size (k0_off1_inb k)).toLoadRect X (ix2 r l)
    = m2.view.read (Elt Ideal) X (ix2 ⟨k.val * 256 + r.val, by have := k.isLt; change k.val < 32 at this; omega⟩ l) := by
  rw [View.readAt_eq_ld]
  refine View.ld_unit_apply_of _ _ _ _ _ _ ?_
  intro a
  have e := congrFun (doff_eq k) a
  rw [e]
  fin_cases a <;> simp

theorem load_p (m4 : Memref sig .tc .vmem S8224x128 .f32) (X : BufTy.Contents (Elt Ideal) m4.view.ty) (k : Fin k0_t1_loop.trips) (j : Fin 31)
    (r : Fin 256) (l : Fin 128) :
    View.readAt (Elt Ideal) m4.view (Rect.unit (s := S8224x128) (k0_off2 k (BitVec.ofNat 32 (1 + j.val))) S256x128.size (k0_off2_inb k j)).toLoadRect X (ix2 r l)
    = m4.view.read (Elt Ideal) X (ix2 ⟨k.val * 256 + r.val + (j.val + 1), by have := k.isLt; change k.val < 32 at this; omega⟩ l) := by
  rw [View.readAt_eq_ld]
  refine View.ld_unit_apply_of _ _ _ _ _ _ ?_
  intro a
  have e := congrFun (poff_eq k j) a
  rw [e]
  fin_cases a
  · simp; omega
  · simp

theorem load_acc (m5 : Memref sig .tc .vmem S256x128 .f32) (f : BufTy.Contents (Elt Ideal) m5.view.ty) (o : ℕ) (ho : o + 8 ≤ 256) (inb) (s : Fin 8) (l : Fin 128) :
    View.readAt (Elt Ideal) m5.view (Rect.unit (s := S256x128) ![o, 0] S8x128.size inb).toLoadRect f (ix2 s l)
    = m5.view.read (Elt Ideal) f (ix2 ⟨o + s.val, by omega⟩ l) := by
  rw [View.readAt_eq_ld]
  refine View.ld_unit_apply_of _ _ _ _ _ _ ?_
  intro a
  fin_cases a <;> simp

theorem emb_acc (o : ℕ) (ho : o + 8 ≤ 256) (inb) (s : Fin 8) (l : Fin 128) :
    (Rect.unit (s := S256x128) ![o, 0] S8x128.size inb).emb (ix2 s l) = ix2 (⟨o + s.val, by omega⟩ : Fin 256) l := by
  funext a
  have h := Rect.idx_unit_val (s := S256x128) ![o, 0] S8x128.size inb (ix2 s l) a
  refine Fin.ext (h.trans ?_)
  fin_cases a
  · rfl
  · simp

variable (arg2 : Memref sig .tc .vmem S8192x128 .f32) (arg4 : Memref sig .tc .vmem S8224x128 .f32) (arg5 : Memref sig .tc .vmem S256x128 .f32)
  (X2 : BufTy.Contents (Elt Ideal) arg2.view.ty) (X4 : BufTy.Contents (Elt Ideal) arg4.view.ty) (k : Fin k0_t1_loop.trips) (f : BufTy.Contents (Elt Ideal) arg5.view.ty)

/-- The sums after a trip, of the sums before it. -/
def next : S256x128.Idx → EReal := fun y =>
  arg5.view.read (Elt Ideal) f y + gain (arg4.view.read (Elt Ideal) X4) (arg2.view.read (Elt Ideal) X2) ⟨k.val, show k.val < 32 from k.isLt⟩ y

theorem piece_at (j : Fin 31) (o : ℕ) (ho : o = 8 * j.val) (inb) (x : S8x128.Idx) :
    k0_pay7 (F := Ideal) (View.readAt (Elt Ideal) arg2.view (Rect.unit (s := S8192x128) (k0_off1 k) S256x128.size (k0_off1_inb k)).toLoadRect X2)
      (View.readAt (Elt Ideal) arg5.view (Rect.unit (s := S256x128) ![o, 0] S8x128.size inb).toLoadRect f)
      (View.readAt (Elt Ideal) arg4.view (Rect.unit (s := S8224x128) (k0_off2 k (BitVec.ofNat 32 (1 + j.val))) S256x128.size (k0_off2_inb k j)).toLoadRect X4) x
    = next arg2 arg4 arg5 X2 X4 k f ((Rect.unit (s := S256x128) ![o, 0] S8x128.size inb).emb x) := by
  obtain ⟨s, l, rfl⟩ : ∃ (s : Fin 8) (l : Fin 128), x = ix2 s l := ⟨x 0, x 1, eq_ix2 x⟩
  have hj := j.isLt
  have hs := s.isLt
  have ho' : o + 8 ≤ 256 := by omega
  rw [emb_acc o ho', fold_at, load_acc arg5 f o ho']
  unfold next
  rw [gain_tap _ _ _ j s l _ (by simp only [ho])]
  congr 1
  refine Finset.sum_congr rfl fun g _ => ?_
  rw [load_p, load_d]

theorem piece_last (inb) (x : S8x128.Idx) :
    k0_pay5 (F := Ideal) (View.readAt (Elt Ideal) arg5.view (Rect.unit (s := S256x128) ![248, 0] S8x128.size inb).toLoadRect f)
      (k0_pay42 (View.readAt (Elt Ideal) arg2.view (Rect.unit (s := S8192x128) (k0_off1 k) S256x128.size (k0_off1_inb k)).toLoadRect X2)) x
    = next arg2 arg4 arg5 X2 X4 k f ((Rect.unit (s := S256x128) ![248, 0] S8x128.size inb).emb x) := by
  obtain ⟨s, l, rfl⟩ : ∃ (s : Fin 8) (l : Fin 128), x = ix2 s l := ⟨x 0, x 1, eq_ix2 x⟩
  have hs := s.isLt
  rw [emb_acc 248 (by omega), fold_last, load_acc arg5 f 248 (by omega)]
  unfold next
  rw [gain_last _ _ _ s l _ rfl]
  congr 1
  refine Finset.sum_congr rfl fun g _ => ?_
  rw [load_d]

end Cert.DwIdeal.Val

namespace Cert.DwIdeal.Val
open Cert.DwIdeal Cert.DwIdeal.Gen Idealize.ShloMosaic Idealize.ShloMosaic.TcCoe Idealize.SL.Sem
open Cert.DuIdeal.Val (padded padPieces canon_pad)

set_option maxHeartbeats 4000000 in
theorem trip_at (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S32x128 .f32) (harg3 : arg3.IsWhole) (arg4 : Memref sig .tc .vmem S8224x128 .f32) (harg4 : arg4.IsWhole) (arg5 : Memref sig .tc .vmem S256x128 .f32) (harg5 : arg5.IsWhole) (X2 : BufTy.Contents (Elt Ideal) arg2.view.ty) (X4 : BufTy.Contents (Elt Ideal) arg4.view.ty) (k : Fin k0_t1_loop.trips) (f : BufTy.Contents (Elt Ideal) arg5.view.ty) :
   ∀ p ∈ tripL_k0_t1 (F := Ideal) 𝒱 c bd i arg1 harg1 arg2 harg2 arg3 harg3 arg4 harg4 arg5 harg5 X2 X4 k f, ∀ x : p.1.shape.Idx, p.2 x = next arg2 arg4 arg5 X2 X4 k f (p.1.emb x) := by
  unfold tripL_k0_t1 trip_k0_t1
  sl_unfold_run_names
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_last arg2 arg4 arg5 X2 X4 k f _ x
  · exact fun x => piece_at arg2 arg4 arg5 X2 X4 k f ⟨30, by decide⟩ 240 rfl _ x
  · exact fun x => piece_at arg2 arg4 arg5 X2 X4 k f ⟨29, by decide⟩ 232 rfl _ x
  · exact fun x => piece_at arg2 arg4 arg5 X2 X4 k f ⟨28, by decide⟩ 224 rfl _ x
  · exact fun x => piece_at arg2 arg4 arg5 X2 X4 k f ⟨27, by decide⟩ 216 rfl _ x
  · exact fun x => piece_at arg2 arg4 arg5 X2 X4 k f ⟨26, by decide⟩ 208 rfl _ x
  · exact fun x => piece_at arg2 arg4 arg5 X2 X4 k f ⟨25, by decide⟩ 200 rfl _ x
  · exact fun x => piece_at arg2 arg4 arg5 X2 X4 k f ⟨24, by decide⟩ 192 rfl _ x
  · exact fun x => piece_at arg2 arg4 arg5 X2 X4 k f ⟨23, by decide⟩ 184 rfl _ x
  · exact fun x => piece_at arg2 arg4 arg5 X2 X4 k f ⟨22, by decide⟩ 176 rfl _ x
  · exact fun x => piece_at arg2 arg4 arg5 X2 X4 k f ⟨21, by decide⟩ 168 rfl _ x
  · exact fun x => piece_at arg2 arg4 arg5 X2 X4 k f ⟨20, by decide⟩ 160 rfl _ x
  · exact fun x => piece_at arg2 arg4 arg5 X2 X4 k f ⟨19, by decide⟩ 152 rfl _ x
  · exact fun x => piece_at arg2 arg4 arg5 X2 X4 k f ⟨18, by decide⟩ 144 rfl _ x
  · exact fun x => piece_at arg2 arg4 arg5 X2 X4 k f ⟨17, by decide⟩ 136 rfl _ x
  · exact fun x => piece_at arg2 arg4 arg5 X2 X4 k f ⟨16, by decide⟩ 128 rfl _ x
  · exact fun x => piece_at arg2 arg4 arg5 X2 X4 k f ⟨15, by decide⟩ 120 rfl _ x
  · exact fun x => piece_at arg2 arg4 arg5 X2 X4 k f ⟨14, by decide⟩ 112 rfl _ x
  · exact fun x => piece_at arg2 arg4 arg5 X2 X4 k f ⟨13, by decide⟩ 104 rfl _ x
  · exact fun x => piece_at arg2 arg4 arg5 X2 X4 k f ⟨12, by decide⟩ 96 rfl _ x
  · exact fun x => piece_at arg2 arg4 arg5 X2 X4 k f ⟨11, by decide⟩ 88 rfl _ x
  · exact fun x => piece_at arg2 arg4 arg5 X2 X4 k f ⟨10, by decide⟩ 80 rfl _ x
  · exact fun x => piece_at arg2 arg4 arg5 X2 X4 k f ⟨9, by decide⟩ 72 rfl _ x
  · exact fun x => piece_at arg2 arg4 arg5 X2 X4 k f ⟨8, by decide⟩ 64 rfl _ x
  · exact fun x => piece_at arg2 arg4 arg5 X2 X4 k f ⟨7, by decide⟩ 56 rfl _ x
  · exact fun x => piece_at arg2 arg4 arg5 X2 X4 k f ⟨6, by decide⟩ 48 rfl _ x
  · exact fun x => piece_at arg2 arg4 arg5 X2 X4 k f ⟨5, by decide⟩ 40 rfl _ x
  · exact fun x => piece_at arg2 arg4 arg5 X2 X4 k f ⟨4, by decide⟩ 32 rfl _ x
  · exact fun x => piece_at arg2 arg4 arg5 X2 X4 k f ⟨3, by decide⟩ 24 rfl _ x
  · exact fun x => piece_at arg2 arg4 arg5 X2 X4 k f ⟨2, by decide⟩ 16 rfl _ x
  · exact fun x => piece_at arg2 arg4 arg5 X2 X4 k f ⟨1, by decide⟩ 8 rfl _ x
  · exact fun x => piece_at arg2 arg4 arg5 X2 X4 k f ⟨0, by decide⟩ 0 rfl _ x

set_option maxHeartbeats 4000000 in
theorem trip_cover (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S32x128 .f32) (harg3 : arg3.IsWhole) (arg4 : Memref sig .tc .vmem S8224x128 .f32) (harg4 : arg4.IsWhole) (arg5 : Memref sig .tc .vmem S256x128 .f32) (harg5 : arg5.IsWhole) (X2 : BufTy.Contents (Elt Ideal) arg2.view.ty) (X4 : BufTy.Contents (Elt Ideal) arg4.view.ty) (k : Fin k0_t1_loop.trips) (f : BufTy.Contents (Elt Ideal) arg5.view.ty) (y : S256x128.Idx) :
   ∃ p ∈ tripL_k0_t1 (F := Ideal) 𝒱 c bd i arg1 harg1 arg2 harg2 arg3 harg3 arg4 harg4 arg5 harg5 X2 X4 k f, y ∈ p.1.set :=
  View.cover_of_tiledL (tripL_k0_t1 (F := Ideal) 𝒱 c bd i arg1 harg1 arg2 harg2 arg3 harg3 arg4 harg4 arg5 harg5 X2 X4 k f) S8x128.size (by sl_kernel_rfl) y

/-- After `n` trips the sums hold what they held before the loop and what the trips add. -/
theorem after_at (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S32x128 .f32) (harg3 : arg3.IsWhole) (arg4 : Memref sig .tc .vmem S8224x128 .f32) (harg4 : arg4.IsWhole) (arg5 : Memref sig .tc .vmem S256x128 .f32) (harg5 : arg5.IsWhole) (X2 : BufTy.Contents (Elt Ideal) arg2.view.ty) (X4 : BufTy.Contents (Elt Ideal) arg4.view.ty) (G : BufTy.Contents (Elt Ideal) arg5.view.ty) (n : ℕ) (hn : n ≤ 32) (y : S256x128.Idx) :
    arg5.view.read (Elt Ideal) (arg5.view.writes (Elt Ideal) G (pb_k0_t1 (F := Ideal) 𝒱 c bd i arg1 harg1 arg2 harg2 arg3 harg3 arg4 harg4 arg5 harg5 X2 X4 G n)) y
    = arg5.view.read (Elt Ideal) G y + ∑ t ∈ Finset.range n, Cert.Sums.ext0 (fun t : Fin 32 => gain (arg4.view.read (Elt Ideal) X4) (arg2.view.read (Elt Ideal) X2) t y) t := by
  induction n with
  | zero => rw [Finset.range_zero, Finset.sum_empty, add_zero]; rfl
  | succ n ih =>
    rw [pb_k0_t1_succ (F := Ideal) 𝒱 c bd i arg1 harg1 arg2 harg2 arg3 harg3 arg4 harg4 arg5 harg5 X2 X4 G ⟨n, hn⟩, View.writes_append]
    rw [View.read_writes_apply_of_pieces _ _ (next arg2 arg4 arg5 X2 X4 ⟨n, hn⟩ _) _ (trip_at 𝒱 c bd i arg1 harg1 arg2 harg2 arg3 harg3 arg4 harg4 arg5 harg5 X2 X4 ⟨n, hn⟩ _) y (trip_cover 𝒱 c bd i arg1 harg1 arg2 harg2 arg3 harg3 arg4 harg4 arg5 harg5 X2 X4 ⟨n, hn⟩ _ y)]
    unfold next
    rw [ih (Nat.le_of_succ_le hn), Finset.sum_range_succ, add_assoc, Cert.Sums.ext0_of_lt _ hn]

theorem out_at (c : Dev nD) (i : grid0.Coords) (arg1 : Memref sig .tc .vmem S8192x128 .f32) (harg1 : arg1.IsWhole) (arg2 : Memref sig .tc .vmem S8192x128 .f32) (harg2 : arg2.IsWhole) (arg3 : Memref sig .tc .vmem S32x128 .f32) (harg3 : arg3.IsWhole) (arg4 : Memref sig .tc .vmem S8224x128 .f32) (harg4 : arg4.IsWhole) (arg5 : Memref sig .tc .vmem S256x128 .f32) (harg5 : arg5.IsWhole)
    (x0 x1 : Vec Ideal S8192x128 .f32) (k : Fin 32) (l : Fin 128) :
    out0_A_2 c i arg1 harg1 arg2 harg2 arg3 harg3 arg4 harg4 arg5 harg5 x0 x1 (ix2 k l) = ∑ s : Fin 8, ∑ t ∈ Finset.range 32, Cert.Sums.ext0 (fun t : Fin 32 => gain (padded x0) x1 t (ix2 ⟨k.val * 8 + s.val, by omega⟩ l)) t := by
  frame_out
  rw [total_at]
  refine Finset.sum_congr rfl fun s _ => ?_
  unfold View.readCov
  rw [View.readAt_eq_ld, View.ld_unit_apply_of _ _ _ _ _ (ix2 (⟨k.val * 8 + s.val, by omega⟩ : Fin 256) l) (by intro a; fin_cases a <;> simp), View.writes_append]
  refine (after_at _ c _ i arg1 harg1 arg2 harg2 arg3 harg3 arg4 harg4 arg5 harg5 _ _ _ 32 (le_refl _) _).trans ?_
  rw [View.read_writes_full arg5.view _ _ _ [], harg2.read_unread, View.read_writes_junk_eq_canon]
  have e0 : k0_pay4 (F := Ideal) (ix2 (⟨k.val * 8 + s.val, by omega⟩ : Fin 256) l) = (0 : EReal) := by
    unfold k0_pay4
    pointwise
  rw [e0, zero_add]
  exact Finset.sum_congr rfl fun t _ => congrArg (fun P => Cert.Sums.ext0 (fun t => gain P x1 t (ix2 ⟨k.val * 8 + s.val, by omega⟩ l)) t) (funext (canon_pad x0))

/-- The eight sublanes, the 32 trips and the 32 groups of a trip are together the 8192 rows. -/
theorem sum_rows (F : Fin 8192 → EReal) :
    ∑ s : Fin 8, ∑ t ∈ Finset.range 32, Cert.Sums.ext0 (fun t : Fin 32 => ∑ g : Fin 32, F ⟨t.val * 256 + (g.val * 8 + s.val), by omega⟩) t = ∑ r, F r := by
  rw [Finset.sum_comm, ← Cert.Sums.sum_blocks (A := 32) (B := 256) (by norm_num) F]
  refine Finset.sum_congr rfl fun t ht => ?_
  have ht' : t < 32 := Finset.mem_range.mp ht
  simp only [Cert.Sums.ext0_of_lt _ ht']
  rw [Finset.sum_comm, ← Cert.Sums.sum_blocks (A := 32) (B := 8) (by norm_num) (fun x : Fin 256 => Cert.Sums.ext0 F (t * 256 + x.val)), Finset.sum_range]
  refine Finset.sum_congr rfl fun g _ => Finset.sum_congr rfl fun s _ => ?_
  rw [Cert.Sums.ext0_of_lt _ (show g.val * 8 + s.val < 256 by omega), Cert.Sums.ext0_of_lt _ (show t * 256 + (g.val * 8 + s.val) < 8192 by omega)]

/-- The gradient of the taps (rows 0 to 30: the products of the cotangent and the shifted rows) and of the bias (row 31). -/
def dw (u ct : S8192x1024.Idx → EReal) : S32x1024.Idx → EReal := fun y =>
  if (y 0).val < 31 then ∑ r : Fin 8192, (if h : 16 ≤ r.val + ((y 0).val + 1) ∧ r.val + ((y 0).val + 1) < 8208 then u (ix2 ⟨r.val + ((y 0).val + 1) - 16, by omega⟩ (y 1)) else 0) * ct (ix2 r (y 1))
  else ∑ r : Fin 8192, ct (ix2 r (y 1))

theorem sum_at (x0 x1 : S8192x128.Idx → EReal) (u ct : S8192x1024.Idx → EReal) (k : Fin 32) (l : Fin 128) (j : Fin 1024)
    (h0 : ∀ r : Fin 8192, x0 (ix2 r l) = u (ix2 r j)) (h1 : ∀ r : Fin 8192, x1 (ix2 r l) = ct (ix2 r j)) :
    ∑ s : Fin 8, ∑ t ∈ Finset.range 32, Cert.Sums.ext0 (fun t : Fin 32 => gain (padded x0) x1 t (ix2 ⟨k.val * 8 + s.val, by omega⟩ l)) t = dw u ct (ix2 k j) := by
  by_cases hk : k.val < 31
  · unfold dw
    rw [if_pos (show ((ix2 k j : S32x1024.Idx) 0).val < 31 from hk)]
    refine Eq.trans ?_ (sum_rows _)
    refine Finset.sum_congr rfl fun s _ => Finset.sum_congr rfl fun t _ => ?_
    congr 1
    funext t
    rw [gain_tap _ _ t ⟨k.val, hk⟩ s l _ (by simp only; omega)]
    refine Finset.sum_congr rfl fun g _ => ?_
    rw [h1]
    refine congrArg (· * _) ?_
    show (if h : 16 ≤ t.val * 256 + (g.val * 8 + s.val) + (k.val + 1) ∧ t.val * 256 + (g.val * 8 + s.val) + (k.val + 1) < 8208 then
      x0 (ix2 ⟨t.val * 256 + (g.val * 8 + s.val) + (k.val + 1) - 16, _⟩ l) else 0) =
      (if h : 16 ≤ t.val * 256 + (g.val * 8 + s.val) + (k.val + 1) ∧ t.val * 256 + (g.val * 8 + s.val) + (k.val + 1) < 8208 then
      u (ix2 ⟨t.val * 256 + (g.val * 8 + s.val) + (k.val + 1) - 16, _⟩ j) else 0)
    simp only [h0]
  · unfold dw
    rw [if_neg (show ¬ ((ix2 k j : S32x1024.Idx) 0).val < 31 from hk)]
    refine Eq.trans ?_ (sum_rows _)
    refine Finset.sum_congr rfl fun s _ => Finset.sum_congr rfl fun t _ => ?_
    congr 1
    funext t
    rw [gain_last _ _ t s l _ (by simp only; omega)]
    refine Finset.sum_congr rfl fun g _ => ?_
    exact h1 _

variable (m : (ℓ : Loc nD τ sig) → Buf (Elt Ideal) ℓ)

theorem idx0 : ∀ t : Fin cfg0.N, win0_0.index t = ![0, t.val] := by decide +kernel
theorem idx1 : ∀ t : Fin cfg0.N, win0_1.index t = ![0, t.val] := by decide +kernel
theorem idx2 : ∀ t : Fin cfg0.N, win0_2.index t = ![0, t.val] := by decide +kernel

theorem lane_lt (t : Fin cfg0.N) (l : Fin 128) : t.val * 128 + l.val < 1024 := by
  have h : t.val < 8 := t.isLt
  omega

theorem blk0 (c : Dev nD) (t : Fin cfg0.N) (r : Fin 8192) (l : Fin 128) :
    (iblk m c 0 t : S8192x128.Idx → EReal) (ix2 r l) = m ((c : Thread nD τ).loc main_arg0) (ix2 r ⟨t.val * 128 + l.val, lane_lt t l⟩) := by
  blk_point [iblk, idx0]

theorem blk1 (c : Dev nD) (t : Fin cfg0.N) (r : Fin 8192) (l : Fin 128) :
    (iblk m c 1 t : S8192x128.Idx → EReal) (ix2 r l) = m ((c : Thread nD τ).loc main_arg3) (ix2 r ⟨t.val * 128 + l.val, lane_lt t l⟩) := by
  blk_point [iblk, idx1]

/-- The whole result the kernel leaves, of the convolution's input and the cotangent. -/
theorem arr_eq (c : Dev nD) : (dats m 0 c).arrAt 2 cfg0.N = dw (m ((c : Thread nD τ).loc main_arg0)) (m ((c : Thread nD τ).loc main_arg3)) := by
  refine (dats m 0 c).arrAt_eq_of_covers 2 _ (by decide +kernel) fun t hf y => ?_
  obtain ⟨r, l, rfl⟩ : ∃ (r : Fin 32) (l : Fin 128), y = ix2 r l := ⟨y 0, y 1, eq_ix2 y⟩
  have e := out_at c (grid0.coords t) (ms0_0 t) (hs0_0 t) (ms0_1 t) (hs0_1 t) (ms0_2 t) (hs0_2 t) scM0_0 (Memref.isWhole_whole _) scM0_1 (Memref.isWhole_whole _) (iblk m c 0 t) (iblk m c 1 t) r l
  rw [after0_2]
  unfold outsAt0
  blk_simp [e]
  have hemb : (win0_2.blk t).view.emb (ix2 r l) = ix2 r ⟨t.val * 128 + l.val, lane_lt t l⟩ := by
    blk_ext! [idx2]
  rw [hemb]
  exact sum_at _ _ _ _ r l _ (fun r => blk0 m c t r l) (fun r => blk1 m c t r l)

end Cert.DwIdeal.Val
-- ==== Proof.ConvDwRef.lean ====
module
public import proofs.«01_k».proof.Proof.Gen.DwRefIdeal.Run
public import proofs.«01_k».proof.Proof.Gen.DwRefIdeal.Read
public import proofs.«01_k».proof.Proof.ConvDw
public import proofs.«01_k».proof.Proof.ConvDuRef
@[expose] public section
set_option maxRecDepth 16384
noncomputable section
namespace Cert.DwRefIdeal.Val
open Cert.DwRefIdeal Cert.DwRefIdeal.Gen Cert.DwRefIdeal.Read Idealize.ShloMosaic Idealize.ShloMosaic.TcCoe Idealize.SL.Sem

abbrev dG := gather_S8222x1024_S8192x31x1_S8192x31x1024_2_0_n_n_0_2_11024

theorem start0 (s : Fin 8192) (k : Fin 31) (l : Fin 1024) (I : IVec S8192x31x1 32) : dG.start (ix3 s k l) I 0 = min (I (ix3 s k 0)).toInt.toNat 8221 := by
  show min (I _).toInt.toNat _ = _
  congr 4
  funext a
  match a with
  | ⟨0, _⟩ => rfl
  | ⟨1, _⟩ => rfl
  | ⟨2, _⟩ => rfl

/-- The windows: entry `(s, k, l)` is the padded input's row `s + k`. -/
theorem gather_at (x : S8222x1024.Idx → EReal) (I : IVec S8192x31x1 32) (hI : ∀ (s : Fin 8192) (k : Fin 31), I (ix3 s k 0) = BitVec.ofNat 32 (s.val + k.val))
    (s : Fin 8192) (k : Fin 31) (l : Fin 1024) : Host.gather dG x I (ix3 s k l) = x (ix2 ⟨s.val + k.val, by omega⟩ l) := by
  unfold Host.gather
  refine congrArg x (funext fun a => Fin.ext ?_)
  have hs := s.isLt
  have hk := k.isLt
  have e : (BitVec.ofNat 32 (s.val + k.val)).toInt = ((s.val + k.val : ℕ) : Int) := by
    rw [BitVec.toInt_eq_toNat_of_lt] <;> rw [BitVec.toNat_ofNat, Nat.mod_eq_of_lt (by omega)]
    omega
  match a with
  | ⟨0, _⟩ =>
    show dG.start (ix3 s k l) I 0 + 0 + 0 = s.val + k.val
    rw [start0, hI, e]
    omega
  | ⟨1, _⟩ =>
    show 0 + 0 + l.val = l.val
    omega

/-- Row `n` of the input under 15 zero rows above and below. -/
theorem padded_at (u : S8192x1024.Idx → EReal) (n : Fin 8222) (l : Fin 1024) :
    val_main_v8 (F := Ideal) u (ix2 n l) = if h : 15 ≤ n.val ∧ n.val < 8207 then u (ix2 ⟨n.val - 15, by omega⟩ l) else 0 := by
  have e0 : ∀ j : S15x1024.Idx, val_main_v7 (F := Ideal) j = (0 : EReal) := fun j => by
    unfold val_main_v7 val_main_cst
    pointwise
  unfold val_main_v8
  generalize val_main_v7 (F := Ideal) = Z at *
  pointwise
  by_cases h1 : n.val < 15
  · rw [dif_pos h1, dif_neg (by omega)]
    exact e0 _
  · rw [dif_neg h1]
    by_cases h2 : n.val - 15 < 8192
    · rw [dif_pos h2, dif_pos (by omega)]
    · rw [dif_neg h2, dif_neg (by omega)]
      exact e0 _

theorem win_at (u : S8192x1024.Idx → EReal) (s : Fin 8192) (k : Fin 31) (l : Fin 1024) :
    val_main_v17 (F := Ideal) u (ix3 s k l) = val_main_v8 (F := Ideal) u (ix2 ⟨s.val + k.val, by omega⟩ l) :=
  gather_at _ _ Cert.DuRefIdeal.Val.rows_at s k l

theorem taps_at (u ct : S8192x1024.Idx → EReal) (k : Fin 31) (l : Fin 1024) :
    val_main_v35 (F := Ideal) u ct (ix2 k l) = ∑ s : Fin 8192, val_main_v8 (F := Ideal) u (ix2 ⟨s.val + k.val, by omega⟩ l) * ct (ix2 s l) := by
  have e := fun s => win_at u s k l
  unfold val_main_v35 val_main_v32 val_main_v31 val_main_v30 val_main_v29 val_main_v25 val_main_cst_6 val_main_cst_7
  generalize val_main_v17 (F := Ideal) u = W at *
  generalize val_main_v8 (F := Ideal) u = P at *
  pointwise
  simp only [e]
  exact Fin.sum_univ_one _

theorem bias_at (ct : S8192x1024.Idx → EReal) (l : Fin 1024) :
    val_main_v41 (F := Ideal) ct (ix2 0 l) = ∑ s : Fin 8192, ct (ix2 s l) := by
  unfold val_main_v41 val_main_v28 val_main_v27 val_main_v26 val_main_cst_4 val_main_cst_5
  pointwise
  exact Fin.sum_univ_one _

/-- The reference's gradients of the taps and of the bias, in the kernel's layout. -/
theorem ref_eq (u ct : S8192x1024.Idx → EReal) : val_main_v42 (F := Ideal) u ct = Cert.DwIdeal.Val.dw u ct := by
  funext y
  obtain ⟨k, l, rfl⟩ : ∃ (k : Fin 32) (l : Fin 1024), y = ix2 k l := ⟨y 0, y 1, eq_ix2 y⟩
  unfold val_main_v42
  have hA := fun k => taps_at u ct k l
  have hB := bias_at ct l
  generalize val_main_v35 (F := Ideal) u ct = A at *
  generalize val_main_v41 (F := Ideal) ct = B at *
  pointwise
  by_cases hk : k.val < 31
  · rw [dif_pos hk, hA]
    unfold Cert.DwIdeal.Val.dw
    rw [if_pos (show ((ix2 k l : S32x1024.Idx) 0).val < 31 from hk)]
    refine Finset.sum_congr rfl fun s _ => ?_
    rw [padded_at]
    refine congrArg (· * _) ?_
    show (if h : 15 ≤ s.val + k.val ∧ s.val + k.val < 8207 then u (ix2 ⟨s.val + k.val - 15, _⟩ l) else 0)
      = (if h : 16 ≤ s.val + (k.val + 1) ∧ s.val + (k.val + 1) < 8208 then u (ix2 ⟨s.val + (k.val + 1) - 16, _⟩ l) else 0)
    by_cases h : 15 ≤ s.val + k.val ∧ s.val + k.val < 8207
    · rw [dif_pos h, dif_pos (by omega)]
      congr 3
    · rw [dif_neg h, dif_neg (by omega)]
  · rw [dif_neg hk]
    refine Eq.trans ?_ (hB.trans ?_)
    · congr 1
      idx_ext
    · unfold Cert.DwIdeal.Val.dw
      rw [if_neg (show ¬ ((ix2 k l : S32x1024.Idx) 0).val < 31 from hk)]
      rfl

/-- The reference terminates with these gradients and leaves its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = Cert.DwIdeal.Val.dw (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v42_eq (F := Ideal) _ _).trans (ref_eq _ _)), (h c).2⟩) (Cert.DwRefIdeal.Value.run m ρ)
end Cert.DwRefIdeal.Val
-- ==== Proof.AttBody.lean ====
module
public import proofs.«01_k».proof.Proof.Gen.AttBwdIdeal.Frame
public import Idealize.ShloMosaic.Lib.Pointwise
public import Idealize.ShloMosaic.Lib.Pipeline.ValueKit
public import Idealize.ShloMosaic.Lib.WritesUnit
public import proofs.«01_k».proof.Proof.Sums
@[expose] public section
set_option maxRecDepth 16384
noncomputable section
namespace Cert.AttBwdIdeal.Val
open Cert.AttBwdIdeal Cert.AttBwdIdeal.Gen Idealize.ShloMosaic Idealize.ShloMosaic.TcCoe Idealize.SL.Sem

/-- The row sum of the cotangent times the forward's result: the softmax term of row `r`. -/
def dsumB (x1 : Vec Ideal S2048x128 .bf16) (x2 : Vec Ideal S2048x128 .f32) (r : Fin 2048) : EReal := ∑ d : Fin 128, (x1 (ix2 r d) : EReal) * x2 (ix2 r d)

/-- The probability of key `j` for the query row `r` of a block, from the scores and the saved logarithm of the row's sum. -/
def pB (x0 : Vec Ideal S2048x256 .bf16) (x3 : Vec Ideal S1x1x2048 .f32) (x4 : Vec Ideal S8192x256 .bf16) (j : Fin 8192) (r : Fin 2048) : EReal :=
  Ideal.exp2 ((∑ d : Fin 256, (x4 (ix2 j d) : EReal) * x0 (ix2 r d)) - x3 (ix3 0 0 r))

/-- The score's cotangent at key `j` and row `r` of a block. -/
def dsB (x0 : Vec Ideal S2048x256 .bf16) (x1 : Vec Ideal S2048x128 .bf16) (x2 : Vec Ideal S2048x128 .f32) (x3 : Vec Ideal S1x1x2048 .f32) (x4 : Vec Ideal S8192x256 .bf16) (x5 : Vec Ideal S8192x128 .bf16) (j : Fin 8192) (r : Fin 2048) : EReal :=
  pB x0 x3 x4 j r * ((∑ d : Fin 128, (x5 (ix2 j d) : EReal) * x1 (ix2 r d)) - dsumB x1 x2 r)

theorem pay3_at (x1 : Vec Ideal S2048x128 .bf16) (x2 : Vec Ideal S2048x128 .f32) (u : Fin 1) (r : Fin 2048) : k0_pay3 (F := Ideal) x1 x2 (ix2 u r) = dsumB x1 x2 r := by
  unfold k0_pay3 dsumB
  pointwise
theorem pay4_at (x3 : Vec Ideal S1x1x2048 .f32) (u : Fin 1) (r : Fin 2048) : k0_pay4 (F := Ideal) x3 (ix2 u r) = x3 (ix3 0 0 r) := by
  unfold k0_pay4
  pointwise
theorem pay8_at (v13 : FVec Ideal S1x2048 .f32) (v24 : Vec Ideal S1024x256 .bf16) (v26 : Vec Ideal S2048x256 .bf16) (j : Fin 1024) (r : Fin 2048) :
   k0_pay8 (F := Ideal) v13 v24 v26 (ix2 j r) = Ideal.exp2 ((∑ d : Fin 256, (v24 (ix2 j d) : EReal) * v26 (ix2 r d)) - v13 (ix2 0 r)) := by
  unfold k0_pay8
  pointwise
  rfl
theorem pay9_at (v11 v13 : FVec Ideal S1x2048 .f32) (v24 : Vec Ideal S1024x256 .bf16) (v26 : Vec Ideal S2048x256 .bf16) (v32 : Vec Ideal S1024x128 .bf16) (v34 : Vec Ideal S2048x128 .bf16) (j : Fin 1024) (r : Fin 2048) :
   k0_pay9 (F := Ideal) v11 v13 v24 v26 v32 v34 (ix2 j r) = k0_pay8 (F := Ideal) v13 v24 v26 (ix2 j r) * ((∑ d : Fin 128, (v32 (ix2 j d) : EReal) * v34 (ix2 r d)) - v11 (ix2 0 r)) := by
  unfold k0_pay9
  pointwise
theorem pay10_at (v13 : FVec Ideal S1x2048 .f32) (v24 : Vec Ideal S1024x256 .bf16) (v26 : Vec Ideal S2048x256 .bf16) (v47 : Vec Ideal S1024x128 .f32) (v50 : Vec Ideal S2048x128 .bf16) (j : Fin 1024) (l : Fin 128) :
   k0_pay10 (F := Ideal) v13 v24 v26 v47 v50 (ix2 j l) = v47 (ix2 j l) + ∑ r : Fin 2048, k0_pay8 (F := Ideal) v13 v24 v26 (ix2 j r) * v50 (ix2 r l) := by
  unfold k0_pay10
  pointwise
theorem pay6_at (v43 : FVec Ideal S1024x2048 .bf16) (v59 : Vec Ideal S1024x256 .f32) (v61 : Vec Ideal S2048x256 .bf16) (j : Fin 1024) (l : Fin 256) :
   k0_pay6 (F := Ideal) v43 (k0_pay11 v59) v61 (ix2 j l) = v59 (ix2 j l) + ∑ r : Fin 2048, (v43 (ix2 j r) : EReal) * v61 (ix2 r l) := by
  unfold k0_pay6 k0_pay11
  pointwise
theorem pay7_at (v43 : FVec Ideal S1024x2048 .bf16) (v67 : Vec Ideal S2048x256 .f32) (v71 : Vec Ideal S1024x256 .bf16) (r : Fin 2048) (l : Fin 256) :
   k0_pay7 (F := Ideal) v43 v67 v71 (ix2 r l) = v67 (ix2 r l) + ∑ j : Fin 1024, (v43 (ix2 j r) : EReal) * v71 (ix2 j l) := by
  unfold k0_pay7
  pointwise

theorem off1_eq (k : Fin k0_t1_loop.trips) : k0_off1 k = ![k.val * 1024, 0] := by
  revert k; decide +kernel
theorem off2_eq (k : Fin k0_t1_loop.trips) : k0_off2 k = ![k.val * 1024, 0] := by
  revert k; decide +kernel

/-- A load of a band of whole rows reads the buffer's row. -/
theorem rows_read {A B W : ℕ} {e : EltTy} (v : View sig .tc .vmem (⟨2, ![A, B]⟩ : Shape) e) (f : v.ty.Contents (Elt Ideal)) (off : Fin 2 → ℕ) (o : ℕ) (ho : off = ![o, 0])
    (inb : ∀ a : Fin 2, off a + (![W, B] : Fin 2 → ℕ) a ≤ (![A, B] : Fin 2 → ℕ) a) (x : Fin W) (y : Fin B) (j : Fin A) (hj : j.val = o + x.val) :
    View.readAt (Elt Ideal) v (Rect.unit (s := (⟨2, ![A, B]⟩ : Shape)) off ![W, B] inb).toLoadRect f (ix2 x y) = v.read (Elt Ideal) f (ix2 j y) := by
  subst ho
  rw [View.readAt_eq_ld]
  refine View.ld_unit_apply_of _ _ _ _ _ (ix2 j y) ?_
  intro a
  fin_cases a
  · exact hj
  · simp

/-- A band of whole rows stored last hides what lay under it and leaves the other rows. -/
theorem band_read {A B W : ℕ} {e : EltTy} (v : View sig .tc .vmem (⟨2, ![A, B]⟩ : Shape) e) (f : v.ty.Contents (Elt Ideal)) (off : Fin 2 → ℕ) (o : ℕ) (ho : off = ![o, 0])
    (inb : ∀ a : Fin 2, off a + (![W, B] : Fin 2 → ℕ) a ≤ (![A, B] : Fin 2 → ℕ) a) (w : (⟨2, ![W, B]⟩ : Shape).Idx → Elt Ideal e) (L : List (View.Piece (Elt Ideal) (⟨2, ![A, B]⟩ : Shape) e)) (j : Fin A) (l : Fin B) :
    v.read (Elt Ideal) (v.writes (Elt Ideal) f ((⟨Rect.unit (s := (⟨2, ![A, B]⟩ : Shape)) off ![W, B] inb, w⟩ : View.Piece (Elt Ideal) (⟨2, ![A, B]⟩ : Shape) e) :: L)) (ix2 j l)
    = if h : o ≤ j.val ∧ j.val < o + W then w (ix2 ⟨j.val - o, by omega⟩ l) else v.read (Elt Ideal) (v.writes (Elt Ideal) f L) (ix2 j l) := by
  by_cases h : o ≤ j.val ∧ j.val < o + W
  · rw [dif_pos h]
    exact View.read_writes_cons_rows_of_mem (o := o) v f inb w L (ix2 j l) (ix2 (⟨j.val - o, by omega⟩ : Fin W) l) ho (by show j.val = o + (j.val - o); omega) rfl
  · rw [dif_neg h]
    exact View.read_writes_cons_rows_of_not_mem (o := o) (W := W) v f inb w L (ix2 j l) ho rfl (by show j.val < o ∨ o + W ≤ j.val; omega)

variable (c : Dev nD) (i : grid0.Coords) (arg2 : Memref sig .tc .vmem S2048x256 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S1x1x2048 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S2048x256 .f32) (harg8 : arg8.IsWhole) (arg9 : Memref sig .tc .vmem S8192x256 .f32) (harg9 : arg9.IsWhole) (arg10 : Memref sig .tc .vmem S8192x128 .f32) (harg10 : arg10.IsWhole) (arg11 : Memref sig .tc .vmem S2048x256 .f32) (harg11 : arg11.IsWhole)
  {x0 : Vec Ideal S2048x256 .bf16} {x1 : Vec Ideal S2048x128 .bf16} {x2 : Vec Ideal S2048x128 .f32} {x3 : Vec Ideal S1x1x2048 .f32} {x4 : Vec Ideal S8192x256 .bf16} {x5 : Vec Ideal S8192x128 .bf16}

/-- What the loop has stored after `n` trips, from the buffers' contents before it. -/
abbrev pbI (G9 : BufTy.Contents (Elt Ideal) arg9.view.ty) (G10 : BufTy.Contents (Elt Ideal) arg10.view.ty) (G11 : BufTy.Contents (Elt Ideal) arg11.view.ty) (n : ℕ) :=
  pb_k0_t1 (F := Ideal) Variants.none c none i arg2 harg2 arg3 harg3 arg4 harg4 arg5 harg5 arg6 harg6 arg7 harg7 arg8 harg8 arg9 harg9 arg10 harg10 arg11 harg11 x1 x2 x3 (harg2.unread x0) (harg3.unread x1) (harg6.unread x4) (harg7.unread x5) G9 G10 G11 n

theorem p_at (k : Fin k0_t1_loop.trips) (j : Fin 8192) (x : Fin 1024) (hj : j.val = k.val * 1024 + x.val) (r : Fin 2048) :
   k0_pay8 (F := Ideal) (k0_pay4 x3) (View.readAt (Elt Ideal) arg6.view (Rect.unit (s := S8192x256) (k0_off1 k) S1024x256.size (k0_off1_inb k)).toLoadRect (harg6.unread x4))
     (View.readAt (Elt Ideal) arg2.view (Rect.unit (s := S2048x256) ![0, 0] S2048x256.size inb_S2048x256_S2048x256_0_0).toLoadRect (harg2.unread x0)) (ix2 x r) = pB x0 x3 x4 j r := by
  rw [pay8_at, pay4_at]
  unfold pB
  congr 2
  refine Finset.sum_congr rfl fun d _ => ?_
  congr 1
  · refine (rows_read arg6.view _ _ _ (off1_eq k) _ x d j hj).trans ?_
    rw [harg6.read_unread]
  · refine (rows_read arg2.view _ _ 0 rfl _ r d r (by omega)).trans ?_
    rw [harg2.read_unread]

theorem ds_at (k : Fin k0_t1_loop.trips) (j : Fin 8192) (x : Fin 1024) (hj : j.val = k.val * 1024 + x.val) (r : Fin 2048) :
   k0_pay9 (F := Ideal) (k0_pay3 x1 x2) (k0_pay4 x3) (View.readAt (Elt Ideal) arg6.view (Rect.unit (s := S8192x256) (k0_off1 k) S1024x256.size (k0_off1_inb k)).toLoadRect (harg6.unread x4))
     (View.readAt (Elt Ideal) arg2.view (Rect.unit (s := S2048x256) ![0, 0] S2048x256.size inb_S2048x256_S2048x256_0_0).toLoadRect (harg2.unread x0))
     (View.readAt (Elt Ideal) arg7.view (Rect.unit (s := S8192x128) (k0_off2 k) S1024x128.size (k0_off2_inb k)).toLoadRect (harg7.unread x5))
     (View.readAt (Elt Ideal) arg3.view (Rect.unit (s := S2048x128) ![0, 0] S2048x128.size inb_S2048x128_S2048x128_0_0).toLoadRect (harg3.unread x1)) (ix2 x r) = dsB x0 x1 x2 x3 x4 x5 j r := by
  rw [pay9_at, p_at arg2 harg2 arg6 harg6 k j x hj r, pay3_at]
  unfold dsB
  congr 2
  refine Finset.sum_congr rfl fun d _ => ?_
  congr 1
  · refine (rows_read arg7.view _ _ _ (off2_eq k) _ x d j hj).trans ?_
    rw [harg7.read_unread]
  · refine (rows_read arg3.view _ _ 0 rfl _ r d r (by omega)).trans ?_
    rw [harg3.read_unread]

/-- After `n` trips the first `1024 n` rows of the keys' gradient have their sum added, the others are as before. -/
theorem inv9 (G9 : BufTy.Contents (Elt Ideal) arg9.view.ty) (G10 : BufTy.Contents (Elt Ideal) arg10.view.ty) (G11 : BufTy.Contents (Elt Ideal) arg11.view.ty) (n : ℕ) (hn : n ≤ k0_t1_loop.trips) (j : Fin 8192) (l : Fin 256) :
   arg9.view.read (Elt Ideal) (arg9.view.writes (Elt Ideal) G9 (pbI c i arg2 harg2 arg3 harg3 arg4 harg4 arg5 harg5 arg6 harg6 arg7 harg7 arg8 harg8 arg9 harg9 arg10 harg10 arg11 harg11 (x0 := x0) (x1 := x1) (x2 := x2) (x3 := x3) (x4 := x4) (x5 := x5) G9 G10 G11 n).1) (ix2 j l)
   = arg9.view.read (Elt Ideal) G9 (ix2 j l) + if j.val < n * 1024 then ∑ r : Fin 2048, dsB x0 x1 x2 x3 x4 x5 j r * (x0 (ix2 r l) : EReal) else 0 := by
  induction n with
  | zero =>
    rw [if_neg (by omega), add_zero]
    rfl
  | succ n ih =>
    have ih := ih (Nat.le_of_succ_le hn)
    rw [pbI, pb_k0_t1_succ (F := Ideal) Variants.none c none i arg2 harg2 arg3 harg3 arg4 harg4 arg5 harg5 arg6 harg6 arg7 harg7 arg8 harg8 arg9 harg9 arg10 harg10 arg11 harg11 x1 x2 x3 _ _ _ _ _ _ _ ⟨n, hn⟩]
    unfold tripL_k0_t1 trip_k0_t1
    sl_unfold_run_names
    refine (band_read (W := 1024) arg9.view _ _ (n * 1024) (off1_eq ⟨n, hn⟩) _ _ _ j l).trans ?_
    by_cases h : n * 1024 ≤ j.val ∧ j.val < n * 1024 + 1024
    · rw [dif_pos h, if_pos (by omega)]
      refine (pay6_at _ _ _ _ l).trans ?_
      congr 1
      · refine (rows_read arg9.view _ _ _ (off1_eq ⟨n, hn⟩) _ _ l j (by show j.val = n * 1024 + (j.val - n * 1024); omega)).trans ?_
        refine ih.trans ?_
        rw [if_neg (by omega), add_zero]
      · refine Finset.sum_congr rfl fun r _ => ?_
        congr 1
        · exact ds_at arg2 harg2 arg3 harg3 arg6 harg6 arg7 harg7 ⟨n, hn⟩ j _ (by show j.val = n * 1024 + (j.val - n * 1024); omega) r
        · refine (rows_read arg2.view _ _ 0 rfl _ r l r (by omega)).trans ?_
          rw [harg2.read_unread]
    · rw [dif_neg h]
      refine ih.trans ?_
      congr 1
      by_cases h2 : j.val < n * 1024
      · rw [if_pos h2, if_pos (by omega)]
      · rw [if_neg h2, if_neg (by omega)]

/-- After `n` trips the first `1024 n` rows of the values' gradient have their sum added, the others are as before. -/
theorem inv10 (G9 : BufTy.Contents (Elt Ideal) arg9.view.ty) (G10 : BufTy.Contents (Elt Ideal) arg10.view.ty) (G11 : BufTy.Contents (Elt Ideal) arg11.view.ty) (n : ℕ) (hn : n ≤ k0_t1_loop.trips) (j : Fin 8192) (l : Fin 128) :
   arg10.view.read (Elt Ideal) (arg10.view.writes (Elt Ideal) G10 (pbI c i arg2 harg2 arg3 harg3 arg4 harg4 arg5 harg5 arg6 harg6 arg7 harg7 arg8 harg8 arg9 harg9 arg10 harg10 arg11 harg11 (x0 := x0) (x1 := x1) (x2 := x2) (x3 := x3) (x4 := x4) (x5 := x5) G9 G10 G11 n).2.1) (ix2 j l)
   = arg10.view.read (Elt Ideal) G10 (ix2 j l) + if j.val < n * 1024 then ∑ r : Fin 2048, pB x0 x3 x4 j r * (x1 (ix2 r l) : EReal) else 0 := by
  induction n with
  | zero =>
    rw [if_neg (by omega), add_zero]
    rfl
  | succ n ih =>
    have ih := ih (Nat.le_of_succ_le hn)
    rw [pbI, pb_k0_t1_succ (F := Ideal) Variants.none c none i arg2 harg2 arg3 harg3 arg4 harg4 arg5 harg5 arg6 harg6 arg7 harg7 arg8 harg8 arg9 harg9 arg10 harg10 arg11 harg11 x1 x2 x3 _ _ _ _ _ _ _ ⟨n, hn⟩]
    unfold tripL_k0_t1 trip_k0_t1
    sl_unfold_run_names
    refine (band_read (W := 1024) arg10.view _ _ (n * 1024) (off2_eq ⟨n, hn⟩) _ _ _ j l).trans ?_
    by_cases h : n * 1024 ≤ j.val ∧ j.val < n * 1024 + 1024
    · rw [dif_pos h, if_pos (by omega)]
      refine (pay10_at _ _ _ _ _ _ l).trans ?_
      congr 1
      · refine (rows_read arg10.view _ _ _ (off2_eq ⟨n, hn⟩) _ _ l j (by show j.val = n * 1024 + (j.val - n * 1024); omega)).trans ?_
        refine ih.trans ?_
        rw [if_neg (by omega), add_zero]
      · refine Finset.sum_congr rfl fun r _ => ?_
        congr 1
        · exact p_at arg2 harg2 arg6 harg6 ⟨n, hn⟩ j _ (by show j.val = n * 1024 + (j.val - n * 1024); omega) r
        · refine (rows_read arg3.view _ _ 0 rfl _ r l r (by omega)).trans ?_
          rw [harg3.read_unread]
    · rw [dif_neg h]
      refine ih.trans ?_
      congr 1
      by_cases h2 : j.val < n * 1024
      · rw [if_pos h2, if_pos (by omega)]
      · rw [if_neg h2, if_neg (by omega)]

/-- After `n` trips the queries' gradient holds the sum over the first `1024 n` keys. -/
theorem inv11 (G9 : BufTy.Contents (Elt Ideal) arg9.view.ty) (G10 : BufTy.Contents (Elt Ideal) arg10.view.ty) (G11 : BufTy.Contents (Elt Ideal) arg11.view.ty) (n : ℕ) (hn : n ≤ k0_t1_loop.trips) (r : Fin 2048) (l : Fin 256) :
   arg11.view.read (Elt Ideal) (arg11.view.writes (Elt Ideal) G11 (pbI c i arg2 harg2 arg3 harg3 arg4 harg4 arg5 harg5 arg6 harg6 arg7 harg7 arg8 harg8 arg9 harg9 arg10 harg10 arg11 harg11 (x0 := x0) (x1 := x1) (x2 := x2) (x3 := x3) (x4 := x4) (x5 := x5) G9 G10 G11 n).2.2) (ix2 r l)
   = arg11.view.read (Elt Ideal) G11 (ix2 r l) + ∑ q ∈ Finset.range n, ∑ x : Fin 1024, Cert.Sums.ext0 (fun j => dsB x0 x1 x2 x3 x4 x5 j r * (x4 (ix2 j l) : EReal)) (q * 1024 + x.val) := by
  induction n with
  | zero =>
    rw [Finset.range_zero, Finset.sum_empty, add_zero]
    rfl
  | succ n ih =>
    have ih := ih (Nat.le_of_succ_le hn)
    have h8 : n < 8 := hn
    rw [pbI, pb_k0_t1_succ (F := Ideal) Variants.none c none i arg2 harg2 arg3 harg3 arg4 harg4 arg5 harg5 arg6 harg6 arg7 harg7 arg8 harg8 arg9 harg9 arg10 harg10 arg11 harg11 x1 x2 x3 _ _ _ _ _ _ _ ⟨n, hn⟩]
    unfold tripL_k0_t1 trip_k0_t1
    sl_unfold_run_names
    refine (band_read (W := 2048) arg11.view _ _ 0 rfl _ _ _ r l).trans ?_
    rw [dif_pos (by omega), Finset.sum_range_succ, ← add_assoc]
    refine (pay7_at _ _ _ _ l).trans ?_
    congr 1
    · exact (rows_read arg11.view _ _ 0 rfl _ _ l r (by show r.val = 0 + (r.val - 0); omega)).trans ih
    · refine Finset.sum_congr rfl fun x _ => ?_
      have hx : n * 1024 + x.val < 8192 := by omega
      rw [Cert.Sums.ext0_of_lt _ hx]
      congr 1
      · exact ds_at arg2 harg2 arg3 harg3 arg6 harg6 arg7 harg7 ⟨n, hn⟩ ⟨n * 1024 + x.val, hx⟩ x rfl r
      · refine (rows_read arg6.view _ _ _ (off1_eq ⟨n, hn⟩) _ x l ⟨n * 1024 + x.val, hx⟩ rfl).trans ?_
        rw [harg6.read_unread]

theorem full_read {A B : ℕ} {e : EltTy} (v : View sig .tc .vmem (⟨2, ![A, B]⟩ : Shape) e) (f : v.ty.Contents (Elt Ideal))
    (inb : ∀ a : Fin 2, (![0, 0] : Fin 2 → ℕ) a + (![A, B] : Fin 2 → ℕ) a ≤ (![A, B] : Fin 2 → ℕ) a) (w : (⟨2, ![A, B]⟩ : Shape).Idx → Elt Ideal e) (j : Fin A) (l : Fin B) :
    v.read (Elt Ideal) (v.writes (Elt Ideal) f [(⟨Rect.unit (s := (⟨2, ![A, B]⟩ : Shape)) ![0, 0] ![A, B] inb, w⟩ : View.Piece (Elt Ideal) (⟨2, ![A, B]⟩ : Shape) e)]) (ix2 j l)
    = w (ix2 j l) := by
  rw [band_read (W := A) v f _ 0 rfl inb w [] j l, dif_pos (by omega)]
  rfl

theorem pay1_at (j : Fin 8192) (l : Fin 256) : k0_pay1 (F := Ideal) (ix2 j l) = (0 : EReal) := by
  unfold k0_pay1
  pointwise
theorem pay2_at (j : Fin 8192) (l : Fin 128) : k0_pay2 (F := Ideal) (ix2 j l) = (0 : EReal) := by
  unfold k0_pay2
  pointwise
theorem pay5_at (j : Fin 2048) (l : Fin 256) : k0_pay5 (F := Ideal) (ix2 j l) = (0 : EReal) := by
  unfold k0_pay5
  pointwise

theorem out_A_6 (hc0 : cond0_0 i) (j : Fin 2048) (l : Fin 256) :
   out0_A_6 c i arg2 harg2 arg3 harg3 arg4 harg4 arg5 harg5 arg6 harg6 arg7 harg7 arg8 harg8 arg9 harg9 arg10 harg10 arg11 harg11 hc0 x0 x1 x2 x3 x4 x5 (ix2 j l) = ∑ k : Fin 8192, dsB x0 x1 x2 x3 x4 x5 k j * (x4 (ix2 k l) : EReal) := by
  frame_out
  unfold View.readCov
  refine (rows_read arg11.view _ _ 0 rfl _ j l j (by omega)).trans ?_
  rw [View.writes_append]
  refine (inv11 c i arg2 harg2 arg3 harg3 arg4 harg4 arg5 harg5 arg6 harg6 arg7 harg7 arg8 harg8 arg9 harg9 arg10 harg10 arg11 harg11 _ _ _ 8 (le_refl _) j l).trans ?_
  rw [Cert.Sums.sum_blocks (B := 1024) (by norm_num), full_read, pay5_at, zero_add]

theorem out_B_6 (hc0 : ¬cond0_0 i) (x7 : Vec Ideal S8192x256 .f32) (x8 : Vec Ideal S8192x128 .f32) (j : Fin 2048) (l : Fin 256) :
   out0_B_6 c i arg2 harg2 arg3 harg3 arg4 harg4 arg5 harg5 arg6 harg6 arg7 harg7 arg8 harg8 arg9 harg9 arg10 harg10 arg11 harg11 hc0 x0 x1 x2 x3 x4 x5 x7 x8 (ix2 j l) = ∑ k : Fin 8192, dsB x0 x1 x2 x3 x4 x5 k j * (x4 (ix2 k l) : EReal) := by
  frame_out
  unfold View.readCov
  refine (rows_read arg11.view _ _ 0 rfl _ j l j (by omega)).trans ?_
  rw [View.writes_append]
  refine (inv11 c i arg2 harg2 arg3 harg3 arg4 harg4 arg5 harg5 arg6 harg6 arg7 harg7 arg8 harg8 arg9 harg9 arg10 harg10 arg11 harg11 _ _ _ 8 (le_refl _) j l).trans ?_
  rw [Cert.Sums.sum_blocks (B := 1024) (by norm_num), full_read, pay5_at, zero_add]

theorem out_A_7 (hc0 : cond0_0 i) (j : Fin 8192) (l : Fin 256) :
   out0_A_7 c i arg2 harg2 arg3 harg3 arg4 harg4 arg5 harg5 arg6 harg6 arg7 harg7 arg8 harg8 arg9 harg9 arg10 harg10 arg11 harg11 hc0 x0 x1 x2 x3 x4 x5 (ix2 j l) = ∑ r : Fin 2048, dsB x0 x1 x2 x3 x4 x5 j r * (x0 (ix2 r l) : EReal) := by
  frame_out
  rw [← View.read_writes_junk_eq_canon arg9.view, View.writes_append]
  refine (inv9 c i arg2 harg2 arg3 harg3 arg4 harg4 arg5 harg5 arg6 harg6 arg7 harg7 arg8 harg8 arg9 harg9 arg10 harg10 arg11 harg11 _ _ _ 8 (le_refl _) j l).trans ?_
  rw [if_pos (by omega), full_read, pay1_at, zero_add]

theorem out_A_8 (hc0 : cond0_0 i) (j : Fin 8192) (l : Fin 128) :
   out0_A_8 c i arg2 harg2 arg3 harg3 arg4 harg4 arg5 harg5 arg6 harg6 arg7 harg7 arg8 harg8 arg9 harg9 arg10 harg10 arg11 harg11 hc0 x0 x1 x2 x3 x4 x5 (ix2 j l) = ∑ r : Fin 2048, pB x0 x3 x4 j r * (x1 (ix2 r l) : EReal) := by
  frame_out
  rw [← View.read_writes_junk_eq_canon arg10.view, View.writes_append]
  refine (inv10 c i arg2 harg2 arg3 harg3 arg4 harg4 arg5 harg5 arg6 harg6 arg7 harg7 arg8 harg8 arg9 harg9 arg10 harg10 arg11 harg11 _ _ _ 8 (le_refl _) j l).trans ?_
  rw [if_pos (by omega), full_read, pay2_at, zero_add]

theorem out_B_7 (hc0 : ¬cond0_0 i) (x7 : Vec Ideal S8192x256 .f32) (x8 : Vec Ideal S8192x128 .f32) (j : Fin 8192) (l : Fin 256) :
   out0_B_7 c i arg2 harg2 arg3 harg3 arg4 harg4 arg5 harg5 arg6 harg6 arg7 harg7 arg8 harg8 arg9 harg9 arg10 harg10 arg11 harg11 hc0 x0 x1 x2 x3 x4 x5 x7 x8 (ix2 j l) = x7 (ix2 j l) + ∑ r : Fin 2048, dsB x0 x1 x2 x3 x4 x5 j r * (x0 (ix2 r l) : EReal) := by
  have hc := cover0_B_7 c i arg2 harg2 arg3 harg3 arg4 harg4 arg5 harg5 arg6 harg6 arg7 harg7 arg8 harg8 arg9 harg9 arg10 harg10 arg11 harg11 hc0 x0 x1 x2 x3 x4 x5 x7 x8 (ix2 j l)
  frame_out at hc
  frame_out
  rw [← View.read_writes_apply_eq_canon arg9.view (harg9.unread x7) _ _ hc]
  refine (inv9 c i arg2 harg2 arg3 harg3 arg4 harg4 arg5 harg5 arg6 harg6 arg7 harg7 arg8 harg8 arg9 harg9 arg10 harg10 arg11 harg11 _ _ _ 8 (le_refl _) j l).trans ?_
  rw [if_pos (by omega), harg9.read_unread]

theorem out_B_8 (hc0 : ¬cond0_0 i) (x7 : Vec Ideal S8192x256 .f32) (x8 : Vec Ideal S8192x128 .f32) (j : Fin 8192) (l : Fin 128) :
   out0_B_8 c i arg2 harg2 arg3 harg3 arg4 harg4 arg5 harg5 arg6 harg6 arg7 harg7 arg8 harg8 arg9 harg9 arg10 harg10 arg11 harg11 hc0 x0 x1 x2 x3 x4 x5 x7 x8 (ix2 j l) = x8 (ix2 j l) + ∑ r : Fin 2048, pB x0 x3 x4 j r * (x1 (ix2 r l) : EReal) := by
  have hc := cover0_B_8 c i arg2 harg2 arg3 harg3 arg4 harg4 arg5 harg5 arg6 harg6 arg7 harg7 arg8 harg8 arg9 harg9 arg10 harg10 arg11 harg11 hc0 x0 x1 x2 x3 x4 x5 x7 x8 (ix2 j l)
  frame_out at hc
  frame_out
  rw [← View.read_writes_apply_eq_canon arg10.view (harg10.unread x8) _ _ hc]
  refine (inv10 c i arg2 harg2 arg3 harg3 arg4 harg4 arg5 harg5 arg6 harg6 arg7 harg7 arg8 harg8 arg9 harg9 arg10 harg10 arg11 harg11 _ _ _ 8 (le_refl _) j l).trans ?_
  rw [if_pos (by omega), harg10.read_unread]

end Cert.AttBwdIdeal.Val
-- ==== Proof.AttArr.lean ====
module
public import proofs.«01_k».proof.Proof.AttBody
@[expose] public section
set_option maxRecDepth 16384
noncomputable section
namespace Cert.AttBwdIdeal.Val
open Cert.AttBwdIdeal Cert.AttBwdIdeal.Gen Idealize.ShloMosaic Idealize.ShloMosaic.TcCoe Idealize.SL.Sem

/-- Lane `d` of head `h` among four heads of 256 lanes. -/
def wide (h : Fin 4) (d : Fin 256) : Fin 1024 := ⟨h.val * 256 + d.val, by omega⟩
/-- Lane `d` of head `h` among four heads of 128 lanes. -/
def thin (h : Fin 4) (d : Fin 128) : Fin 512 := ⟨h.val * 128 + d.val, by omega⟩

/-- Head `h`'s probability of key `j` for query `i`, of the whole arrays. -/
def PA (Q K : S8192x1024.Idx → EReal) (L : S4x1x8192.Idx → EReal) (h : Fin 4) (j i : Fin 8192) : EReal :=
  Ideal.exp2 ((∑ d : Fin 256, K (ix2 j (wide h d)) * Q (ix2 i (wide h d))) - L (ix3 h 0 i))
/-- Head `h`'s cotangent of the score of key `j` for query `i`, of the whole arrays. -/
def DSA (Q K : S8192x1024.Idx → EReal) (V dO O : S8192x512.Idx → EReal) (L : S4x1x8192.Idx → EReal) (h : Fin 4) (j i : Fin 8192) : EReal :=
  PA Q K L h j i * ((∑ d : Fin 128, V (ix2 j (thin h d)) * dO (ix2 i (thin h d))) - ∑ d : Fin 128, dO (ix2 i (thin h d)) * O (ix2 i (thin h d)))

variable (m : (ℓ : Loc nD τ sig) → Buf (Elt Ideal) ℓ)

/-- The head of a grid point. -/
def hd (t : Fin cfg0.N) : Fin 4 := ⟨t.val / 4, by have h : t.val < 16 := t.isLt; omega⟩
/-- The row of the arrays that row `r` of grid point `t`'s block of queries is. -/
def row (t : Fin cfg0.N) (r : Fin 2048) : Fin 8192 := ⟨t.val % 4 * 2048 + r.val, by omega⟩

theorem idx0 : ∀ t : Fin cfg0.N, win0_0.index t = ![t.val % 4, t.val / 4] := by decide +kernel
theorem idx1 : ∀ t : Fin cfg0.N, win0_1.index t = ![t.val % 4, t.val / 4] := by decide +kernel
theorem idx2 : ∀ t : Fin cfg0.N, win0_2.index t = ![t.val % 4, t.val / 4] := by decide +kernel
theorem idx3 : ∀ t : Fin cfg0.N, win0_3.index t = ![t.val / 4, 0, t.val % 4] := by decide +kernel
theorem idx4 : ∀ t : Fin cfg0.N, win0_4.index t = ![0, t.val / 4] := by decide +kernel
theorem idx5 : ∀ t : Fin cfg0.N, win0_5.index t = ![0, t.val / 4] := by decide +kernel
theorem idx6 : ∀ t : Fin cfg0.N, win0_6.index t = ![t.val % 4, t.val / 4] := by decide +kernel
theorem idx7 : ∀ t : Fin cfg0.N, win0_7.index t = ![0, t.val / 4] := by decide +kernel
theorem idx8 : ∀ t : Fin cfg0.N, win0_8.index t = ![0, t.val / 4] := by decide +kernel

theorem emb0 (t : Fin cfg0.N) (r : Fin 2048) (l : Fin 256) : (win0_0.blk t).view.emb (ix2 r l) = ix2 (row t r) (wide (hd t) l) := by
  unfold row wide hd
  blk_ext! [idx0]
theorem emb1 (t : Fin cfg0.N) (r : Fin 2048) (l : Fin 128) : (win0_1.blk t).view.emb (ix2 r l) = ix2 (row t r) (thin (hd t) l) := by
  unfold row thin hd
  blk_ext! [idx1]
theorem emb2 (t : Fin cfg0.N) (r : Fin 2048) (l : Fin 128) : (win0_2.blk t).view.emb (ix2 r l) = ix2 (row t r) (thin (hd t) l) := by
  unfold row thin hd
  blk_ext! [idx2]
theorem emb3 (t : Fin cfg0.N) (r : Fin 2048) : (win0_3.blk t).view.emb (ix3 0 0 r) = ix3 (hd t) 0 (row t r) := by
  unfold row hd
  blk_ext! [idx3]
theorem emb4 (t : Fin cfg0.N) (j : Fin 8192) (l : Fin 256) : (win0_4.blk t).view.emb (ix2 j l) = ix2 j (wide (hd t) l) := by
  unfold wide hd
  blk_ext! [idx4]
theorem emb5 (t : Fin cfg0.N) (j : Fin 8192) (l : Fin 128) : (win0_5.blk t).view.emb (ix2 j l) = ix2 j (thin (hd t) l) := by
  unfold thin hd
  blk_ext! [idx5]
theorem emb6 (t : Fin cfg0.N) (r : Fin 2048) (l : Fin 256) : (win0_6.blk t).view.emb (ix2 r l) = ix2 (row t r) (wide (hd t) l) := by
  unfold row wide hd
  blk_ext! [idx6]
theorem emb7 (t : Fin cfg0.N) (j : Fin 8192) (l : Fin 256) : (win0_7.blk t).view.emb (ix2 j l) = ix2 j (wide (hd t) l) := by
  unfold wide hd
  blk_ext! [idx7]
theorem emb8 (t : Fin cfg0.N) (j : Fin 8192) (l : Fin 128) : (win0_8.blk t).view.emb (ix2 j l) = ix2 j (thin (hd t) l) := by
  unfold thin hd
  blk_ext! [idx8]

section Blocks
variable {x0 : Vec Ideal S2048x256 .bf16} {x1 : Vec Ideal S2048x128 .bf16} {x2 : Vec Ideal S2048x128 .f32} {x3 : Vec Ideal S1x1x2048 .f32} {x4 : Vec Ideal S8192x256 .bf16} {x5 : Vec Ideal S8192x128 .bf16}
  {Q K : S8192x1024.Idx → EReal} {V dO O : S8192x512.Idx → EReal} {L : S4x1x8192.Idx → EReal} {t : Fin cfg0.N}

theorem pB_eq (h0 : ∀ r l, x0 (ix2 r l) = Q (ix2 (row t r) (wide (hd t) l))) (h3 : ∀ r, x3 (ix3 0 0 r) = L (ix3 (hd t) 0 (row t r)))
    (h4 : ∀ j l, x4 (ix2 j l) = K (ix2 j (wide (hd t) l))) (j : Fin 8192) (r : Fin 2048) : pB x0 x3 x4 j r = PA Q K L (hd t) j (row t r) := by
  unfold pB PA
  simp only [h0, h3, h4]

theorem dsB_eq (h0 : ∀ r l, x0 (ix2 r l) = Q (ix2 (row t r) (wide (hd t) l))) (h1 : ∀ r l, x1 (ix2 r l) = dO (ix2 (row t r) (thin (hd t) l)))
    (h2 : ∀ r l, x2 (ix2 r l) = O (ix2 (row t r) (thin (hd t) l))) (h3 : ∀ r, x3 (ix3 0 0 r) = L (ix3 (hd t) 0 (row t r)))
    (h4 : ∀ j l, x4 (ix2 j l) = K (ix2 j (wide (hd t) l))) (h5 : ∀ j l, x5 (ix2 j l) = V (ix2 j (thin (hd t) l))) (j : Fin 8192) (r : Fin 2048) :
    dsB x0 x1 x2 x3 x4 x5 j r = DSA Q K V dO O L (hd t) j (row t r) := by
  unfold dsB DSA dsumB
  simp only [pB_eq h0 h3 h4, h1, h2, h5]
end Blocks

variable {Q K : S8192x1024.Idx → EReal} {V dO O : S8192x512.Idx → EReal} {L : S4x1x8192.Idx → EReal}
  (c : Dev nD)

/-- The arrays the region finds are these six. -/
structure Found (Q K : S8192x1024.Idx → EReal) (V dO O : S8192x512.Idx → EReal) (L : S4x1x8192.Idx → EReal) : Prop where
  q : ∀ (t : Fin cfg0.N) r l, (iblk m c 0 t : S2048x256.Idx → EReal) (ix2 r l) = Q (ix2 (row t r) (wide (hd t) l))
  d : ∀ (t : Fin cfg0.N) r l, (iblk m c 1 t : S2048x128.Idx → EReal) (ix2 r l) = dO (ix2 (row t r) (thin (hd t) l))
  o : ∀ (t : Fin cfg0.N) r l, (iblk m c 2 t : S2048x128.Idx → EReal) (ix2 r l) = O (ix2 (row t r) (thin (hd t) l))
  l : ∀ (t : Fin cfg0.N) r, (iblk m c 3 t : S1x1x2048.Idx → EReal) (ix3 0 0 r) = L (ix3 (hd t) 0 (row t r))
  k : ∀ (t : Fin cfg0.N) j l, (iblk m c 4 t : S8192x256.Idx → EReal) (ix2 j l) = K (ix2 j (wide (hd t) l))
  v : ∀ (t : Fin cfg0.N) j l, (iblk m c 5 t : S8192x128.Idx → EReal) (ix2 j l) = V (ix2 j (thin (hd t) l))

variable {m c}
variable (F : Found m c Q K V dO O L)
include F

/-- The queries' gradient at a grid point. -/
theorem outs6 (t : Fin cfg0.N) (r : Fin 2048) (l : Fin 256) :
    ((outsAt0 m c t.val t.isLt).1 : S2048x256.Idx → EReal) (ix2 r l) = ∑ k : Fin 8192, DSA Q K V dO O L (hd t) k (row t r) * K (ix2 k (wide (hd t) l)) := by
  have hs : ∀ k, dsB (iblk m c 0 t) (iblk m c 1 t) (iblk m c 2 t) (iblk m c 3 t) (iblk m c 4 t) (iblk m c 5 t) k r * ((iblk m c 4 t : S8192x256.Idx → EReal) (ix2 k l))
      = DSA Q K V dO O L (hd t) k (row t r) * K (ix2 k (wide (hd t) l)) := fun k => by
    rw [dsB_eq (F.q t) (F.d t) (F.o t) (F.l t) (F.k t) (F.v t) k r, F.k t k l]
  by_cases h0 : t.val % 4 = 0
  · have e := out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (x0 := iblk m c 0 t) (x1 := iblk m c 1 t) (x2 := iblk m c 2 t) (x3 := iblk m c 3 t) (x4 := iblk m c 4 t) (x5 := iblk m c 5 t) r l
    have e2 := congrArg Prod.fst (outsAt0_A m c t h0)
    dsimp only at e2
    rw [e2, e]
    exact Finset.sum_congr rfl fun k _ => hs k
  · have e := out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2 (x0 := iblk m c 0 t) (x1 := iblk m c 1 t) (x2 := iblk m c 2 t) (x3 := iblk m c 3 t) (x4 := iblk m c 4 t) (x5 := iblk m c 5 t) r l
    have e2 := congrArg Prod.fst (outsAt0_B m c t h0)
    dsimp only at e2
    rw [e2, e]
    exact Finset.sum_congr rfl fun k _ => hs k

omit F in
theorem hd_mk (h : Fin 4) (q : ℕ) (hq : q < 4) (hlt : h.val * 4 + q < cfg0.N) : hd ⟨h.val * 4 + q, hlt⟩ = h :=
  Fin.ext (by show (h.val * 4 + q) / 4 = h.val; omega)
omit F in
theorem row_mk (h : Fin 4) (q : ℕ) (hq : q < 4) (hlt : h.val * 4 + q < cfg0.N) (x : Fin 2048) : row ⟨h.val * 4 + q, hlt⟩ x = ⟨q * 2048 + x.val, by omega⟩ :=
  Fin.ext (by show (h.val * 4 + q) % 4 * 2048 + x.val = q * 2048 + x.val; omega)

/-- The keys' gradient after a grid point: the sums of the head's blocks of queries so far. -/
theorem outs7 (h : Fin 4) (j : Fin 8192) (l : Fin 256) (q : ℕ) (hq : q < 4) (hlt : h.val * 4 + q < cfg0.N) :
    ((outsAt0 m c (h.val * 4 + q) hlt).2.1 : S8192x256.Idx → EReal) (ix2 j l)
    = ∑ p ∈ Finset.range (q + 1), ∑ x : Fin 2048, Cert.Sums.ext0 (fun i => DSA Q K V dO O L h j i * Q (ix2 i (wide h l))) (p * 2048 + x.val) := by
  have hterm : ∀ q (hq : q < 4) (hlt : h.val * 4 + q < cfg0.N) (t : Fin cfg0.N) (_ : t = ⟨h.val * 4 + q, hlt⟩), (∑ r : Fin 2048, dsB (iblk m c 0 t) (iblk m c 1 t) (iblk m c 2 t) (iblk m c 3 t) (iblk m c 4 t) (iblk m c 5 t) j r * ((iblk m c 0 t : S2048x256.Idx → EReal) (ix2 r l)))
      = ∑ x : Fin 2048, Cert.Sums.ext0 (fun i => DSA Q K V dO O L h j i * Q (ix2 i (wide h l))) (q * 2048 + x.val) := by
    intro q hq hlt t ht
    refine Finset.sum_congr rfl fun x _ => ?_
    have hx : q * 2048 + x.val < 8192 := by omega
    rw [Cert.Sums.ext0_of_lt _ hx, dsB_eq (F.q t) (F.d t) (F.o t) (F.l t) (F.k t) (F.v t) j x, F.q t x l, ht, hd_mk h q hq hlt, row_mk h q hq hlt x]
  induction q with
  | zero =>
    refine (congrFun (congrArg (fun z => z.2.1) (outsAt0_A m c ⟨h.val * 4 + 0, hlt⟩ (by show (h.val * 4 + 0) % 4 = 0; omega))) (ix2 j l)).trans ?_
    refine (out_A_7 c _ _ _ _ _ _ _ _ _ _ _ _ _ _ _ _ _ _ _ _ _ _ j l).trans ?_
    rw [Finset.sum_range_one]
    exact hterm 0 hq hlt _ rfl
  | succ q ih =>
    refine (congrFun (congrArg (fun z => z.2.1) (outsAt0_B m c ⟨h.val * 4 + (q + 1), hlt⟩ (by show ¬ (h.val * 4 + (q + 1)) % 4 = 0; omega))) (ix2 j l)).trans ?_
    refine (out_B_7 c _ _ _ _ _ _ _ _ _ _ _ _ _ _ _ _ _ _ _ _ _ _ _ _ j l).trans ?_
    rw [Finset.sum_range_succ]
    exact congrArg₂ (· + ·) (ih (by omega) (by omega)) (hterm (q + 1) hq hlt _ rfl)

/-- The values' gradient after a grid point: the sums of the head's blocks of queries so far. -/
theorem outs8 (h : Fin 4) (j : Fin 8192) (l : Fin 128) (q : ℕ) (hq : q < 4) (hlt : h.val * 4 + q < cfg0.N) :
    ((outsAt0 m c (h.val * 4 + q) hlt).2.2 : S8192x128.Idx → EReal) (ix2 j l)
    = ∑ p ∈ Finset.range (q + 1), ∑ x : Fin 2048, Cert.Sums.ext0 (fun i => PA Q K L h j i * dO (ix2 i (thin h l))) (p * 2048 + x.val) := by
  have hterm : ∀ q (hq : q < 4) (hlt : h.val * 4 + q < cfg0.N) (t : Fin cfg0.N) (_ : t = ⟨h.val * 4 + q, hlt⟩), (∑ r : Fin 2048, pB (iblk m c 0 t) (iblk m c 3 t) (iblk m c 4 t) j r * ((iblk m c 1 t : S2048x128.Idx → EReal) (ix2 r l)))
      = ∑ x : Fin 2048, Cert.Sums.ext0 (fun i => PA Q K L h j i * dO (ix2 i (thin h l))) (q * 2048 + x.val) := by
    intro q hq hlt t ht
    refine Finset.sum_congr rfl fun x _ => ?_
    have hx : q * 2048 + x.val < 8192 := by omega
    rw [Cert.Sums.ext0_of_lt _ hx, pB_eq (F.q t) (F.l t) (F.k t) j x, F.d t x l, ht, hd_mk h q hq hlt, row_mk h q hq hlt x]
  induction q with
  | zero =>
    refine (congrFun (congrArg (fun z => z.2.2) (outsAt0_A m c ⟨h.val * 4 + 0, hlt⟩ (by show (h.val * 4 + 0) % 4 = 0; omega))) (ix2 j l)).trans ?_
    refine (out_A_8 c _ _ _ _ _ _ _ _ _ _ _ _ _ _ _ _ _ _ _ _ _ _ j l).trans ?_
    rw [Finset.sum_range_one]
    exact hterm 0 hq hlt _ rfl
  | succ q ih =>
    refine (congrFun (congrArg (fun z => z.2.2) (outsAt0_B m c ⟨h.val * 4 + (q + 1), hlt⟩ (by show ¬ (h.val * 4 + (q + 1)) % 4 = 0; omega))) (ix2 j l)).trans ?_
    refine (out_B_8 c _ _ _ _ _ _ _ _ _ _ _ _ _ _ _ _ _ _ _ _ _ _ _ _ j l).trans ?_
    rw [Finset.sum_range_succ]
    exact congrArg₂ (· + ·) (ih (by omega) (by omega)) (hterm (q + 1) hq hlt _ rfl)

omit F in
theorem wide_div (h : Fin 4) (l : Fin 256) : (⟨(wide h l).val / 256, by omega⟩ : Fin 4) = h := Fin.ext (by show (h.val * 256 + l.val) / 256 = h.val; omega)
omit F in
theorem wide_mod (h : Fin 4) (l : Fin 256) : (⟨(wide h l).val % 256, by omega⟩ : Fin 256) = l := Fin.ext (by show (h.val * 256 + l.val) % 256 = l.val; omega)
omit F in
theorem thin_div (h : Fin 4) (l : Fin 128) : (⟨(thin h l).val / 128, by omega⟩ : Fin 4) = h := Fin.ext (by show (h.val * 128 + l.val) / 128 = h.val; omega)
omit F in
theorem thin_mod (h : Fin 4) (l : Fin 128) : (⟨(thin h l).val % 128, by omega⟩ : Fin 128) = l := Fin.ext (by show (h.val * 128 + l.val) % 128 = l.val; omega)

/-- The three arrays the region leaves, of one read at head and lane. -/
abbrev wideArr (f : Fin 8192 → Fin 4 → Fin 256 → EReal) : S8192x1024.Idx → EReal := fun y => f (y 0) ⟨(y 1).val / 256, by have h : (y 1).val < 1024 := (y 1).isLt; omega⟩ ⟨(y 1).val % 256, by omega⟩
abbrev thinArr (f : Fin 8192 → Fin 4 → Fin 128 → EReal) : S8192x512.Idx → EReal := fun y => f (y 0) ⟨(y 1).val / 128, by have h : (y 1).val < 512 := (y 1).isLt; omega⟩ ⟨(y 1).val % 128, by omega⟩

omit F in
theorem wideArr_at (f : Fin 8192 → Fin 4 → Fin 256 → EReal) (i : Fin 8192) (h : Fin 4) (l : Fin 256) : wideArr f (ix2 i (wide h l)) = f i h l :=
  congrArg₂ (f i) (wide_div h l) (wide_mod h l)
omit F in
theorem thinArr_at (f : Fin 8192 → Fin 4 → Fin 128 → EReal) (i : Fin 8192) (h : Fin 4) (l : Fin 128) : thinArr f (ix2 i (thin h l)) = f i h l :=
  congrArg₂ (f i) (thin_div h l) (thin_mod h l)

theorem arr6 : (dats m 0 c).arrAt 6 cfg0.N = wideArr fun i h l => ∑ k : Fin 8192, DSA Q K V dO O L h k i * K (ix2 k (wide h l)) := by
  refine (dats m 0 c).arrAt_eq_of_covers 6 _ (by decide +kernel) fun t hf y => ?_
  rw [after0_6]
  obtain ⟨r, l, rfl⟩ : ∃ (r : Fin 2048) (l : Fin 256), y = ix2 r l := ⟨y 0, y 1, eq_ix2 y⟩
  refine (outs6 F t r l).trans ?_
  show _ = wideArr _ ((win0_6.blk t).view.emb (ix2 r l))
  rw [emb6]
  exact (wideArr_at (fun i h l => ∑ k : Fin 8192, DSA Q K V dO O L h k i * K (ix2 k (wide h l))) _ _ _).symm

omit F in
/-- A point whose block of an accumulated output is flushed is the last of its head. -/
theorem last_of_flush7 : ∀ t : Fin cfg0.N, (cfg0.win 7).flush t → t.val % 4 = 3 := by decide +kernel
omit F in
theorem last_of_flush8 : ∀ t : Fin cfg0.N, (cfg0.win 8).flush t → t.val % 4 = 3 := by decide +kernel

theorem arr7 : (dats m 0 c).arrAt 7 cfg0.N = wideArr fun j h l => ∑ i : Fin 8192, DSA Q K V dO O L h j i * Q (ix2 i (wide h l)) := by
  refine (dats m 0 c).arrAt_eq_of_covers 7 _ (by decide +kernel) fun t hf y => ?_
  have hlast := last_of_flush7 t hf
  rw [after0_7]
  obtain ⟨r, l, rfl⟩ : ∃ (r : Fin 8192) (l : Fin 256), y = ix2 r l := ⟨y 0, y 1, eq_ix2 y⟩
  obtain ⟨h, hlt, rfl⟩ : ∃ (h : Fin 4) (hlt : h.val * 4 + 3 < cfg0.N), t = ⟨h.val * 4 + 3, hlt⟩ :=
    ⟨hd t, by show t.val / 4 * 4 + 3 < _; have := t.isLt; omega, Fin.ext (by show t.val = t.val / 4 * 4 + 3; omega)⟩
  refine (outs7 F h r l 3 (by omega) hlt).trans ?_
  have e := emb7 ⟨h.val * 4 + 3, hlt⟩ r l
  rw [hd_mk h 3 (by omega)] at e
  rw [Cert.Sums.sum_blocks (by norm_num)]
  refine Eq.trans ?_ (congrArg (wideArr fun j h l => ∑ i : Fin 8192, DSA Q K V dO O L h j i * Q (ix2 i (wide h l))) e).symm
  exact (wideArr_at (fun j h l => ∑ i : Fin 8192, DSA Q K V dO O L h j i * Q (ix2 i (wide h l))) _ _ _).symm

theorem arr8 : (dats m 0 c).arrAt 8 cfg0.N = thinArr fun j h l => ∑ i : Fin 8192, PA Q K L h j i * dO (ix2 i (thin h l)) := by
  refine (dats m 0 c).arrAt_eq_of_covers 8 _ (by decide +kernel) fun t hf y => ?_
  have hlast := last_of_flush8 t hf
  rw [after0_8]
  obtain ⟨r, l, rfl⟩ : ∃ (r : Fin 8192) (l : Fin 128), y = ix2 r l := ⟨y 0, y 1, eq_ix2 y⟩
  obtain ⟨h, hlt, rfl⟩ : ∃ (h : Fin 4) (hlt : h.val * 4 + 3 < cfg0.N), t = ⟨h.val * 4 + 3, hlt⟩ :=
    ⟨hd t, by show t.val / 4 * 4 + 3 < _; have := t.isLt; omega, Fin.ext (by show t.val = t.val / 4 * 4 + 3; omega)⟩
  refine (outs8 F h r l 3 (by omega) hlt).trans ?_
  have e := emb8 ⟨h.val * 4 + 3, hlt⟩ r l
  rw [hd_mk h 3 (by omega)] at e
  rw [Cert.Sums.sum_blocks (by norm_num)]
  refine Eq.trans ?_ (congrArg (thinArr fun j h l => ∑ i : Fin 8192, PA Q K L h j i * dO (ix2 i (thin h l))) e).symm
  exact (thinArr_at (fun j h l => ∑ i : Fin 8192, PA Q K L h j i * dO (ix2 i (thin h l))) _ _ _).symm

end Cert.AttBwdIdeal.Val
-- ==== Proof.Reals.lean ====
module
public import Idealize.ShloMosaic.Lib.Pointwise
public import Idealize.ShloMosaic.Lib.IdealHost
public import Idealize.ShloMosaic.Lib.KernelVsHost
@[expose] public section
noncomputable section
namespace Cert.Reals
open Idealize.ShloMosaic

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the format's infinity is a real. -/
theorem real_of_abs (x : EReal) (h : FloatOps.cmpf (F := Ideal) (φ := .f32) .olt (FloatOps.hostAbsf (F := Ideal) (φ := .f32) x) (FloatOps.ofBits .f32 0x7F800000#32) = 1#1) : ∃ r : ℝ, x = r := by
  have ht : Ideal.ofBits .f32 0x7F800000#32 = ⊤ := by simp [Ideal.ofBits, Ideal.ieee]
  have h' : Ideal.cmp .olt (max x (-x)) (Ideal.ofBits .f32 0x7F800000#32) = 1#1 := h
  rw [ht] at h'
  by_cases hlt : max x (-x) < (⊤ : EReal)
  · have h1 := max_lt_iff.mp hlt
    refine ⟨x.toReal, (EReal.coe_toReal (ne_of_lt h1.1) ?_).symm⟩
    rintro rfl
    exact absurd h1.2 (by simp)
  · exfalso
    have : Ideal.cmp .olt (max x (-x)) ⊤ = 0#1 := by simp only [Ideal.cmp, hlt, decide_false]; rfl
    rw [this] at h'
    exact absurd h' (by decide)

theorem foldl_max_real {α : Type} (x : α → EReal) (hx : ∀ a, ∃ r : ℝ, x a = r) : ∀ (l : List α) (r : ℝ), ∃ r' : ℝ, l.foldl (fun s n => FloatOps.maximumf (F := Ideal) (φ := .f32) s (x n)) (r : EReal) = (r' : EReal)
  | [], r => ⟨r, rfl⟩
  | a :: l, r => by
    obtain ⟨y, hy⟩ := hx a
    obtain ⟨z, hz⟩ := foldl_max_real x hx l (max r y)
    refine ⟨z, ?_⟩
    rw [List.foldl_cons, hy]
    refine Eq.trans (congrArg (fun z => l.foldl (fun s n => FloatOps.maximumf (F := Ideal) (φ := .f32) s (x n)) z) ?_) hz
    exact (EReal.coe_strictMono.monotone.map_max).symm

/-- The maximum over some axes of an array of reals, taken from minus infinity, is a real. -/
theorem reduce_max_real {s t u : Shape} {axes : List (Fin s.rank)} (x : FVec Ideal s .f32) (hx : ∀ i, ∃ r : ℝ, x i = (r : EReal)) (init : FVec Ideal u .f32) (hi : ∀ i, init i = (⊥ : EReal))
    (h : s.ReducesTo axes t) (hu : 0 < u.numel) (j : t.Idx) (i : s.Idx) (hij : h.drop i = j) : ∃ r : ℝ, Host.reduce FloatOps.maximumf x init h hu j = (r : EReal) := by
  unfold Host.reduce
  rw [hi]
  have hm : s.rowMajor i ∈ (List.finRange s.numel).filter fun n => h.drop (s.rowMajor.symm n) = j := by
    simp [hij]
  revert hm
  generalize (List.finRange s.numel).filter (fun n => h.drop (s.rowMajor.symm n) = j) = l
  intro hm
  cases l with
  | nil => exact absurd hm (List.not_mem_nil)
  | cons a l =>
    obtain ⟨y, hy⟩ := hx (s.rowMajor.symm a)
    rw [List.foldl_cons, hy, Ideal.maximumf_eq_max, max_bot_left]
    exact foldl_max_real (fun n => x (s.rowMajor.symm n)) (fun n => hx _) l y

/-- Along the middle axis of three. -/
theorem reduce_max_mid {n0 n1 n2 : ℕ} {u : Shape} (x : FVec Ideal ⟨3, ![n0, n1, n2]⟩ .f32) (hx : ∀ i, ∃ r : ℝ, x i = (r : EReal)) (init : FVec Ideal u .f32) (hi : ∀ i, init i = (⊥ : EReal))
    (h : (⟨3, ![n0, n1, n2]⟩ : Shape).ReducesTo [1] ⟨2, ![n0, n2]⟩) (hu : 0 < u.numel) (k : Fin n1) (a : Fin n0) (b : Fin n2) : ∃ r : ℝ, Host.reduce FloatOps.maximumf x init h hu (ix2 a b) = (r : EReal) :=
  reduce_max_real x hx init hi h hu _ (ix3 a k b) (by
    funext z
    fin_cases z
    · exact Fin.ext rfl
    · exact Fin.ext rfl)

/-- Along the last axis of three. -/
theorem reduce_max_last {n0 n1 n2 : ℕ} {u : Shape} (x : FVec Ideal ⟨3, ![n0, n1, n2]⟩ .f32) (hx : ∀ i, ∃ r : ℝ, x i = (r : EReal)) (init : FVec Ideal u .f32) (hi : ∀ i, init i = (⊥ : EReal))
    (h : (⟨3, ![n0, n1, n2]⟩ : Shape).ReducesTo [2] ⟨2, ![n0, n1]⟩) (hu : 0 < u.numel) (k : Fin n2) (a : Fin n0) (b : Fin n1) : ∃ r : ℝ, Host.reduce FloatOps.maximumf x init h hu (ix2 a b) = (r : EReal) :=
  reduce_max_real x hx init hi h hu _ (ix3 a b k) (by
    funext z
    fin_cases z
    · exact Fin.ext rfl
    · exact Fin.ext rfl)

theorem ofBits_two : Ideal.ofBits .f32 0x40000000#32 = ((2 : ℝ) : EReal) := by
  simp [Ideal.ofBits, Ideal.ieee, -EReal.coe_mul]; norm_num
theorem ofBits_neg_inf : Ideal.ofBits .f32 0xFF800000#32 = ⊥ := by
  unfold Ideal.ofBits Ideal.ieee
  dsimp only
  rw [if_pos (by decide), if_pos (by decide), if_pos (by decide)]

/-- The scale of the attention, as a real. -/
def scale : ℝ := 9686330 / 134217728
theorem ofBits_scale : Ideal.ofBits .f32 0x3D93CD3A#32 = ((scale : ℝ) : EReal) := by
  unfold scale
  simp [Ideal.ofBits, Ideal.ieee, -EReal.coe_mul]; norm_num
end Cert.Reals
-- ==== Proof.Soft.lean ====
module
public import proofs.«01_k».proof.Proof.Reals
@[expose] public section
noncomputable section
namespace Cert.Soft
open Cert.Reals

variable (q k : Fin 8192 → Fin 4 → Fin 192 → ℝ) (v c : Fin 8192 → Fin 4 → Fin 128 → ℝ)

/-- Head `h`'s score of query `i` and key `j`. -/
def sc (h : Fin 4) (i j : Fin 8192) : ℝ := (∑ d, q i h d * k j h d) * scale
/-- Its softmax over the keys. -/
def W (h : Fin 4) (i j : Fin 8192) : ℝ := Real.exp (sc q k h i j) / ∑ j', Real.exp (sc q k h i j')
/-- The cotangent of the softmax. -/
def dp (h : Fin 4) (i j : Fin 8192) : ℝ := ∑ d, c i h d * v j h d
/-- The cotangent of the score. -/
def G (h : Fin 4) (i j : Fin 8192) : ℝ := W q k h i j * (dp v c h i j - ∑ j', W q k h i j' * dp v c h i j')
/-- The gradient of the queries. -/
def dq (i : Fin 8192) (h : Fin 4) (d : Fin 192) : ℝ := (∑ j, G q k v c h i j * k j h d) * scale
/-- The gradient of the keys. -/
def dk (j : Fin 8192) (h : Fin 4) (d : Fin 192) : ℝ := (∑ i, G q k v c h i j * q i h d) * scale
/-- The gradient of the values. -/
def dv (j : Fin 8192) (h : Fin 4) (d : Fin 128) : ℝ := ∑ i, W q k h i j * c i h d

/-- A softmax does not change when all scores move by the same amount. -/
theorem W_shift (M : ℝ) (h : Fin 4) (i j : Fin 8192) :
    Real.exp (sc q k h i j - M) / ∑ j', Real.exp (sc q k h i j' - M) = W q k h i j := by
  unfold W
  simp only [Real.exp_sub]
  rw [← Finset.sum_div, div_div_div_cancel_right₀ (Real.exp_ne_zero M)]

/-- A sum of exponentials over the keys is positive. -/
theorem sum_exp_pos (f : Fin 8192 → ℝ) : 0 < ∑ j, Real.exp (f j) :=
  Finset.sum_pos (fun _ _ => Real.exp_pos _) ⟨0, Finset.mem_univ _⟩

/-- The natural logarithm of two. -/
def lg : ℝ := Real.log 2
theorem lg_ne : lg ≠ 0 := ne_of_gt (Real.log_pos (by norm_num))

/-- The score in base two, of queries already scaled. -/
def s2 (h : Fin 4) (j i : Fin 8192) : ℝ := ∑ d, k j h d * (q i h d * (scale * (1 / lg)))
theorem s2_lg (h : Fin 4) (j i : Fin 8192) : s2 q k h j i * lg = sc q k h i j := by
  unfold s2 sc
  rw [Finset.sum_mul, Finset.sum_mul]
  refine Finset.sum_congr rfl fun d _ => ?_
  field_simp [lg_ne]

/-- The exponential of a score less `M`, through base two. -/
def p2 (M : ℝ) (h : Fin 4) (j i : Fin 8192) : ℝ := Real.exp ((s2 q k h j i - M) * lg)
theorem p2_eq (M : ℝ) (h : Fin 4) (j i : Fin 8192) : p2 q k M h j i = Real.exp (sc q k h i j - M * lg) := by
  unfold p2
  rw [sub_mul, s2_lg]
/-- Their sum over the keys. -/
def l2 (M : ℝ) (h : Fin 4) (i : Fin 8192) : ℝ := ∑ j, p2 q k M h j i
theorem l2_pos (M : ℝ) (h : Fin 4) (i : Fin 8192) : 0 < l2 q k M h i := sum_exp_pos _
theorem p2_div (M : ℝ) (h : Fin 4) (j i : Fin 8192) : p2 q k M h j i / l2 q k M h i = W q k h i j := by
  unfold l2
  simp only [p2_eq]
  exact W_shift q k _ h i j

/-- Two to the score less the saved logarithm is the softmax. -/
theorem pow_eq (M : ℝ) (h : Fin 4) (j i : Fin 8192) :
    Real.rpow 2 (s2 q k h j i - (M + Real.log (l2 q k M h i) * (1 / lg))) = W q k h i j := by
  rw [← p2_div q k M h j i]
  rw [Real.rpow_eq_pow, Real.rpow_def_of_pos (by norm_num)]
  show Real.exp (lg * _) = _
  have e : lg * (s2 q k h j i - (M + Real.log (l2 q k M h i) * (1 / lg))) = (s2 q k h j i - M) * lg - Real.log (l2 q k M h i) := by
    field_simp [lg_ne]
    ring
  rw [e, Real.exp_sub, Real.exp_log (l2_pos q k M h i)]
  rfl

/-- The rowwise product of the output and its cotangent is the softmax's mean of the cotangents. -/
theorem delta_eq (M : ℝ) (h : Fin 4) (i : Fin 8192) :
    ∑ d, c i h d * ((∑ j, v j h d * p2 q k M h j i) * (1 / l2 q k M h i)) = ∑ j, W q k h i j * dp v c h i j := by
  simp only [← p2_div q k M, dp, Finset.mul_sum, Finset.sum_mul]
  rw [Finset.sum_comm]
  refine Finset.sum_congr rfl fun j _ => Finset.sum_congr rfl fun d _ => ?_
  ring

/-- The keys' gradient from scaled queries. -/
theorem dk_eq (j : Fin 8192) (h : Fin 4) (d : Fin 192) :
    (∑ i, G q k v c h i j * (q i h d * (scale * (1 / lg)))) * lg = dk q k v c j h d := by
  unfold dk
  rw [Finset.sum_mul, Finset.sum_mul]
  refine Finset.sum_congr rfl fun i _ => ?_
  field_simp [lg_ne]

/-- The reference's order of the score's cotangent. -/
theorem G_eq (M : ℝ) (h : Fin 4) (i j : Fin 8192) :
    (dp v c h i j * (1 / ∑ j', Real.exp (sc q k h i j' - M))
      + -(∑ j', dp v c h i j' * (1 / ((∑ j', Real.exp (sc q k h i j' - M)) * ∑ j', Real.exp (sc q k h i j' - M))) * Real.exp (sc q k h i j' - M)))
      * Real.exp (sc q k h i j - M) = G q k v c h i j := by
  unfold G
  simp only [← W_shift q k M]
  have hz : (∑ j', Real.exp (sc q k h i j' - M)) ≠ 0 := ne_of_gt (sum_exp_pos _)
  generalize (∑ j', Real.exp (sc q k h i j' - M)) = Z at hz ⊢
  have e : ∑ j', dp v c h i j' * (1 / (Z * Z)) * Real.exp (sc q k h i j' - M) = (∑ j', Real.exp (sc q k h i j' - M) / Z * dp v c h i j') / Z := by
    rw [Finset.sum_div]
    refine Finset.sum_congr rfl fun j' _ => ?_
    field_simp
  rw [e]
  field_simp
  ring
end Cert.Soft
-- ==== Proof.AttHost.lean ====
module
public import proofs.«01_k».proof.Proof.AttArr
public import proofs.«01_k».proof.Proof.Soft
@[expose] public section
set_option maxRecDepth 16384
noncomputable section
namespace Cert.AttBwdIdeal.Val
open Cert.AttBwdIdeal Cert.AttBwdIdeal.Gen Idealize.ShloMosaic Idealize.ShloMosaic.TcCoe Idealize.SL.Sem

/-- The natural logarithm of two, as the host computes it. -/
def lg2 : FVec Ideal S_ .f32 := Host.log (constant S_ .f32 0x40000000#32)

section Lines
variable (q k : FVec Ideal S8192x4x192 .f32) (v ct : FVec Ideal S8192x4x128 .f32)

/-- The queries times the scale over `log 2`. -/
def hq : FVec Ideal S8192x4x192 .bf16 :=
  truncf .bf16 (mulf q (broadcastInDim S8192x4x192 ![] bcast_S_S8192x4x192 (Host.divf (constant S_ .f32 0x3D93CD3A#32) lg2))) bitsLt_bf16_f32
/-- The keys, rounded. -/
def hk : FVec Ideal S8192x4x192 .bf16 := truncf .bf16 k bitsLt_bf16_f32
/-- The values (or their cotangent), rounded. -/
def hv : FVec Ideal S8192x4x128 .bf16 := truncf .bf16 v bitsLt_bf16_f32
/-- The scores in base two, head, key, query. -/
def hs : FVec Ideal S4x8192x8192 .f32 :=
  Host.dotGeneral dot_S8192x4x192_S8192x4x192_S4x8192x8192_2_2_0_0_1_1 none (hk k) (hq q)
/-- The largest score of each query. -/
def hm : FVec Ideal S4x1x8192 .f32 :=
  broadcastInDim S4x1x8192 ![0, 2] bcast_S4x8192_S4x1x8192_0_2 (Host.reduce FloatOps.maximumf (hs q k) (constant S_ .f32 0xFF800000#32) reducesTo_S4x8192x8192_S4x8192_d1 h_S_)
/-- The exponentials of the scores less the largest. -/
def hp : FVec Ideal S4x8192x8192 .f32 :=
  Host.exp (mulf (subf (hs q k) (broadcastInDim S4x8192x8192 ![0, 1, 2] bcast_S4x1x8192_S4x8192x8192_0_1_2 (hm q k)))
    (broadcastInDim S4x8192x8192 ![] bcast_S_S4x8192x8192 lg2))
/-- Their sums over the keys. -/
def hl : FVec Ideal S4x1x8192 .f32 :=
  broadcastInDim S4x1x8192 ![0, 2] bcast_S4x8192_S4x1x8192_0_2 (Host.reduceAdd (hp q k) (constant S_ .f32 0x00000000#32) reducesTo_S4x8192x8192_S4x8192_d1 h_S_)
/-- The forward call's output. -/
def hO : FVec Ideal S8192x4x128 .f32 :=
  transpose S8192x4x128 [2, 0, 1]
    (mulf (Host.dotGeneral dot_S8192x4x128_S4x8192x8192_S4x128x8192_0_1_2_2_1_0 none (hv v) (truncf .bf16 (hp q k) bitsLt_bf16_f32) : FVec Ideal S4x128x8192 .f32)
      (broadcastInDim S4x128x8192 ![0, 1, 2] bcast_S4x1x8192_S4x128x8192_0_1_2 (Host.divf (broadcastInDim S4x1x8192 ![] bcast_S_S4x1x8192 (constant S_ .f32 0x3F800000#32)) (hl q k))))
    transposes_S4x128x8192_S8192x4x128_2_0_1
/-- The logarithm in base two of the sum of exponentials. -/
def hL : FVec Ideal S4x1x8192 .f32 :=
  addf (hm q k) (Host.divf (Host.log (hl q k)) (broadcastInDim S4x1x8192 ![] bcast_S_S4x1x8192 lg2))
/-- 192 lanes of a head filled up to 256 with zeros. -/
def hpad (x : FVec Ideal S8192x4x192 .bf16) : FVec Ideal S8192x4x256 .bf16 :=
  pad S8192x4x256 ![0, 0, 0] ![0, 0, 64] ![0, 0, 0] x (sitofp .bf16 (constantI S_ 32 0#32)) pads_S8192x4x192_S8192x4x256_000_000_0640 h_S_
end Lines

section Entry
variable (m : (ℓ : Loc nD τ sig) → Buf (Elt Ideal) ℓ) (c : Dev nD)
/-- The four arguments. -/
abbrev aq : FVec Ideal S8192x4x192 .f32 := m ((c.tc : Thread nD τ).loc main_arg0)
abbrev ak : FVec Ideal S8192x4x192 .f32 := m ((c.tc : Thread nD τ).loc main_arg1)
abbrev av : FVec Ideal S8192x4x128 .f32 := m ((c.tc : Thread nD τ).loc main_arg2)
abbrev act : FVec Ideal S8192x4x128 .f32 := m ((c.tc : Thread nD τ).loc main_arg3)

theorem entry_q : (V m c main_v33 : FVec Ideal S8192x1024 .bf16) = shapeCast _ (hpad (hq (aq m c))) shapeCasts_S8192x4x256_S8192x1024 := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_k : (V m c main_v35 : FVec Ideal S8192x1024 .bf16) = shapeCast _ (hpad (hk (ak m c))) shapeCasts_S8192x4x256_S8192x1024 := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_v : (V m c main_v36 : FVec Ideal S8192x512 .bf16) = shapeCast _ (hv (av m c)) shapeCasts_S8192x4x128_S8192x512 := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_d : (V m c main_v37 : FVec Ideal S8192x512 .bf16) = shapeCast _ (hv (act m c)) shapeCasts_S8192x4x128_S8192x512 := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_o : (V m c main_v26 : FVec Ideal S8192x512 .f32) = shapeCast _ (hO (aq m c) (ak m c) (av m c)) shapeCasts_S8192x4x128_S8192x512 := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_l : (V m c main_v31 : FVec Ideal S4x1x8192 .f32) = hL (aq m c) (ak m c) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
end Entry

section Reads
variable {q k : FVec Ideal S8192x4x192 .f32} {v ct : FVec Ideal S8192x4x128 .f32}
  {qr kr : Fin 8192 → Fin 4 → Fin 192 → ℝ} {vr cr : Fin 8192 → Fin 4 → Fin 128 → ℝ}
  (hqr : ∀ i h d, q (ix3 i h d) = (qr i h d : EReal)) (hkr : ∀ i h d, k (ix3 i h d) = (kr i h d : EReal))
  (hvr : ∀ i h d, v (ix3 i h d) = (vr i h d : EReal))

theorem lg2_at (i : S_.Idx) : lg2 i = (Cert.Soft.lg : EReal) := by
  show Ideal.log (Ideal.ofBits .f32 0x40000000#32) = _
  rw [Cert.Reals.ofBits_two, Ideal.log_coe, if_neg (by norm_num)]
  rfl
include hqr in
theorem hq_at (i : Fin 8192) (h : Fin 4) (d : Fin 192) : hq q (ix3 i h d) = ((qr i h d * (Cert.Reals.scale * (1 / Cert.Soft.lg)) : ℝ) : EReal) := by
  unfold hq
  pointwise
  rw [hqr, lg2_at, Cert.Reals.ofBits_scale, Ideal.div_coe Cert.Soft.lg_ne, EReal.coe_mul, EReal.coe_mul]
theorem hk_at (i : Fin 8192) (h : Fin 4) (d : Fin 192) : hk k (ix3 i h d) = k (ix3 i h d) := rfl
theorem hv_at (i : Fin 8192) (h : Fin 4) (d : Fin 128) : hv v (ix3 i h d) = v (ix3 i h d) := rfl
include hqr hkr in
theorem hs_at (h : Fin 4) (j i : Fin 8192) : hs q k (ix3 h j i) = (Cert.Soft.s2 qr kr h j i : EReal) := by
  unfold hs Cert.Soft.s2
  pointwise
  rw [Cert.Reals.coe_sum]
  exact Finset.sum_congr rfl fun d _ => by rw [hk_at, hq_at hqr, hkr, ← EReal.coe_mul]
theorem hpad_at (x : FVec Ideal S8192x4x192 .bf16) (i : Fin 8192) (h : Fin 4) (d : Fin 256) : hpad x (ix3 i h d) = if hd : d.val < 192 then x (ix3 i h ⟨d.val, hd⟩) else 0 := by
  unfold hpad
  pointwise
  have hz : (FloatOps.sitofp (F := Ideal) .bf16 (0#32 : BitVec 32) : EReal) = 0 := by
    show ((((0#32 : BitVec 32).toInt : ℤ) : ℝ) : EReal) = 0
    simp
  rw [hz]
include hqr hkr in
/-- The largest score of a query is a real number. -/
theorem hm_real : ∃ M : Fin 4 → Fin 8192 → ℝ, ∀ h i, hm q k (ix3 h 0 i) = (M h i : EReal) := by
  have hx : ∀ n, ∃ r : ℝ, hs q k n = (r : EReal) := fun n => by
    rw [eq_ix3 n]
    exact ⟨_, hs_at hqr hkr _ _ _⟩
  have hr : ∀ (h : Fin 4) (i : Fin 8192), ∃ r : ℝ, hm q k (ix3 h 0 i) = (r : EReal) := fun h i => by
    obtain ⟨r, hr⟩ := Cert.Reals.reduce_max_mid (hs q k) hx (constant S_ .f32 0xFF800000#32) (fun _ => Cert.Reals.ofBits_neg_inf) reducesTo_S4x8192x8192_S4x8192_d1 h_S_ ⟨0, by norm_num⟩ h i
    refine ⟨r, ?_⟩
    unfold hm
    revert hr
    generalize Host.reduce FloatOps.maximumf (hs q k) (constant S_ .f32 0xFF800000#32) reducesTo_S4x8192x8192_S4x8192_d1 h_S_ = y
    intro hr
    pointwise
    exact hr
  choose M hM using hr
  exact ⟨M, hM⟩

variable {M : Fin 4 → Fin 8192 → ℝ} (hM : ∀ h i, hm q k (ix3 h 0 i) = (M h i : EReal))
include hqr hkr hM

theorem hp_at (h : Fin 4) (j i : Fin 8192) : hp q k (ix3 h j i) = (Cert.Soft.p2 qr kr (M h i) h j i : EReal) := by
  have h1 := hs_at hqr hkr h j i
  have h2 := hM h i
  unfold hp Cert.Soft.p2
  generalize hs q k = a at h1 ⊢
  generalize hm q k = b at h2 ⊢
  pointwise
  rw [h1, h2, lg2_at, ← EReal.coe_sub, ← EReal.coe_mul, Ideal.exp_coe]
theorem hl_at (h : Fin 4) (i : Fin 8192) : hl q k (ix3 h 0 i) = (Cert.Soft.l2 qr kr (M h i) h i : EReal) := by
  have h1 := hp_at hqr hkr hM h
  unfold hl Cert.Soft.l2
  generalize hp q k = a at h1 ⊢
  pointwise
  rw [Cert.Reals.coe_sum]
  exact Finset.sum_congr rfl fun j _ => h1 j i
omit hqr hkr hM in
theorem hL_read (a b : FVec Ideal S4x1x8192 .f32) (i : S4x1x8192.Idx) {x l : ℝ} (ha : a i = (x : EReal)) (hb : b i = (l : EReal)) (hl : 0 < l) :
    addf a (Host.divf (Host.log b) (broadcastInDim S4x1x8192 ![] bcast_S_S4x1x8192 lg2)) i = ((x + Real.log l * (1 / Cert.Soft.lg) : ℝ) : EReal) := by
  have e : addf a (Host.divf (Host.log b) (broadcastInDim S4x1x8192 ![] bcast_S_S4x1x8192 lg2)) i = a i + Ideal.div (Ideal.log (b i)) (lg2 ix0) := by
    pointwise
  rw [e, ha, hb, lg2_at, Ideal.log_coe, if_neg (not_le.mpr hl), Ideal.div_coe Cert.Soft.lg_ne, EReal.coe_add, EReal.coe_mul]
theorem hL_at (h : Fin 4) (i : Fin 8192) : hL q k (ix3 h 0 i) = ((M h i + Real.log (Cert.Soft.l2 qr kr (M h i) h i) * (1 / Cert.Soft.lg) : ℝ) : EReal) :=
  hL_read (hm q k) (hl q k) (ix3 h 0 i) (hM h i) (hl_at hqr hkr hM h i) (Cert.Soft.l2_pos _ _ _ _ _)
include hvr in
theorem hO_at (i : Fin 8192) (h : Fin 4) (d : Fin 128) :
    hO q k v (ix3 i h d) = (((∑ j, vr j h d * Cert.Soft.p2 qr kr (M h i) h j i) * (1 / Cert.Soft.l2 qr kr (M h i) h i) : ℝ) : EReal) := by
  have h1 := hl_at hqr hkr hM h i
  have h2 := hp_at hqr hkr hM h
  unfold hO
  generalize hl q k = a at h1 ⊢
  generalize hp q k = b at h2 ⊢
  pointwise
  rw [h1, Ideal.div_coe (ne_of_gt (Cert.Soft.l2_pos _ _ _ _ _)), one_mul, EReal.coe_mul, Cert.Reals.coe_sum]
  refine congrArg (· * _) (Finset.sum_congr rfl fun j _ => ?_)
  rw [hv_at, hvr, h2, EReal.coe_mul]
end Reads
end Cert.AttBwdIdeal.Val
-- ==== Proof.AttRun.lean ====
module
public import proofs.«01_k».proof.Proof.AttHost
@[expose] public section
set_option maxRecDepth 16384
noncomputable section
namespace Cert.AttBwdIdeal.Val
open Cert.AttBwdIdeal Cert.AttBwdIdeal.Gen Idealize.ShloMosaic Idealize.ShloMosaic.TcCoe Idealize.SL.Sem

variable (m : (ℓ : Loc nD τ sig) → Buf (Elt Ideal) ℓ) (c : Dev nD)

/-- The six arrays, of the four arguments. -/
def Qx (q : FVec Ideal S8192x4x192 .f32) : FVec Ideal S8192x1024 .bf16 := shapeCast _ (hpad (hq q)) shapeCasts_S8192x4x256_S8192x1024
def Kx (k : FVec Ideal S8192x4x192 .f32) : FVec Ideal S8192x1024 .bf16 := shapeCast _ (hpad (hk k)) shapeCasts_S8192x4x256_S8192x1024
def Vx (v : FVec Ideal S8192x4x128 .f32) : FVec Ideal S8192x512 .bf16 := shapeCast _ (hv v) shapeCasts_S8192x4x128_S8192x512
def Ox (o : FVec Ideal S8192x4x128 .f32) : FVec Ideal S8192x512 .f32 := shapeCast _ o shapeCasts_S8192x4x128_S8192x512

theorem blk_q (f : FVec Ideal S8192x1024 .bf16) (t : Fin cfg0.N) (r : Fin 2048) (l : Fin 256) : (win0_0.blk t).view.read (Elt Ideal) f (ix2 r l) = f (ix2 (row t r) (wide (hd t) l)) := congrArg f (emb0 t r l)
theorem blk_d (f : FVec Ideal S8192x512 .bf16) (t : Fin cfg0.N) (r : Fin 2048) (l : Fin 128) : (win0_1.blk t).view.read (Elt Ideal) f (ix2 r l) = f (ix2 (row t r) (thin (hd t) l)) := congrArg f (emb1 t r l)
theorem blk_o (f : FVec Ideal S8192x512 .f32) (t : Fin cfg0.N) (r : Fin 2048) (l : Fin 128) : (win0_2.blk t).view.read (Elt Ideal) f (ix2 r l) = f (ix2 (row t r) (thin (hd t) l)) := congrArg f (emb2 t r l)
theorem blk_l (f : FVec Ideal S4x1x8192 .f32) (t : Fin cfg0.N) (r : Fin 2048) : (win0_3.blk t).view.read (Elt Ideal) f (ix3 0 0 r) = f (ix3 (hd t) 0 (row t r)) := congrArg f (emb3 t r)
theorem blk_k (f : FVec Ideal S8192x1024 .bf16) (t : Fin cfg0.N) (r : Fin 8192) (l : Fin 256) : (win0_4.blk t).view.read (Elt Ideal) f (ix2 r l) = f (ix2 r (wide (hd t) l)) := congrArg f (emb4 t r l)
theorem blk_v (f : FVec Ideal S8192x512 .bf16) (t : Fin cfg0.N) (r : Fin 8192) (l : Fin 128) : (win0_5.blk t).view.read (Elt Ideal) f (ix2 r l) = f (ix2 r (thin (hd t) l)) := congrArg f (emb5 t r l)

/-- The arrays the region finds, as functions of the arguments. -/
theorem found : Found m c (Qx (aq m c)) (Kx (ak m c)) (Vx (av m c)) (Vx (act m c)) (Ox (hO (aq m c) (ak m c) (av m c))) (hL (aq m c) (ak m c)) := by
  constructor
  · exact fun t r l => (blk_q (V m c main_v33) t r l).trans (congrFun (entry_q m c) _)
  · exact fun t r l => (blk_d (V m c main_v37) t r l).trans (congrFun (entry_d m c) _)
  · exact fun t r l => (blk_o (V m c main_v26) t r l).trans (congrFun (entry_o m c) _)
  · exact fun t r => (blk_l (V m c main_v31) t r).trans (congrFun (entry_l m c) _)
  · exact fun t r l => (blk_k (V m c main_v35) t r l).trans (congrFun (entry_k m c) _)
  · exact fun t r l => (blk_v (V m c main_v36) t r l).trans (congrFun (entry_v m c) _)

section Tail
variable (X : Valuation τ sig (Elt Ideal))
theorem tail_q : @Eq (FVec Ideal S8192x4x192 .f32) (StableHlo.after (hostOps1 (F := Ideal)) X (Proc.devRef .tc main_v42))
    (mulf (extractStridedSlice S8192x4x192 ![0, 0, 0] (shapeCast S8192x4x256 (X (Proc.devRef .tc main_v38_0) : FVec Ideal S8192x1024 .f32) shapeCasts_S8192x1024_S8192x4x256) slices_S8192x4x256_S8192x4x192_0_0_0)
      (broadcastInDim S8192x4x192 ![] bcast_S_S8192x4x192 (constant S_ .f32 0x3D93CD3A#32))) := by
  simp only [hostOps1]
  after_results_simp <;> rfl
theorem tail_k : @Eq (FVec Ideal S8192x4x192 .f32) (StableHlo.after (hostOps1 (F := Ideal)) X (Proc.devRef .tc main_v47))
    (mulf (extractStridedSlice S8192x4x192 ![0, 0, 0] (shapeCast S8192x4x256 (X (Proc.devRef .tc main_v38_1) : FVec Ideal S8192x1024 .f32) shapeCasts_S8192x1024_S8192x4x256) slices_S8192x4x256_S8192x4x192_0_0_0)
      (broadcastInDim S8192x4x192 ![] bcast_S_S8192x4x192 lg2)) := by
  simp only [hostOps1]
  after_results_simp <;> rfl
theorem tail_v : (StableHlo.after (hostOps1 (F := Ideal)) X (Proc.devRef .tc main_v48) : FVec Ideal S8192x4x128 .f32)
    = shapeCast S8192x4x128 (X (Proc.devRef .tc main_v38_2) : FVec Ideal S8192x512 .f32) shapeCasts_S8192x512_S8192x4x128 := by
  simp only [hostOps1]
  after_results_simp <;> rfl
end Tail

/-- A sum over 256 lanes whose last 64 terms vanish. -/
theorem sum_lanes (f : Fin 192 → EReal) : (∑ d : Fin 256, if hd : d.val < 192 then f ⟨d.val, hd⟩ else 0) = ∑ d : Fin 192, f d := by
  refine (Fin.sum_univ_add (a := 192) (b := 64) (fun d : Fin (192 + 64) => if hd : d.val < 192 then f ⟨d.val, hd⟩ else 0)).trans ?_
  rw [Finset.sum_eq_zero (s := (Finset.univ : Finset (Fin 64))), add_zero]
  · refine Finset.sum_congr rfl fun d _ => ?_
    rw [dif_pos (show (Fin.castAdd 64 d).val < 192 from d.isLt)]
    rfl
  · intro d _
    rw [dif_neg (by show ¬ 192 + d.val < 192; omega)]

section Reads
variable {q k : FVec Ideal S8192x4x192 .f32} {v ct : FVec Ideal S8192x4x128 .f32}
  {qr kr : Fin 8192 → Fin 4 → Fin 192 → ℝ} {vr cr : Fin 8192 → Fin 4 → Fin 128 → ℝ}
  (hqr : ∀ i h d, q (ix3 i h d) = (qr i h d : EReal)) (hkr : ∀ i h d, k (ix3 i h d) = (kr i h d : EReal))
  (hvr : ∀ i h d, v (ix3 i h d) = (vr i h d : EReal)) (hcr : ∀ i h d, ct (ix3 i h d) = (cr i h d : EReal))

theorem wide_read (x : FVec Ideal S8192x4x256 .bf16) (i : Fin 8192) (h : Fin 4) (d : Fin 256) :
    (shapeCast _ x shapeCasts_S8192x4x256_S8192x1024 : FVec Ideal S8192x1024 .bf16) (ix2 i (wide h d)) = x (ix3 i h d) := by
  unfold wide
  pointwise
theorem thin_read {φ : FTy} (x : FVec Ideal S8192x4x128 φ) (i : Fin 8192) (h : Fin 4) (d : Fin 128) :
    (shapeCast _ x shapeCasts_S8192x4x128_S8192x512 : FVec Ideal S8192x512 φ) (ix2 i (thin h d)) = x (ix3 i h d) := by
  unfold thin
  pointwise

include hqr in
theorem Qx_at (i : Fin 8192) (h : Fin 4) (d : Fin 256) :
    Qx q (ix2 i (wide h d)) = if hd : d.val < 192 then ((qr i h ⟨d.val, hd⟩ * (Cert.Reals.scale * (1 / Cert.Soft.lg)) : ℝ) : EReal) else 0 := by
  refine (wide_read _ i h d).trans ((hpad_at _ i h d).trans ?_)
  split
  · exact hq_at hqr _ _ _
  · rfl
include hkr in
theorem Kx_at (i : Fin 8192) (h : Fin 4) (d : Fin 256) : Kx k (ix2 i (wide h d)) = if hd : d.val < 192 then (kr i h ⟨d.val, hd⟩ : EReal) else 0 := by
  refine (wide_read _ i h d).trans ((hpad_at _ i h d).trans ?_)
  split
  · exact hkr _ _ _
  · rfl
include hvr in
theorem Vx_at (i : Fin 8192) (h : Fin 4) (d : Fin 128) : Vx v (ix2 i (thin h d)) = (vr i h d : EReal) := (thin_read _ i h d).trans (hvr i h d)

include hqr hkr in
/-- The kernel's probabilities are the softmax. -/
theorem PA_at (h : Fin 4) (j i : Fin 8192) : PA (Qx q) (Kx k) (hL q k) h j i = (Cert.Soft.W qr kr h i j : EReal) := by
  obtain ⟨M, hM⟩ := hm_real hqr hkr
  unfold PA
  have e : (∑ d : Fin 256, Kx k (ix2 j (wide h d)) * Qx q (ix2 i (wide h d))) = (Cert.Soft.s2 qr kr h j i : EReal) := by
    unfold Cert.Soft.s2
    rw [Cert.Reals.coe_sum, ← sum_lanes]
    refine Finset.sum_congr rfl fun d _ => ?_
    rw [Qx_at hqr, Kx_at hkr]
    split
    · exact (EReal.coe_mul _ _).symm
    · exact zero_mul _
  rw [e, hL_at hqr hkr hM, ← EReal.coe_sub, Ideal.exp2_coe, Cert.Soft.pow_eq]

include hqr hkr hvr hcr in
/-- The kernel's cotangents of the scores. -/
theorem DSA_at (h : Fin 4) (j i : Fin 8192) : DSA (Qx q) (Kx k) (Vx v) (Vx ct) (Ox (hO q k v)) (hL q k) h j i = (Cert.Soft.G qr kr vr cr h i j : EReal) := by
  obtain ⟨M, hM⟩ := hm_real hqr hkr
  unfold DSA Cert.Soft.G
  have e1 : (∑ d : Fin 128, Vx v (ix2 j (thin h d)) * Vx ct (ix2 i (thin h d))) = (Cert.Soft.dp vr cr h i j : EReal) := by
    unfold Cert.Soft.dp
    rw [Cert.Reals.coe_sum]
    refine Finset.sum_congr rfl fun d _ => ?_
    rw [Vx_at hvr, Vx_at hcr, mul_comm, EReal.coe_mul]
  have e2 : (∑ d : Fin 128, Vx ct (ix2 i (thin h d)) * Ox (hO q k v) (ix2 i (thin h d))) = ((∑ j', Cert.Soft.W qr kr h i j' * Cert.Soft.dp vr cr h i j' : ℝ) : EReal) := by
    rw [← Cert.Soft.delta_eq qr kr vr cr (M h i) h i, Cert.Reals.coe_sum]
    refine Finset.sum_congr rfl fun d _ => ?_
    have e3 : Ox (hO q k v) (ix2 i (thin h d)) = _ := (thin_read (hO q k v) i h d).trans (hO_at hqr hkr hvr hM i h d)
    rw [Vx_at hcr, e3]
    exact (EReal.coe_mul _ _).symm
  rw [PA_at hqr hkr, e1, e2, EReal.coe_mul, EReal.coe_sub]

/-- A lane below 192 among 256. -/
def lane (d : Fin 192) : Fin 256 := ⟨d.val, by omega⟩

theorem cut_read (x : FVec Ideal S8192x1024 .f32) (i : Fin 8192) (h : Fin 4) (d : Fin 192) :
    (extractStridedSlice S8192x4x192 ![0, 0, 0] (shapeCast S8192x4x256 x shapeCasts_S8192x1024_S8192x4x256) slices_S8192x4x256_S8192x4x192_0_0_0 : FVec Ideal S8192x4x192 .f32) (ix3 i h d)
      = x (ix2 i (wide h (lane d))) := by
  unfold wide lane
  pointwise
theorem uncut_read (x : FVec Ideal S8192x512 .f32) (i : Fin 8192) (h : Fin 4) (d : Fin 128) :
    (shapeCast S8192x4x128 x shapeCasts_S8192x512_S8192x4x128 : FVec Ideal S8192x4x128 .f32) (ix3 i h d) = x (ix2 i (thin h d)) := by
  unfold thin
  pointwise

/-- What the three results hold, of the region's three arrays. -/
theorem out_q (x : FVec Ideal S8192x1024 .f32) (i : Fin 8192) (h : Fin 4) (d : Fin 192) {r : ℝ} (hx : x (ix2 i (wide h (lane d))) = (r : EReal)) :
    mulf (extractStridedSlice S8192x4x192 ![0, 0, 0] (shapeCast S8192x4x256 x shapeCasts_S8192x1024_S8192x4x256) slices_S8192x4x256_S8192x4x192_0_0_0)
      (broadcastInDim S8192x4x192 ![] bcast_S_S8192x4x192 (constant S_ .f32 0x3D93CD3A#32)) (ix3 i h d) = ((r * Cert.Reals.scale : ℝ) : EReal) := by
  have e := cut_read x i h d
  revert e
  generalize (extractStridedSlice S8192x4x192 ![0, 0, 0] (shapeCast S8192x4x256 x shapeCasts_S8192x1024_S8192x4x256) slices_S8192x4x256_S8192x4x192_0_0_0 : FVec Ideal S8192x4x192 .f32) = y
  intro e
  pointwise
  rw [e, hx, Cert.Reals.ofBits_scale, EReal.coe_mul]
theorem out_k (x : FVec Ideal S8192x1024 .f32) (i : Fin 8192) (h : Fin 4) (d : Fin 192) {r : ℝ} (hx : x (ix2 i (wide h (lane d))) = (r : EReal)) :
    mulf (extractStridedSlice S8192x4x192 ![0, 0, 0] (shapeCast S8192x4x256 x shapeCasts_S8192x1024_S8192x4x256) slices_S8192x4x256_S8192x4x192_0_0_0)
      (broadcastInDim S8192x4x192 ![] bcast_S_S8192x4x192 lg2) (ix3 i h d) = ((r * Cert.Soft.lg : ℝ) : EReal) := by
  have e := cut_read x i h d
  revert e
  generalize (extractStridedSlice S8192x4x192 ![0, 0, 0] (shapeCast S8192x4x256 x shapeCasts_S8192x1024_S8192x4x256) slices_S8192x4x256_S8192x4x192_0_0_0 : FVec Ideal S8192x4x192 .f32) = y
  intro e
  pointwise
  rw [e, hx, lg2_at, EReal.coe_mul]

include hqr hkr hvr hcr
theorem sum_q (i : Fin 8192) (h : Fin 4) (d : Fin 192) :
    (∑ j : Fin 8192, DSA (Qx q) (Kx k) (Vx v) (Vx ct) (Ox (hO q k v)) (hL q k) h j i * Kx k (ix2 j (wide h (lane d)))) = ((∑ j, Cert.Soft.G qr kr vr cr h i j * kr j h d : ℝ) : EReal) := by
  rw [Cert.Reals.coe_sum]
  refine Finset.sum_congr rfl fun j _ => ?_
  rw [DSA_at hqr hkr hvr hcr, Kx_at hkr, dif_pos (show (lane d).val < 192 from d.isLt), EReal.coe_mul]
  rfl
theorem sum_k (j : Fin 8192) (h : Fin 4) (d : Fin 192) :
    (∑ i : Fin 8192, DSA (Qx q) (Kx k) (Vx v) (Vx ct) (Ox (hO q k v)) (hL q k) h j i * Qx q (ix2 i (wide h (lane d))))
      = ((∑ i, Cert.Soft.G qr kr vr cr h i j * (qr i h d * (Cert.Reals.scale * (1 / Cert.Soft.lg))) : ℝ) : EReal) := by
  rw [Cert.Reals.coe_sum]
  refine Finset.sum_congr rfl fun i _ => ?_
  rw [DSA_at hqr hkr hvr hcr, Qx_at hqr, dif_pos (show (lane d).val < 192 from d.isLt)]
  exact (EReal.coe_mul _ _).symm
omit hvr in
theorem sum_v (j : Fin 8192) (h : Fin 4) (d : Fin 128) :
    (∑ i : Fin 8192, PA (Qx q) (Kx k) (hL q k) h j i * Vx ct (ix2 i (thin h d))) = (Cert.Soft.dv qr kr cr j h d : EReal) := by
  unfold Cert.Soft.dv
  rw [Cert.Reals.coe_sum]
  refine Finset.sum_congr rfl fun i _ => ?_
  rw [PA_at hqr hkr, Vx_at hcr, EReal.coe_mul]
end Reads
end Cert.AttBwdIdeal.Val
-- ==== Proof.AttOut.lean ====
module
public import proofs.«01_k».proof.Proof.AttRun
@[expose] public section
set_option maxRecDepth 16384
noncomputable section
namespace Cert.AttGrad
open Idealize.ShloMosaic Idealize.ShloMosaic.TcCoe Idealize.SL.Sem

/-- An array of four heads as real numbers. -/
def re {n : ℕ} (x : FVec Ideal ⟨3, ![8192, 4, n]⟩ .f32) : Fin 8192 → Fin 4 → Fin n → ℝ := fun i h d => (x (ix3 i h d)).toReal
/-- Every entry of an array is below infinity in absolute value. -/
def Fin3 {n : ℕ} (x : FVec Ideal ⟨3, ![8192, 4, n]⟩ .f32) : Prop := ∀ i h d, ∃ r : ℝ, x (ix3 i h d) = (r : EReal)
theorem re_at {n : ℕ} {x : FVec Ideal ⟨3, ![8192, 4, n]⟩ .f32} (hx : Fin3 x) (i : Fin 8192) (h : Fin 4) (d : Fin n) : x (ix3 i h d) = (re x i h d : EReal) := by
  obtain ⟨r, hr⟩ := hx i h d
  unfold re
  rw [hr, EReal.toReal_coe]

/-- The gradients of the softmax attention for the queries, the keys and the values, as arrays. -/
def gQ (q k : FVec Ideal ⟨3, ![8192, 4, 192]⟩ .f32) (v c : FVec Ideal ⟨3, ![8192, 4, 128]⟩ .f32) : FVec Ideal ⟨3, ![8192, 4, 192]⟩ .f32 :=
  fun y => ((Cert.Soft.dq (re q) (re k) (re v) (re c) (y 0) (y 1) (y 2) : ℝ) : EReal)
def gK (q k : FVec Ideal ⟨3, ![8192, 4, 192]⟩ .f32) (v c : FVec Ideal ⟨3, ![8192, 4, 128]⟩ .f32) : FVec Ideal ⟨3, ![8192, 4, 192]⟩ .f32 :=
  fun y => ((Cert.Soft.dk (re q) (re k) (re v) (re c) (y 0) (y 1) (y 2) : ℝ) : EReal)
def gV (q k : FVec Ideal ⟨3, ![8192, 4, 192]⟩ .f32) (c : FVec Ideal ⟨3, ![8192, 4, 128]⟩ .f32) : FVec Ideal ⟨3, ![8192, 4, 128]⟩ .f32 :=
  fun y => ((Cert.Soft.dv (re q) (re k) (re c) (y 0) (y 1) (y 2) : ℝ) : EReal)
end Cert.AttGrad

namespace Cert.AttBwdIdeal.Val
open Cert.AttBwdIdeal Cert.AttBwdIdeal.Gen Idealize.ShloMosaic Idealize.ShloMosaic.TcCoe Idealize.SL.Sem Cert.AttGrad

variable (m : (ℓ : Loc nD τ sig) → Buf (Elt Ideal) ℓ)

/-- The arrays the pipeline leaves, as the lines after it find them. -/
def left (c : Dev nD) : Valuation τ sig (Elt Ideal) := Pipeline.withArrays (cfgs 0).spec c (V0 m c) fun w => (dats m 0 c).arrAt w (cfgs 0).N

theorem left6 (c : Dev nD) (hinj : Function.Injective (Pipeline.arrRef spec0)) : left m c (Proc.devRef .tc main_v38_0) = (dats m 0 c).arrAt 6 cfg0.N := Pipeline.withArrays_arr spec0 hinj c (V0 m c) (fun w => (dats m 0 c).arrAt w (cfgs 0).N) 6
theorem left7 (c : Dev nD) (hinj : Function.Injective (Pipeline.arrRef spec0)) : left m c (Proc.devRef .tc main_v38_1) = (dats m 0 c).arrAt 7 cfg0.N := Pipeline.withArrays_arr spec0 hinj c (V0 m c) (fun w => (dats m 0 c).arrAt w (cfgs 0).N) 7
theorem left8 (c : Dev nD) (hinj : Function.Injective (Pipeline.arrRef spec0)) : left m c (Proc.devRef .tc main_v38_2) = (dats m 0 c).arrAt 8 cfg0.N := Pipeline.withArrays_arr spec0 hinj c (V0 m c) (fun w => (dats m 0 c).arrAt w (cfgs 0).N) 8

theorem inj : Function.Injective (Pipeline.arrRef spec0) := by decide

section Out
variable (c : Dev nD) (hq : Fin3 (aq m c)) (hk : Fin3 (ak m c)) (hv : Fin3 (av m c)) (hc : Fin3 (act m c))
include hq hk hv hc
theorem res_q : (StableHlo.after (hostOps1 (F := Ideal)) (left m c) (Proc.devRef .tc main_v42) : FVec Ideal S8192x4x192 .f32) = gQ (aq m c) (ak m c) (av m c) (act m c) := by
  refine (tail_q (left m c)).trans ?_
  funext y
  obtain ⟨i, h, d, rfl⟩ : ∃ (i : Fin 8192) (h : Fin 4) (d : Fin 192), y = ix3 i h d := ⟨y 0, y 1, y 2, eq_ix3 y⟩
  refine out_q _ i h d ?_
  refine (congrFun ((left6 m c inj).trans (arr6 (found m c))) _).trans ?_
  rw [wideArr_at]
  exact sum_q (re_at hq) (re_at hk) (re_at hv) (re_at hc) i h d
theorem res_k : (StableHlo.after (hostOps1 (F := Ideal)) (left m c) (Proc.devRef .tc main_v47) : FVec Ideal S8192x4x192 .f32) = gK (aq m c) (ak m c) (av m c) (act m c) := by
  refine (tail_k (left m c)).trans ?_
  funext y
  obtain ⟨i, h, d, rfl⟩ : ∃ (i : Fin 8192) (h : Fin 4) (d : Fin 192), y = ix3 i h d := ⟨y 0, y 1, y 2, eq_ix3 y⟩
  refine (out_k _ i h d ?_).trans (congrArg _ (Cert.Soft.dk_eq _ _ _ _ i h d))
  refine (congrFun ((left7 m c inj).trans (arr7 (found m c))) _).trans ?_
  rw [wideArr_at]
  exact sum_k (re_at hq) (re_at hk) (re_at hv) (re_at hc) i h d
omit hv in
theorem res_v : (StableHlo.after (hostOps1 (F := Ideal)) (left m c) (Proc.devRef .tc main_v48) : FVec Ideal S8192x4x128 .f32) = gV (aq m c) (ak m c) (act m c) := by
  refine (tail_v (left m c)).trans ?_
  funext y
  obtain ⟨i, h, d, rfl⟩ : ∃ (i : Fin 8192) (h : Fin 4) (d : Fin 128), y = ix3 i h d := ⟨y 0, y 1, y 2, eq_ix3 y⟩
  refine (uncut_read _ i h d).trans ((congrFun ((left8 m c inj).trans (arr8 (found m c))) _).trans ?_)
  rw [thinArr_at]
  exact sum_v (re_at hq) (re_at hk) (re_at hc) i h d
end Out

/-- Every execution of the kernel ends with the three gradients of the attention in its results and its arguments unchanged,
    where the arguments are finite. -/
theorem run (ρ : Dev nD → PrngReg) (hf : ∀ c, Fin3 (aq m c) ∧ Fin3 (ak m c) ∧ Fin3 (av m c) ∧ Fin3 (act m c)) :
    θ_run defs (onTc (τ := τ) (main (F := Ideal))) ⟨m, fun _ => 0, ρ⟩ fun r => ∀ c : Dev nD,
      r.2.mem ((c.tc : Thread nD τ).loc main_v42) = gQ (aq m c) (ak m c) (av m c) (act m c)
      ∧ r.2.mem ((c.tc : Thread nD τ).loc main_v47) = gK (aq m c) (ak m c) (av m c) (act m c)
      ∧ r.2.mem ((c.tc : Thread nD τ).loc main_v48) = gV (aq m c) (ak m c) (act m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      ((h.1 c).2 main_v42 (Pipeline.mem_restRefs_of main_v42 (by decide) (by decide))).trans (res_q m c (hf c).1 (hf c).2.1 (hf c).2.2.1 (hf c).2.2.2),
      ((h.1 c).2 main_v47 (Pipeline.mem_restRefs_of main_v47 (by decide) (by decide))).trans (res_k m c (hf c).1 (hf c).2.1 (hf c).2.2.1 (hf c).2.2.2),
      ((h.1 c).2 main_v48 (Pipeline.mem_restRefs_of main_v48 (by decide) (by decide))).trans (res_v m c (hf c).1 (hf c).2.1 (hf c).2.2.2),
      h.2 c⟩)
    (θ_run_and (run_main m ρ) (unchanged m ρ))
end Cert.AttBwdIdeal.Val
-- ==== Proof.AttRef.lean ====
module
public import proofs.«01_k».proof.Proof.AttOut
public import proofs.«01_k».proof.Proof.Gen.AttBwdRefIdeal.Read
@[expose] public section
set_option maxRecDepth 16384
noncomputable section
namespace Cert.AttBwdRefIdeal.Val
open Cert.AttBwdRefIdeal Cert.AttBwdRefIdeal.Gen Cert.AttBwdRefIdeal.Read Idealize.ShloMosaic Idealize.ShloMosaic.TcCoe Idealize.SL.Sem Cert.AttGrad

variable {q k : FVec Ideal S8192x4x192 .f32} {v ct : FVec Ideal S8192x4x128 .f32}
  {qr kr : Fin 8192 → Fin 4 → Fin 192 → ℝ} {vr cr : Fin 8192 → Fin 4 → Fin 128 → ℝ}
  (hqr : ∀ i h d, q (ix3 i h d) = (qr i h d : EReal)) (hkr : ∀ i h d, k (ix3 i h d) = (kr i h d : EReal))
  (hvr : ∀ i h d, v (ix3 i h d) = (vr i h d : EReal)) (hcr : ∀ i h d, ct (ix3 i h d) = (cr i h d : EReal))

include hqr hkr in
/-- The scores. -/
theorem sc_at (h : Fin 4) (i j : Fin 8192) : val_main_v2 (F := Ideal) q k (ix3 h i j) = (Cert.Soft.sc qr kr h i j : EReal) := by
  rw [val_main_v2_apply]
  show val_main_v0 (F := Ideal) q k (ix3 h i j) * val_main_v1 (F := Ideal) (ix3 h i j) = _
  rw [val_main_v0_apply, val_main_v1_apply, val_main_cst_apply]
  refine (congrArg₂ (· * ·) ?_ Cert.Reals.ofBits_scale).trans (EReal.coe_mul _ _).symm
  rw [Cert.Reals.coe_sum]
  refine Finset.sum_congr rfl fun d _ => ?_
  rw [show lidx_main_v0 (ix3 h i j) d = ix3 i h d by idx_ext, show ridx_main_v0 (ix3 h i j) d = ix3 j h d by idx_ext, hqr, hkr, EReal.coe_mul]

include hqr hkr in
/-- The largest score of a query is a real. -/
theorem max_real : ∃ M : Fin 4 → Fin 8192 → ℝ, ∀ h i, val_main_v10 (F := Ideal) q k (ix2 h i) = (M h i : EReal) := by
  have hx : ∀ y, ∃ r : ℝ, val_main_v2 (F := Ideal) q k y = (r : EReal) := by
    intro y
    obtain ⟨h, i, j, rfl⟩ : ∃ (h : Fin 4) (i j : Fin 8192), y = ix3 h i j := ⟨y 0, y 1, y 2, eq_ix3 y⟩
    exact ⟨_, sc_at hqr hkr h i j⟩
  have hM : ∀ h i, ∃ M : ℝ, val_main_v10 (F := Ideal) q k (ix2 h i) = (M : EReal) := by
    intro h i
    rw [val_main_v10_apply]
    obtain ⟨M, e⟩ := Cert.Reals.reduce_max_last (val_main_v2 (F := Ideal) q k) hx (val_main_cst_0 (F := Ideal)) (fun y => (val_main_cst_0_apply y).trans Cert.Reals.ofBits_neg_inf) reducesTo_S4x8192x8192_S4x8192_d2 h_S_ 0 h i
    refine ⟨M, ?_⟩
    show max (val_main_v9 (F := Ideal) (ix2 h i)) (val_main_v3 (F := Ideal) q k (ix2 h i)) = _
    rw [val_main_v9_apply, val_main_cst_2_apply, show val_main_v3 (F := Ideal) q k (ix2 h i) = M from e]
    refine (congrArg (fun z => max z (M : EReal)) Cert.Reals.ofBits_neg_inf).trans (max_eq_right bot_le)
  exact ⟨fun h i => (hM h i).choose, fun h i => (hM h i).choose_spec⟩

section
variable {M : Fin 4 → Fin 8192 → ℝ} (hM : ∀ h i, val_main_v10 (F := Ideal) q k (ix2 h i) = (M h i : EReal))
include hqr hkr hM
theorem e_at (h : Fin 4) (i j : Fin 8192) : val_main_v23 (F := Ideal) q k (ix3 h i j) = (Real.exp (Cert.Soft.sc qr kr h i j - M h i) : EReal) := by
  rw [val_main_v23_apply, val_main_v22_apply, val_main_v21_apply, val_main_v20_apply, sc_at hqr hkr, show idx_main_v20 (idx_main_v21 (ix3 h i j)) = ix2 h i by idx_ext, hM]
  exact (congrArg Ideal.exp (EReal.coe_sub _ _).symm).trans (Ideal.exp_coe _)
theorem z_at (h : Fin 4) (i : Fin 8192) : val_main_v24 (F := Ideal) q k (ix2 h i) = ((∑ j, Real.exp (Cert.Soft.sc qr kr h i j - M h i) : ℝ) : EReal) := by
  rw [val_main_v24_apply, val_main_cst_8_apply, Cert.Reals.coe_sum]
  refine (congrArg₂ (· + ·) Ideal.ofBits_zero_f32 ?_).trans (zero_add _)
  refine Finset.sum_congr rfl fun j _ => ?_
  rw [show idx_main_v24 (ix2 h i) j = ix3 h i j by idx_ext, e_at hqr hkr hM]
theorem w_at (h : Fin 4) (i j : Fin 8192) : val_main_v27 (F := Ideal) q k (ix3 h i j) = (Cert.Soft.W qr kr h i j : EReal) := by
  rw [val_main_v27_apply, val_main_v26_apply, val_main_v25_apply, show idx_main_v25 (idx_main_v26 (ix3 h i j)) = ix2 h i by idx_ext, e_at hqr hkr hM, z_at hqr hkr hM]
  show Ideal.div _ _ = _
  rw [Ideal.div_coe (ne_of_gt (Cert.Soft.sum_exp_pos _)), ← EReal.coe_mul, ← Cert.Soft.W_shift qr kr (M h i), mul_one_div]
theorem zz_at (h : Fin 4) (i : Fin 8192) : val_main_v30 (F := Ideal) q k (ix3 h i 0)
    = ((1 / ((∑ j, Real.exp (Cert.Soft.sc qr kr h i j - M h i)) * ∑ j, Real.exp (Cert.Soft.sc qr kr h i j - M h i)) : ℝ) : EReal) := by
  have hz := Cert.Soft.sum_exp_pos (fun j => Cert.Soft.sc qr kr h i j - M h i)
  rw [val_main_v30_apply, val_main_v29_apply, val_main_cst_9_apply, val_main_v28_apply, val_main_v25_apply, show idx_main_v25 (ix3 h i 0) = ix2 h i by idx_ext, z_at hqr hkr hM]
  show Ideal.div _ ((_ : EReal) * _) = _
  rw [← EReal.coe_mul, Ideal.div_coe (ne_of_gt (mul_pos hz hz))]
  refine (congrArg (fun z : EReal => z * _) Ideal.ofBits_one_f32).trans (one_mul _)
end

include hvr hcr in
theorem dp_at (h : Fin 4) (i j : Fin 8192) : val_main_v34 (F := Ideal) v ct (ix3 h i j) = (Cert.Soft.dp vr cr h i j : EReal) := by
  rw [val_main_v34_apply]
  unfold Cert.Soft.dp
  rw [Cert.Reals.coe_sum]
  refine Finset.sum_congr rfl fun d _ => ?_
  rw [val_main_v33_apply, show idx_main_v33 (lidx_main_v34 (ix3 h i j) d) = ix3 i h d by idx_ext, show ridx_main_v34 (ix3 h i j) d = ix3 j h d by idx_ext, hvr, hcr, EReal.coe_mul]

include hqr hkr hvr hcr in
theorem g_at (h : Fin 4) (i j : Fin 8192) : val_main_v50 (F := Ideal) q k v ct (ix3 h i j) = ((Cert.Soft.G qr kr vr cr h i j * Cert.Reals.scale : ℝ) : EReal) := by
  obtain ⟨M, hM⟩ := max_real hqr hkr
  have hz := Cert.Soft.sum_exp_pos (fun j => Cert.Soft.sc qr kr h i j - M h i)
  have e40 : val_main_v40 (F := Ideal) q k v ct (ix2 h i) = ((∑ j', Cert.Soft.dp vr cr h i j' * (1 / ((∑ j', Real.exp (Cert.Soft.sc qr kr h i j' - M h i)) * ∑ j', Real.exp (Cert.Soft.sc qr kr h i j' - M h i))) * Real.exp (Cert.Soft.sc qr kr h i j' - M h i) : ℝ) : EReal) := by
    rw [val_main_v40_apply, val_main_cst_10_apply, Cert.Reals.coe_sum]
    refine (congrArg₂ (· + ·) Ideal.ofBits_zero_f32 ?_).trans (zero_add _)
    refine Finset.sum_congr rfl fun j' _ => ?_
    rw [val_main_v39_apply, val_main_v38_apply, val_main_v37_apply, show idx_main_v40 (ix2 h i) j' = ix3 h i j' by idx_ext, show idx_main_v37 (ix3 h i j') = ix3 h i 0 by idx_ext,
      dp_at hvr hcr, e_at hqr hkr hM, zz_at hqr hkr hM, EReal.coe_mul, EReal.coe_mul]
    rfl
  have e46 : val_main_v46 (F := Ideal) q k v ct (ix3 h i j) = ((-(∑ j', Cert.Soft.dp vr cr h i j' * (1 / ((∑ j', Real.exp (Cert.Soft.sc qr kr h i j' - M h i)) * ∑ j', Real.exp (Cert.Soft.sc qr kr h i j' - M h i))) * Real.exp (Cert.Soft.sc qr kr h i j' - M h i)) : ℝ) : EReal) := by
    rw [val_main_v46_apply, show idx_main_v46 (ix3 h i j) = ix2 h i by idx_ext, val_main_v45_apply, val_main_cst_11_apply, Fin.sum_univ_one, show idx_main_v45 (ix2 h i) 0 = ix3 h i 0 by idx_ext, val_main_v42_apply, val_main_v41_apply,
      show idx_main_v41 (ix3 h i 0) = ix2 h i by idx_ext, e40]
    exact (congrArg₂ (· + ·) Ideal.ofBits_zero_f32 (EReal.coe_neg _).symm).trans (zero_add _)
  have e44 : val_main_v44 (F := Ideal) q k v ct (ix3 h i j) = ((Cert.Soft.dp vr cr h i j * (1 / ∑ j', Real.exp (Cert.Soft.sc qr kr h i j' - M h i)) : ℝ) : EReal) := by
    rw [val_main_v44_apply, val_main_v43_apply, val_main_v25_apply, show idx_main_v25 (idx_main_v43 (ix3 h i j)) = ix2 h i by idx_ext, dp_at hvr hcr, z_at hqr hkr hM]
    exact (Ideal.div_coe (ne_of_gt hz) _).trans (EReal.coe_mul _ _).symm
  rw [val_main_v50_apply, val_main_v49_apply, val_main_cst_12_apply, val_main_v48_apply, val_main_v47_apply, e44, e46, e_at hqr hkr hM, ← Cert.Soft.G_eq qr kr vr cr (M h i), EReal.coe_mul (_ * _), EReal.coe_mul (_ + _), EReal.coe_add]
  exact congrArg (_ * ·) Cert.Reals.ofBits_scale

include hqr hkr hvr hcr
theorem dq_at (i : Fin 8192) (h : Fin 4) (d : Fin 192) : val_main_v54 (F := Ideal) q k v ct (ix3 i h d) = (Cert.Soft.dq qr kr vr cr i h d : EReal) := by
  unfold Cert.Soft.dq
  rw [val_main_v54_apply, val_main_v53_apply, Finset.sum_mul, Cert.Reals.coe_sum]
  refine Finset.sum_congr rfl fun j _ => ?_
  rw [show lidx_main_v53 (idx_main_v54 (ix3 i h d)) j = ix3 h i j by idx_ext, show ridx_main_v53 (idx_main_v54 (ix3 i h d)) j = ix3 j h d by idx_ext, g_at hqr hkr hvr hcr, hkr, ← EReal.coe_mul, mul_right_comm]
theorem dk_at (j : Fin 8192) (h : Fin 4) (d : Fin 192) : val_main_v52 (F := Ideal) q k v ct (ix3 j h d) = (Cert.Soft.dk qr kr vr cr j h d : EReal) := by
  unfold Cert.Soft.dk
  rw [val_main_v52_apply, val_main_v51_apply, Finset.sum_mul, Cert.Reals.coe_sum]
  refine Finset.sum_congr rfl fun i _ => ?_
  rw [show lidx_main_v51 (idx_main_v52 (ix3 j h d)) i = ix3 h i j by idx_ext, show ridx_main_v51 (idx_main_v52 (ix3 j h d)) i = ix3 i h d by idx_ext, g_at hqr hkr hvr hcr, hqr, ← EReal.coe_mul, mul_right_comm]
omit hvr in
theorem dv_at (j : Fin 8192) (h : Fin 4) (d : Fin 128) : val_main_v36 (F := Ideal) q k ct (ix3 j h d) = (Cert.Soft.dv qr kr cr j h d : EReal) := by
  obtain ⟨M, hM⟩ := max_real hqr hkr
  unfold Cert.Soft.dv
  rw [val_main_v36_apply, val_main_v35_apply, Cert.Reals.coe_sum]
  refine Finset.sum_congr rfl fun i _ => ?_
  rw [val_main_v33_apply, show idx_main_v33 (lidx_main_v35 (idx_main_v36 (ix3 j h d)) i) = ix3 i h d by idx_ext, show ridx_main_v35 (idx_main_v36 (ix3 j h d)) i = ix3 h i j by idx_ext, w_at hqr hkr hM, hcr, ← EReal.coe_mul, mul_comm]
end Cert.AttBwdRefIdeal.Val

namespace Cert.AttClaim
open Idealize.ShloMosaic Idealize.ShloMosaic.TcCoe Idealize.SL.Sem Cert.AttGrad
variable {q k : FVec Ideal ⟨3, ![8192, 4, 192]⟩ .f32} {v c : FVec Ideal ⟨3, ![8192, 4, 128]⟩ .f32} (hq : Fin3 q) (hk : Fin3 k) (hv : Fin3 v) (hc : Fin3 c)
include hq hk hc
/-- The reference's results are the same three gradients. -/
theorem ref_v : Cert.AttBwdRefIdeal.Read.val_main_v36 (F := Ideal) q k c = gV q k c := by
  funext y
  obtain ⟨i, h, d, rfl⟩ : ∃ (i : Fin 8192) (h : Fin 4) (d : Fin 128), y = ix3 i h d := ⟨y 0, y 1, y 2, eq_ix3 y⟩
  exact Cert.AttBwdRefIdeal.Val.dv_at (re_at hq) (re_at hk) (re_at hc) i h d
include hv
theorem ref_q : Cert.AttBwdRefIdeal.Read.val_main_v54 (F := Ideal) q k v c = gQ q k v c := by
  funext y
  obtain ⟨i, h, d, rfl⟩ : ∃ (i : Fin 8192) (h : Fin 4) (d : Fin 192), y = ix3 i h d := ⟨y 0, y 1, y 2, eq_ix3 y⟩
  exact Cert.AttBwdRefIdeal.Val.dq_at (re_at hq) (re_at hk) (re_at hv) (re_at hc) i h d
theorem ref_k : Cert.AttBwdRefIdeal.Read.val_main_v52 (F := Ideal) q k v c = gK q k v c := by
  funext y
  obtain ⟨i, h, d, rfl⟩ : ∃ (i : Fin 8192) (h : Fin 4) (d : Fin 192), y = ix3 i h d := ⟨y 0, y 1, y 2, eq_ix3 y⟩
  exact Cert.AttBwdRefIdeal.Val.dk_at (re_at hq) (re_at hk) (re_at hv) (re_at hc) i h d
end Cert.AttClaim
-- ==== Proof.AttClaim.lean ====
module
public import proofs.«01_k».proof.Defs
public import proofs.«01_k».proof.Proof.AttRef
public import proofs.«01_k».proof.Proof.Gen.Pre_finite
public import proofs.«01_k».proof.Proof.Quiet
@[expose] public section
set_option maxRecDepth 16384
noncomputable section
namespace Cert.AttClaim
open Idealize.ShloMosaic Idealize.ShloMosaic.TcCoe Idealize.SL.Sem Cert.AttGrad

/-- The precondition, read: arrays whose every entry passes the test are finite. -/
theorem finite_of (q k : FVec Ideal ⟨3, ![8192, 4, 192]⟩ .f32) (v c : FVec Ideal ⟨3, ![8192, 4, 128]⟩ .f32)
    (h : (Cert.Pre_finite.fn (F := Ideal) q k v c).1 = (fun _ => 1#1) ∧ (Cert.Pre_finite.fn (F := Ideal) q k v c).2.1 = (fun _ => 1#1)
      ∧ (Cert.Pre_finite.fn (F := Ideal) q k v c).2.2.1 = (fun _ => 1#1) ∧ (Cert.Pre_finite.fn (F := Ideal) q k v c).2.2.2 = (fun _ => 1#1)) :
    Fin3 q ∧ Fin3 k ∧ Fin3 v ∧ Fin3 c :=
  ⟨fun i h' d => Cert.Reals.real_of_abs _ (congrFun h.1 (ix3 i h' d)), fun i h' d => Cert.Reals.real_of_abs _ (congrFun h.2.1 (ix3 i h' d)),
    fun i h' d => Cert.Reals.real_of_abs _ (congrFun h.2.2.1 (ix3 i h' d)), fun i h' d => Cert.Reals.real_of_abs _ (congrFun h.2.2.2 (ix3 i h' d))⟩

/-- The kernel and the reference compute the same three gradients of the attention, where the arguments are finite. -/
theorem algebraic : Cert.algebraic_AttBwdIdeal_AttBwdRefIdeal_pre_finite := by
  intro m ρ m' ρ' hpre hag
  have hf := fun c => finite_of _ _ _ _ (hpre c)
  refine ⟨_, _, _, Cert.AttBwdIdeal.Val.run m ρ hf, (θ_run _ _ _).mono (fun r h c => ?_) (Cert.AttBwdRefIdeal.Value.run m' ρ')⟩
  obtain ⟨h54, h52, h36, ha⟩ := h c
  obtain ⟨e0, e1, e2, e3⟩ := hag c
  obtain ⟨f0, f1, f2, f3⟩ := hf c
  refine ⟨?_, ?_, ?_, ha⟩
  · rw [h54, Cert.AttBwdRefIdeal.Read.val_main_v54_eq, e0, e1, e2, e3]
    exact ref_q f0 f1 f2 f3
  · rw [h52, Cert.AttBwdRefIdeal.Read.val_main_v52_eq, e0, e1, e2, e3]
    exact ref_k f0 f1 f2 f3
  · rw [h36, Cert.AttBwdRefIdeal.Read.val_main_v36_eq, e0, e1, e3]
    exact ref_v f0 f1 f3

/-- The reference ends with its arguments unchanged and no signal left. -/
theorem frame_ref : Cert.quiescent_AttBwdRefIdeal := fun m ρ _ =>
  (θ_run _ _ _).mono (fun r h => ⟨fun c => (h c).2.2.2, Cert.Quiet.sem_zero (by decide) r.2⟩) (Cert.AttBwdRefIdeal.Value.run (F := Ideal) m ρ)
end Cert.AttClaim
-- ==== Proof.AttFwdStep.lean ====
module
public import proofs.«01_k».proof.Proof.AttFwdRun
public import proofs.«01_k».proof.Proof.Soft
public import Idealize.ShloMosaic.Lib.Pointwise
@[expose] public section
set_option maxRecDepth 16384
noncomputable section
namespace Cert.AttFwdIdeal.Val
open Cert.AttFwdIdeal Cert.AttFwdIdeal.Gen Idealize.ShloMosaic Idealize.ShloMosaic.TcCoe Idealize.SL.Sem

theorem fold_real {α : Type} [DecidableEq α] (f : α → EReal) (hf : ∀ a, ∃ r : ℝ, f a = (r : EReal)) (s : Finset α) : s = ∅ ∨ ∃ r : ℝ, s.fold max ⊥ f = (r : EReal) := by
  induction s using Finset.induction_on with
  | empty => exact .inl rfl
  | insert a s ha ih =>
    right
    obtain ⟨x, hx⟩ := hf a
    rw [Finset.fold_insert ha, hx]
    rcases ih with rfl | ⟨r, hr⟩
    · exact ⟨x, by rw [Finset.fold_empty, max_bot_right]⟩
    · exact ⟨max x r, by rw [hr]; exact (EReal.coe_strictMono.monotone.map_max).symm⟩

/-- The new maximum, of a block of real scores and an old maximum that is real or minus infinity, is a real number. -/
theorem max_real (s : FVec Ideal S1024x2048 .f32) (m : FVec Ideal S1x2048 .f32) (r : Fin 2048) (hs : ∀ i, ∃ x : ℝ, s (ix2 i r) = (x : EReal)) (hm : m (ix2 0 r) = ⊥ ∨ ∃ x : ℝ, m (ix2 0 r) = (x : EReal)) :
    ∃ M : ℝ, k0_pay4 (F := Ideal) s m (ix2 0 r) = (M : EReal) := by
  have e : ∃ M : ℝ, multiReduction (F := Ideal) .maximumf [0] S2048 s 0xFF800000#32 reduces_S1024x2048_S2048 (.inl rfl) rfl (ix1 r) = (M : EReal) := by
    have hf : ∀ i : Fin 1024, ∃ x : ℝ, (s ∘ reduces_S1024x2048_S2048.lift (ix1 r)) i = (x : EReal) := fun i => by
      obtain ⟨x, hx⟩ := hs i
      refine ⟨x, Eq.trans (congrArg s ?_) hx⟩
      idx_ext
    refine ((fold_real _ hf Finset.univ).resolve_left (Finset.ne_empty_of_mem (Finset.mem_univ (⟨0, by decide⟩ : Fin 1024)))).imp fun M hM => ?_
    refine (Ideal.multiReduction_maximumf_single s _ reduces_S1024x2048_S2048 _ _ _).trans ?_
    rw [← hM]
    exact congrArg (fun z => Finset.fold max z _ _) Cert.Reals.ofBits_neg_inf
  obtain ⟨M, hM⟩ := e
  unfold k0_pay4
  generalize multiReduction (F := Ideal) .maximumf [0] S2048 s 0xFF800000#32 reduces_S1024x2048_S2048 (.inl rfl) rfl = y at hM ⊢
  have e2 : maximumf m (shapeCast S1x2048 y shapeCasts_S2048_S1x2048) (ix2 0 r) = max (m (ix2 0 r)) (y (ix1 r)) := by
    pointwise
  refine (exists_congr fun M => (by rw [show (maximumf m (shapeCast S1x2048 y shapeCasts_S2048_S1x2048) (ix2 0 r) : EReal) = max (m (ix2 0 r)) (y (ix1 r)) from e2])).mpr ?_
  rw [hM]
  rcases hm with h | ⟨x, h⟩
  · exact ⟨M, by rw [h, max_bot_left]⟩
  · exact ⟨max x M, by rw [h]; exact (EReal.coe_strictMono.monotone.map_max).symm⟩

theorem pay6_at (s : FVec Ideal S1024x2048 .f32) (m : FVec Ideal S1x2048 .f32) (i : Fin 1024) (r : Fin 2048) :
    k0_pay6 (F := Ideal) s m (ix2 i r) = Ideal.exp2 (s (ix2 i r) - k0_pay4 (F := Ideal) s m (ix2 0 r)) := by
  unfold k0_pay6
  generalize k0_pay4 (F := Ideal) s m = A
  pointwise
  rfl
theorem pay5_at (s : FVec Ideal S1024x2048 .f32) (m : FVec Ideal S1x2048 .f32) (r : Fin 2048) :
    k0_pay5 (F := Ideal) s m (ix2 0 r) = Ideal.exp2 (m (ix2 0 r) - k0_pay4 (F := Ideal) s m (ix2 0 r)) := by
  unfold k0_pay5
  generalize k0_pay4 (F := Ideal) s m = A
  pointwise
  rfl
theorem pay7_at (s : FVec Ideal S1024x2048 .f32) (m l : FVec Ideal S1x2048 .f32) (r : Fin 2048) :
    k0_pay7 (F := Ideal) s m l (ix2 0 r) = k0_pay5 (F := Ideal) s m (ix2 0 r) * l (ix2 0 r) + ∑ i : Fin 1024, k0_pay6 (F := Ideal) s m (ix2 i r) := by
  unfold k0_pay7
  generalize k0_pay5 (F := Ideal) s m = A
  generalize k0_pay6 (F := Ideal) s m = B
  pointwise
theorem pay9_at (A : FVec Ideal S1x2048 .f32) (B : FVec Ideal S1024x2048 .f32) (v : FVec Ideal S1024x128 .bf16) (a : FVec Ideal S128x2048 .f32) (d : Fin 128) (r : Fin 2048) :
    k0_pay9 (F := Ideal) A B (k0_pay8 v) a (ix2 d r) = A (ix2 0 r) * a (ix2 d r) + ∑ i : Fin 1024, (v (ix2 i d) : EReal) * B (ix2 i r) := by
  unfold k0_pay9 k0_pay8
  pointwise
theorem pay10_eq (A : FVec Ideal S1x2048 .f32) : k0_pay10 (F := Ideal) A = A := by
  funext j
  rw [eq_ix2 j]
  unfold k0_pay10
  pointwise

/-- The power of two. -/
def E (x : ℝ) : ℝ := Real.rpow 2 x
theorem E_mul (a b : ℝ) : E a * E b = E (a + b) := (Real.rpow_add (by norm_num) a b).symm

/-- What the running values are when the first `N` keys have been consumed, from the scores and the values: the sums of the powers, of scores less some real number. -/
def Inv (S : ℕ → Fin 2048 → ℝ) (V : ℕ → Fin 128 → ℝ) (N : ℕ) (m l : FVec Ideal S1x2048 .f32) (a : FVec Ideal S128x2048 .f32) : Prop :=
  ∀ r : Fin 2048, (N = 0 ∧ m (ix2 0 r) = ⊥ ∧ l (ix2 0 r) = 0 ∧ ∀ d, a (ix2 d r) = 0)
    ∨ ∃ M : ℝ, m (ix2 0 r) = (M : EReal) ∧ l (ix2 0 r) = ((∑ j ∈ Finset.range N, E (S j r - M) : ℝ) : EReal) ∧ ∀ d, a (ix2 d r) = ((∑ j ∈ Finset.range N, V j d * E (S j r - M) : ℝ) : EReal)

/-- Another block of keys. -/
theorem step_inv {S : ℕ → Fin 2048 → ℝ} {V : ℕ → Fin 128 → ℝ} {N : ℕ} {m l : FVec Ideal S1x2048 .f32} {a : FVec Ideal S128x2048 .f32} (h : Inv S V N m l a)
    (s : FVec Ideal S1024x2048 .f32) (v : FVec Ideal S1024x128 .bf16) (hs : ∀ i r, s (ix2 i r) = (S (N + i.val) r : EReal)) (hv : ∀ i d, v (ix2 i d) = (V (N + i.val) d : EReal)) :
    Inv S V (N + 1024) (k0_pay4 s m) (k0_pay7 s m l) (k0_pay9 (k0_pay5 s m) (k0_pay6 s m) (k0_pay8 v) a) := by
  intro r
  right
  obtain ⟨M, hM⟩ := max_real s m r (fun i => ⟨_, hs i r⟩) ((h r).imp (fun h => h.2.1) (fun ⟨M, h, _⟩ => ⟨M, h⟩))
  have p : ∀ i : Fin 1024, k0_pay6 (F := Ideal) s m (ix2 i r) = (E (S (N + i.val) r - M) : EReal) := fun i => by
    rw [pay6_at, hs, hM, ← EReal.coe_sub, Ideal.exp2_coe]
    rfl
  refine ⟨M, hM, ?_, fun d => ?_⟩
  · rw [pay7_at, pay5_at, hM, Finset.sum_range_add, EReal.coe_add, Finset.sum_range (n := 1024), Cert.Reals.coe_sum (s := Finset.univ (α := Fin 1024))]
    congr 1
    · rcases h r with ⟨rfl, _, h0, _⟩ | ⟨M0, hm, hl, _⟩
      · rw [h0, mul_zero]; simp
      · rw [hm, hl, ← EReal.coe_sub, Ideal.exp2_coe, ← EReal.coe_mul, Finset.mul_sum]
        refine congrArg _ (Finset.sum_congr rfl fun j _ => (E_mul _ _).trans (congrArg E (by ring)))
    · exact Finset.sum_congr rfl fun i _ => p i
  · rw [pay9_at, pay5_at, hM, Finset.sum_range_add, EReal.coe_add, Finset.sum_range (n := 1024), Cert.Reals.coe_sum (s := Finset.univ (α := Fin 1024))]
    congr 1
    · rcases h r with ⟨rfl, _, _, h0⟩ | ⟨M0, hm, _, ha⟩
      · rw [h0, mul_zero]; simp
      · rw [hm, ha, ← EReal.coe_sub, Ideal.exp2_coe, ← EReal.coe_mul, Finset.mul_sum]
        refine congrArg _ (Finset.sum_congr rfl fun j _ => ?_)
        rw [show E (S j r - M) = E (M0 - M) * E (S j r - M0) from ((E_mul _ _).trans (congrArg E (by ring))).symm]
        show E (M0 - M) * _ = _
        ring
    · exact Finset.sum_congr rfl fun i _ => by rw [hv, p, EReal.coe_mul]

end Cert.AttFwdIdeal.Val
end
-- ==== Proof.AttFwdSoft.lean ====
module
public import proofs.«01_k».proof.Proof.AttFwdStep
@[expose] public section
set_option maxRecDepth 16384
noncomputable section
namespace Cert.AttFwdIdeal.Val
open Cert.AttFwdIdeal Cert.AttFwdIdeal.Gen Idealize.ShloMosaic Idealize.ShloMosaic.TcCoe Idealize.SL.Sem

theorem off1_eq (k : Fin k0_t1_loop.trips) : k0_off1 k = ![2048 * k.val + 1024, 0] := by
  revert k; decide +kernel
theorem off2_eq (k : Fin k0_t1_loop.trips) : k0_off2 k = ![2048 * k.val, 0] := by
  revert k; decide +kernel
theorem off4_eq (k : Fin k0_t1_loop.trips) : k0_off4 k = ![2048 * k.val + 1024, 0] := by
  revert k; decide +kernel
theorem off3_eq (k : Fin k0_t1_loop.trips) : k.val + 1 < 4 → k0_off3 k = ![2048 * (k.val + 1), 0] := by
  revert k; decide +kernel

/-- A band of rows at a row. -/
theorem band_at {A B W : ℕ} {e : EltTy} (x : Vec Ideal (⟨2, ![A, B]⟩ : Shape) e) {off : Fin 2 → ℕ} {o : ℕ} (ho : off = ![o, 0])
    (inb : ∀ a : Fin 2, off a + (![W, B] : Fin 2 → ℕ) a ≤ (![A, B] : Fin 2 → ℕ) a) (i : Fin W) (y : Fin B) (j : Fin A) (hj : j.val = o + i.val) : band x off inb (ix2 i y) = x (ix2 j y) := by
  subst ho
  refine congrArg x ?_
  funext a
  fin_cases a
  · exact Fin.ext (by show o + 1 * i.val = j.val; omega)
  · exact Fin.ext (by show 0 + 1 * y.val = y.val; omega)

theorem pay3_at (a : FVec Ideal S1024x256 .bf16) (b : FVec Ideal S2048x256 .bf16) (i : Fin 1024) (r : Fin 2048) :
    k0_pay3 (F := Ideal) a b (ix2 i r) = ∑ e : Fin 256, (a (ix2 i e) : EReal) * b (ix2 r e) := by
  unfold k0_pay3
  pointwise
theorem pay1_at (a : FVec Ideal S128x2048 .f32) (l : FVec Ideal S1x2048 .f32) (r : Fin 2048) (d : Fin 128) :
    k0_pay1 (F := Ideal) a (k0_pay23 l) (ix2 r d) = a (ix2 d r) * Ideal.div 1 (l (ix2 0 r)) := by
  rw [← Ideal.ofBits_one_f32]
  unfold k0_pay1 k0_pay23
  pointwise
theorem pay2_at (l m : FVec Ideal S1x2048 .f32) (r : Fin 2048) :
    k0_pay2 (F := Ideal) l m (ix3 0 0 r) = m (ix2 0 r) + Ideal.log (l (ix2 0 r)) * (((Real.log 2)⁻¹ : ℝ) : EReal) := by
  unfold k0_pay2
  pointwise
  rfl

section
variable (x0 : Vec Ideal S2048x256 .bf16) (x1 : Vec Ideal S8192x256 .bf16) (x2 : Vec Ideal S8192x128 .bf16) (S : ℕ → Fin 2048 → ℝ) (V : ℕ → Fin 128 → ℝ)
  (hS : ∀ (j : Fin 8192) (r : Fin 2048), (∑ e : Fin 256, (x1 (ix2 j e) : EReal) * x0 (ix2 r e)) = (S j.val r : EReal)) (hV : ∀ (j : Fin 8192) (d : Fin 128), (x2 (ix2 j d) : EReal) = (V j.val d : EReal))

include hS in
/-- The scores of a block of keys. -/
theorem score_at {off : Fin 2 → ℕ} {o : ℕ} (ho : off = ![o, 0]) (hn : o + 1024 ≤ 8192) (inb : ∀ a : Fin 2, off a + (![1024, 256] : Fin 2 → ℕ) a ≤ (![8192, 256] : Fin 2 → ℕ) a) (i : Fin 1024) (r : Fin 2048) :
    k0_pay3 (F := Ideal) (band x1 off inb) x0 (ix2 i r) = (S (o + i.val) r : EReal) := by
  rw [pay3_at]
  refine Eq.trans (Finset.sum_congr rfl fun e _ => ?_) (hS ⟨o + i.val, by omega⟩ r)
  exact congrArg (fun z : EReal => z * (x0 (ix2 r e) : EReal)) (band_at x1 ho inb i e ⟨o + i.val, by omega⟩ rfl)

/-- What holds before a trip. -/
def Before (k : ℕ) (s : State Ideal) : Prop := Inv S V (2048 * k) s.1 s.2.1 s.2.2.1 ∧ (k < 4 → ∀ i r, s.2.2.2 (ix2 i r) = (S (2048 * k + i.val) r : EReal))

include hS in
theorem start_inv : Before S V 0 (start x0 x1) := by
  refine ⟨fun r => .inl ⟨rfl, ?_, ?_, fun d => ?_⟩, fun _ i r => ?_⟩
  · rw [← Cert.Reals.ofBits_neg_inf]
    show k0_pay15 (F := Ideal) (ix2 0 r) = _
    unfold k0_pay15
    pointwise
  · rw [← Ideal.ofBits_zero_f32]
    show k0_pay16 (F := Ideal) (ix2 0 r) = _
    unfold k0_pay16
    pointwise
  · rw [← Ideal.ofBits_zero_f32]
    show k0_pay17 (F := Ideal) (ix2 d r) = _
    unfold k0_pay17
    pointwise
  · exact score_at x0 x1 S hS rfl (by norm_num) _ i r

include hS hV in
theorem trip_inv (k : Fin k0_t1_loop.trips) (s : State Ideal) (h : Before S V k.val s) : Before S V (k.val + 1) (trip x0 x1 x2 k s) := by
  have hk : k.val < 4 := Nat.lt_of_lt_of_le k.isLt k0_t1_abs.2.1
  obtain ⟨h1, h2⟩ := h
  have hb := fun i r => score_at x0 x1 S hS (off1_eq k) (by omega) (k0_off1_inb k) i r
  have hi : ∀ i : Fin 1024, 2048 * k.val + 1024 + i.val < 8192 := fun i => by omega
  have e1 := step_inv h1 s.2.2.2 (band (F := Ideal) (e := .bf16) x2 (k0_off2 k) (k0_off2_inb k)) (h2 hk) fun i d => (band_at x2 (off2_eq k) _ i d ⟨2048 * k.val + i.val, by have := hi i; omega⟩ rfl).trans (hV _ d)
  rw [← pay10_eq (k0_pay4 s.2.2.2 s.1)] at e1
  have e2 := step_inv e1 (k0_pay3 (band x1 (k0_off1 k) (k0_off1_inb k)) x0) (band (F := Ideal) (e := .bf16) x2 (k0_off4 k) (k0_off4_inb k)) hb fun i d => (band_at x2 (off4_eq k) _ i d ⟨2048 * k.val + 1024 + i.val, hi i⟩ rfl).trans (hV _ d)
  refine ⟨?_, fun h4 i r => score_at x0 x1 S hS (off3_eq k h4) (by omega) (k0_off3_inb k) i r⟩
  rw [show 2048 * (k.val + 1) = 2048 * k.val + 1024 + 1024 by ring]
  rw [← pay10_eq (k0_pay4 _ (k0_pay10 (k0_pay4 s.2.2.2 s.1)))] at e2
  exact e2

include hS hV in
theorem iter_inv (n : ℕ) (hn : n ≤ k0_t1_loop.trips) : Before S V n (iter x0 x1 x2 (start x0 x1) n) := by
  induction n with
  | zero => exact start_inv x0 x1 S V hS
  | succ n ih => exact (iter_succ x0 x1 x2 (start x0 x1) ⟨n, by omega⟩) ▸ trip_inv x0 x1 x2 S V hS hV ⟨n, by omega⟩ _ (ih (by omega))

theorem sum_E_pos (M : ℝ) (r : Fin 2048) : 0 < ∑ j ∈ Finset.range 8192, E (S j r - M) :=
  Finset.sum_pos (fun j _ => Real.rpow_pos_of_pos (by norm_num) _) ⟨0, by simp⟩

include hS hV in
/-- What a query row ends with: the weighted values over the weights, and the logarithm of the weights' sum. -/
theorem final_at (r : Fin 2048) : ∃ M : ℝ,
    (∀ d, k0_pay1 (F := Ideal) (final x0 x1 x2).2.2.1 (k0_pay23 (final x0 x1 x2).2.1) (ix2 r d)
      = (((∑ j ∈ Finset.range 8192, V j d * E (S j r - M)) * (1 / ∑ j ∈ Finset.range 8192, E (S j r - M)) : ℝ) : EReal))
    ∧ k0_pay2 (F := Ideal) (final x0 x1 x2).2.1 (final x0 x1 x2).1 (ix3 0 0 r)
      = ((M + Real.log (∑ j ∈ Finset.range 8192, E (S j r - M)) * (Real.log 2)⁻¹ : ℝ) : EReal) := by
  have ht : k0_t1_loop.trips = 4 := by decide +kernel
  have h := (iter_inv x0 x1 x2 S V hS hV k0_t1_loop.trips le_rfl).1 r
  rcases h with ⟨h0, _⟩ | ⟨M, hm, hl, ha⟩
  · exact absurd h0 (by rw [ht]; norm_num)
  · rw [ht] at hl ha
    refine ⟨M, fun d => ?_, ?_⟩
    · rw [pay1_at]
      refine (congrArg₂ (fun a l => a * Ideal.div 1 l) (ha d) hl).trans ?_
      rw [Ideal.div_coe (ne_of_gt (sum_E_pos S M r)), one_mul, EReal.coe_mul]
    · rw [pay2_at]
      refine (congrArg₂ (fun a l => a + Ideal.log l * (((Real.log 2)⁻¹ : ℝ) : EReal)) hm hl).trans ?_
      rw [Ideal.log_coe, if_neg (not_le.mpr (sum_E_pos S M r)), EReal.coe_add, EReal.coe_mul]
end

section
variable (q k : Fin 8192 → Fin 4 → Fin 192 → ℝ) (v : Fin 8192 → Fin 4 → Fin 128 → ℝ)

/-- The sum of the exponentials of a query's scores. -/
def Z (h : Fin 4) (i : Fin 8192) : ℝ := ∑ j, Real.exp (Cert.Soft.sc q k h i j)

theorem E_p2 (M : ℝ) (h : Fin 4) (j i : Fin 8192) : E (Cert.Soft.s2 q k h j i - M) = Cert.Soft.p2 q k M h j i := by
  unfold E Cert.Soft.p2 Cert.Soft.lg
  rw [Real.rpow_eq_pow, Real.rpow_def_of_pos (by norm_num), mul_comm]

/-- The weighted values over the weights are the attention. -/
theorem att_eq (M : ℝ) (h : Fin 4) (i : Fin 8192) (d : Fin 128) :
    (∑ j, v j h d * Cert.Soft.p2 q k M h j i) * (1 / Cert.Soft.l2 q k M h i) = ∑ j, Cert.Soft.W q k h i j * v j h d := by
  rw [Finset.sum_mul]
  refine Finset.sum_congr rfl fun j _ => ?_
  rw [← Cert.Soft.p2_div q k M h j i]
  ring

/-- The logarithm to base two of the sum, from the sum of the exponentials less `M`. -/
theorem lse_eq (M : ℝ) (h : Fin 4) (i : Fin 8192) : M + Real.log (Cert.Soft.l2 q k M h i) * (Real.log 2)⁻¹ = Real.log (Z q k h i) * (1 / Cert.Soft.lg) := by
  have e : Cert.Soft.l2 q k M h i = Z q k h i * Real.exp (-(M * Cert.Soft.lg)) := by
    unfold Cert.Soft.l2 Z
    rw [Finset.sum_mul]
    refine Finset.sum_congr rfl fun j _ => ?_
    rw [Cert.Soft.p2_eq, sub_eq_add_neg, Real.exp_add]
  rw [e, Real.log_mul (ne_of_gt (show 0 < Z q k h i from Cert.Soft.sum_exp_pos _)) (Real.exp_ne_zero _), Real.log_exp]
  have := Cert.Soft.lg_ne
  show M + (_ + _) * (Cert.Soft.lg)⁻¹ = _
  field_simp
  ring
end

end Cert.AttFwdIdeal.Val
end
-- ==== Proof.AttFwdArr.lean ====
module
public import proofs.«01_k».proof.Proof.AttFwdSoft
public import proofs.«01_k».proof.Proof.AttFwdFrame
public import proofs.«01_k».proof.Proof.AttOut
@[expose] public section
set_option maxRecDepth 16384
noncomputable section
namespace Cert.AttFwdIdeal.Val
open Cert.AttFwdIdeal Cert.AttFwdIdeal.Gen Idealize.ShloMosaic Idealize.ShloMosaic.TcCoe Idealize.SL.Sem Cert.AttGrad
open Cert.AttBwdIdeal.Val (wide thin Qx Kx Vx Qx_at Kx_at Vx_at thinArr thinArr_at uncut_read sum_lanes)

/-- The head a grid point works on. -/
def hd (t : Fin cfg0.N) : Fin 4 := ⟨t.val / 4, by have h : t.val < 16 := t.isLt; omega⟩
/-- The row of the arrays that row `r` of its block of queries is. -/
def row (t : Fin cfg0.N) (r : Fin 2048) : Fin 8192 := ⟨t.val % 4 * 2048 + r.val, by omega⟩

theorem idx0 : ∀ t : Fin cfg0.N, win0_0.index t = ![t.val % 4, t.val / 4] := by decide +kernel
theorem idx1 : ∀ t : Fin cfg0.N, win0_1.index t = ![0, t.val / 4] := by decide +kernel
theorem idx2 : ∀ t : Fin cfg0.N, win0_2.index t = ![0, t.val / 4] := by decide +kernel
theorem idx3 : ∀ t : Fin cfg0.N, win0_3.index t = ![t.val % 4, t.val / 4] := by decide +kernel
theorem idx4 : ∀ t : Fin cfg0.N, win0_4.index t = ![t.val / 4, 0, t.val % 4] := by decide +kernel

theorem emb0 (t : Fin cfg0.N) (r : Fin 2048) (l : Fin 256) : (win0_0.blk t).view.emb (ix2 r l) = ix2 (row t r) (wide (hd t) l) := by
  unfold row wide hd
  blk_ext! [idx0]
theorem emb1 (t : Fin cfg0.N) (j : Fin 8192) (l : Fin 256) : (win0_1.blk t).view.emb (ix2 j l) = ix2 j (wide (hd t) l) := by
  unfold wide hd
  blk_ext! [idx1]
theorem emb2 (t : Fin cfg0.N) (j : Fin 8192) (l : Fin 128) : (win0_2.blk t).view.emb (ix2 j l) = ix2 j (thin (hd t) l) := by
  unfold thin hd
  blk_ext! [idx2]
theorem emb3 (t : Fin cfg0.N) (r : Fin 2048) (l : Fin 128) : (win0_3.blk t).view.emb (ix2 r l) = ix2 (row t r) (thin (hd t) l) := by
  unfold row thin hd
  blk_ext! [idx3]
theorem emb4 (t : Fin cfg0.N) (r : Fin 2048) : (win0_4.blk t).view.emb (ix3 0 0 r) = ix3 (hd t) 0 (row t r) := by
  unfold row hd
  blk_ext! [idx4]

variable (m : (ℓ : Loc nD τ sig) → Buf (Elt Ideal) ℓ) (c : Dev nD)
/-- The three arguments: queries, keys and values. -/
abbrev aq : FVec Ideal S8192x4x192 .f32 := m ((c.tc : Thread nD τ).loc main_arg0)
abbrev ak : FVec Ideal S8192x4x192 .f32 := m ((c.tc : Thread nD τ).loc main_arg1)
abbrev av : FVec Ideal S8192x4x128 .f32 := m ((c.tc : Thread nD τ).loc main_arg2)

/-- The arrays the grid finds: queries scaled and keys, both with each head's lanes filled up with zeros, and values. -/
theorem entry_q : (V m c main_v9 : FVec Ideal S8192x1024 .bf16) = Qx (aq m c) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_k : (V m c main_v11 : FVec Ideal S8192x1024 .bf16) = Kx (ak m c) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_v : (V m c main_v12 : FVec Ideal S8192x512 .bf16) = Vx (av m c) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl

/-- The blocks a grid point finds, of the arguments. -/
theorem blk_q (t : Fin cfg0.N) (r : Fin 2048) (l : Fin 256) : (iblk m c 0 t : S2048x256.Idx → EReal) (ix2 r l) = Qx (aq m c) (ix2 (row t r) (wide (hd t) l)) :=
  (congrArg (V m c main_v9 : FVec Ideal S8192x1024 .bf16) (emb0 t r l)).trans (congrFun (entry_q m c) _)
theorem blk_k (t : Fin cfg0.N) (j : Fin 8192) (l : Fin 256) : (iblk m c 1 t : S8192x256.Idx → EReal) (ix2 j l) = Kx (ak m c) (ix2 j (wide (hd t) l)) :=
  (congrArg (V m c main_v11 : FVec Ideal S8192x1024 .bf16) (emb1 t j l)).trans (congrFun (entry_k m c) _)
theorem blk_v (t : Fin cfg0.N) (j : Fin 8192) (l : Fin 128) : (iblk m c 2 t : S8192x128.Idx → EReal) (ix2 j l) = Vx (av m c) (ix2 j (thin (hd t) l)) :=
  (congrArg (V m c main_v12 : FVec Ideal S8192x512 .bf16) (emb2 t j l)).trans (congrFun (entry_v m c) _)

end Cert.AttFwdIdeal.Val
end
-- ==== Proof.AttFwdOut.lean ====
module
public import proofs.«01_k».proof.Proof.AttFwdArr
@[expose] public section
set_option maxRecDepth 16384
noncomputable section
namespace Cert.AttFwdIdeal.Val
open Cert.AttFwdIdeal Cert.AttFwdIdeal.Gen Idealize.ShloMosaic Idealize.ShloMosaic.TcCoe Idealize.SL.Sem Cert.AttGrad
open Cert.AttBwdIdeal.Val (wide thin Qx Kx Vx Qx_at Kx_at Vx_at thinArr thinArr_at uncut_read sum_lanes)

variable (m : (ℓ : Loc nD τ sig) → Buf (Elt Ideal) ℓ) (c : Dev nD)
section Values
variable {m c} {qr kr : Fin 8192 → Fin 4 → Fin 192 → ℝ} {vr : Fin 8192 → Fin 4 → Fin 128 → ℝ}
  (hqr : ∀ i h d, aq m c (ix3 i h d) = (qr i h d : EReal)) (hkr : ∀ i h d, ak m c (ix3 i h d) = (kr i h d : EReal))
  (hvr : ∀ i h d, av m c (ix3 i h d) = (vr i h d : EReal))

/-- A score in base two, of a grid point's key and query. -/
def S (qr kr : Fin 8192 → Fin 4 → Fin 192 → ℝ) (t : Fin cfg0.N) (j : ℕ) (r : Fin 2048) : ℝ :=
  if hj : j < 8192 then Cert.Soft.s2 qr kr (hd t) ⟨j, hj⟩ (row t r) else 0
/-- A value of a grid point's head. -/
def VV (vr : Fin 8192 → Fin 4 → Fin 128 → ℝ) (t : Fin cfg0.N) (j : ℕ) (d : Fin 128) : ℝ :=
  if hj : j < 8192 then vr ⟨j, hj⟩ (hd t) d else 0
theorem S_val (t : Fin cfg0.N) (j : Fin 8192) (r : Fin 2048) : S qr kr t j.val r = Cert.Soft.s2 qr kr (hd t) j (row t r) := dif_pos j.isLt
theorem VV_val (t : Fin cfg0.N) (j : Fin 8192) (d : Fin 128) : VV vr t j.val d = vr j (hd t) d := dif_pos j.isLt

include hqr hkr in
/-- The kernel's scores of a grid point. -/
theorem blk_score (t : Fin cfg0.N) (x0 : Vec Ideal S2048x256 .bf16) (x1 : Vec Ideal S8192x256 .bf16) (h0 : ∀ r l, x0 (ix2 r l) = Qx (aq m c) (ix2 (row t r) (wide (hd t) l)))
    (h1 : ∀ j l, x1 (ix2 j l) = Kx (ak m c) (ix2 j (wide (hd t) l))) (j : Fin 8192) (r : Fin 2048) :
    (∑ e : Fin 256, x1 (ix2 j e) * x0 (ix2 r e)) = (S qr kr t j.val r : EReal) := by
  rw [S_val]
  unfold Cert.Soft.s2
  rw [Cert.Reals.coe_sum, ← sum_lanes]
  refine Finset.sum_congr rfl fun d _ => ?_
  rw [h0, h1, Qx_at hqr, Kx_at hkr]
  split
  · rw [EReal.coe_mul (kr _ _ _), EReal.coe_mul (qr _ _ _)]
  · exact zero_mul _

include hqr hkr hvr
/-- The attention's block and the logarithms' block of a grid point. -/
theorem block_at (t : Fin cfg0.N) (r : Fin 2048) :
    (∀ d, outAt m c t (ix2 r d) = ((∑ j, Cert.Soft.W qr kr (hd t) (row t r) j * vr j (hd t) d : ℝ) : EReal))
    ∧ lseAt m c t (ix3 0 0 r) = ((Real.log (Z qr kr (hd t) (row t r)) * (1 / Cert.Soft.lg) : ℝ) : EReal) := by
  obtain ⟨M, ho, hl⟩ := final_at (iblk m c 0 t) (iblk m c 1 t) (iblk m c 2 t) (S qr kr t) (VV vr t)
    (blk_score hqr hkr t _ _ (blk_q m c t) (blk_k m c t)) (fun j d => (blk_v m c t j d).trans ((Vx_at hvr j (hd t) d).trans (congrArg _ (VV_val t j d).symm))) r
  have e : ∑ j ∈ Finset.range 8192, E (S qr kr t j r - M) = Cert.Soft.l2 qr kr M (hd t) (row t r) := by
    rw [Finset.sum_range]
    exact Finset.sum_congr rfl fun j _ => by rw [S_val, E_p2]
  unfold outAt lseAt finalAt
  refine ⟨fun d => (ho d).trans (congrArg Real.toEReal ?_), hl.trans (congrArg Real.toEReal ?_)⟩
  · rw [e, ← att_eq qr kr vr M, Finset.sum_range]
    refine congrArg (· * _) (Finset.sum_congr rfl fun j _ => ?_)
    rw [S_val, VV_val, E_p2]
  · rw [e, lse_eq]

omit hqr hkr hvr in
/-- An index of a block of one row of one row. -/
theorem one_one (y : S1x1x2048.Idx) : ∃ r : Fin 2048, y = ix3 0 0 r := by
  refine ⟨y 2, funext fun a => ?_⟩
  fin_cases a
  · exact Fin.ext (by have h : (y 0).val < 1 := (y 0).isLt; show (y 0).val = 0; omega)
  · exact Fin.ext (by have h : (y 1).val < 1 := (y 1).isLt; show (y 1).val = 0; omega)
  · rfl

omit hqr hkr hvr in
/-- The attention's array, of what its blocks hold. -/
theorem whole3 (G : Fin 8192 → Fin 4 → Fin 128 → EReal) (hG : ∀ t r d, outAt m c t (ix2 r d) = G (row t r) (hd t) d) : (kit m 0 c).arrAt 3 cfg0.N = thinArr G := by
  refine (kit m 0 c).arrAt_eq_of_covers 3 _ (by decide +kernel) fun t hf y => ?_
  obtain ⟨r, l, rfl⟩ : ∃ (r : Fin 2048) (l : Fin 128), y = ix2 r l := ⟨y 0, y 1, eq_ix2 y⟩
  rw [show (kit m 0 c).after 3 t = outAt m c t from by dsimp only [kit]]
  refine (hG t r l).trans ?_
  show _ = thinArr G ((win0_3.blk t).view.emb (ix2 r l))
  rw [emb3]
  exact (thinArr_at G _ _ _).symm
theorem arr3 : (kit m 0 c).arrAt 3 cfg0.N = thinArr fun i h d => ((∑ j, Cert.Soft.W qr kr h i j * vr j h d : ℝ) : EReal) :=
  whole3 _ fun t r d => (block_at hqr hkr hvr t r).1 d

omit hqr hkr hvr in
/-- The logarithms' array, of what its blocks hold. -/
theorem whole4 (G : Fin 4 → Fin 8192 → EReal) (hG : ∀ t r, lseAt m c t (ix3 0 0 r) = G (hd t) (row t r)) : (kit m 0 c).arrAt 4 cfg0.N = fun y : S4x1x8192.Idx => G (y 0) (y 2) := by
  refine (kit m 0 c).arrAt_eq_of_covers 4 _ (by decide +kernel) fun t hf y => ?_
  obtain ⟨r, rfl⟩ := one_one y
  rw [show (kit m 0 c).after 4 t = lseAt m c t from by dsimp only [kit]]
  refine (hG t r).trans ?_
  show _ = (fun y : S4x1x8192.Idx => G (y 0) (y 2)) ((win0_4.blk t).view.emb (ix3 0 0 r))
  rw [emb4]
  rfl
theorem arr4 : (kit m 0 c).arrAt 4 cfg0.N = fun y : S4x1x8192.Idx => ((Real.log (Z qr kr (y 0) (y 2)) * (1 / Cert.Soft.lg) : ℝ) : EReal) :=
  whole4 (fun h i => ((Real.log (Z qr kr h i) * (1 / Cert.Soft.lg) : ℝ) : EReal)) fun t r => (block_at hqr hkr hvr t r).2
end Values

/-- The arrays the pipeline leaves, as the lines after it find them. -/
def left : Valuation τ sig (Elt Ideal) := Pipeline.withArrays (cfgs 0).spec c (V0 m c) fun w => (kit m 0 c).arrAt w (cfgs 0).N
theorem inj : Function.Injective (Pipeline.arrRef spec0) := by decide
theorem left3 (hinj : Function.Injective (Pipeline.arrRef spec0)) : left m c (Proc.devRef .tc main_v13_0) = (kit m 0 c).arrAt 3 cfg0.N := Pipeline.withArrays_arr spec0 hinj c (V0 m c) (fun w => (kit m 0 c).arrAt w (cfgs 0).N) 3
theorem left4 (hinj : Function.Injective (Pipeline.arrRef spec0)) : left m c (Proc.devRef .tc main_v13_1) = (kit m 0 c).arrAt 4 cfg0.N := Pipeline.withArrays_arr spec0 hinj c (V0 m c) (fun w => (kit m 0 c).arrAt w (cfgs 0).N) 4

section Tail
variable (X : Valuation τ sig (Elt Ideal))
theorem tail_o : (StableHlo.after (hostOps1 (F := Ideal)) X (Proc.devRef .tc main_v14) : FVec Ideal S8192x4x128 .f32)
    = shapeCast S8192x4x128 (X (Proc.devRef .tc main_v13_0) : FVec Ideal S8192x512 .f32) shapeCasts_S8192x512_S8192x4x128 := by
  simp only [hostOps1]
  after_results_simp <;> rfl
theorem tail_l : (StableHlo.after (hostOps1 (F := Ideal)) X (Proc.devRef .tc main_v15) : FVec Ideal S4x8192 .f32)
    = shapeCast S4x8192 (X (Proc.devRef .tc main_v13_1) : FVec Ideal S4x1x8192 .f32) shapeCasts_S4x1x8192_S4x8192 := by
  simp only [hostOps1]
  after_results_simp <;> rfl
end Tail

/-- Dropping the middle axis of one entry. -/
theorem drop_read (x : FVec Ideal S4x1x8192 .f32) (h : Fin 4) (i : Fin 8192) : (shapeCast S4x8192 x shapeCasts_S4x1x8192_S4x8192 : FVec Ideal S4x8192 .f32) (ix2 h i) = x (ix3 h 0 i) := by
  pointwise

/-- The softmax attention, and the base-two logarithm of the sum of a query's exponentials, as arrays. -/
def att (q k : FVec Ideal ⟨3, ![8192, 4, 192]⟩ .f32) (v : FVec Ideal ⟨3, ![8192, 4, 128]⟩ .f32) : FVec Ideal ⟨3, ![8192, 4, 128]⟩ .f32 :=
  fun y => ((∑ j, Cert.Soft.W (re q) (re k) (y 1) (y 0) j * re v j (y 1) (y 2) : ℝ) : EReal)
def lse (q k : FVec Ideal ⟨3, ![8192, 4, 192]⟩ .f32) : FVec Ideal ⟨2, ![4, 8192]⟩ .f32 :=
  fun y => ((Real.log (Z (re q) (re k) (y 0) (y 1)) * (1 / Cert.Soft.lg) : ℝ) : EReal)

section Out
variable (hq : Fin3 (aq m c)) (hk : Fin3 (ak m c)) (hv : Fin3 (av m c))
include hq hk hv
theorem res_o : (StableHlo.after (hostOps1 (F := Ideal)) (left m c) (Proc.devRef .tc main_v14) : FVec Ideal S8192x4x128 .f32) = att (aq m c) (ak m c) (av m c) := by
  refine (tail_o (left m c)).trans ?_
  funext y
  obtain ⟨i, h, d, rfl⟩ : ∃ (i : Fin 8192) (h : Fin 4) (d : Fin 128), y = ix3 i h d := ⟨y 0, y 1, y 2, eq_ix3 y⟩
  refine (uncut_read _ i h d).trans ((congrFun ((left3 m c inj).trans (arr3 (re_at hq) (re_at hk) (re_at hv))) _).trans ?_)
  rw [thinArr_at]
  rfl
theorem res_l : (StableHlo.after (hostOps1 (F := Ideal)) (left m c) (Proc.devRef .tc main_v15) : FVec Ideal S4x8192 .f32) = lse (aq m c) (ak m c) := by
  refine (tail_l (left m c)).trans ?_
  funext y
  obtain ⟨h, i, rfl⟩ : ∃ (h : Fin 4) (i : Fin 8192), y = ix2 h i := ⟨y 0, y 1, eq_ix2 y⟩
  exact (drop_read _ h i).trans (congrFun ((left4 m c inj).trans (arr4 (re_at hq) (re_at hk) (re_at hv))) _)
end Out

/-- Every execution of the kernel ends with the attention and its logarithms in the results and the arguments unchanged,
    where the arguments are finite. -/
theorem run (ρ : Dev nD → PrngReg) (hf : ∀ c, Fin3 (aq m c) ∧ Fin3 (ak m c) ∧ Fin3 (av m c)) :
    θ_run defs (onTc (τ := τ) (main (F := Ideal))) ⟨m, fun _ => 0, ρ⟩ fun r => ∀ c : Dev nD,
      r.2.mem ((c.tc : Thread nD τ).loc main_v14) = att (aq m c) (ak m c) (av m c)
      ∧ r.2.mem ((c.tc : Thread nD τ).loc main_v15) = lse (aq m c) (ak m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h.1.1 c).2 main_v14 (Pipeline.mem_restRefs_of main_v14 (by decide) (by decide))).trans (res_o m c (hf c).1 (hf c).2.1 (hf c).2.2),
      ((h.1.1 c).2 main_v15 (Pipeline.mem_restRefs_of main_v15 (by decide) (by decide))).trans (res_l m c (hf c).1 (hf c).2.1 (hf c).2.2),
      h.2.1 c⟩)
    (θ_run_and (run_all m ρ) (frame_all m ρ))
end Cert.AttFwdIdeal.Val
end
-- ==== Proof.AttFwdRef.lean ====
module
public import proofs.«01_k».proof.Proof.AttFwdOut
public import proofs.«01_k».proof.Proof.Gen.AttFwdRefIdeal.Read
@[expose] public section
set_option maxRecDepth 16384
noncomputable section
namespace Cert.AttFwdRefIdeal.Val
open Cert.AttFwdRefIdeal Cert.AttFwdRefIdeal.Gen Cert.AttFwdRefIdeal.Read Idealize.ShloMosaic Idealize.ShloMosaic.TcCoe Idealize.SL.Sem Cert.AttGrad

/-- The constant by which the scores are divided: the natural logarithm of two. -/
theorem log_two : Ideal.log (FloatOps.ofBits (F := Ideal) .f32 0x40000000#32) = (Cert.Soft.lg : EReal) :=
  (congrArg Ideal.log Cert.Reals.ofBits_two).trans ((Ideal.log_coe _).trans (if_neg (by norm_num)))

variable {q k : FVec Ideal S8192x4x192 .f32} {v : FVec Ideal S8192x4x128 .f32}
  {qr kr : Fin 8192 → Fin 4 → Fin 192 → ℝ} {vr : Fin 8192 → Fin 4 → Fin 128 → ℝ}
  (hqr : ∀ i h d, q (ix3 i h d) = (qr i h d : EReal)) (hkr : ∀ i h d, k (ix3 i h d) = (kr i h d : EReal))
  (hvr : ∀ i h d, v (ix3 i h d) = (vr i h d : EReal))

include hqr hkr in
/-- The scores. -/
theorem sc_at (h : Fin 4) (i j : Fin 8192) : val_main_v2 (F := Ideal) q k (ix3 h i j) = (Cert.Soft.sc qr kr h i j : EReal) := by
  rw [val_main_v2_apply]
  show val_main_v0 (F := Ideal) q k (ix3 h i j) * val_main_v1 (F := Ideal) (ix3 h i j) = _
  rw [val_main_v0_apply, val_main_v1_apply, val_main_cst_apply]
  refine (congrArg₂ (· * ·) ?_ Cert.Reals.ofBits_scale).trans (EReal.coe_mul _ _).symm
  rw [Cert.Reals.coe_sum]
  refine Finset.sum_congr rfl fun d _ => ?_
  rw [show lidx_main_v0 (ix3 h i j) d = ix3 i h d by idx_ext, show ridx_main_v0 (ix3 h i j) d = ix3 j h d by idx_ext, hqr, hkr, EReal.coe_mul]
/-- The two computations of the scores are one. -/
theorem sc_same : val_main_v5 (F := Ideal) q k = val_main_v2 (F := Ideal) q k := rfl

include hqr hkr in
/-- The largest score of a query is a real. -/
theorem max_real (h : Fin 4) (i : Fin 8192) : ∃ M : ℝ, val_main_v8 (F := Ideal) q k (ix2 h i) = (M : EReal) := by
  have hx : ∀ y, ∃ r : ℝ, val_main_v5 (F := Ideal) q k y = (r : EReal) := by
    intro y
    obtain ⟨h, i, j, rfl⟩ : ∃ (h : Fin 4) (i j : Fin 8192), y = ix3 h i j := ⟨y 0, y 1, y 2, eq_ix3 y⟩
    exact ⟨_, sc_at hqr hkr h i j⟩
  rw [val_main_v8_apply]
  obtain ⟨M, e⟩ := Cert.Reals.reduce_max_last (val_main_v5 (F := Ideal) q k) hx (val_main_cst_1 (F := Ideal)) (fun y => (val_main_cst_1_apply y).trans Cert.Reals.ofBits_neg_inf) reducesTo_S4x8192x8192_S4x8192_d2 h_S_ 0 h i
  refine ⟨M, ?_⟩
  show max (val_main_v7 (F := Ideal) (ix2 h i)) (val_main_v6 (F := Ideal) q k (ix2 h i)) = _
  rw [val_main_v7_apply, val_main_cst_2_apply, show val_main_v6 (F := Ideal) q k (ix2 h i) = M from e]
  exact (congrArg (fun z => max z (M : EReal)) Cert.Reals.ofBits_neg_inf).trans (max_eq_right bot_le)

include hqr hkr in
/-- The softmax. -/
theorem w_at (h : Fin 4) (i j : Fin 8192) : val_main_v16 (F := Ideal) q k (ix3 h i j) = (Cert.Soft.W qr kr h i j : EReal) := by
  obtain ⟨M, hM⟩ := max_real hqr hkr h i
  have e12 : ∀ j, val_main_v12 (F := Ideal) q k (ix3 h i j) = (Real.exp (Cert.Soft.sc qr kr h i j - M) : EReal) := by
    intro j
    rw [val_main_v12_apply, val_main_v11_apply, val_main_v10_apply, val_main_v9_apply, sc_same, sc_at hqr hkr, show idx_main_v9 (idx_main_v10 (ix3 h i j)) = ix2 h i by idx_ext, hM]
    exact (congrArg Ideal.exp (EReal.coe_sub _ _).symm).trans (Ideal.exp_coe _)
  have e13 : val_main_v13 (F := Ideal) q k (ix2 h i) = ((∑ j, Real.exp (Cert.Soft.sc qr kr h i j - M) : ℝ) : EReal) := by
    rw [val_main_v13_apply, val_main_cst_3_apply, Cert.Reals.coe_sum]
    refine (congrArg₂ (· + ·) Ideal.ofBits_zero_f32 ?_).trans (zero_add _)
    refine Finset.sum_congr rfl fun j _ => ?_
    rw [show idx_main_v13 (ix2 h i) j = ix3 h i j by idx_ext, e12]
  rw [val_main_v16_apply, val_main_v15_apply, val_main_v14_apply, show idx_main_v14 (idx_main_v15 (ix3 h i j)) = ix2 h i by idx_ext, e12, e13]
  show Ideal.div _ _ = _
  rw [Ideal.div_coe (ne_of_gt (Cert.Soft.sum_exp_pos _)), ← EReal.coe_mul, ← Cert.Soft.W_shift qr kr M, mul_one_div]

include hqr hkr hvr in
/-- The attention. -/
theorem att_at (i : Fin 8192) (h : Fin 4) (d : Fin 128) : val_main_v18 (F := Ideal) q k v (ix3 i h d) = ((∑ j, Cert.Soft.W qr kr h i j * vr j h d : ℝ) : EReal) := by
  rw [val_main_v18_apply, val_main_v17_apply, Cert.Reals.coe_sum]
  refine Finset.sum_congr rfl fun j _ => ?_
  rw [show lidx_main_v17 (idx_main_v18 (ix3 i h d)) j = ix3 j h d by idx_ext, show ridx_main_v17 (idx_main_v18 (ix3 i h d)) j = ix3 h i j by idx_ext, w_at hqr hkr, hvr, ← EReal.coe_mul, mul_comm]

include hqr hkr in
/-- The logarithms. -/
theorem lse_at (h : Fin 4) (i : Fin 8192) : val_main_v24 (F := Ideal) q k (ix2 h i) = ((Real.log (Cert.AttFwdIdeal.Val.Z qr kr h i) * (1 / Cert.Soft.lg) : ℝ) : EReal) := by
  have e20 : val_main_v20 (F := Ideal) q k (ix2 h i) = (Cert.AttFwdIdeal.Val.Z qr kr h i : EReal) := by
    unfold Cert.AttFwdIdeal.Val.Z
    rw [val_main_v20_apply, val_main_cst_4_apply, Cert.Reals.coe_sum]
    refine (congrArg₂ (· + ·) Ideal.ofBits_zero_f32 ?_).trans (zero_add _)
    refine Finset.sum_congr rfl fun j _ => ?_
    rw [show idx_main_v20 (ix2 h i) j = ix3 h i j by idx_ext, val_main_v19_apply, sc_at hqr hkr]
    exact Ideal.exp_coe _
  rw [val_main_v24_apply, val_main_v23_apply, val_main_v22_apply, val_main_v21_apply, val_main_cst_5_apply, e20]
  rw [Ideal.hostUnary_log_def, Ideal.hostUnary_log_def, log_two]
  show Ideal.div _ _ = _
  rw [Ideal.log_coe, if_neg (not_le.mpr (show 0 < Cert.AttFwdIdeal.Val.Z qr kr h i from Cert.Soft.sum_exp_pos _)), Ideal.div_coe Cert.Soft.lg_ne, ← EReal.coe_mul]
end Cert.AttFwdRefIdeal.Val

namespace Cert.AttFwdClaim
open Idealize.ShloMosaic Idealize.ShloMosaic.TcCoe Idealize.SL.Sem Cert.AttGrad
variable {q k : FVec Ideal ⟨3, ![8192, 4, 192]⟩ .f32} {v : FVec Ideal ⟨3, ![8192, 4, 128]⟩ .f32} (hq : Fin3 q) (hk : Fin3 k)
include hq hk
/-- The reference's two results. -/
theorem ref_l : Cert.AttFwdRefIdeal.Read.val_main_v24 (F := Ideal) q k = Cert.AttFwdIdeal.Val.lse q k := by
  funext y
  obtain ⟨h, i, rfl⟩ : ∃ (h : Fin 4) (i : Fin 8192), y = ix2 h i := ⟨y 0, y 1, eq_ix2 y⟩
  exact Cert.AttFwdRefIdeal.Val.lse_at (re_at hq) (re_at hk) h i
theorem ref_o (hv : Fin3 v) : Cert.AttFwdRefIdeal.Read.val_main_v18 (F := Ideal) q k v = Cert.AttFwdIdeal.Val.att q k v := by
  funext y
  obtain ⟨i, h, d, rfl⟩ : ∃ (i : Fin 8192) (h : Fin 4) (d : Fin 128), y = ix3 i h d := ⟨y 0, y 1, y 2, eq_ix3 y⟩
  exact Cert.AttFwdRefIdeal.Val.att_at (re_at hq) (re_at hk) (re_at hv) i h d
end Cert.AttFwdClaim
end
-- ==== Proof.AttFwdClaim.lean ====
module
public import proofs.«01_k».proof.Defs
public import proofs.«01_k».proof.Proof.AttFwdRef
public import proofs.«01_k».proof.Proof.Gen.Pre_finite_qkv
public import proofs.«01_k».proof.Proof.Quiet
@[expose] public section
set_option maxRecDepth 16384
noncomputable section
namespace Cert.AttFwdClaim
open Idealize.ShloMosaic Idealize.ShloMosaic.TcCoe Idealize.SL.Sem Cert.AttGrad

/-- The precondition, read: arrays whose every entry passes the test are finite. -/
theorem finite_of (q k : FVec Ideal ⟨3, ![8192, 4, 192]⟩ .f32) (v : FVec Ideal ⟨3, ![8192, 4, 128]⟩ .f32)
    (h : (Cert.Pre_finite_qkv.fn (F := Ideal) q k v).1 = (fun _ => 1#1) ∧ (Cert.Pre_finite_qkv.fn (F := Ideal) q k v).2.1 = (fun _ => 1#1)
      ∧ (Cert.Pre_finite_qkv.fn (F := Ideal) q k v).2.2 = (fun _ => 1#1)) :
    Fin3 q ∧ Fin3 k ∧ Fin3 v :=
  ⟨fun i h' d => Cert.Reals.real_of_abs _ (congrFun h.1 (ix3 i h' d)), fun i h' d => Cert.Reals.real_of_abs _ (congrFun h.2.1 (ix3 i h' d)),
    fun i h' d => Cert.Reals.real_of_abs _ (congrFun h.2.2 (ix3 i h' d))⟩

/-- The kernel and the reference compute the same attention and the same logarithms, where the arguments are finite. -/
theorem algebraic : Cert.algebraic_AttFwdIdeal_AttFwdRefIdeal_pre_finite_qkv := by
  intro m ρ m' ρ' hpre hag
  have hf := fun c => finite_of _ _ _ (hpre c)
  refine ⟨_, _, Cert.AttFwdIdeal.Val.run m ρ hf, (θ_run _ _ _).mono (fun r h c => ?_) (Cert.AttFwdRefIdeal.Value.run m' ρ')⟩
  obtain ⟨ho, hl, ha⟩ := h c
  obtain ⟨e0, e1, e2⟩ := hag c
  obtain ⟨f0, f1, f2⟩ := hf c
  refine ⟨?_, ?_, ha⟩
  · rw [ho, Cert.AttFwdRefIdeal.Read.val_main_v18_eq, e0, e1, e2]
    exact ref_o f0 f1 f2
  · rw [hl, Cert.AttFwdRefIdeal.Read.val_main_v24_eq, e0, e1]
    exact ref_l f0 f1

/-- The reference ends with its arguments unchanged and no signal left. -/
theorem frame_ref : Cert.quiescent_AttFwdRefIdeal := fun m ρ _ =>
  (θ_run _ _ _).mono (fun r h => ⟨fun c => (h c).2.2, Cert.Quiet.sem_zero (by decide) r.2⟩) (Cert.AttFwdRefIdeal.Value.run (F := Ideal) m ρ)
end Cert.AttFwdClaim
end
-- ==== Proof.MidBody.lean ====
module
public import proofs.«01_k».proof.Proof.Gen.MidIdeal.Frame
public import Idealize.ShloMosaic.Lib.Pointwise
public import Idealize.ShloMosaic.Lib.Pipeline.ValueKit
public import Idealize.ShloMosaic.Lib.WritesUnit
public import proofs.«01_k».proof.Proof.Sums
@[expose] public section
set_option maxRecDepth 16384
noncomputable section
namespace Cert.MidIdeal.Val
open Cert.MidIdeal Cert.MidIdeal.Gen Idealize.ShloMosaic Idealize.ShloMosaic.TcCoe Idealize.SL.Sem

/-- Lane `e` of the eighth `k` of 1024 columns. -/
def oct (k : Fin 8) (e : Fin 128) : Fin 1024 := ⟨k.val * 128 + e.val, by omega⟩

theorem oct_inj {k i : Fin 8} {e z : Fin 128} (h : i.val * 128 + z.val = (oct k e).val) : i = k ∧ z = e := by
  have h' : i.val * 128 + z.val = k.val * 128 + e.val := h
  exact ⟨Fin.ext (by omega), Fin.ext (by omega)⟩

theorem cat_at (v : Fin 8 → FVec Ideal S512x128 .f32) (r : Fin 512) (k : Fin 8) (e : Fin 128) :
    k0_pay1 (F := Ideal) (v 0) (v 1) (v 2) (v 3) (v 4) (v 5) (v 6) (v 7) (ix2 r (oct k e)) = v k (ix2 r e) := by
  have fin (i : Fin 8) (z : Fin 128) (h : i.val * 128 + z.val = (oct k e).val) : v i (ix2 r z) = v k (ix2 r e) := by
    obtain ⟨rfl, rfl⟩ := oct_inj h
    rfl
  unfold k0_pay1
  revert fin
  generalize oct k e = y
  intro fin
  pointwise
  split
  · refine fin 0 _ ?_
    show 0 * 128 + (y.val) = y.val
    omega
  split
  · refine fin 1 _ ?_
    show 1 * 128 + (y.val - 128) = y.val
    omega
  split
  · refine fin 2 _ ?_
    show 2 * 128 + (y.val - 128 - 128) = y.val
    omega
  split
  · refine fin 3 _ ?_
    show 3 * 128 + (y.val - 128 - 128 - 128) = y.val
    omega
  split
  · refine fin 4 _ ?_
    show 4 * 128 + (y.val - 128 - 128 - 128 - 128) = y.val
    omega
  split
  · refine fin 5 _ ?_
    show 5 * 128 + (y.val - 128 - 128 - 128 - 128 - 128) = y.val
    omega
  split
  · refine fin 6 _ ?_
    show 6 * 128 + (y.val - 128 - 128 - 128 - 128 - 128 - 128) = y.val
    omega
  refine fin 7 _ ?_
  show 7 * 128 + (y.val - 128 - 128 - 128 - 128 - 128 - 128 - 128) = y.val
  omega

/-- The transposed rotary embedding of a row of 128 lanes, at a lane. -/
def rt (d : Fin 128 → EReal) (c s : EReal) (e : Fin 128) : EReal :=
  d e * c - (if e.val < 32 then 0 - d ⟨(e.val + 32) % 128, by omega⟩ else d ⟨(e.val + 96) % 128, by omega⟩) * s

theorem rope_at (c s d : FVec Ideal S512x128 .f32) (r : Fin 512) (e : Fin 128) :
    k0_pay9 (F := Ideal) c s d (ix2 r e) = rt (fun e => d (ix2 r e)) (c (ix2 r e)) (s (ix2 r e)) e * Ideal.ofBits .f32 0x3D93CD3A#32 := by
  unfold k0_pay9 k0_pay6 k0_pay7
  pointwise
  unfold rt
  have h1 : (⟨(e.val + 128 - 96) % 128, by omega⟩ : Fin 128) = ⟨(e.val + 32) % 128, by omega⟩ := Fin.ext (by show (e.val + 128 - 96) % 128 = (e.val + 32) % 128; omega)
  have h2 : (⟨(e.val + 128 - 32) % 128, by omega⟩ : Fin 128) = ⟨(e.val + 96) % 128, by omega⟩ := Fin.ext (by show (e.val + 128 - 32) % 128 = (e.val + 96) % 128; omega)
  rw [h1, h2]
  have h3 : IntOp.cmpi CmpIPredicate.slt (BitVec.ofNat 32 e.val) 32#32 = if e.val < 32 then 1#1 else 0#1 := by
    revert e; decide +kernel
  rw [h3]
  split <;> rfl
theorem p14 (c s d : FVec Ideal S512x128 .f32) : k0_pay14 (F := Ideal) (k0_pay6 c) (k0_pay7 s) d = k0_pay9 c s d := rfl
theorem p28 (c s d : FVec Ideal S512x128 .f32) : k0_pay28 (F := Ideal) (k0_pay6 c) (k0_pay7 s) d = k0_pay9 c s d := rfl
theorem p23 (c s d : FVec Ideal S512x128 .f32) : k0_pay23 (F := Ideal) (k0_pay7 s) (k0_pay19 d) (k0_pay20 (k0_pay6 c) d) k0_pay21 (k0_pay22 d) 32#32 = k0_pay9 c s d := rfl
theorem p13 (d : FVec Ideal S512x128 .f32) : k0_pay13 (F := Ideal) d = k0_pay8 d := rfl
theorem p18 (d : FVec Ideal S512x128 .f32) : k0_pay18 (F := Ideal) d = k0_pay8 d := rfl
theorem p27 (d : FVec Ideal S512x128 .f32) : k0_pay27 (F := Ideal) d = k0_pay8 d := rfl
theorem scale_at (d : FVec Ideal S512x128 .f32) (y) : k0_pay8 (F := Ideal) d y = d y * Ideal.ofBits .f32 0x3D93CD3A#32 := by
  unfold k0_pay8
  pointwise

/-- Lane `e` of head `h` among four heads of 128 lanes. -/
def quart (h : Fin 4) (e : Fin 128) : Fin 512 := ⟨h.val * 128 + e.val, by omega⟩

/-- The projected queries' gradient of a row, at one of the eight groups of columns: the queries' gradient times a scale, turned back by the
    rotary angles in the odd groups. -/
def U (x : Fin 1024 → EReal) (c s : Fin 128 → EReal) (k : Fin 8) (e : Fin 128) : EReal :=
  (if k.val % 2 = 0 then x (oct k e) else rt (fun e => x (oct k e)) (c e) (s e) e) * Ideal.ofBits .f32 0x3D93CD3A#32
/-- The projected keys' and values' gradient of a row, at one of the eight groups of columns. -/
def W (x : Fin 1024 → EReal) (v : Fin 512 → EReal) (k : Fin 8) (e : Fin 128) : EReal :=
  if k.val % 2 = 0 then x (oct k e) * Ideal.ofBits .f32 0x3F317218#32 else v (quart ⟨k.val / 2, by omega⟩ e)
/-- The gradient of the keys' shared rotary lanes of a row. -/
def R (x : Fin 1024 → EReal) (e : Fin 128) : EReal := (x (oct 1 e) + x (oct 3 e) + x (oct 5 e) + x (oct 7 e)) * Ideal.ofBits .f32 0x3F317218#32
/-- The first two over all columns. -/
def U8 (x : Fin 1024 → EReal) (c s : Fin 128 → EReal) (l : Fin 1024) : EReal := U x c s ⟨l.val / 128, by omega⟩ ⟨l.val % 128, by omega⟩
def W8 (x : Fin 1024 → EReal) (v : Fin 512 → EReal) (l : Fin 1024) : EReal := W x v ⟨l.val / 128, by omega⟩ ⟨l.val % 128, by omega⟩
theorem oct_of (l : Fin 1024) : oct ⟨l.val / 128, by omega⟩ ⟨l.val % 128, by omega⟩ = l := Fin.ext (by show l.val / 128 * 128 + l.val % 128 = l.val; omega)
/-- A row of a matrix. -/
def rw2 {m n : ℕ} (x : (⟨2, ![m, n]⟩ : Shape).Idx → EReal) (i : Fin m) : Fin n → EReal := fun l => x (ix2 i l)

/-- One of the eight groups of 128 columns, and one of the four. -/
def col8 (x : Vec Ideal S512x1024 .f32) (k : Fin 8) : FVec Ideal S512x128 .f32 := fun y => x (ix2 (y 0) (oct k (y 1)))
def col4 (x : Vec Ideal S512x512 .f32) (h : Fin 4) : FVec Ideal S512x128 .f32 := fun y => x (ix2 (y 0) (quart h (y 1)))

theorem ld8 (x : Vec Ideal S512x1024 .f32) (k : Fin 8) {o : ℕ} (inb) (ho : o = k.val * 128) : View.ld x (Rect.unit (s := S512x1024) ![0, o] S512x128.size inb) = col8 x k := by
  subst ho
  funext y
  obtain ⟨r, e, rfl⟩ : ∃ (r : Fin 512) (e : Fin 128), y = ix2 r e := ⟨y 0, y 1, eq_ix2 y⟩
  refine View.ld_unit_apply_of _ _ _ _ _ _ fun a => ?_
  match a with
  | 0 => exact (Nat.zero_add r.val).symm
  | 1 => rfl
theorem ld4 (x : Vec Ideal S512x512 .f32) (h : Fin 4) {o : ℕ} (inb) (ho : o = h.val * 128) : View.ld x (Rect.unit (s := S512x512) ![0, o] S512x128.size inb) = col4 x h := by
  subst ho
  funext y
  obtain ⟨r, e, rfl⟩ : ∃ (r : Fin 512) (e : Fin 128), y = ix2 r e := ⟨y 0, y 1, eq_ix2 y⟩
  refine View.ld_unit_apply_of _ _ _ _ _ _ fun a => ?_
  match a with
  | 0 => exact (Nat.zero_add r.val).symm
  | 1 => rfl
theorem zero2 (a : Fin 2) : (![0, 0] : Fin 2 → ℕ) a = 0 := by fin_cases a <;> rfl
theorem ld128 (x : Vec Ideal S512x128 .f32) : View.ld x r0_0 = x := by
  funext y
  exact View.ld_unit_apply_of _ _ _ _ _ _ fun a => by rw [zero2]; exact (Nat.zero_add _).symm
theorem l1 (x : Vec Ideal S512x1024 .f32) : View.ld x r0_1 = col8 x 0 := ld8 x 0 _ rfl
theorem l2 (x : Vec Ideal S512x1024 .f32) : View.ld x r0_2 = col8 x 1 := ld8 x 1 _ rfl
theorem l4 (x : Vec Ideal S512x1024 .f32) : View.ld x r0_4 = col8 x 2 := ld8 x 2 _ rfl
theorem l5 (x : Vec Ideal S512x1024 .f32) : View.ld x r0_5 = col8 x 3 := ld8 x 3 _ rfl
theorem l7 (x : Vec Ideal S512x1024 .f32) : View.ld x r0_7 = col8 x 4 := ld8 x 4 _ rfl
theorem l8 (x : Vec Ideal S512x1024 .f32) : View.ld x r0_8 = col8 x 5 := ld8 x 5 _ rfl
theorem l10 (x : Vec Ideal S512x1024 .f32) : View.ld x r0_10 = col8 x 6 := ld8 x 6 _ rfl
theorem l11 (x : Vec Ideal S512x1024 .f32) : View.ld x r0_11 = col8 x 7 := ld8 x 7 _ rfl
theorem l3 (x : Vec Ideal S512x512 .f32) : View.ld x r0_3 = col4 x 0 := ld4 x 0 _ rfl
theorem l6 (x : Vec Ideal S512x512 .f32) : View.ld x r0_6 = col4 x 1 := ld4 x 1 _ rfl
theorem l9 (x : Vec Ideal S512x512 .f32) : View.ld x r0_9 = col4 x 2 := ld4 x 2 _ rfl
theorem l12 (x : Vec Ideal S512x512 .f32) : View.ld x r0_12 = col4 x 3 := ld4 x 3 _ rfl

section Blocks
variable (x0 x1 : Vec Ideal S512x1024 .f32) (x2 : Vec Ideal S512x512 .f32) (x3 x4 : Vec Ideal S512x128 .f32) (x5 : Vec Ideal S384x1024 .bf16) (x6 : Vec Ideal S256x1024 .bf16) (r : Fin 512)

/-- The eight groups of columns of the two gradients the kernel writes first. -/
def uu (k : Fin 8) : FVec Ideal S512x128 .f32 := if k.val % 2 = 0 then k0_pay8 (col8 x0 k) else k0_pay9 x3 x4 (col8 x0 k)
def ww (k : Fin 8) : FVec Ideal S512x128 .f32 := if k.val % 2 = 0 then k0_pay10 (col8 x1 k) else k0_pay16 (col4 x2 ⟨k.val / 2, by omega⟩)

theorem uu_at (k : Fin 8) (e : Fin 128) : uu x0 x3 x4 k (ix2 r e) = U (rw2 x0 r) (rw2 x3 r) (rw2 x4 r) k e := by
  unfold uu U
  split
  · exact scale_at _ _
  · exact rope_at _ _ _ r e
theorem ww_at (k : Fin 8) (e : Fin 128) : ww x1 x2 k (ix2 r e) = W (rw2 x1 r) (rw2 x2 r) k e := by
  unfold ww W
  split
  · unfold k0_pay10
    pointwise
    rfl
  · unfold k0_pay16
    pointwise
    rfl

theorem all_u : k0_pay1 (k0_pay32 x0 x1 x2 x3 x4 x5 x6) (k0_pay33 x0 x1 x2 x3 x4 x5 x6) (k0_pay36 x0 x1 x2 x3 x4 x5 x6) (k0_pay37 x0 x1 x2 x3 x4 x5 x6) (k0_pay40 x0 x1 x2 x3 x4 x5 x6) (k0_pay41 x0 x1 x2 x3 x4 x5 x6) (k0_pay44 x0 x1 x2 x3 x4 x5 x6) (k0_pay45 x0 x1 x2 x3 x4 x5 x6)
    = k0_pay1 (uu x0 x3 x4 0) (uu x0 x3 x4 1) (uu x0 x3 x4 2) (uu x0 x3 x4 3) (uu x0 x3 x4 4) (uu x0 x3 x4 5) (uu x0 x3 x4 6) (uu x0 x3 x4 7) := by
  unfold k0_pay32 k0_pay33 k0_pay36 k0_pay37 k0_pay40 k0_pay41 k0_pay44 k0_pay45 k0_pay30 k0_pay31
  rw [ld128 x3, ld128 x4, l1, l2, l4, l5, l7, l8, l10, l11]
  rw [p14, p28, p23, p13, p18, p27]
  rfl
theorem all_w : k0_pay2 (k0_pay34 x0 x1 x2 x3 x4 x5 x6) (k0_pay35 x0 x1 x2 x3 x4 x5 x6) (k0_pay38 x0 x1 x2 x3 x4 x5 x6) (k0_pay39 x0 x1 x2 x3 x4 x5 x6) (k0_pay42 x0 x1 x2 x3 x4 x5 x6) (k0_pay43 x0 x1 x2 x3 x4 x5 x6) (k0_pay46 x0 x1 x2 x3 x4 x5 x6) (View.ld x2 r0_12)
    = k0_pay1 (ww x1 x2 0) (ww x1 x2 1) (ww x1 x2 2) (ww x1 x2 3) (ww x1 x2 4) (ww x1 x2 5) (ww x1 x2 6) (ww x1 x2 7) := by
  unfold k0_pay34 k0_pay35 k0_pay38 k0_pay39 k0_pay42 k0_pay43 k0_pay46
  rw [l1, l4, l7, l10, l3, l6, l9, l12]
  rfl

theorem out7_at (l : Fin 1024) : out0_7 x0 x1 x2 x3 x4 x5 x6 (ix2 r l) = U8 (rw2 x0 r) (rw2 x3 r) (rw2 x4 r) l := by
  frame_out
  rw [all_u, ← oct_of l]
  refine (cat_at (uu x0 x3 x4) r _ _).trans ((uu_at x0 x3 x4 r _ _).trans ?_)
  rw [oct_of]
  rfl
theorem out8_at (l : Fin 1024) : out0_8 x0 x1 x2 x3 x4 x5 x6 (ix2 r l) = W8 (rw2 x1 r) (rw2 x2 r) l := by
  frame_out
  rw [all_w, ← oct_of l]
  refine (cat_at (ww x1 x2) r _ _).trans ((ww_at x1 x2 r _ _).trans ?_)
  rw [oct_of]
  rfl
theorem out9_at (n : Fin 384) : out0_9 x0 x1 x2 x3 x4 x5 x6 (ix2 r n) = ∑ l : Fin 1024, out0_7 x0 x1 x2 x3 x4 x5 x6 (ix2 r l) * x5 (ix2 n l) := by
  have h : ∀ l : Fin 1024, out0_7 x0 x1 x2 x3 x4 x5 x6 (ix2 r l) = k0_pay1 (k0_pay32 x0 x1 x2 x3 x4 x5 x6) (k0_pay33 x0 x1 x2 x3 x4 x5 x6) (k0_pay36 x0 x1 x2 x3 x4 x5 x6) (k0_pay37 x0 x1 x2 x3 x4 x5 x6) (k0_pay40 x0 x1 x2 x3 x4 x5 x6) (k0_pay41 x0 x1 x2 x3 x4 x5 x6) (k0_pay44 x0 x1 x2 x3 x4 x5 x6) (k0_pay45 x0 x1 x2 x3 x4 x5 x6) (ix2 r l) := by
    intro l
    frame_out
  simp only [h]
  frame_out
  unfold k0_pay3
  generalize k0_pay1 (k0_pay32 x0 x1 x2 x3 x4 x5 x6) (k0_pay33 x0 x1 x2 x3 x4 x5 x6) (k0_pay36 x0 x1 x2 x3 x4 x5 x6) (k0_pay37 x0 x1 x2 x3 x4 x5 x6) (k0_pay40 x0 x1 x2 x3 x4 x5 x6) (k0_pay41 x0 x1 x2 x3 x4 x5 x6) (k0_pay44 x0 x1 x2 x3 x4 x5 x6) (k0_pay45 x0 x1 x2 x3 x4 x5 x6) = A
  pointwise
theorem out10_at (n : Fin 256) : out0_10 x0 x1 x2 x3 x4 x5 x6 (ix2 r n) = ∑ l : Fin 1024, out0_8 x0 x1 x2 x3 x4 x5 x6 (ix2 r l) * x6 (ix2 n l) := by
  have h : ∀ l : Fin 1024, out0_8 x0 x1 x2 x3 x4 x5 x6 (ix2 r l) = k0_pay2 (k0_pay34 x0 x1 x2 x3 x4 x5 x6) (k0_pay35 x0 x1 x2 x3 x4 x5 x6) (k0_pay38 x0 x1 x2 x3 x4 x5 x6) (k0_pay39 x0 x1 x2 x3 x4 x5 x6) (k0_pay42 x0 x1 x2 x3 x4 x5 x6) (k0_pay43 x0 x1 x2 x3 x4 x5 x6) (k0_pay46 x0 x1 x2 x3 x4 x5 x6) (View.ld x2 r0_12) (ix2 r l) := by
    intro l
    frame_out
  simp only [h]
  frame_out
  unfold k0_pay4
  generalize k0_pay2 (k0_pay34 x0 x1 x2 x3 x4 x5 x6) (k0_pay35 x0 x1 x2 x3 x4 x5 x6) (k0_pay38 x0 x1 x2 x3 x4 x5 x6) (k0_pay39 x0 x1 x2 x3 x4 x5 x6) (k0_pay42 x0 x1 x2 x3 x4 x5 x6) (k0_pay43 x0 x1 x2 x3 x4 x5 x6) (k0_pay46 x0 x1 x2 x3 x4 x5 x6) (View.ld x2 r0_12) = A
  pointwise
theorem out11_at (e : Fin 128) : out0_11 x0 x1 x2 x3 x4 x5 x6 (ix2 r e)
    = R (rw2 x1 r) e := by
  frame_out
  rw [l2, l5, l8, l11]
  unfold k0_pay5 k0_pay26 k0_pay17 k0_pay12
  pointwise
  rfl
end Blocks
end Cert.MidIdeal.Val
-- ==== Proof.MidMath.lean ====
module
public import proofs.«01_k».proof.Proof.MidBody
public import proofs.«01_k».proof.Proof.Reals
@[expose] public section
set_option maxRecDepth 16384
noncomputable section
namespace Cert.MidGrad
open Idealize.ShloMosaic Cert.MidIdeal.Val

/-- The gradient of a row of projected queries: the queries' gradient, its last 64 lanes turned back by the rotary angles. -/
def gq (q : Fin 4 → Fin 192 → EReal) (c s : Fin 32 → EReal) (h : Fin 4) (d : Fin 192) : EReal :=
  if d.val < 128 then q h d
  else if hd : d.val < 160 then q h d * c ⟨d.val - 128, by omega⟩ + q h ⟨d.val + 32, by omega⟩ * s ⟨d.val - 128, by omega⟩
  else q h d * c ⟨d.val - 160, by omega⟩ + -q h ⟨d.val - 32, by omega⟩ * s ⟨d.val - 160, by omega⟩
/-- The gradient of a row of projected keys and values. -/
def gkv (k : Fin 4 → Fin 192 → EReal) (v : Fin 4 → Fin 128 → EReal) (h : Fin 4) (d : Fin 256) : EReal :=
  if hd : d.val < 128 then k h ⟨d.val, by omega⟩ else v h ⟨d.val - 128, by omega⟩
/-- The gradient of a row of the keys' rotary lanes, which the heads share. -/
def gkr (k : Fin 4 → Fin 192 → EReal) (e : Fin 64) : EReal := ∑ h : Fin 4, k h ⟨128 + e.val, by omega⟩

/-- The logarithm of two as the kernel rounds it. -/
def ln2 : ℝ := 11629080 / 16777216
theorem ofBits_ln2 : Ideal.ofBits .f32 0x3F317218#32 = ((ln2 : ℝ) : EReal) := by
  unfold ln2
  simp [Ideal.ofBits, Ideal.ieee, -EReal.coe_mul]; norm_num
theorem ln2_pos : 0 < ln2 := by unfold ln2; norm_num
theorem scale_pos : 0 < Cert.Reals.scale := by unfold Cert.Reals.scale; norm_num

theorem cancel {c : ℝ} (hc : 0 < c) (x : EReal) : Ideal.div x (c : EReal) * (c : EReal) = x := by
  rw [Ideal.div_coe (ne_of_gt hc), mul_assoc, ← EReal.coe_mul, one_div_mul_cancel (ne_of_gt hc), EReal.coe_one, mul_one]
theorem distrib {c : ℝ} (hc : 0 < c) (x y : EReal) : (x + y) * (c : EReal) = x * c + y * c :=
  EReal.right_distrib_of_nonneg_of_ne_top (EReal.coe_nonneg.mpr hc.le) (EReal.coe_ne_top c) x y

/-- Lane `d` of head `h` among four heads of 256 lanes. -/
def wide (h : Fin 4) (d : Fin 256) : Fin 1024 := ⟨h.val * 256 + d.val, by omega⟩
/-- A lane below 192 among 256, and one below 64 among 128. -/
def up (d : Fin 192) : Fin 256 := ⟨d.val, by omega⟩
def low (e : Fin 64) : Fin 128 := ⟨e.val, by omega⟩
theorem wide_even (h : Fin 4) (e : Fin 128) : oct ⟨2 * h.val, by omega⟩ e = wide h ⟨e.val, by omega⟩ := Fin.ext (by show 2 * h.val * 128 + e.val = h.val * 256 + e.val; omega)
theorem wide_odd (h : Fin 4) (e : Fin 128) : oct ⟨2 * h.val + 1, by omega⟩ e = wide h ⟨128 + e.val, by omega⟩ := Fin.ext (by show (2 * h.val + 1) * 128 + e.val = h.val * 256 + (128 + e.val); omega)

/-- A table of 32 angles, twice, then zeros. -/
def twice (c : Fin 32 → EReal) (e : Fin 128) : EReal := if he : e.val < 32 then c ⟨e.val, he⟩ else if he : e.val < 64 then c ⟨e.val - 32, by omega⟩ else 0

section Rows
variable {x y : Fin 1024 → EReal} {w : Fin 512 → EReal} {tc ts : Fin 128 → EReal} {q k : Fin 4 → Fin 192 → EReal} {v : Fin 4 → Fin 128 → EReal} {c s : Fin 32 → EReal}
  (hx : ∀ h d, x (wide h d) = if hd : d.val < 192 then Ideal.div (q h ⟨d.val, hd⟩) (Cert.Reals.scale : EReal) else 0)
  (hy : ∀ h d, y (wide h d) = if hd : d.val < 192 then Ideal.div (k h ⟨d.val, hd⟩) (ln2 : EReal) else 0)
  (hw : ∀ h e, w (quart h e) = v h e)
  (hc : ∀ e, tc e = twice c e) (hs : ∀ e, ts e = twice s e)
include hx hc hs in
/-- The kernel's row of projected queries' gradients. -/
theorem row_q (h : Fin 4) (d : Fin 192) : U8 x tc ts (wide h (up d)) = gq q c s h d := by
  unfold gq
  by_cases h1 : d.val < 128
  · rw [if_pos h1]
    have e1 : U8 x tc ts (wide h (up d)) = U x tc ts ⟨2 * h.val, by omega⟩ ⟨d.val, h1⟩ := by
      unfold U8
      congr 1
      · exact Fin.ext (by show (h.val * 256 + d.val) / 128 = 2 * h.val; omega)
      · exact Fin.ext (by show (h.val * 256 + d.val) % 128 = d.val; omega)
    rw [e1]
    unfold U
    rw [if_pos (by show 2 * h.val % 2 = 0; omega), wide_even, hx, dif_pos (show (⟨d.val, by omega⟩ : Fin 256).val < 192 from d.isLt), Cert.Reals.ofBits_scale]
    exact cancel scale_pos _
  · rw [if_neg h1]
    obtain ⟨e, he⟩ : ∃ e : Fin 128, d.val = 128 + e.val := ⟨⟨d.val - 128, by omega⟩, by show d.val = 128 + (d.val - 128); omega⟩
    have h64 : e.val < 64 := by omega
    have e1 : U8 x tc ts (wide h (up d)) = U x tc ts ⟨2 * h.val + 1, by omega⟩ e := by
      unfold U8
      congr 1
      · exact Fin.ext (by show (h.val * 256 + d.val) / 128 = 2 * h.val + 1; omega)
      · exact Fin.ext (by show (h.val * 256 + d.val) % 128 = e.val; omega)
    have lane : ∀ z : Fin 128, (hz : z.val < 64) → x (oct ⟨2 * h.val + 1, by omega⟩ z) = Ideal.div (q h ⟨128 + z.val, by omega⟩) (Cert.Reals.scale : EReal) := fun z hz => by
      rw [wide_odd, hx, dif_pos (show 128 + z.val < 192 by omega)]
    rw [e1]
    unfold U rt
    rw [if_neg (by show ¬ (2 * h.val + 1) % 2 = 0; omega), Cert.Reals.ofBits_scale]
    beta_reduce
    rw [lane e h64, hc, hs]
    unfold twice
    have hd : (⟨128 + e.val, by omega⟩ : Fin 192) = d := Fin.ext he.symm
    by_cases h2 : e.val < 32
    · rw [dif_pos h2, dif_pos h2, if_pos h2, dif_pos (by omega), lane ⟨(e.val + 32) % 128, by omega⟩ (by show (e.val + 32) % 128 < 64; omega), hd]
      have e2 : (⟨128 + (e.val + 32) % 128, by omega⟩ : Fin 192) = ⟨d.val + 32, by omega⟩ := Fin.ext (by show 128 + (e.val + 32) % 128 = d.val + 32; omega)
      have e3 : (⟨d.val - 128, by omega⟩ : Fin 32) = ⟨e.val, h2⟩ := Fin.ext (by show d.val - 128 = e.val; omega)
      rw [e2, e3, zero_sub, EReal.neg_mul, sub_eq_add_neg, neg_neg, distrib scale_pos, mul_right_comm, cancel scale_pos, mul_right_comm, cancel scale_pos]
    · rw [dif_neg h2, dif_neg h2, dif_pos h64, dif_pos h64, if_neg h2, dif_neg (by omega), lane ⟨(e.val + 96) % 128, by omega⟩ (by show (e.val + 96) % 128 < 64; omega), hd]
      have e2 : (⟨128 + (e.val + 96) % 128, by omega⟩ : Fin 192) = ⟨d.val - 32, by omega⟩ := Fin.ext (by show 128 + (e.val + 96) % 128 = d.val - 32; omega)
      have e3 : (⟨d.val - 160, by omega⟩ : Fin 32) = ⟨e.val - 32, by omega⟩ := Fin.ext (by show d.val - 160 = e.val - 32; omega)
      rw [e2, e3, sub_eq_add_neg, distrib scale_pos, mul_right_comm, cancel scale_pos, EReal.neg_mul, mul_right_comm, cancel scale_pos, EReal.neg_mul]
include hy hw in
/-- The kernel's row of projected keys' and values' gradients. -/
theorem row_kv (h : Fin 4) (d : Fin 256) : W8 y w (wide h d) = gkv k v h d := by
  unfold gkv
  by_cases h1 : d.val < 128
  · rw [dif_pos h1]
    have e1 : W8 y w (wide h d) = W y w ⟨2 * h.val, by omega⟩ ⟨d.val, h1⟩ := by
      unfold W8
      congr 1
      · exact Fin.ext (by show (h.val * 256 + d.val) / 128 = 2 * h.val; omega)
      · exact Fin.ext (by show (h.val * 256 + d.val) % 128 = d.val; omega)
    rw [e1]
    unfold W
    rw [if_pos (by show 2 * h.val % 2 = 0; omega), wide_even, hy, dif_pos (show d.val < 192 by omega), ofBits_ln2]
    exact cancel ln2_pos _
  · rw [dif_neg h1]
    have e1 : W8 y w (wide h d) = W y w ⟨2 * h.val + 1, by omega⟩ ⟨d.val - 128, by omega⟩ := by
      unfold W8
      congr 1
      · exact Fin.ext (by show (h.val * 256 + d.val) / 128 = 2 * h.val + 1; omega)
      · exact Fin.ext (by show (h.val * 256 + d.val) % 128 = d.val - 128; omega)
    rw [e1]
    unfold W
    rw [if_neg (by show ¬ (2 * h.val + 1) % 2 = 0; omega)]
    have e2 : (⟨(2 * h.val + 1) / 2, by omega⟩ : Fin 4) = h := Fin.ext (by show (2 * h.val + 1) / 2 = h.val; omega)
    exact (congrArg (fun z => w (quart z _)) e2).trans (hw h _)
include hy in
/-- The kernel's row of gradients of the rotary lanes. -/
theorem row_r (e : Fin 64) : R y (low e) = gkr k e := by
  have lane : ∀ h : Fin 4, y (oct ⟨2 * h.val + 1, by omega⟩ (low e)) = Ideal.div (k h ⟨128 + e.val, by omega⟩) (ln2 : EReal) := fun h => by
    rw [wide_odd, hy, dif_pos (show 128 + (low e).val < 192 by show 128 + e.val < 192; omega)]
    rfl
  unfold R gkr
  rw [ofBits_ln2, distrib ln2_pos, distrib ln2_pos, distrib ln2_pos, Fin.sum_univ_four]
  refine congrArg₂ (· + ·) (congrArg₂ (· + ·) (congrArg₂ (· + ·) ?_ ?_) ?_) ?_
  · exact (congrArg (· * (ln2 : EReal)) (lane 0)).trans (cancel ln2_pos _)
  · exact (congrArg (· * (ln2 : EReal)) (lane 1)).trans (cancel ln2_pos _)
  · exact (congrArg (· * (ln2 : EReal)) (lane 2)).trans (cancel ln2_pos _)
  · exact (congrArg (· * (ln2 : EReal)) (lane 3)).trans (cancel ln2_pos _)
end Rows

/-- A sum over `A` groups of `B` terms, by group. -/
theorem sum_groups {A B N : ℕ} (hN : A * B = N) (f : Fin N → EReal) (g : Fin A → Fin B → Fin N) (hg : ∀ a b, (g a b).val = a.val * B + b.val) :
    ∑ j : Fin N, f j = ∑ a : Fin A, ∑ b : Fin B, f (g a b) := by
  rw [← Cert.Sums.sum_blocks hN f, Finset.sum_range]
  refine Finset.sum_congr rfl fun a _ => Finset.sum_congr rfl fun b _ => ?_
  have hlt : a.val * B + b.val < N := hg a b ▸ (g a b).isLt
  rw [Cert.Sums.ext0_of_lt f hlt]
  exact congrArg f (Fin.ext (hg a b).symm)

/-- A sum over 256 terms whose last 64 vanish. -/
theorem sum_cut (f : Fin 256 → EReal) (h0 : ∀ d : Fin 256, 192 ≤ d.val → f d = 0) : ∑ d : Fin 256, f d = ∑ d : Fin 192, f (up d) := by
  refine (Fin.sum_univ_add (a := 192) (b := 64) f).trans ?_
  rw [Finset.sum_eq_zero (s := (Finset.univ : Finset (Fin 64))) fun d _ => h0 _ (Nat.le_add_right _ _), add_zero]
  rfl

end Cert.MidGrad
-- ==== Proof.MidRun.lean ====
module
public import proofs.«01_k».proof.Proof.MidMath
@[expose] public section
set_option maxRecDepth 16384
noncomputable section
namespace Cert.MidIdeal.Val
open Cert.MidIdeal Cert.MidIdeal.Gen Idealize.ShloMosaic Idealize.ShloMosaic.TcCoe Idealize.SL.Sem Cert.MidGrad

variable (m : (ℓ : Loc nD τ sig) → Buf (Elt Ideal) ℓ)

/-- The row of the arrays that row `r` of grid point `t`'s blocks is. -/
def row (t : Fin cfg0.N) (r : Fin 512) : Fin 8192 := ⟨t.val * 512 + r.val, by have h : t.val < 16 := t.isLt; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel

section Emb
variable (t : Fin cfg0.N) (r : Fin 512)
theorem emb0 (l : Fin 1024) : (win0_0.blk t).view.emb (ix2 r l) = ix2 (row t r) l := by
  unfold row
  blk_ext! [idx0]
theorem emb1 (l : Fin 1024) : (win0_1.blk t).view.emb (ix2 r l) = ix2 (row t r) l := by
  unfold row
  blk_ext! [idx1]
theorem emb2 (l : Fin 512) : (win0_2.blk t).view.emb (ix2 r l) = ix2 (row t r) l := by
  unfold row
  blk_ext! [idx2]
theorem emb3 (l : Fin 128) : (win0_3.blk t).view.emb (ix2 r l) = ix2 (row t r) l := by
  unfold row
  blk_ext! [idx3]
theorem emb4 (l : Fin 128) : (win0_4.blk t).view.emb (ix2 r l) = ix2 (row t r) l := by
  unfold row
  blk_ext! [idx4]
theorem emb5 (n : Fin 384) (l : Fin 1024) : (win0_5.blk t).view.emb (ix2 n l) = ix2 n l := by
  blk_ext! [idx5]
theorem emb6 (n : Fin 256) (l : Fin 1024) : (win0_6.blk t).view.emb (ix2 n l) = ix2 n l := by
  blk_ext! [idx6]
theorem emb7 (l : Fin 1024) : (win0_7.blk t).view.emb (ix2 r l) = ix2 (row t r) l := by
  unfold row
  blk_ext! [idx7]
theorem emb8 (l : Fin 1024) : (win0_8.blk t).view.emb (ix2 r l) = ix2 (row t r) l := by
  unfold row
  blk_ext! [idx8]
theorem emb9 (l : Fin 384) : (win0_9.blk t).view.emb (ix2 r l) = ix2 (row t r) l := by
  unfold row
  blk_ext! [idx9]
theorem emb10 (l : Fin 256) : (win0_10.blk t).view.emb (ix2 r l) = ix2 (row t r) l := by
  unfold row
  blk_ext! [idx10]
theorem emb11 (l : Fin 128) : (win0_11.blk t).view.emb (ix2 r l) = ix2 (row t r) l := by
  unfold row
  blk_ext! [idx11]
end Emb

section Lines
variable (q k : FVec Ideal S8192x4x192 .f32) (v : FVec Ideal S8192x4x128 .f32) (a : FVec Ideal S8192x32 .f32) (wq : FVec Ideal S384x768 .f32) (wkv : FVec Ideal S256x1024 .f32)
/-- The queries' gradient over the scale, and the keys' over the logarithm of two, each head filled up to 256 lanes with zeros. -/
def hq : FVec Ideal S8192x1024 .f32 := shapeCast S8192x1024 (pad S8192x4x256 ![0, 0, 0] ![0, 0, 64] ![0, 0, 0]
  (Host.divf q (broadcastInDim S8192x4x192 ![] bcast_S_S8192x4x192 (constant S_ .f32 0x3D93CD3A#32))) (sitofp .f32 (constantI S_ 32 0#32)) pads_S8192x4x192_S8192x4x256_000_000_0640 h_S_) shapeCasts_S8192x4x256_S8192x1024
def hk : FVec Ideal S8192x1024 .f32 := shapeCast S8192x1024 (pad S8192x4x256 ![0, 0, 0] ![0, 0, 64] ![0, 0, 0]
  (Host.divf k (broadcastInDim S8192x4x192 ![] bcast_S_S8192x4x192 (constant S_ .f32 0x3F317218#32))) (sitofp .f32 (constantI S_ 32 0#32)) pads_S8192x4x192_S8192x4x256_000_000_0640 h_S_) shapeCasts_S8192x4x256_S8192x1024
/-- The values' gradient, the heads side by side. -/
def hv : FVec Ideal S8192x512 .f32 := shapeCast S8192x512 v shapeCasts_S8192x4x128_S8192x512
/-- A table of angles, twice, then zeros. -/
def ht : FVec Ideal S8192x128 .f32 := concatenate S8192x128 1 [⟨S8192x32, a⟩, ⟨S8192x32, a⟩, ⟨S8192x64, broadcastInDim S8192x64 ![] bcast_S_S8192x64 (constant S_ .f32 0x00000000#32)⟩] concatenates_S8192x32_S8192x32_S8192x64_S8192x128_d1
/-- The queries' weights, each head filled up to 256 columns with zeros. -/
def hwq : FVec Ideal S384x1024 .bf16 := truncf .bf16 (shapeCast S384x1024 (pad S384x4x256 ![0, 0, 0] ![0, 0, 64] ![0, 0, 0]
  (shapeCast S384x4x192 wq shapeCasts_S384x768_S384x4x192) (sitofp .f32 (constantI S_ 32 0#32)) pads_S384x4x192_S384x4x256_000_000_0640 h_S_) shapeCasts_S384x4x256_S384x1024) bitsLt_bf16_f32
def hwkv : FVec Ideal S256x1024 .bf16 := truncf .bf16 wkv bitsLt_bf16_f32
end Lines

variable (c : Dev nD)
/-- The arguments the gradients depend on. -/
abbrev acos : FVec Ideal S8192x32 .f32 := m ((c.tc : Thread nD τ).loc main_arg3)
abbrev asin : FVec Ideal S8192x32 .f32 := m ((c.tc : Thread nD τ).loc main_arg4)
abbrev awq : FVec Ideal S384x768 .f32 := m ((c.tc : Thread nD τ).loc main_arg5)
abbrev awkv : FVec Ideal S256x1024 .f32 := m ((c.tc : Thread nD τ).loc main_arg6)
abbrev adq : FVec Ideal S8192x4x192 .f32 := m ((c.tc : Thread nD τ).loc main_arg7)
abbrev adk : FVec Ideal S8192x4x192 .f32 := m ((c.tc : Thread nD τ).loc main_arg8)
abbrev adv : FVec Ideal S8192x4x128 .f32 := m ((c.tc : Thread nD τ).loc main_arg9)

section Entry
theorem entry0 : (V m c main_v5 : FVec Ideal S8192x1024 .f32) = hq (adq m c) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_results_simp <;> rfl
theorem entry1 : (V m c main_v9 : FVec Ideal S8192x1024 .f32) = hk (adk m c) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_results_simp <;> rfl
theorem entry2 : (V m c main_v10 : FVec Ideal S8192x512 .f32) = hv (adv m c) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_results_simp <;> rfl
theorem entry3 : (V m c main_v12 : FVec Ideal S8192x128 .f32) = ht (acos m c) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_results_simp <;> rfl
theorem entry4 : (V m c main_v14 : FVec Ideal S8192x128 .f32) = ht (asin m c) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_results_simp <;> rfl
theorem entry5 : (V m c main_v16 : FVec Ideal S384x1024 .bf16) = hwq (awq m c) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_results_simp <;> rfl
theorem entry6 : (V m c main_v17 : FVec Ideal S256x1024 .bf16) = hwkv (awkv m c) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_results_simp <;> rfl
end Entry
end Cert.MidIdeal.Val
-- ==== Proof.MidOut.lean ====
module
public import proofs.«01_k».proof.Proof.MidRun
@[expose] public section
set_option maxRecDepth 16384
noncomputable section
namespace Cert.MidIdeal.Val
open Cert.MidIdeal Cert.MidIdeal.Gen Idealize.ShloMosaic Idealize.ShloMosaic.TcCoe Idealize.SL.Sem Cert.MidGrad

section Reads
/-- A row of an array of four heads. -/
def rw3 {n : ℕ} (x : FVec Ideal ⟨3, ![8192, 4, n]⟩ .f32) (i : Fin 8192) : Fin 4 → Fin n → EReal := fun h d => x (ix3 i h d)

variable (q k : FVec Ideal S8192x4x192 .f32) (v : FVec Ideal S8192x4x128 .f32) (a : FVec Ideal S8192x32 .f32) (wq : FVec Ideal S384x768 .f32) (i : Fin 8192)
theorem zero_pad : (FloatOps.sitofp (F := Ideal) .f32 (0#32 : BitVec 32) : EReal) = 0 := by
  show ((((0#32 : BitVec 32).toInt : ℤ) : ℝ) : EReal) = 0
  simp
theorem hq_at (h : Fin 4) (d : Fin 256) : rw2 (hq q) i (wide h d) = if hd : d.val < 192 then Ideal.div (rw3 q i h ⟨d.val, hd⟩) (Cert.Reals.scale : EReal) else 0 := by
  rw [← Cert.Reals.ofBits_scale, ← zero_pad]
  unfold rw2 rw3 hq wide
  pointwise
theorem hk_at (h : Fin 4) (d : Fin 256) : rw2 (hk k) i (wide h d) = if hd : d.val < 192 then Ideal.div (rw3 k i h ⟨d.val, hd⟩) (ln2 : EReal) else 0 := by
  rw [← ofBits_ln2, ← zero_pad]
  unfold rw2 rw3 hk wide
  pointwise
theorem hv_at (h : Fin 4) (e : Fin 128) : rw2 (hv v) i (quart h e) = rw3 v i h e := by
  unfold rw2 rw3 hv quart
  pointwise
theorem ht_at (e : Fin 128) : rw2 (ht a) i e = twice (rw2 a i) e := by
  unfold twice
  unfold rw2 ht
  pointwise
  split
  · rfl
  · split
    · rename_i h1 h2
      rw [dif_pos (show e.val < 64 by omega)]
    · rename_i h1 h2
      rw [dif_neg (show ¬ e.val < 64 by omega)]
/-- Column `d` of head `h` among four heads of 192 columns. -/
def slim (h : Fin 4) (d : Fin 192) : Fin 768 := ⟨h.val * 192 + d.val, by omega⟩
theorem hwq_at (n : Fin 384) (h : Fin 4) (d : Fin 256) : rw2 (hwq wq) n (wide h d) = if hd : d.val < 192 then rw2 wq n (slim h ⟨d.val, hd⟩) else 0 := by
  rw [← zero_pad]
  unfold rw2 hwq wide slim
  pointwise
end Reads

/-- The gradients as arrays: of the projected queries, of the projected keys and values, of the two latents, of the keys' rotary lanes. -/
def gQ (cs sn : FVec Ideal S8192x32 .f32) (q : FVec Ideal S8192x4x192 .f32) : FVec Ideal S8192x768 .f32 :=
  fun y => gq (rw3 q (y 0)) (rw2 cs (y 0)) (rw2 sn (y 0)) ⟨(y 1).val / 192, by have h : (y 1).val < 768 := (y 1).isLt; omega⟩ ⟨(y 1).val % 192, by omega⟩
def gKV (k : FVec Ideal S8192x4x192 .f32) (v : FVec Ideal S8192x4x128 .f32) : FVec Ideal S8192x1024 .f32 :=
  fun y => gkv (rw3 k (y 0)) (rw3 v (y 0)) ⟨(y 1).val / 256, by have h : (y 1).val < 1024 := (y 1).isLt; omega⟩ ⟨(y 1).val % 256, by omega⟩
def gQN (cs sn : FVec Ideal S8192x32 .f32) (wq : FVec Ideal S384x768 .f32) (q : FVec Ideal S8192x4x192 .f32) : FVec Ideal S8192x384 .f32 :=
  fun y => ∑ l : Fin 768, gQ cs sn q (ix2 (y 0) l) * wq (ix2 (y 1) l)
def gKVN (wkv : FVec Ideal S256x1024 .f32) (k : FVec Ideal S8192x4x192 .f32) (v : FVec Ideal S8192x4x128 .f32) : FVec Ideal S8192x256 .f32 :=
  fun y => ∑ l : Fin 1024, gKV k v (ix2 (y 0) l) * wkv (ix2 (y 1) l)
def gKR (k : FVec Ideal S8192x4x192 .f32) : FVec Ideal S8192x64 .f32 := fun y => gkr (rw3 k (y 0)) (y 1)

theorem gQ_at (cs sn : FVec Ideal S8192x32 .f32) (q : FVec Ideal S8192x4x192 .f32) (i : Fin 8192) (h : Fin 4) (d : Fin 192) :
    gQ cs sn q (ix2 i (slim h d)) = gq (rw3 q i) (rw2 cs i) (rw2 sn i) h d := by
  have e1 : (⟨(slim h d).val / 192, by have := (slim h d).isLt; omega⟩ : Fin 4) = h := Fin.ext (by show (h.val * 192 + d.val) / 192 = h.val; omega)
  have e2 : (⟨(slim h d).val % 192, by omega⟩ : Fin 192) = d := Fin.ext (by show (h.val * 192 + d.val) % 192 = d.val; omega)
  exact congrArg₂ (gq (rw3 q i) (rw2 cs i) (rw2 sn i)) e1 e2
theorem gKV_at (k : FVec Ideal S8192x4x192 .f32) (v : FVec Ideal S8192x4x128 .f32) (i : Fin 8192) (h : Fin 4) (d : Fin 256) :
    gKV k v (ix2 i (wide h d)) = gkv (rw3 k i) (rw3 v i) h d := by
  have e1 : (⟨(wide h d).val / 256, by have := (wide h d).isLt; omega⟩ : Fin 4) = h := Fin.ext (by show (h.val * 256 + d.val) / 256 = h.val; omega)
  have e2 : (⟨(wide h d).val % 256, by omega⟩ : Fin 256) = d := Fin.ext (by show (h.val * 256 + d.val) % 256 = d.val; omega)
  exact congrArg₂ (gkv (rw3 k i) (rw3 v i)) e1 e2
theorem wide_of (l : Fin 1024) : ∃ (h : Fin 4) (d : Fin 256), l = wide h d := ⟨⟨l.val / 256, by omega⟩, ⟨l.val % 256, by omega⟩, Fin.ext (by show l.val = l.val / 256 * 256 + l.val % 256; omega)⟩
theorem slim_of (l : Fin 768) : ∃ (h : Fin 4) (d : Fin 192), l = slim h d := ⟨⟨l.val / 192, by omega⟩, ⟨l.val % 192, by omega⟩, Fin.ext (by show l.val = l.val / 192 * 192 + l.val % 192; omega)⟩

variable (m : (ℓ : Loc nD τ sig) → Buf (Elt Ideal) ℓ) (c : Dev nD)

section Found
variable (t : Fin cfg0.N) (r : Fin 512)
theorem found0 : rw2 (iblk m c 0 t : Vec Ideal S512x1024 .f32) r = rw2 (hq (adq m c)) (row t r) :=
  funext fun l => (congrArg (V m c main_v5) (emb0 t r l)).trans (congrFun (entry0 m c) _)
theorem found1 : rw2 (iblk m c 1 t : Vec Ideal S512x1024 .f32) r = rw2 (hk (adk m c)) (row t r) :=
  funext fun l => (congrArg (V m c main_v9) (emb1 t r l)).trans (congrFun (entry1 m c) _)
theorem found2 : rw2 (iblk m c 2 t : Vec Ideal S512x512 .f32) r = rw2 (hv (adv m c)) (row t r) :=
  funext fun l => (congrArg (V m c main_v10) (emb2 t r l)).trans (congrFun (entry2 m c) _)
theorem found3 : rw2 (iblk m c 3 t : Vec Ideal S512x128 .f32) r = rw2 (ht (acos m c)) (row t r) :=
  funext fun l => (congrArg (V m c main_v12) (emb3 t r l)).trans (congrFun (entry3 m c) _)
theorem found4 : rw2 (iblk m c 4 t : Vec Ideal S512x128 .f32) r = rw2 (ht (asin m c)) (row t r) :=
  funext fun l => (congrArg (V m c main_v14) (emb4 t r l)).trans (congrFun (entry4 m c) _)
theorem found5 (n : Fin 384) : rw2 (iblk m c 5 t : Vec Ideal S384x1024 .bf16) n = rw2 (hwq (awq m c)) n :=
  funext fun l => (congrArg (V m c main_v16) (emb5 t n l)).trans (congrFun (entry5 m c) _)
theorem found6 (n : Fin 256) : rw2 (iblk m c 6 t : Vec Ideal S256x1024 .bf16) n = rw2 (hwkv (awkv m c)) n :=
  funext fun l => (congrArg (V m c main_v17) (emb6 t n l)).trans (congrFun (entry6 m c) _)
end Found

/-- The five arrays the region leaves. -/
def F7 : FVec Ideal S8192x1024 .bf16 := fun y => U8 (rw2 (hq (adq m c)) (y 0)) (rw2 (ht (acos m c)) (y 0)) (rw2 (ht (asin m c)) (y 0)) (y 1)
def F8 : FVec Ideal S8192x1024 .bf16 := fun y => W8 (rw2 (hk (adk m c)) (y 0)) (rw2 (hv (adv m c)) (y 0)) (y 1)
def F9 : FVec Ideal S8192x384 .f32 := fun y => ∑ l : Fin 1024, F7 m c (ix2 (y 0) l) * rw2 (hwq (awq m c)) (y 1) l
def F10 : FVec Ideal S8192x256 .f32 := fun y => ∑ l : Fin 1024, F8 m c (ix2 (y 0) l) * rw2 (hwkv (awkv m c)) (y 1) l
def F11 : FVec Ideal S8192x128 .f32 := fun y => R (rw2 (hk (adk m c)) (y 0)) (y 1)

section Points
variable (t : Fin cfg0.N) (r : Fin 512)
theorem blk7 (l : Fin 1024) : out0_7 (iblk m c 0 t) (iblk m c 1 t) (iblk m c 2 t) (iblk m c 3 t) (iblk m c 4 t) (iblk m c 5 t) (iblk m c 6 t) (ix2 r l) = F7 m c ((win0_7.blk t).view.emb (ix2 r l)) := by
  rw [emb7, out7_at, found0, found3, found4]
  rfl
theorem blk8 (l : Fin 1024) : out0_8 (iblk m c 0 t) (iblk m c 1 t) (iblk m c 2 t) (iblk m c 3 t) (iblk m c 4 t) (iblk m c 5 t) (iblk m c 6 t) (ix2 r l) = F8 m c ((win0_8.blk t).view.emb (ix2 r l)) := by
  rw [emb8, out8_at, found1, found2]
  rfl
theorem blk9 (l : Fin 384) : out0_9 (iblk m c 0 t) (iblk m c 1 t) (iblk m c 2 t) (iblk m c 3 t) (iblk m c 4 t) (iblk m c 5 t) (iblk m c 6 t) (ix2 r l) = F9 m c ((win0_9.blk t).view.emb (ix2 r l)) := by
  rw [emb9, out9_at]
  refine Finset.sum_congr rfl fun l' _ => congrArg₂ (· * ·) ?_ (congrFun (found5 m c t l) l')
  rw [blk7, emb7]
  rfl
theorem blk10 (l : Fin 256) : out0_10 (iblk m c 0 t) (iblk m c 1 t) (iblk m c 2 t) (iblk m c 3 t) (iblk m c 4 t) (iblk m c 5 t) (iblk m c 6 t) (ix2 r l) = F10 m c ((win0_10.blk t).view.emb (ix2 r l)) := by
  rw [emb10, out10_at]
  refine Finset.sum_congr rfl fun l' _ => congrArg₂ (· * ·) ?_ (congrFun (found6 m c t l) l')
  rw [blk8, emb8]
  rfl
theorem blk11 (l : Fin 128) : out0_11 (iblk m c 0 t) (iblk m c 1 t) (iblk m c 2 t) (iblk m c 3 t) (iblk m c 4 t) (iblk m c 5 t) (iblk m c 6 t) (ix2 r l) = F11 m c ((win0_11.blk t).view.emb (ix2 r l)) := by
  rw [emb11, out11_at, found1]
  rfl
end Points
theorem whole7 (G : FVec Ideal S8192x1024 .bf16) (hG : ∀ (t : Fin cfg0.N) (r : Fin 512) (l : Fin 1024), out0_7 (iblk m c 0 t) (iblk m c 1 t) (iblk m c 2 t) (iblk m c 3 t) (iblk m c 4 t) (iblk m c 5 t) (iblk m c 6 t) (ix2 r l) = G ((win0_7.blk t).view.emb (ix2 r l))) : (dats m 0 c).arrAt 7 cfg0.N = G := by
  refine (dats m 0 c).arrAt_eq_of_covers 7 _ (by decide +kernel) fun t hf y => ?_
  obtain ⟨r, l, rfl⟩ : ∃ (r : Fin 512) (l : Fin 1024), y = ix2 r l := ⟨y 0, y 1, eq_ix2 y⟩
  exact (congrFun (after0_7 m c t) (ix2 r l)).trans (hG t r l)
theorem arr7 : (dats m 0 c).arrAt 7 cfg0.N = F7 m c := whole7 m c _ (blk7 m c)
theorem whole8 (G : FVec Ideal S8192x1024 .bf16) (hG : ∀ (t : Fin cfg0.N) (r : Fin 512) (l : Fin 1024), out0_8 (iblk m c 0 t) (iblk m c 1 t) (iblk m c 2 t) (iblk m c 3 t) (iblk m c 4 t) (iblk m c 5 t) (iblk m c 6 t) (ix2 r l) = G ((win0_8.blk t).view.emb (ix2 r l))) : (dats m 0 c).arrAt 8 cfg0.N = G := by
  refine (dats m 0 c).arrAt_eq_of_covers 8 _ (by decide +kernel) fun t hf y => ?_
  obtain ⟨r, l, rfl⟩ : ∃ (r : Fin 512) (l : Fin 1024), y = ix2 r l := ⟨y 0, y 1, eq_ix2 y⟩
  exact (congrFun (after0_8 m c t) (ix2 r l)).trans (hG t r l)
theorem arr8 : (dats m 0 c).arrAt 8 cfg0.N = F8 m c := whole8 m c _ (blk8 m c)
theorem whole9 (G : FVec Ideal S8192x384 .f32) (hG : ∀ (t : Fin cfg0.N) (r : Fin 512) (l : Fin 384), out0_9 (iblk m c 0 t) (iblk m c 1 t) (iblk m c 2 t) (iblk m c 3 t) (iblk m c 4 t) (iblk m c 5 t) (iblk m c 6 t) (ix2 r l) = G ((win0_9.blk t).view.emb (ix2 r l))) : (dats m 0 c).arrAt 9 cfg0.N = G := by
  refine (dats m 0 c).arrAt_eq_of_covers 9 _ (by decide +kernel) fun t hf y => ?_
  obtain ⟨r, l, rfl⟩ : ∃ (r : Fin 512) (l : Fin 384), y = ix2 r l := ⟨y 0, y 1, eq_ix2 y⟩
  exact (congrFun (after0_9 m c t) (ix2 r l)).trans (hG t r l)
theorem arr9 : (dats m 0 c).arrAt 9 cfg0.N = F9 m c := whole9 m c _ (blk9 m c)
theorem whole10 (G : FVec Ideal S8192x256 .f32) (hG : ∀ (t : Fin cfg0.N) (r : Fin 512) (l : Fin 256), out0_10 (iblk m c 0 t) (iblk m c 1 t) (iblk m c 2 t) (iblk m c 3 t) (iblk m c 4 t) (iblk m c 5 t) (iblk m c 6 t) (ix2 r l) = G ((win0_10.blk t).view.emb (ix2 r l))) : (dats m 0 c).arrAt 10 cfg0.N = G := by
  refine (dats m 0 c).arrAt_eq_of_covers 10 _ (by decide +kernel) fun t hf y => ?_
  obtain ⟨r, l, rfl⟩ : ∃ (r : Fin 512) (l : Fin 256), y = ix2 r l := ⟨y 0, y 1, eq_ix2 y⟩
  exact (congrFun (after0_10 m c t) (ix2 r l)).trans (hG t r l)
theorem arr10 : (dats m 0 c).arrAt 10 cfg0.N = F10 m c := whole10 m c _ (blk10 m c)
theorem whole11 (G : FVec Ideal S8192x128 .f32) (hG : ∀ (t : Fin cfg0.N) (r : Fin 512) (l : Fin 128), out0_11 (iblk m c 0 t) (iblk m c 1 t) (iblk m c 2 t) (iblk m c 3 t) (iblk m c 4 t) (iblk m c 5 t) (iblk m c 6 t) (ix2 r l) = G ((win0_11.blk t).view.emb (ix2 r l))) : (dats m 0 c).arrAt 11 cfg0.N = G := by
  refine (dats m 0 c).arrAt_eq_of_covers 11 _ (by decide +kernel) fun t hf y => ?_
  obtain ⟨r, l, rfl⟩ : ∃ (r : Fin 512) (l : Fin 128), y = ix2 r l := ⟨y 0, y 1, eq_ix2 y⟩
  exact (congrFun (after0_11 m c t) (ix2 r l)).trans (hG t r l)
theorem arr11 : (dats m 0 c).arrAt 11 cfg0.N = F11 m c := whole11 m c _ (blk11 m c)
theorem F7_at (i : Fin 8192) (h : Fin 4) (d : Fin 192) : F7 m c (ix2 i (wide h (up d))) = gq (rw3 (adq m c) i) (rw2 (acos m c) i) (rw2 (asin m c) i) h d :=
  row_q (q := rw3 (adq m c) i) (c := rw2 (acos m c) i) (s := rw2 (asin m c) i) (hq_at (adq m c) i) (ht_at (acos m c) i) (ht_at (asin m c) i) h d
theorem F8_at (i : Fin 8192) (h : Fin 4) (d : Fin 256) : F8 m c (ix2 i (wide h d)) = gkv (rw3 (adk m c) i) (rw3 (adv m c) i) h d :=
  row_kv (hk_at (adk m c) i) (hv_at (adv m c) i) h d

section Tail
variable (X : Valuation τ sig (Elt Ideal))
theorem tail0 : @Eq (FVec Ideal S8192x768 .f32) (StableHlo.after (hostOps1 (F := Ideal)) X (Proc.devRef .tc main_v22))
    (extf .f32 (shapeCast S8192x768 (extractStridedSlice S8192x4x192 ![0, 0, 0] (shapeCast S8192x4x256 (X (Proc.devRef .tc main_v18_0) : FVec Ideal S8192x1024 .bf16) shapeCasts_S8192x1024_S8192x4x256) slices_S8192x4x256_S8192x4x192_0_0_0)
      shapeCasts_S8192x4x192_S8192x768) bitsLt_bf16_f32) := by
  simp only [hostOps1]
  after_results_simp <;> rfl
theorem tail1 : @Eq (FVec Ideal S8192x1024 .f32) (StableHlo.after (hostOps1 (F := Ideal)) X (Proc.devRef .tc main_v23)) (extf .f32 (X (Proc.devRef .tc main_v18_1) : FVec Ideal S8192x1024 .bf16) bitsLt_bf16_f32) := by
  simp only [hostOps1]
  after_results_simp <;> rfl
theorem tail4 : @Eq (FVec Ideal S8192x64 .f32) (StableHlo.after (hostOps1 (F := Ideal)) X (Proc.devRef .tc main_v24)) (extractStridedSlice S8192x64 ![0, 0] (X (Proc.devRef .tc main_v18_4) : FVec Ideal S8192x128 .f32) slices_S8192x128_S8192x64_0_0) := by
  simp only [hostOps1]
  after_results_simp <;> rfl
theorem tail0_at (x : FVec Ideal S8192x1024 .bf16) (i : Fin 8192) (h : Fin 4) (d : Fin 192) :
    (extf .f32 (shapeCast S8192x768 (extractStridedSlice S8192x4x192 ![0, 0, 0] (shapeCast S8192x4x256 x shapeCasts_S8192x1024_S8192x4x256) slices_S8192x4x256_S8192x4x192_0_0_0)
      shapeCasts_S8192x4x192_S8192x768) bitsLt_bf16_f32 : FVec Ideal S8192x768 .f32) (ix2 i (slim h d)) = x (ix2 i (wide h (up d))) := by
  unfold slim wide up
  pointwise
theorem tail4_at (x : FVec Ideal S8192x128 .f32) (i : Fin 8192) (e : Fin 64) :
    (extractStridedSlice S8192x64 ![0, 0] x slices_S8192x128_S8192x64_0_0 : FVec Ideal S8192x64 .f32) (ix2 i e) = x (ix2 i (low e)) := by
  unfold low
  pointwise
end Tail

/-- The arrays the pipeline leaves, as the lines after it find them. -/
def left : Valuation τ sig (Elt Ideal) := Pipeline.withArrays (cfgs 0).spec c (V0 m c) fun w => (dats m 0 c).arrAt w (cfgs 0).N
theorem inj : Function.Injective (Pipeline.arrRef spec0) := by decide
theorem left7 : left m c (Proc.devRef .tc main_v18_0) = F7 m c := (Pipeline.withArrays_arr spec0 inj c (V0 m c) (fun w => (dats m 0 c).arrAt w (cfgs 0).N) 7).trans (arr7 m c)
theorem left8 : left m c (Proc.devRef .tc main_v18_1) = F8 m c := (Pipeline.withArrays_arr spec0 inj c (V0 m c) (fun w => (dats m 0 c).arrAt w (cfgs 0).N) 8).trans (arr8 m c)
theorem left9 : left m c (Proc.devRef .tc main_v18_2) = F9 m c := (Pipeline.withArrays_arr spec0 inj c (V0 m c) (fun w => (dats m 0 c).arrAt w (cfgs 0).N) 9).trans (arr9 m c)
theorem left10 : left m c (Proc.devRef .tc main_v18_3) = F10 m c := (Pipeline.withArrays_arr spec0 inj c (V0 m c) (fun w => (dats m 0 c).arrAt w (cfgs 0).N) 10).trans (arr10 m c)
theorem left11 : left m c (Proc.devRef .tc main_v18_4) = F11 m c := (Pipeline.withArrays_arr spec0 inj c (V0 m c) (fun w => (dats m 0 c).arrAt w (cfgs 0).N) 11).trans (arr11 m c)

theorem res0 : (StableHlo.after (hostOps1 (F := Ideal)) (left m c) (Proc.devRef .tc main_v22) : FVec Ideal S8192x768 .f32) = gQ (acos m c) (asin m c) (adq m c) := by
  refine (tail0 (left m c)).trans ?_
  funext y
  obtain ⟨i, l, rfl⟩ : ∃ (i : Fin 8192) (l : Fin 768), y = ix2 i l := ⟨y 0, y 1, eq_ix2 y⟩
  obtain ⟨h, d, rfl⟩ := slim_of l
  rw [tail0_at, left7, F7_at, gQ_at]
theorem res1 : (StableHlo.after (hostOps1 (F := Ideal)) (left m c) (Proc.devRef .tc main_v23) : FVec Ideal S8192x1024 .f32) = gKV (adk m c) (adv m c) := by
  refine (tail1 (left m c)).trans ?_
  funext y
  obtain ⟨i, l, rfl⟩ : ∃ (i : Fin 8192) (l : Fin 1024), y = ix2 i l := ⟨y 0, y 1, eq_ix2 y⟩
  obtain ⟨h, d, rfl⟩ := wide_of l
  rw [gKV_at, ← F8_at]
  exact congrFun (left8 m c) _
theorem F9_eq : F9 m c = gQN (acos m c) (asin m c) (awq m c) (adq m c) := by
  funext y
  obtain ⟨i, n, rfl⟩ : ∃ (i : Fin 8192) (l : Fin 384), y = ix2 i l := ⟨y 0, y 1, eq_ix2 y⟩
  refine (sum_groups (A := 4) (B := 256) rfl _ wide fun _ _ => rfl).trans (Eq.trans ?_ (sum_groups (A := 4) (B := 192) rfl _ slim fun _ _ => rfl).symm)
  refine Finset.sum_congr rfl fun h _ => (sum_cut _ fun d hd => ?_).trans (Finset.sum_congr rfl fun d _ => ?_)
  · exact (congrArg (_ * ·) ((hwq_at (awq m c) n h d).trans (dif_neg (by omega)))).trans (mul_zero _)
  · refine congrArg₂ (· * ·) ((F7_at m c i h d).trans (gQ_at _ _ _ i h d).symm) ?_
    exact (hwq_at (awq m c) n h (up d)).trans (dif_pos d.isLt)
theorem F10_eq : F10 m c = gKVN (awkv m c) (adk m c) (adv m c) := by
  funext y
  obtain ⟨i, n, rfl⟩ : ∃ (i : Fin 8192) (l : Fin 256), y = ix2 i l := ⟨y 0, y 1, eq_ix2 y⟩
  refine Finset.sum_congr rfl fun l _ => congrArg (· * _) ?_
  obtain ⟨h, d, rfl⟩ := wide_of l
  exact (F8_at m c i h d).trans (gKV_at _ _ i h d).symm
theorem res4 : (StableHlo.after (hostOps1 (F := Ideal)) (left m c) (Proc.devRef .tc main_v24) : FVec Ideal S8192x64 .f32) = gKR (adk m c) := by
  refine (tail4 (left m c)).trans ?_
  funext y
  obtain ⟨i, e, rfl⟩ : ∃ (i : Fin 8192) (l : Fin 64), y = ix2 i l := ⟨y 0, y 1, eq_ix2 y⟩
  rw [tail4_at, left11]
  exact row_r (hk_at (adk m c) i) e

/-- Every execution of the kernel ends with the five gradients in its results and its arguments unchanged. -/
theorem run (ρ : Dev nD → PrngReg) :
    θ_run defs (onTc (τ := τ) (main (F := Ideal))) ⟨m, fun _ => 0, ρ⟩ fun r => ∀ c : Dev nD,
      (r.2.mem ((c.tc : Thread nD τ).loc main_v22) = gQ (acos m c) (asin m c) (adq m c)
      ∧ r.2.mem ((c.tc : Thread nD τ).loc main_v23) = gKV (adk m c) (adv m c)
      ∧ r.2.mem ((c.tc : Thread nD τ).loc main_v18_2) = gQN (acos m c) (asin m c) (awq m c) (adq m c)
      ∧ r.2.mem ((c.tc : Thread nD τ).loc main_v18_3) = gKVN (awkv m c) (adk m c) (adv m c)
      ∧ r.2.mem ((c.tc : Thread nD τ).loc main_v24) = gKR (adk m c)) :=
  (θ_run defs _ _).mono (fun r h c => ⟨
      ((h c).2 main_v22 (Pipeline.mem_restRefs_of main_v22 (by decide) (by decide))).trans (res0 m c),
      ((h c).2 main_v23 (Pipeline.mem_restRefs_of main_v23 (by decide) (by decide))).trans (res1 m c),
      ((h c).1 9).trans ((arr9 m c).trans (F9_eq m c)),
      ((h c).1 10).trans ((arr10 m c).trans (F10_eq m c)),
      ((h c).2 main_v24 (Pipeline.mem_restRefs_of main_v24 (by decide) (by decide))).trans (res4 m c)⟩)
    (run_main m ρ)
end Cert.MidIdeal.Val
-- ==== Proof.MidRef.lean ====
module
public import proofs.«01_k».proof.Defs
public import proofs.«01_k».proof.Proof.MidOut
public import proofs.«01_k».proof.Proof.Gen.MidRefIdeal.Run
public import proofs.«01_k».proof.Proof.Gen.MidRefIdeal.Read
@[expose] public section
set_option maxRecDepth 16384
noncomputable section
namespace Cert.MidRefIdeal.Val
open Cert.MidRefIdeal Cert.MidRefIdeal.Gen Cert.MidRefIdeal.Read Idealize.ShloMosaic Idealize.ShloMosaic.TcCoe Idealize.SL.Sem Cert.MidGrad
open Cert.MidIdeal.Val (rw2 rw3 slim slim_of wide_of gQ gKV gQN gKVN gKR gQ_at gKV_at)

/-- Two rows set one behind the other by padding both with zeros and adding. -/
theorem behind {n a b : ℕ} (hn : n = a + b) (A : Fin b → EReal) (B : Fin a → EReal) (d : Fin n) :
    ((if h : a ≤ d.val ∧ d.val - a < b then A ⟨d.val - a, h.2⟩ else 0) + (if h : d.val < a then B ⟨d.val, h⟩ else 0))
      = if h : d.val < a then B ⟨d.val, h⟩ else A ⟨d.val - a, by omega⟩ := by
  by_cases h : d.val < a
  · rw [dif_neg (by omega), dif_pos h, dif_pos h, zero_add]
  · rw [dif_pos ⟨by omega, by omega⟩, dif_neg h, dif_neg h, add_zero]

section Reads
variable (cs sn : FVec Ideal S8192x32 .f32) (wq : FVec Ideal S384x768 .f32) (wkv : FVec Ideal S256x1024 .f32) (q k : FVec Ideal S8192x4x192 .f32) (v : FVec Ideal S8192x4x128 .f32) (i : Fin 8192) (h : Fin 4)

/-- The upper rotary lanes of the queries' gradient. -/
theorem v56_at (j : Fin 32) : val_main_v56 (F := Ideal) cs sn q (ix3 i h j) = q (ix3 i h ⟨128 + (32 + j.val), by omega⟩) * cs (ix2 i j) + -q (ix3 i h ⟨128 + j.val, by omega⟩) * sn (ix2 i j) := by
  unfold val_main_v56 val_main_v52 val_main_v55 val_main_v48 val_main_v53 val_main_v47 val_main_v46 val_main_v51 val_main_v54 val_main_v14 val_main_v15
  pointwise
/-- The lower rotary lanes. -/
theorem v59_at (j : Fin 32) : val_main_v59 (F := Ideal) cs sn q (ix3 i h j) = q (ix3 i h ⟨128 + (32 + j.val), by omega⟩) * sn (ix2 i j) + q (ix3 i h ⟨128 + j.val, by omega⟩) * cs (ix2 i j) := by
  unfold val_main_v59 val_main_v50 val_main_v58 val_main_v48 val_main_v47 val_main_v46 val_main_v49 val_main_v57 val_main_v14 val_main_v15
  pointwise
/-- All rotary lanes. -/
theorem v62_at (j : Fin 64) : val_main_v62 (F := Ideal) cs sn q (ix3 i h j) = if hj : j.val < 32 then val_main_v59 (F := Ideal) cs sn q (ix3 i h ⟨j.val, hj⟩) else val_main_v56 (F := Ideal) cs sn q (ix3 i h ⟨j.val - 32, by omega⟩) := by
  unfold val_main_v62 val_main_v60 val_main_v61 val_main_cst_3 val_main_cst_4
  generalize val_main_v56 (F := Ideal) cs sn q = a
  generalize val_main_v59 (F := Ideal) cs sn q = b
  pointwise
  exact behind (n := 64) (a := 32) (b := 32) rfl (fun l => a (ix3 i h l)) (fun l => b (ix3 i h l)) j
/-- All lanes of a head. -/
theorem v65_at (d : Fin 192) : val_main_v65 (F := Ideal) cs sn q (ix3 i h d) = if hd : d.val < 128 then q (ix3 i h d) else val_main_v62 (F := Ideal) cs sn q (ix3 i h ⟨d.val - 128, by omega⟩) := by
  unfold val_main_v65 val_main_v63 val_main_v64 val_main_v45 val_main_cst_5 val_main_cst_6
  generalize val_main_v62 (F := Ideal) cs sn q = a
  pointwise
  exact behind (n := 192) (a := 128) (b := 64) rfl (fun l => a (ix3 i h l)) (fun l => q (ix3 i h ⟨l.val, by omega⟩)) d
/-- A head's lanes are the gradient of the rotary embedding. -/
theorem v65_eq (d : Fin 192) : val_main_v65 (F := Ideal) cs sn q (ix3 i h d) = gq (rw3 q i) (rw2 cs i) (rw2 sn i) h d := by
  rw [v65_at]
  unfold gq
  by_cases h1 : d.val < 128
  · rw [dif_pos h1, if_pos h1]
    rfl
  · rw [dif_neg h1, if_neg h1, v62_at]
    by_cases h2 : d.val < 160
    · rw [dif_pos (show d.val - 128 < 32 by omega), dif_pos h2, v59_at, add_comm]
      unfold rw3 rw2
      have e1 : (⟨128 + (d.val - 128), by omega⟩ : Fin 192) = d := Fin.ext (by show 128 + (d.val - 128) = d.val; omega)
      have e2 : (⟨128 + (32 + (d.val - 128)), by omega⟩ : Fin 192) = ⟨d.val + 32, by omega⟩ := Fin.ext (by show 128 + (32 + (d.val - 128)) = d.val + 32; omega)
      rw [e1, e2]
    · rw [dif_neg (show ¬ d.val - 128 < 32 by omega), dif_neg h2, v56_at]
      unfold rw3 rw2
      have e0 : (⟨d.val - 128 - 32, by omega⟩ : Fin 32) = ⟨d.val - 160, by omega⟩ := Fin.ext (by show d.val - 128 - 32 = d.val - 160; omega)
      have e1 : (⟨128 + (d.val - 128 - 32), by omega⟩ : Fin 192) = ⟨d.val - 32, by omega⟩ := Fin.ext (by show 128 + (d.val - 128 - 32) = d.val - 32; omega)
      have e2 : (⟨128 + (32 + (d.val - 128 - 32)), by omega⟩ : Fin 192) = d := Fin.ext (by show 128 + (32 + (d.val - 128 - 32)) = d.val; omega)
      rw [e1, e2, e0]
/-- A head's lanes of the gradient of the projected keys and values. -/
theorem v43_at (d : Fin 256) : val_main_v43 (F := Ideal) k v (ix3 i h d) = gkv (rw3 k i) (rw3 v i) h d := by
  unfold val_main_v43 val_main_v41 val_main_v42 val_main_v36 val_main_cst_1 val_main_cst_2 gkv rw3
  pointwise
  exact behind (n := 256) (a := 128) (b := 128) rfl (fun l => v (ix3 i h l)) (fun l => k (ix3 i h ⟨l.val, by omega⟩)) d
/-- A row of the gradient of the keys' rotary lanes. -/
theorem v40_at (e : Fin 64) : val_main_v40 (F := Ideal) k (ix2 i e) = gkr (rw3 k i) e := by
  unfold val_main_v40 val_main_v39 val_main_v38 val_main_v37 val_main_cst val_main_cst_0 gkr rw3
  pointwise
  exact Fin.sum_univ_one _

/-- The reference's first result. -/
theorem v66_eq : val_main_v66 (F := Ideal) cs sn q = gQ cs sn q := by
  funext y
  obtain ⟨i, l, rfl⟩ : ∃ (i : Fin 8192) (l : Fin 768), y = ix2 i l := ⟨y 0, y 1, eq_ix2 y⟩
  obtain ⟨h, d, rfl⟩ := slim_of l
  rw [gQ_at, ← v65_eq]
  exact (val_main_v66_apply _ _ _ _).trans (congrArg _ (by
    show idx_main_v66 (ix2 i (slim h d)) = ix3 i h d
    funext a
    fin_cases a
    · exact Fin.ext (by show (i.val * 768 + (h.val * 192 + d.val)) / 768 = i.val; omega)
    · exact Fin.ext (by show (i.val * 768 + (h.val * 192 + d.val)) / 192 % 4 = h.val; omega)
    · exact Fin.ext (by show (i.val * 768 + (h.val * 192 + d.val)) % 192 = d.val; omega)))
/-- The second. -/
theorem v44_eq : val_main_v44 (F := Ideal) k v = gKV k v := by
  funext y
  obtain ⟨i, l, rfl⟩ : ∃ (i : Fin 8192) (l : Fin 1024), y = ix2 i l := ⟨y 0, y 1, eq_ix2 y⟩
  obtain ⟨h, d, rfl⟩ := wide_of l
  rw [gKV_at, ← v43_at]
  exact (val_main_v44_apply _ _ _).trans (congrArg _ (by
    show idx_main_v44 (ix2 i (wide h d)) = ix3 i h d
    funext a
    fin_cases a
    · exact Fin.ext (by show (i.val * 1024 + (h.val * 256 + d.val)) / 1024 = i.val; omega)
    · exact Fin.ext (by show (i.val * 1024 + (h.val * 256 + d.val)) / 256 % 4 = h.val; omega)
    · exact Fin.ext (by show (i.val * 1024 + (h.val * 256 + d.val)) % 256 = d.val; omega)))
/-- The third: the first times the queries' weights. -/
theorem v67_eq : val_main_v67 (F := Ideal) cs sn wq q = gQN cs sn wq q := by
  funext y
  obtain ⟨i, n, rfl⟩ : ∃ (i : Fin 8192) (l : Fin 384), y = ix2 i l := ⟨y 0, y 1, eq_ix2 y⟩
  rw [val_main_v67_apply, v66_eq]
  refine Finset.sum_congr rfl fun l _ => ?_
  rw [show lidx_main_v67 (ix2 i n) l = ix2 i l by idx_ext, show ridx_main_v67 (ix2 i n) l = ix2 n l by idx_ext]
  rfl
/-- The fourth: the second times the weights of keys and values. -/
theorem v68_eq : val_main_v68 (F := Ideal) wkv k v = gKVN wkv k v := by
  funext y
  obtain ⟨i, n, rfl⟩ : ∃ (i : Fin 8192) (l : Fin 256), y = ix2 i l := ⟨y 0, y 1, eq_ix2 y⟩
  rw [val_main_v68_apply, v44_eq]
  refine Finset.sum_congr rfl fun l _ => ?_
  rw [show lidx_main_v68 (ix2 i n) l = ix2 i l by idx_ext, show ridx_main_v68 (ix2 i n) l = ix2 n l by idx_ext]
  rfl
/-- The fifth. -/
theorem v40_eq : val_main_v40 (F := Ideal) k = gKR k := by
  funext y
  obtain ⟨i, e, rfl⟩ : ∃ (i : Fin 8192) (l : Fin 64), y = ix2 i l := ⟨y 0, y 1, eq_ix2 y⟩
  exact v40_at k i e
end Reads

/-- The kernel and the reference compute the same five gradients of the attention's projections. -/
theorem algebraic : Cert.algebraic_MidIdeal_MidRefIdeal := by
  intro m ρ m' ρ' _ hag
  refine ⟨_, _, _, _, _, (θ_run _ _ _).mono (fun r h c => ⟨(h.1 c).1, (h.1 c).2.1, (h.1 c).2.2.1, (h.1 c).2.2.2.1, (h.1 c).2.2.2.2, h.2 c⟩)
    (θ_run_and (Cert.MidIdeal.Val.run m ρ) (Cert.MidIdeal.Gen.unchanged m ρ)), (θ_run _ _ _).mono (fun r h c => ?_) (Cert.MidRefIdeal.Value.run m' ρ')⟩
  obtain ⟨h66, h44, h67, h68, h40, ha⟩ := h c
  obtain ⟨-, -, -, e3, e4, e5, e6, e7, e8, e9⟩ := hag c
  refine ⟨?_, ?_, ?_, ?_, ?_, ha⟩
  · rw [h66, val_main_v66_eq, v66_eq, e3, e4, e7]
  · rw [h44, val_main_v44_eq, v44_eq, e8, e9]
  · rw [h67, val_main_v67_eq, v67_eq, e3, e4, e5, e7]
  · rw [h68, val_main_v68_eq, v68_eq, e6, e8, e9]
  · rw [h40, val_main_v40_eq, v40_eq, e8]
end Cert.MidRefIdeal.Val
-- ==== Proof.Norm.lean ====
module
public import Idealize.ShloMosaic.Lib.Pointwise
@[expose] public section
noncomputable section
/-! A row's root-mean-square norm with its scale and shift, and its gradient; a row's gate and its gradient. -/
namespace Cert.Norm
open Idealize.ShloMosaic

/-- A row of a matrix. -/
def rw2 {m n : ℕ} (x : (⟨2, ![m, n]⟩ : Shape).Idx → EReal) (i : Fin m) : Fin n → EReal := fun l => x (ix2 i l)

/-- Lane `l` of the third `k` of 3072 columns. -/
def third (k : Fin 3) (l : Fin 1024) : Fin 3072 := ⟨k.val * 1024 + l.val, by omega⟩

/-- The sum of two rows of three parts, at one of the parts. -/
def part (k : Fin 3) (a b : Fin 3072 → EReal) (l : Fin 1024) : EReal := a (third k l) + b (third k l)

section Norm
variable (x g s t : Fin 1024 → EReal)
/-- The mean square of a row, with the small constant that keeps it away from zero. -/
def ms : EReal := Ideal.div (∑ l, x l * x l) (Ideal.ofBits .f32 0x44800000#32) + Ideal.ofBits .f32 0x358637BD#32
/-- The reciprocal of its square root. -/
def rinv : EReal := Ideal.rsqrt (ms x)
/-- The normed row. -/
def hat (l : Fin 1024) : EReal := x l * rinv x
/-- One more than the scale. -/
def lift (l : Fin 1024) : EReal := Ideal.ofBits .f32 0x3F800000#32 + s l
/-- The normed row times gain and scale, shifted. -/
def pre (l : Fin 1024) : EReal := hat x l * g l * lift s l + t l
/-- The gradient `d` behind gain and scale. -/
def thru (d : Fin 1024 → EReal) (l : Fin 1024) : EReal := d l * lift s l * g l
/-- The part of the norm's gradient that passes through the mean square, over the row itself. -/
def curv (d : Fin 1024 → EReal) : EReal :=
  Ideal.div ((∑ l, x l * d l) * (Ideal.ofBits .f32 0xBF000000#32 * Ideal.div (rinv x) (ms x))) (Ideal.ofBits .f32 0x44800000#32)
/-- The gradient of the row, with `r` added. -/
def back (d r : Fin 1024 → EReal) (l : Fin 1024) : EReal :=
  thru g s d l * rinv x + x l * curv x (thru g s d) + curv x (thru g s d) * x l + r l
end Norm

section Gate
variable (u q : Fin 1024 → EReal) (z b : Fin 3072 → EReal)
/-- The logistic gate of a row. -/
def gate (l : Fin 1024) : EReal := Ideal.logistic (part 1 z b l)
/-- The gradient of the gated part, and of the gate's argument. -/
def dA (l : Fin 1024) : EReal := u l * gate z b l
def dB (l : Fin 1024) : EReal := part 0 z b l * u l * (gate z b l * (Ideal.ofBits .f32 0x3F800000#32 - gate z b l))
/-- The gradients of the three parts of a row beside each other. -/
def dZ (j : Fin 3072) : EReal := if h : j.val < 1024 then dA u z b ⟨j.val, h⟩ else if h : j.val - 1024 < 1024 then dB u z b ⟨j.val - 1024, h⟩
  else q ⟨j.val - 1024 - 1024, by omega⟩
/-- A row of 3072 entries against the rows of a matrix. -/
def dH (w : Fin 1024 → Fin 3072 → EReal) (y : Fin 3072 → EReal) (n : Fin 1024) : EReal := ∑ j, y j * w n j
/-- A row of 1024 entries through a matrix. -/
def mul (w : Fin 1024 → Fin 3072 → EReal) (y : Fin 1024 → EReal) (j : Fin 3072) : EReal := ∑ l, y l * w l j
end Gate
end Cert.Norm
-- ==== Proof.OdInBody.lean ====
module
public import proofs.«01_k».proof.Proof.Gen.OdInIdeal.Frame
public import Idealize.ShloMosaic.Lib.Pointwise
public import Idealize.ShloMosaic.Lib.Pipeline.ValueKit
public import Idealize.ShloMosaic.Lib.WritesUnit
public import proofs.«01_k».proof.Proof.Sums
public import proofs.«01_k».proof.Proof.Norm
@[expose] public section
set_option maxRecDepth 16384
noncomputable section
namespace Cert.OdInIdeal.Val
open Cert.OdInIdeal Cert.OdInIdeal.Gen Idealize.ShloMosaic Idealize.ShloMosaic.TcCoe Idealize.SL.Sem Cert.Norm

section Fwd
variable (g : Vec Ideal S1x1024 .f32) (mo ab bi : Vec Ideal S1x3072 .f32) (x : Vec Ideal S512x1024 .f32) (w : Vec Ideal S1024x3072 .bf16)
theorem pre_at (r : Fin 512) (l : Fin 1024) :
    k0_pay2 (F := Ideal) g mo ab x (ix2 r l) = pre (rw2 x r) (rw2 g 0) (part 1 (rw2 mo 0) (rw2 ab 0)) (part 0 (rw2 mo 0) (rw2 ab 0)) l := by
  unfold k0_pay2 pre hat lift part rinv ms rw2 third
  pointwise
theorem z_at (r : Fin 512) (j : Fin 3072) :
    k0_pay3 (F := Ideal) g mo ab x w (ix2 r j) = mul (rw2 w) (pre (rw2 x r) (rw2 g 0) (part 1 (rw2 mo 0) (rw2 ab 0)) (part 0 (rw2 mo 0) (rw2 ab 0))) j := by
  unfold mul
  simp only [← pre_at]
  unfold k0_pay3
  generalize k0_pay2 (F := Ideal) g mo ab x = A
  unfold rw2
  pointwise
end Fwd

section Bwd
variable (b mo ab : Vec Ideal S1x3072 .f32) (g : Vec Ideal S1x1024 .f32) (za zb u x res : Vec Ideal S256x1024 .f32) (q : Vec Ideal S256x1024 .bf16) (w : Vec Ideal S1024x3072 .bf16)
  (z : Fin 3072 → EReal) (r : Fin 256)
variable (ha : ∀ l, za (ix2 r l) = z (third 0 l)) (hb : ∀ l, zb (ix2 r l) = z (third 1 l))
theorem gate_at (l : Fin 1024) (hb : ∀ l, zb (ix2 r l) = z (third 1 l)) : k1_pay1 (F := Ideal) b zb (ix2 r l) = gate z (rw2 b 0) l := by
  unfold gate part
  rw [← hb]
  unfold k1_pay1 rw2 third
  pointwise
theorem dA_at (l : Fin 1024) (hb : ∀ l, zb (ix2 r l) = z (third 1 l)) : k1_pay2 (F := Ideal) b zb u (ix2 r l) = dA (rw2 u r) z (rw2 b 0) l := by
  unfold dA
  rw [← gate_at b zb z r l hb]
  unfold k1_pay2
  rfl
include ha hb
theorem dB_at (l : Fin 1024) : k1_pay3 (F := Ideal) b za zb u (ix2 r l) = dB (rw2 u r) z (rw2 b 0) l := by
  unfold dB part
  rw [← gate_at b zb z r l hb, ← ha]
  unfold k1_pay3
  generalize k1_pay1 (F := Ideal) b zb = A
  unfold rw2 third
  pointwise
theorem dZ_at (j : Fin 3072) : k1_pay6 (F := Ideal) b za zb u q (ix2 r j) = dZ (rw2 u r) (rw2 q r) z (rw2 b 0) j := by
  have hA := fun l => dA_at b zb u z r l hb
  have hB := fun l => dB_at b za zb u z r ha hb l
  unfold dZ
  simp only [← hA, ← hB]
  unfold k1_pay6
  generalize k1_pay2 (F := Ideal) b zb u = A
  generalize k1_pay3 (F := Ideal) b za zb u = B
  unfold rw2
  pointwise
theorem dH_at (n : Fin 1024) : k1_pay7 (F := Ideal) b za zb u q w (ix2 r n) = dH (rw2 w) (dZ (rw2 u r) (rw2 q r) z (rw2 b 0)) n := by
  have hZ := fun l => dZ_at b za zb u q z r ha hb l
  unfold dH
  simp only [← hZ]
  unfold k1_pay7
  generalize k1_pay6 (F := Ideal) b za zb u q = A
  unfold rw2
  pointwise
end Bwd

section Back
variable (mo ab : Vec Ideal S1x3072 .f32) (g : Vec Ideal S1x1024 .f32) (x res : Vec Ideal S256x1024 .f32) (d : FVec Ideal S256x1024 .f32) (r : Fin 256)
theorem ms_at : k1_pay8 (F := Ideal) x (ix2 r 0) = ms (rw2 x r) := by
  unfold k1_pay8 ms rw2
  pointwise
theorem inv_at : k1_pay9 (F := Ideal) x (ix2 r 0) = rinv (rw2 x r) := by
  unfold rinv
  rw [← ms_at]
  rfl
theorem hat_at (l : Fin 1024) : k1_pay10 (F := Ideal) x (ix2 r l) = hat (rw2 x r) l := by
  unfold hat
  rw [← inv_at]
  unfold k1_pay10
  generalize k1_pay9 (F := Ideal) x = A
  unfold rw2
  pointwise
theorem lift_at (l : Fin 1024) : k1_pay13 (F := Ideal) mo ab d (ix2 r l) = d (ix2 r l) * lift (part 1 (rw2 mo 0) (rw2 ab 0)) l := by
  unfold k1_pay13 lift part rw2 third
  pointwise
theorem thru_at (l : Fin 1024) : k1_pay15 (F := Ideal) g mo ab d (ix2 r l) = thru (rw2 g 0) (part 1 (rw2 mo 0) (rw2 ab 0)) (rw2 d r) l := by
  unfold thru
  rw [show rw2 d r l = d (ix2 r l) from rfl, ← lift_at]
  unfold k1_pay15
  generalize k1_pay13 (F := Ideal) mo ab d = A
  unfold rw2
  pointwise
theorem curv_at (l : Fin 1024) : k1_pay16 (F := Ideal) g mo ab d x (ix2 r l) = curv (rw2 x r) (thru (rw2 g 0) (part 1 (rw2 mo 0) (rw2 ab 0)) (rw2 d r)) := by
  unfold curv
  simp only [← thru_at]
  rw [← inv_at, ← ms_at]
  unfold k1_pay16
  generalize k1_pay15 (F := Ideal) g mo ab d = A
  generalize k1_pay9 (F := Ideal) x = B
  generalize k1_pay8 (F := Ideal) x = C
  unfold rw2
  pointwise
  exact Fin.sum_univ_one _
theorem back_at (l : Fin 1024) : k1_pay19 (F := Ideal) res (k1_pay17 g mo ab d x) (k1_pay18 g mo ab d x) (ix2 r l)
    = back (rw2 x r) (rw2 g 0) (part 1 (rw2 mo 0) (rw2 ab 0)) (rw2 d r) (rw2 res r) l := by
  unfold back
  rw [← curv_at mo ab g x d r l, ← thru_at, ← inv_at]
  unfold k1_pay19 k1_pay17 k1_pay18
  generalize k1_pay15 (F := Ideal) g mo ab d = A
  generalize k1_pay9 (F := Ideal) x = B
  generalize k1_pay16 (F := Ideal) g mo ab d x = C
  unfold rw2
  pointwise
end Back
end Cert.OdInIdeal.Val
-- ==== Proof.OdInArr.lean ====
module
public import proofs.«01_k».proof.Proof.OdInBody
@[expose] public section
set_option maxRecDepth 16384
noncomputable section
namespace Cert.OdInIdeal.Val
open Cert.OdInIdeal Cert.OdInIdeal.Gen Idealize.ShloMosaic Idealize.ShloMosaic.TcCoe Idealize.SL.Sem Cert.Norm

variable (V : (c : Dev nD) → (b : Ref sig .tc) → Buf (Elt Ideal) ((c : Thread nD τ).loc b)) (c : Dev nD)

/-- The row of the arrays that row `r` of a grid point's blocks is: blocks of 512 rows in the first call, of 256 in the second. -/
def row0 (t : Fin cfg0.N) (r : Fin 512) : Fin 8192 := ⟨t.val * 512 + r.val, by have h : t.val < 16 := t.isLt; omega⟩
def row1 (t : Fin cfg1.N) (r : Fin 256) : Fin 8192 := ⟨t.val * 256 + r.val, by have h : t.val < 32 := t.isLt; omega⟩

section First
theorem at0_0 : ∀ t : Fin cfg0.N, win0_0.index t = ![t.val, 0] := by decide +kernel
theorem at0_1 : ∀ t : Fin cfg0.N, win0_1.index t = ![0, 0] := by decide +kernel
theorem at0_2 : ∀ t : Fin cfg0.N, win0_2.index t = ![0, 0] := by decide +kernel
theorem at0_3 : ∀ t : Fin cfg0.N, win0_3.index t = ![0, 0] := by decide +kernel
theorem at0_5 : ∀ t : Fin cfg0.N, win0_5.index t = ![0, 0] := by decide +kernel
theorem at0_7 : ∀ t : Fin cfg0.N, win0_7.index t = ![t.val, 0] := by decide +kernel
variable (t : Fin cfg0.N) (r : Fin 512)
theorem in0_0 : rw2 (iblk0 V c 0 t : Vec Ideal S512x1024 .f32) r = rw2 (V c main_arg0 : Vec Ideal S8192x1024 .f32) (row0 t r) := by
  funext l
  refine congrArg (V c main_arg0) ?_
  unfold row0
  blk_ext! [at0_0]
theorem in0_1 : rw2 (iblk0 V c 1 t : Vec Ideal S1x1024 .f32) 0 = rw2 (V c main_arg1 : Vec Ideal S1x1024 .f32) 0 := by
  funext l
  refine congrArg (V c main_arg1) ?_
  blk_ext! [at0_1]
theorem in0_2 : rw2 (iblk0 V c 2 t : Vec Ideal S1x3072 .f32) 0 = rw2 (V c main_arg2 : Vec Ideal S1x3072 .f32) 0 := by
  funext l
  refine congrArg (V c main_arg2) ?_
  blk_ext! [at0_2]
theorem in0_3 : rw2 (iblk0 V c 3 t : Vec Ideal S1x3072 .f32) 0 = rw2 (V c main_arg3 : Vec Ideal S1x3072 .f32) 0 := by
  funext l
  refine congrArg (V c main_arg3) ?_
  blk_ext! [at0_3]
theorem in0_5 : rw2 (iblk0 V c 5 t : Vec Ideal S1024x3072 .bf16) = rw2 (V c main_v0 : Vec Ideal S1024x3072 .bf16) := by
  funext n l
  refine congrArg (V c main_v0) ?_
  blk_ext! [at0_5]
theorem emb0_7 (l : Fin 3072) : (win0_7.blk t).view.emb (ix2 r l) = ix2 (row0 t r) l := by
  unfold row0
  blk_ext! [at0_7]
/-- The projected rows. -/
def zRow (X : Vec Ideal S8192x1024 .f32) (g : Vec Ideal S1x1024 .f32) (mo ab : Vec Ideal S1x3072 .f32) (w : Vec Ideal S1024x3072 .bf16) (i : Fin 8192) : Fin 3072 → EReal :=
  mul (rw2 w) (pre (rw2 X i) (rw2 g 0) (part 1 (rw2 mo 0) (rw2 ab 0)) (part 0 (rw2 mo 0) (rw2 ab 0)))
def zArr (X : Vec Ideal S8192x1024 .f32) (g : Vec Ideal S1x1024 .f32) (mo ab : Vec Ideal S1x3072 .f32) (w : Vec Ideal S1024x3072 .bf16) : Vec Ideal S8192x3072 .f32 :=
  fun y => zRow X g mo ab w (y 0) (y 1)
theorem z_blk (l : Fin 3072) : out0_7 (iblk0 V c 0 t) (iblk0 V c 1 t) (iblk0 V c 2 t) (iblk0 V c 3 t) (iblk0 V c 4 t) (iblk0 V c 5 t) (ix2 r l)
    = zArr (V c main_arg0) (V c main_arg1) (V c main_arg2) (V c main_arg3) (V c main_v0) ((win0_7.blk t).view.emb (ix2 r l)) := by
  rw [emb0_7]
  have h : out0_7 (iblk0 V c 0 t) (iblk0 V c 1 t) (iblk0 V c 2 t) (iblk0 V c 3 t) (iblk0 V c 4 t) (iblk0 V c 5 t) (ix2 r l)
      = k0_pay3 (F := Ideal) (iblk0 V c 1 t) (iblk0 V c 2 t) (iblk0 V c 3 t) (iblk0 V c 0 t) (iblk0 V c 5 t) (ix2 r l) := by
    frame_out
  rw [h, z_at, in0_0, in0_1, in0_2, in0_3, in0_5]
  rfl
theorem z_whole (G : FVec Ideal S8192x3072 .f32) (hG : ∀ (t : Fin cfg0.N) (r : Fin 512) (l : Fin 3072), out0_7 (iblk0 V c 0 t) (iblk0 V c 1 t) (iblk0 V c 2 t) (iblk0 V c 3 t) (iblk0 V c 4 t) (iblk0 V c 5 t) (ix2 r l) = G ((win0_7.blk t).view.emb (ix2 r l))) : (dat0 V c).arrAt 7 cfg0.N = G := by
  refine (dat0 V c).arrAt_eq_of_covers 7 _ (by decide +kernel) fun t hf y => ?_
  obtain ⟨r, l, rfl⟩ : ∃ (r : Fin 512) (l : Fin 3072), y = ix2 r l := ⟨y 0, y 1, eq_ix2 y⟩
  exact (congrFun (after0_7 V c t) (ix2 r l)).trans (hG t r l)
/-- What the first call leaves in its second result. -/
theorem z_arr : (dat0 V c).arrAt 7 cfg0.N = zArr (V c main_arg0) (V c main_arg1) (V c main_arg2) (V c main_arg3) (V c main_v0) := z_whole V c _ (z_blk V c)
end First

section Second
theorem at1_0 : ∀ t : Fin cfg1.N, win1_0.index t = ![t.val, 0] := by decide +kernel
theorem at1_1 : ∀ t : Fin cfg1.N, win1_1.index t = ![t.val, 1] := by decide +kernel
theorem at1_2 : ∀ t : Fin cfg1.N, win1_2.index t = ![t.val, 0] := by decide +kernel
theorem at1_3 : ∀ t : Fin cfg1.N, win1_3.index t = ![t.val, 0] := by decide +kernel
theorem at1_4 : ∀ t : Fin cfg1.N, win1_4.index t = ![t.val, 0] := by decide +kernel
theorem at1_5 : ∀ t : Fin cfg1.N, win1_5.index t = ![t.val, 0] := by decide +kernel
theorem at1_6 : ∀ t : Fin cfg1.N, win1_6.index t = ![0, 0] := by decide +kernel
theorem at1_7 : ∀ t : Fin cfg1.N, win1_7.index t = ![0, 0] := by decide +kernel
theorem at1_8 : ∀ t : Fin cfg1.N, win1_8.index t = ![0, 0] := by decide +kernel
theorem at1_9 : ∀ t : Fin cfg1.N, win1_9.index t = ![0, 0] := by decide +kernel
theorem at1_10 : ∀ t : Fin cfg1.N, win1_10.index t = ![0, 0] := by decide +kernel
theorem at1_11 : ∀ t : Fin cfg1.N, win1_11.index t = ![t.val, 0] := by decide +kernel
theorem at1_12 : ∀ t : Fin cfg1.N, win1_12.index t = ![t.val, 0] := by decide +kernel
variable (t : Fin cfg1.N) (r : Fin 256)
theorem in1_0 (l : Fin 1024) : (iblk1 V c 0 t : Vec Ideal S256x1024 .f32) (ix2 r l) = rw2 (V c main_v1_1 : Vec Ideal S8192x3072 .f32) (row1 t r) (third 0 l) := by
  refine congrArg (V c main_v1_1) ?_
  unfold row1 third
  blk_ext! [at1_0]
theorem in1_1 (l : Fin 1024) : (iblk1 V c 1 t : Vec Ideal S256x1024 .f32) (ix2 r l) = rw2 (V c main_v1_1 : Vec Ideal S8192x3072 .f32) (row1 t r) (third 1 l) := by
  refine congrArg (V c main_v1_1) ?_
  unfold row1 third
  blk_ext! [at1_1]
theorem in1_2 : rw2 (iblk1 V c 2 t : Vec Ideal S256x1024 .f32) r = rw2 (V c main_arg6 : Vec Ideal S8192x1024 .f32) (row1 t r) := by
  funext l
  refine congrArg (V c main_arg6) ?_
  unfold row1
  blk_ext! [at1_2]
theorem in1_3 : rw2 (iblk1 V c 3 t : Vec Ideal S256x1024 .bf16) r = rw2 (V c main_v2 : Vec Ideal S8192x1024 .bf16) (row1 t r) := by
  funext l
  refine congrArg (V c main_v2) ?_
  unfold row1
  blk_ext! [at1_3]
theorem in1_4 : rw2 (iblk1 V c 4 t : Vec Ideal S256x1024 .f32) r = rw2 (V c main_arg0 : Vec Ideal S8192x1024 .f32) (row1 t r) := by
  funext l
  refine congrArg (V c main_arg0) ?_
  unfold row1
  blk_ext! [at1_4]
theorem in1_5 : rw2 (iblk1 V c 5 t : Vec Ideal S256x1024 .f32) r = rw2 (V c main_arg8 : Vec Ideal S8192x1024 .f32) (row1 t r) := by
  funext l
  refine congrArg (V c main_arg8) ?_
  unfold row1
  blk_ext! [at1_5]
theorem in1_6 : rw2 (iblk1 V c 6 t : Vec Ideal S1x3072 .f32) 0 = rw2 (V c main_arg5 : Vec Ideal S1x3072 .f32) 0 := by
  funext l
  refine congrArg (V c main_arg5) ?_
  blk_ext! [at1_6]
theorem in1_7 : rw2 (iblk1 V c 7 t : Vec Ideal S1x1024 .f32) 0 = rw2 (V c main_arg1 : Vec Ideal S1x1024 .f32) 0 := by
  funext l
  refine congrArg (V c main_arg1) ?_
  blk_ext! [at1_7]
theorem in1_8 : rw2 (iblk1 V c 8 t : Vec Ideal S1x3072 .f32) 0 = rw2 (V c main_arg2 : Vec Ideal S1x3072 .f32) 0 := by
  funext l
  refine congrArg (V c main_arg2) ?_
  blk_ext! [at1_8]
theorem in1_9 : rw2 (iblk1 V c 9 t : Vec Ideal S1x3072 .f32) 0 = rw2 (V c main_arg3 : Vec Ideal S1x3072 .f32) 0 := by
  funext l
  refine congrArg (V c main_arg3) ?_
  blk_ext! [at1_9]
theorem in1_10 : rw2 (iblk1 V c 10 t : Vec Ideal S1024x3072 .bf16) = rw2 (V c main_v3 : Vec Ideal S1024x3072 .bf16) := by
  funext n l
  refine congrArg (V c main_v3) ?_
  blk_ext! [at1_10]
theorem emb1_11 (l : Fin 3072) : (win1_11.blk t).view.emb (ix2 r l) = ix2 (row1 t r) l := by
  unfold row1
  blk_ext! [at1_11]
theorem emb1_12 (l : Fin 1024) : (win1_12.blk t).view.emb (ix2 r l) = ix2 (row1 t r) l := by
  unfold row1
  blk_ext! [at1_12]
end Second
end Cert.OdInIdeal.Val
-- ==== Proof.OdInOut.lean ====
module
public import proofs.«01_k».proof.Proof.OdInArr
public import proofs.«01_k».proof.Proof.MidMath
@[expose] public section
set_option maxRecDepth 16384
noncomputable section
namespace Cert.OdInIdeal.Val
open Cert.OdInIdeal Cert.OdInIdeal.Gen Idealize.ShloMosaic Idealize.ShloMosaic.TcCoe Idealize.SL.Sem Cert.Norm

section Sums
variable (b mo ab : Vec Ideal S1x3072 .f32) (g p : Vec Ideal S1x1024 .f32) (s : FVec Ideal S1x1024 .f32) (za zb u x : Vec Ideal S256x1024 .f32) (d : FVec Ideal S256x1024 .f32) (l : Fin 1024)
theorem add13 : k1_pay25 (F := Ideal) s p (ix2 0 l) = p (ix2 0 l) + s (ix2 0 l) := by
  unfold k1_pay25
  pointwise
theorem add14 : k1_pay26 (F := Ideal) s p (ix2 0 l) = p (ix2 0 l) + s (ix2 0 l) := by
  unfold k1_pay26
  pointwise
theorem add15 : k1_pay27 (F := Ideal) s p (ix2 0 l) = p (ix2 0 l) + s (ix2 0 l) := by
  unfold k1_pay27
  pointwise
theorem add16 : k1_pay28 (F := Ideal) s p (ix2 0 l) = p (ix2 0 l) + s (ix2 0 l) := by
  unfold k1_pay28
  pointwise
theorem add17 : k1_pay29 (F := Ideal) s p (ix2 0 l) = p (ix2 0 l) + s (ix2 0 l) := by
  unfold k1_pay29
  pointwise
theorem sum13 : k1_pay5 (F := Ideal) b zb u (ix2 0 l) = ∑ r : Fin 256, k1_pay2 (F := Ideal) b zb u (ix2 r l) := by
  unfold k1_pay5
  generalize k1_pay2 (F := Ideal) b zb u = A
  pointwise
theorem sum14 : k1_pay4 (F := Ideal) b za zb u (ix2 0 l) = ∑ r : Fin 256, k1_pay3 (F := Ideal) b za zb u (ix2 r l) := by
  unfold k1_pay4
  generalize k1_pay3 (F := Ideal) b za zb u = A
  pointwise
theorem sum15 : k1_pay14 (F := Ideal) mo ab d x (ix2 0 l) = ∑ r : Fin 256, hat (rw2 x r) l * (d (ix2 r l) * lift (part 1 (rw2 mo 0) (rw2 ab 0)) l) := by
  simp only [← lift_at, ← hat_at]
  unfold k1_pay14
  generalize k1_pay10 (F := Ideal) x = A
  generalize k1_pay13 (F := Ideal) mo ab d = B
  pointwise
theorem sum16 : k1_pay12 (F := Ideal) g d x (ix2 0 l) = ∑ r : Fin 256, hat (rw2 x r) l * g (ix2 0 l) * d (ix2 r l) := by
  simp only [← hat_at]
  unfold k1_pay12
  generalize k1_pay10 (F := Ideal) x = A
  pointwise
theorem sum17 : k1_pay11 (F := Ideal) d (ix2 0 l) = ∑ r : Fin 256, d (ix2 r l) := by
  unfold k1_pay11
  pointwise
end Sums

section Rows
variable (Z : Vec Ideal S8192x3072 .f32) (b mo ab : Vec Ideal S1x3072 .f32) (g : Vec Ideal S1x1024 .f32) (U X R : Vec Ideal S8192x1024 .f32) (Q : Vec Ideal S8192x1024 .bf16) (w : Vec Ideal S1024x3072 .bf16)
/-- The gradients of a row's three parts, and of its normed row. -/
def gz (i : Fin 8192) : Fin 3072 → EReal := dZ (rw2 U i) (rw2 Q i) (rw2 Z i) (rw2 b 0)
def gh (i : Fin 8192) : Fin 1024 → EReal := dH (rw2 w) (gz Z b U Q i)
/-- The gradient of a row, behind gate, product and norm. -/
def gx (i : Fin 8192) : Fin 1024 → EReal := back (rw2 X i) (rw2 g 0) (part 1 (rw2 mo 0) (rw2 ab 0)) (gh Z b U Q w i) (rw2 R i)
/-- What a row adds to the gradients of the two biases, of the gain, of the scale and of the shift. -/
def a13 (i : Fin 8192) : Fin 1024 → EReal := dA (rw2 U i) (rw2 Z i) (rw2 b 0)
def a14 (i : Fin 8192) : Fin 1024 → EReal := dB (rw2 U i) (rw2 Z i) (rw2 b 0)
def a15 (i : Fin 8192) (l : Fin 1024) : EReal := hat (rw2 X i) l * (gh Z b U Q w i l * lift (part 1 (rw2 mo 0) (rw2 ab 0)) l)
def a16 (i : Fin 8192) (l : Fin 1024) : EReal := hat (rw2 X i) l * g (ix2 0 l) * gh Z b U Q w i l
def a17 (i : Fin 8192) : Fin 1024 → EReal := gh Z b U Q w i
end Rows

variable (V : (c : Dev nD) → (b : Ref sig .tc) → Buf (Elt Ideal) ((c : Thread nD τ).loc b)) (c : Dev nD)
abbrev vZ : Vec Ideal S8192x3072 .f32 := V c main_v1_1
abbrev vb : Vec Ideal S1x3072 .f32 := V c main_arg5
abbrev vmo : Vec Ideal S1x3072 .f32 := V c main_arg2
abbrev vab : Vec Ideal S1x3072 .f32 := V c main_arg3
abbrev vg : Vec Ideal S1x1024 .f32 := V c main_arg1
abbrev vU : Vec Ideal S8192x1024 .f32 := V c main_arg6
abbrev vX : Vec Ideal S8192x1024 .f32 := V c main_arg0
abbrev vR : Vec Ideal S8192x1024 .f32 := V c main_arg8
abbrev vQ : Vec Ideal S8192x1024 .bf16 := V c main_v2
abbrev vw : Vec Ideal S1024x3072 .bf16 := V c main_v3

section Points
variable (t : Fin cfg1.N) (r : Fin 256)
theorem gz_at (j : Fin 3072) : k1_pay6 (F := Ideal) (iblk1 V c 6 t) (iblk1 V c 0 t) (iblk1 V c 1 t) (iblk1 V c 2 t) (iblk1 V c 3 t) (ix2 r j)
    = gz (vZ V c) (vb V c) (vU V c) (vQ V c) (row1 t r) j := by
  rw [dZ_at _ _ _ _ _ _ _ (in1_0 V c t r) (in1_1 V c t r), in1_2, in1_3, in1_6]
  rfl
theorem gh_at (n : Fin 1024) : k1_pay7 (F := Ideal) (iblk1 V c 6 t) (iblk1 V c 0 t) (iblk1 V c 1 t) (iblk1 V c 2 t) (iblk1 V c 3 t) (iblk1 V c 10 t) (ix2 r n)
    = gh (vZ V c) (vb V c) (vU V c) (vQ V c) (vw V c) (row1 t r) n := by
  rw [dH_at _ _ _ _ _ _ _ _ (in1_0 V c t r) (in1_1 V c t r), in1_2, in1_3, in1_6, in1_10]
  rfl
theorem gh_row : rw2 (k1_pay7 (F := Ideal) (iblk1 V c 6 t) (iblk1 V c 0 t) (iblk1 V c 1 t) (iblk1 V c 2 t) (iblk1 V c 3 t) (iblk1 V c 10 t)) r
    = gh (vZ V c) (vb V c) (vU V c) (vQ V c) (vw V c) (row1 t r) := funext fun n => gh_at V c t r n
theorem gx_at (l : Fin 1024) : k1_pay19 (F := Ideal) (iblk1 V c 5 t)
      (k1_pay17 (iblk1 V c 7 t) (iblk1 V c 8 t) (iblk1 V c 9 t) (k1_pay7 (iblk1 V c 6 t) (iblk1 V c 0 t) (iblk1 V c 1 t) (iblk1 V c 2 t) (iblk1 V c 3 t) (iblk1 V c 10 t)) (iblk1 V c 4 t))
      (k1_pay18 (iblk1 V c 7 t) (iblk1 V c 8 t) (iblk1 V c 9 t) (k1_pay7 (iblk1 V c 6 t) (iblk1 V c 0 t) (iblk1 V c 1 t) (iblk1 V c 2 t) (iblk1 V c 3 t) (iblk1 V c 10 t)) (iblk1 V c 4 t)) (ix2 r l)
    = gx (vZ V c) (vb V c) (vmo V c) (vab V c) (vg V c) (vU V c) (vX V c) (vR V c) (vQ V c) (vw V c) (row1 t r) l := by
  rw [back_at, gh_row, in1_4, in1_5, in1_7, in1_8, in1_9]
  rfl
theorem t13 (l : Fin 1024) : k1_pay5 (F := Ideal) (iblk1 V c 6 t) (iblk1 V c 1 t) (iblk1 V c 2 t) (ix2 0 l) = ∑ r : Fin 256, a13 (vZ V c) (vb V c) (vU V c) (row1 t r) l := by
  rw [sum13]
  refine Finset.sum_congr rfl fun r _ => ?_
  rw [dA_at _ _ _ _ _ _ (in1_1 V c t r), in1_2, in1_6]
  rfl
theorem t14 (l : Fin 1024) : k1_pay4 (F := Ideal) (iblk1 V c 6 t) (iblk1 V c 0 t) (iblk1 V c 1 t) (iblk1 V c 2 t) (ix2 0 l) = ∑ r : Fin 256, a14 (vZ V c) (vb V c) (vU V c) (row1 t r) l := by
  rw [sum14]
  refine Finset.sum_congr rfl fun r _ => ?_
  rw [dB_at _ _ _ _ _ _ (in1_0 V c t r) (in1_1 V c t r), in1_2, in1_6]
  rfl
theorem t15 (l : Fin 1024) : k1_pay14 (F := Ideal) (iblk1 V c 8 t) (iblk1 V c 9 t) (k1_pay7 (iblk1 V c 6 t) (iblk1 V c 0 t) (iblk1 V c 1 t) (iblk1 V c 2 t) (iblk1 V c 3 t) (iblk1 V c 10 t)) (iblk1 V c 4 t) (ix2 0 l)
    = ∑ r : Fin 256, a15 (vZ V c) (vb V c) (vmo V c) (vab V c) (vU V c) (vX V c) (vQ V c) (vw V c) (row1 t r) l := by
  rw [sum15]
  refine Finset.sum_congr rfl fun r _ => ?_
  rw [gh_at, in1_4, in1_8, in1_9]
  rfl
theorem t16 (l : Fin 1024) : k1_pay12 (F := Ideal) (iblk1 V c 7 t) (k1_pay7 (iblk1 V c 6 t) (iblk1 V c 0 t) (iblk1 V c 1 t) (iblk1 V c 2 t) (iblk1 V c 3 t) (iblk1 V c 10 t)) (iblk1 V c 4 t) (ix2 0 l)
    = ∑ r : Fin 256, a16 (vZ V c) (vb V c) (vg V c) (vU V c) (vX V c) (vQ V c) (vw V c) (row1 t r) l := by
  rw [sum16]
  refine Finset.sum_congr rfl fun r _ => ?_
  rw [gh_at, in1_4, show (iblk1 V c 7 t : Vec Ideal S1x1024 .f32) (ix2 0 l) = vg V c (ix2 0 l) from congrFun (in1_7 V c t) l]
  rfl
theorem t17 (l : Fin 1024) : k1_pay11 (F := Ideal) (k1_pay7 (iblk1 V c 6 t) (iblk1 V c 0 t) (iblk1 V c 1 t) (iblk1 V c 2 t) (iblk1 V c 3 t) (iblk1 V c 10 t)) (ix2 0 l)
    = ∑ r : Fin 256, a17 (vZ V c) (vb V c) (vU V c) (vQ V c) (vw V c) (row1 t r) l := by
  rw [sum17]
  exact Finset.sum_congr rfl fun r _ => gh_at V c t r l
end Points

section Left
variable (t : Fin cfg1.N)
theorem left11 (y) : (outsAt1 V c t.val t.isLt).1 y = k1_pay6 (F := Ideal) (iblk1 V c 6 t) (iblk1 V c 0 t) (iblk1 V c 1 t) (iblk1 V c 2 t) (iblk1 V c 3 t) y := by
  by_cases h0 : t.val % 32 = 0
  · rw [outsAt1_A V c t h0]
    dsimp only
    frame_out
  · rw [outsAt1_B V c t h0]
    dsimp only
    frame_out
theorem left12 (y) : (outsAt1 V c t.val t.isLt).2.1 y = k1_pay19 (F := Ideal) (iblk1 V c 5 t) (k1_pay17 (iblk1 V c 7 t) (iblk1 V c 8 t) (iblk1 V c 9 t) (k1_pay7 (F := Ideal) (iblk1 V c 6 t) (iblk1 V c 0 t) (iblk1 V c 1 t) (iblk1 V c 2 t) (iblk1 V c 3 t) (iblk1 V c 10 t)) (iblk1 V c 4 t)) (k1_pay18 (iblk1 V c 7 t) (iblk1 V c 8 t) (iblk1 V c 9 t) (k1_pay7 (F := Ideal) (iblk1 V c 6 t) (iblk1 V c 0 t) (iblk1 V c 1 t) (iblk1 V c 2 t) (iblk1 V c 3 t) (iblk1 V c 10 t)) (iblk1 V c 4 t)) y := by
  by_cases h0 : t.val % 32 = 0
  · rw [outsAt1_A V c t h0]
    dsimp only
    frame_out
  · rw [outsAt1_B V c t h0]
    dsimp only
    frame_out
theorem first13 (h0 : t.val % 32 = 0) (l : Fin 1024) : (outsAt1 V c t.val t.isLt).2.2.1 (ix2 0 l) = (fun _ : Fin 1024 => (0 : EReal)) l + ∑ r : Fin 256, a13 (vZ V c) (vb V c) (vU V c) (row1 t r) l := by
  have e : (outsAt1 V c t.val t.isLt).2.2.1 (ix2 0 l) = k1_pay25 (F := Ideal) (k1_pay5 (F := Ideal) (iblk1 V c 6 t) (iblk1 V c 1 t) (iblk1 V c 2 t)) (k1_pay20 (F := Ideal)) (ix2 0 l) := by
    rw [outsAt1_A V c t h0]
    dsimp only
    frame_out
  rw [e, add13, t13]
  exact congrArg (· + _) Ideal.ofBits_zero_f32
theorem next13 (h0 : ¬t.val % 32 = 0) (l : Fin 1024) : (outsAt1 V c t.val t.isLt).2.2.1 (ix2 0 l)
    = (outsAt1 V c (t.val - 1) (Nat.lt_of_le_of_lt (Nat.sub_le _ _) t.isLt)).2.2.1 (ix2 0 l) + ∑ r : Fin 256, a13 (vZ V c) (vb V c) (vU V c) (row1 t r) l := by
  have e : (outsAt1 V c t.val t.isLt).2.2.1 (ix2 0 l)
      = k1_pay25 (F := Ideal) (k1_pay5 (F := Ideal) (iblk1 V c 6 t) (iblk1 V c 1 t) (iblk1 V c 2 t)) (outsAt1 V c (t.val - 1) (Nat.lt_of_le_of_lt (Nat.sub_le _ _) t.isLt)).2.2.1 (ix2 0 l) := by
    rw [outsAt1_B V c t h0]
    dsimp only
    frame_out
  rw [e, add13, t13]
theorem first14 (h0 : t.val % 32 = 0) (l : Fin 1024) : (outsAt1 V c t.val t.isLt).2.2.2.1 (ix2 0 l) = (fun _ : Fin 1024 => (0 : EReal)) l + ∑ r : Fin 256, a14 (vZ V c) (vb V c) (vU V c) (row1 t r) l := by
  have e : (outsAt1 V c t.val t.isLt).2.2.2.1 (ix2 0 l) = k1_pay26 (F := Ideal) (k1_pay4 (F := Ideal) (iblk1 V c 6 t) (iblk1 V c 0 t) (iblk1 V c 1 t) (iblk1 V c 2 t)) (k1_pay21 (F := Ideal)) (ix2 0 l) := by
    rw [outsAt1_A V c t h0]
    dsimp only
    frame_out
  rw [e, add14, t14]
  exact congrArg (· + _) Ideal.ofBits_zero_f32
theorem next14 (h0 : ¬t.val % 32 = 0) (l : Fin 1024) : (outsAt1 V c t.val t.isLt).2.2.2.1 (ix2 0 l)
    = (outsAt1 V c (t.val - 1) (Nat.lt_of_le_of_lt (Nat.sub_le _ _) t.isLt)).2.2.2.1 (ix2 0 l) + ∑ r : Fin 256, a14 (vZ V c) (vb V c) (vU V c) (row1 t r) l := by
  have e : (outsAt1 V c t.val t.isLt).2.2.2.1 (ix2 0 l)
      = k1_pay26 (F := Ideal) (k1_pay4 (F := Ideal) (iblk1 V c 6 t) (iblk1 V c 0 t) (iblk1 V c 1 t) (iblk1 V c 2 t)) (outsAt1 V c (t.val - 1) (Nat.lt_of_le_of_lt (Nat.sub_le _ _) t.isLt)).2.2.2.1 (ix2 0 l) := by
    rw [outsAt1_B V c t h0]
    dsimp only
    frame_out
  rw [e, add14, t14]
theorem first15 (h0 : t.val % 32 = 0) (l : Fin 1024) : (outsAt1 V c t.val t.isLt).2.2.2.2.1 (ix2 0 l) = (fun _ : Fin 1024 => (0 : EReal)) l + ∑ r : Fin 256, a15 (vZ V c) (vb V c) (vmo V c) (vab V c) (vU V c) (vX V c) (vQ V c) (vw V c) (row1 t r) l := by
  have e : (outsAt1 V c t.val t.isLt).2.2.2.2.1 (ix2 0 l) = k1_pay27 (F := Ideal) (k1_pay14 (F := Ideal) (iblk1 V c 8 t) (iblk1 V c 9 t) (k1_pay7 (F := Ideal) (iblk1 V c 6 t) (iblk1 V c 0 t) (iblk1 V c 1 t) (iblk1 V c 2 t) (iblk1 V c 3 t) (iblk1 V c 10 t)) (iblk1 V c 4 t)) (k1_pay22 (F := Ideal)) (ix2 0 l) := by
    rw [outsAt1_A V c t h0]
    dsimp only
    frame_out
  rw [e, add15, t15]
  exact congrArg (· + _) Ideal.ofBits_zero_f32
theorem next15 (h0 : ¬t.val % 32 = 0) (l : Fin 1024) : (outsAt1 V c t.val t.isLt).2.2.2.2.1 (ix2 0 l)
    = (outsAt1 V c (t.val - 1) (Nat.lt_of_le_of_lt (Nat.sub_le _ _) t.isLt)).2.2.2.2.1 (ix2 0 l) + ∑ r : Fin 256, a15 (vZ V c) (vb V c) (vmo V c) (vab V c) (vU V c) (vX V c) (vQ V c) (vw V c) (row1 t r) l := by
  have e : (outsAt1 V c t.val t.isLt).2.2.2.2.1 (ix2 0 l)
      = k1_pay27 (F := Ideal) (k1_pay14 (F := Ideal) (iblk1 V c 8 t) (iblk1 V c 9 t) (k1_pay7 (F := Ideal) (iblk1 V c 6 t) (iblk1 V c 0 t) (iblk1 V c 1 t) (iblk1 V c 2 t) (iblk1 V c 3 t) (iblk1 V c 10 t)) (iblk1 V c 4 t)) (outsAt1 V c (t.val - 1) (Nat.lt_of_le_of_lt (Nat.sub_le _ _) t.isLt)).2.2.2.2.1 (ix2 0 l) := by
    rw [outsAt1_B V c t h0]
    dsimp only
    frame_out
  rw [e, add15, t15]
theorem first16 (h0 : t.val % 32 = 0) (l : Fin 1024) : (outsAt1 V c t.val t.isLt).2.2.2.2.2.1 (ix2 0 l) = (fun _ : Fin 1024 => (0 : EReal)) l + ∑ r : Fin 256, a16 (vZ V c) (vb V c) (vg V c) (vU V c) (vX V c) (vQ V c) (vw V c) (row1 t r) l := by
  have e : (outsAt1 V c t.val t.isLt).2.2.2.2.2.1 (ix2 0 l) = k1_pay28 (F := Ideal) (k1_pay12 (F := Ideal) (iblk1 V c 7 t) (k1_pay7 (F := Ideal) (iblk1 V c 6 t) (iblk1 V c 0 t) (iblk1 V c 1 t) (iblk1 V c 2 t) (iblk1 V c 3 t) (iblk1 V c 10 t)) (iblk1 V c 4 t)) (k1_pay23 (F := Ideal)) (ix2 0 l) := by
    rw [outsAt1_A V c t h0]
    dsimp only
    frame_out
  rw [e, add16, t16]
  exact congrArg (· + _) Ideal.ofBits_zero_f32
theorem next16 (h0 : ¬t.val % 32 = 0) (l : Fin 1024) : (outsAt1 V c t.val t.isLt).2.2.2.2.2.1 (ix2 0 l)
    = (outsAt1 V c (t.val - 1) (Nat.lt_of_le_of_lt (Nat.sub_le _ _) t.isLt)).2.2.2.2.2.1 (ix2 0 l) + ∑ r : Fin 256, a16 (vZ V c) (vb V c) (vg V c) (vU V c) (vX V c) (vQ V c) (vw V c) (row1 t r) l := by
  have e : (outsAt1 V c t.val t.isLt).2.2.2.2.2.1 (ix2 0 l)
      = k1_pay28 (F := Ideal) (k1_pay12 (F := Ideal) (iblk1 V c 7 t) (k1_pay7 (F := Ideal) (iblk1 V c 6 t) (iblk1 V c 0 t) (iblk1 V c 1 t) (iblk1 V c 2 t) (iblk1 V c 3 t) (iblk1 V c 10 t)) (iblk1 V c 4 t)) (outsAt1 V c (t.val - 1) (Nat.lt_of_le_of_lt (Nat.sub_le _ _) t.isLt)).2.2.2.2.2.1 (ix2 0 l) := by
    rw [outsAt1_B V c t h0]
    dsimp only
    frame_out
  rw [e, add16, t16]
theorem first17 (h0 : t.val % 32 = 0) (l : Fin 1024) : (outsAt1 V c t.val t.isLt).2.2.2.2.2.2 (ix2 0 l) = (fun _ : Fin 1024 => (0 : EReal)) l + ∑ r : Fin 256, a17 (vZ V c) (vb V c) (vU V c) (vQ V c) (vw V c) (row1 t r) l := by
  have e : (outsAt1 V c t.val t.isLt).2.2.2.2.2.2 (ix2 0 l) = k1_pay29 (F := Ideal) (k1_pay11 (F := Ideal) (k1_pay7 (F := Ideal) (iblk1 V c 6 t) (iblk1 V c 0 t) (iblk1 V c 1 t) (iblk1 V c 2 t) (iblk1 V c 3 t) (iblk1 V c 10 t))) (k1_pay24 (F := Ideal)) (ix2 0 l) := by
    rw [outsAt1_A V c t h0]
    dsimp only
    frame_out
  rw [e, add17, t17]
  exact congrArg (· + _) Ideal.ofBits_zero_f32
theorem next17 (h0 : ¬t.val % 32 = 0) (l : Fin 1024) : (outsAt1 V c t.val t.isLt).2.2.2.2.2.2 (ix2 0 l)
    = (outsAt1 V c (t.val - 1) (Nat.lt_of_le_of_lt (Nat.sub_le _ _) t.isLt)).2.2.2.2.2.2 (ix2 0 l) + ∑ r : Fin 256, a17 (vZ V c) (vb V c) (vU V c) (vQ V c) (vw V c) (row1 t r) l := by
  have e : (outsAt1 V c t.val t.isLt).2.2.2.2.2.2 (ix2 0 l)
      = k1_pay29 (F := Ideal) (k1_pay11 (F := Ideal) (k1_pay7 (F := Ideal) (iblk1 V c 6 t) (iblk1 V c 0 t) (iblk1 V c 1 t) (iblk1 V c 2 t) (iblk1 V c 3 t) (iblk1 V c 10 t))) (outsAt1 V c (t.val - 1) (Nat.lt_of_le_of_lt (Nat.sub_le _ _) t.isLt)).2.2.2.2.2.2 (ix2 0 l) := by
    rw [outsAt1_B V c t h0]
    dsimp only
    frame_out
  rw [e, add17, t17]
end Left
/-- A row per index, and the sum of what all rows add. -/
def rows3 (f : Fin 8192 → Fin 3072 → EReal) : Vec Ideal S8192x3072 .bf16 := fun i => f (i 0) (i 1)
def rows1 (f : Fin 8192 → Fin 1024 → EReal) : Vec Ideal S8192x1024 .f32 := fun i => f (i 0) (i 1)
theorem one_row (j : S1x1024.Idx) : ∃ l : Fin 1024, j = ix2 (0 : Fin 1) l :=
  ⟨j 1, (eq_ix2 j).trans (congrArg (ix2 · _) (Subsingleton.elim (α := Fin 1) (j 0) 0))⟩
def total (f : Fin 8192 → Fin 1024 → EReal) : Vec Ideal S1x1024 .f32 := fun i => ∑ r : Fin 8192, f r (i 1)
theorem total_points (f : Fin 8192 → Fin 1024 → EReal) (l : Fin 1024) : (∑ t : Fin cfg1.N, ∑ r : Fin 256, f (row1 t r) l) = total f (ix2 0 l) :=
  (Cert.MidGrad.sum_groups (A := cfg1.N) (B := 256) (show 32 * 256 = 8192 from rfl) (fun i => f i l) (fun t r => row1 t r) (fun _ _ => rfl)).symm
/-- The last point. -/
abbrev tLast : Fin cfg1.N := ⟨31, by decide⟩
theorem tLast_succ : tLast.val + 1 = cfg1.N := rfl
section Arrays
theorem whole11 (G : Vec Ideal S8192x3072 .bf16) (hG : ∀ (t : Fin cfg1.N) (r : Fin 256) (l : Fin 3072), (outsAt1 V c t.val t.isLt).1 (ix2 r l) = G ((win1_11.blk t).view.emb (ix2 r l))) : (dat1 V c).arrAt 11 cfg1.N = G := by
  refine (dat1 V c).arrAt_eq_of_covers 11 _ (by decide +kernel) fun t hf y => ?_
  obtain ⟨r, l, rfl⟩ : ∃ (r : Fin 256) (l : Fin 3072), y = ix2 r l := ⟨y 0, y 1, eq_ix2 y⟩
  exact (congrFun (after1_11 V c t) (ix2 r l)).trans (hG t r l)
theorem whole12 (G : Vec Ideal S8192x1024 .f32) (hG : ∀ (t : Fin cfg1.N) (r : Fin 256) (l : Fin 1024), (outsAt1 V c t.val t.isLt).2.1 (ix2 r l) = G ((win1_12.blk t).view.emb (ix2 r l))) : (dat1 V c).arrAt 12 cfg1.N = G := by
  refine (dat1 V c).arrAt_eq_of_covers 12 _ (by decide +kernel) fun t hf y => ?_
  obtain ⟨r, l, rfl⟩ : ∃ (r : Fin 256) (l : Fin 1024), y = ix2 r l := ⟨y 0, y 1, eq_ix2 y⟩
  exact (congrFun (after1_12 V c t) (ix2 r l)).trans (hG t r l)
/-- The gradient of the three parts, as the second call leaves it. -/
theorem gz_arr : (dat1 V c).arrAt 11 cfg1.N = rows3 (gz (vZ V c) (vb V c) (vU V c) (vQ V c)) :=
  whole11 V c _ fun t r l => by
    rw [left11, gz_at, emb1_11]
    rfl
/-- The gradient of the rows. -/
theorem gx_arr : (dat1 V c).arrAt 12 cfg1.N = rows1 (gx (vZ V c) (vb V c) (vmo V c) (vab V c) (vg V c) (vU V c) (vX V c) (vR V c) (vQ V c) (vw V c)) :=
  whole12 V c _ fun t r l => by
    rw [left12, gx_at, emb1_12]
    rfl
theorem whole13 (G : Vec Ideal S1x1024 .f32) (hG : ∀ l : Fin 1024, (outsAt1 V c tLast.val tLast.isLt).2.2.1 (ix2 0 l) = G (ix2 0 l)) : (dat1 V c).arrAt 13 cfg1.N = G := by
  refine (dat1 V c).arrAt_eq_of_after_last 13 tLast (by decide +kernel) _ fun j => ?_
  obtain ⟨l, rfl⟩ := one_row j
  exact (congrFun (after1_13 V c tLast) (ix2 0 l)).trans (hG l)
theorem arr13 : (dat1 V c).arrAt 13 cfg1.N = total (a13 (vZ V c) (vb V c) (vU V c)) :=
  whole13 V c _ fun l => by
    rw [Pipeline.eq_sum_fin_of_reset_step_apply_last (fun n h (l : Fin 1024) => (outsAt1 V c n h).2.2.1 (ix2 0 l)) 32 (fun _ => 0) (fun t l => ∑ r : Fin 256, a13 (vZ V c) (vb V c) (vU V c) (row1 t r) l)
      (first13 V c) (next13 V c) (le_of_eq N_1) tLast tLast_succ l, zero_add, total_points]
theorem whole14 (G : Vec Ideal S1x1024 .f32) (hG : ∀ l : Fin 1024, (outsAt1 V c tLast.val tLast.isLt).2.2.2.1 (ix2 0 l) = G (ix2 0 l)) : (dat1 V c).arrAt 14 cfg1.N = G := by
  refine (dat1 V c).arrAt_eq_of_after_last 14 tLast (by decide +kernel) _ fun j => ?_
  obtain ⟨l, rfl⟩ := one_row j
  exact (congrFun (after1_14 V c tLast) (ix2 0 l)).trans (hG l)
theorem arr14 : (dat1 V c).arrAt 14 cfg1.N = total (a14 (vZ V c) (vb V c) (vU V c)) :=
  whole14 V c _ fun l => by
    rw [Pipeline.eq_sum_fin_of_reset_step_apply_last (fun n h (l : Fin 1024) => (outsAt1 V c n h).2.2.2.1 (ix2 0 l)) 32 (fun _ => 0) (fun t l => ∑ r : Fin 256, a14 (vZ V c) (vb V c) (vU V c) (row1 t r) l)
      (first14 V c) (next14 V c) (le_of_eq N_1) tLast tLast_succ l, zero_add, total_points]
theorem whole15 (G : Vec Ideal S1x1024 .f32) (hG : ∀ l : Fin 1024, (outsAt1 V c tLast.val tLast.isLt).2.2.2.2.1 (ix2 0 l) = G (ix2 0 l)) : (dat1 V c).arrAt 15 cfg1.N = G := by
  refine (dat1 V c).arrAt_eq_of_after_last 15 tLast (by decide +kernel) _ fun j => ?_
  obtain ⟨l, rfl⟩ := one_row j
  exact (congrFun (after1_15 V c tLast) (ix2 0 l)).trans (hG l)
theorem arr15 : (dat1 V c).arrAt 15 cfg1.N = total (a15 (vZ V c) (vb V c) (vmo V c) (vab V c) (vU V c) (vX V c) (vQ V c) (vw V c)) :=
  whole15 V c _ fun l => by
    rw [Pipeline.eq_sum_fin_of_reset_step_apply_last (fun n h (l : Fin 1024) => (outsAt1 V c n h).2.2.2.2.1 (ix2 0 l)) 32 (fun _ => 0) (fun t l => ∑ r : Fin 256, a15 (vZ V c) (vb V c) (vmo V c) (vab V c) (vU V c) (vX V c) (vQ V c) (vw V c) (row1 t r) l)
      (first15 V c) (next15 V c) (le_of_eq N_1) tLast tLast_succ l, zero_add, total_points]
theorem whole16 (G : Vec Ideal S1x1024 .f32) (hG : ∀ l : Fin 1024, (outsAt1 V c tLast.val tLast.isLt).2.2.2.2.2.1 (ix2 0 l) = G (ix2 0 l)) : (dat1 V c).arrAt 16 cfg1.N = G := by
  refine (dat1 V c).arrAt_eq_of_after_last 16 tLast (by decide +kernel) _ fun j => ?_
  obtain ⟨l, rfl⟩ := one_row j
  exact (congrFun (after1_16 V c tLast) (ix2 0 l)).trans (hG l)
theorem arr16 : (dat1 V c).arrAt 16 cfg1.N = total (a16 (vZ V c) (vb V c) (vg V c) (vU V c) (vX V c) (vQ V c) (vw V c)) :=
  whole16 V c _ fun l => by
    rw [Pipeline.eq_sum_fin_of_reset_step_apply_last (fun n h (l : Fin 1024) => (outsAt1 V c n h).2.2.2.2.2.1 (ix2 0 l)) 32 (fun _ => 0) (fun t l => ∑ r : Fin 256, a16 (vZ V c) (vb V c) (vg V c) (vU V c) (vX V c) (vQ V c) (vw V c) (row1 t r) l)
      (first16 V c) (next16 V c) (le_of_eq N_1) tLast tLast_succ l, zero_add, total_points]
theorem whole17 (G : Vec Ideal S1x1024 .f32) (hG : ∀ l : Fin 1024, (outsAt1 V c tLast.val tLast.isLt).2.2.2.2.2.2 (ix2 0 l) = G (ix2 0 l)) : (dat1 V c).arrAt 17 cfg1.N = G := by
  refine (dat1 V c).arrAt_eq_of_after_last 17 tLast (by decide +kernel) _ fun j => ?_
  obtain ⟨l, rfl⟩ := one_row j
  exact (congrFun (after1_17 V c tLast) (ix2 0 l)).trans (hG l)
theorem arr17 : (dat1 V c).arrAt 17 cfg1.N = total (a17 (vZ V c) (vb V c) (vU V c) (vQ V c) (vw V c)) :=
  whole17 V c _ fun l => by
    rw [Pipeline.eq_sum_fin_of_reset_step_apply_last (fun n h (l : Fin 1024) => (outsAt1 V c n h).2.2.2.2.2.2 (ix2 0 l)) 32 (fun _ => 0) (fun t l => ∑ r : Fin 256, a17 (vZ V c) (vb V c) (vU V c) (vQ V c) (vw V c) (row1 t r) l)
      (first17 V c) (next17 V c) (le_of_eq N_1) tLast tLast_succ l, zero_add, total_points]
end Arrays
end Cert.OdInIdeal.Val
-- ==== Proof.OdInRun.lean ====
module
public import proofs.«01_k».proof.Proof.OdInOut
@[expose] public section
set_option maxRecDepth 16384
noncomputable section
namespace Cert.OdInIdeal.Val
open Cert.OdInIdeal Cert.OdInIdeal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds

local notation "𝕄" => MT nD τ sig Unit (Elt Ideal) ℕ (UR sig nD τ) ℕ

variable (m : (ℓ : Loc nD τ sig) → Buf (Elt Ideal) ℓ) (ρ : Dev nD → PrngReg) (c : Dev nD)

set_option backward.isDefEq.respectTransparency.types false in
/-- Every execution ends with each buffer at what the last stretch of host operations leaves in it. -/
theorem run_all : θ_run defs (onTc (τ := τ) (main (F := Ideal))) ⟨m, fun _ => 0, ρ⟩ fun r => ∀ c : Dev nD, ∀ b ∈ Pipeline.ucRefs τ sig, r.2.mem ((c : Thread nD τ).1, b) = W5 m ρ c b :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem ((c : Thread nD τ).1, b) = W5 m ρ c b)
    (hQ := fun _ h _ => h)
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (hch := ⟨fun _ => .rfl, fun _ => .rfl, fun _ => .rfl, fun _ => .rfl, fun _ => .rfl, fun c => by
      dsimp only [Pipeline.Seg.post, hseg, Pipeline.HostSeg.ofOps]
      iintro ⟨H, P, O⟩
      isplitl [H P]
      · isplitl [H]
        · iexact H
        iexact P
      iexact O⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨H, -, O, -, P, -⟩, -⟩
      imodintro
      isplitl [H]
      · iexact H
      isplitl [P]
      · iexists _
        iexact P
      iexists ∅
      iexact O)
    (hfin := fun c s => by
      iintro ⟨⟨H, -⟩, S⟩
      unfold StableHlo.held
      imodintro
      iapply (pointsTo_read_all (Pipeline.ucRefs τ sig) (fun b => ((c : Thread nD τ).1, b)) (W5 m ρ c) s)
      isplitl [H] <;> iassumption)

abbrev aX : Vec Ideal S8192x1024 .f32 := m ((c.tc : Thread nD τ).loc main_arg0)
abbrev ag : Vec Ideal S1x1024 .f32 := m ((c.tc : Thread nD τ).loc main_arg1)
abbrev amo : Vec Ideal S1x3072 .f32 := m ((c.tc : Thread nD τ).loc main_arg2)
abbrev aab : Vec Ideal S1x3072 .f32 := m ((c.tc : Thread nD τ).loc main_arg3)
abbrev aw : Vec Ideal S1024x3072 .f32 := m ((c.tc : Thread nD τ).loc main_arg4)
abbrev ab : Vec Ideal S1x3072 .f32 := m ((c.tc : Thread nD τ).loc main_arg5)
abbrev aU : Vec Ideal S8192x1024 .f32 := m ((c.tc : Thread nD τ).loc main_arg6)
abbrev aQ : Vec Ideal S8192x1024 .f32 := m ((c.tc : Thread nD τ).loc main_arg7)
abbrev aR : Vec Ideal S8192x1024 .f32 := m ((c.tc : Thread nD τ).loc main_arg8)
/-- The projected rows, of the launch's arguments. -/
abbrev aZ : Vec Ideal S8192x3072 .f32 := zArr (aX m c) (ag m c) (amo m c) (aab m c) (aw m c)

section Entry
theorem V1_0 : V1 m ρ c main_arg0 = aX m c := W1_args m ρ c main_arg0 (by decide)
theorem V1_1 : V1 m ρ c main_arg1 = ag m c := W1_args m ρ c main_arg1 (by decide)
theorem V1_2 : V1 m ρ c main_arg2 = amo m c := W1_args m ρ c main_arg2 (by decide)
theorem V1_3 : V1 m ρ c main_arg3 = aab m c := W1_args m ρ c main_arg3 (by decide)
theorem cast0 (V : Valuation τ sig (Elt Ideal)) : (StableHlo.after (hostOps0 (F := Ideal)) V (Proc.devRef .tc main_v0) : Vec Ideal S1024x3072 .bf16) = (V (Proc.devRef .tc main_arg4) : Vec Ideal S1024x3072 .f32) := by
  simp only [hostOps0]
  after_results_simp <;> rfl
theorem cast2 (V : Valuation τ sig (Elt Ideal)) : (StableHlo.after (hostOps1 (F := Ideal)) V (Proc.devRef .tc main_v2) : Vec Ideal S8192x1024 .bf16) = (V (Proc.devRef .tc main_arg7) : Vec Ideal S8192x1024 .f32) := by
  simp only [hostOps1]
  after_results_simp <;> rfl
theorem cast3 (V : Valuation τ sig (Elt Ideal)) : (StableHlo.after (hostOps1 (F := Ideal)) V (Proc.devRef .tc main_v3) : Vec Ideal S1024x3072 .bf16) = (V (Proc.devRef .tc main_arg4) : Vec Ideal S1024x3072 .f32) := by
  simp only [hostOps1]
  after_results_simp <;> rfl
theorem cast5 (V : Valuation τ sig (Elt Ideal)) : (StableHlo.after (hostOps2 (F := Ideal)) V (Proc.devRef .tc main_v5) : Vec Ideal S8192x3072 .f32) = (V (Proc.devRef .tc main_v4_0) : Vec Ideal S8192x3072 .bf16) := by
  simp only [hostOps2]
  after_results_simp <;> rfl
theorem V1_v0 : V1 m ρ c main_v0 = aw m c := (cast0 (W0 m ρ c)).trans (W0_args m ρ c main_arg4 (by decide))
theorem V3_z : vZ (V3 m ρ) c = aZ m c := by
  refine (W3_of m ρ c main_v1_1 (by decide)).trans ((W2_arr m ρ c 7).trans ((z_arr (V1 m ρ) c).trans ?_))
  rw [V1_0, V1_1, V1_2, V1_3, V1_v0]
theorem V3_x : vX (V3 m ρ) c = aX m c := W3_args m ρ c main_arg0 (by decide)
theorem V3_g : vg (V3 m ρ) c = ag m c := W3_args m ρ c main_arg1 (by decide)
theorem V3_mo : vmo (V3 m ρ) c = amo m c := W3_args m ρ c main_arg2 (by decide)
theorem V3_ab : vab (V3 m ρ) c = aab m c := W3_args m ρ c main_arg3 (by decide)
theorem V3_b : vb (V3 m ρ) c = ab m c := W3_args m ρ c main_arg5 (by decide)
theorem V3_u : vU (V3 m ρ) c = aU m c := W3_args m ρ c main_arg6 (by decide)
theorem V3_r : vR (V3 m ρ) c = aR m c := W3_args m ρ c main_arg8 (by decide)
theorem V3_q : vQ (V3 m ρ) c = aQ m c := (cast2 (W2 m ρ c)).trans (W2_args m ρ c main_arg7 (by decide))
theorem V3_w : vw (V3 m ρ) c = aw m c := (cast3 (W2 m ρ c)).trans (W2_args m ρ c main_arg4 (by decide))
end Entry

section Results
theorem res0 : W5 m ρ c (Proc.devRef .tc main_v5) = rows3 (gz (aZ m c) (ab m c) (aU m c) (aQ m c)) := by
  refine (cast5 (W4 m ρ c)).trans ((W4_arr m ρ c 11).trans ((gz_arr (V3 m ρ) c).trans ?_))
  rw [V3_z, V3_b, V3_u, V3_q]
theorem res1 : W5 m ρ c (Proc.devRef .tc main_v4_1) = rows1 (gx (aZ m c) (ab m c) (amo m c) (aab m c) (ag m c) (aU m c) (aX m c) (aR m c) (aQ m c) (aw m c)) := by
  refine (W5_of m ρ c main_v4_1 (by decide)).trans ((W4_arr m ρ c 12).trans ((gx_arr (V3 m ρ) c).trans ?_))
  rw [V3_z, V3_b, V3_mo, V3_ab, V3_g, V3_u, V3_x, V3_r, V3_q, V3_w]
theorem res2 : W5 m ρ c (Proc.devRef .tc main_v4_2) = total (a13 (aZ m c) (ab m c) (aU m c)) := by
  refine (W5_of m ρ c main_v4_2 (by decide)).trans ((W4_arr m ρ c 13).trans ((arr13 (V3 m ρ) c).trans ?_))
  rw [V3_z, V3_b, V3_u]
theorem res3 : W5 m ρ c (Proc.devRef .tc main_v4_3) = total (a14 (aZ m c) (ab m c) (aU m c)) := by
  refine (W5_of m ρ c main_v4_3 (by decide)).trans ((W4_arr m ρ c 14).trans ((arr14 (V3 m ρ) c).trans ?_))
  rw [V3_z, V3_b, V3_u]
theorem res4 : W5 m ρ c (Proc.devRef .tc main_v4_4) = total (a15 (aZ m c) (ab m c) (amo m c) (aab m c) (aU m c) (aX m c) (aQ m c) (aw m c)) := by
  refine (W5_of m ρ c main_v4_4 (by decide)).trans ((W4_arr m ρ c 15).trans ((arr15 (V3 m ρ) c).trans ?_))
  rw [V3_z, V3_b, V3_mo, V3_ab, V3_u, V3_x, V3_q, V3_w]
theorem res5 : W5 m ρ c (Proc.devRef .tc main_v4_5) = total (a16 (aZ m c) (ab m c) (ag m c) (aU m c) (aX m c) (aQ m c) (aw m c)) := by
  refine (W5_of m ρ c main_v4_5 (by decide)).trans ((W4_arr m ρ c 16).trans ((arr16 (V3 m ρ) c).trans ?_))
  rw [V3_z, V3_b, V3_g, V3_u, V3_x, V3_q, V3_w]
theorem res6 : W5 m ρ c (Proc.devRef .tc main_v4_6) = total (a17 (aZ m c) (ab m c) (aU m c) (aQ m c) (aw m c)) := by
  refine (W5_of m ρ c main_v4_6 (by decide)).trans ((W4_arr m ρ c 17).trans ((arr17 (V3 m ρ) c).trans ?_))
  rw [V3_z, V3_b, V3_u, V3_q, V3_w]
end Results

/-- Every execution of the kernel ends with the seven gradients in its results. -/
theorem run : θ_run defs (onTc (τ := τ) (main (F := Ideal))) ⟨m, fun _ => 0, ρ⟩ fun r => ∀ c : Dev nD,
      (r.2.mem ((c.tc : Thread nD τ).loc main_v5) = rows3 (gz (aZ m c) (ab m c) (aU m c) (aQ m c))
      ∧ r.2.mem ((c.tc : Thread nD τ).loc main_v4_1) = rows1 (gx (aZ m c) (ab m c) (amo m c) (aab m c) (ag m c) (aU m c) (aX m c) (aR m c) (aQ m c) (aw m c))
      ∧ r.2.mem ((c.tc : Thread nD τ).loc main_v4_2) = total (a13 (aZ m c) (ab m c) (aU m c))
      ∧ r.2.mem ((c.tc : Thread nD τ).loc main_v4_3) = total (a14 (aZ m c) (ab m c) (aU m c))
      ∧ r.2.mem ((c.tc : Thread nD τ).loc main_v4_4) = total (a15 (aZ m c) (ab m c) (amo m c) (aab m c) (aU m c) (aX m c) (aQ m c) (aw m c))
      ∧ r.2.mem ((c.tc : Thread nD τ).loc main_v4_5) = total (a16 (aZ m c) (ab m c) (ag m c) (aU m c) (aX m c) (aQ m c) (aw m c))
      ∧ r.2.mem ((c.tc : Thread nD τ).loc main_v4_6) = total (a17 (aZ m c) (ab m c) (aU m c) (aQ m c) (aw m c))) :=
  (θ_run defs _ _).mono (fun r h c => ⟨
      (h c _ (mem_uc main_v5 (by decide))).trans (res0 m ρ c),
      (h c _ (mem_uc main_v4_1 (by decide))).trans (res1 m ρ c),
      (h c _ (mem_uc main_v4_2 (by decide))).trans (res2 m ρ c),
      (h c _ (mem_uc main_v4_3 (by decide))).trans (res3 m ρ c),
      (h c _ (mem_uc main_v4_4 (by decide))).trans (res4 m ρ c),
      (h c _ (mem_uc main_v4_5 (by decide))).trans (res5 m ρ c),
      (h c _ (mem_uc main_v4_6 (by decide))).trans (res6 m ρ c)⟩) (run_all m ρ)
end Cert.OdInIdeal.Val
-- ==== Proof.OdInRef.lean ====
module
public import proofs.«01_k».proof.Defs
public import proofs.«01_k».proof.Proof.OdInRun
public import proofs.«01_k».proof.Proof.Gen.OdInRefIdeal.Run
public import proofs.«01_k».proof.Proof.Gen.OdInRefIdeal.Read
@[expose] public section
set_option maxRecDepth 16384
noncomputable section
namespace Cert.OdInRefIdeal.Val
open Cert.OdInRefIdeal Cert.OdInRefIdeal.Gen Cert.OdInRefIdeal.Read Idealize.ShloMosaic Idealize.ShloMosaic.TcCoe Idealize.SL.Sem Cert.Norm
open Cert.OdInIdeal.Val (zArr zRow gz gh gx a13 a14 a15 a16 a17 rows1 rows3 total one_row)

variable (x : FVec Ideal S8192x1024 .f32) (g : FVec Ideal S1x1024 .f32) (mo ab : FVec Ideal S1x3072 .f32) (w : FVec Ideal S1024x3072 .f32) (b : FVec Ideal S1x3072 .f32) (u q res : FVec Ideal S8192x1024 .f32)

section Forward
variable (i : Fin 8192) (l : Fin 1024)
theorem v4_at : val_main_v4 (F := Ideal) x (ix1 i) = ∑ l, x (ix2 i l) * x (ix2 i l) := by
  rw [val_main_v4_apply, val_main_cst_apply]
  refine (congrArg (· + _) Ideal.ofBits_zero_f32).trans ((zero_add _).trans (Finset.sum_congr rfl fun l _ => ?_))
  rw [show idx_main_v4 (ix1 i) l = ix2 i l by idx_ext]
  rfl
theorem v9_at : val_main_v9 (F := Ideal) x (ix2 i 0) = ms (rw2 x i) := by
  unfold val_main_v9 val_main_v8 val_main_v7 val_main_v6 val_main_v5 val_main_cst_0 val_main_cst_1
  have h := v4_at x i
  generalize val_main_v4 (F := Ideal) x = A at h ⊢
  unfold ms rw2
  rw [← h]
  pointwise
theorem v10_at : val_main_v10 (F := Ideal) x (ix2 i 0) = rinv (rw2 x i) := by
  unfold rinv val_main_v10
  rw [← v9_at]
  generalize val_main_v9 (F := Ideal) x = A
  pointwise
theorem v15_at : val_main_v15 (F := Ideal) x (ix2 i l) = hat (rw2 x i) l := by
  unfold hat val_main_v15 val_main_v14
  rw [← v10_at]
  generalize val_main_v10 (F := Ideal) x = A
  pointwise
  rfl
theorem v19_at : val_main_v19 (F := Ideal) mo ab (ix2 0 l) = lift (part 1 (rw2 mo 0) (rw2 ab 0)) l := by
  unfold val_main_v19 val_main_v18 val_main_cst_3 val_main_v1 val_main_v0 lift part rw2 third
  pointwise
theorem v17_at : val_main_v17 (F := Ideal) x g (ix2 i l) = hat (rw2 x i) l * g (ix2 0 l) := by
  rw [← v15_at]
  unfold val_main_v17 val_main_v16
  generalize val_main_v15 (F := Ideal) x = A
  pointwise
theorem v23_at : val_main_v23 (F := Ideal) x g mo ab (ix2 i l) = pre (rw2 x i) (rw2 g 0) (part 1 (rw2 mo 0) (rw2 ab 0)) (part 0 (rw2 mo 0) (rw2 ab 0)) l := by
  unfold pre
  rw [show rw2 g 0 l = g (ix2 0 l) from rfl, ← v17_at, ← v19_at]
  unfold val_main_v23 val_main_v22 val_main_v21 val_main_v20 val_main_v2 val_main_v0
  generalize val_main_v17 (F := Ideal) x g = A
  generalize val_main_v19 (F := Ideal) mo ab = B
  unfold part rw2 third
  pointwise
theorem v24_eq : val_main_v24 (F := Ideal) x g mo ab w = zArr x g mo ab w := by
  funext y
  obtain ⟨i, j, rfl⟩ : ∃ (i : Fin 8192) (l : Fin 3072), y = ix2 i l := ⟨y 0, y 1, eq_ix2 y⟩
  rw [val_main_v24_apply]
  show _ = mul (rw2 w) (pre (rw2 x i) (rw2 g 0) (part 1 (rw2 mo 0) (rw2 ab 0)) (part 0 (rw2 mo 0) (rw2 ab 0))) j
  unfold mul
  refine Finset.sum_congr rfl fun l _ => ?_
  rw [show lidx_main_v24 (ix2 i j) l = ix2 i l by idx_ext, show ridx_main_v24 (ix2 i j) l = ix2 l j by idx_ext, v23_at]
  rfl
theorem v28_at (j : Fin 3072) : val_main_v28 (F := Ideal) b (ix2 0 j) = b (ix2 0 j) := by
  unfold val_main_v28 val_main_v25 val_main_v26 val_main_v27
  pointwise
  split
  · rfl
  split
  · exact congrArg (fun k => b (ix2 0 k)) (Fin.ext (by show 1024 + (j.val - 1024) = j.val; omega))
  · exact congrArg (fun k => b (ix2 0 k)) (Fin.ext (by show 2048 + (j.val - 1024 - 1024) = j.val; omega))
theorem v31_at (j : Fin 3072) : val_main_v31 (F := Ideal) x g mo ab w b (ix2 i j) = zArr x g mo ab w (ix2 i j) + b (ix2 0 j) := by
  rw [← v24_eq, ← v28_at b j]
  unfold val_main_v31 val_main_v30
  generalize val_main_v24 (F := Ideal) x g mo ab w = A
  generalize val_main_v28 (F := Ideal) b = B
  pointwise
end Forward

section Gate
variable (i : Fin 8192) (l : Fin 1024)
theorem v32_at : val_main_v32 (F := Ideal) x g mo ab w b (ix2 i l) = part 0 (rw2 (zArr x g mo ab w) i) (rw2 b 0) l := by
  unfold part rw2
  rw [← v31_at]
  unfold val_main_v32
  generalize val_main_v31 (F := Ideal) x g mo ab w b = A
  unfold third
  pointwise
theorem v33_at : val_main_v33 (F := Ideal) x g mo ab w b (ix2 i l) = part 1 (rw2 (zArr x g mo ab w) i) (rw2 b 0) l := by
  unfold part rw2
  rw [← v31_at]
  unfold val_main_v33
  generalize val_main_v31 (F := Ideal) x g mo ab w b = A
  unfold third
  pointwise
theorem v40_at : val_main_v40 (F := Ideal) x g mo ab w b (ix2 i l) = gate (rw2 (zArr x g mo ab w) i) (rw2 b 0) l := by
  unfold gate
  rw [← v33_at]
  unfold val_main_v40 val_main_v39 val_main_v38 val_main_v37 val_main_v36 val_main_v35 val_main_cst_5 val_main_cst_6 Ideal.logistic
  generalize val_main_v33 (F := Ideal) x g mo ab w b = A
  rw [← Ideal.ofBits_one_f32]
  pointwise
theorem v46_at : val_main_v46 (F := Ideal) x g mo ab w b u (ix2 i l) = dA (rw2 u i) (rw2 (zArr x g mo ab w) i) (rw2 b 0) l := by
  unfold dA
  rw [← v40_at]
  unfold val_main_v46
  generalize val_main_v40 (F := Ideal) x g mo ab w b = A
  pointwise
  rfl
theorem v47_at : val_main_v47 (F := Ideal) x g mo ab w b u (ix2 i l) = dB (rw2 u i) (rw2 (zArr x g mo ab w) i) (rw2 b 0) l := by
  unfold dB
  rw [← v40_at, ← v32_at]
  unfold val_main_v47 val_main_v45 val_main_v43 val_main_v42 val_main_v41 val_main_cst_7
  generalize val_main_v40 (F := Ideal) x g mo ab w b = A
  generalize val_main_v32 (F := Ideal) x g mo ab w b = B
  pointwise
  rfl
/-- The gradients of the three parts of a row. -/
theorem v52_at (j : Fin 3072) : val_main_v52 (F := Ideal) x g mo ab w b u q (ix2 i j) = gz (zArr x g mo ab w) b u q i j := by
  unfold gz dZ
  simp only [← v46_at, ← v47_at]
  unfold val_main_v52 val_main_v51 val_main_v50 val_main_v49 val_main_v48 val_main_cst_8 val_main_cst_9 val_main_cst_10
  generalize val_main_v46 (F := Ideal) x g mo ab w b u = A
  generalize val_main_v47 (F := Ideal) x g mo ab w b u = B
  pointwise
  by_cases h0 : j.val < 1024
  · rw [dif_neg (by omega), dif_neg (by omega), dif_pos h0, dif_pos h0, zero_add, zero_add]
  · rw [dif_neg (c := j.val < 1024) h0, dif_neg (c := j.val < 1024) h0, add_zero]
    by_cases h1 : j.val - 1024 < 1024
    · rw [dif_neg (by omega), dif_pos ⟨by omega, h1⟩, dif_pos h1, zero_add]
    · rw [dif_pos ⟨by omega, by omega⟩, dif_neg (by omega), dif_neg h1, add_zero]
      exact congrArg (fun k => q (ix2 i k)) (Fin.ext (by show j.val - 2048 = j.val - 1024 - 1024; omega))
end Gate

section Sums
variable (i : Fin 8192) (l : Fin 1024)
theorem v53_at (j : Fin 3072) : val_main_v53 (F := Ideal) x g mo ab w b u q (ix1 j) = ∑ i, gz (zArr x g mo ab w) b u q i j := by
  rw [val_main_v53_apply, val_main_cst_11_apply]
  refine (congrArg (· + _) Ideal.ofBits_zero_f32).trans ((zero_add _).trans (Finset.sum_congr rfl fun i _ => ?_))
  rw [show idx_main_v53 (ix1 j) i = ix2 i j by idx_ext, v52_at]
/-- The gradients of the two biases are sums of columns of the parts' gradients. -/
theorem v55_eq : val_main_v55 (F := Ideal) x g mo ab w b u q = total (a13 (zArr x g mo ab w) b u) := by
  funext y
  obtain ⟨l, rfl⟩ := one_row y
  have h := v53_at x g mo ab w b u q (third 0 l)
  unfold val_main_v55 val_main_v54
  generalize val_main_v53 (F := Ideal) x g mo ab w b u q = A at h ⊢
  refine Eq.trans ?_ (h.trans (Finset.sum_congr rfl fun i _ => ?_))
  · unfold third
    pointwise
  · have hl : (third 0 l).val = 0 + l.val := rfl
    refine (dif_pos (by omega)).trans ?_
    exact congrArg _ (Fin.ext (by show (third 0 l).val = l.val; omega))
theorem v56_eq : val_main_v56 (F := Ideal) x g mo ab w b u q = total (a14 (zArr x g mo ab w) b u) := by
  funext y
  obtain ⟨l, rfl⟩ := one_row y
  have h := v53_at x g mo ab w b u q (third 1 l)
  unfold val_main_v56 val_main_v54
  generalize val_main_v53 (F := Ideal) x g mo ab w b u q = A at h ⊢
  refine Eq.trans ?_ (h.trans (Finset.sum_congr rfl fun i _ => ?_))
  · unfold third
    pointwise
  · have hl : (third 1 l).val = 1024 + l.val := rfl
    refine (dif_neg (by omega)).trans ((dif_pos (by omega)).trans ?_)
    exact congrArg _ (Fin.ext (by show (third 1 l).val - 1024 = l.val; omega))
theorem v58_at : val_main_v58 (F := Ideal) x g mo ab w b u q (ix2 i l) = gh (zArr x g mo ab w) b u q w i l := by
  rw [val_main_v58_apply]
  show _ = dH (rw2 w) (gz (zArr x g mo ab w) b u q i) l
  unfold dH
  refine Finset.sum_congr rfl fun j _ => ?_
  rw [show lidx_main_v58 (ix2 i l) j = ix2 i j by idx_ext, show ridx_main_v58 (ix2 i l) j = ix2 l j by idx_ext, v52_at]
  rfl
theorem v60_eq : val_main_v60 (F := Ideal) x g mo ab w b u q = total (a17 (zArr x g mo ab w) b u q w) := by
  funext y
  obtain ⟨l, rfl⟩ := one_row y
  rw [val_main_v60_apply, val_main_v59_apply, val_main_cst_12_apply]
  refine (congrArg (· + _) Ideal.ofBits_zero_f32).trans ((zero_add _).trans (Finset.sum_congr rfl fun i _ => ?_))
  rw [show idx_main_v59 (idx_main_v60 (ix2 0 l)) i = ix2 i l by idx_ext, v58_at]
  rfl
theorem v63_eq : val_main_v63 (F := Ideal) x g mo ab w b u q = total (a16 (zArr x g mo ab w) b g u x q w) := by
  funext y
  obtain ⟨l, rfl⟩ := one_row y
  rw [val_main_v63_apply, val_main_v62_apply, val_main_cst_13_apply]
  refine (congrArg (· + _) Ideal.ofBits_zero_f32).trans ((zero_add _).trans (Finset.sum_congr rfl fun i _ => ?_))
  rw [show idx_main_v62 (idx_main_v63 (ix2 0 l)) i = ix2 i l by idx_ext, val_main_v61_apply, v58_at, v17_at]
  rfl
theorem v65_at : val_main_v65 (F := Ideal) x g mo ab w b u q (ix2 i l) = gh (zArr x g mo ab w) b u q w i l * lift (part 1 (rw2 mo 0) (rw2 ab 0)) l := by
  rw [← v58_at, ← v19_at]
  unfold val_main_v65 val_main_v64
  generalize val_main_v58 (F := Ideal) x g mo ab w b u q = A
  generalize val_main_v19 (F := Ideal) mo ab = B
  pointwise
theorem v68_eq : val_main_v68 (F := Ideal) x g mo ab w b u q = total (a15 (zArr x g mo ab w) b mo ab u x q w) := by
  funext y
  obtain ⟨l, rfl⟩ := one_row y
  rw [val_main_v68_apply, val_main_v67_apply, val_main_cst_14_apply]
  refine (congrArg (· + _) Ideal.ofBits_zero_f32).trans ((zero_add _).trans (Finset.sum_congr rfl fun i _ => ?_))
  rw [show idx_main_v67 (idx_main_v68 (ix2 0 l)) i = ix2 i l by idx_ext, val_main_v66_apply, v65_at, v15_at]
  rfl
end Sums

section Back
variable (i : Fin 8192) (l : Fin 1024)
/-- The gradient of the normed row. -/
abbrev nrm : Fin 1024 → EReal := thru (rw2 g 0) (part 1 (rw2 mo 0) (rw2 ab 0)) (gh (zArr x g mo ab w) b u q w i)
theorem v70_at : val_main_v70 (F := Ideal) x g mo ab w b u q (ix2 i l) = nrm x g mo ab w b u q i l := by
  unfold nrm thru
  rw [← v65_at]
  unfold val_main_v70 val_main_v69
  generalize val_main_v65 (F := Ideal) x g mo ab w b u q = A
  unfold rw2
  pointwise
theorem v73_at : val_main_v73 (F := Ideal) x g mo ab w b u q (ix2 i 0) = ∑ l, rw2 x i l * nrm x g mo ab w b u q i l := by
  rw [val_main_v73_apply, show idx_main_v73 (ix2 i 0) = ix1 i by idx_ext, val_main_v72_apply, val_main_cst_15_apply]
  refine (congrArg (· + _) Ideal.ofBits_zero_f32).trans ((zero_add _).trans (Finset.sum_congr rfl fun l _ => ?_))
  rw [show idx_main_v72 (ix1 i) l = ix2 i l by idx_ext, val_main_v71_apply, v70_at]
  rfl
theorem v79_at : val_main_v79 (F := Ideal) x g mo ab w b u q (ix2 i 0) = curv (rw2 x i) (nrm x g mo ab w b u q i) := by
  unfold curv
  rw [← v73_at, ← v10_at, ← v9_at]
  unfold val_main_v79 val_main_v78 val_main_v77 val_main_v13 val_main_v12 val_main_v11 val_main_cst_2 val_main_cst_16
  generalize val_main_v73 (F := Ideal) x g mo ab w b u q = A
  generalize val_main_v10 (F := Ideal) x = B
  generalize val_main_v9 (F := Ideal) x = C
  pointwise
theorem v80_at : val_main_v80 (F := Ideal) x g mo ab w b u q (ix1 i) = curv (rw2 x i) (nrm x g mo ab w b u q i) := by
  rw [val_main_v80_apply, val_main_cst_17_apply]
  refine (congrArg (· + _) Ideal.ofBits_zero_f32).trans ((zero_add _).trans ((Fin.sum_univ_one _).trans ?_))
  rw [show idx_main_v80 (ix1 i) 0 = ix2 i 0 by idx_ext, v79_at]
/-- The gradient of a row. -/
theorem v85_eq : val_main_v85 (F := Ideal) x g mo ab w b u q res = rows1 (gx (zArr x g mo ab w) b mo ab g u x res q w) := by
  funext y
  obtain ⟨i, l, rfl⟩ : ∃ (i : Fin 8192) (l : Fin 1024), y = ix2 i l := ⟨y 0, y 1, eq_ix2 y⟩
  show _ = nrm x g mo ab w b u q i l * rinv (rw2 x i) + x (ix2 i l) * curv (rw2 x i) (nrm x g mo ab w b u q i)
    + curv (rw2 x i) (nrm x g mo ab w b u q i) * x (ix2 i l) + res (ix2 i l)
  rw [← v70_at x g mo ab w b u q, ← v80_at, ← v10_at]
  unfold val_main_v85 val_main_v84 val_main_v83 val_main_v82 val_main_v81 val_main_v76 val_main_v75 val_main_v74
  generalize val_main_v70 (F := Ideal) x g mo ab w b u q = A
  generalize val_main_v80 (F := Ideal) x g mo ab w b u q = B
  generalize val_main_v10 (F := Ideal) x = C
  pointwise
  rw [add_comm (res (ix2 i l)), add_right_comm _ (res (ix2 i l)), add_right_comm _ (res (ix2 i l))]
theorem v52_eq : val_main_v52 (F := Ideal) x g mo ab w b u q = rows3 (gz (zArr x g mo ab w) b u q) := by
  funext y
  obtain ⟨i, j, rfl⟩ : ∃ (i : Fin 8192) (l : Fin 3072), y = ix2 i l := ⟨y 0, y 1, eq_ix2 y⟩
  exact v52_at x g mo ab w b u q i j
end Back

set_option maxHeartbeats 1000000 in
/-- The kernel and the reference compute the same seven gradients of an odd layer's entry. -/
theorem algebraic : Cert.algebraic_OdInIdeal_OdInRefIdeal := by
  intro m ρ m' ρ' _ hag
  refine ⟨_, _, _, _, _, _, _, (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2, h.2 c⟩)
    (θ_run_and (Cert.OdInIdeal.Val.run m ρ) (Cert.OdInIdeal.Gen.unchanged m ρ)), (θ_run _ _ _).mono (fun r h c => ?_) (Cert.OdInRefIdeal.Value.run m' ρ')⟩
  obtain ⟨h52, h85, h55, h56, h68, h63, h60, ha⟩ := h c
  obtain ⟨e0, e1, e2, e3, e4, e5, e6, e7, e8⟩ := hag c
  refine ⟨?_, ?_, ?_, ?_, ?_, ?_, ?_, ha⟩
  · rw [h52, val_main_v52_eq, v52_eq, e0, e1, e2, e3, e4, e5, e6, e7]
  · rw [h85, val_main_v85_eq, v85_eq, e0, e1, e2, e3, e4, e5, e6, e7, e8]
  · rw [h55, val_main_v55_eq, v55_eq, e0, e1, e2, e3, e4, e5, e6]
  · rw [h56, val_main_v56_eq, v56_eq, e0, e1, e2, e3, e4, e5, e6]
  · rw [h68, val_main_v68_eq, v68_eq, e0, e1, e2, e3, e4, e5, e6, e7]
  · rw [h63, val_main_v63_eq, v63_eq, e0, e1, e2, e3, e4, e5, e6, e7]
  · rw [h60, val_main_v60_eq, v60_eq, e0, e1, e2, e3, e4, e5, e6, e7]
end Cert.OdInRefIdeal.Val
-- ==== Proof.Exit.lean ====
module
public import proofs.«01_k».proof.Proof.Norm
@[expose] public section
noncomputable section
/-! A row at a layer's exit: the layer norm and the two swishes before the output product, the gated norm after it, and the gradients of both. -/
namespace Cert.Exit
open Idealize.ShloMosaic Cert.Norm

section Post
variable (y p m d : Fin 1024 → EReal)
/-- The gradient of the gated norm behind the gate `m`, and behind the gain `p`. -/
def cot (l : Fin 1024) : EReal := m l * d l
def cop (l : Fin 1024) : EReal := cot m d l * p l
/-- The gradient of the row that is normed. -/
def dRow (l : Fin 1024) : EReal := cop p m d l * rinv y + y l * curv y (cop p m d) + curv y (cop p m d) * y l
/-- What a row adds to the gradients of the gain and of the gate. -/
def aGain (l : Fin 1024) : EReal := hat y l * cot m d l
def aGate (l : Fin 1024) : EReal := d l * (hat y l * p l)
/-- A row through a square matrix, and against its rows. -/
def thruW (w : Fin 1024 → Fin 1024 → EReal) (n : Fin 1024) : EReal := ∑ j, y j * w j n
def backW (w : Fin 1024 → Fin 1024 → EReal) (n : Fin 1024) : EReal := ∑ j, y j * w n j
end Post

/-- The swish, and the gradient `e` behind it. -/
def swish (a : EReal) : EReal := a * Ideal.logistic a
def swishB (a e : EReal) : EReal := e * Ideal.logistic a + a * e * (Ideal.logistic a * (Ideal.ofBits .f32 0x3F800000#32 - Ideal.logistic a))

section Mix
variable (c g b p q d : Fin 1024 → EReal)
/-- The mean of a row, and its deviations from it. -/
def mean : EReal := Ideal.div (∑ l, c l) (Ideal.ofBits .f32 0x44800000#32)
def dev (l : Fin 1024) : EReal := c l - mean c
/-- The layer norm, without and with gain and bias. -/
def nor (l : Fin 1024) : EReal := dev c l * rinv (dev c)
def aff (l : Fin 1024) : EReal := nor c l * p l + q l
/-- The gate's argument. -/
def arg (l : Fin 1024) : EReal := g l + b l
/-- The row that the output product takes. -/
def mix (l : Fin 1024) : EReal := swish (aff c p q l) * swish (arg g b l)
/-- The gradients of the gate's argument and of the layer norm's result, for the gradient `d` of the mixed row. -/
def dArg (l : Fin 1024) : EReal := swishB (arg g b l) (swish (aff c p q l) * d l)
def dAff (l : Fin 1024) : EReal := swishB (aff c p q l) (d l * swish (arg g b l))
/-- What a row adds to the gradient of the layer norm's gain. -/
def aLn (l : Fin 1024) : EReal := nor c l * dAff c g b p q d l
end Mix

section Layer
variable (c e : Fin 1024 → EReal)
/-- For the gradient `e` of the layer norm without gain and bias: its part over the deviations, its part over their mean square, and the gradient of the row. -/
def direct (l : Fin 1024) : EReal := e l * rinv (dev c)
def square (l : Fin 1024) : EReal := curv (dev c) e * (Ideal.ofBits .f32 0x40000000#32 * dev c l)
def shared : EReal := Ideal.div ((∑ l, (0 - direct c e l)) + ∑ l, (0 - square c e l)) (Ideal.ofBits .f32 0x44800000#32)
def dLn (l : Fin 1024) : EReal := direct c e l + square c e l + shared c e
end Layer
end Cert.Exit
-- ==== Proof.OdOutBody.lean ====
module
public import proofs.«01_k».proof.Proof.Gen.OdOutIdeal.Frame
public import Idealize.ShloMosaic.Lib.Pointwise
public import Idealize.ShloMosaic.Lib.Pipeline.ValueKit
public import Idealize.ShloMosaic.Lib.WritesUnit
public import proofs.«01_k».proof.Proof.Sums
public import proofs.«01_k».proof.Proof.Exit
@[expose] public section
set_option maxRecDepth 16384
noncomputable section
namespace Cert.OdOutIdeal.Val
open Cert.OdOutIdeal Cert.OdOutIdeal.Gen Idealize.ShloMosaic Idealize.ShloMosaic.TcCoe Idealize.SL.Sem Cert.Norm Cert.Exit

section Layer
variable (u : Vec Ideal S512x1024 .f32) (r : Fin 512) (l : Fin 1024)
theorem mean_at : k1_pay16 (F := Ideal) u (ix2 r 0) = mean (rw2 u r) := by
  unfold k1_pay16 mean rw2
  pointwise
theorem dev17_at : k1_pay17 (F := Ideal) u (ix2 r l) = dev (rw2 u r) l := by
  unfold dev
  rw [← mean_at]
  unfold k1_pay17
  generalize k1_pay16 (F := Ideal) u = A
  unfold rw2
  pointwise
theorem dev_at : k1_pay19 (F := Ideal) u (ix2 r l) = dev (rw2 u r) l := dev17_at u r l
theorem twice_at : k1_pay18 (F := Ideal) u (ix2 r l) = Ideal.ofBits .f32 0x40000000#32 * dev (rw2 u r) l := by
  rw [← dev17_at]
  unfold k1_pay18
  generalize k1_pay17 (F := Ideal) u = A
  pointwise
theorem vs_at : k1_pay20 (F := Ideal) u (ix2 r 0) = ms (dev (rw2 u r)) := by
  unfold ms
  simp only [← dev17_at]
  unfold k1_pay20
  generalize k1_pay17 (F := Ideal) u = A
  pointwise
theorem vinv_at : k1_pay21 (F := Ideal) u (ix2 r 0) = rinv (dev (rw2 u r)) := by
  unfold rinv
  rw [← vs_at]
  rfl
theorem vcurv_at : k1_pay22 (F := Ideal) u (ix2 r 0) = Ideal.ofBits .f32 0xBF000000#32 * Ideal.div (rinv (dev (rw2 u r))) (ms (dev (rw2 u r))) := by
  rw [← vs_at, ← vinv_at]
  unfold k1_pay22
  generalize k1_pay20 (F := Ideal) u = A
  generalize k1_pay21 (F := Ideal) u = B
  pointwise
end Layer

section Mix
variable (u z : Vec Ideal S512x1024 .f32) (p q : Vec Ideal S1x1024 .f32) (b : Vec Ideal S1x3072 .f32) (d : FVec Ideal S512x1024 .f32) (r : Fin 512) (l : Fin 1024)
/-- The layer norm of a row of a block. -/
theorem nor_at : k1_pay23 (F := Ideal) (k1_pay19 u) (k1_pay21 u) (ix2 r l) = nor (rw2 u r) l := by
  unfold nor
  rw [← dev_at, ← vinv_at]
  unfold k1_pay23
  generalize k1_pay19 (F := Ideal) u = A
  generalize k1_pay21 (F := Ideal) u = B
  pointwise
theorem aff_at : k1_pay24 (F := Ideal) p q (k1_pay19 u) (k1_pay21 u) (ix2 r l) = aff (rw2 u r) (rw2 p 0) (rw2 q 0) l := by
  unfold aff
  rw [← nor_at]
  unfold k1_pay24
  generalize k1_pay23 (F := Ideal) (k1_pay19 u) (k1_pay21 u) = A
  unfold rw2
  pointwise
theorem arg_at : k1_pay26 (F := Ideal) z (k1_pay15 b) (ix2 r l) = arg (rw2 z r) (fun l => rw2 b 0 (third 2 l)) l := by
  unfold arg k1_pay26 k1_pay15 rw2 third
  pointwise
/-- The gradient of the gate's argument. -/
theorem dArg_at : k1_pay28 (F := Ideal) p q d z (k1_pay15 b) (k1_pay19 u) (k1_pay21 u) (ix2 r l)
    = dArg (rw2 u r) (rw2 z r) (fun l => rw2 b 0 (third 2 l)) (rw2 p 0) (rw2 q 0) (rw2 d r) l := by
  unfold dArg swishB swish
  rw [← arg_at, ← aff_at]
  unfold k1_pay28 k1_pay25 k1_pay27
  generalize k1_pay24 (F := Ideal) p q (k1_pay19 u) (k1_pay21 u) = A
  generalize k1_pay26 (F := Ideal) z (k1_pay15 b) = B
  unfold rw2
  pointwise
/-- The gradient of the layer norm's result. -/
theorem dAff_at : k1_pay30 (F := Ideal) p q d z (k1_pay15 b) (k1_pay19 u) (k1_pay21 u) (ix2 r l)
    = dAff (rw2 u r) (rw2 z r) (fun l => rw2 b 0 (third 2 l)) (rw2 p 0) (rw2 q 0) (rw2 d r) l := by
  unfold dAff swishB swish
  rw [← arg_at, ← aff_at]
  unfold k1_pay30 k1_pay25 k1_pay27
  generalize k1_pay24 (F := Ideal) p q (k1_pay19 u) (k1_pay21 u) = A
  generalize k1_pay26 (F := Ideal) z (k1_pay15 b) = B
  unfold rw2
  pointwise
theorem sumArg : k1_pay29 (F := Ideal) p q d z (k1_pay15 b) (k1_pay19 u) (k1_pay21 u) (ix2 0 l)
    = ∑ r : Fin 512, dArg (rw2 u r) (rw2 z r) (fun l => rw2 b 0 (third 2 l)) (rw2 p 0) (rw2 q 0) (rw2 d r) l := by
  simp only [← dArg_at]
  unfold k1_pay29
  generalize k1_pay28 (F := Ideal) p q d z (k1_pay15 b) (k1_pay19 u) (k1_pay21 u) = A
  pointwise
theorem sumAff : k1_pay31 (F := Ideal) p q d z (k1_pay15 b) (k1_pay19 u) (k1_pay21 u) (ix2 0 l)
    = ∑ r : Fin 512, dAff (rw2 u r) (rw2 z r) (fun l => rw2 b 0 (third 2 l)) (rw2 p 0) (rw2 q 0) (rw2 d r) l := by
  simp only [← dAff_at]
  unfold k1_pay31
  generalize k1_pay30 (F := Ideal) p q d z (k1_pay15 b) (k1_pay19 u) (k1_pay21 u) = A
  pointwise
theorem sumLn : k1_pay32 (F := Ideal) p q d z (k1_pay15 b) (k1_pay19 u) (k1_pay21 u) (ix2 0 l)
    = ∑ r : Fin 512, aLn (rw2 u r) (rw2 z r) (fun l => rw2 b 0 (third 2 l)) (rw2 p 0) (rw2 q 0) (rw2 d r) l := by
  unfold aLn
  simp only [← dAff_at, ← nor_at]
  unfold k1_pay32
  generalize k1_pay30 (F := Ideal) p q d z (k1_pay15 b) (k1_pay19 u) (k1_pay21 u) = A
  generalize k1_pay23 (F := Ideal) (k1_pay19 u) (k1_pay21 u) = B
  pointwise
/-- The gradient of the layer norm without gain and bias. -/
abbrev eLn (c g b p q d : Fin 1024 → EReal) (l : Fin 1024) : EReal := dAff c g b p q d l * p l
theorem eLn_at : k1_pay33 (F := Ideal) p q d z (k1_pay15 b) (k1_pay19 u) (k1_pay21 u) (ix2 r l)
    = eLn (rw2 u r) (rw2 z r) (fun l => rw2 b 0 (third 2 l)) (rw2 p 0) (rw2 q 0) (rw2 d r) l := by
  unfold eLn
  rw [← dAff_at]
  unfold k1_pay33
  generalize k1_pay30 (F := Ideal) p q d z (k1_pay15 b) (k1_pay19 u) (k1_pay21 u) = A
  unfold rw2
  pointwise
theorem direct_at : k1_pay34 (F := Ideal) p q d z (k1_pay15 b) (k1_pay19 u) (k1_pay21 u) (ix2 r l)
    = direct (rw2 u r) (eLn (rw2 u r) (rw2 z r) (fun l => rw2 b 0 (third 2 l)) (rw2 p 0) (rw2 q 0) (rw2 d r)) l := by
  unfold direct
  rw [← eLn_at, ← vinv_at]
  unfold k1_pay34
  generalize k1_pay33 (F := Ideal) p q d z (k1_pay15 b) (k1_pay19 u) (k1_pay21 u) = A
  generalize k1_pay21 (F := Ideal) u = B
  pointwise
theorem negs_at : k1_pay35 (F := Ideal) p q d z (k1_pay15 b) (k1_pay19 u) (k1_pay21 u) (ix2 r 0)
    = ∑ l, (0 - direct (rw2 u r) (eLn (rw2 u r) (rw2 z r) (fun l => rw2 b 0 (third 2 l)) (rw2 p 0) (rw2 q 0) (rw2 d r)) l) := by
  simp only [← direct_at]
  rw [← Ideal.ofBits_zero_f32]
  unfold k1_pay35
  generalize k1_pay34 (F := Ideal) p q d z (k1_pay15 b) (k1_pay19 u) (k1_pay21 u) = A
  pointwise
theorem vback_at : k1_pay36 (F := Ideal) p q d z (k1_pay15 b) (k1_pay19 u) (k1_pay21 u) (k1_pay22 u) (ix1 r)
    = curv (dev (rw2 u r)) (eLn (rw2 u r) (rw2 z r) (fun l => rw2 b 0 (third 2 l)) (rw2 p 0) (rw2 q 0) (rw2 d r)) := by
  unfold curv
  rw [← vcurv_at]
  simp only [← eLn_at, ← dev_at]
  unfold k1_pay36
  generalize k1_pay33 (F := Ideal) p q d z (k1_pay15 b) (k1_pay19 u) (k1_pay21 u) = A
  generalize k1_pay19 (F := Ideal) u = B
  generalize k1_pay22 (F := Ideal) u = C
  pointwise
  exact Fin.sum_univ_one _
/-- The gradient of a row behind the layer norm. -/
theorem dLn_at : k1_pay37 (F := Ideal) (k1_pay18 u) (k1_pay34 p q d z (k1_pay15 b) (k1_pay19 u) (k1_pay21 u)) (k1_pay35 p q d z (k1_pay15 b) (k1_pay19 u) (k1_pay21 u))
      (k1_pay36 p q d z (k1_pay15 b) (k1_pay19 u) (k1_pay21 u) (k1_pay22 u)) (ix2 r l)
    = dLn (rw2 u r) (eLn (rw2 u r) (rw2 z r) (fun l => rw2 b 0 (third 2 l)) (rw2 p 0) (rw2 q 0) (rw2 d r)) l := by
  unfold dLn shared
  rw [← negs_at, ← direct_at]
  unfold square
  rw [← vback_at]
  simp only [← twice_at]
  generalize k1_pay36 (F := Ideal) p q d z (k1_pay15 b) (k1_pay19 u) (k1_pay21 u) (k1_pay22 u) = A
  generalize k1_pay35 (F := Ideal) p q d z (k1_pay15 b) (k1_pay19 u) (k1_pay21 u) = B
  generalize k1_pay34 (F := Ideal) p q d z (k1_pay15 b) (k1_pay19 u) (k1_pay21 u) = C
  generalize k1_pay18 (F := Ideal) u = D
  rw [← Ideal.ofBits_zero_f32]
  unfold k1_pay37
  pointwise
  exact congrArg (_ + ·) (Fin.sum_univ_one _)
end Mix

section Post
variable (y d : Vec Ideal S512x1024 .f32) (p : Vec Ideal S1x1024 .f32) (mo ab : Vec Ideal S1x3072 .f32) (w : Vec Ideal S1024x1024 .bf16) (r : Fin 512) (l : Fin 1024)
theorem y_at : k1_pay4 (F := Ideal) y (ix2 r l) = rw2 y r l := by
  unfold k1_pay4 rw2
  pointwise
theorem ms_at : k1_pay5 (F := Ideal) y (ix2 r 0) = ms (rw2 y r) := by
  unfold ms
  simp only [← y_at]
  unfold k1_pay5
  generalize k1_pay4 (F := Ideal) y = A
  pointwise
theorem inv_at : k1_pay6 (F := Ideal) y (ix2 r 0) = rinv (rw2 y r) := by
  unfold rinv
  rw [← ms_at]
  rfl
theorem half_at : k1_pay7 (F := Ideal) y (ix2 r 0) = Ideal.ofBits .f32 0xBF000000#32 * Ideal.div (rinv (rw2 y r)) (ms (rw2 y r)) := by
  rw [← ms_at, ← inv_at]
  unfold k1_pay7
  generalize k1_pay5 (F := Ideal) y = A
  generalize k1_pay6 (F := Ideal) y = B
  pointwise
theorem hat_at : k1_pay8 (F := Ideal) y (ix2 r l) = hat (rw2 y r) l := by
  unfold hat
  rw [← inv_at, ← y_at]
  unfold k1_pay8
  generalize k1_pay4 (F := Ideal) y = A
  generalize k1_pay6 (F := Ideal) y = B
  pointwise
theorem cot_at : k1_pay9 (F := Ideal) mo ab d (ix2 r l) = cot (part 2 (rw2 mo 0) (rw2 ab 0)) (rw2 d r) l := by
  unfold cot k1_pay9 part third rw2
  pointwise
theorem cop_at : k1_pay12 (F := Ideal) p mo ab d (ix2 r l) = cop (rw2 p 0) (part 2 (rw2 mo 0) (rw2 ab 0)) (rw2 d r) l := by
  unfold cop
  rw [← cot_at]
  unfold k1_pay12
  generalize k1_pay9 (F := Ideal) mo ab d = A
  unfold rw2
  pointwise
theorem sumGate : k1_pay10 (F := Ideal) p y d (ix2 0 l) = ∑ r : Fin 512, aGate (rw2 y r) (rw2 p 0) (rw2 d r) l := by
  unfold aGate
  simp only [← hat_at]
  unfold k1_pay10
  generalize k1_pay8 (F := Ideal) y = A
  unfold rw2
  pointwise
theorem sumGain : k1_pay11 (F := Ideal) mo ab y d (ix2 0 l) = ∑ r : Fin 512, aGain (rw2 y r) (part 2 (rw2 mo 0) (rw2 ab 0)) (rw2 d r) l := by
  unfold aGain
  simp only [← hat_at, ← cot_at]
  unfold k1_pay11
  generalize k1_pay8 (F := Ideal) y = A
  generalize k1_pay9 (F := Ideal) mo ab d = B
  pointwise
/-- The gradient of a row behind the gated norm, and against the output weights. -/
theorem dRow_at : k1_pay13 (F := Ideal) (k1_pay4 y) (k1_pay6 y) (k1_pay7 y) (k1_pay12 p mo ab d) (ix2 r l) = dRow (rw2 y r) (rw2 p 0) (part 2 (rw2 mo 0) (rw2 ab 0)) (rw2 d r) l := by
  unfold dRow curv
  rw [← half_at, ← inv_at]
  simp only [← y_at, ← cop_at]
  generalize k1_pay12 (F := Ideal) p mo ab d = A
  generalize k1_pay4 (F := Ideal) y = B
  generalize k1_pay6 (F := Ideal) y = C
  generalize k1_pay7 (F := Ideal) y = D
  unfold k1_pay13
  pointwise
  rw [Fin.sum_univ_one]
theorem dMix_at : k1_pay14 (F := Ideal) (k1_pay4 y) (k1_pay6 y) (k1_pay7 y) (k1_pay12 p mo ab d) w (ix2 r l)
    = backW (dRow (rw2 y r) (rw2 p 0) (part 2 (rw2 mo 0) (rw2 ab 0)) (rw2 d r)) (rw2 w) l := by
  unfold backW
  simp only [← dRow_at]
  unfold k1_pay14
  generalize k1_pay13 (F := Ideal) (k1_pay4 y) (k1_pay6 y) (k1_pay7 y) (k1_pay12 p mo ab d) = A
  unfold rw2
  pointwise
end Post

section Forward
variable (u z : Vec Ideal S512x1024 .f32) (p q : Vec Ideal S1x1024 .f32) (b : Vec Ideal S1x3072 .f32) (w : Vec Ideal S1024x1024 .bf16) (r : Fin 512) (l : Fin 1024)
/-- The mixed row, and its product with the output weights. -/
theorem mix_at : k0_pay4 (F := Ideal) b p q u z (ix2 r l) = mix (rw2 u r) (rw2 z r) (fun l => rw2 b 0 (third 2 l)) (rw2 p 0) (rw2 q 0) l := by
  unfold k0_pay4 mix aff arg nor dev mean rinv ms swish rw2 third
  pointwise
theorem out_at : k0_pay2 (F := Ideal) (k0_pay4 b p q u z) w (ix2 r l) = thruW (mix (rw2 u r) (rw2 z r) (fun l => rw2 b 0 (third 2 l)) (rw2 p 0) (rw2 q 0)) (rw2 w) l := by
  unfold thruW
  simp only [← mix_at]
  unfold k0_pay2 k0_pay1
  generalize k0_pay4 (F := Ideal) b p q u z = A
  unfold rw2
  pointwise
end Forward
end Cert.OdOutIdeal.Val
-- ==== Proof.OdOutCall.lean ====
module
public import proofs.«01_k».proof.Proof.OdOutBody
public import proofs.«01_k».proof.Proof.OdInOut
@[expose] public section
set_option maxRecDepth 16384
noncomputable section
namespace Cert.OdOutIdeal.Val
open Cert.OdOutIdeal Cert.OdOutIdeal.Gen Idealize.ShloMosaic Idealize.ShloMosaic.TcCoe Idealize.SL.Sem Cert.Norm Cert.Exit
open Cert.OdInIdeal.Val (rows1 total one_row)

/-- The arrays of an odd layer's exit: the convolution's output, the projected rows, their bias, the layer norm's gain and bias, the output weights, the gain of the gated norm,
the modulation and its bias, the gradient that arrives, and the product with the output weights. -/
structure Arrays where
  (u : Vec Ideal S8192x1024 .f32) (z : Vec Ideal S8192x3072 .f32) (b : Vec Ideal S1x3072 .f32) (p q : Vec Ideal S1x1024 .f32) (w : Vec Ideal S1024x1024 .f32)
  (g : Vec Ideal S1x1024 .f32) (mo ab : Vec Ideal S1x3072 .f32) (d y : Vec Ideal S8192x1024 .f32)

namespace Arrays
variable (A : Arrays) (i : Fin 8192)
/-- The gate's rows and bias: the third part of the projected rows and of their bias. -/
def gr (l : Fin 1024) : EReal := rw2 A.z i (third 2 l)
def gb (l : Fin 1024) : EReal := rw2 A.b 0 (third 2 l)
/-- The product of the mixed rows with the output weights. -/
def out : Fin 1024 → EReal := thruW (mix (rw2 A.u i) (A.gr i) A.gb (rw2 A.p 0) (rw2 A.q 0)) (rw2 A.w)
/-- The arrays with that product in place. -/
def filled : Arrays := { A with y := rows1 A.out }
/-- The gradients of a row of the product, and of the mixed row. -/
def gy : Fin 1024 → EReal := dRow (rw2 A.y i) (rw2 A.g 0) (part 2 (rw2 A.mo 0) (rw2 A.ab 0)) (rw2 A.d i)
def gm : Fin 1024 → EReal := backW (A.gy i) (rw2 A.w)
/-- The gradients of the gate's argument, of the layer norm's result, and of the convolution's output. -/
def gg : Fin 1024 → EReal := dArg (rw2 A.u i) (A.gr i) A.gb (rw2 A.p 0) (rw2 A.q 0) (A.gm i)
def gn : Fin 1024 → EReal := dAff (rw2 A.u i) (A.gr i) A.gb (rw2 A.p 0) (rw2 A.q 0) (A.gm i)
def gu : Fin 1024 → EReal := dLn (rw2 A.u i) (eLn (rw2 A.u i) (A.gr i) A.gb (rw2 A.p 0) (rw2 A.q 0) (A.gm i))
/-- What a row adds to the gradients of the gated norm's gain, of the gate and of the layer norm's gain. -/
def aG : Fin 1024 → EReal := aGain (rw2 A.y i) (part 2 (rw2 A.mo 0) (rw2 A.ab 0)) (rw2 A.d i)
def aM : Fin 1024 → EReal := aGate (rw2 A.y i) (rw2 A.g 0) (rw2 A.d i)
def aP : Fin 1024 → EReal := aLn (rw2 A.u i) (A.gr i) A.gb (rw2 A.p 0) (rw2 A.q 0) (A.gm i)
end Arrays

variable (V : (c : Dev nD) → (b : Ref sig .tc) → Buf (Elt Ideal) ((c : Thread nD τ).loc b)) (c : Dev nD)

/-- The row of the arrays that row `r` of a grid point's blocks is. -/
def row0 (t : Fin cfg0.N) (r : Fin 512) : Fin 8192 := ⟨t.val * 512 + r.val, by have h : t.val < 16 := t.isLt; omega⟩
def row1 (t : Fin cfg1.N) (r : Fin 512) : Fin 8192 := ⟨t.val * 512 + r.val, by have h : t.val < 16 := t.isLt; omega⟩

section First
variable (t : Fin cfg0.N) (r : Fin 512)
theorem at0_0 : ∀ t : Fin cfg0.N, win0_0.index t = ![t.val, 0] := by decide +kernel
theorem in0_0 : rw2 (iblk0 V c 0 t : Vec Ideal S512x1024 .f32) r = rw2 (V c main_arg0 : Vec Ideal S8192x1024 .f32) (row0 t r) := by
  funext l
  refine congrArg (V c main_arg0) ?_
  unfold row0
  blk_ext! [at0_0]
theorem at0_1 : ∀ t : Fin cfg0.N, win0_1.index t = ![t.val, 2] := by decide +kernel
theorem in0_1 : rw2 (iblk0 V c 1 t : Vec Ideal S512x1024 .f32) r = fun l => rw2 (V c main_arg1 : Vec Ideal S8192x3072 .f32) (row0 t r) (third 2 l) := by
  funext l
  refine congrArg (V c main_arg1) ?_
  unfold row0 third
  blk_ext! [at0_1]
theorem at0_3 : ∀ t : Fin cfg0.N, win0_3.index t = ![0, 0] := by decide +kernel
theorem in0_3 : rw2 (iblk0 V c 3 t : Vec Ideal S1x3072 .f32) 0 = rw2 (V c main_arg2 : Vec Ideal S1x3072 .f32) 0 := by
  funext l
  refine congrArg (V c main_arg2) ?_
  blk_ext! [at0_3]
theorem at0_4 : ∀ t : Fin cfg0.N, win0_4.index t = ![0, 0] := by decide +kernel
theorem in0_4 : rw2 (iblk0 V c 4 t : Vec Ideal S1x1024 .f32) 0 = rw2 (V c main_arg3 : Vec Ideal S1x1024 .f32) 0 := by
  funext l
  refine congrArg (V c main_arg3) ?_
  blk_ext! [at0_4]
theorem at0_5 : ∀ t : Fin cfg0.N, win0_5.index t = ![0, 0] := by decide +kernel
theorem in0_5 : rw2 (iblk0 V c 5 t : Vec Ideal S1x1024 .f32) 0 = rw2 (V c main_arg4 : Vec Ideal S1x1024 .f32) 0 := by
  funext l
  refine congrArg (V c main_arg4) ?_
  blk_ext! [at0_5]
theorem at0_9 : ∀ t : Fin cfg0.N, win0_9.index t = ![0, 0] := by decide +kernel
theorem in0_9 : rw2 (iblk0 V c 9 t : Vec Ideal S1024x1024 .bf16) = rw2 (V c main_v0 : Vec Ideal S1024x1024 .bf16) := by
  funext n l
  refine congrArg (V c main_v0) ?_
  blk_ext! [at0_9]
theorem at0_11 : ∀ t : Fin cfg0.N, win0_11.index t = ![t.val, 0] := by decide +kernel
theorem emb0_11 (l : Fin 1024) : (win0_11.blk t).view.emb (ix2 r l) = ix2 (row0 t r) l := by
  unfold row0
  blk_ext! [at0_11]
/-- The arrays that the first call reads. -/
def fstArrays (d y : Vec Ideal S8192x1024 .f32) : Arrays := ⟨V c main_arg0, V c main_arg1, V c main_arg2, V c main_arg3, V c main_arg4, (V c main_v0 : Vec Ideal S1024x1024 .bf16), V c main_arg6, V c main_arg7, V c main_arg8, d, y⟩
theorem out_blk (d y : Vec Ideal S8192x1024 .f32) (l : Fin 1024) : out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 r l) = rows1 (fstArrays V c d y).out ((win0_11.blk t).view.emb (ix2 r l)) := by
  rw [emb0_11]
  have h : out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 r l)
      = k0_pay2 (F := Ideal) (k0_pay4 (iblk0 V c 3 t) (iblk0 V c 4 t) (iblk0 V c 5 t) (iblk0 V c 0 t) (iblk0 V c 1 t)) (iblk0 V c 9 t) (ix2 r l) := by
    unfold out0_11 k0_pay5
    frame_out
  rw [h, out_at, in0_0, in0_1, in0_3, in0_4, in0_5, in0_9]
  rfl
theorem out_whole (G : FVec Ideal S8192x1024 .f32) (hG : ∀ (t : Fin cfg0.N) (r : Fin 512) (l : Fin 1024), out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 r l) = G ((win0_11.blk t).view.emb (ix2 r l))) :
    (dat0 V c).arrAt 11 cfg0.N = G := by
  refine (dat0 V c).arrAt_eq_of_covers 11 _ (by decide +kernel) fun t hf y => ?_
  obtain ⟨r, l, rfl⟩ : ∃ (r : Fin 512) (l : Fin 1024), y = ix2 r l := ⟨y 0, y 1, eq_ix2 y⟩
  exact (congrFun (after0_11 V c t) (ix2 r l)).trans (hG t r l)
/-- What the first call leaves in its second result. -/
theorem out_arr (d y : Vec Ideal S8192x1024 .f32) : (dat0 V c).arrAt 11 cfg0.N = rows1 (fstArrays V c d y).out := out_whole V c _ fun t r l => out_blk V c t r d y l
end First

section Second
variable (t : Fin cfg1.N) (r : Fin 512)
theorem at1_0 : ∀ t : Fin cfg1.N, win1_0.index t = ![t.val, 0] := by decide +kernel
theorem in1_0 : rw2 (iblk1 V c 0 t : Vec Ideal S512x1024 .f32) r = rw2 (V c main_v2_1 : Vec Ideal S8192x1024 .f32) (row1 t r) := by
  funext l
  refine congrArg (V c main_v2_1) ?_
  unfold row1
  blk_ext! [at1_0]
theorem at1_1 : ∀ t : Fin cfg1.N, win1_1.index t = ![t.val, 0] := by decide +kernel
theorem in1_1 : rw2 (iblk1 V c 1 t : Vec Ideal S512x1024 .f32) r = rw2 (V c main_arg9 : Vec Ideal S8192x1024 .f32) (row1 t r) := by
  funext l
  refine congrArg (V c main_arg9) ?_
  unfold row1
  blk_ext! [at1_1]
theorem at1_2 : ∀ t : Fin cfg1.N, win1_2.index t = ![t.val, 0] := by decide +kernel
theorem in1_2 : rw2 (iblk1 V c 2 t : Vec Ideal S512x1024 .f32) r = rw2 (V c main_arg0 : Vec Ideal S8192x1024 .f32) (row1 t r) := by
  funext l
  refine congrArg (V c main_arg0) ?_
  unfold row1
  blk_ext! [at1_2]
theorem at1_3 : ∀ t : Fin cfg1.N, win1_3.index t = ![t.val, 2] := by decide +kernel
theorem in1_3 : rw2 (iblk1 V c 3 t : Vec Ideal S512x1024 .f32) r = fun l => rw2 (V c main_arg1 : Vec Ideal S8192x3072 .f32) (row1 t r) (third 2 l) := by
  funext l
  refine congrArg (V c main_arg1) ?_
  unfold row1 third
  blk_ext! [at1_3]
theorem at1_4 : ∀ t : Fin cfg1.N, win1_4.index t = ![0, 0] := by decide +kernel
theorem in1_4 : rw2 (iblk1 V c 4 t : Vec Ideal S1x3072 .f32) 0 = rw2 (V c main_arg2 : Vec Ideal S1x3072 .f32) 0 := by
  funext l
  refine congrArg (V c main_arg2) ?_
  blk_ext! [at1_4]
theorem at1_5 : ∀ t : Fin cfg1.N, win1_5.index t = ![0, 0] := by decide +kernel
theorem in1_5 : rw2 (iblk1 V c 5 t : Vec Ideal S1x1024 .f32) 0 = rw2 (V c main_arg3 : Vec Ideal S1x1024 .f32) 0 := by
  funext l
  refine congrArg (V c main_arg3) ?_
  blk_ext! [at1_5]
theorem at1_6 : ∀ t : Fin cfg1.N, win1_6.index t = ![0, 0] := by decide +kernel
theorem in1_6 : rw2 (iblk1 V c 6 t : Vec Ideal S1x1024 .f32) 0 = rw2 (V c main_arg4 : Vec Ideal S1x1024 .f32) 0 := by
  funext l
  refine congrArg (V c main_arg4) ?_
  blk_ext! [at1_6]
theorem at1_7 : ∀ t : Fin cfg1.N, win1_7.index t = ![0, 0] := by decide +kernel
theorem in1_7 : rw2 (iblk1 V c 7 t : Vec Ideal S1x1024 .f32) 0 = rw2 (V c main_arg6 : Vec Ideal S1x1024 .f32) 0 := by
  funext l
  refine congrArg (V c main_arg6) ?_
  blk_ext! [at1_7]
theorem at1_8 : ∀ t : Fin cfg1.N, win1_8.index t = ![0, 0] := by decide +kernel
theorem in1_8 : rw2 (iblk1 V c 8 t : Vec Ideal S1x3072 .f32) 0 = rw2 (V c main_arg7 : Vec Ideal S1x3072 .f32) 0 := by
  funext l
  refine congrArg (V c main_arg7) ?_
  blk_ext! [at1_8]
theorem at1_9 : ∀ t : Fin cfg1.N, win1_9.index t = ![0, 0] := by decide +kernel
theorem in1_9 : rw2 (iblk1 V c 9 t : Vec Ideal S1x3072 .f32) 0 = rw2 (V c main_arg8 : Vec Ideal S1x3072 .f32) 0 := by
  funext l
  refine congrArg (V c main_arg8) ?_
  blk_ext! [at1_9]
theorem at1_10 : ∀ t : Fin cfg1.N, win1_10.index t = ![0, 0] := by decide +kernel
theorem in1_10 : rw2 (iblk1 V c 10 t : Vec Ideal S1024x1024 .bf16) = rw2 (V c main_v0 : Vec Ideal S1024x1024 .bf16) := by
  funext n l
  refine congrArg (V c main_v0) ?_
  blk_ext! [at1_10]
theorem at1_11 : ∀ t : Fin cfg1.N, win1_11.index t = ![t.val, 0] := by decide +kernel
theorem emb1_11 (l : Fin 1024) : (win1_11.blk t).view.emb (ix2 r l) = ix2 (row1 t r) l := by
  unfold row1
  blk_ext! [at1_11]
theorem at1_12 : ∀ t : Fin cfg1.N, win1_12.index t = ![t.val, 0] := by decide +kernel
theorem emb1_12 (l : Fin 1024) : (win1_12.blk t).view.emb (ix2 r l) = ix2 (row1 t r) l := by
  unfold row1
  blk_ext! [at1_12]
theorem at1_13 : ∀ t : Fin cfg1.N, win1_13.index t = ![t.val, 0] := by decide +kernel
theorem emb1_13 (l : Fin 1024) : (win1_13.blk t).view.emb (ix2 r l) = ix2 (row1 t r) l := by
  unfold row1
  blk_ext! [at1_13]
/-- The arrays that the second call reads. -/
def sndArrays : Arrays := ⟨V c main_arg0, V c main_arg1, V c main_arg2, V c main_arg3, V c main_arg4, (V c main_v0 : Vec Ideal S1024x1024 .bf16), V c main_arg6, V c main_arg7, V c main_arg8, V c main_arg9, V c main_v2_1⟩
/-- The gradients of a block's product rows and of its mixed rows. -/
abbrev pY : FVec Ideal S512x1024 .bf16 := k1_pay13 (F := Ideal) (k1_pay4 (iblk1 V c 0 t)) (k1_pay6 (iblk1 V c 0 t)) (k1_pay7 (iblk1 V c 0 t)) (k1_pay12 (iblk1 V c 7 t) (iblk1 V c 8 t) (iblk1 V c 9 t) (iblk1 V c 1 t))
abbrev pM : FVec Ideal S512x1024 .f32 := k1_pay14 (F := Ideal) (k1_pay4 (iblk1 V c 0 t)) (k1_pay6 (iblk1 V c 0 t)) (k1_pay7 (iblk1 V c 0 t)) (k1_pay12 (iblk1 V c 7 t) (iblk1 V c 8 t) (iblk1 V c 9 t) (iblk1 V c 1 t)) (iblk1 V c 10 t)
theorem gy_at (l : Fin 1024) : pY V c t (ix2 r l) = (sndArrays V c).gy (row1 t r) l := by
  rw [pY, dRow_at, in1_0, in1_1, in1_7, in1_8, in1_9]
  rfl
theorem gm_row : rw2 (pM V c t) r = (sndArrays V c).gm (row1 t r) := by
  funext l
  show pM V c t (ix2 r l) = _
  rw [pM, dMix_at, in1_0, in1_1, in1_7, in1_8, in1_9, in1_10]
  rfl
theorem gg_at (l : Fin 1024) : k1_pay28 (F := Ideal) (iblk1 V c 5 t) (iblk1 V c 6 t) (pM V c t) (iblk1 V c 3 t) (k1_pay15 (iblk1 V c 4 t)) (k1_pay19 (iblk1 V c 2 t)) (k1_pay21 (iblk1 V c 2 t)) (ix2 r l) = (sndArrays V c).gg (row1 t r) l := by
  rw [dArg_at, gm_row, in1_2, in1_3, in1_4, in1_5, in1_6]
  rfl
theorem gu_at (l : Fin 1024) : k1_pay37 (F := Ideal) (k1_pay18 (iblk1 V c 2 t)) (k1_pay34 (iblk1 V c 5 t) (iblk1 V c 6 t) (pM V c t) (iblk1 V c 3 t) (k1_pay15 (iblk1 V c 4 t)) (k1_pay19 (iblk1 V c 2 t)) (k1_pay21 (iblk1 V c 2 t))) (k1_pay35 (iblk1 V c 5 t) (iblk1 V c 6 t) (pM V c t) (iblk1 V c 3 t) (k1_pay15 (iblk1 V c 4 t)) (k1_pay19 (iblk1 V c 2 t)) (k1_pay21 (iblk1 V c 2 t))) (k1_pay36 (iblk1 V c 5 t) (iblk1 V c 6 t) (pM V c t) (iblk1 V c 3 t) (k1_pay15 (iblk1 V c 4 t)) (k1_pay19 (iblk1 V c 2 t)) (k1_pay21 (iblk1 V c 2 t)) (k1_pay22 (iblk1 V c 2 t))) (ix2 r l)
    = (sndArrays V c).gu (row1 t r) l := by
  rw [dLn_at, gm_row, in1_2, in1_3, in1_4, in1_5, in1_6]
  rfl
theorem t14 (l : Fin 1024) : k1_pay11 (F := Ideal) (iblk1 V c 8 t) (iblk1 V c 9 t) (iblk1 V c 0 t) (iblk1 V c 1 t) (ix2 0 l) = ∑ r : Fin 512, (sndArrays V c).aG (row1 t r) l := by
  rw [sumGain]
  refine Finset.sum_congr rfl fun r _ => ?_
  rw [in1_0, in1_1, in1_8, in1_9]
  rfl
theorem t15 (l : Fin 1024) : k1_pay10 (F := Ideal) (iblk1 V c 7 t) (iblk1 V c 0 t) (iblk1 V c 1 t) (ix2 0 l) = ∑ r : Fin 512, (sndArrays V c).aM (row1 t r) l := by
  rw [sumGate]
  refine Finset.sum_congr rfl fun r _ => ?_
  rw [in1_0, in1_1, in1_7]
  rfl
theorem t16 (l : Fin 1024) : k1_pay29 (F := Ideal) (iblk1 V c 5 t) (iblk1 V c 6 t) (pM V c t) (iblk1 V c 3 t) (k1_pay15 (iblk1 V c 4 t)) (k1_pay19 (iblk1 V c 2 t)) (k1_pay21 (iblk1 V c 2 t)) (ix2 0 l) = ∑ r : Fin 512, (sndArrays V c).gg (row1 t r) l := by
  rw [sumArg]
  refine Finset.sum_congr rfl fun r _ => ?_
  rw [gm_row, in1_2, in1_3, in1_4, in1_5, in1_6]
  rfl
theorem t17 (l : Fin 1024) : k1_pay32 (F := Ideal) (iblk1 V c 5 t) (iblk1 V c 6 t) (pM V c t) (iblk1 V c 3 t) (k1_pay15 (iblk1 V c 4 t)) (k1_pay19 (iblk1 V c 2 t)) (k1_pay21 (iblk1 V c 2 t)) (ix2 0 l) = ∑ r : Fin 512, (sndArrays V c).aP (row1 t r) l := by
  rw [sumLn]
  refine Finset.sum_congr rfl fun r _ => ?_
  rw [gm_row, in1_2, in1_3, in1_4, in1_5, in1_6]
  rfl
theorem t18 (l : Fin 1024) : k1_pay31 (F := Ideal) (iblk1 V c 5 t) (iblk1 V c 6 t) (pM V c t) (iblk1 V c 3 t) (k1_pay15 (iblk1 V c 4 t)) (k1_pay19 (iblk1 V c 2 t)) (k1_pay21 (iblk1 V c 2 t)) (ix2 0 l) = ∑ r : Fin 512, (sndArrays V c).gn (row1 t r) l := by
  rw [sumAff]
  refine Finset.sum_congr rfl fun r _ => ?_
  rw [gm_row, in1_2, in1_3, in1_4, in1_5, in1_6]
  rfl
end Second

section Add
variable (s a : FVec Ideal S1x1024 .f32) (l : Fin 1024)
theorem add14 : k1_pay44 (F := Ideal) s a (ix2 0 l) = a (ix2 0 l) + s (ix2 0 l) := by
  unfold k1_pay44
  pointwise
theorem add15 : k1_pay45 (F := Ideal) s a (ix2 0 l) = a (ix2 0 l) + s (ix2 0 l) := by
  unfold k1_pay45
  pointwise
theorem add16 : k1_pay1 (F := Ideal) s (k1_pay46 a) (ix2 0 l) = a (ix2 0 l) + s (ix2 0 l) := by
  unfold k1_pay1 k1_pay46
  pointwise
theorem add17 : k1_pay2 (F := Ideal) s a (ix2 0 l) = a (ix2 0 l) + s (ix2 0 l) := by
  unfold k1_pay2
  pointwise
theorem add18 : k1_pay3 (F := Ideal) s a (ix2 0 l) = a (ix2 0 l) + s (ix2 0 l) := by
  unfold k1_pay3
  pointwise
end Add

section Left
variable (t : Fin cfg1.N)
theorem left11 (y) : (outsAt1 V c t.val t.isLt).1 y = pY V c t y := by
  by_cases h0 : t.val % 16 = 0
  · rw [outsAt1_A V c t h0]
    dsimp only
    frame_out
  · rw [outsAt1_B V c t h0]
    dsimp only
    frame_out
theorem left12 (y) : (outsAt1 V c t.val t.isLt).2.1 y = k1_pay37 (F := Ideal) (k1_pay18 (iblk1 V c 2 t)) (k1_pay34 (iblk1 V c 5 t) (iblk1 V c 6 t) (pM V c t) (iblk1 V c 3 t) (k1_pay15 (iblk1 V c 4 t)) (k1_pay19 (iblk1 V c 2 t)) (k1_pay21 (iblk1 V c 2 t))) (k1_pay35 (iblk1 V c 5 t) (iblk1 V c 6 t) (pM V c t) (iblk1 V c 3 t) (k1_pay15 (iblk1 V c 4 t)) (k1_pay19 (iblk1 V c 2 t)) (k1_pay21 (iblk1 V c 2 t))) (k1_pay36 (iblk1 V c 5 t) (iblk1 V c 6 t) (pM V c t) (iblk1 V c 3 t) (k1_pay15 (iblk1 V c 4 t)) (k1_pay19 (iblk1 V c 2 t)) (k1_pay21 (iblk1 V c 2 t)) (k1_pay22 (iblk1 V c 2 t))) y := by
  by_cases h0 : t.val % 16 = 0
  · rw [outsAt1_A V c t h0]
    dsimp only
    frame_out
  · rw [outsAt1_B V c t h0]
    dsimp only
    frame_out
theorem left13 (y) : (outsAt1 V c t.val t.isLt).2.2.1 y = k1_pay38 (F := Ideal) (k1_pay28 (iblk1 V c 5 t) (iblk1 V c 6 t) (pM V c t) (iblk1 V c 3 t) (k1_pay15 (iblk1 V c 4 t)) (k1_pay19 (iblk1 V c 2 t)) (k1_pay21 (iblk1 V c 2 t))) y := by
  by_cases h0 : t.val % 16 = 0
  · rw [outsAt1_A V c t h0]
    dsimp only
    frame_out
  · rw [outsAt1_B V c t h0]
    dsimp only
    frame_out
theorem first14 (h0 : t.val % 16 = 0) (l : Fin 1024) : (outsAt1 V c t.val t.isLt).2.2.2.1 (ix2 0 l) = (fun _ : Fin 1024 => (0 : EReal)) l + ∑ r : Fin 512, (sndArrays V c).aG (row1 t r) l := by
  have e : (outsAt1 V c t.val t.isLt).2.2.2.1 (ix2 0 l) = k1_pay44 (F := Ideal) (k1_pay11 (F := Ideal) (iblk1 V c 8 t) (iblk1 V c 9 t) (iblk1 V c 0 t) (iblk1 V c 1 t)) (k1_pay39 (F := Ideal)) (ix2 0 l) := by
    rw [outsAt1_A V c t h0]
    dsimp only
    frame_out
  rw [e, add14, t14]
  exact congrArg (· + _) Ideal.ofBits_zero_f32
theorem next14 (h0 : ¬t.val % 16 = 0) (l : Fin 1024) : (outsAt1 V c t.val t.isLt).2.2.2.1 (ix2 0 l) = (outsAt1 V c (t.val - 1) (Nat.lt_of_le_of_lt (Nat.sub_le _ _) t.isLt)).2.2.2.1 (ix2 0 l) + ∑ r : Fin 512, (sndArrays V c).aG (row1 t r) l := by
  have e : (outsAt1 V c t.val t.isLt).2.2.2.1 (ix2 0 l) = k1_pay44 (F := Ideal) (k1_pay11 (F := Ideal) (iblk1 V c 8 t) (iblk1 V c 9 t) (iblk1 V c 0 t) (iblk1 V c 1 t)) (outsAt1 V c (t.val - 1) (Nat.lt_of_le_of_lt (Nat.sub_le _ _) t.isLt)).2.2.2.1 (ix2 0 l) := by
    rw [outsAt1_B V c t h0]
    dsimp only
    frame_out
  rw [e, add14, t14]
theorem first15 (h0 : t.val % 16 = 0) (l : Fin 1024) : (outsAt1 V c t.val t.isLt).2.2.2.2.1 (ix2 0 l) = (fun _ : Fin 1024 => (0 : EReal)) l + ∑ r : Fin 512, (sndArrays V c).aM (row1 t r) l := by
  have e : (outsAt1 V c t.val t.isLt).2.2.2.2.1 (ix2 0 l) = k1_pay45 (F := Ideal) (k1_pay10 (F := Ideal) (iblk1 V c 7 t) (iblk1 V c 0 t) (iblk1 V c 1 t)) (k1_pay40 (F := Ideal)) (ix2 0 l) := by
    rw [outsAt1_A V c t h0]
    dsimp only
    frame_out
  rw [e, add15, t15]
  exact congrArg (· + _) Ideal.ofBits_zero_f32
theorem next15 (h0 : ¬t.val % 16 = 0) (l : Fin 1024) : (outsAt1 V c t.val t.isLt).2.2.2.2.1 (ix2 0 l) = (outsAt1 V c (t.val - 1) (Nat.lt_of_le_of_lt (Nat.sub_le _ _) t.isLt)).2.2.2.2.1 (ix2 0 l) + ∑ r : Fin 512, (sndArrays V c).aM (row1 t r) l := by
  have e : (outsAt1 V c t.val t.isLt).2.2.2.2.1 (ix2 0 l) = k1_pay45 (F := Ideal) (k1_pay10 (F := Ideal) (iblk1 V c 7 t) (iblk1 V c 0 t) (iblk1 V c 1 t)) (outsAt1 V c (t.val - 1) (Nat.lt_of_le_of_lt (Nat.sub_le _ _) t.isLt)).2.2.2.2.1 (ix2 0 l) := by
    rw [outsAt1_B V c t h0]
    dsimp only
    frame_out
  rw [e, add15, t15]
theorem first16 (h0 : t.val % 16 = 0) (l : Fin 1024) : (outsAt1 V c t.val t.isLt).2.2.2.2.2.1 (ix2 0 l) = (fun _ : Fin 1024 => (0 : EReal)) l + ∑ r : Fin 512, (sndArrays V c).gg (row1 t r) l := by
  have e : (outsAt1 V c t.val t.isLt).2.2.2.2.2.1 (ix2 0 l) = k1_pay1 (F := Ideal) (k1_pay29 (F := Ideal) (iblk1 V c 5 t) (iblk1 V c 6 t) (pM V c t) (iblk1 V c 3 t) (k1_pay15 (iblk1 V c 4 t)) (k1_pay19 (iblk1 V c 2 t)) (k1_pay21 (iblk1 V c 2 t))) (k1_pay46 (k1_pay41 (F := Ideal))) (ix2 0 l) := by
    rw [outsAt1_A V c t h0]
    dsimp only
    frame_out
  rw [e, add16, t16]
  exact congrArg (· + _) Ideal.ofBits_zero_f32
theorem next16 (h0 : ¬t.val % 16 = 0) (l : Fin 1024) : (outsAt1 V c t.val t.isLt).2.2.2.2.2.1 (ix2 0 l) = (outsAt1 V c (t.val - 1) (Nat.lt_of_le_of_lt (Nat.sub_le _ _) t.isLt)).2.2.2.2.2.1 (ix2 0 l) + ∑ r : Fin 512, (sndArrays V c).gg (row1 t r) l := by
  have e : (outsAt1 V c t.val t.isLt).2.2.2.2.2.1 (ix2 0 l) = k1_pay1 (F := Ideal) (k1_pay29 (F := Ideal) (iblk1 V c 5 t) (iblk1 V c 6 t) (pM V c t) (iblk1 V c 3 t) (k1_pay15 (iblk1 V c 4 t)) (k1_pay19 (iblk1 V c 2 t)) (k1_pay21 (iblk1 V c 2 t))) (k1_pay46 (outsAt1 V c (t.val - 1) (Nat.lt_of_le_of_lt (Nat.sub_le _ _) t.isLt)).2.2.2.2.2.1) (ix2 0 l) := by
    rw [outsAt1_B V c t h0]
    dsimp only
    frame_out
  rw [e, add16, t16]
theorem first17 (h0 : t.val % 16 = 0) (l : Fin 1024) : (outsAt1 V c t.val t.isLt).2.2.2.2.2.2.1 (ix2 0 l) = (fun _ : Fin 1024 => (0 : EReal)) l + ∑ r : Fin 512, (sndArrays V c).aP (row1 t r) l := by
  have e : (outsAt1 V c t.val t.isLt).2.2.2.2.2.2.1 (ix2 0 l) = k1_pay2 (F := Ideal) (k1_pay32 (F := Ideal) (iblk1 V c 5 t) (iblk1 V c 6 t) (pM V c t) (iblk1 V c 3 t) (k1_pay15 (iblk1 V c 4 t)) (k1_pay19 (iblk1 V c 2 t)) (k1_pay21 (iblk1 V c 2 t))) (k1_pay42 (F := Ideal)) (ix2 0 l) := by
    rw [outsAt1_A V c t h0]
    dsimp only
    frame_out
  rw [e, add17, t17]
  exact congrArg (· + _) Ideal.ofBits_zero_f32
theorem next17 (h0 : ¬t.val % 16 = 0) (l : Fin 1024) : (outsAt1 V c t.val t.isLt).2.2.2.2.2.2.1 (ix2 0 l) = (outsAt1 V c (t.val - 1) (Nat.lt_of_le_of_lt (Nat.sub_le _ _) t.isLt)).2.2.2.2.2.2.1 (ix2 0 l) + ∑ r : Fin 512, (sndArrays V c).aP (row1 t r) l := by
  have e : (outsAt1 V c t.val t.isLt).2.2.2.2.2.2.1 (ix2 0 l) = k1_pay2 (F := Ideal) (k1_pay32 (F := Ideal) (iblk1 V c 5 t) (iblk1 V c 6 t) (pM V c t) (iblk1 V c 3 t) (k1_pay15 (iblk1 V c 4 t)) (k1_pay19 (iblk1 V c 2 t)) (k1_pay21 (iblk1 V c 2 t))) (outsAt1 V c (t.val - 1) (Nat.lt_of_le_of_lt (Nat.sub_le _ _) t.isLt)).2.2.2.2.2.2.1 (ix2 0 l) := by
    rw [outsAt1_B V c t h0]
    dsimp only
    frame_out
  rw [e, add17, t17]
theorem first18 (h0 : t.val % 16 = 0) (l : Fin 1024) : (outsAt1 V c t.val t.isLt).2.2.2.2.2.2.2 (ix2 0 l) = (fun _ : Fin 1024 => (0 : EReal)) l + ∑ r : Fin 512, (sndArrays V c).gn (row1 t r) l := by
  have e : (outsAt1 V c t.val t.isLt).2.2.2.2.2.2.2 (ix2 0 l) = k1_pay3 (F := Ideal) (k1_pay31 (F := Ideal) (iblk1 V c 5 t) (iblk1 V c 6 t) (pM V c t) (iblk1 V c 3 t) (k1_pay15 (iblk1 V c 4 t)) (k1_pay19 (iblk1 V c 2 t)) (k1_pay21 (iblk1 V c 2 t))) (k1_pay43 (F := Ideal)) (ix2 0 l) := by
    rw [outsAt1_A V c t h0]
    dsimp only
    frame_out
  rw [e, add18, t18]
  exact congrArg (· + _) Ideal.ofBits_zero_f32
theorem next18 (h0 : ¬t.val % 16 = 0) (l : Fin 1024) : (outsAt1 V c t.val t.isLt).2.2.2.2.2.2.2 (ix2 0 l) = (outsAt1 V c (t.val - 1) (Nat.lt_of_le_of_lt (Nat.sub_le _ _) t.isLt)).2.2.2.2.2.2.2 (ix2 0 l) + ∑ r : Fin 512, (sndArrays V c).gn (row1 t r) l := by
  have e : (outsAt1 V c t.val t.isLt).2.2.2.2.2.2.2 (ix2 0 l) = k1_pay3 (F := Ideal) (k1_pay31 (F := Ideal) (iblk1 V c 5 t) (iblk1 V c 6 t) (pM V c t) (iblk1 V c 3 t) (k1_pay15 (iblk1 V c 4 t)) (k1_pay19 (iblk1 V c 2 t)) (k1_pay21 (iblk1 V c 2 t))) (outsAt1 V c (t.val - 1) (Nat.lt_of_le_of_lt (Nat.sub_le _ _) t.isLt)).2.2.2.2.2.2.2 (ix2 0 l) := by
    rw [outsAt1_B V c t h0]
    dsimp only
    frame_out
  rw [e, add18, t18]
end Left

theorem total_points (f : Fin 8192 → Fin 1024 → EReal) (l : Fin 1024) : (∑ t : Fin cfg1.N, ∑ r : Fin 512, f (row1 t r) l) = total f (ix2 0 l) :=
  (Cert.MidGrad.sum_groups (A := cfg1.N) (B := 512) (show 16 * 512 = 8192 from rfl) (fun i => f i l) (fun t r => row1 t r) (fun _ _ => rfl)).symm
/-- The last point. -/
abbrev tLast : Fin cfg1.N := ⟨15, by decide⟩
/-- Row sums that start at the first point and grow at each further one end at the sum over all rows. -/
theorem acc_last (a : (n : ℕ) → n < cfg1.N → Vec Ideal S1x1024 .f32) (f : Fin 8192 → Fin 1024 → EReal)
    (h0 : ∀ t : Fin cfg1.N, t.val % 16 = 0 → ∀ l : Fin 1024, a t.val t.isLt (ix2 0 l) = (fun _ : Fin 1024 => (0 : EReal)) l + ∑ r : Fin 512, f (row1 t r) l)
    (hs : ∀ t : Fin cfg1.N, ¬t.val % 16 = 0 → ∀ l : Fin 1024, a t.val t.isLt (ix2 0 l) = a (t.val - 1) (Nat.lt_of_le_of_lt (Nat.sub_le _ _) t.isLt) (ix2 0 l) + ∑ r : Fin 512, f (row1 t r) l)
    (j : S1x1024.Idx) : a tLast.val tLast.isLt j = total f j := by
  obtain ⟨l, rfl⟩ := one_row j
  rw [Pipeline.eq_sum_fin_of_reset_step_apply_last (fun n h (l : Fin 1024) => a n h (ix2 0 l)) 16 (fun _ => 0) (fun t l => ∑ r : Fin 512, f (row1 t r) l) h0 hs (le_of_eq N_1) tLast rfl l,
    zero_add, total_points]
section Results
theorem whole11 (G : Vec Ideal S8192x1024 .bf16) (hG : ∀ (t : Fin cfg1.N) (r : Fin 512) (l : Fin 1024), (outsAt1 V c t.val t.isLt).1 (ix2 r l) = G ((win1_11.blk t).view.emb (ix2 r l))) : (dat1 V c).arrAt 11 cfg1.N = G := by
  refine (dat1 V c).arrAt_eq_of_covers 11 _ (by decide +kernel) fun t hf y => ?_
  obtain ⟨r, l, rfl⟩ : ∃ (r : Fin 512) (l : Fin 1024), y = ix2 r l := ⟨y 0, y 1, eq_ix2 y⟩
  exact (congrFun (after1_11 V c t) (ix2 r l)).trans (hG t r l)
theorem arr11 : (dat1 V c).arrAt 11 cfg1.N = rows1 (sndArrays V c).gy :=
  whole11 V c _ fun t r l => by
    rw [left11, gy_at, emb1_11]
    rfl
theorem whole12 (G : Vec Ideal S8192x1024 .f32) (hG : ∀ (t : Fin cfg1.N) (r : Fin 512) (l : Fin 1024), (outsAt1 V c t.val t.isLt).2.1 (ix2 r l) = G ((win1_12.blk t).view.emb (ix2 r l))) : (dat1 V c).arrAt 12 cfg1.N = G := by
  refine (dat1 V c).arrAt_eq_of_covers 12 _ (by decide +kernel) fun t hf y => ?_
  obtain ⟨r, l, rfl⟩ : ∃ (r : Fin 512) (l : Fin 1024), y = ix2 r l := ⟨y 0, y 1, eq_ix2 y⟩
  exact (congrFun (after1_12 V c t) (ix2 r l)).trans (hG t r l)
theorem arr12 : (dat1 V c).arrAt 12 cfg1.N = rows1 (sndArrays V c).gu :=
  whole12 V c _ fun t r l => by
    rw [left12, gu_at, emb1_12]
    rfl
theorem whole13 (G : Vec Ideal S8192x1024 .bf16) (hG : ∀ (t : Fin cfg1.N) (r : Fin 512) (l : Fin 1024), (outsAt1 V c t.val t.isLt).2.2.1 (ix2 r l) = G ((win1_13.blk t).view.emb (ix2 r l))) : (dat1 V c).arrAt 13 cfg1.N = G := by
  refine (dat1 V c).arrAt_eq_of_covers 13 _ (by decide +kernel) fun t hf y => ?_
  obtain ⟨r, l, rfl⟩ : ∃ (r : Fin 512) (l : Fin 1024), y = ix2 r l := ⟨y 0, y 1, eq_ix2 y⟩
  exact (congrFun (after1_13 V c t) (ix2 r l)).trans (hG t r l)
theorem arr13 : (dat1 V c).arrAt 13 cfg1.N = rows1 (sndArrays V c).gg :=
  whole13 V c _ fun t r l => by
    rw [left13, k1_pay38, truncf_apply, gg_at, emb1_13]
    rfl
theorem arr14 : (dat1 V c).arrAt 14 cfg1.N = total (sndArrays V c).aG :=
  (dat1 V c).arrAt_eq_of_after_last 14 tLast (by decide +kernel) _ fun j =>
    (congrFun (after1_14 V c tLast) j).trans (acc_last (fun n h => (outsAt1 V c n h).2.2.2.1) _ (first14 V c) (next14 V c) j)
theorem arr15 : (dat1 V c).arrAt 15 cfg1.N = total (sndArrays V c).aM :=
  (dat1 V c).arrAt_eq_of_after_last 15 tLast (by decide +kernel) _ fun j =>
    (congrFun (after1_15 V c tLast) j).trans (acc_last (fun n h => (outsAt1 V c n h).2.2.2.2.1) _ (first15 V c) (next15 V c) j)
theorem arr16 : (dat1 V c).arrAt 16 cfg1.N = total (sndArrays V c).gg :=
  (dat1 V c).arrAt_eq_of_after_last 16 tLast (by decide +kernel) _ fun j =>
    (congrFun (after1_16 V c tLast) j).trans (acc_last (fun n h => (outsAt1 V c n h).2.2.2.2.2.1) _ (first16 V c) (next16 V c) j)
theorem arr17 : (dat1 V c).arrAt 17 cfg1.N = total (sndArrays V c).aP :=
  (dat1 V c).arrAt_eq_of_after_last 17 tLast (by decide +kernel) _ fun j =>
    (congrFun (after1_17 V c tLast) j).trans (acc_last (fun n h => (outsAt1 V c n h).2.2.2.2.2.2.1) _ (first17 V c) (next17 V c) j)
theorem arr18 : (dat1 V c).arrAt 18 cfg1.N = total (sndArrays V c).gn :=
  (dat1 V c).arrAt_eq_of_after_last 18 tLast (by decide +kernel) _ fun j =>
    (congrFun (after1_18 V c tLast) j).trans (acc_last (fun n h => (outsAt1 V c n h).2.2.2.2.2.2.2) _ (first18 V c) (next18 V c) j)
end Results
end Cert.OdOutIdeal.Val
-- ==== Proof.OdOutRun.lean ====
module
public import proofs.«01_k».proof.Proof.OdOutCall
@[expose] public section
set_option maxRecDepth 16384
noncomputable section
namespace Cert.OdOutIdeal.Val
open Cert.OdOutIdeal Cert.OdOutIdeal.Gen Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Cert.OdInIdeal.Val (rows1 total)

local notation "𝕄" => MT nD τ sig Unit (Elt Ideal) ℕ (UR sig nD τ) ℕ

variable (m : (ℓ : Loc nD τ sig) → Buf (Elt Ideal) ℓ) (ρ : Dev nD → PrngReg) (c : Dev nD)

set_option backward.isDefEq.respectTransparency.types false in
/-- Every execution ends with each buffer at what the last stretch of host operations leaves in it. -/
theorem run_all : θ_run defs (onTc (τ := τ) (main (F := Ideal))) ⟨m, fun _ => 0, ρ⟩ fun r => ∀ c : Dev nD, ∀ b ∈ Pipeline.ucRefs τ sig, r.2.mem ((c : Thread nD τ).1, b) = W4 m ρ c b :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem ((c : Thread nD τ).1, b) = W4 m ρ c b)
    (hQ := fun _ h _ => h)
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (hch := ⟨fun _ => .rfl, fun _ => .rfl, fun _ => .rfl, fun _ => .rfl, fun c => by
      dsimp only [Pipeline.Seg.post, hseg, Pipeline.HostSeg.ofOps]
      iintro ⟨H, P, O⟩
      isplitl [H P]
      · isplitl [H]
        · iexact H
        iexact P
      iexact O⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨H, -, O, -, P, -⟩, -⟩
      imodintro
      isplitl [H]
      · iexact H
      isplitl [P]
      · iexists _
        iexact P
      iexists ∅
      iexact O)
    (hfin := fun c s => by
      iintro ⟨⟨H, -⟩, S⟩
      unfold StableHlo.held
      imodintro
      iapply (pointsTo_read_all (Pipeline.ucRefs τ sig) (fun b => ((c : Thread nD τ).1, b)) (W4 m ρ c) s)
      isplitl [H] <;> iassumption)

/-- The arrays of the launch, with nothing yet at the product's place, and with the product there. -/
def given : Arrays := ⟨m ((c.tc : Thread nD τ).loc main_arg0), m ((c.tc : Thread nD τ).loc main_arg1), m ((c.tc : Thread nD τ).loc main_arg2), m ((c.tc : Thread nD τ).loc main_arg3),
  m ((c.tc : Thread nD τ).loc main_arg4), m ((c.tc : Thread nD τ).loc main_arg5), m ((c.tc : Thread nD τ).loc main_arg6), m ((c.tc : Thread nD τ).loc main_arg7),
  m ((c.tc : Thread nD τ).loc main_arg8), m ((c.tc : Thread nD τ).loc main_arg9), fun _ => 0⟩
abbrev launched : Arrays := (given m c).filled

section Entry
theorem cast0 (V : Valuation τ sig (Elt Ideal)) : (StableHlo.after (hostOps0 (F := Ideal)) V (Proc.devRef .tc main_v0) : Vec Ideal S1024x1024 .bf16) = (V (Proc.devRef .tc main_arg5) : Vec Ideal S1024x1024 .f32) := by
  simp only [hostOps0]
  after_results_simp <;> rfl
theorem cast4 (V : Valuation τ sig (Elt Ideal)) : (StableHlo.after (hostOps2 (F := Ideal)) V (Proc.devRef .tc main_v4) : Vec Ideal S8192x1024 .f32) = (V (Proc.devRef .tc main_v3_0) : Vec Ideal S8192x1024 .bf16) := by
  simp only [hostOps2]
  after_results_simp <;> rfl
theorem cast5 (V : Valuation τ sig (Elt Ideal)) : (StableHlo.after (hostOps2 (F := Ideal)) V (Proc.devRef .tc main_v5) : Vec Ideal S8192x1024 .f32) = (V (Proc.devRef .tc main_v3_2) : Vec Ideal S8192x1024 .bf16) := by
  simp only [hostOps2]
  after_results_simp <;> rfl
theorem V1_w : V1 m ρ c main_v0 = m ((c.tc : Thread nD τ).loc main_arg5) := (cast0 (W0 m ρ c)).trans (W0_args m ρ c main_arg5 (by decide))
theorem V2_w : V2 m ρ c main_v0 = m ((c.tc : Thread nD τ).loc main_arg5) := (W2_of m ρ c main_v0 (by decide)).trans (V1_w m ρ c)
theorem at1 (b : Ref sig .tc) (hb : b ∈ argRefs) : V1 m ρ c b = m ((c.tc : Thread nD τ).loc b) := W1_args m ρ c b hb
theorem at2 (b : Ref sig .tc) (hb : b ∈ argRefs) : V2 m ρ c b = m ((c.tc : Thread nD τ).loc b) := W2_args m ρ c b hb
/-- The first call reads the launch's arrays. -/
theorem fst_eq : fstArrays (V1 m ρ) c (m ((c.tc : Thread nD τ).loc main_arg9)) (fun _ => 0) = given m c := by
  unfold fstArrays given
  rw [V1_w]
  rw [at1 m ρ c main_arg0 (by decide), at1 m ρ c main_arg1 (by decide), at1 m ρ c main_arg2 (by decide), at1 m ρ c main_arg3 (by decide),
    at1 m ρ c main_arg4 (by decide), at1 m ρ c main_arg6 (by decide), at1 m ρ c main_arg7 (by decide), at1 m ρ c main_arg8 (by decide)]
theorem V2_y : V2 m ρ c main_v2_1 = rows1 (given m c).out := by
  refine (W2_arr m ρ c 11).trans ((out_arr (V1 m ρ) c (m ((c.tc : Thread nD τ).loc main_arg9)) (fun _ => 0)).trans ?_)
  rw [fst_eq]
/-- The second call reads them with the product filled in. -/
theorem snd_eq : sndArrays (V2 m ρ) c = launched m c := by
  unfold sndArrays launched given Arrays.filled
  rw [V2_w, V2_y]
  rw [at2 m ρ c main_arg0 (by decide), at2 m ρ c main_arg1 (by decide), at2 m ρ c main_arg2 (by decide), at2 m ρ c main_arg3 (by decide),
    at2 m ρ c main_arg4 (by decide), at2 m ρ c main_arg6 (by decide), at2 m ρ c main_arg7 (by decide), at2 m ρ c main_arg8 (by decide), at2 m ρ c main_arg9 (by decide)]
  rfl
end Entry

section Results
theorem res0 : W4 m ρ c (Proc.devRef .tc main_v4) = rows1 (launched m c).gy := by
  refine (cast4 (W3 m ρ c)).trans ((W3_arr m ρ c 11).trans ((arr11 (V2 m ρ) c).trans ?_))
  rw [snd_eq]
theorem res2 : W4 m ρ c (Proc.devRef .tc main_v5) = rows1 (launched m c).gg := by
  refine (cast5 (W3 m ρ c)).trans ((W3_arr m ρ c 13).trans ((arr13 (V2 m ρ) c).trans ?_))
  rw [snd_eq]
theorem res1 : W4 m ρ c (Proc.devRef .tc main_v3_1) = rows1 (launched m c).gu := by
  refine (W4_of m ρ c main_v3_1 (by decide)).trans ((W3_arr m ρ c 12).trans ((arr12 (V2 m ρ) c).trans ?_))
  rw [snd_eq]
theorem res3 : W4 m ρ c (Proc.devRef .tc main_v3_3) = total (launched m c).aG := by
  refine (W4_of m ρ c main_v3_3 (by decide)).trans ((W3_arr m ρ c 14).trans ((arr14 (V2 m ρ) c).trans ?_))
  rw [snd_eq]
theorem res4 : W4 m ρ c (Proc.devRef .tc main_v3_4) = total (launched m c).aM := by
  refine (W4_of m ρ c main_v3_4 (by decide)).trans ((W3_arr m ρ c 15).trans ((arr15 (V2 m ρ) c).trans ?_))
  rw [snd_eq]
theorem res5 : W4 m ρ c (Proc.devRef .tc main_v3_5) = total (launched m c).gg := by
  refine (W4_of m ρ c main_v3_5 (by decide)).trans ((W3_arr m ρ c 16).trans ((arr16 (V2 m ρ) c).trans ?_))
  rw [snd_eq]
theorem res6 : W4 m ρ c (Proc.devRef .tc main_v3_6) = total (launched m c).aP := by
  refine (W4_of m ρ c main_v3_6 (by decide)).trans ((W3_arr m ρ c 17).trans ((arr17 (V2 m ρ) c).trans ?_))
  rw [snd_eq]
theorem res7 : W4 m ρ c (Proc.devRef .tc main_v3_7) = total (launched m c).gn := by
  refine (W4_of m ρ c main_v3_7 (by decide)).trans ((W3_arr m ρ c 18).trans ((arr18 (V2 m ρ) c).trans ?_))
  rw [snd_eq]
end Results

/-- Every execution of the kernel ends with the eight gradients in its results. -/
theorem run : θ_run defs (onTc (τ := τ) (main (F := Ideal))) ⟨m, fun _ => 0, ρ⟩ fun r => ∀ c : Dev nD,
      (r.2.mem ((c.tc : Thread nD τ).loc main_v4) = rows1 (launched m c).gy
      ∧ r.2.mem ((c.tc : Thread nD τ).loc main_v3_1) = rows1 (launched m c).gu
      ∧ r.2.mem ((c.tc : Thread nD τ).loc main_v5) = rows1 (launched m c).gg
      ∧ r.2.mem ((c.tc : Thread nD τ).loc main_v3_3) = total (launched m c).aG
      ∧ r.2.mem ((c.tc : Thread nD τ).loc main_v3_4) = total (launched m c).aM
      ∧ r.2.mem ((c.tc : Thread nD τ).loc main_v3_5) = total (launched m c).gg
      ∧ r.2.mem ((c.tc : Thread nD τ).loc main_v3_6) = total (launched m c).aP
      ∧ r.2.mem ((c.tc : Thread nD τ).loc main_v3_7) = total (launched m c).gn) :=
  (θ_run defs _ _).mono (fun r h c => ⟨
      (h c _ (mem_uc main_v4 (by decide))).trans (res0 m ρ c),
      (h c _ (mem_uc main_v3_1 (by decide))).trans (res1 m ρ c),
      (h c _ (mem_uc main_v5 (by decide))).trans (res2 m ρ c),
      (h c _ (mem_uc main_v3_3 (by decide))).trans (res3 m ρ c),
      (h c _ (mem_uc main_v3_4 (by decide))).trans (res4 m ρ c),
      (h c _ (mem_uc main_v3_5 (by decide))).trans (res5 m ρ c),
      (h c _ (mem_uc main_v3_6 (by decide))).trans (res6 m ρ c),
      (h c _ (mem_uc main_v3_7 (by decide))).trans (res7 m ρ c)⟩) (run_all m ρ)
end Cert.OdOutIdeal.Val
-- ==== Proof.OdOutRef.lean ====
module
public import proofs.«01_k».proof.Defs
public import proofs.«01_k».proof.Proof.OdOutRun
public import proofs.«01_k».proof.Proof.Gen.OdOutRefIdeal.Run
public import proofs.«01_k».proof.Proof.Gen.OdOutRefIdeal.Read
@[expose] public section
set_option maxRecDepth 16384
noncomputable section
namespace Cert.OdOutRefIdeal.Val
open Cert.OdOutRefIdeal Cert.OdOutRefIdeal.Gen Cert.OdOutRefIdeal.Read Idealize.ShloMosaic Idealize.ShloMosaic.TcCoe Idealize.SL.Sem Cert.Norm Cert.Exit
open Cert.OdInIdeal.Val (rows1 total one_row)
open Cert.OdOutIdeal.Val (Arrays eLn)

variable (A : Arrays) (i : Fin 8192) (l : Fin 1024)

section LayerNorm
theorem v2_at : (val_main_v2 (F := Ideal) A.u) (ix1 i) = ∑ l, rw2 A.u i l := by
  rw [val_main_v2_apply, val_main_cst_apply]
  refine (congrArg (· + _) Ideal.ofBits_zero_f32).trans ((zero_add _).trans (Finset.sum_congr rfl fun l _ => ?_))
  rw [show idx_main_v2 (ix1 i) l = ix2 i l by idx_ext]
  rfl
theorem v5_at : (val_main_v5 (F := Ideal) A.u) (ix2 i 0) = mean (rw2 A.u i) := by
  unfold mean
  rw [← v2_at]
  unfold val_main_v5 val_main_v4 val_main_v3 val_main_cst_0
  generalize val_main_v2 (F := Ideal) A.u = B
  pointwise
theorem v7_at : (val_main_v7 (F := Ideal) A.u) (ix2 i l) = dev (rw2 A.u i) l := by
  unfold dev
  rw [← v5_at]
  unfold val_main_v7 val_main_v6
  generalize val_main_v5 (F := Ideal) A.u = B
  unfold rw2
  pointwise
theorem v16_at : (val_main_v16 (F := Ideal) A.u) (ix2 i l) = dev (rw2 A.u i) l := v7_at A i l
theorem v11_at : (val_main_v11 (F := Ideal) A.u) (ix1 i) = ∑ l, dev (rw2 A.u i) l * dev (rw2 A.u i) l := by
  rw [val_main_v11_apply, val_main_cst_2_apply]
  refine (congrArg (· + _) Ideal.ofBits_zero_f32).trans ((zero_add _).trans (Finset.sum_congr rfl fun l _ => ?_))
  rw [show idx_main_v11 (ix1 i) l = ix2 i l by idx_ext, val_main_v8_apply, v7_at]
  rfl
theorem v18_at : (val_main_v18 (F := Ideal) A.u) (ix2 i 0) = ms (dev (rw2 A.u i)) := by
  unfold ms
  rw [← v11_at]
  unfold val_main_v18 val_main_v17 val_main_v14 val_main_v13 val_main_v12 val_main_cst_3 val_main_cst_4
  generalize val_main_v11 (F := Ideal) A.u = B
  pointwise
theorem v19_at : (val_main_v19 (F := Ideal) A.u) (ix2 i 0) = rinv (dev (rw2 A.u i)) := by
  unfold rinv
  rw [← v18_at]
  unfold val_main_v19
  generalize val_main_v18 (F := Ideal) A.u = B
  pointwise
theorem v24_at : (val_main_v24 (F := Ideal) A.u) (ix2 i l) = nor (rw2 A.u i) l := by
  unfold nor
  rw [← v16_at, ← v19_at]
  unfold val_main_v24 val_main_v23
  generalize val_main_v16 (F := Ideal) A.u = B
  generalize val_main_v19 (F := Ideal) A.u = C
  pointwise
/-- The layer norm of a row. -/
theorem v28_at : (val_main_v28 (F := Ideal) A.u A.p A.q) (ix2 i l) = aff (rw2 A.u i) (rw2 A.p 0) (rw2 A.q 0) l := by
  unfold aff
  rw [← v24_at]
  unfold val_main_v28 val_main_v27 val_main_v26 val_main_v25
  generalize val_main_v24 (F := Ideal) A.u = B
  unfold rw2
  pointwise
end LayerNorm

section Swish
theorem v31_at : (val_main_v31 (F := Ideal) A.z A.b) (ix2 i l) = arg (A.gr i) A.gb l := by
  unfold arg Arrays.gr Arrays.gb rw2 third
  unfold val_main_v31 val_main_v30 val_main_v0 val_main_v1
  pointwise
theorem v29_2_at : (val_main_v29_2 (F := Ideal) A.u A.p A.q) (ix2 i l) = Ideal.logistic (aff (rw2 A.u i) (rw2 A.p 0) (rw2 A.q 0) l) := by
  rw [← v28_at]
  unfold val_main_v29_2 val_main_call0_v4 val_main_call0_v3 val_main_call0_v2 val_main_call0_v1 val_main_call0_v0 val_main_call0_cst val_main_call0_cst_0
  generalize val_main_v28 (F := Ideal) A.u A.p A.q = B
  unfold Ideal.logistic
  rw [← Ideal.ofBits_one_f32]
  pointwise
theorem v29_1_at : (val_main_v29_1 (F := Ideal) A.u A.p A.q) (ix2 i l) = Ideal.logistic (aff (rw2 A.u i) (rw2 A.p 0) (rw2 A.q 0) l) * (Ideal.ofBits .f32 0x3F800000#32 - Ideal.logistic (aff (rw2 A.u i) (rw2 A.p 0) (rw2 A.q 0) l)) := by
  rw [← v29_2_at]
  unfold val_main_v29_1 val_main_call0_v7 val_main_call0_v6 val_main_call0_cst_1
  generalize val_main_v29_2 (F := Ideal) A.u A.p A.q = B
  pointwise
theorem v29_0_at : (val_main_v29_0 (F := Ideal) A.u A.p A.q) (ix2 i l) = swish (aff (rw2 A.u i) (rw2 A.p 0) (rw2 A.q 0) l) := by
  unfold swish
  rw [← v29_2_at, ← v28_at]
  unfold val_main_v29_0
  generalize val_main_v29_2 (F := Ideal) A.u A.p A.q = B
  generalize val_main_v28 (F := Ideal) A.u A.p A.q = C
  pointwise
theorem v32_2_at : (val_main_v32_2 (F := Ideal) A.z A.b) (ix2 i l) = Ideal.logistic (arg (A.gr i) A.gb l) := by
  rw [← v31_at]
  unfold val_main_v32_2 val_main_call1_v4 val_main_call1_v3 val_main_call1_v2 val_main_call1_v1 val_main_call1_v0 val_main_call1_cst val_main_call1_cst_0
  generalize val_main_v31 (F := Ideal) A.z A.b = B
  unfold Ideal.logistic
  rw [← Ideal.ofBits_one_f32]
  pointwise
theorem v32_1_at : (val_main_v32_1 (F := Ideal) A.z A.b) (ix2 i l) = Ideal.logistic (arg (A.gr i) A.gb l) * (Ideal.ofBits .f32 0x3F800000#32 - Ideal.logistic (arg (A.gr i) A.gb l)) := by
  rw [← v32_2_at]
  unfold val_main_v32_1 val_main_call1_v7 val_main_call1_v6 val_main_call1_cst_1
  generalize val_main_v32_2 (F := Ideal) A.z A.b = B
  pointwise
theorem v32_0_at : (val_main_v32_0 (F := Ideal) A.z A.b) (ix2 i l) = swish (arg (A.gr i) A.gb l) := by
  unfold swish
  rw [← v32_2_at, ← v31_at]
  unfold val_main_v32_0
  generalize val_main_v32_2 (F := Ideal) A.z A.b = B
  generalize val_main_v31 (F := Ideal) A.z A.b = C
  pointwise
theorem v33_at : (val_main_v33 (F := Ideal) A.u A.z A.b A.p A.q) (ix2 i l) = mix (rw2 A.u i) (A.gr i) A.gb (rw2 A.p 0) (rw2 A.q 0) l := by
  unfold mix
  rw [← v29_0_at, ← v32_0_at]
  unfold val_main_v33
  generalize val_main_v29_0 (F := Ideal) A.u A.p A.q = B
  generalize val_main_v32_0 (F := Ideal) A.z A.b = C
  pointwise
/-- The product with the output weights. -/
theorem v34_eq : val_main_v34 (F := Ideal) A.u A.z A.b A.p A.q A.w = rows1 A.out := by
  funext y
  obtain ⟨i, l, rfl⟩ : ∃ (i : Fin 8192) (l : Fin 1024), y = ix2 i l := ⟨y 0, y 1, eq_ix2 y⟩
  rw [val_main_v34_apply]
  show _ = thruW (mix (rw2 A.u i) (A.gr i) A.gb (rw2 A.p 0) (rw2 A.q 0)) (rw2 A.w) l
  unfold thruW
  refine Finset.sum_congr rfl fun j _ => ?_
  rw [show lidx_main_v34 (ix2 i l) j = ix2 i j by idx_ext, show ridx_main_v34 (ix2 i l) j = ix2 j l by idx_ext, v33_at]
  rfl
end Swish

section Gated
theorem v34_at : (val_main_v34 (F := Ideal) A.u A.z A.b A.p A.q A.w) (ix2 i l) = (rw2 A.filled.y i) l := congrFun (v34_eq A) _
theorem v38_at : (val_main_v38 (F := Ideal) A.u A.z A.b A.p A.q A.w) (ix1 i) = ∑ l, (rw2 A.filled.y i) l * (rw2 A.filled.y i) l := by
  rw [val_main_v38_apply, val_main_cst_6_apply]
  refine (congrArg (· + _) Ideal.ofBits_zero_f32).trans ((zero_add _).trans (Finset.sum_congr rfl fun l _ => ?_))
  rw [show idx_main_v38 (ix1 i) l = ix2 i l by idx_ext, val_main_v37_apply, v34_at]
  rfl
theorem v43_at : (val_main_v43 (F := Ideal) A.u A.z A.b A.p A.q A.w) (ix2 i 0) = ms (rw2 A.filled.y i) := by
  unfold ms
  rw [← v38_at]
  unfold val_main_v43 val_main_v42 val_main_v41 val_main_v40 val_main_v39 val_main_cst_7 val_main_cst_8
  generalize val_main_v38 (F := Ideal) A.u A.z A.b A.p A.q A.w = B
  pointwise
theorem v44_at : (val_main_v44 (F := Ideal) A.u A.z A.b A.p A.q A.w) (ix2 i 0) = rinv (rw2 A.filled.y i) := by
  unfold rinv
  rw [← v43_at]
  unfold val_main_v44
  generalize val_main_v43 (F := Ideal) A.u A.z A.b A.p A.q A.w = B
  pointwise
theorem v47_at : (val_main_v47 (F := Ideal) A.u A.z A.b A.p A.q A.w) (ix2 i 0) = Ideal.ofBits .f32 0xBF000000#32 * Ideal.div (rinv (rw2 A.filled.y i)) (ms (rw2 A.filled.y i)) := by
  rw [← v43_at, ← v44_at]
  unfold val_main_v47 val_main_v46 val_main_v45 val_main_cst_9
  generalize val_main_v43 (F := Ideal) A.u A.z A.b A.p A.q A.w = B
  generalize val_main_v44 (F := Ideal) A.u A.z A.b A.p A.q A.w = C
  pointwise
theorem v49_at : (val_main_v49 (F := Ideal) A.u A.z A.b A.p A.q A.w) (ix2 i l) = hat (rw2 A.filled.y i) l := by
  unfold hat
  rw [← v34_at, ← v44_at]
  unfold val_main_v49 val_main_v48
  generalize val_main_v34 (F := Ideal) A.u A.z A.b A.p A.q A.w = B
  generalize val_main_v44 (F := Ideal) A.u A.z A.b A.p A.q A.w = C
  pointwise
theorem v51_at : (val_main_v51 (F := Ideal) A.u A.z A.b A.p A.q A.w A.g) (ix2 i l) = hat (rw2 A.filled.y i) l * (rw2 A.g 0) l := by
  rw [← v49_at]
  unfold val_main_v51 val_main_v50
  generalize val_main_v49 (F := Ideal) A.u A.z A.b A.p A.q A.w = B
  unfold rw2
  pointwise
theorem v55_at : (val_main_v55 (F := Ideal) A.mo A.ab A.d) (ix2 i l) = cot (part 2 (rw2 A.mo 0) (rw2 A.ab 0)) (rw2 A.d i) l := by
  unfold cot part rw2 third
  unfold val_main_v55 val_main_v54 val_main_v36 val_main_v35
  pointwise
theorem v63_at : (val_main_v63 (F := Ideal) A.g A.mo A.ab A.d) (ix2 i l) = cop (rw2 A.g 0) (part 2 (rw2 A.mo 0) (rw2 A.ab 0)) (rw2 A.d i) l := by
  unfold cop
  rw [← v55_at]
  unfold val_main_v63 val_main_v62
  generalize val_main_v55 (F := Ideal) A.mo A.ab A.d = B
  unfold rw2
  pointwise
/-- The gradient of the gate. -/
theorem v58_eq : val_main_v58 (F := Ideal) A.u A.z A.b A.p A.q A.w A.g A.d = total A.filled.aM := by
  funext y
  obtain ⟨l, rfl⟩ := one_row y
  rw [val_main_v58_apply, val_main_v57_apply, val_main_cst_10_apply]
  refine (congrArg (· + _) Ideal.ofBits_zero_f32).trans ((zero_add _).trans (Finset.sum_congr rfl fun i _ => ?_))
  rw [show idx_main_v57 (idx_main_v58 (ix2 0 l)) i = ix2 i l by idx_ext, val_main_v56_apply, v51_at]
  rfl
/-- The gradient of the gated norm's gain. -/
theorem v61_eq : val_main_v61 (F := Ideal) A.u A.z A.b A.p A.q A.w A.mo A.ab A.d = total A.filled.aG := by
  funext y
  obtain ⟨l, rfl⟩ := one_row y
  rw [val_main_v61_apply, val_main_v60_apply, val_main_cst_11_apply]
  refine (congrArg (· + _) Ideal.ofBits_zero_f32).trans ((zero_add _).trans (Finset.sum_congr rfl fun i _ => ?_))
  rw [show idx_main_v60 (idx_main_v61 (ix2 0 l)) i = ix2 i l by idx_ext, val_main_v59_apply, v49_at, v55_at]
  rfl
theorem v65_at : (val_main_v65 (F := Ideal) A.u A.z A.b A.p A.q A.w A.g A.mo A.ab A.d) (ix1 i) = ∑ l, (rw2 A.filled.y i) l * cop (rw2 A.g 0) (part 2 (rw2 A.mo 0) (rw2 A.ab 0)) (rw2 A.d i) l := by
  rw [val_main_v65_apply, val_main_cst_12_apply]
  refine (congrArg (· + _) Ideal.ofBits_zero_f32).trans ((zero_add _).trans (Finset.sum_congr rfl fun l _ => ?_))
  rw [show idx_main_v65 (ix1 i) l = ix2 i l by idx_ext, val_main_v64_apply, v34_at, v63_at]
  rfl
theorem v71_at : (val_main_v71 (F := Ideal) A.u A.z A.b A.p A.q A.w A.g A.mo A.ab A.d) (ix2 i 0) = curv (rw2 A.filled.y i) (cop (rw2 A.g 0) (part 2 (rw2 A.mo 0) (rw2 A.ab 0)) (rw2 A.d i)) := by
  unfold curv
  rw [← v65_at, ← v47_at]
  unfold val_main_v71 val_main_v70 val_main_v69 val_main_v66 val_main_cst_13
  generalize val_main_v65 (F := Ideal) A.u A.z A.b A.p A.q A.w A.g A.mo A.ab A.d = B
  generalize val_main_v47 (F := Ideal) A.u A.z A.b A.p A.q A.w = C
  pointwise
theorem v72_at : (val_main_v72 (F := Ideal) A.u A.z A.b A.p A.q A.w A.g A.mo A.ab A.d) (ix1 i) = curv (rw2 A.filled.y i) (cop (rw2 A.g 0) (part 2 (rw2 A.mo 0) (rw2 A.ab 0)) (rw2 A.d i)) := by
  rw [val_main_v72_apply, val_main_cst_14_apply]
  refine (congrArg (· + _) Ideal.ofBits_zero_f32).trans ((zero_add _).trans ((Fin.sum_univ_one _).trans ?_))
  rw [show idx_main_v72 (ix1 i) 0 = ix2 i 0 by idx_ext, v71_at]
/-- The gradient of a row of the product. -/
theorem v77_at : (val_main_v77 (F := Ideal) A.u A.z A.b A.p A.q A.w A.g A.mo A.ab A.d) (ix2 i l) = A.filled.gy i l := by
  show _ = dRow (rw2 A.filled.y i) (rw2 A.g 0) (part 2 (rw2 A.mo 0) (rw2 A.ab 0)) (rw2 A.d i) l
  unfold dRow
  rw [← v72_at, ← v44_at, ← v63_at, ← v34_at]
  unfold val_main_v77 val_main_v76 val_main_v75 val_main_v74 val_main_v73 val_main_v68 val_main_v67
  generalize val_main_v72 (F := Ideal) A.u A.z A.b A.p A.q A.w A.g A.mo A.ab A.d = B
  generalize val_main_v44 (F := Ideal) A.u A.z A.b A.p A.q A.w = C
  generalize val_main_v63 (F := Ideal) A.g A.mo A.ab A.d = D
  generalize val_main_v34 (F := Ideal) A.u A.z A.b A.p A.q A.w = E
  pointwise
theorem v78_at : (val_main_v78 (F := Ideal) A.u A.z A.b A.p A.q A.w A.g A.mo A.ab A.d) (ix2 i l) = A.filled.gm i l := by
  rw [val_main_v78_apply]
  show _ = backW (A.filled.gy i) (rw2 A.w) l
  unfold backW
  refine Finset.sum_congr rfl fun j _ => ?_
  rw [show lidx_main_v78 (ix2 i l) j = ix2 i j by idx_ext, show ridx_main_v78 (ix2 i l) j = ix2 l j by idx_ext, v77_at]
  rfl
end Gated

section Back
/-- The gradient of the gate's argument. -/
theorem v81_at : (val_main_v81 (F := Ideal) A.u A.z A.b A.p A.q A.w A.g A.mo A.ab A.d) (ix2 i l) = A.filled.gg i l := by
  show _ = dArg (rw2 A.u i) (A.gr i) A.gb (rw2 A.p 0) (rw2 A.q 0) (A.filled.gm i) l
  unfold dArg swishB
  rw [← v32_1_at, ← v32_2_at, ← v31_at, ← v29_0_at, ← v78_at]
  unfold val_main_v81 val_main_call2_v2 val_main_call2_v1 val_main_call2_v0 val_main_v79
  generalize val_main_v32_1 (F := Ideal) A.z A.b = B
  generalize val_main_v32_2 (F := Ideal) A.z A.b = C
  generalize val_main_v31 (F := Ideal) A.z A.b = D
  generalize val_main_v29_0 (F := Ideal) A.u A.p A.q = E
  generalize val_main_v78 (F := Ideal) A.u A.z A.b A.p A.q A.w A.g A.mo A.ab A.d = F
  pointwise
/-- The gradient of the layer norm's result. -/
theorem v84_at : (val_main_v84 (F := Ideal) A.u A.z A.b A.p A.q A.w A.g A.mo A.ab A.d) (ix2 i l) = A.filled.gn i l := by
  show _ = dAff (rw2 A.u i) (A.gr i) A.gb (rw2 A.p 0) (rw2 A.q 0) (A.filled.gm i) l
  unfold dAff swishB
  rw [← v29_1_at, ← v29_2_at, ← v28_at, ← v32_0_at, ← v78_at]
  unfold val_main_v84 val_main_call3_v2 val_main_call3_v1 val_main_call3_v0 val_main_v80
  generalize val_main_v29_1 (F := Ideal) A.u A.p A.q = B
  generalize val_main_v29_2 (F := Ideal) A.u A.p A.q = C
  generalize val_main_v28 (F := Ideal) A.u A.p A.q = D
  generalize val_main_v32_0 (F := Ideal) A.z A.b = E
  generalize val_main_v78 (F := Ideal) A.u A.z A.b A.p A.q A.w A.g A.mo A.ab A.d = F
  pointwise
/-- The gradient of the gate's bias. -/
theorem v83_eq : val_main_v83 (F := Ideal) A.u A.z A.b A.p A.q A.w A.g A.mo A.ab A.d = total A.filled.gg := by
  funext y
  obtain ⟨l, rfl⟩ := one_row y
  rw [val_main_v83_apply, val_main_v82_apply, val_main_cst_15_apply]
  refine (congrArg (· + _) Ideal.ofBits_zero_f32).trans ((zero_add _).trans (Finset.sum_congr rfl fun i _ => ?_))
  rw [show idx_main_v82 (idx_main_v83 (ix2 0 l)) i = ix2 i l by idx_ext, v81_at]
  rfl
/-- The gradient of the layer norm's bias. -/
theorem v86_eq : val_main_v86 (F := Ideal) A.u A.z A.b A.p A.q A.w A.g A.mo A.ab A.d = total A.filled.gn := by
  funext y
  obtain ⟨l, rfl⟩ := one_row y
  rw [val_main_v86_apply, val_main_v85_apply, val_main_cst_16_apply]
  refine (congrArg (· + _) Ideal.ofBits_zero_f32).trans ((zero_add _).trans (Finset.sum_congr rfl fun i _ => ?_))
  rw [show idx_main_v85 (idx_main_v86 (ix2 0 l)) i = ix2 i l by idx_ext, v84_at]
  rfl
/-- The gradient of the layer norm's gain. -/
theorem v89_eq : val_main_v89 (F := Ideal) A.u A.z A.b A.p A.q A.w A.g A.mo A.ab A.d = total A.filled.aP := by
  funext y
  obtain ⟨l, rfl⟩ := one_row y
  rw [val_main_v89_apply, val_main_v88_apply, val_main_cst_17_apply]
  refine (congrArg (· + _) Ideal.ofBits_zero_f32).trans ((zero_add _).trans (Finset.sum_congr rfl fun i _ => ?_))
  rw [show idx_main_v88 (idx_main_v89 (ix2 0 l)) i = ix2 i l by idx_ext, val_main_v87_apply, v24_at, v84_at]
  rfl
/-- The gradient of the layer norm without gain and bias. -/
abbrev ln (A : Arrays) (i : Fin 8192) : Fin 1024 → EReal := eLn (rw2 A.u i) (A.gr i) A.gb (rw2 A.p 0) (rw2 A.q 0) (A.filled.gm i)
theorem v91_at : (val_main_v91 (F := Ideal) A.u A.z A.b A.p A.q A.w A.g A.mo A.ab A.d) (ix2 i l) = ln A i l := by
  show _ = A.filled.gn i l * rw2 A.p 0 l
  rw [← v84_at]
  unfold val_main_v91 val_main_v90
  generalize val_main_v84 (F := Ideal) A.u A.z A.b A.p A.q A.w A.g A.mo A.ab A.d = B
  unfold rw2
  pointwise
theorem v93_at : (val_main_v93 (F := Ideal) A.u A.z A.b A.p A.q A.w A.g A.mo A.ab A.d) (ix1 i) = ∑ l, dev (rw2 A.u i) l * ln A i l := by
  rw [val_main_v93_apply, val_main_cst_18_apply]
  refine (congrArg (· + _) Ideal.ofBits_zero_f32).trans ((zero_add _).trans (Finset.sum_congr rfl fun l _ => ?_))
  rw [show idx_main_v93 (ix1 i) l = ix2 i l by idx_ext, val_main_v92_apply, v16_at, v91_at]
  rfl
theorem v96_at : (val_main_v96 (F := Ideal) A.u A.z A.b A.p A.q A.w A.g A.mo A.ab A.d) (ix2 i l) = direct (rw2 A.u i) (ln A i) l := by
  unfold direct
  rw [← v91_at, ← v19_at]
  unfold val_main_v96 val_main_v95
  generalize val_main_v91 (F := Ideal) A.u A.z A.b A.p A.q A.w A.g A.mo A.ab A.d = B
  generalize val_main_v19 (F := Ideal) A.u = C
  pointwise
theorem v102_at : (val_main_v102 (F := Ideal) A.u A.z A.b A.p A.q A.w A.g A.mo A.ab A.d) (ix2 i 0) = curv (dev (rw2 A.u i)) (ln A i) := by
  unfold curv
  rw [← v93_at, ← v19_at, ← v18_at]
  unfold val_main_v102 val_main_v101 val_main_v97 val_main_v94 val_main_v22 val_main_v21 val_main_v20 val_main_cst_5 val_main_cst_20
  generalize val_main_v93 (F := Ideal) A.u A.z A.b A.p A.q A.w A.g A.mo A.ab A.d = B
  generalize val_main_v19 (F := Ideal) A.u = C
  generalize val_main_v18 (F := Ideal) A.u = D
  pointwise
theorem v103_at : (val_main_v103 (F := Ideal) A.u A.z A.b A.p A.q A.w A.g A.mo A.ab A.d) (ix1 i) = curv (dev (rw2 A.u i)) (ln A i) := by
  rw [val_main_v103_apply, val_main_cst_21_apply]
  refine (congrArg (· + _) Ideal.ofBits_zero_f32).trans ((zero_add _).trans ((Fin.sum_univ_one _).trans ?_))
  rw [show idx_main_v103 (ix1 i) 0 = ix2 i 0 by idx_ext, v102_at]
theorem v105_at : (val_main_v105 (F := Ideal) A.u A.z A.b A.p A.q A.w A.g A.mo A.ab A.d) (ix2 i l) = square (rw2 A.u i) (ln A i) l := by
  unfold square
  rw [← v103_at, ← v7_at]
  unfold val_main_v105 val_main_v104 val_main_v10 val_main_v9 val_main_cst_1
  generalize val_main_v103 (F := Ideal) A.u A.z A.b A.p A.q A.w A.g A.mo A.ab A.d = B
  generalize val_main_v7 (F := Ideal) A.u = C
  pointwise
theorem v99_at : (val_main_v99 (F := Ideal) A.u A.z A.b A.p A.q A.w A.g A.mo A.ab A.d) (ix1 i) = ∑ l, (0 - direct (rw2 A.u i) (ln A i) l) := by
  rw [val_main_v99_apply, val_main_cst_19_apply]
  refine (congrArg (· + _) Ideal.ofBits_zero_f32).trans ((zero_add _).trans (Finset.sum_congr rfl fun l _ => ?_))
  rw [show idx_main_v99 (ix1 i) l = ix2 i l by idx_ext, val_main_v98_apply, v96_at, zero_sub]
  rfl
theorem v107_at : (val_main_v107 (F := Ideal) A.u A.z A.b A.p A.q A.w A.g A.mo A.ab A.d) (ix1 i) = ∑ l, (0 - square (rw2 A.u i) (ln A i) l) := by
  rw [val_main_v107_apply, val_main_cst_22_apply]
  refine (congrArg (· + _) Ideal.ofBits_zero_f32).trans ((zero_add _).trans (Finset.sum_congr rfl fun l _ => ?_))
  rw [show idx_main_v107 (ix1 i) l = ix2 i l by idx_ext, val_main_v106_apply, v105_at, zero_sub]
  rfl
theorem v112_at : (val_main_v112 (F := Ideal) A.u A.z A.b A.p A.q A.w A.g A.mo A.ab A.d) (ix2 i 0) = shared (rw2 A.u i) (ln A i) := by
  unfold shared
  rw [← v99_at, ← v107_at]
  unfold val_main_v112 val_main_v111 val_main_v110 val_main_v108 val_main_v100 val_main_cst_23
  generalize val_main_v99 (F := Ideal) A.u A.z A.b A.p A.q A.w A.g A.mo A.ab A.d = B
  generalize val_main_v107 (F := Ideal) A.u A.z A.b A.p A.q A.w A.g A.mo A.ab A.d = C
  pointwise
theorem v113_at : (val_main_v113 (F := Ideal) A.u A.z A.b A.p A.q A.w A.g A.mo A.ab A.d) (ix1 i) = shared (rw2 A.u i) (ln A i) := by
  rw [val_main_v113_apply, val_main_cst_24_apply]
  refine (congrArg (· + _) Ideal.ofBits_zero_f32).trans ((zero_add _).trans ((Fin.sum_univ_one _).trans ?_))
  rw [show idx_main_v113 (ix1 i) 0 = ix2 i 0 by idx_ext, v112_at]
/-- The gradient of a row of the convolution's output. -/
theorem v115_at : (val_main_v115 (F := Ideal) A.u A.z A.b A.p A.q A.w A.g A.mo A.ab A.d) (ix2 i l) = A.filled.gu i l := by
  show _ = direct (rw2 A.u i) (ln A i) l + square (rw2 A.u i) (ln A i) l + shared (rw2 A.u i) (ln A i)
  rw [← v96_at, ← v105_at, ← v113_at]
  unfold val_main_v115 val_main_v114 val_main_v109
  generalize val_main_v96 (F := Ideal) A.u A.z A.b A.p A.q A.w A.g A.mo A.ab A.d = B
  generalize val_main_v105 (F := Ideal) A.u A.z A.b A.p A.q A.w A.g A.mo A.ab A.d = C
  generalize val_main_v113 (F := Ideal) A.u A.z A.b A.p A.q A.w A.g A.mo A.ab A.d = D
  pointwise
theorem v77_eq : val_main_v77 (F := Ideal) A.u A.z A.b A.p A.q A.w A.g A.mo A.ab A.d = rows1 A.filled.gy := by
  funext y
  obtain ⟨i, l, rfl⟩ : ∃ (i : Fin 8192) (l : Fin 1024), y = ix2 i l := ⟨y 0, y 1, eq_ix2 y⟩
  exact v77_at A i l
theorem v81_eq : val_main_v81 (F := Ideal) A.u A.z A.b A.p A.q A.w A.g A.mo A.ab A.d = rows1 A.filled.gg := by
  funext y
  obtain ⟨i, l, rfl⟩ : ∃ (i : Fin 8192) (l : Fin 1024), y = ix2 i l := ⟨y 0, y 1, eq_ix2 y⟩
  exact v81_at A i l
theorem v115_eq : val_main_v115 (F := Ideal) A.u A.z A.b A.p A.q A.w A.g A.mo A.ab A.d = rows1 A.filled.gu := by
  funext y
  obtain ⟨i, l, rfl⟩ : ∃ (i : Fin 8192) (l : Fin 1024), y = ix2 i l := ⟨y 0, y 1, eq_ix2 y⟩
  exact v115_at A i l
end Back

set_option maxHeartbeats 1000000 in
/-- The kernel and the reference compute the same eight gradients of an odd layer's exit. -/
theorem algebraic : Cert.algebraic_OdOutIdeal_OdOutRefIdeal := by
  intro m ρ m' ρ' _ hag
  refine ⟨_, _, _, _, _, _, _, _, (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2, h.2 c⟩)
    (θ_run_and (Cert.OdOutIdeal.Val.run m ρ) (Cert.OdOutIdeal.Gen.unchanged m ρ)), (θ_run _ _ _).mono (fun r h c => ?_) (Cert.OdOutRefIdeal.Value.run m' ρ')⟩
  obtain ⟨h77, h115, h81, h61, h58, h83, h89, h86, ha⟩ := h c
  obtain ⟨e0, e1, e2, e3, e4, e5, e6, e7, e8, e9⟩ := hag c
  refine ⟨?_, ?_, ?_, ?_, ?_, ?_, ?_, ?_, ha⟩
  · rw [h77, val_main_v77_eq]
    show val_main_v77 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v77_eq (Cert.OdOutIdeal.Val.given m c)
  · rw [h115, val_main_v115_eq]
    show val_main_v115 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v115_eq (Cert.OdOutIdeal.Val.given m c)
  · rw [h81, val_main_v81_eq]
    show val_main_v81 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v81_eq (Cert.OdOutIdeal.Val.given m c)
  · rw [h61, val_main_v61_eq]
    show val_main_v61 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg7)) (m' ((c.tc : Thread nD τ).loc main_arg8)) (m' ((c.tc : Thread nD τ).loc main_arg9)) = _
    rw [e0, e1, e2, e3, e4, e5, e7, e8, e9]
    exact v61_eq (Cert.OdOutIdeal.Val.given m c)
  · rw [h58, val_main_v58_eq]
    show val_main_v58 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg9)) = _
    rw [e0, e1, e2, e3, e4, e5, e6, e9]
    exact v58_eq (Cert.OdOutIdeal.Val.given m c)
  · rw [h83, val_main_v83_eq]
    show val_main_v83 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v83_eq (Cert.OdOutIdeal.Val.given m c)
  · rw [h89, val_main_v89_eq]
    show val_main_v89 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v89_eq (Cert.OdOutIdeal.Val.given m c)
  · rw [h86, val_main_v86_eq]
    show val_main_v86 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v86_eq (Cert.OdOutIdeal.Val.given m c)
end Cert.OdOutRefIdeal.Val
-- ==== Proof.LossBody.lean ====
module
public import proofs.«01_k».proof.Proof.Gen.LossIdeal.Frame
public import Idealize.ShloMosaic.Lib.Pointwise
public import Idealize.ShloMosaic.Lib.Pipeline.ValueKit
public import Idealize.ShloMosaic.Lib.WritesUnit
public import proofs.«01_k».proof.Proof.Sums
public import proofs.«01_k».proof.Proof.Exit
@[expose] public section
set_option maxRecDepth 16384
noncomputable section
namespace Cert.LossIdeal.Val
open Cert.LossIdeal Cert.LossIdeal.Gen Idealize.ShloMosaic Idealize.ShloMosaic.TcCoe Idealize.SL.Sem Cert.Norm Cert.Exit

/-- The error of a row: the layer's input and its gated, normed exit, less the target. -/
def err (y g m x t : Fin 1024 → EReal) (l : Fin 1024) : EReal := x l + m l * (hat y l * g l) - t l
/-- The mean of a row's squares. -/
def msq (e : Fin 1024 → EReal) : EReal := Ideal.div (∑ l, e l * e l) (Ideal.ofBits .f32 0x44800000#32)

section Forward
variable (u z : Vec Ideal S512x1024 .f32) (p q : Vec Ideal S1x1024 .f32) (b : Vec Ideal S1x3072 .f32) (w : Vec Ideal S1024x1024 .bf16) (r : Fin 512) (l : Fin 1024)
/-- The mixed row of a block, and its product with the output weights. -/
theorem mixed_at : k0_pay3 (F := Ideal) b p q u z (ix2 r l) = mix (rw2 u r) (rw2 z r) (fun l => rw2 b 0 (third 2 l)) (rw2 p 0) (rw2 q 0) l := by
  unfold k0_pay3 mix aff arg nor dev mean rinv ms swish rw2 third
  pointwise
variable (a : FVec Ideal S512x1024 .f32)
theorem prod_at : k0_pay5 (F := Ideal) a w (ix2 r l) = thruW (rw2 a r) (rw2 w) l := by
  unfold k0_pay5 k0_pay4 thruW rw2
  pointwise
end Forward

section Error
variable (a x t : FVec Ideal S512x1024 .f32) (g : Vec Ideal S1x1024 .f32) (mo ab : Vec Ideal S1x3072 .f32) (w : Vec Ideal S1024x1024 .bf16) (r : Fin 512) (l : Fin 1024)
/-- The error of a block's row. -/
theorem err_at : k0_pay6 (F := Ideal) g mo ab a w x t (ix2 r l) = err (thruW (rw2 a r) (rw2 w)) (rw2 g 0) (part 2 (rw2 mo 0) (rw2 ab 0)) (rw2 x r) (rw2 t r) l := by
  unfold err hat rinv ms
  simp only [← prod_at]
  unfold k0_pay6
  generalize k0_pay5 (F := Ideal) a w = B
  unfold part third rw2
  pointwise
theorem scaled_at : k0_pay7 (F := Ideal) g mo ab a w x t (ix2 r l)
    = err (thruW (rw2 a r) (rw2 w)) (rw2 g 0) (part 2 (rw2 mo 0) (rw2 ab 0)) (rw2 x r) (rw2 t r) l * Ideal.ofBits .f32 0x3A800000#32 := by
  rw [← err_at]
  unfold k0_pay7
  generalize k0_pay6 (F := Ideal) g mo ab a w x t = B
  pointwise
/-- What a block adds to the loss. -/
theorem part_at (k : Fin 128) : k0_pay8 (F := Ideal) g mo ab a w x t (ix2 0 k)
    = Ideal.ofBits .f32 0x3F000000#32 * ∑ r : Fin 512, msq (err (thruW (rw2 a r) (rw2 w)) (rw2 g 0) (part 2 (rw2 mo 0) (rw2 ab 0)) (rw2 x r) (rw2 t r)) := by
  unfold msq
  simp only [← err_at]
  unfold k0_pay8
  generalize k0_pay6 (F := Ideal) g mo ab a w x t = B
  pointwise
end Error
theorem grow_at (s a : FVec Ideal S1x128 .f32) (k : Fin 128) : k0_pay2 (F := Ideal) s a (ix2 0 k) = a (ix2 0 k) + s (ix2 0 k) := by
  unfold k0_pay2
  pointwise

/-- One half of a sum. -/
theorem half_sum {ι : Type} (s : Finset ι) (f : ι → EReal) : ∑ i ∈ s, Ideal.ofBits .f32 0x3F000000#32 * f i = Ideal.ofBits .f32 0x3F000000#32 * ∑ i ∈ s, f i := by
  classical
  have e : Ideal.ofBits .f32 0x3F000000#32 = (((1 / 2 : ℝ)) : EReal) := by
    simp [Ideal.ofBits, Ideal.ieee, -EReal.coe_mul]; norm_num
  rw [e]
  induction s using Finset.induction_on with
  | empty => simp
  | insert i s hi ih =>
    rw [Finset.sum_insert hi, Finset.sum_insert hi, ih, EReal.left_distrib_of_nonneg_of_ne_top (by exact_mod_cast (by norm_num : (0 : ℝ) ≤ 1 / 2)) (EReal.coe_ne_top _)]
end Cert.LossIdeal.Val
-- ==== Proof.LossCall.lean ====
module
public import proofs.«01_k».proof.Proof.LossBody
public import proofs.«01_k».proof.Proof.OdInOut
@[expose] public section
set_option maxRecDepth 16384
noncomputable section
namespace Cert.LossIdeal.Val
open Cert.LossIdeal Cert.LossIdeal.Gen Idealize.ShloMosaic Idealize.ShloMosaic.TcCoe Idealize.SL.Sem Cert.Norm Cert.Exit
open Cert.OdInIdeal.Val (rows1)

/-- The arrays of the last layer's exit: the convolution's output, the projected rows, the layer's input, the output weights, the bias, the layer norm's gain and bias,
the gain of the gated norm, the modulation and its bias, and the target. -/
structure Arrays where
  (u : Vec Ideal S8192x1024 .f32) (z : Vec Ideal S8192x3072 .f32) (x : Vec Ideal S8192x1024 .f32) (w : Vec Ideal S1024x1024 .f32) (b : Vec Ideal S1x3072 .f32) (p q : Vec Ideal S1x1024 .f32)
  (g : Vec Ideal S1x1024 .f32) (mo ab : Vec Ideal S1x3072 .f32) (t : Vec Ideal S8192x1024 .f32)

namespace Arrays
variable (A : Arrays) (i : Fin 8192)
/-- The gate's rows and bias: the third part of the projected rows and of their bias. -/
def gr (l : Fin 1024) : EReal := rw2 A.z i (third 2 l)
def gb (l : Fin 1024) : EReal := rw2 A.b 0 (third 2 l)
/-- The mixed rows, their product with the output weights, and the errors. -/
def mixed : Fin 1024 → EReal := mix (rw2 A.u i) (A.gr i) A.gb (rw2 A.p 0) (rw2 A.q 0)
def out : Fin 1024 → EReal := thruW (A.mixed i) (rw2 A.w)
def er : Fin 1024 → EReal := err (A.out i) (rw2 A.g 0) (part 2 (rw2 A.mo 0) (rw2 A.ab 0)) (rw2 A.x i) (rw2 A.t i)
/-- The gradient of the layer's output. -/
def dx (l : Fin 1024) : EReal := A.er i l * Ideal.ofBits .f32 0x3A800000#32
/-- Half the sum of all rows' mean squared errors. -/
def loss : EReal := Ideal.ofBits .f32 0x3F000000#32 * ∑ i, msq (A.er i)
end Arrays

variable (m : (ℓ : Loc nD τ sig) → Buf (Elt Ideal) ℓ) (c : Dev nD)
/-- The arrays of the launch. -/
def given : Arrays := ⟨m ((c.tc : Thread nD τ).loc main_arg0), m ((c.tc : Thread nD τ).loc main_arg1), m ((c.tc : Thread nD τ).loc main_arg2), m ((c.tc : Thread nD τ).loc main_arg3),
  m ((c.tc : Thread nD τ).loc main_arg4), m ((c.tc : Thread nD τ).loc main_arg5), m ((c.tc : Thread nD τ).loc main_arg6), m ((c.tc : Thread nD τ).loc main_arg7),
  m ((c.tc : Thread nD τ).loc main_arg8), m ((c.tc : Thread nD τ).loc main_arg9), m ((c.tc : Thread nD τ).loc main_arg10)⟩
/-- The row of the arrays that row `r` of a grid point's blocks is. -/
def row (t : Fin cfg0.N) (r : Fin 512) : Fin 8192 := ⟨t.val * 512 + r.val, by have h : t.val < 16 := t.isLt; omega⟩
theorem cast0 (V : Valuation τ sig (Elt Ideal)) : (StableHlo.after (hostOps0 (F := Ideal)) V (Proc.devRef .tc main_v0) : Vec Ideal S1024x1024 .bf16) = (V (Proc.devRef .tc main_arg3) : Vec Ideal S1024x1024 .f32) := by
  simp only [hostOps0]
  after_results_simp <;> rfl
theorem V_w : V m c main_v0 = m ((c.tc : Thread nD τ).loc main_arg3) := cast0 _

section Blocks
variable (t : Fin cfg0.N) (r : Fin 512)
theorem at0_0 : ∀ t : Fin cfg0.N, win0_0.index t = ![t.val, 0] := by decide +kernel
theorem in0 : rw2 (iblk m c 0 t : Vec Ideal S512x1024 .f32) r = rw2 (given m c).u (row t r) := by
  funext l
  refine (congrArg (V m c main_arg0) (?_ : _ = ix2 (row t r) l)).trans (congrFun (V_main_arg0 m c) _)
  unfold row
  blk_ext! [at0_0]
theorem at0_1 : ∀ t : Fin cfg0.N, win0_1.index t = ![t.val, 2] := by decide +kernel
theorem in1 : rw2 (iblk m c 1 t : Vec Ideal S512x1024 .f32) r = (given m c).gr (row t r) := by
  funext l
  refine (congrArg (V m c main_arg1) (?_ : _ = ix2 (row t r) (third 2 l))).trans (congrFun (V_main_arg1 m c) _)
  unfold row third
  blk_ext! [at0_1]
theorem at0_2 : ∀ t : Fin cfg0.N, win0_2.index t = ![t.val, 0] := by decide +kernel
theorem in2 : rw2 (iblk m c 2 t : Vec Ideal S512x1024 .f32) r = rw2 (given m c).x (row t r) := by
  funext l
  refine (congrArg (V m c main_arg2) (?_ : _ = ix2 (row t r) l)).trans (congrFun (V_main_arg2 m c) _)
  unfold row
  blk_ext! [at0_2]
theorem at0_3 : ∀ t : Fin cfg0.N, win0_3.index t = ![t.val, 0] := by decide +kernel
theorem in3 : rw2 (iblk m c 3 t : Vec Ideal S512x1024 .f32) r = rw2 (given m c).t (row t r) := by
  funext l
  refine (congrArg (V m c main_arg10) (?_ : _ = ix2 (row t r) l)).trans (congrFun (V_main_arg10 m c) _)
  unfold row
  blk_ext! [at0_3]
theorem at0_4 : ∀ t : Fin cfg0.N, win0_4.index t = ![0, 0] := by decide +kernel
theorem in4 : rw2 (iblk m c 4 t : Vec Ideal S1x3072 .f32) 0 = rw2 (given m c).b 0 := by
  funext l
  refine (congrArg (V m c main_arg4) (?_ : _ = ix2 0 l)).trans (congrFun (V_main_arg4 m c) _)
  blk_ext! [at0_4]
theorem at0_5 : ∀ t : Fin cfg0.N, win0_5.index t = ![0, 0] := by decide +kernel
theorem in5 : rw2 (iblk m c 5 t : Vec Ideal S1x1024 .f32) 0 = rw2 (given m c).p 0 := by
  funext l
  refine (congrArg (V m c main_arg5) (?_ : _ = ix2 0 l)).trans (congrFun (V_main_arg5 m c) _)
  blk_ext! [at0_5]
theorem at0_6 : ∀ t : Fin cfg0.N, win0_6.index t = ![0, 0] := by decide +kernel
theorem in6 : rw2 (iblk m c 6 t : Vec Ideal S1x1024 .f32) 0 = rw2 (given m c).q 0 := by
  funext l
  refine (congrArg (V m c main_arg6) (?_ : _ = ix2 0 l)).trans (congrFun (V_main_arg6 m c) _)
  blk_ext! [at0_6]
theorem at0_7 : ∀ t : Fin cfg0.N, win0_7.index t = ![0, 0] := by decide +kernel
theorem in7 : rw2 (iblk m c 7 t : Vec Ideal S1x1024 .f32) 0 = rw2 (given m c).g 0 := by
  funext l
  refine (congrArg (V m c main_arg7) (?_ : _ = ix2 0 l)).trans (congrFun (V_main_arg7 m c) _)
  blk_ext! [at0_7]
theorem at0_8 : ∀ t : Fin cfg0.N, win0_8.index t = ![0, 0] := by decide +kernel
theorem in8 : rw2 (iblk m c 8 t : Vec Ideal S1x3072 .f32) 0 = rw2 (given m c).mo 0 := by
  funext l
  refine (congrArg (V m c main_arg8) (?_ : _ = ix2 0 l)).trans (congrFun (V_main_arg8 m c) _)
  blk_ext! [at0_8]
theorem at0_9 : ∀ t : Fin cfg0.N, win0_9.index t = ![0, 0] := by decide +kernel
theorem in9 : rw2 (iblk m c 9 t : Vec Ideal S1x3072 .f32) 0 = rw2 (given m c).ab 0 := by
  funext l
  refine (congrArg (V m c main_arg9) (?_ : _ = ix2 0 l)).trans (congrFun (V_main_arg9 m c) _)
  blk_ext! [at0_9]
theorem at0_10 : ∀ t : Fin cfg0.N, win0_10.index t = ![0, 0] := by decide +kernel
theorem in10 : rw2 (iblk m c 10 t : Vec Ideal S1024x1024 .bf16) = rw2 (given m c).w := by
  funext n l
  refine (congrArg (V m c main_v0) (?_ : _ = ix2 n l)).trans (congrFun (V_w m c) _)
  blk_ext! [at0_10]
theorem at0_11 : ∀ t : Fin cfg0.N, win0_11.index t = ![t.val, 0] := by decide +kernel
theorem emb11 (l : Fin 1024) : (win0_11.blk t).view.emb (ix2 r l) = ix2 (row t r) l := by
  unfold row
  blk_ext! [at0_11]
theorem at0_12 : ∀ t : Fin cfg0.N, win0_12.index t = ![t.val, 0] := by decide +kernel
theorem emb12 (l : Fin 1024) : (win0_12.blk t).view.emb (ix2 r l) = ix2 (row t r) l := by
  unfold row
  blk_ext! [at0_12]
theorem at0_13 : ∀ t : Fin cfg0.N, win0_13.index t = ![t.val, 0] := by decide +kernel
theorem emb13 (l : Fin 1024) : (win0_13.blk t).view.emb (ix2 r l) = ix2 (row t r) l := by
  unfold row
  blk_ext! [at0_13]
/-- The mixed rows of a block. -/
abbrev pM : FVec Ideal S512x1024 .f32 := k0_pay3 (F := Ideal) (iblk m c 4 t) (iblk m c 5 t) (iblk m c 6 t) (iblk m c 0 t) (iblk m c 1 t)
theorem mixed_row : rw2 (pM m c t) r = (given m c).mixed (row t r) := by
  funext l
  show pM m c t (ix2 r l) = _
  rw [pM, mixed_at, in0, in1, in4, in5, in6]
  rfl
theorem prod_row (l : Fin 1024) : k0_pay5 (F := Ideal) (pM m c t) (iblk m c 10 t) (ix2 r l) = (given m c).out (row t r) l := by
  rw [prod_at, mixed_row, in10]
  rfl
theorem dx_row (l : Fin 1024) : k0_pay7 (F := Ideal) (iblk m c 7 t) (iblk m c 8 t) (iblk m c 9 t) (pM m c t) (iblk m c 10 t) (iblk m c 2 t) (iblk m c 3 t) (ix2 r l) = (given m c).dx (row t r) l := by
  rw [scaled_at, mixed_row, in2, in3, in7, in8, in9, in10]
  rfl
theorem part_row (k : Fin 128) : k0_pay8 (F := Ideal) (iblk m c 7 t) (iblk m c 8 t) (iblk m c 9 t) (pM m c t) (iblk m c 10 t) (iblk m c 2 t) (iblk m c 3 t) (ix2 0 k)
    = Ideal.ofBits .f32 0x3F000000#32 * ∑ r : Fin 512, msq ((given m c).er (row t r)) := by
  rw [part_at]
  refine congrArg (_ * ·) (Finset.sum_congr rfl fun r _ => ?_)
  rw [mixed_row, in2, in3, in7, in8, in9, in10]
  rfl
end Blocks

section Left
variable (t : Fin cfg0.N)
theorem left11 (y) : (outsAt0 m c t.val t.isLt).1 y = k0_pay4 (F := Ideal) (pM m c t) y := by
  by_cases h0 : t.val % 16 = 0
  · rw [outsAt0_A m c t h0]
    dsimp only
    frame_out
  · rw [outsAt0_B m c t h0]
    dsimp only
    frame_out
theorem left12 (y) : (outsAt0 m c t.val t.isLt).2.1 y = k0_pay5 (F := Ideal) (pM m c t) (iblk m c 10 t) y := by
  by_cases h0 : t.val % 16 = 0
  · rw [outsAt0_A m c t h0]
    dsimp only
    frame_out
  · rw [outsAt0_B m c t h0]
    dsimp only
    frame_out
theorem left13 (y) : (outsAt0 m c t.val t.isLt).2.2.1 y = k0_pay7 (F := Ideal) (iblk m c 7 t) (iblk m c 8 t) (iblk m c 9 t) (pM m c t) (iblk m c 10 t) (iblk m c 2 t) (iblk m c 3 t) y := by
  by_cases h0 : t.val % 16 = 0
  · rw [outsAt0_A m c t h0]
    dsimp only
    frame_out
  · rw [outsAt0_B m c t h0]
    dsimp only
    frame_out
theorem first14 (h0 : t.val % 16 = 0) (k : Fin 128) : (outsAt0 m c t.val t.isLt).2.2.2 (ix2 0 k) = (fun _ : Fin 128 => (0 : EReal)) k + Ideal.ofBits .f32 0x3F000000#32 * ∑ r : Fin 512, msq ((given m c).er (row t r)) := by
  have e : (outsAt0 m c t.val t.isLt).2.2.2 (ix2 0 k) = k0_pay2 (F := Ideal) (k0_pay8 (F := Ideal) (iblk m c 7 t) (iblk m c 8 t) (iblk m c 9 t) (pM m c t) (iblk m c 10 t) (iblk m c 2 t) (iblk m c 3 t)) (k0_pay1 (F := Ideal)) (ix2 0 k) := by
    rw [outsAt0_A m c t h0]
    dsimp only
    frame_out
  rw [e, grow_at, part_row]
  exact congrArg (· + _) Ideal.ofBits_zero_f32
theorem next14 (h0 : ¬t.val % 16 = 0) (k : Fin 128) : (outsAt0 m c t.val t.isLt).2.2.2 (ix2 0 k) = (outsAt0 m c (t.val - 1) (Nat.lt_of_le_of_lt (Nat.sub_le _ _) t.isLt)).2.2.2 (ix2 0 k) + Ideal.ofBits .f32 0x3F000000#32 * ∑ r : Fin 512, msq ((given m c).er (row t r)) := by
  have e : (outsAt0 m c t.val t.isLt).2.2.2 (ix2 0 k) = k0_pay2 (F := Ideal) (k0_pay8 (F := Ideal) (iblk m c 7 t) (iblk m c 8 t) (iblk m c 9 t) (pM m c t) (iblk m c 10 t) (iblk m c 2 t) (iblk m c 3 t)) (outsAt0 m c (t.val - 1) (Nat.lt_of_le_of_lt (Nat.sub_le _ _) t.isLt)).2.2.2 (ix2 0 k) := by
    rw [outsAt0_B m c t h0]
    dsimp only
    frame_out
  rw [e, grow_at, part_row]
end Left

section Results
/-- The last point. -/
abbrev tLast : Fin cfg0.N := ⟨15, by decide⟩
theorem arr14 : (dats m 0 c).arrAt 14 cfg0.N = fun _ => (given m c).loss :=
  (dats m 0 c).arrAt_eq_of_after_last 14 tLast (by decide +kernel) _ fun j => by
    obtain ⟨k, rfl⟩ : ∃ k : Fin 128, j = ix2 0 k := ⟨j 1, (eq_ix2 j).trans (congrArg (fun a => ix2 a (j 1)) (Fin.fin_one_eq_zero (j 0)))⟩
    refine (congrFun (after0_14 m c tLast) _).trans ?_
    refine (Pipeline.eq_sum_fin_of_reset_step_apply_last (fun n h (k : Fin 128) => (outsAt0 m c n h).2.2.2 (ix2 0 k)) 16 (fun _ => 0)
      (fun t _ => Ideal.ofBits .f32 0x3F000000#32 * ∑ r : Fin 512, msq ((given m c).er (row t r))) (first14 m c) (next14 m c) (le_of_eq N_0) tLast rfl k).trans ?_
    rw [zero_add, half_sum]
    exact congrArg (_ * ·) (Cert.MidGrad.sum_groups (A := cfg0.N) (B := 512) (show 16 * 512 = 8192 from rfl) (fun i => msq ((given m c).er i)) (fun t r => row t r) (fun _ _ => rfl)).symm
theorem whole11 (G : Vec Ideal S8192x1024 .bf16) (hG : ∀ (t : Fin cfg0.N) (r : Fin 512) (l : Fin 1024), (outsAt0 m c t.val t.isLt).1 (ix2 r l) = G ((win0_11.blk t).view.emb (ix2 r l))) : (dats m 0 c).arrAt 11 cfg0.N = G := by
  refine (dats m 0 c).arrAt_eq_of_covers 11 _ (by decide +kernel) fun t hf y => ?_
  obtain ⟨r, l, rfl⟩ : ∃ (r : Fin 512) (l : Fin 1024), y = ix2 r l := ⟨y 0, y 1, eq_ix2 y⟩
  exact (congrFun (after0_11 m c t) (ix2 r l)).trans (hG t r l)
theorem arr11 : (dats m 0 c).arrAt 11 cfg0.N = rows1 (given m c).mixed :=
  whole11 m c _ fun t r l => by
    rw [left11, emb11]
    exact congrFun (mixed_row m c t r) l
theorem whole12 (G : Vec Ideal S8192x1024 .f32) (hG : ∀ (t : Fin cfg0.N) (r : Fin 512) (l : Fin 1024), (outsAt0 m c t.val t.isLt).2.1 (ix2 r l) = G ((win0_12.blk t).view.emb (ix2 r l))) : (dats m 0 c).arrAt 12 cfg0.N = G := by
  refine (dats m 0 c).arrAt_eq_of_covers 12 _ (by decide +kernel) fun t hf y => ?_
  obtain ⟨r, l, rfl⟩ : ∃ (r : Fin 512) (l : Fin 1024), y = ix2 r l := ⟨y 0, y 1, eq_ix2 y⟩
  exact (congrFun (after0_12 m c t) (ix2 r l)).trans (hG t r l)
theorem arr12 : (dats m 0 c).arrAt 12 cfg0.N = rows1 (given m c).out :=
  whole12 m c _ fun t r l => by
    rw [left12, emb12]
    exact prod_row m c t r l
theorem whole13 (G : Vec Ideal S8192x1024 .f32) (hG : ∀ (t : Fin cfg0.N) (r : Fin 512) (l : Fin 1024), (outsAt0 m c t.val t.isLt).2.2.1 (ix2 r l) = G ((win0_13.blk t).view.emb (ix2 r l))) : (dats m 0 c).arrAt 13 cfg0.N = G := by
  refine (dats m 0 c).arrAt_eq_of_covers 13 _ (by decide +kernel) fun t hf y => ?_
  obtain ⟨r, l, rfl⟩ : ∃ (r : Fin 512) (l : Fin 1024), y = ix2 r l := ⟨y 0, y 1, eq_ix2 y⟩
  exact (congrFun (after0_13 m c t) (ix2 r l)).trans (hG t r l)
theorem arr13 : (dats m 0 c).arrAt 13 cfg0.N = rows1 (given m c).dx :=
  whole13 m c _ fun t r l => by
    rw [left13, emb13]
    exact dx_row m c t r l
/-- The buffers as the call leaves them. -/
def left : Valuation τ sig (Elt Ideal) := Pipeline.withArrays (cfgs 0).spec c (V0 m c) fun w => (dats m 0 c).arrAt w (cfgs 0).N
theorem inj : Function.Injective (Pipeline.arrRef spec0) := by decide
theorem left_mix : left m c (Proc.devRef .tc main_v1_0) = rows1 (given m c).mixed := (Pipeline.withArrays_arr spec0 inj c (V0 m c) (fun w => (dats m 0 c).arrAt w (cfgs 0).N) 11).trans (arr11 m c)
theorem left_loss : left m c (Proc.devRef .tc main_v1_3) = fun _ => (given m c).loss := (Pipeline.withArrays_arr spec0 inj c (V0 m c) (fun w => (dats m 0 c).arrAt w (cfgs 0).N) 14).trans (arr14 m c)
theorem cast2 (V : Valuation τ sig (Elt Ideal)) : (StableHlo.after (hostOps1 (F := Ideal)) V (Proc.devRef .tc main_v2) : Vec Ideal S8192x1024 .f32) = (V (Proc.devRef .tc main_v1_0) : Vec Ideal S8192x1024 .bf16) := by
  simp only [hostOps1]
  after_results_simp <;> rfl
theorem cast4 (V : Valuation τ sig (Elt Ideal)) : (StableHlo.after (hostOps1 (F := Ideal)) V (Proc.devRef .tc main_v4) : Vec Ideal S_ .f32) = shapeCast S_ (extractStridedSlice S1x1 ![0, 0] (V (Proc.devRef .tc main_v1_3) : Vec Ideal S1x128 .f32) slices_S1x128_S1x1_0_0) shapeCasts_S1x1_S_ := by
  simp only [hostOps1]
  after_results_simp <;> rfl
theorem res0 : StableHlo.after (hostOps1 (F := Ideal)) (left m c) (Proc.devRef .tc main_v2) = rows1 (given m c).mixed := (cast2 (left m c)).trans (left_mix m c)
theorem res3 : StableHlo.after (hostOps1 (F := Ideal)) (left m c) (Proc.devRef .tc main_v4) = fun _ => (given m c).loss := by
  refine (cast4 (left m c)).trans ?_
  rw [left_loss]
  rfl
end Results

/-- Every execution of the kernel ends with the mixed rows, their product, the gradient and the loss in its results. -/
theorem run (ρ : Dev nD → PrngReg) :
    θ_run defs (onTc (τ := τ) (main (F := Ideal))) ⟨m, fun _ => 0, ρ⟩ fun r => ∀ c : Dev nD,
      (r.2.mem ((c.tc : Thread nD τ).loc main_v2) = rows1 (given m c).mixed
      ∧ r.2.mem ((c.tc : Thread nD τ).loc main_v1_1) = rows1 (given m c).out
      ∧ r.2.mem ((c.tc : Thread nD τ).loc main_v1_2) = rows1 (given m c).dx
      ∧ r.2.mem ((c.tc : Thread nD τ).loc main_v4) = fun _ => (given m c).loss) :=
  (θ_run defs _ _).mono (fun r h c => ⟨
      ((h c).2 main_v2 (Pipeline.mem_restRefs_of main_v2 (by decide) (by decide))).trans (res0 m c),
      ((h c).1 12).trans (arr12 m c),
      ((h c).1 13).trans (arr13 m c),
      ((h c).2 main_v4 (Pipeline.mem_restRefs_of main_v4 (by decide) (by decide))).trans (res3 m c)⟩)
    (run_main m ρ)
end Cert.LossIdeal.Val
-- ==== Proof.LossRef.lean ====
module
public import proofs.«01_k».proof.Defs
public import proofs.«01_k».proof.Proof.LossCall
public import proofs.«01_k».proof.Proof.Gen.LossRefIdeal.Run
public import proofs.«01_k».proof.Proof.Gen.LossRefIdeal.Read
@[expose] public section
set_option maxRecDepth 16384
noncomputable section
namespace Cert.LossRefIdeal.Val
open Cert.LossRefIdeal Cert.LossRefIdeal.Gen Cert.LossRefIdeal.Read Idealize.ShloMosaic Idealize.ShloMosaic.TcCoe Idealize.SL.Sem Cert.Norm Cert.Exit
open Cert.OdInIdeal.Val (rows1)
open Cert.LossIdeal.Val (Arrays err msq)

variable (A : Arrays) (i : Fin 8192) (l : Fin 1024)

section LayerNorm
theorem v2_at : (val_main_v2 (F := Ideal) A.u) (ix1 i) = ∑ l, rw2 A.u i l := by
  rw [val_main_v2_apply, val_main_cst_apply]
  refine (congrArg (· + _) Ideal.ofBits_zero_f32).trans ((zero_add _).trans (Finset.sum_congr rfl fun l _ => ?_))
  rw [show idx_main_v2 (ix1 i) l = ix2 i l by idx_ext]
  rfl
theorem v5_at : (val_main_v5 (F := Ideal) A.u) (ix2 i 0) = mean (rw2 A.u i) := by
  unfold mean
  rw [← v2_at]
  unfold val_main_v5 val_main_v4 val_main_v3 val_main_cst_0
  generalize val_main_v2 (F := Ideal) A.u = B
  pointwise
theorem v7_at : (val_main_v7 (F := Ideal) A.u) (ix2 i l) = dev (rw2 A.u i) l := by
  unfold dev
  rw [← v5_at]
  unfold val_main_v7 val_main_v6
  generalize val_main_v5 (F := Ideal) A.u = B
  unfold rw2
  pointwise
theorem v14_at : (val_main_v14 (F := Ideal) A.u) (ix2 i l) = dev (rw2 A.u i) l := v7_at A i l
theorem v9_at : (val_main_v9 (F := Ideal) A.u) (ix1 i) = ∑ l, dev (rw2 A.u i) l * dev (rw2 A.u i) l := by
  rw [val_main_v9_apply, val_main_cst_1_apply]
  refine (congrArg (· + _) Ideal.ofBits_zero_f32).trans ((zero_add _).trans (Finset.sum_congr rfl fun l _ => ?_))
  rw [show idx_main_v9 (ix1 i) l = ix2 i l by idx_ext, val_main_v8_apply, v7_at]
  rfl
theorem v16_at : (val_main_v16 (F := Ideal) A.u) (ix2 i 0) = ms (dev (rw2 A.u i)) := by
  unfold ms
  rw [← v9_at]
  unfold val_main_v16 val_main_v15 val_main_v12 val_main_v11 val_main_v10 val_main_cst_2 val_main_cst_3
  generalize val_main_v9 (F := Ideal) A.u = B
  pointwise
theorem v17_at : (val_main_v17 (F := Ideal) A.u) (ix2 i 0) = rinv (dev (rw2 A.u i)) := by
  unfold rinv
  rw [← v16_at]
  unfold val_main_v17
  generalize val_main_v16 (F := Ideal) A.u = B
  pointwise
theorem v19_at : (val_main_v19 (F := Ideal) A.u) (ix2 i l) = nor (rw2 A.u i) l := by
  unfold nor
  rw [← v14_at, ← v17_at]
  unfold val_main_v19 val_main_v18
  generalize val_main_v14 (F := Ideal) A.u = B
  generalize val_main_v17 (F := Ideal) A.u = C
  pointwise
/-- The layer norm of a row. -/
theorem v23_at : (val_main_v23 (F := Ideal) A.u A.p A.q) (ix2 i l) = aff (rw2 A.u i) (rw2 A.p 0) (rw2 A.q 0) l := by
  unfold aff
  rw [← v19_at]
  unfold val_main_v23 val_main_v22 val_main_v21 val_main_v20
  generalize val_main_v19 (F := Ideal) A.u = B
  unfold rw2
  pointwise
end LayerNorm

section Swish
theorem v26_at : (val_main_v26 (F := Ideal) A.z A.b) (ix2 i l) = arg (A.gr i) A.gb l := by
  unfold arg Arrays.gr Arrays.gb rw2 third
  unfold val_main_v26 val_main_v25 val_main_v0 val_main_v1
  pointwise
theorem v24_at : (val_main_v24 (F := Ideal) A.u A.p A.q) (ix2 i l) = swish (aff (rw2 A.u i) (rw2 A.p 0) (rw2 A.q 0) l) := by
  unfold swish
  rw [← v23_at]
  unfold val_main_v24 val_main_call0_v5 val_main_call0_v4 val_main_call0_v3 val_main_call0_v2 val_main_call0_v1 val_main_call0_v0 val_main_call0_cst val_main_call0_cst_0
  generalize val_main_v23 (F := Ideal) A.u A.p A.q = B
  unfold Ideal.logistic
  rw [← Ideal.ofBits_one_f32]
  pointwise
theorem v27_at : (val_main_v27 (F := Ideal) A.z A.b) (ix2 i l) = swish (arg (A.gr i) A.gb l) := by
  unfold swish
  rw [← v26_at]
  unfold val_main_v27 val_main_call1_v5 val_main_call1_v4 val_main_call1_v3 val_main_call1_v2 val_main_call1_v1 val_main_call1_v0 val_main_call1_cst val_main_call1_cst_0
  generalize val_main_v26 (F := Ideal) A.z A.b = B
  unfold Ideal.logistic
  rw [← Ideal.ofBits_one_f32]
  pointwise
/-- The mixed row. -/
theorem v28_at : (val_main_v28 (F := Ideal) A.u A.z A.b A.p A.q) (ix2 i l) = A.mixed i l := by
  show _ = mix (rw2 A.u i) (A.gr i) A.gb (rw2 A.p 0) (rw2 A.q 0) l
  unfold mix
  rw [← v24_at, ← v27_at]
  unfold val_main_v28
  generalize val_main_v24 (F := Ideal) A.u A.p A.q = B
  generalize val_main_v27 (F := Ideal) A.z A.b = C
  pointwise
/-- The product with the output weights. -/
theorem v29_at : (val_main_v29 (F := Ideal) A.u A.z A.w A.b A.p A.q) (ix2 i l) = A.out i l := by
  rw [val_main_v29_apply]
  show _ = thruW (A.mixed i) (rw2 A.w) l
  unfold thruW
  refine Finset.sum_congr rfl fun j _ => ?_
  rw [show lidx_main_v29 (ix2 i l) j = ix2 i j by idx_ext, show ridx_main_v29 (ix2 i l) j = ix2 j l by idx_ext, v28_at]
  rfl
end Swish

section Gated
theorem v33_at : (val_main_v33 (F := Ideal) A.u A.z A.w A.b A.p A.q) (ix1 i) = ∑ l, (A.out i) l * (A.out i) l := by
  rw [val_main_v33_apply, val_main_cst_4_apply]
  refine (congrArg (· + _) Ideal.ofBits_zero_f32).trans ((zero_add _).trans (Finset.sum_congr rfl fun l _ => ?_))
  rw [show idx_main_v33 (ix1 i) l = ix2 i l by idx_ext, val_main_v32_apply, v29_at]
  rfl
theorem v38_at : (val_main_v38 (F := Ideal) A.u A.z A.w A.b A.p A.q) (ix2 i 0) = ms (A.out i) := by
  unfold ms
  rw [← v33_at]
  unfold val_main_v38 val_main_v37 val_main_v36 val_main_v35 val_main_v34 val_main_cst_5 val_main_cst_6
  generalize val_main_v33 (F := Ideal) A.u A.z A.w A.b A.p A.q = B
  pointwise
theorem v39_at : (val_main_v39 (F := Ideal) A.u A.z A.w A.b A.p A.q) (ix2 i 0) = rinv (A.out i) := by
  unfold rinv
  rw [← v38_at]
  unfold val_main_v39
  generalize val_main_v38 (F := Ideal) A.u A.z A.w A.b A.p A.q = B
  pointwise
theorem v41_at : (val_main_v41 (F := Ideal) A.u A.z A.w A.b A.p A.q) (ix2 i l) = hat (A.out i) l := by
  unfold hat
  rw [← v29_at, ← v39_at]
  unfold val_main_v41 val_main_v40
  generalize val_main_v29 (F := Ideal) A.u A.z A.w A.b A.p A.q = B
  generalize val_main_v39 (F := Ideal) A.u A.z A.w A.b A.p A.q = C
  pointwise
theorem v43_at : (val_main_v43 (F := Ideal) A.u A.z A.w A.b A.p A.q A.g) (ix2 i l) = hat (A.out i) l * (rw2 A.g 0) l := by
  rw [← v41_at]
  unfold val_main_v43 val_main_v42
  generalize val_main_v41 (F := Ideal) A.u A.z A.w A.b A.p A.q = B
  unfold rw2
  pointwise
/-- The error of a row. -/
theorem v47_at : (val_main_v47 (F := Ideal) A.u A.z A.x A.w A.b A.p A.q A.g A.mo A.ab A.t) (ix2 i l) = A.er i l := by
  show _ = err (A.out i) (rw2 A.g 0) (part 2 (rw2 A.mo 0) (rw2 A.ab 0)) (rw2 A.x i) (rw2 A.t i) l
  unfold err
  rw [← v43_at]
  unfold val_main_v47 val_main_v46 val_main_v45 val_main_v44 val_main_v31 val_main_v30
  generalize val_main_v43 (F := Ideal) A.u A.z A.w A.b A.p A.q A.g = B
  unfold part third rw2
  pointwise
theorem v51_at : (val_main_v51 (F := Ideal) A.u A.z A.x A.w A.b A.p A.q A.g A.mo A.ab A.t) (ix1 i) = ∑ l, A.er i l * A.er i l := by
  rw [val_main_v51_apply, val_main_cst_8_apply]
  refine (congrArg (· + _) Ideal.ofBits_zero_f32).trans ((zero_add _).trans (Finset.sum_congr rfl fun l _ => ?_))
  rw [show idx_main_v51 (ix1 i) l = ix2 i l by idx_ext, val_main_v48_apply, v47_at]
  rfl
theorem v53_at : (val_main_v53 (F := Ideal) A.u A.z A.x A.w A.b A.p A.q A.g A.mo A.ab A.t) (ix1 i) = msq (A.er i) := by
  unfold msq
  rw [← v51_at]
  unfold val_main_v53 val_main_v52 val_main_cst_9
  generalize val_main_v51 (F := Ideal) A.u A.z A.x A.w A.b A.p A.q A.g A.mo A.ab A.t = B
  pointwise
/-- The loss. -/
theorem v55_eq : val_main_v55 (F := Ideal) A.u A.z A.x A.w A.b A.p A.q A.g A.mo A.ab A.t = fun _ => A.loss := by
  funext y
  rw [val_main_v55_apply, val_main_cst_11_apply, val_main_v54_apply, val_main_cst_10_apply]
  refine congrArg (Ideal.ofBits .f32 0x3F000000#32 * ·) ((congrArg (· + _) Ideal.ofBits_zero_f32).trans ((zero_add _).trans ?_))
  refine Fintype.sum_equiv ⟨fun j => j 0, fun i => ix1 i, fun j => (eq_ix1 j).symm, fun _ => rfl⟩ _ _ fun j => ?_
  obtain ⟨i, rfl⟩ : ∃ i : Fin 8192, j = ix1 i := ⟨j 0, eq_ix1 j⟩
  exact v53_at A i
/-- Twice the error over twice the number of lanes is the error times its reciprocal. -/
theorem twice (e : EReal) : Ideal.div (Ideal.ofBits .f32 0x3F000000#32 * Ideal.ofBits .f32 0x3F800000#32) (Ideal.ofBits .f32 0x44800000#32) * (Ideal.ofBits .f32 0x40000000#32 * e) = e * Ideal.ofBits .f32 0x3A800000#32 := by
  have h0 : Ideal.ofBits .f32 0x3F000000#32 = (((1 / 2 : ℝ)) : EReal) := by
    simp [Ideal.ofBits, Ideal.ieee, -EReal.coe_mul]; norm_num
  have h1 : Ideal.ofBits .f32 0x44800000#32 = (((1024 : ℝ)) : EReal) := by
    simp [Ideal.ofBits, Ideal.ieee, -EReal.coe_mul]; norm_num
  have h2 : Ideal.ofBits .f32 0x3A800000#32 = (((1 / 1024 : ℝ)) : EReal) := by
    simp [Ideal.ofBits, Ideal.ieee, -EReal.coe_mul]; norm_num
  rw [← mul_assoc, mul_comm e, h0, h1, h2, Cert.Reals.ofBits_two, Ideal.ofBits_one_f32, mul_one, Ideal.div_coe (by norm_num), ← EReal.coe_mul]
  refine congrArg (· * e) (congrArg ((↑) : ℝ → EReal) ?_)
  norm_num

/-- The gradient of the layer output. -/
theorem v61_at : (val_main_v61 (F := Ideal) A.u A.z A.x A.w A.b A.p A.q A.g A.mo A.ab A.t) (ix2 i l) = A.dx i l := by
  show _ = A.er i l * Ideal.ofBits .f32 0x3A800000#32
  rw [← v47_at, ← twice]
  unfold val_main_v61 val_main_v60 val_main_v59 val_main_v58 val_main_v57 val_main_v56 val_main_v50 val_main_v49 val_main_cst_7 val_main_cst_12 val_main_cst_13 val_main_cst_14
  generalize val_main_v47 (F := Ideal) A.u A.z A.x A.w A.b A.p A.q A.g A.mo A.ab A.t = B
  pointwise
theorem v28_eq : val_main_v28 (F := Ideal) A.u A.z A.b A.p A.q = rows1 A.mixed := by
  funext y
  obtain ⟨i, l, rfl⟩ : ∃ (i : Fin 8192) (l : Fin 1024), y = ix2 i l := ⟨y 0, y 1, eq_ix2 y⟩
  exact v28_at A i l
theorem v29_eq : val_main_v29 (F := Ideal) A.u A.z A.w A.b A.p A.q = rows1 A.out := by
  funext y
  obtain ⟨i, l, rfl⟩ : ∃ (i : Fin 8192) (l : Fin 1024), y = ix2 i l := ⟨y 0, y 1, eq_ix2 y⟩
  exact v29_at A i l
theorem v61_eq : val_main_v61 (F := Ideal) A.u A.z A.x A.w A.b A.p A.q A.g A.mo A.ab A.t = rows1 A.dx := by
  funext y
  obtain ⟨i, l, rfl⟩ : ∃ (i : Fin 8192) (l : Fin 1024), y = ix2 i l := ⟨y 0, y 1, eq_ix2 y⟩
  exact v61_at A i l
end Gated

set_option maxHeartbeats 1000000 in
/-- The kernel and the reference compute the same loss, gradient and saved rows of the last layer's exit. -/
theorem algebraic : Cert.algebraic_LossIdeal_LossRefIdeal := by
  intro m ρ m' ρ' _ hag
  refine ⟨_, _, _, _, (θ_run _ _ _).mono (fun r h c => ⟨(h.1 c).1, (h.1 c).2.1, (h.1 c).2.2.1, (h.1 c).2.2.2, h.2 c⟩)
    (θ_run_and (Cert.LossIdeal.Val.run m ρ) (Cert.LossIdeal.Gen.unchanged m ρ)), (θ_run _ _ _).mono (fun r h c => ?_) (Cert.LossRefIdeal.Value.run m' ρ')⟩
  obtain ⟨h28, h29, h61, h55, ha⟩ := h c
  obtain ⟨e0, e1, e2, e3, e4, e5, e6, e7, e8, e9, e10⟩ := hag c
  refine ⟨?_, ?_, ?_, ?_, ha⟩
  · rw [h28, val_main_v28_eq]
    show val_main_v28 (F := Ideal) (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg6)) = _
    rw [e0, e1, e4, e5, e6]
    exact v28_eq (Cert.LossIdeal.Val.given m c)
  · rw [h29, val_main_v29_eq]
    show val_main_v29 (F := Ideal) (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) = _
    rw [e0, e1, e3, e4, e5, e6]
    exact v29_eq (Cert.LossIdeal.Val.given m c)
  · rw [h61, val_main_v61_eq]
    show val_main_v61 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) = _
    rw [e0, e1, e2, e3, e4, e5, e6, e7, e8, e9, e10]
    exact v61_eq (Cert.LossIdeal.Val.given m c)
  · rw [h55, val_main_v55_eq]
    show val_main_v55 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) = _
    rw [e0, e1, e2, e3, e4, e5, e6, e7, e8, e9, e10]
    exact v55_eq (Cert.LossIdeal.Val.given m c)
end Cert.LossRefIdeal.Val
-- ==== Proof.Head.lean ====
module
public import proofs.«01_k».proof.Proof.Exit
@[expose] public section
noncomputable section
/-! A row at the even layer's exit: four heads of 128 lanes, each with its own norm, the two swishes beside them, and the gradients of both. -/
namespace Cert.Head
open Idealize.ShloMosaic Cert.Norm
open Cert.Exit (swish swishB)

section Norm
variable (c e : Fin 128 → EReal)
/-- The mean of a head, and its deviations from it. -/
def mean : EReal := Ideal.div (∑ l, c l) (Ideal.ofBits .f32 0x43000000#32)
def dev (l : Fin 128) : EReal := c l - mean c
/-- The mean square of the deviations, with the small constant, and the reciprocal of its root. -/
def ms : EReal := Ideal.div (∑ l, dev c l * dev c l) (Ideal.ofBits .f32 0x43000000#32) + Ideal.ofBits .f32 0x358637BD#32
def rinv : EReal := Ideal.rsqrt (ms c)
/-- The normed head. -/
def nor (l : Fin 128) : EReal := dev c l * rinv c
/-- For the gradient `e` of the normed head: the part over the deviations, the part over their mean square, the part over the mean, and the gradient of the head. -/
def direct (l : Fin 128) : EReal := e l * rinv c
def curv : EReal := Ideal.div ((∑ l, dev c l * e l) * (Ideal.ofBits .f32 0xBF000000#32 * Ideal.div (rinv c) (ms c))) (Ideal.ofBits .f32 0x43000000#32)
def square (l : Fin 128) : EReal := curv c e * (Ideal.ofBits .f32 0x40000000#32 * dev c l)
def shared : EReal := Ideal.div ((∑ l, (0 - direct c e l)) + ∑ l, (0 - square c e l)) (Ideal.ofBits .f32 0x43000000#32)
def dLn (l : Fin 128) : EReal := direct c e l + square c e l + shared c e
end Norm

/-- Lane `l` of head `k`, and the head and lane of a column. -/
def lane (k : Fin 4) (l : Fin 128) : Fin 512 := ⟨k.val * 128 + l.val, by omega⟩
def headOf (j : Fin 512) : Fin 4 := ⟨j.val / 128, by omega⟩
def laneOf (j : Fin 512) : Fin 128 := ⟨j.val % 128, by omega⟩
theorem headOf_lane (k : Fin 4) (l : Fin 128) : headOf (lane k l) = k := Fin.ext (by show (k.val * 128 + l.val) / 128 = k.val; omega)
theorem laneOf_lane (k : Fin 4) (l : Fin 128) : laneOf (lane k l) = l := Fin.ext (by show (k.val * 128 + l.val) % 128 = l.val; omega)
theorem lane_of (j : Fin 512) : lane (headOf j) (laneOf j) = j := Fin.ext (by show j.val / 128 * 128 + j.val % 128 = j.val; omega)
/-- Head `k` of a row. -/
def hd (k : Fin 4) (x : Fin 512 → EReal) (l : Fin 128) : EReal := x (lane k l)
/-- The two halves of a row of 1024. -/
def lo (e : Fin 1024 → EReal) (j : Fin 512) : EReal := e ⟨j.val, by omega⟩
def hi (e : Fin 1024 → EReal) (j : Fin 512) : EReal := e ⟨512 + j.val, by omega⟩

section Row
variable (o g a q : Fin 512 → EReal) (e : Fin 1024 → EReal)
/-- The row with each head normed. -/
def nor4 (j : Fin 512) : EReal := nor (hd (headOf j) o) (laneOf j)
/-- The row that the output product takes: the normed heads with their gate, then the attention with its gate. -/
def mix (n : Fin 1024) : EReal := if h : n.val < 512 then nor4 o ⟨n.val, h⟩ * swish (g ⟨n.val, h⟩) else a ⟨n.val - 512, by omega⟩ * swish (q ⟨n.val - 512, by omega⟩)
/-- The gradients, for the gradient `e` of that row: of the attention, of the two gates, and of the row of heads. -/
def dAtt (j : Fin 512) : EReal := hi e j * swish (q j)
def dGateA (j : Fin 512) : EReal := swishB (q j) (a j * hi e j)
def dGateO (j : Fin 512) : EReal := swishB (g j) (nor4 o j * lo e j)
def dNor (j : Fin 512) : EReal := lo e j * swish (g j)
def dO (j : Fin 512) : EReal := dLn (hd (headOf j) o) (hd (headOf j) (dNor g e)) (laneOf j)
end Row
end Cert.Head
-- ==== Proof.EvOutBody.lean ====
module
public import proofs.«01_k».proof.Proof.Gen.EvOutIdeal.Frame
public import Idealize.ShloMosaic.Lib.Pointwise
public import Idealize.ShloMosaic.Lib.Pipeline.ValueKit
public import Idealize.ShloMosaic.Lib.WritesUnit
public import proofs.«01_k».proof.Proof.Sums
public import proofs.«01_k».proof.Proof.Head
@[expose] public section
set_option maxRecDepth 16384
noncomputable section
namespace Cert.EvOutIdeal.Val
open Cert.EvOutIdeal Cert.EvOutIdeal.Gen Idealize.ShloMosaic Idealize.ShloMosaic.TcCoe Idealize.SL.Sem Cert.Norm
open Cert.Exit (cot cop dRow aGain aGate thruW backW swish swishB)

/-! ## A block of one head -/
section Block
variable (X E : FVec Ideal S512x128 .f32)
/-- The sums of a block's rows, and a column of one number. -/
def sums (X : FVec Ideal S512x128 .f32) : FVec Ideal S512x1 .f32 := shapeCast S512x1 (multiReduction .add [1] S512 X 0x00000000#32 reduces_S512x128_S512 (.inl rfl) rfl) shapeCasts_S512_S512x1
def same (C : FVec Ideal S512x1 .f32) : FVec Ideal S512x1 .f32 := shapeCast S512x1 (multiReduction .add [1] S512 C 0x00000000#32 reduces_S512x1_S512 (.inl rfl) rfl) shapeCasts_S512_S512x1
def col (b : BitVec 32) : FVec Ideal S512x1 .f32 := broadcast S512x1 (Scalar.ofBits .f32 b)
def wide (C : FVec Ideal S512x1 .f32) : FVec Ideal S512x128 .f32 := broadcastTo S512x128 C broadcasts_S512x1_S512x128
/-- The block's means, deviations, mean squares and their reciprocal roots; the normed block. -/
def meanB : FVec Ideal S512x1 .f32 := divf (sums X) (col 0x43000000#32)
def devB : FVec Ideal S512x128 .f32 := subf X (wide (meanB X))
def msB : FVec Ideal S512x1 .f32 := addf (divf (sums (mulf (devB X) (devB X))) (col 0x43000000#32)) (col 0x358637BD#32)
def invB : FVec Ideal S512x1 .f32 := rsqrt (msB X)
def norB : FVec Ideal S512x128 .f32 := mulf (devB X) (wide (invB X))
/-- The gradient of the block, for the gradient `E` of the normed block. -/
def halfB : FVec Ideal S512x1 .f32 := mulf (col 0xBF000000#32) (divf (invB X) (msB X))
def directB : FVec Ideal S512x128 .f32 := mulf E (wide (invB X))
def curvB : FVec Ideal S512x1 .f32 := same (divf (mulf (sums (mulf (devB X) E)) (halfB X)) (col 0x43000000#32))
def squareB : FVec Ideal S512x128 .f32 := mulf (wide (curvB X E)) (mulf (broadcast S512x128 (Scalar.ofBits .f32 0x40000000#32)) (devB X))
def minus (D : FVec Ideal S512x128 .f32) : FVec Ideal S512x1 .f32 := sums (subf (broadcast S512x128 (Scalar.ofBits .f32 0x00000000#32)) D)
def sharedB : FVec Ideal S512x1 .f32 := same (divf (addf (minus (directB X E)) (minus (squareB X E))) (col 0x43000000#32))
def gradB : FVec Ideal S512x128 .f32 := addf (addf (directB X E) (squareB X E)) (wide (sharedB X E))

variable (r : Fin 512) (l : Fin 128)
theorem sums_at : sums X (ix2 r 0) = ∑ l, rw2 X r l := by
  unfold sums rw2
  pointwise
theorem same_at (C : FVec Ideal S512x1 .f32) : same C (ix2 r 0) = C (ix2 r 0) := by
  unfold same
  pointwise
  exact Fin.sum_univ_one _
theorem wide_at (C : FVec Ideal S512x1 .f32) : wide C (ix2 r l) = C (ix2 r 0) := by
  unfold wide
  pointwise
theorem meanB_at : meanB X (ix2 r 0) = Head.mean (rw2 X r) := by
  unfold Head.mean
  rw [← sums_at]
  rfl
theorem devB_at : devB X (ix2 r l) = Head.dev (rw2 X r) l := by
  unfold Head.dev
  rw [← meanB_at, ← wide_at r l (meanB X)]
  rfl
theorem msB_at : msB X (ix2 r 0) = Head.ms (rw2 X r) := by
  unfold Head.ms
  simp only [← devB_at]
  rw [show (∑ l, devB X (ix2 r l) * devB X (ix2 r l)) = sums (mulf (devB X) (devB X)) (ix2 r 0) from (sums_at (mulf (devB X) (devB X)) r).symm]
  rfl
theorem invB_at : invB X (ix2 r 0) = Head.rinv (rw2 X r) := by
  unfold Head.rinv
  rw [← msB_at]
  rfl
/-- The normed block. -/
theorem norB_at : norB X (ix2 r l) = Head.nor (rw2 X r) l := by
  unfold Head.nor
  rw [← devB_at, ← invB_at, ← wide_at r l (invB X)]
  rfl
theorem directB_at : directB X E (ix2 r l) = Head.direct (rw2 X r) (rw2 E r) l := by
  unfold Head.direct
  rw [← invB_at, ← wide_at r l (invB X)]
  rfl
theorem curvB_at : curvB X E (ix2 r 0) = Head.curv (rw2 X r) (rw2 E r) := by
  unfold curvB Head.curv
  rw [same_at, ← invB_at, ← msB_at]
  simp only [← devB_at]
  rw [show (∑ l, devB X (ix2 r l) * rw2 E r l) = sums (mulf (devB X) E) (ix2 r 0) from (sums_at (mulf (devB X) E) r).symm]
  rfl
theorem squareB_at : squareB X E (ix2 r l) = Head.square (rw2 X r) (rw2 E r) l := by
  unfold Head.square
  rw [← curvB_at, ← devB_at, ← wide_at r l (curvB X E)]
  rfl
theorem minus_at (D : FVec Ideal S512x128 .f32) : minus D (ix2 r 0) = ∑ l, (0 - rw2 D r l) := by
  unfold minus
  rw [sums_at, ← Ideal.ofBits_zero_f32]
  rfl
theorem sharedB_at : sharedB X E (ix2 r 0) = Head.shared (rw2 X r) (rw2 E r) := by
  unfold sharedB Head.shared
  rw [same_at]
  simp only [← directB_at, ← squareB_at]
  rw [show (∑ l, (0 - directB X E (ix2 r l))) = minus (directB X E) (ix2 r 0) from (minus_at r _).symm,
    show (∑ l, (0 - squareB X E (ix2 r l))) = minus (squareB X E) (ix2 r 0) from (minus_at r _).symm]
  rfl
/-- The gradient of the block. -/
theorem gradB_at : gradB X E (ix2 r l) = Head.dLn (rw2 X r) (rw2 E r) l := by
  unfold Head.dLn
  rw [← directB_at, ← squareB_at, ← sharedB_at, ← wide_at r l (sharedB X E)]
  rfl
end Block

/-! ## The four heads of a block -/
section Four
variable (O : FVec Ideal S512x512 .f32) (a b : FVec Ideal S512x512 .f32) (r : Fin 512) (k : Fin 4) (l : Fin 128)
/-- Head `k` of a block. -/
def cut : Fin 4 → FVec Ideal S512x128 .f32
  | 0 => extractStridedSlice S512x128 ![0, 0] O slices_S512x512_o0_0_S512x128
  | 1 => extractStridedSlice S512x128 ![0, 128] O slices_S512x512_o0_128_S512x128
  | 2 => extractStridedSlice S512x128 ![0, 256] O slices_S512x512_o0_256_S512x128
  | 3 => extractStridedSlice S512x128 ![0, 384] O slices_S512x512_o0_384_S512x128
theorem cut_at : cut O k (ix2 r l) = O (ix2 r (Head.lane k l)) := by
  fin_cases k
  · show extractStridedSlice S512x128 ![0, 0] O slices_S512x512_o0_0_S512x128 (ix2 r l) = _
    unfold Head.lane
    pointwise
  · show extractStridedSlice S512x128 ![0, 128] O slices_S512x512_o0_128_S512x128 (ix2 r l) = _
    unfold Head.lane
    pointwise
  · show extractStridedSlice S512x128 ![0, 256] O slices_S512x512_o0_256_S512x128 (ix2 r l) = _
    unfold Head.lane
    pointwise
  · show extractStridedSlice S512x128 ![0, 384] O slices_S512x512_o0_384_S512x128 (ix2 r l) = _
    unfold Head.lane
    pointwise
theorem cut_row : rw2 (cut O k) r = Head.hd k (rw2 O r) := funext fun l => cut_at O r k l
/-- Four blocks beside each other. -/
def four (G : Fin 4 → FVec Ideal S512x128 .f32) : FVec Ideal S512x512 .f32 :=
  concatenate S512x512 1 [⟨S512x128, G 0⟩, ⟨S512x128, G 1⟩, ⟨S512x128, G 2⟩, ⟨S512x128, G 3⟩] concatenates_S512x128_S512x128_S512x128_S512x128_S512x512_d1
theorem four_at (G : Fin 4 → FVec Ideal S512x128 .f32) : four G (ix2 r (Head.lane k l)) = G k (ix2 r l) := by
  unfold four Head.lane
  fin_cases k
  · pointwise
  · pointwise
  · pointwise
    rw [dif_neg (by omega), dif_neg (by omega), dif_pos (by omega)]
    exact congrArg (fun n => G 2 (ix2 r n)) (Fin.ext (by show 256 + l.val - 128 - 128 = l.val; omega))
  · pointwise
    rw [dif_neg (by omega), dif_neg (by omega), dif_neg (by omega)]
    exact congrArg (fun n => G 3 (ix2 r n)) (Fin.ext (by show 384 + l.val - 128 - 128 - 128 = l.val; omega))
end Four

/-! ## What the kernel computes of its blocks -/
section Rows
variable (o o' g q : Vec Ideal S512x512 .f32) (a : Vec Ideal S512x512 .bf16) (Y : FVec Ideal S512x1024 .f32) (r : Fin 512) (j : Fin 512)
/-- The sum of the two directions. -/
abbrev both : FVec Ideal S512x512 .f32 := k0_pay19 (F := Ideal) o o'
theorem both_at : both o o' (ix2 r j) = rw2 o r j + rw2 o' r j := by
  unfold both k0_pay19 rw2
  pointwise
theorem att_at : k0_pay69 (F := Ideal) Y (k0_pay22 q) (ix2 r j) = Head.dAtt (rw2 q r) (rw2 Y r) j := by
  unfold Head.dAtt k0_pay69 k0_pay64 k0_pay67 k0_pay22 swish Head.hi rw2
  pointwise
theorem gateA_at : k0_pay70 (F := Ideal) (k0_pay22 q) (k0_pay64 (k0_pay22 q)) (k0_pay65 (k0_pay22 q)) (k0_pay68 Y (k0_pay21 a)) (ix2 r j)
    = Head.dGateA (rw2 a r) (rw2 q r) (rw2 Y r) j := by
  unfold Head.dGateA k0_pay70 k0_pay65 k0_pay68 k0_pay64 k0_pay67 k0_pay21 k0_pay22 swishB Head.hi rw2
  pointwise
/-- The normed heads beside each other. -/
abbrev nors : FVec Ideal S512x512 .f32 :=
  k0_pay60 (F := Ideal) (both o o') (k0_pay33 (k0_pay27 o o') (k0_pay28 o o') k0_pay29) (k0_pay42 (both o o')) (k0_pay47 (both o o')) (k0_pay48 (both o o'))
theorem nors_eq : nors o o' = four fun k => norB (cut (both o o') k) := rfl
theorem nors_at : nors o o' (ix2 r j) = Head.nor4 (rw2 (both o o') r) j := by
  rw [nors_eq, ← Head.lane_of j, four_at, norB_at, cut_row]
  unfold Head.nor4
  rw [Head.headOf_lane, Head.laneOf_lane]
theorem gateO_at : k0_pay72 (F := Ideal) (k0_pay20 g) (nors o o') (k0_pay61 (k0_pay20 g)) (k0_pay62 (k0_pay20 g)) (k0_pay66 Y) (ix2 r j)
    = Head.dGateO (rw2 (both o o') r) (rw2 g r) (rw2 Y r) j := by
  unfold Head.dGateO
  rw [← nors_at]
  generalize nors o o' = A
  unfold k0_pay72 k0_pay62 k0_pay61 k0_pay20 k0_pay66 swishB Head.lo rw2
  pointwise
/-- The gradient of the normed heads. -/
abbrev eNor : FVec Ideal S512x512 .f32 := k0_pay71 (F := Ideal) (k0_pay63 (k0_pay20 g)) (k0_pay66 Y)
theorem eNor_at : eNor g Y (ix2 r j) = Head.dNor (rw2 g r) (rw2 Y r) j := by
  unfold eNor Head.dNor k0_pay71 k0_pay63 k0_pay61 k0_pay20 k0_pay66 swish Head.lo rw2
  pointwise
/-- Four blocks, each filled up with zeros to the width of all, and added up. -/
def added (G : Fin 4 → FVec Ideal S512x128 .f32) : FVec Ideal S512x512 .bf16 :=
  k0_pay1 (addf (addf
    (concatenate S512x512 1 [⟨S512x384, broadcast S512x384 (Scalar.ofBits .f32 0x00000000#32)⟩, ⟨S512x128, G 3⟩] concatenates_S512x384_S512x128_S512x512_d1)
    (concatenate S512x512 1 [⟨S512x384, concatenate S512x384 1 [⟨S512x256, broadcast S512x256 (Scalar.ofBits .f32 0x00000000#32)⟩, ⟨S512x128, G 2⟩] concatenates_S512x256_S512x128_S512x384_d1⟩,
      ⟨S512x128, broadcast S512x128 (Scalar.ofBits .f32 0x00000000#32)⟩] concatenates_S512x384_S512x128_S512x512_d1))
    (concatenate S512x512 1 [⟨S512x256, concatenate S512x256 1 [⟨S512x128, broadcast S512x128 (Scalar.ofBits .f32 0x00000000#32)⟩, ⟨S512x128, G 1⟩] concatenates_S512x128_S512x128_S512x256_d1⟩,
      ⟨S512x256, broadcast S512x256 (Scalar.ofBits .f32 0x00000000#32)⟩] concatenates_S512x256_S512x256_S512x512_d1))
    (concatenate S512x512 1 [⟨S512x128, G 0⟩, ⟨S512x384, broadcast S512x384 (Scalar.ofBits .f32 0x00000000#32)⟩] concatenates_S512x128_S512x384_S512x512_d1)
theorem added_at (G : Fin 4 → FVec Ideal S512x128 .f32) (k : Fin 4) (l : Fin 128) : added G (ix2 r (Head.lane k l)) = G k (ix2 r l) := by
  have hl : l.val < 128 := l.isLt
  unfold added k0_pay1 Head.lane
  fin_cases k
  all_goals
    pointwise
    simp (discharger := omega) only [dif_pos, dif_neg, Ideal.ofBits_zero_f32, zero_add, add_zero]
    try exact congrArg (fun n => G _ (ix2 r n)) (Fin.ext (by simp; try omega))
/-- The gradient of the heads. -/
abbrev dHeads : FVec Ideal S512x512 .bf16 :=
  k0_pay1 (F := Ideal)
    (k0_pay84
      (k0_pay79 (k0_pay46 (both o o')) (k0_pay51 (k0_pay47 (both o o')))
        (k0_pay76 (k0_pay55 (both o o')) (k0_pay56 (both o o')) (k0_pay58 (both o o')) (k0_pay59 (both o o')) (k0_pay63 (k0_pay20 g)) (k0_pay66 Y))
        (k0_pay77 (k0_pay48 (both o o')) (k0_pay63 (k0_pay20 g)) (k0_pay66 Y)) (k0_pay78 (k0_pay50 (k0_pay47 (both o o'))) (k0_pay63 (k0_pay20 g)) (k0_pay66 Y)))
      (k0_pay80 (k0_pay40 (both o o')) (k0_pay74 (k0_pay63 (k0_pay20 g)) (k0_pay66 Y))) (k0_pay81 (k0_pay40 (both o o')) (k0_pay74 (k0_pay63 (k0_pay20 g)) (k0_pay66 Y)))
      (k0_pay82 (k0_pay37 (both o o')) (k0_pay38 (both o o')) (k0_pay41 (both o o')) (k0_pay74 (k0_pay63 (k0_pay20 g)) (k0_pay66 Y))) k0_pay83)
    (k0_pay85 (k0_pay26 o o') (k0_pay28 o o') (k0_pay31 (k0_pay27 o o') k0_pay29) (k0_pay32 (k0_pay27 o o') k0_pay29) (k0_pay73 (k0_pay63 (k0_pay20 g)) (k0_pay66 Y)))
theorem dHeads_eq : dHeads o o' g Y = added fun k => gradB (cut (both o o') k) (cut (eNor g Y) k) := rfl
theorem dHeads_at : dHeads o o' g Y (ix2 r j) = Head.dO (rw2 (both o o') r) (rw2 g r) (rw2 Y r) j := by
  rw [dHeads_eq, ← Head.lane_of j, added_at, gradB_at, cut_row, cut_row]
  unfold Head.dO
  rw [Head.headOf_lane, Head.laneOf_lane, show rw2 (eNor g Y) r = Head.dNor (rw2 g r) (rw2 Y r) from funext fun j => eNor_at g Y r j]
end Rows

section Post
variable (y d : Vec Ideal S512x1024 .f32) (p : Vec Ideal S1x1024 .f32) (mo ab : Vec Ideal S1x3072 .f32) (w : Vec Ideal S1024x1024 .bf16) (r : Fin 512) (l : Fin 1024)
theorem y_at : k0_pay6 (F := Ideal) y (ix2 r l) = rw2 y r l := by
  unfold k0_pay6 rw2
  pointwise
theorem ms_at : k0_pay7 (F := Ideal) y (ix2 r 0) = ms (rw2 y r) := by
  unfold ms
  simp only [← y_at]
  unfold k0_pay7
  generalize k0_pay6 (F := Ideal) y = A
  pointwise
theorem inv_at : k0_pay8 (F := Ideal) y (ix2 r 0) = rinv (rw2 y r) := by
  unfold rinv
  rw [← ms_at]
  rfl
theorem hat_at : k0_pay9 (F := Ideal) y (ix2 r l) = hat (rw2 y r) l := by
  unfold hat
  rw [← inv_at, ← y_at]
  unfold k0_pay9
  generalize k0_pay6 (F := Ideal) y = A
  generalize k0_pay8 (F := Ideal) y = B
  pointwise
theorem cot_at : k0_pay10 (F := Ideal) mo ab d (ix2 r l) = cot (part 2 (rw2 mo 0) (rw2 ab 0)) (rw2 d r) l := by
  unfold cot k0_pay10 part third rw2
  pointwise
theorem cop_at : k0_pay13 (F := Ideal) p mo ab d (ix2 r l) = cop (rw2 p 0) (part 2 (rw2 mo 0) (rw2 ab 0)) (rw2 d r) l := by
  unfold cop
  rw [← cot_at]
  unfold k0_pay13
  generalize k0_pay10 (F := Ideal) mo ab d = A
  unfold rw2
  pointwise
theorem sumGate : k0_pay11 (F := Ideal) p y d (ix2 0 l) = ∑ r : Fin 512, aGate (rw2 y r) (rw2 p 0) (rw2 d r) l := by
  unfold aGate
  simp only [← hat_at]
  unfold k0_pay11
  generalize k0_pay9 (F := Ideal) y = A
  unfold rw2
  pointwise
theorem sumGain : k0_pay12 (F := Ideal) mo ab y d (ix2 0 l) = ∑ r : Fin 512, aGain (rw2 y r) (part 2 (rw2 mo 0) (rw2 ab 0)) (rw2 d r) l := by
  unfold aGain
  simp only [← hat_at, ← cot_at]
  unfold k0_pay12
  generalize k0_pay9 (F := Ideal) y = A
  generalize k0_pay10 (F := Ideal) mo ab d = B
  pointwise
theorem part_at : k0_pay14 (F := Ideal) p mo ab y d (ix2 r l) = cop (rw2 p 0) (part 2 (rw2 mo 0) (rw2 ab 0)) (rw2 d r) l * rinv (rw2 y r) := by
  rw [← cop_at, ← inv_at]
  unfold k0_pay14
  generalize k0_pay13 (F := Ideal) p mo ab d = A
  generalize k0_pay8 (F := Ideal) y = B
  pointwise
theorem bent_at : k0_pay15 (F := Ideal) p mo ab y d (ix2 r 0)
    = (∑ l, rw2 y r l * cop (rw2 p 0) (part 2 (rw2 mo 0) (rw2 ab 0)) (rw2 d r) l) * (Ideal.ofBits .f32 0xBF000000#32 * Ideal.div (rinv (rw2 y r)) (ms (rw2 y r))) := by
  rw [← ms_at, ← inv_at]
  simp only [← cop_at, ← y_at]
  unfold k0_pay15
  generalize k0_pay13 (F := Ideal) p mo ab d = A
  generalize k0_pay6 (F := Ideal) y = B
  generalize k0_pay7 (F := Ideal) y = C
  generalize k0_pay8 (F := Ideal) y = D
  pointwise
/-- The gradient of a row behind the gated norm, and against the output weights. -/
abbrev dRows : FVec Ideal S512x1024 .bf16 := k0_pay17 (F := Ideal) (k0_pay6 y) (k0_pay14 p mo ab y d) (k0_pay15 p mo ab y d) k0_pay16
theorem dRow_at : dRows y d p mo ab (ix2 r l) = dRow (rw2 y r) (rw2 p 0) (part 2 (rw2 mo 0) (rw2 ab 0)) (rw2 d r) l := by
  unfold dRow curv
  rw [← bent_at, ← part_at]
  simp only [← y_at]
  unfold dRows
  generalize k0_pay14 (F := Ideal) p mo ab y d = A
  generalize k0_pay15 (F := Ideal) p mo ab y d = B
  generalize k0_pay6 (F := Ideal) y = C
  unfold k0_pay17 k0_pay16
  pointwise
  rw [Fin.sum_univ_one]
abbrev dMixB : FVec Ideal S512x1024 .f32 := k0_pay18 (F := Ideal) (k0_pay6 y) (k0_pay14 p mo ab y d) (k0_pay15 p mo ab y d) k0_pay16 w
theorem dMix_at : dMixB y d p mo ab w (ix2 r l)
    = backW (dRow (rw2 y r) (rw2 p 0) (part 2 (rw2 mo 0) (rw2 ab 0)) (rw2 d r)) (rw2 w) l := by
  unfold backW
  simp only [← dRow_at]
  unfold dMixB k0_pay18
  unfold dRows
  generalize k0_pay17 (F := Ideal) (k0_pay6 y) (k0_pay14 p mo ab y d) (k0_pay15 p mo ab y d) k0_pay16 = A
  unfold rw2
  pointwise
end Post
end Cert.EvOutIdeal.Val
-- ==== Proof.EvOutHost.lean ====
module
public import proofs.«01_k».proof.Proof.EvOutBody
@[expose] public section
set_option maxRecDepth 16384
noncomputable section
namespace Cert.EvOutIdeal.Val
open Cert.EvOutIdeal Cert.EvOutIdeal.Gen Idealize.ShloMosaic Idealize.ShloMosaic.TcCoe Idealize.SL.Sem Cert.Norm
open Cert.Exit (swish thruW)

section Lines
variable (o o' g a q : FVec Ideal S8192x512 .f32) (w : FVec Ideal S1024x1024 .f32)
/-- The sum of the two scans, four heads of 128 lanes. -/
def hX : FVec Ideal S8192x4x128 .f32 := shapeCast _ (addf o o') shapeCasts_S8192x512_S8192x4x128
/-- The means of the heads, the deviations, their mean squares with the small constant, and the normed heads. -/
def hMean : FVec Ideal S8192x4x1 .f32 :=
  Host.divf (broadcastInDim S8192x4x1 ![0, 1] bcast_S8192x4_S8192x4x1_0_1 (Host.reduceAdd (hX o o') (constant S_ .f32 0x00000000#32) reducesTo_S8192x4x128_S8192x4_d2 h_S_))
    (broadcastInDim S8192x4x1 ![] bcast_S_S8192x4x1 (constant S_ .f32 0x43000000#32))
def hDev : FVec Ideal S8192x4x128 .f32 := subf (hX o o') (broadcastInDim S8192x4x128 ![0, 1, 2] bcast_S8192x4x1_S8192x4x128_0_1_2 (hMean o o'))
def hMs : FVec Ideal S8192x4x1 .f32 :=
  addf (Host.divf (broadcastInDim S8192x4x1 ![0, 1] bcast_S8192x4_S8192x4x1_0_1 (Host.reduceAdd (mulf (hDev o o') (hDev o o')) (constant S_ .f32 0x00000000#32) reducesTo_S8192x4x128_S8192x4_d2 h_S_))
    (broadcastInDim S8192x4x1 ![] bcast_S_S8192x4x1 (constant S_ .f32 0x43000000#32))) (broadcastInDim S8192x4x1 ![] bcast_S_S8192x4x1 (constant S_ .f32 0x358637BD#32))
def hNor : FVec Ideal S8192x4x128 .f32 := mulf (hDev o o') (broadcastInDim S8192x4x128 ![0, 1, 2] bcast_S8192x4x1_S8192x4x128_0_1_2 (Host.rsqrt (hMs o o')))
/-- The swish of a gate. -/
def hSw : FVec Ideal S8192x512 .f32 :=
  mulf g (Host.divf (broadcastInDim S8192x512 ![] bcast_S_S8192x512 (constant S_ .f32 0x3F800000#32))
    (addf (broadcastInDim S8192x512 ![] bcast_S_S8192x512 (constant S_ .f32 0x3F800000#32)) (Host.exp (Host.negf g))))
/-- The mixed rows, and their product with the output weights. -/
def hMix : FVec Ideal S8192x1024 .f32 :=
  concatenate S8192x1024 1 [⟨S8192x512, mulf (shapeCast S8192x512 (hNor o o') shapeCasts_S8192x4x128_S8192x512) (hSw g)⟩, ⟨S8192x512, mulf a (hSw q)⟩] concatenates_S8192x512_S8192x512_S8192x1024_d1
def hY : FVec Ideal S8192x1024 .f32 :=
  Host.dotGeneral dot_S8192x1024_S1024x1024_S8192x1024_1_0_0_1_n_n none (truncf .bf16 (hMix o o' g a q) bitsLt_bf16_f32) (truncf .bf16 w bitsLt_bf16_f32)
/-- The two scans side by side, and the two gates at their columns of the projected rows. -/
def hO : FVec Ideal S8192x1024 .f32 := concatenate S8192x1024 1 [⟨S8192x512, o⟩, ⟨S8192x512, o'⟩] concatenates_S8192x512_S8192x512_S8192x1024_d1
def hZ : FVec Ideal S8192x3328 .f32 :=
  concatenate S8192x3328 1 [⟨S8192x1536, broadcastInDim S8192x1536 ![] bcast_S_S8192x1536 (constant S_ .f32 0x00000000#32)⟩, ⟨S8192x512, g⟩, ⟨S8192x512, q⟩,
    ⟨S8192x768, broadcastInDim S8192x768 ![] bcast_S_S8192x768 (constant S_ .f32 0x00000000#32)⟩] concatenates_S8192x1536_S8192x512_S8192x512_S8192x768_S8192x3328_d1
end Lines

section Entry
variable (m : (ℓ : Loc nD τ sig) → Buf (Elt Ideal) ℓ) (c : Dev nD)
abbrev ga (b : Ref sig .tc) := m ((c.tc : Thread nD τ).loc b)
theorem entry_y : (V m c main_v33 : FVec Ideal S8192x1024 .f32) = hY (ga m c main_arg0) (ga m c main_arg1) (ga m c main_arg2) (ga m c main_arg3) (ga m c main_arg4) (ga m c main_arg5) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_o : (V m c main_v0 : FVec Ideal S8192x1024 .f32) = hO (ga m c main_arg0) (ga m c main_arg1) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_z : (V m c main_v5 : FVec Ideal S8192x3328 .f32) = hZ (ga m c main_arg2) (ga m c main_arg4) := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_a : (V m c main_v1 : Vec Ideal S8192x512 .bf16) = ga m c main_arg3 := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
theorem entry_w : (V m c main_v2 : Vec Ideal S1024x1024 .bf16) = ga m c main_arg5 := by
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results_simp <;> rfl
end Entry

section Reads
variable (o o' g a q : FVec Ideal S8192x512 .f32) (w : FVec Ideal S1024x1024 .f32) (i : Fin 8192) (k : Fin 4) (l : Fin 128) (j : Fin 512) (n : Fin 1024)
/-- The summed row. -/
abbrev sRow (j : Fin 512) : EReal := rw2 o i j + rw2 o' i j
theorem hX_at : hX o o' (ix3 i k l) = Head.hd k (sRow o o' i) l := by
  unfold hX Head.hd Head.lane sRow rw2
  pointwise
theorem hMean_at : hMean o o' (ix3 i k 0) = Head.mean (Head.hd k (sRow o o' i)) := by
  unfold Head.mean
  simp only [← hX_at]
  unfold hMean
  generalize hX o o' = B
  pointwise
theorem hDev_at : hDev o o' (ix3 i k l) = Head.dev (Head.hd k (sRow o o' i)) l := by
  unfold Head.dev
  rw [← hX_at, ← hMean_at]
  unfold hDev
  generalize hX o o' = B
  generalize hMean o o' = C
  pointwise
theorem hMs_at : hMs o o' (ix3 i k 0) = Head.ms (Head.hd k (sRow o o' i)) := by
  unfold Head.ms
  simp only [← hDev_at]
  unfold hMs
  generalize hDev o o' = B
  pointwise
theorem hNor_at : hNor o o' (ix3 i k l) = Head.nor (Head.hd k (sRow o o' i)) l := by
  unfold Head.nor Head.rinv
  rw [← hDev_at, ← hMs_at]
  unfold hNor
  generalize hDev o o' = B
  generalize hMs o o' = C
  pointwise
theorem hSw_at : hSw g (ix2 i j) = swish (rw2 g i j) := by
  unfold hSw swish Ideal.logistic rw2
  pointwise
theorem hMix_at : hMix o o' g a q (ix2 i n) = Head.mix (sRow o o' i) (rw2 g i) (rw2 a i) (rw2 q i) n := by
  unfold Head.mix Head.nor4
  simp only [← hNor_at, ← hSw_at]
  unfold hMix Head.headOf Head.laneOf rw2
  generalize hNor o o' = B
  generalize hSw g = C
  generalize hSw q = D
  pointwise
theorem hY_at : hY o o' g a q w (ix2 i n) = thruW (Head.mix (sRow o o' i) (rw2 g i) (rw2 a i) (rw2 q i)) (rw2 w) n := by
  unfold thruW
  simp only [← hMix_at]
  unfold hY rw2
  generalize hMix o o' g a q = B
  pointwise
theorem hO_lo : hO o o' (ix2 i ⟨j.val, by omega⟩) = rw2 o i j := by
  unfold hO rw2
  pointwise
theorem hO_hi : hO o o' (ix2 i ⟨512 + j.val, by omega⟩) = rw2 o' i j := by
  unfold hO rw2
  pointwise
theorem hZ_g : hZ g q (ix2 i ⟨1536 + j.val, by omega⟩) = rw2 g i j := by
  unfold hZ rw2
  pointwise
theorem hZ_q : hZ g q (ix2 i ⟨2048 + j.val, by omega⟩) = rw2 q i j := by
  unfold hZ rw2
  pointwise
  rw [dif_neg (by omega), dif_neg (by omega), dif_pos (by omega)]
  exact congrArg (fun k => q (ix2 i k)) (Fin.ext (by show 2048 + j.val - 1536 - 512 = j.val; omega))
end Reads
end Cert.EvOutIdeal.Val
-- ==== Proof.EvOutCall.lean ====
module
public import proofs.«01_k».proof.Proof.EvOutHost
public import proofs.«01_k».proof.Proof.OdInOut
@[expose] public section
set_option maxRecDepth 16384
noncomputable section
namespace Cert.EvOutIdeal.Val
open Cert.EvOutIdeal Cert.EvOutIdeal.Gen Idealize.ShloMosaic Idealize.ShloMosaic.TcCoe Idealize.SL.Sem Cert.Norm Cert.Head
open Cert.Exit (swish swishB thruW backW dRow aGain aGate)
open Cert.OdInIdeal.Val (rows1 total one_row)

/-- The arrays of an even layer's exit: the forward and the backward scan, the recurrence's gate, the attention and its gate, the output weights,
the gain of the gated norm, the modulation and its bias, and the gradient that arrives. -/
structure Arrays where
  (o o' g a q : Vec Ideal S8192x512 .f32) (w : Vec Ideal S1024x1024 .f32) (p : Vec Ideal S1x1024 .f32) (mo ab : Vec Ideal S1x3072 .f32) (d : Vec Ideal S8192x1024 .f32)

namespace Arrays
variable (A : Arrays) (i : Fin 8192)
/-- The summed scans, the mixed rows, and their product with the output weights. -/
def s : Fin 512 → EReal := sRow A.o A.o' i
def mixed : Fin 1024 → EReal := Head.mix (A.s i) (rw2 A.g i) (rw2 A.a i) (rw2 A.q i)
def y : Fin 1024 → EReal := thruW (A.mixed i) (rw2 A.w)
/-- The gate of the gated norm. -/
def gate : Fin 1024 → EReal := part 2 (rw2 A.mo 0) (rw2 A.ab 0)
/-- The gradients of the product and of the mixed rows. -/
def dy : Fin 1024 → EReal := dRow (A.y i) (rw2 A.p 0) A.gate (rw2 A.d i)
def dm : Fin 1024 → EReal := backW (A.dy i) (rw2 A.w)
/-- The gradients of the scans, of the two gates and of the attention. -/
def gO : Fin 512 → EReal := dO (A.s i) (rw2 A.g i) (A.dm i)
def gG : Fin 512 → EReal := dGateO (A.s i) (rw2 A.g i) (A.dm i)
def gA : Fin 512 → EReal := dAtt (rw2 A.q i) (A.dm i)
def gQ : Fin 512 → EReal := dGateA (rw2 A.a i) (rw2 A.q i) (A.dm i)
/-- What a row adds to the gradients of the gain and of the gate. -/
def aP (l : Fin 1024) : EReal := aGain (A.y i) A.gate (rw2 A.d i) l
def aM (l : Fin 1024) : EReal := aGate (A.y i) (rw2 A.p 0) (rw2 A.d i) l
end Arrays
/-- Rows of 512 as an array. -/
def rowsH (f : Fin 8192 → Fin 512 → EReal) : Vec Ideal S8192x512 .f32 := fun i => f (i 0) (i 1)

variable (m : (ℓ : Loc nD τ sig) → Buf (Elt Ideal) ℓ) (c : Dev nD)
/-- The arrays of the launch. -/
def given : Arrays := ⟨ga m c main_arg0, ga m c main_arg1, ga m c main_arg2, ga m c main_arg3, ga m c main_arg4, ga m c main_arg5, ga m c main_arg6, ga m c main_arg7, ga m c main_arg8, ga m c main_arg9⟩
/-- The row of the arrays that row `r` of a grid point's blocks is. -/
def row (t : Fin cfg0.N) (r : Fin 512) : Fin 8192 := ⟨t.val * 512 + r.val, by have h : t.val < 16 := t.isLt; omega⟩

section Blocks
variable (t : Fin cfg0.N) (r : Fin 512)

theorem at0_0 : ∀ t : Fin cfg0.N, win0_0.index t = ![t.val, 0] := by decide +kernel
theorem in0 : rw2 (iblk m c 0 t : Vec Ideal S512x1024 .f32) r = (given m c).y (row t r) := by
  funext l
  refine (congrArg (V m c main_v33) (?_ : _ = ix2 (row t r) l)).trans ((congrFun (entry_y m c) _).trans (hY_at _ _ _ _ _ _ _ _))
  unfold row
  blk_ext! [at0_0]
theorem at0_1 : ∀ t : Fin cfg0.N, win0_1.index t = ![t.val, 0] := by decide +kernel
theorem in1 : rw2 (iblk m c 1 t : Vec Ideal S512x1024 .f32) r = rw2 (given m c).d (row t r) := by
  funext l
  refine (congrArg (V m c main_arg9) (?_ : _ = ix2 (row t r) l)).trans (congrFun (V_main_arg9 m c) _)
  unfold row
  blk_ext! [at0_1]
theorem at0_2 : ∀ t : Fin cfg0.N, win0_2.index t = ![t.val, 0] := by decide +kernel
theorem in2 (l : Fin 1024) : (iblk m c 2 t : Vec Ideal S512x1024 .f32) (ix2 r l) = hO (given m c).o (given m c).o' (ix2 (row t r) l) := by
  refine (congrArg (V m c main_v0) (?_ : _ = ix2 (row t r) l)).trans (congrFun (entry_o m c) _)
  unfold row
  blk_ext! [at0_2]
/-- The two halves of a block of scans. -/
abbrev oLo : Vec Ideal S512x512 .f32 := View.ld (iblk m c 2 t : Vec Ideal S512x1024 .f32) (Rect.unit ![0, 0] ![512, 512] inb_S512x1024_S512x512_0_0)
abbrev oHi : Vec Ideal S512x512 .f32 := View.ld (iblk m c 2 t : Vec Ideal S512x1024 .f32) (Rect.unit ![0, 512] ![512, 512] inb_S512x1024_S512x512_0_512)
theorem lo_row : rw2 (oLo m c t) r = rw2 (given m c).o (row t r) := by
  funext j
  refine Eq.trans ?_ ((in2 m c t r ⟨j.val, by omega⟩).trans (hO_lo _ _ _ _))
  refine View.ld_unit_apply_of _ _ _ _ _ _ fun a => ?_
  fin_cases a
  · exact (Nat.zero_add _).symm
  · exact (Nat.zero_add _).symm
theorem hi_row : rw2 (oHi m c t) r = rw2 (given m c).o' (row t r) := by
  funext j
  refine Eq.trans ?_ ((in2 m c t r ⟨512 + j.val, by omega⟩).trans (hO_hi _ _ _ _))
  refine View.ld_unit_apply_of _ _ _ _ _ _ fun a => ?_
  fin_cases a
  · exact (Nat.zero_add _).symm
  · rfl
theorem s_row : rw2 (both (oLo m c t) (oHi m c t)) r = (given m c).s (row t r) := by
  funext j
  show both (oLo m c t) (oHi m c t) (ix2 r j) = _
  rw [both_at, lo_row, hi_row]
  rfl
theorem at0_3 : ∀ t : Fin cfg0.N, win0_3.index t = ![t.val, 3] := by decide +kernel
theorem in3 : rw2 (X0_3 m c t : Vec Ideal S512x512 .f32) r = rw2 (given m c).g (row t r) := by
  funext j
  show (cfg0.win 3).fill (cfg0.grid.coords t) dflt0_3 (iblk m c 3 t) (ix2 r j) = _
  unfold Pipeline.Window.fill
  rw [dif_pos (moved0_3 t _)]
  refine (congrArg (V m c main_v5) (?_ : _ = ix2 (row t r) ⟨1536 + j.val, by omega⟩)).trans ((congrFun (entry_z m c) _).trans (hZ_g _ _ _ _))
  unfold row
  blk_ext! [at0_3]
theorem at0_4 : ∀ t : Fin cfg0.N, win0_4.index t = ![t.val, 4] := by decide +kernel
theorem in4 : rw2 (X0_4 m c t : Vec Ideal S512x512 .f32) r = rw2 (given m c).q (row t r) := by
  funext j
  show (cfg0.win 4).fill (cfg0.grid.coords t) dflt0_4 (iblk m c 4 t) (ix2 r j) = _
  unfold Pipeline.Window.fill
  rw [dif_pos (moved0_4 t _)]
  refine (congrArg (V m c main_v5) (?_ : _ = ix2 (row t r) ⟨2048 + j.val, by omega⟩)).trans ((congrFun (entry_z m c) _).trans (hZ_q _ _ _ _))
  unfold row
  blk_ext! [at0_4]
theorem at0_5 : ∀ t : Fin cfg0.N, win0_5.index t = ![t.val, 0] := by decide +kernel
theorem in5 : rw2 (iblk m c 5 t : Vec Ideal S512x512 .bf16) r = rw2 (given m c).a (row t r) := by
  funext l
  refine (congrArg (V m c main_v1) (?_ : _ = ix2 (row t r) l)).trans (congrFun (entry_a m c) _)
  unfold row
  blk_ext! [at0_5]
theorem at0_6 : ∀ t : Fin cfg0.N, win0_6.index t = ![0, 0] := by decide +kernel
theorem in6 : rw2 (iblk m c 6 t : Vec Ideal S1x1024 .f32) 0 = rw2 (given m c).p 0 := by
  funext l
  refine (congrArg (V m c main_arg6) (?_ : _ = ix2 0 l)).trans (congrFun (V_main_arg6 m c) _)
  blk_ext! [at0_6]
theorem at0_7 : ∀ t : Fin cfg0.N, win0_7.index t = ![0, 0] := by decide +kernel
theorem in7 : rw2 (iblk m c 7 t : Vec Ideal S1x3072 .f32) 0 = rw2 (given m c).mo 0 := by
  funext l
  refine (congrArg (V m c main_arg7) (?_ : _ = ix2 0 l)).trans (congrFun (V_main_arg7 m c) _)
  blk_ext! [at0_7]
theorem at0_8 : ∀ t : Fin cfg0.N, win0_8.index t = ![0, 0] := by decide +kernel
theorem in8 : rw2 (iblk m c 8 t : Vec Ideal S1x3072 .f32) 0 = rw2 (given m c).ab 0 := by
  funext l
  refine (congrArg (V m c main_arg8) (?_ : _ = ix2 0 l)).trans (congrFun (V_main_arg8 m c) _)
  blk_ext! [at0_8]
theorem at0_9 : ∀ t : Fin cfg0.N, win0_9.index t = ![0, 0] := by decide +kernel
theorem in9 : rw2 (iblk m c 9 t : Vec Ideal S1024x1024 .bf16) = rw2 (given m c).w := by
  funext n l
  refine (congrArg (V m c main_v2) (?_ : _ = ix2 n l)).trans (congrFun (entry_w m c) _)
  blk_ext! [at0_9]
theorem at0_10 : ∀ t : Fin cfg0.N, win0_10.index t = ![t.val, 0] := by decide +kernel
theorem emb10 (l : Fin 1024) : (win0_10.blk t).view.emb (ix2 r l) = ix2 (row t r) l := by
  unfold row
  blk_ext! [at0_10]
theorem at0_11 : ∀ t : Fin cfg0.N, win0_11.index t = ![t.val, 0] := by decide +kernel
theorem emb11 (l : Fin 512) : (win0_11.blk t).view.emb (ix2 r l) = ix2 (row t r) l := by
  unfold row
  blk_ext! [at0_11]
theorem at0_12 : ∀ t : Fin cfg0.N, win0_12.index t = ![t.val, 0] := by decide +kernel
theorem emb12 (l : Fin 512) : (win0_12.blk t).view.emb (ix2 r l) = ix2 (row t r) l := by
  unfold row
  blk_ext! [at0_12]
theorem at0_13 : ∀ t : Fin cfg0.N, win0_13.index t = ![t.val, 0] := by decide +kernel
theorem emb13 (l : Fin 512) : (win0_13.blk t).view.emb (ix2 r l) = ix2 (row t r) l := by
  unfold row
  blk_ext! [at0_13]
theorem at0_14 : ∀ t : Fin cfg0.N, win0_14.index t = ![t.val, 0] := by decide +kernel
theorem emb14 (l : Fin 512) : (win0_14.blk t).view.emb (ix2 r l) = ix2 (row t r) l := by
  unfold row
  blk_ext! [at0_14]
/-- The gradient of the mixed rows of a block. -/
abbrev pY : FVec Ideal S512x1024 .f32 := dMixB (iblk m c 0 t) (iblk m c 1 t) (iblk m c 6 t) (iblk m c 7 t) (iblk m c 8 t) (iblk m c 9 t)
theorem dy_row (l : Fin 1024) : dRows (iblk m c 0 t) (iblk m c 1 t) (iblk m c 6 t) (iblk m c 7 t) (iblk m c 8 t) (ix2 r l) = (given m c).dy (row t r) l := by
  rw [dRow_at, in0, in1, in6, in7, in8]
  rfl
theorem dm_row : rw2 (pY m c t) r = (given m c).dm (row t r) := by
  funext l
  show pY m c t (ix2 r l) = _
  rw [pY, dMix_at, in0, in1, in6, in7, in8, in9]
  rfl
theorem o_row (j : Fin 512) : dHeads (oLo m c t) (oHi m c t) (X0_3 m c t) (pY m c t) (ix2 r j) = (given m c).gO (row t r) j := by
  rw [dHeads_at, s_row, in3, dm_row]
  rfl
theorem gain_row (l : Fin 1024) : k0_pay12 (F := Ideal) (iblk m c 7 t) (iblk m c 8 t) (iblk m c 0 t) (iblk m c 1 t) (ix2 0 l) = ∑ r : Fin 512, (given m c).aP (row t r) l := by
  rw [sumGain]
  refine Finset.sum_congr rfl fun r _ => ?_
  rw [in0, in1, in7, in8]
  rfl
theorem gate_row (l : Fin 1024) : k0_pay11 (F := Ideal) (iblk m c 6 t) (iblk m c 0 t) (iblk m c 1 t) (ix2 0 l) = ∑ r : Fin 512, (given m c).aM (row t r) l := by
  rw [sumGate]
  refine Finset.sum_congr rfl fun r _ => ?_
  rw [in0, in1, in6]
  rfl
theorem add_gain (s a : FVec Ideal S1x1024 .f32) (l : Fin 1024) : k0_pay4 (F := Ideal) s a (ix2 0 l) = a (ix2 0 l) + s (ix2 0 l) := by
  unfold k0_pay4
  pointwise
theorem add_gate (s a : FVec Ideal S1x1024 .f32) (l : Fin 1024) : k0_pay5 (F := Ideal) s a (ix2 0 l) = a (ix2 0 l) + s (ix2 0 l) := by
  unfold k0_pay5
  pointwise
end Blocks

section Left
variable (t : Fin cfg0.N)
theorem left10 (y) : (outsAt0 m c t.val t.isLt).1 y = dRows (iblk m c 0 t) (iblk m c 1 t) (iblk m c 6 t) (iblk m c 7 t) (iblk m c 8 t) y := by
  by_cases h0 : t.val % 16 = 0
  · rw [outsAt0_A m c t h0]
    dsimp only
    frame_out
  · rw [outsAt0_B m c t h0]
    dsimp only
    frame_out
theorem left11 (y) : (outsAt0 m c t.val t.isLt).2.1 y = dHeads (oLo m c t) (oHi m c t) (X0_3 m c t) (pY m c t) y := by
  by_cases h0 : t.val % 16 = 0
  · rw [outsAt0_A m c t h0]
    dsimp only
    frame_out
    rfl
  · rw [outsAt0_B m c t h0]
    dsimp only
    frame_out
    rfl
theorem left12 (y) : (outsAt0 m c t.val t.isLt).2.2.1 y = k0_pay72 (F := Ideal) (k0_pay20 (F := Ideal) (X0_3 m c t)) (nors (oLo m c t) (oHi m c t)) (k0_pay61 (k0_pay20 (F := Ideal) (X0_3 m c t))) (k0_pay62 (k0_pay20 (F := Ideal) (X0_3 m c t))) (k0_pay66 (pY m c t)) y := by
  by_cases h0 : t.val % 16 = 0
  · rw [outsAt0_A m c t h0]
    dsimp only
    frame_out
    rfl
  · rw [outsAt0_B m c t h0]
    dsimp only
    frame_out
    rfl
theorem left13 (y) : (outsAt0 m c t.val t.isLt).2.2.2.1 y = k0_pay69 (F := Ideal) (pY m c t) (k0_pay22 (F := Ideal) (X0_4 m c t)) y := by
  by_cases h0 : t.val % 16 = 0
  · rw [outsAt0_A m c t h0]
    dsimp only
    frame_out
  · rw [outsAt0_B m c t h0]
    dsimp only
    frame_out
theorem left14 (y) : (outsAt0 m c t.val t.isLt).2.2.2.2.1 y = k0_pay70 (F := Ideal) (k0_pay22 (F := Ideal) (X0_4 m c t)) (k0_pay64 (k0_pay22 (F := Ideal) (X0_4 m c t))) (k0_pay65 (k0_pay22 (F := Ideal) (X0_4 m c t))) (k0_pay68 (pY m c t) (k0_pay21 (iblk m c 5 t))) y := by
  by_cases h0 : t.val % 16 = 0
  · rw [outsAt0_A m c t h0]
    dsimp only
    frame_out
  · rw [outsAt0_B m c t h0]
    dsimp only
    frame_out
theorem first15 (h0 : t.val % 16 = 0) (l : Fin 1024) : (outsAt0 m c t.val t.isLt).2.2.2.2.2.1 (ix2 0 l) = (fun _ : Fin 1024 => (0 : EReal)) l + ∑ r : Fin 512, (given m c).aP (row t r) l := by
  have e : (outsAt0 m c t.val t.isLt).2.2.2.2.2.1 (ix2 0 l) = k0_pay4 (F := Ideal) (k0_pay12 (F := Ideal) (iblk m c 7 t) (iblk m c 8 t) (iblk m c 0 t) (iblk m c 1 t)) (k0_pay2 (F := Ideal)) (ix2 0 l) := by
    rw [outsAt0_A m c t h0]
    dsimp only
    frame_out
  rw [e, add_gain, gain_row]
  exact congrArg (· + _) Ideal.ofBits_zero_f32
theorem next15 (h0 : ¬t.val % 16 = 0) (l : Fin 1024) : (outsAt0 m c t.val t.isLt).2.2.2.2.2.1 (ix2 0 l) = (outsAt0 m c (t.val - 1) (Nat.lt_of_le_of_lt (Nat.sub_le _ _) t.isLt)).2.2.2.2.2.1 (ix2 0 l) + ∑ r : Fin 512, (given m c).aP (row t r) l := by
  have e : (outsAt0 m c t.val t.isLt).2.2.2.2.2.1 (ix2 0 l) = k0_pay4 (F := Ideal) (k0_pay12 (F := Ideal) (iblk m c 7 t) (iblk m c 8 t) (iblk m c 0 t) (iblk m c 1 t)) (outsAt0 m c (t.val - 1) (Nat.lt_of_le_of_lt (Nat.sub_le _ _) t.isLt)).2.2.2.2.2.1 (ix2 0 l) := by
    rw [outsAt0_B m c t h0]
    dsimp only
    frame_out
  rw [e, add_gain, gain_row]
theorem first16 (h0 : t.val % 16 = 0) (l : Fin 1024) : (outsAt0 m c t.val t.isLt).2.2.2.2.2.2 (ix2 0 l) = (fun _ : Fin 1024 => (0 : EReal)) l + ∑ r : Fin 512, (given m c).aM (row t r) l := by
  have e : (outsAt0 m c t.val t.isLt).2.2.2.2.2.2 (ix2 0 l) = k0_pay5 (F := Ideal) (k0_pay11 (F := Ideal) (iblk m c 6 t) (iblk m c 0 t) (iblk m c 1 t)) (k0_pay3 (F := Ideal)) (ix2 0 l) := by
    rw [outsAt0_A m c t h0]
    dsimp only
    frame_out
  rw [e, add_gate, gate_row]
  exact congrArg (· + _) Ideal.ofBits_zero_f32
theorem next16 (h0 : ¬t.val % 16 = 0) (l : Fin 1024) : (outsAt0 m c t.val t.isLt).2.2.2.2.2.2 (ix2 0 l) = (outsAt0 m c (t.val - 1) (Nat.lt_of_le_of_lt (Nat.sub_le _ _) t.isLt)).2.2.2.2.2.2 (ix2 0 l) + ∑ r : Fin 512, (given m c).aM (row t r) l := by
  have e : (outsAt0 m c t.val t.isLt).2.2.2.2.2.2 (ix2 0 l) = k0_pay5 (F := Ideal) (k0_pay11 (F := Ideal) (iblk m c 6 t) (iblk m c 0 t) (iblk m c 1 t)) (outsAt0 m c (t.val - 1) (Nat.lt_of_le_of_lt (Nat.sub_le _ _) t.isLt)).2.2.2.2.2.2 (ix2 0 l) := by
    rw [outsAt0_B m c t h0]
    dsimp only
    frame_out
  rw [e, add_gate, gate_row]
end Left

/-- The last point. -/
abbrev tLast : Fin cfg0.N := ⟨15, by decide⟩
theorem total_points (f : Fin 8192 → Fin 1024 → EReal) (l : Fin 1024) : (∑ t : Fin cfg0.N, ∑ r : Fin 512, f (row t r) l) = total f (ix2 0 l) :=
  (Cert.MidGrad.sum_groups (A := cfg0.N) (B := 512) (show 16 * 512 = 8192 from rfl) (fun i => f i l) (fun t r => row t r) (fun _ _ => rfl)).symm
/-- Row sums that start at the first point and grow at each further one end at the sum over all rows. -/
theorem acc_last (a : (n : ℕ) → n < cfg0.N → Vec Ideal S1x1024 .f32) (f : Fin 8192 → Fin 1024 → EReal)
    (h0 : ∀ t : Fin cfg0.N, t.val % 16 = 0 → ∀ l : Fin 1024, a t.val t.isLt (ix2 0 l) = (fun _ : Fin 1024 => (0 : EReal)) l + ∑ r : Fin 512, f (row t r) l)
    (hs : ∀ t : Fin cfg0.N, ¬t.val % 16 = 0 → ∀ l : Fin 1024, a t.val t.isLt (ix2 0 l) = a (t.val - 1) (Nat.lt_of_le_of_lt (Nat.sub_le _ _) t.isLt) (ix2 0 l) + ∑ r : Fin 512, f (row t r) l)
    (j : S1x1024.Idx) : a tLast.val tLast.isLt j = total f j := by
  obtain ⟨l, rfl⟩ := one_row j
  rw [Pipeline.eq_sum_fin_of_reset_step_apply_last (fun n h (l : Fin 1024) => a n h (ix2 0 l)) 16 (fun _ => 0) (fun t l => ∑ r : Fin 512, f (row t r) l) h0 hs (le_of_eq N_0) tLast rfl l,
    zero_add, total_points]

section Results
theorem whole10 (G : Vec Ideal S8192x1024 .bf16) (hG : ∀ (t : Fin cfg0.N) (r : Fin 512) (l : Fin 1024), (outsAt0 m c t.val t.isLt).1 (ix2 r l) = G ((win0_10.blk t).view.emb (ix2 r l))) : (dats m 0 c).arrAt 10 cfg0.N = G := by
  refine (dats m 0 c).arrAt_eq_of_covers 10 _ (by decide +kernel) fun t hf y => ?_
  obtain ⟨r, l, rfl⟩ : ∃ (r : Fin 512) (l : Fin 1024), y = ix2 r l := ⟨y 0, y 1, eq_ix2 y⟩
  exact (congrFun (after0_10 m c t) (ix2 r l)).trans (hG t r l)
theorem arr10 : (dats m 0 c).arrAt 10 cfg0.N = rows1 (given m c).dy :=
  whole10 m c _ fun t r l => by
    rw [left10, emb10]
    exact dy_row m c t r l
theorem whole11 (G : Vec Ideal S8192x512 .bf16) (hG : ∀ (t : Fin cfg0.N) (r : Fin 512) (l : Fin 512), (outsAt0 m c t.val t.isLt).2.1 (ix2 r l) = G ((win0_11.blk t).view.emb (ix2 r l))) : (dats m 0 c).arrAt 11 cfg0.N = G := by
  refine (dats m 0 c).arrAt_eq_of_covers 11 _ (by decide +kernel) fun t hf y => ?_
  obtain ⟨r, l, rfl⟩ : ∃ (r : Fin 512) (l : Fin 512), y = ix2 r l := ⟨y 0, y 1, eq_ix2 y⟩
  exact (congrFun (after0_11 m c t) (ix2 r l)).trans (hG t r l)
theorem arr11 : (dats m 0 c).arrAt 11 cfg0.N = rowsH (given m c).gO :=
  whole11 m c _ fun t r l => by
    rw [left11, emb11]
    exact o_row m c t r l
theorem whole12 (G : Vec Ideal S8192x512 .f32) (hG : ∀ (t : Fin cfg0.N) (r : Fin 512) (l : Fin 512), (outsAt0 m c t.val t.isLt).2.2.1 (ix2 r l) = G ((win0_12.blk t).view.emb (ix2 r l))) : (dats m 0 c).arrAt 12 cfg0.N = G := by
  refine (dats m 0 c).arrAt_eq_of_covers 12 _ (by decide +kernel) fun t hf y => ?_
  obtain ⟨r, l, rfl⟩ : ∃ (r : Fin 512) (l : Fin 512), y = ix2 r l := ⟨y 0, y 1, eq_ix2 y⟩
  exact (congrFun (after0_12 m c t) (ix2 r l)).trans (hG t r l)
theorem arr12 : (dats m 0 c).arrAt 12 cfg0.N = rowsH (given m c).gG :=
  whole12 m c _ fun t r l => by
    rw [left12, emb12]
    rw [gateO_at, s_row, in3, dm_row]
    rfl
theorem whole13 (G : Vec Ideal S8192x512 .bf16) (hG : ∀ (t : Fin cfg0.N) (r : Fin 512) (l : Fin 512), (outsAt0 m c t.val t.isLt).2.2.2.1 (ix2 r l) = G ((win0_13.blk t).view.emb (ix2 r l))) : (dats m 0 c).arrAt 13 cfg0.N = G := by
  refine (dats m 0 c).arrAt_eq_of_covers 13 _ (by decide +kernel) fun t hf y => ?_
  obtain ⟨r, l, rfl⟩ : ∃ (r : Fin 512) (l : Fin 512), y = ix2 r l := ⟨y 0, y 1, eq_ix2 y⟩
  exact (congrFun (after0_13 m c t) (ix2 r l)).trans (hG t r l)
theorem arr13 : (dats m 0 c).arrAt 13 cfg0.N = rowsH (given m c).gA :=
  whole13 m c _ fun t r l => by
    rw [left13, emb13]
    rw [att_at, in4, dm_row]
    rfl
theorem whole14 (G : Vec Ideal S8192x512 .f32) (hG : ∀ (t : Fin cfg0.N) (r : Fin 512) (l : Fin 512), (outsAt0 m c t.val t.isLt).2.2.2.2.1 (ix2 r l) = G ((win0_14.blk t).view.emb (ix2 r l))) : (dats m 0 c).arrAt 14 cfg0.N = G := by
  refine (dats m 0 c).arrAt_eq_of_covers 14 _ (by decide +kernel) fun t hf y => ?_
  obtain ⟨r, l, rfl⟩ : ∃ (r : Fin 512) (l : Fin 512), y = ix2 r l := ⟨y 0, y 1, eq_ix2 y⟩
  exact (congrFun (after0_14 m c t) (ix2 r l)).trans (hG t r l)
theorem arr14 : (dats m 0 c).arrAt 14 cfg0.N = rowsH (given m c).gQ :=
  whole14 m c _ fun t r l => by
    rw [left14, emb14]
    rw [gateA_at, in4, in5, dm_row]
    rfl
theorem arr15 : (dats m 0 c).arrAt 15 cfg0.N = total (given m c).aP :=
  (dats m 0 c).arrAt_eq_of_after_last 15 tLast (by decide +kernel) _ fun j =>
    (congrFun (after0_15 m c tLast) j).trans (acc_last (fun n h => (outsAt0 m c n h).2.2.2.2.2.1) _ (first15 m c) (next15 m c) j)
theorem arr16 : (dats m 0 c).arrAt 16 cfg0.N = total (given m c).aM :=
  (dats m 0 c).arrAt_eq_of_after_last 16 tLast (by decide +kernel) _ fun j =>
    (congrFun (after0_16 m c tLast) j).trans (acc_last (fun n h => (outsAt0 m c n h).2.2.2.2.2.2) _ (first16 m c) (next16 m c) j)
/-- The buffers as the call leaves them. -/
def left : Valuation τ sig (Elt Ideal) := Pipeline.withArrays (cfgs 0).spec c (V0 m c) fun w => (dats m 0 c).arrAt w (cfgs 0).N
theorem shared : Pipeline.SharedIn (cfgs 0).spec := by decide
theorem cast35 (V : Valuation τ sig (Elt Ideal)) : (StableHlo.after (hostOps1 (F := Ideal)) V (Proc.devRef .tc main_v35) : Vec Ideal S8192x1024 .f32) = (V (Proc.devRef .tc main_v34_0) : Vec Ideal S8192x1024 .bf16) := by
  simp only [hostOps1]
  after_results_simp <;> rfl
theorem res35 : StableHlo.after (hostOps1 (F := Ideal)) (left m c) (Proc.devRef .tc main_v35) = rows1 (given m c).dy :=
  (cast35 (left m c)).trans (((dats m 0 c).withArrays_arrAt shared (V0 m c) (A_eq m c) 10).trans (arr10 m c))
theorem cast36 (V : Valuation τ sig (Elt Ideal)) : (StableHlo.after (hostOps1 (F := Ideal)) V (Proc.devRef .tc main_v36) : Vec Ideal S8192x512 .f32) = (V (Proc.devRef .tc main_v34_1) : Vec Ideal S8192x512 .bf16) := by
  simp only [hostOps1]
  after_results_simp <;> rfl
theorem res36 : StableHlo.after (hostOps1 (F := Ideal)) (left m c) (Proc.devRef .tc main_v36) = rowsH (given m c).gO :=
  (cast36 (left m c)).trans (((dats m 0 c).withArrays_arrAt shared (V0 m c) (A_eq m c) 11).trans (arr11 m c))
theorem cast37 (V : Valuation τ sig (Elt Ideal)) : (StableHlo.after (hostOps1 (F := Ideal)) V (Proc.devRef .tc main_v37) : Vec Ideal S8192x512 .f32) = (V (Proc.devRef .tc main_v34_3) : Vec Ideal S8192x512 .bf16) := by
  simp only [hostOps1]
  after_results_simp <;> rfl
theorem res37 : StableHlo.after (hostOps1 (F := Ideal)) (left m c) (Proc.devRef .tc main_v37) = rowsH (given m c).gA :=
  (cast37 (left m c)).trans (((dats m 0 c).withArrays_arrAt shared (V0 m c) (A_eq m c) 13).trans (arr13 m c))
end Results

/-- Every execution of the kernel ends with the gradients of the product, of the scans, of the recurrence's gate, of the attention, of its gate, of the gain and of the gate in its results. -/
theorem run (ρ : Dev nD → PrngReg) :
    θ_run defs (onTc (τ := τ) (main (F := Ideal))) ⟨m, fun _ => 0, ρ⟩ fun r => ∀ c : Dev nD,
      (r.2.mem ((c.tc : Thread nD τ).loc main_v35) = rows1 (given m c).dy
      ∧ r.2.mem ((c.tc : Thread nD τ).loc main_v36) = rowsH (given m c).gO
      ∧ r.2.mem ((c.tc : Thread nD τ).loc main_v34_2) = rowsH (given m c).gG
      ∧ r.2.mem ((c.tc : Thread nD τ).loc main_v37) = rowsH (given m c).gA
      ∧ r.2.mem ((c.tc : Thread nD τ).loc main_v34_4) = rowsH (given m c).gQ
      ∧ r.2.mem ((c.tc : Thread nD τ).loc main_v34_5) = total (given m c).aP
      ∧ r.2.mem ((c.tc : Thread nD τ).loc main_v34_6) = total (given m c).aM) :=
  (θ_run defs _ _).mono (fun r h c => ⟨
      ((h c).2 main_v35 (Pipeline.mem_restRefs_of main_v35 (by decide) (by decide))).trans (res35 m c),
      ((h c).2 main_v36 (Pipeline.mem_restRefs_of main_v36 (by decide) (by decide))).trans (res36 m c),
      ((h c).1 12).trans (arr12 m c),
      ((h c).2 main_v37 (Pipeline.mem_restRefs_of main_v37 (by decide) (by decide))).trans (res37 m c),
      ((h c).1 14).trans (arr14 m c),
      ((h c).1 15).trans (arr15 m c),
      ((h c).1 16).trans (arr16 m c)⟩)
    (run_main m ρ)
end Cert.EvOutIdeal.Val
-- ==== Proof.EvOutRef.lean ====
module
public import proofs.«01_k».proof.Defs
public import proofs.«01_k».proof.Proof.EvOutCall
public import proofs.«01_k».proof.Proof.Gen.EvOutRefIdeal.Run
public import proofs.«01_k».proof.Proof.Gen.EvOutRefIdeal.Read
@[expose] public section
set_option maxRecDepth 16384
noncomputable section
namespace Cert.EvOutRefIdeal.Val
open Cert.EvOutRefIdeal Cert.EvOutRefIdeal.Gen Cert.EvOutRefIdeal.Read Idealize.ShloMosaic Idealize.ShloMosaic.TcCoe Idealize.SL.Sem Cert.Norm
open Cert.Head (hd headOf laneOf lane mean dev ms rinv nor nor4 direct curv square shared dNor dO dGateO dGateA dAtt lo hi lane_of headOf_lane laneOf_lane)
open Cert.Exit (swish swishB thruW backW cot cop dRow)
open Cert.OdInIdeal.Val (rows1 total one_row)
open Cert.EvOutIdeal.Val (Arrays rowsH hMean_at hDev_at hMs_at hNor_at hY_at)

variable (A : Arrays) (i : Fin 8192) (l : Fin 1024) (j : Fin 512) (k : Fin 4) (e : Fin 128)

section Heads
/-- The mean of a head, the deviations from it, their mean square, the reciprocal of its root, and the normed head. -/
theorem v5_at : (val_main_v5 (F := Ideal) A.o A.o') (ix3 i k 0) = mean (hd k (A.s i)) := hMean_at A.o A.o' i k
theorem v7_at : (val_main_v7 (F := Ideal) A.o A.o') (ix3 i k e) = dev (hd k (A.s i)) e := hDev_at A.o A.o' i k e
theorem v16_at : (val_main_v16 (F := Ideal) A.o A.o') (ix3 i k e) = dev (hd k (A.s i)) e := v7_at A i k e
theorem v18_at : (val_main_v18 (F := Ideal) A.o A.o') (ix3 i k 0) = ms (hd k (A.s i)) := hMs_at A.o A.o' i k
theorem v19_at : (val_main_v19 (F := Ideal) A.o A.o') (ix3 i k 0) = rinv (hd k (A.s i)) := by
  unfold Head.rinv
  rw [← v18_at]
  unfold val_main_v19
  generalize val_main_v18 (F := Ideal) A.o A.o' = B
  pointwise
theorem v24_at : (val_main_v24 (F := Ideal) A.o A.o') (ix3 i k e) = nor (hd k (A.s i)) e := hNor_at A.o A.o' i k e
theorem v25_at : (val_main_v25 (F := Ideal) A.o A.o') (ix2 i j) = nor4 (A.s i) j := by
  rw [val_main_v25_apply, show idx_main_v25 (ix2 i j) = ix3 i (headOf j) (laneOf j) by unfold headOf laneOf; idx_ext, v24_at]
  rfl
end Heads

section Swish
/-- The logistic, its derivative and the swish of the gate of the scans. -/
theorem v26_2_at : (val_main_v26_2 (F := Ideal) A.g) (ix2 i j) = Ideal.logistic (rw2 A.g i j) := by
  unfold Ideal.logistic rw2
  rw [← Ideal.ofBits_one_f32]
  unfold val_main_v26_2 val_main_call0_v4 val_main_call0_v3 val_main_call0_v2 val_main_call0_v1 val_main_call0_v0 val_main_call0_cst val_main_call0_cst_0
  pointwise
theorem v26_1_at : (val_main_v26_1 (F := Ideal) A.g) (ix2 i j) = Ideal.logistic (rw2 A.g i j) * (Ideal.ofBits .f32 0x3F800000#32 - Ideal.logistic (rw2 A.g i j)) := by
  rw [← v26_2_at]
  unfold val_main_v26_1 val_main_call0_v7 val_main_call0_v6 val_main_call0_cst_1
  generalize val_main_v26_2 (F := Ideal) A.g = B
  pointwise
theorem v26_0_at : (val_main_v26_0 (F := Ideal) A.g) (ix2 i j) = swish (rw2 A.g i j) := by
  unfold swish
  rw [← v26_2_at]
  unfold rw2
  unfold val_main_v26_0
  generalize val_main_v26_2 (F := Ideal) A.g = B
  pointwise
/-- The logistic, its derivative and the swish of the gate of the attention. -/
theorem v28_2_at : (val_main_v28_2 (F := Ideal) A.q) (ix2 i j) = Ideal.logistic (rw2 A.q i j) := by
  unfold Ideal.logistic rw2
  rw [← Ideal.ofBits_one_f32]
  unfold val_main_v28_2 val_main_call1_v4 val_main_call1_v3 val_main_call1_v2 val_main_call1_v1 val_main_call1_v0 val_main_call1_cst val_main_call1_cst_0
  pointwise
theorem v28_1_at : (val_main_v28_1 (F := Ideal) A.q) (ix2 i j) = Ideal.logistic (rw2 A.q i j) * (Ideal.ofBits .f32 0x3F800000#32 - Ideal.logistic (rw2 A.q i j)) := by
  rw [← v28_2_at]
  unfold val_main_v28_1 val_main_call1_v7 val_main_call1_v6 val_main_call1_cst_1
  generalize val_main_v28_2 (F := Ideal) A.q = B
  pointwise
theorem v28_0_at : (val_main_v28_0 (F := Ideal) A.q) (ix2 i j) = swish (rw2 A.q i j) := by
  unfold swish
  rw [← v28_2_at]
  unfold rw2
  unfold val_main_v28_0
  generalize val_main_v28_2 (F := Ideal) A.q = B
  pointwise
end Swish

section Gated
/-- The product of the mixed row with the output weights. -/
theorem v31_at : (val_main_v31 (F := Ideal) A.o A.o' A.g A.a A.q A.w) (ix2 i l) = (A.y i) l := hY_at A.o A.o' A.g A.a A.q A.w i l
theorem v35_at : (val_main_v35 (F := Ideal) A.o A.o' A.g A.a A.q A.w) (ix1 i) = ∑ l, (A.y i) l * (A.y i) l := by
  rw [val_main_v35_apply, val_main_cst_6_apply]
  refine (congrArg (· + _) Ideal.ofBits_zero_f32).trans ((zero_add _).trans (Finset.sum_congr rfl fun l _ => ?_))
  rw [show idx_main_v35 (ix1 i) l = ix2 i l by idx_ext, val_main_v34_apply, v31_at]
  rfl
theorem v40_at : (val_main_v40 (F := Ideal) A.o A.o' A.g A.a A.q A.w) (ix2 i 0) = Norm.ms (A.y i) := by
  unfold Norm.ms
  rw [← v35_at]
  unfold val_main_v40 val_main_v39 val_main_v38 val_main_v37 val_main_v36 val_main_cst_7 val_main_cst_8
  generalize val_main_v35 (F := Ideal) A.o A.o' A.g A.a A.q A.w = B
  pointwise
theorem v41_at : (val_main_v41 (F := Ideal) A.o A.o' A.g A.a A.q A.w) (ix2 i 0) = Norm.rinv (A.y i) := by
  unfold Norm.rinv
  rw [← v40_at]
  unfold val_main_v41
  generalize val_main_v40 (F := Ideal) A.o A.o' A.g A.a A.q A.w = B
  pointwise
theorem v44_at : (val_main_v44 (F := Ideal) A.o A.o' A.g A.a A.q A.w) (ix2 i 0) = Ideal.ofBits .f32 0xBF000000#32 * Ideal.div (Norm.rinv (A.y i)) (Norm.ms (A.y i)) := by
  rw [← v40_at, ← v41_at]
  unfold val_main_v44 val_main_v43 val_main_v42 val_main_cst_9
  generalize val_main_v40 (F := Ideal) A.o A.o' A.g A.a A.q A.w = B
  generalize val_main_v41 (F := Ideal) A.o A.o' A.g A.a A.q A.w = C
  pointwise
theorem v46_at : (val_main_v46 (F := Ideal) A.o A.o' A.g A.a A.q A.w) (ix2 i l) = hat (A.y i) l := by
  unfold hat
  rw [← v31_at, ← v41_at]
  unfold val_main_v46 val_main_v45
  generalize val_main_v31 (F := Ideal) A.o A.o' A.g A.a A.q A.w = B
  generalize val_main_v41 (F := Ideal) A.o A.o' A.g A.a A.q A.w = C
  pointwise
theorem v48_at : (val_main_v48 (F := Ideal) A.o A.o' A.g A.a A.q A.w A.p) (ix2 i l) = hat (A.y i) l * (rw2 A.p 0) l := by
  rw [← v46_at]
  unfold val_main_v48 val_main_v47
  generalize val_main_v46 (F := Ideal) A.o A.o' A.g A.a A.q A.w = B
  unfold rw2
  pointwise
theorem v52_at : (val_main_v52 (F := Ideal) A.mo A.ab A.d) (ix2 i l) = cot A.gate (rw2 A.d i) l := by
  unfold cot Arrays.gate part rw2 third
  unfold val_main_v52 val_main_v51 val_main_v33 val_main_v32
  pointwise
theorem v60_at : (val_main_v60 (F := Ideal) A.p A.mo A.ab A.d) (ix2 i l) = cop (rw2 A.p 0) A.gate (rw2 A.d i) l := by
  unfold cop
  rw [← v52_at]
  unfold val_main_v60 val_main_v59
  generalize val_main_v52 (F := Ideal) A.mo A.ab A.d = B
  unfold rw2
  pointwise
/-- The gradient of the gate. -/
theorem v55_eq : val_main_v55 (F := Ideal) A.o A.o' A.g A.a A.q A.w A.p A.d = total A.aM := by
  funext y
  obtain ⟨l, rfl⟩ := one_row y
  rw [val_main_v55_apply, val_main_v54_apply, val_main_cst_10_apply]
  refine (congrArg (· + _) Ideal.ofBits_zero_f32).trans ((zero_add _).trans (Finset.sum_congr rfl fun i _ => ?_))
  rw [show idx_main_v54 (idx_main_v55 (ix2 0 l)) i = ix2 i l by idx_ext, val_main_v53_apply, v48_at]
  rfl
/-- The gradient of the gated norm's gain. -/
theorem v58_eq : val_main_v58 (F := Ideal) A.o A.o' A.g A.a A.q A.w A.mo A.ab A.d = total A.aP := by
  funext y
  obtain ⟨l, rfl⟩ := one_row y
  rw [val_main_v58_apply, val_main_v57_apply, val_main_cst_11_apply]
  refine (congrArg (· + _) Ideal.ofBits_zero_f32).trans ((zero_add _).trans (Finset.sum_congr rfl fun i _ => ?_))
  rw [show idx_main_v57 (idx_main_v58 (ix2 0 l)) i = ix2 i l by idx_ext, val_main_v56_apply, v46_at, v52_at]
  rfl
theorem v62_at : (val_main_v62 (F := Ideal) A.o A.o' A.g A.a A.q A.w A.p A.mo A.ab A.d) (ix1 i) = ∑ l, (A.y i) l * cop (rw2 A.p 0) A.gate (rw2 A.d i) l := by
  rw [val_main_v62_apply, val_main_cst_12_apply]
  refine (congrArg (· + _) Ideal.ofBits_zero_f32).trans ((zero_add _).trans (Finset.sum_congr rfl fun l _ => ?_))
  rw [show idx_main_v62 (ix1 i) l = ix2 i l by idx_ext, val_main_v61_apply, v31_at, v60_at]
  rfl
theorem v68_at : (val_main_v68 (F := Ideal) A.o A.o' A.g A.a A.q A.w A.p A.mo A.ab A.d) (ix2 i 0) = Norm.curv (A.y i) (cop (rw2 A.p 0) A.gate (rw2 A.d i)) := by
  unfold Norm.curv
  rw [← v62_at, ← v44_at]
  unfold val_main_v68 val_main_v67 val_main_v66 val_main_v63 val_main_cst_13
  generalize val_main_v62 (F := Ideal) A.o A.o' A.g A.a A.q A.w A.p A.mo A.ab A.d = B
  generalize val_main_v44 (F := Ideal) A.o A.o' A.g A.a A.q A.w = C
  pointwise
theorem v69_at : (val_main_v69 (F := Ideal) A.o A.o' A.g A.a A.q A.w A.p A.mo A.ab A.d) (ix1 i) = Norm.curv (A.y i) (cop (rw2 A.p 0) A.gate (rw2 A.d i)) := by
  rw [val_main_v69_apply, val_main_cst_14_apply]
  refine (congrArg (· + _) Ideal.ofBits_zero_f32).trans ((zero_add _).trans ((Fin.sum_univ_one _).trans ?_))
  rw [show idx_main_v69 (ix1 i) 0 = ix2 i 0 by idx_ext, v68_at]
/-- The gradient of a row of the product. -/
theorem v74_at : (val_main_v74 (F := Ideal) A.o A.o' A.g A.a A.q A.w A.p A.mo A.ab A.d) (ix2 i l) = A.dy i l := by
  show _ = dRow (A.y i) (rw2 A.p 0) A.gate (rw2 A.d i) l
  unfold dRow
  rw [← v69_at, ← v41_at, ← v60_at, ← v31_at]
  unfold val_main_v74 val_main_v73 val_main_v72 val_main_v71 val_main_v70 val_main_v65 val_main_v64
  generalize val_main_v69 (F := Ideal) A.o A.o' A.g A.a A.q A.w A.p A.mo A.ab A.d = B
  generalize val_main_v41 (F := Ideal) A.o A.o' A.g A.a A.q A.w = C
  generalize val_main_v60 (F := Ideal) A.p A.mo A.ab A.d = D
  generalize val_main_v31 (F := Ideal) A.o A.o' A.g A.a A.q A.w = E
  pointwise
/-- The gradient of a mixed row. -/
theorem v75_at : (val_main_v75 (F := Ideal) A.o A.o' A.g A.a A.q A.w A.p A.mo A.ab A.d) (ix2 i l) = A.dm i l := by
  rw [val_main_v75_apply]
  show _ = backW (A.dy i) (rw2 A.w) l
  unfold backW
  refine Finset.sum_congr rfl fun j _ => ?_
  rw [show lidx_main_v75 (ix2 i l) j = ix2 i j by idx_ext, show ridx_main_v75 (ix2 i l) j = ix2 l j by idx_ext, v74_at]
  rfl
theorem v76_at : (val_main_v76 (F := Ideal) A.o A.o' A.g A.a A.q A.w A.p A.mo A.ab A.d) (ix2 i j) = lo (A.dm i) j := by
  rw [val_main_v76_apply, show idx_main_v76 (ix2 i j) = ix2 i ⟨j.val, by omega⟩ by idx_ext, v75_at]
  rfl
theorem v77_at : (val_main_v77 (F := Ideal) A.o A.o' A.g A.a A.q A.w A.p A.mo A.ab A.d) (ix2 i j) = hi (A.dm i) j := by
  rw [val_main_v77_apply, show idx_main_v77 (ix2 i j) = ix2 i ⟨512 + j.val, by omega⟩ by idx_ext, v75_at]
  rfl
end Gated

section Back
/-- The gradient of the attention. -/
theorem v79_at : (val_main_v79 (F := Ideal) A.o A.o' A.g A.a A.q A.w A.p A.mo A.ab A.d) (ix2 i j) = A.gA i j := by
  show _ = hi (A.dm i) j * swish (rw2 A.q i j)
  rw [← v77_at, ← v28_0_at]
  unfold val_main_v79
  generalize val_main_v77 (F := Ideal) A.o A.o' A.g A.a A.q A.w A.p A.mo A.ab A.d = B
  generalize val_main_v28_0 (F := Ideal) A.q = C
  pointwise
/-- The gradient of the attention's gate. -/
theorem v80_at : (val_main_v80 (F := Ideal) A.o A.o' A.g A.a A.q A.w A.p A.mo A.ab A.d) (ix2 i j) = A.gQ i j := by
  show _ = swishB (rw2 A.q i j) (rw2 A.a i j * hi (A.dm i) j)
  unfold swishB
  rw [← v28_1_at, ← v28_2_at, ← v77_at]
  unfold rw2
  unfold val_main_v80 val_main_call2_v2 val_main_call2_v1 val_main_call2_v0 val_main_v78
  generalize val_main_v28_1 (F := Ideal) A.q = B
  generalize val_main_v28_2 (F := Ideal) A.q = C
  generalize val_main_v77 (F := Ideal) A.o A.o' A.g A.a A.q A.w A.p A.mo A.ab A.d = D
  pointwise
/-- The gradient of the gate of the scans. -/
theorem v83_at : (val_main_v83 (F := Ideal) A.o A.o' A.g A.a A.q A.w A.p A.mo A.ab A.d) (ix2 i j) = A.gG i j := by
  show _ = swishB (rw2 A.g i j) (nor4 (A.s i) j * lo (A.dm i) j)
  unfold swishB
  rw [← v26_1_at, ← v26_2_at, ← v25_at, ← v76_at]
  unfold rw2
  unfold val_main_v83 val_main_call3_v2 val_main_call3_v1 val_main_call3_v0 val_main_v81
  generalize val_main_v26_1 (F := Ideal) A.g = B
  generalize val_main_v26_2 (F := Ideal) A.g = C
  generalize val_main_v25 (F := Ideal) A.o A.o' = D
  generalize val_main_v76 (F := Ideal) A.o A.o' A.g A.a A.q A.w A.p A.mo A.ab A.d = E
  pointwise
/-- The gradient of the normed heads. -/
theorem v82_at : (val_main_v82 (F := Ideal) A.o A.o' A.g A.a A.q A.w A.p A.mo A.ab A.d) (ix2 i j) = dNor (rw2 A.g i) (A.dm i) j := by
  unfold dNor
  rw [← v76_at, ← v26_0_at]
  unfold val_main_v82
  generalize val_main_v76 (F := Ideal) A.o A.o' A.g A.a A.q A.w A.p A.mo A.ab A.d = B
  generalize val_main_v26_0 (F := Ideal) A.g = C
  pointwise
/-- A head of that gradient. -/
abbrev gn (A : Arrays) (i : Fin 8192) (k : Fin 4) : Fin 128 → EReal := hd k (dNor (rw2 A.g i) (A.dm i))
theorem v84_at : (val_main_v84 (F := Ideal) A.o A.o' A.g A.a A.q A.w A.p A.mo A.ab A.d) (ix3 i k e) = gn A i k e := by
  rw [val_main_v84_apply, show idx_main_v84 (ix3 i k e) = ix2 i (lane k e) by unfold lane; idx_ext, v82_at]
  rfl
theorem v86_at : (val_main_v86 (F := Ideal) A.o A.o' A.g A.a A.q A.w A.p A.mo A.ab A.d) (ix2 i k) = ∑ e, dev (hd k (A.s i)) e * gn A i k e := by
  rw [val_main_v86_apply, val_main_cst_15_apply]
  refine (congrArg (· + _) Ideal.ofBits_zero_f32).trans ((zero_add _).trans (Finset.sum_congr rfl fun e _ => ?_))
  rw [show idx_main_v86 (ix2 i k) e = ix3 i k e by idx_ext, val_main_v85_apply, v16_at, v84_at]
  rfl
theorem v89_at : (val_main_v89 (F := Ideal) A.o A.o' A.g A.a A.q A.w A.p A.mo A.ab A.d) (ix3 i k e) = direct (hd k (A.s i)) (gn A i k) e := by
  unfold direct
  rw [← v84_at, ← v19_at]
  unfold val_main_v89 val_main_v88
  generalize val_main_v84 (F := Ideal) A.o A.o' A.g A.a A.q A.w A.p A.mo A.ab A.d = B
  generalize val_main_v19 (F := Ideal) A.o A.o' = C
  pointwise
theorem v95_at : (val_main_v95 (F := Ideal) A.o A.o' A.g A.a A.q A.w A.p A.mo A.ab A.d) (ix3 i k 0) = curv (hd k (A.s i)) (gn A i k) := by
  unfold Head.curv
  rw [← v86_at, ← v19_at, ← v18_at]
  unfold val_main_v95 val_main_v94 val_main_v90 val_main_v87 val_main_v22 val_main_v21 val_main_v20 val_main_cst_5 val_main_cst_17
  generalize val_main_v86 (F := Ideal) A.o A.o' A.g A.a A.q A.w A.p A.mo A.ab A.d = B
  generalize val_main_v19 (F := Ideal) A.o A.o' = C
  generalize val_main_v18 (F := Ideal) A.o A.o' = D
  pointwise
theorem v96_at : (val_main_v96 (F := Ideal) A.o A.o' A.g A.a A.q A.w A.p A.mo A.ab A.d) (ix2 i k) = curv (hd k (A.s i)) (gn A i k) := by
  rw [val_main_v96_apply, val_main_cst_18_apply]
  refine (congrArg (· + _) Ideal.ofBits_zero_f32).trans ((zero_add _).trans ((Fin.sum_univ_one _).trans ?_))
  rw [show idx_main_v96 (ix2 i k) 0 = ix3 i k 0 by idx_ext, v95_at]
theorem v98_at : (val_main_v98 (F := Ideal) A.o A.o' A.g A.a A.q A.w A.p A.mo A.ab A.d) (ix3 i k e) = square (hd k (A.s i)) (gn A i k) e := by
  unfold square
  rw [← v96_at, ← v7_at]
  unfold val_main_v98 val_main_v97 val_main_v10 val_main_v9 val_main_cst_1
  generalize val_main_v96 (F := Ideal) A.o A.o' A.g A.a A.q A.w A.p A.mo A.ab A.d = B
  generalize val_main_v7 (F := Ideal) A.o A.o' = C
  pointwise
theorem v92_at : (val_main_v92 (F := Ideal) A.o A.o' A.g A.a A.q A.w A.p A.mo A.ab A.d) (ix2 i k) = ∑ e, (0 - direct (hd k (A.s i)) (gn A i k) e) := by
  rw [val_main_v92_apply, val_main_cst_16_apply]
  refine (congrArg (· + _) Ideal.ofBits_zero_f32).trans ((zero_add _).trans (Finset.sum_congr rfl fun e _ => ?_))
  rw [show idx_main_v92 (ix2 i k) e = ix3 i k e by idx_ext, val_main_v91_apply, v89_at, zero_sub]
  rfl
theorem v100_at : (val_main_v100 (F := Ideal) A.o A.o' A.g A.a A.q A.w A.p A.mo A.ab A.d) (ix2 i k) = ∑ e, (0 - square (hd k (A.s i)) (gn A i k) e) := by
  rw [val_main_v100_apply, val_main_cst_19_apply]
  refine (congrArg (· + _) Ideal.ofBits_zero_f32).trans ((zero_add _).trans (Finset.sum_congr rfl fun e _ => ?_))
  rw [show idx_main_v100 (ix2 i k) e = ix3 i k e by idx_ext, val_main_v99_apply, v98_at, zero_sub]
  rfl
theorem v105_at : (val_main_v105 (F := Ideal) A.o A.o' A.g A.a A.q A.w A.p A.mo A.ab A.d) (ix3 i k 0) = shared (hd k (A.s i)) (gn A i k) := by
  unfold shared
  rw [← v92_at, ← v100_at]
  unfold val_main_v105 val_main_v104 val_main_v103 val_main_v101 val_main_v93 val_main_cst_20
  generalize val_main_v92 (F := Ideal) A.o A.o' A.g A.a A.q A.w A.p A.mo A.ab A.d = B
  generalize val_main_v100 (F := Ideal) A.o A.o' A.g A.a A.q A.w A.p A.mo A.ab A.d = C
  pointwise
theorem v106_at : (val_main_v106 (F := Ideal) A.o A.o' A.g A.a A.q A.w A.p A.mo A.ab A.d) (ix2 i k) = shared (hd k (A.s i)) (gn A i k) := by
  rw [val_main_v106_apply, val_main_cst_21_apply]
  refine (congrArg (· + _) Ideal.ofBits_zero_f32).trans ((zero_add _).trans ((Fin.sum_univ_one _).trans ?_))
  rw [show idx_main_v106 (ix2 i k) 0 = ix3 i k 0 by idx_ext, v105_at]
/-- The gradient of a head. -/
theorem v108_at : (val_main_v108 (F := Ideal) A.o A.o' A.g A.a A.q A.w A.p A.mo A.ab A.d) (ix3 i k e) = Head.dLn (hd k (A.s i)) (gn A i k) e := by
  unfold Head.dLn
  rw [← v89_at, ← v98_at, ← v106_at]
  unfold val_main_v108 val_main_v107 val_main_v102
  generalize val_main_v89 (F := Ideal) A.o A.o' A.g A.a A.q A.w A.p A.mo A.ab A.d = B
  generalize val_main_v98 (F := Ideal) A.o A.o' A.g A.a A.q A.w A.p A.mo A.ab A.d = C
  generalize val_main_v106 (F := Ideal) A.o A.o' A.g A.a A.q A.w A.p A.mo A.ab A.d = D
  pointwise
/-- The gradient of the summed scans. -/
theorem v109_at : (val_main_v109 (F := Ideal) A.o A.o' A.g A.a A.q A.w A.p A.mo A.ab A.d) (ix2 i j) = A.gO i j := by
  rw [val_main_v109_apply, show idx_main_v109 (ix2 i j) = ix3 i (headOf j) (laneOf j) by unfold headOf laneOf; idx_ext, v108_at]
  rfl
theorem v74_eq : val_main_v74 (F := Ideal) A.o A.o' A.g A.a A.q A.w A.p A.mo A.ab A.d = rows1 A.dy := by
  funext y
  obtain ⟨i, l, rfl⟩ : ∃ (i : Fin 8192) (l : Fin 1024), y = ix2 i l := ⟨y 0, y 1, eq_ix2 y⟩
  exact v74_at A i l
theorem v109_eq : val_main_v109 (F := Ideal) A.o A.o' A.g A.a A.q A.w A.p A.mo A.ab A.d = rowsH A.gO := by
  funext y
  obtain ⟨i, l, rfl⟩ : ∃ (i : Fin 8192) (l : Fin 512), y = ix2 i l := ⟨y 0, y 1, eq_ix2 y⟩
  exact v109_at A i l
theorem v83_eq : val_main_v83 (F := Ideal) A.o A.o' A.g A.a A.q A.w A.p A.mo A.ab A.d = rowsH A.gG := by
  funext y
  obtain ⟨i, l, rfl⟩ : ∃ (i : Fin 8192) (l : Fin 512), y = ix2 i l := ⟨y 0, y 1, eq_ix2 y⟩
  exact v83_at A i l
theorem v79_eq : val_main_v79 (F := Ideal) A.o A.o' A.g A.a A.q A.w A.p A.mo A.ab A.d = rowsH A.gA := by
  funext y
  obtain ⟨i, l, rfl⟩ : ∃ (i : Fin 8192) (l : Fin 512), y = ix2 i l := ⟨y 0, y 1, eq_ix2 y⟩
  exact v79_at A i l
theorem v80_eq : val_main_v80 (F := Ideal) A.o A.o' A.g A.a A.q A.w A.p A.mo A.ab A.d = rowsH A.gQ := by
  funext y
  obtain ⟨i, l, rfl⟩ : ∃ (i : Fin 8192) (l : Fin 512), y = ix2 i l := ⟨y 0, y 1, eq_ix2 y⟩
  exact v80_at A i l
end Back

set_option maxHeartbeats 1000000 in
/-- The kernel and the reference compute the same seven gradients of an even layer's exit. -/
theorem algebraic : Cert.algebraic_EvOutIdeal_EvOutRefIdeal := by
  intro m ρ m' ρ' _ hag
  refine ⟨_, _, _, _, _, _, _, (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2, h.2 c⟩)
    (θ_run_and (Cert.EvOutIdeal.Val.run m ρ) (Cert.EvOutIdeal.Gen.unchanged m ρ)), (θ_run _ _ _).mono (fun r h c => ?_) (Cert.EvOutRefIdeal.Value.run m' ρ')⟩
  obtain ⟨h74, h109, h83, h79, h80, h58, h55, ha⟩ := h c
  obtain ⟨e0, e1, e2, e3, e4, e5, e6, e7, e8, e9⟩ := hag c
  refine ⟨?_, ?_, ?_, ?_, ?_, ?_, ?_, ha⟩
  · rw [h74, val_main_v74_eq]
    show val_main_v74 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v74_eq (Cert.EvOutIdeal.Val.given m c)
  · rw [h109, val_main_v109_eq]
    show val_main_v109 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v109_eq (Cert.EvOutIdeal.Val.given m c)
  · rw [h83, val_main_v83_eq]
    show val_main_v83 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v83_eq (Cert.EvOutIdeal.Val.given m c)
  · rw [h79, val_main_v79_eq]
    show val_main_v79 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v79_eq (Cert.EvOutIdeal.Val.given m c)
  · rw [h80, val_main_v80_eq]
    show val_main_v80 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v80_eq (Cert.EvOutIdeal.Val.given m c)
  · rw [h58, val_main_v58_eq]
    show val_main_v58 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg7)) (m' ((c.tc : Thread nD τ).loc main_arg8)) (m' ((c.tc : Thread nD τ).loc main_arg9)) = _
    rw [e0, e1, e2, e3, e4, e5, e7, e8, e9]
    exact v58_eq (Cert.EvOutIdeal.Val.given m c)
  · rw [h55, val_main_v55_eq]
    show val_main_v55 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg9)) = _
    rw [e0, e1, e2, e3, e4, e5, e6, e9]
    exact v55_eq (Cert.EvOutIdeal.Val.given m c)
end Cert.EvOutRefIdeal.Val
-- ==== Proof.EvFwdCall.lean ====
module
public import proofs.«01_k».proof.Proof.EvOutCall
public import proofs.«01_k».proof.Proof.Gen.EvFwdIdeal.Frame
@[expose] public section
set_option maxRecDepth 16384
noncomputable section
namespace Cert.EvFwdIdeal.Val
open Cert.EvFwdIdeal Cert.EvFwdIdeal.Gen Idealize.ShloMosaic Idealize.ShloMosaic.TcCoe Idealize.SL.Sem Cert.Norm
open Cert.Exit (swish thruW)
open Cert.OdInIdeal.Val (rows1)
open Cert.EvOutIdeal.Val (Arrays both both_at four cut norB nors nors_at hO hZ hO_lo hO_hi hZ_g hZ_q)

/-- A row of the layer's result: the layer's input `x` and the gated norm of `y`. -/
def added (x y p m : Fin 1024 → EReal) (l : Fin 1024) : EReal := x l + m l * (hat y l * p l)

/-! ## What the kernel computes of its blocks -/
section Blocks
variable (o o' g q : Vec Ideal S512x512 .f32) (a : Vec Ideal S512x512 .bf16) (w : Vec Ideal S1024x1024 .bf16) (x : Vec Ideal S512x1024 .f32)
  (p : Vec Ideal S1x1024 .f32) (mo ab : Vec Ideal S1x3072 .f32) (r : Fin 512) (l : Fin 1024)
/-- The mixed rows of a block, their product with the output weights, and the rows of the layer's result. -/
abbrev mixB : FVec Ideal S512x1024 .bf16 :=
  k0_pay14 (F := Ideal) (k0_pay2 g) (k0_pay3 a) (k0_pay4 q) (k0_pay5 o o') (k0_pay8 (k0_pay6 o o') (k0_pay7 o o') (Scalar.ofBits .f32 0x43000000#32)) (k0_pay9 (k0_pay1 o o'))
    (k0_pay10 (k0_pay1 o o')) (k0_pay12 (k0_pay1 o o')) (k0_pay13 (k0_pay1 o o'))
abbrev yB : FVec Ideal S512x1024 .f32 :=
  k0_pay15 (F := Ideal) (k0_pay2 g) (k0_pay3 a) (k0_pay4 q) (k0_pay5 o o') (k0_pay8 (k0_pay6 o o') (k0_pay7 o o') (Scalar.ofBits .f32 0x43000000#32)) (k0_pay9 (k0_pay1 o o'))
    (k0_pay10 (k0_pay1 o o')) (k0_pay12 (k0_pay1 o o')) (k0_pay13 (k0_pay1 o o')) w
abbrev outB : FVec Ideal S512x1024 .f32 :=
  k0_pay16 (F := Ideal) p mo ab (k0_pay2 g) (k0_pay3 a) (k0_pay4 q) (k0_pay5 o o') (k0_pay8 (k0_pay6 o o') (k0_pay7 o o') (Scalar.ofBits .f32 0x43000000#32)) (k0_pay9 (k0_pay1 o o'))
    (k0_pay10 (k0_pay1 o o')) (k0_pay12 (k0_pay1 o o')) (k0_pay13 (k0_pay1 o o')) w x
theorem mixB_eq : mixB o o' g q a = truncf .bf16 (concatenate S512x1024 1
    [⟨S512x512, mulf (nors o o') (mulf (k0_pay2 (F := Ideal) g) (logistic (k0_pay2 (F := Ideal) g)))⟩,
     ⟨S512x512, mulf (extf .f32 (k0_pay3 (F := Ideal) a) bitsLt_bf16_f32) (mulf (k0_pay4 (F := Ideal) q) (logistic (k0_pay4 (F := Ideal) q)))⟩]
    concatenates_S512x512_S512x512_S512x1024_d1) bitsLt_bf16_f32 := rfl
theorem mixB_at : mixB o o' g q a (ix2 r l) = Head.mix (rw2 (both o o') r) (rw2 g r) (rw2 a r) (rw2 q r) l := by
  rw [mixB_eq]
  unfold Head.mix swish
  simp only [← nors_at]
  generalize nors o o' = A
  unfold k0_pay2 k0_pay3 k0_pay4 rw2
  pointwise
theorem yB_at : yB o o' g q a w (ix2 r l) = thruW (Head.mix (rw2 (both o o') r) (rw2 g r) (rw2 a r) (rw2 q r)) (rw2 w) l := by
  unfold thruW
  simp only [← mixB_at]
  unfold yB k0_pay15
  unfold mixB
  generalize k0_pay14 (F := Ideal) (k0_pay2 g) (k0_pay3 a) (k0_pay4 q) (k0_pay5 o o') (k0_pay8 (k0_pay6 o o') (k0_pay7 o o') (Scalar.ofBits .f32 0x43000000#32)) (k0_pay9 (k0_pay1 o o'))
    (k0_pay10 (k0_pay1 o o')) (k0_pay12 (k0_pay1 o o')) (k0_pay13 (k0_pay1 o o')) = A
  unfold rw2
  pointwise
theorem outB_at : outB o o' g q a w x p mo ab (ix2 r l) = added (rw2 x r) (rw2 (yB o o' g q a w) r) (rw2 p 0) (part 2 (rw2 mo 0) (rw2 ab 0)) l := by
  unfold added hat rinv ms part third outB k0_pay16
  unfold yB
  generalize k0_pay15 (F := Ideal) (k0_pay2 g) (k0_pay3 a) (k0_pay4 q) (k0_pay5 o o') (k0_pay8 (k0_pay6 o o') (k0_pay7 o o') (Scalar.ofBits .f32 0x43000000#32)) (k0_pay9 (k0_pay1 o o'))
    (k0_pay10 (k0_pay1 o o')) (k0_pay12 (k0_pay1 o o')) (k0_pay13 (k0_pay1 o o')) w = A
  unfold rw2
  pointwise
end Blocks

section Entry
variable (m : (ℓ : Loc nD τ sig) → Buf (Elt Ideal) ℓ) (c : Dev nD)
abbrev ga (b : Ref sig .tc) := m ((c.tc : Thread nD τ).loc b)
theorem entry_o : (V m c main_v3 : FVec Ideal S8192x1024 .f32) = hO (ga m c main_arg0) (ga m c main_arg1) := by
  show StableHlo.after (List.flatten [hostOps0]) (fun b => m (c, b)) _ = _
  simp only [hostOps0, List.flatten_cons, List.flatten_nil, List.append_nil]
  after_results_simp <;> rfl
theorem entry_z : (V m c main_v2 : FVec Ideal S8192x3328 .f32) = hZ (ga m c main_arg2) (ga m c main_arg4) := by
  show StableHlo.after (List.flatten [hostOps0]) (fun b => m (c, b)) _ = _
  simp only [hostOps0, List.flatten_cons, List.flatten_nil, List.append_nil]
  after_results_simp <;> rfl
theorem entry_a : (V m c main_v4 : Vec Ideal S8192x512 .bf16) = ga m c main_arg3 := by
  show StableHlo.after (List.flatten [hostOps0]) (fun b => m (c, b)) _ = _
  simp only [hostOps0, List.flatten_cons, List.flatten_nil, List.append_nil]
  after_results_simp <;> rfl
theorem entry_w : (V m c main_v5 : Vec Ideal S1024x1024 .bf16) = ga m c main_arg5 := by
  show StableHlo.after (List.flatten [hostOps0]) (fun b => m (c, b)) _ = _
  simp only [hostOps0, List.flatten_cons, List.flatten_nil, List.append_nil]
  after_results_simp <;> rfl
/-- The arrays of the launch, the layer's input in the place of the gradient. -/
def given : Arrays := ⟨ga m c main_arg0, ga m c main_arg1, ga m c main_arg2, ga m c main_arg3, ga m c main_arg4, ga m c main_arg5, ga m c main_arg6, ga m c main_arg7, ga m c main_arg8, ga m c main_arg9⟩
end Entry
/-- A row of the layer's result. -/
def _root_.Cert.EvOutIdeal.Val.Arrays.out (A : Arrays) (i : Fin 8192) : Fin 1024 → EReal := added (rw2 A.d i) (A.y i) (rw2 A.p 0) A.gate

section Windows
variable (m : (ℓ : Loc nD τ sig) → Buf (Elt Ideal) ℓ) (c : Dev nD) (t : Fin cfg0.N) (r : Fin 512)
/-- The row of the arrays that row `r` of a grid point's blocks is. -/
def row : Fin 8192 := ⟨t.val * 512 + r.val, by have h : t.val < 16 := t.isLt; omega⟩

theorem at0_0 : ∀ t : Fin cfg0.N, win0_0.index t = ![t.val, 0] := by decide +kernel
theorem in0 (l : Fin 1024) : (iblk m c 0 t : Vec Ideal S512x1024 .f32) (ix2 r l) = hO (given m c).o (given m c).o' (ix2 (row t r) l) := by
  refine (congrArg (V m c main_v3) (?_ : _ = ix2 (row t r) l)).trans (congrFun (entry_o m c) _)
  unfold row
  blk_ext! [at0_0]
/-- The two halves of a block of scans. -/
abbrev oLo : Vec Ideal S512x512 .f32 := View.ld (iblk m c 0 t : Vec Ideal S512x1024 .f32) (Rect.unit ![0, 0] ![512, 512] inb_S512x1024_S512x512_0_0)
abbrev oHi : Vec Ideal S512x512 .f32 := View.ld (iblk m c 0 t : Vec Ideal S512x1024 .f32) (Rect.unit ![0, 512] ![512, 512] inb_S512x1024_S512x512_0_512)
theorem s_row : rw2 (both (oLo m c t) (oHi m c t)) r = (given m c).s (row t r) := by
  funext j
  refine (both_at _ _ r j).trans (congrArg₂ (· + ·) ?_ ?_)
  · refine Eq.trans ?_ ((in0 m c t r ⟨j.val, by omega⟩).trans (hO_lo _ _ _ _))
    refine View.ld_unit_apply_of _ _ _ _ _ _ fun a => ?_
    fin_cases a
    · exact (Nat.zero_add _).symm
    · exact (Nat.zero_add _).symm
  · refine Eq.trans ?_ ((in0 m c t r ⟨512 + j.val, by omega⟩).trans (hO_hi _ _ _ _))
    refine View.ld_unit_apply_of _ _ _ _ _ _ fun a => ?_
    fin_cases a
    · exact (Nat.zero_add _).symm
    · rfl
theorem at0_1 : ∀ t : Fin cfg0.N, win0_1.index t = ![t.val, 3] := by decide +kernel
theorem in1 : rw2 (X0_1 m c t : Vec Ideal S512x512 .f32) r = rw2 (given m c).g (row t r) := by
  funext j
  show (cfg0.win 1).fill (cfg0.grid.coords t) dflt0_1 (iblk m c 1 t) (ix2 r j) = _
  unfold Pipeline.Window.fill
  rw [dif_pos (moved0_1 t _)]
  refine (congrArg (V m c main_v2) (?_ : _ = ix2 (row t r) ⟨1536 + j.val, by omega⟩)).trans ((congrFun (entry_z m c) _).trans (hZ_g _ _ _ _))
  unfold row
  blk_ext! [at0_1]
theorem at0_2 : ∀ t : Fin cfg0.N, win0_2.index t = ![t.val, 4] := by decide +kernel
theorem in2 : rw2 (X0_2 m c t : Vec Ideal S512x512 .f32) r = rw2 (given m c).q (row t r) := by
  funext j
  show (cfg0.win 2).fill (cfg0.grid.coords t) dflt0_2 (iblk m c 2 t) (ix2 r j) = _
  unfold Pipeline.Window.fill
  rw [dif_pos (moved0_2 t _)]
  refine (congrArg (V m c main_v2) (?_ : _ = ix2 (row t r) ⟨2048 + j.val, by omega⟩)).trans ((congrFun (entry_z m c) _).trans (hZ_q _ _ _ _))
  unfold row
  blk_ext! [at0_2]
theorem at0_3 : ∀ t : Fin cfg0.N, win0_3.index t = ![t.val, 0] := by decide +kernel
theorem in3 : rw2 (iblk m c 3 t : Vec Ideal S512x512 .bf16) r = rw2 (given m c).a (row t r) := by
  funext l
  refine (congrArg (V m c main_v4) (?_ : _ = ix2 (row t r) l)).trans (congrFun (entry_a m c) _)
  unfold row
  blk_ext! [at0_3]
theorem at0_4 : ∀ t : Fin cfg0.N, win0_4.index t = ![t.val, 0] := by decide +kernel
theorem in4 : rw2 (iblk m c 4 t : Vec Ideal S512x1024 .f32) r = rw2 (given m c).d (row t r) := by
  funext l
  refine (congrArg (V m c main_arg9) (?_ : _ = ix2 (row t r) l)).trans (congrFun (V_main_arg9 m c) _)
  unfold row
  blk_ext! [at0_4]
theorem at0_5 : ∀ t : Fin cfg0.N, win0_5.index t = ![0, 0] := by decide +kernel
theorem in5 : rw2 (iblk m c 5 t : Vec Ideal S1x1024 .f32) 0 = rw2 (given m c).p 0 := by
  funext l
  refine (congrArg (V m c main_arg6) (?_ : _ = ix2 0 l)).trans (congrFun (V_main_arg6 m c) _)
  blk_ext! [at0_5]
theorem at0_6 : ∀ t : Fin cfg0.N, win0_6.index t = ![0, 0] := by decide +kernel
theorem in6 : rw2 (iblk m c 6 t : Vec Ideal S1x3072 .f32) 0 = rw2 (given m c).mo 0 := by
  funext l
  refine (congrArg (V m c main_arg7) (?_ : _ = ix2 0 l)).trans (congrFun (V_main_arg7 m c) _)
  blk_ext! [at0_6]
theorem at0_7 : ∀ t : Fin cfg0.N, win0_7.index t = ![0, 0] := by decide +kernel
theorem in7 : rw2 (iblk m c 7 t : Vec Ideal S1x3072 .f32) 0 = rw2 (given m c).ab 0 := by
  funext l
  refine (congrArg (V m c main_arg8) (?_ : _ = ix2 0 l)).trans (congrFun (V_main_arg8 m c) _)
  blk_ext! [at0_7]
theorem at0_8 : ∀ t : Fin cfg0.N, win0_8.index t = ![0, 0] := by decide +kernel
theorem in8 : rw2 (iblk m c 8 t : Vec Ideal S1024x1024 .bf16) = rw2 (given m c).w := by
  funext n l
  refine (congrArg (V m c main_v5) (?_ : _ = ix2 n l)).trans (congrFun (entry_w m c) _)
  blk_ext! [at0_8]
theorem at0_9 : ∀ t : Fin cfg0.N, win0_9.index t = ![t.val, 0] := by decide +kernel
theorem emb9 (l : Fin 1024) : (win0_9.blk t).view.emb (ix2 r l) = ix2 (row t r) l := by
  unfold row
  blk_ext! [at0_9]
theorem at0_10 : ∀ t : Fin cfg0.N, win0_10.index t = ![t.val, 0] := by decide +kernel
theorem emb10 (l : Fin 1024) : (win0_10.blk t).view.emb (ix2 r l) = ix2 (row t r) l := by
  unfold row
  blk_ext! [at0_10]
theorem at0_11 : ∀ t : Fin cfg0.N, win0_11.index t = ![t.val, 0] := by decide +kernel
theorem emb11 (l : Fin 1024) : (win0_11.blk t).view.emb (ix2 r l) = ix2 (row t r) l := by
  unfold row
  blk_ext! [at0_11]
/-- The rows of a block of products. -/
theorem y_row : rw2 (yB (oLo m c t) (oHi m c t) (X0_1 m c t) (X0_2 m c t) (iblk m c 3 t) (iblk m c 8 t)) r = (given m c).y (row t r) := by
  funext l
  refine (yB_at (oLo m c t) (oHi m c t) (X0_1 m c t) (X0_2 m c t) (iblk m c 3 t) (iblk m c 8 t) r l).trans ?_
  rw [s_row, in1, in2, in3, in8]
  rfl
theorem left9 (y) : (outsAt0 m c t).1 y = (mixB (oLo m c t) (oHi m c t) (X0_1 m c t) (X0_2 m c t) (iblk m c 3 t)) y := by
  unfold outsAt0
  frame_out
  rfl
theorem left10 (y) : (outsAt0 m c t).2.1 y = (yB (oLo m c t) (oHi m c t) (X0_1 m c t) (X0_2 m c t) (iblk m c 3 t) (iblk m c 8 t)) y := by
  unfold outsAt0
  frame_out
  rfl
theorem left11 (y) : (outsAt0 m c t).2.2 y = (outB (oLo m c t) (oHi m c t) (X0_1 m c t) (X0_2 m c t) (iblk m c 3 t) (iblk m c 8 t) (iblk m c 4 t) (iblk m c 5 t) (iblk m c 6 t) (iblk m c 7 t)) y := by
  unfold outsAt0
  frame_out
  rfl
end Windows

section Results
variable (m : (ℓ : Loc nD τ sig) → Buf (Elt Ideal) ℓ) (c : Dev nD)
theorem whole9 (G : Vec Ideal S8192x1024 .bf16) (hG : ∀ (t : Fin cfg0.N) (r : Fin 512) (l : Fin 1024), (outsAt0 m c t).1 (ix2 r l) = G ((win0_9.blk t).view.emb (ix2 r l))) : (dats m 0 c).arrAt 9 cfg0.N = G := by
  refine (dats m 0 c).arrAt_eq_of_covers 9 _ (by decide +kernel) fun t hf y => ?_
  obtain ⟨r, l, rfl⟩ : ∃ (r : Fin 512) (l : Fin 1024), y = ix2 r l := ⟨y 0, y 1, eq_ix2 y⟩
  exact (congrFun (after0_9 m c t) (ix2 r l)).trans (hG t r l)
theorem arr9 : (dats m 0 c).arrAt 9 cfg0.N = rows1 (given m c).mixed :=
  whole9 m c _ fun t r l => by
    rw [left9, emb9]
    refine (mixB_at _ _ _ _ _ r l).trans ?_
    rw [s_row, in1, in2, in3]
    rfl
theorem whole10 (G : Vec Ideal S8192x1024 .f32) (hG : ∀ (t : Fin cfg0.N) (r : Fin 512) (l : Fin 1024), (outsAt0 m c t).2.1 (ix2 r l) = G ((win0_10.blk t).view.emb (ix2 r l))) : (dats m 0 c).arrAt 10 cfg0.N = G := by
  refine (dats m 0 c).arrAt_eq_of_covers 10 _ (by decide +kernel) fun t hf y => ?_
  obtain ⟨r, l, rfl⟩ : ∃ (r : Fin 512) (l : Fin 1024), y = ix2 r l := ⟨y 0, y 1, eq_ix2 y⟩
  exact (congrFun (after0_10 m c t) (ix2 r l)).trans (hG t r l)
theorem arr10 : (dats m 0 c).arrAt 10 cfg0.N = rows1 (given m c).y :=
  whole10 m c _ fun t r l => by
    rw [left10, emb10]
    exact congrFun (y_row m c t r) l
theorem whole11 (G : Vec Ideal S8192x1024 .f32) (hG : ∀ (t : Fin cfg0.N) (r : Fin 512) (l : Fin 1024), (outsAt0 m c t).2.2 (ix2 r l) = G ((win0_11.blk t).view.emb (ix2 r l))) : (dats m 0 c).arrAt 11 cfg0.N = G := by
  refine (dats m 0 c).arrAt_eq_of_covers 11 _ (by decide +kernel) fun t hf y => ?_
  obtain ⟨r, l, rfl⟩ : ∃ (r : Fin 512) (l : Fin 1024), y = ix2 r l := ⟨y 0, y 1, eq_ix2 y⟩
  exact (congrFun (after0_11 m c t) (ix2 r l)).trans (hG t r l)
theorem arr11 : (dats m 0 c).arrAt 11 cfg0.N = rows1 (given m c).out :=
  whole11 m c _ fun t r l => by
    rw [left11, emb11]
    refine (outB_at _ _ _ _ _ _ _ _ _ _ r l).trans ?_
    rw [y_row, in4, in5, in6, in7]
    rfl
/-- The buffers as the call leaves them. -/
def left : Valuation τ sig (Elt Ideal) := Pipeline.withArrays (cfgs 0).spec c (V0 m c) fun w => (dats m 0 c).arrAt w (cfgs 0).N
theorem shared : Pipeline.SharedIn (cfgs 0).spec := by decide
theorem cast7 (V : Valuation τ sig (Elt Ideal)) : (StableHlo.after (hostOps1 (F := Ideal)) V (Proc.devRef .tc main_v7) : Vec Ideal S8192x1024 .f32) = (V (Proc.devRef .tc main_v6_0) : Vec Ideal S8192x1024 .bf16) := by
  simp only [hostOps1]
  after_results_simp <;> rfl
theorem res7 : StableHlo.after (hostOps1 (F := Ideal)) (left m c) (Proc.devRef .tc main_v7) = rows1 (given m c).mixed :=
  (cast7 (left m c)).trans (((dats m 0 c).withArrays_arrAt shared (V0 m c) (A_eq m c) 9).trans (arr9 m c))

/-- Every execution of the kernel ends with the mixed rows, their product and the layer's result in its results. -/
theorem run (ρ : Dev nD → PrngReg) :
    θ_run defs (onTc (τ := τ) (main (F := Ideal))) ⟨m, fun _ => 0, ρ⟩ fun r => ∀ c : Dev nD,
      (r.2.mem ((c.tc : Thread nD τ).loc main_v7) = rows1 (given m c).mixed
      ∧ r.2.mem ((c.tc : Thread nD τ).loc main_v6_1) = rows1 (given m c).y
      ∧ r.2.mem ((c.tc : Thread nD τ).loc main_v6_2) = rows1 (given m c).out) :=
  (θ_run defs _ _).mono (fun r h c => ⟨
      ((h c).2 main_v7 (Pipeline.mem_restRefs_of main_v7 (by decide) (by decide))).trans (res7 m c),
      ((h c).1 10).trans (arr10 m c),
      ((h c).1 11).trans (arr11 m c)⟩)
    (run_main m ρ)
end Results
end Cert.EvFwdIdeal.Val
-- ==== Proof.EvFwdRef.lean ====
module
public import proofs.«01_k».proof.Defs
public import proofs.«01_k».proof.Proof.EvFwdCall
public import proofs.«01_k».proof.Proof.Gen.EvFwdRefIdeal.Run
public import proofs.«01_k».proof.Proof.Gen.EvFwdRefIdeal.Read
@[expose] public section
set_option maxRecDepth 16384
noncomputable section
namespace Cert.EvFwdRefIdeal.Val
open Cert.EvFwdRefIdeal Cert.EvFwdRefIdeal.Gen Cert.EvFwdRefIdeal.Read Idealize.ShloMosaic Idealize.ShloMosaic.TcCoe Idealize.SL.Sem Cert.Norm
open Cert.OdInIdeal.Val (rows1)
open Cert.EvOutIdeal.Val (Arrays hMix_at hY_at)
open Cert.EvFwdIdeal.Val (added)

variable (A : Arrays) (i : Fin 8192) (l : Fin 1024)

/-- The mixed rows, and their product with the output weights. -/
theorem v25_at : (val_main_v25 (F := Ideal) A.o A.o' A.g A.a A.q) (ix2 i l) = A.mixed i l := hMix_at A.o A.o' A.g A.a A.q i l
theorem v26_at : (val_main_v26 (F := Ideal) A.o A.o' A.g A.a A.q A.w) (ix2 i l) = A.y i l := hY_at A.o A.o' A.g A.a A.q A.w i l
theorem v30_at : (val_main_v30 (F := Ideal) A.o A.o' A.g A.a A.q A.w) (ix1 i) = ∑ l, A.y i l * A.y i l := by
  rw [val_main_v30_apply, val_main_cst_4_apply]
  refine (congrArg (· + _) Ideal.ofBits_zero_f32).trans ((zero_add _).trans (Finset.sum_congr rfl fun l _ => ?_))
  rw [show idx_main_v30 (ix1 i) l = ix2 i l by idx_ext, val_main_v29_apply, v26_at]
  rfl
theorem v36_at : (val_main_v36 (F := Ideal) A.o A.o' A.g A.a A.q A.w) (ix2 i 0) = rinv (A.y i) := by
  unfold rinv ms
  rw [← v30_at]
  unfold val_main_v36 val_main_v35 val_main_v34 val_main_v33 val_main_v32 val_main_v31 val_main_cst_5 val_main_cst_6
  generalize val_main_v30 (F := Ideal) A.o A.o' A.g A.a A.q A.w = B
  pointwise
theorem v43_at : (val_main_v43 (F := Ideal) A.o A.o' A.g A.a A.q A.w A.p A.mo A.ab A.d) (ix2 i l) = A.out i l := by
  show _ = rw2 A.d i l + A.gate l * (A.y i l * rinv (A.y i) * rw2 A.p 0 l)
  rw [← v36_at, ← v26_at]
  unfold val_main_v43 val_main_v42 val_main_v41 val_main_v40 val_main_v39 val_main_v38 val_main_v37 val_main_v28 val_main_v27 Arrays.gate part third rw2
  generalize val_main_v36 (F := Ideal) A.o A.o' A.g A.a A.q A.w = B
  generalize val_main_v26 (F := Ideal) A.o A.o' A.g A.a A.q A.w = C
  pointwise
theorem v25_eq : val_main_v25 (F := Ideal) A.o A.o' A.g A.a A.q = rows1 A.mixed := by
  funext y
  obtain ⟨i, l, rfl⟩ : ∃ (i : Fin 8192) (l : Fin 1024), y = ix2 i l := ⟨y 0, y 1, eq_ix2 y⟩
  exact v25_at A i l
theorem v26_eq : val_main_v26 (F := Ideal) A.o A.o' A.g A.a A.q A.w = rows1 A.y := by
  funext y
  obtain ⟨i, l, rfl⟩ : ∃ (i : Fin 8192) (l : Fin 1024), y = ix2 i l := ⟨y 0, y 1, eq_ix2 y⟩
  exact v26_at A i l
theorem v43_eq : val_main_v43 (F := Ideal) A.o A.o' A.g A.a A.q A.w A.p A.mo A.ab A.d = rows1 A.out := by
  funext y
  obtain ⟨i, l, rfl⟩ : ∃ (i : Fin 8192) (l : Fin 1024), y = ix2 i l := ⟨y 0, y 1, eq_ix2 y⟩
  exact v43_at A i l

/-- The kernel and the reference compute the same mixed rows, product and result of an even layer's exit. -/
theorem algebraic : Cert.algebraic_EvFwdIdeal_EvFwdRefIdeal := by
  intro m ρ m' ρ' _ hag
  refine ⟨_, _, _, (θ_run _ _ _).mono (fun r h c => ⟨(h.1 c).1, (h.1 c).2.1, (h.1 c).2.2, h.2 c⟩)
    (θ_run_and (Cert.EvFwdIdeal.Val.run m ρ) (Cert.EvFwdIdeal.Gen.unchanged m ρ)), (θ_run _ _ _).mono (fun r h c => ?_) (Cert.EvFwdRefIdeal.Value.run m' ρ')⟩
  obtain ⟨h25, h26, h43, ha⟩ := h c
  obtain ⟨e0, e1, e2, e3, e4, e5, e6, e7, e8, e9⟩ := hag c
  refine ⟨?_, ?_, ?_, ha⟩
  · rw [h25, val_main_v25_eq]
    show val_main_v25 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = _
    rw [e0, e1, e2, e3, e4]
    exact v25_eq (Cert.EvFwdIdeal.Val.given m c)
  · rw [h26, val_main_v26_eq]
    show val_main_v26 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) = _
    rw [e0, e1, e2, e3, e4, e5]
    exact v26_eq (Cert.EvFwdIdeal.Val.given m c)
  · rw [h43, val_main_v43_eq]
    show val_main_v43 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v43_eq (Cert.EvFwdIdeal.Val.given m c)
end Cert.EvFwdRefIdeal.Val
-- ==== Proof.OdFwdCall.lean ====
module
public import proofs.«01_k».proof.Proof.OdInOut
public import proofs.«01_k».proof.Proof.Gen.OdFwdIdeal.Frame
@[expose] public section
set_option maxRecDepth 16384
noncomputable section
namespace Cert.OdFwdIdeal.Val
open Cert.OdFwdIdeal Cert.OdFwdIdeal.Gen Idealize.ShloMosaic Idealize.ShloMosaic.TcCoe Idealize.SL.Sem Cert.Norm
open Cert.OdInIdeal.Val (rows1 zArr)

/-- The normed rows of an array, scaled and shifted; and the first part of a row with its bias, times the gate of the second. -/
def hRow (x : Vec Ideal S8192x1024 .f32) (g : Vec Ideal S1x1024 .f32) (mo ab : Vec Ideal S1x3072 .f32) (i : Fin 8192) : Fin 1024 → EReal :=
  pre (rw2 x i) (rw2 g 0) (part 1 (rw2 mo 0) (rw2 ab 0)) (part 0 (rw2 mo 0) (rw2 ab 0))
def glu (z b : Fin 3072 → EReal) (l : Fin 1024) : EReal := part 0 z b l * gate z b l

section Blocks
variable (g : Vec Ideal S1x1024 .f32) (mo ab bi : Vec Ideal S1x3072 .f32) (x : Vec Ideal S512x1024 .f32) (w : Vec Ideal S1024x3072 .bf16) (r : Fin 512)
/-- The rows of a block: normed, projected and gated. -/
theorem h_at (l : Fin 1024) : k0_pay2 (F := Ideal) g mo ab x (ix2 r l) = pre (rw2 x r) (rw2 g 0) (part 1 (rw2 mo 0) (rw2 ab 0)) (part 0 (rw2 mo 0) (rw2 ab 0)) l :=
  Cert.OdInIdeal.Val.pre_at g mo ab x r l
theorem z_at (j : Fin 3072) : k0_pay3 (F := Ideal) g mo ab x w (ix2 r j) = mul (rw2 w) (pre (rw2 x r) (rw2 g 0) (part 1 (rw2 mo 0) (rw2 ab 0)) (part 0 (rw2 mo 0) (rw2 ab 0))) j :=
  Cert.OdInIdeal.Val.z_at g mo ab x w r j
theorem u_at (l : Fin 1024) : k0_pay1 (F := Ideal) (k0_pay4 g mo ab bi x w) (k0_pay5 g mo ab bi x w) (ix2 r l)
    = glu (mul (rw2 w) (pre (rw2 x r) (rw2 g 0) (part 1 (rw2 mo 0) (rw2 ab 0)) (part 0 (rw2 mo 0) (rw2 ab 0)))) (rw2 bi 0) l := by
  have h := z_at g mo ab x w r
  generalize mul (rw2 w) (pre (rw2 x r) (rw2 g 0) (part 1 (rw2 mo 0) (rw2 ab 0)) (part 0 (rw2 mo 0) (rw2 ab 0))) = Z at h ⊢
  unfold glu gate part
  rw [← h, ← h]
  unfold k0_pay1 k0_pay4 k0_pay5
  generalize k0_pay3 (F := Ideal) g mo ab x w = A
  unfold rw2 third
  pointwise
end Blocks

section Entry
variable (m : (ℓ : Loc nD τ sig) → Buf (Elt Ideal) ℓ) (c : Dev nD)
abbrev ga (b : Ref sig .tc) := m ((c.tc : Thread nD τ).loc b)
theorem entry_w : (V m c main_v0 : Vec Ideal S1024x3072 .bf16) = ga m c main_arg4 := by
  show StableHlo.after (List.flatten [hostOps0]) (fun b => m (c, b)) _ = _
  simp only [hostOps0, List.flatten_cons, List.flatten_nil, List.append_nil]
  after_results_simp <;> rfl
/-- The projected rows of the launch's arguments. -/
abbrev zs : Vec Ideal S8192x3072 .f32 := zArr (ga m c main_arg0) (ga m c main_arg1) (ga m c main_arg2) (ga m c main_arg3) (ga m c main_arg4)
abbrev hs (i : Fin 8192) : Fin 1024 → EReal := hRow (ga m c main_arg0) (ga m c main_arg1) (ga m c main_arg2) (ga m c main_arg3) i
end Entry

section Windows
variable (m : (ℓ : Loc nD τ sig) → Buf (Elt Ideal) ℓ) (c : Dev nD) (t : Fin cfg0.N) (r : Fin 512)
/-- The row of the arrays that row `r` of a grid point's blocks is. -/
def row : Fin 8192 := ⟨t.val * 512 + r.val, by have h : t.val < 16 := t.isLt; omega⟩
theorem at0_0 : ∀ t : Fin cfg0.N, win0_0.index t = ![t.val, 0] := by decide +kernel
theorem in0 : rw2 (iblk m c 0 t : Vec Ideal S512x1024 .f32) r = rw2 (ga m c main_arg0) (row t r) := by
  funext l
  refine (congrArg (V m c main_arg0) (?_ : _ = ix2 (row t r) l)).trans (congrFun (V_main_arg0 m c) _)
  unfold row
  blk_ext! [at0_0]
theorem at0_1 : ∀ t : Fin cfg0.N, win0_1.index t = ![0, 0] := by decide +kernel
theorem in1 : rw2 (iblk m c 1 t : Vec Ideal S1x1024 .f32) 0 = rw2 (ga m c main_arg1) 0 := by
  funext l
  refine (congrArg (V m c main_arg1) (?_ : _ = ix2 0 l)).trans (congrFun (V_main_arg1 m c) _)
  blk_ext! [at0_1]
theorem at0_2 : ∀ t : Fin cfg0.N, win0_2.index t = ![0, 0] := by decide +kernel
theorem in2 : rw2 (iblk m c 2 t : Vec Ideal S1x3072 .f32) 0 = rw2 (ga m c main_arg2) 0 := by
  funext l
  refine (congrArg (V m c main_arg2) (?_ : _ = ix2 0 l)).trans (congrFun (V_main_arg2 m c) _)
  blk_ext! [at0_2]
theorem at0_3 : ∀ t : Fin cfg0.N, win0_3.index t = ![0, 0] := by decide +kernel
theorem in3 : rw2 (iblk m c 3 t : Vec Ideal S1x3072 .f32) 0 = rw2 (ga m c main_arg3) 0 := by
  funext l
  refine (congrArg (V m c main_arg3) (?_ : _ = ix2 0 l)).trans (congrFun (V_main_arg3 m c) _)
  blk_ext! [at0_3]
theorem at0_4 : ∀ t : Fin cfg0.N, win0_4.index t = ![0, 0] := by decide +kernel
theorem in4 : rw2 (iblk m c 4 t : Vec Ideal S1x3072 .f32) 0 = rw2 (ga m c main_arg5) 0 := by
  funext l
  refine (congrArg (V m c main_arg5) (?_ : _ = ix2 0 l)).trans (congrFun (V_main_arg5 m c) _)
  blk_ext! [at0_4]
theorem at0_5 : ∀ t : Fin cfg0.N, win0_5.index t = ![0, 0] := by decide +kernel
theorem in5 : rw2 (iblk m c 5 t : Vec Ideal S1024x3072 .bf16) = rw2 (ga m c main_arg4) := by
  funext n l
  refine (congrArg (V m c main_v0) (?_ : _ = ix2 n l)).trans (congrFun (entry_w m c) _)
  blk_ext! [at0_5]
theorem at0_6 : ∀ t : Fin cfg0.N, win0_6.index t = ![t.val, 0] := by decide +kernel
theorem emb6 (l : Fin 1024) : (win0_6.blk t).view.emb (ix2 r l) = ix2 (row t r) l := by
  unfold row
  blk_ext! [at0_6]
theorem at0_7 : ∀ t : Fin cfg0.N, win0_7.index t = ![t.val, 0] := by decide +kernel
theorem emb7 (l : Fin 3072) : (win0_7.blk t).view.emb (ix2 r l) = ix2 (row t r) l := by
  unfold row
  blk_ext! [at0_7]
theorem at0_8 : ∀ t : Fin cfg0.N, win0_8.index t = ![t.val, 0] := by decide +kernel
theorem emb8 (l : Fin 1024) : (win0_8.blk t).view.emb (ix2 r l) = ix2 (row t r) l := by
  unfold row
  blk_ext! [at0_8]
/-- What a grid point leaves in the blocks of its results. -/
theorem left6 (y) : out0_6 (iblk m c 0 t) (iblk m c 1 t) (iblk m c 2 t) (iblk m c 3 t) (iblk m c 4 t) (iblk m c 5 t) y = (k0_pay2 (F := Ideal) (iblk m c 1 t) (iblk m c 2 t) (iblk m c 3 t) (iblk m c 0 t)) y := by
  unfold out0_6
  frame_out
theorem left7 (y) : out0_7 (iblk m c 0 t) (iblk m c 1 t) (iblk m c 2 t) (iblk m c 3 t) (iblk m c 4 t) (iblk m c 5 t) y = (k0_pay3 (F := Ideal) (iblk m c 1 t) (iblk m c 2 t) (iblk m c 3 t) (iblk m c 0 t) (iblk m c 5 t)) y := by
  unfold out0_7
  frame_out
theorem left8 (y) : out0_8 (iblk m c 0 t) (iblk m c 1 t) (iblk m c 2 t) (iblk m c 3 t) (iblk m c 4 t) (iblk m c 5 t) y = (k0_pay1 (F := Ideal) (k0_pay4 (iblk m c 1 t) (iblk m c 2 t) (iblk m c 3 t) (iblk m c 4 t) (iblk m c 0 t) (iblk m c 5 t)) (k0_pay5 (iblk m c 1 t) (iblk m c 2 t) (iblk m c 3 t) (iblk m c 4 t) (iblk m c 0 t) (iblk m c 5 t))) y := by
  unfold out0_8
  frame_out
end Windows

section Results
variable (m : (ℓ : Loc nD τ sig) → Buf (Elt Ideal) ℓ) (c : Dev nD)
theorem whole6 (G : Vec Ideal S8192x1024 .bf16) (hG : ∀ (t : Fin cfg0.N) (r : Fin 512) (l : Fin 1024), out0_6 (iblk m c 0 t) (iblk m c 1 t) (iblk m c 2 t) (iblk m c 3 t) (iblk m c 4 t) (iblk m c 5 t) (ix2 r l) = G ((win0_6.blk t).view.emb (ix2 r l))) : (dats m 0 c).arrAt 6 cfg0.N = G := by
  refine (dats m 0 c).arrAt_eq_of_covers 6 _ (by decide +kernel) fun t hf y => ?_
  obtain ⟨r, l, rfl⟩ : ∃ (r : Fin 512) (l : Fin 1024), y = ix2 r l := ⟨y 0, y 1, eq_ix2 y⟩
  exact (congrFun (after0_6 m c t) (ix2 r l)).trans (hG t r l)
theorem arr6 : (dats m 0 c).arrAt 6 cfg0.N = rows1 (hs m c) :=
  whole6 m c _ fun t r l => by
    rw [left6, emb6]
    refine (h_at _ _ _ _ r l).trans ?_
    rw [in0, in1, in2, in3]
    rfl
theorem whole7 (G : Vec Ideal S8192x3072 .f32) (hG : ∀ (t : Fin cfg0.N) (r : Fin 512) (l : Fin 3072), out0_7 (iblk m c 0 t) (iblk m c 1 t) (iblk m c 2 t) (iblk m c 3 t) (iblk m c 4 t) (iblk m c 5 t) (ix2 r l) = G ((win0_7.blk t).view.emb (ix2 r l))) : (dats m 0 c).arrAt 7 cfg0.N = G := by
  refine (dats m 0 c).arrAt_eq_of_covers 7 _ (by decide +kernel) fun t hf y => ?_
  obtain ⟨r, l, rfl⟩ : ∃ (r : Fin 512) (l : Fin 3072), y = ix2 r l := ⟨y 0, y 1, eq_ix2 y⟩
  exact (congrFun (after0_7 m c t) (ix2 r l)).trans (hG t r l)
theorem arr7 : (dats m 0 c).arrAt 7 cfg0.N = zs m c :=
  whole7 m c _ fun t r l => by
    rw [left7, emb7]
    refine (z_at _ _ _ _ _ r l).trans ?_
    rw [in0, in1, in2, in3, in5]
    rfl
theorem whole8 (G : Vec Ideal S8192x1024 .f32) (hG : ∀ (t : Fin cfg0.N) (r : Fin 512) (l : Fin 1024), out0_8 (iblk m c 0 t) (iblk m c 1 t) (iblk m c 2 t) (iblk m c 3 t) (iblk m c 4 t) (iblk m c 5 t) (ix2 r l) = G ((win0_8.blk t).view.emb (ix2 r l))) : (dats m 0 c).arrAt 8 cfg0.N = G := by
  refine (dats m 0 c).arrAt_eq_of_covers 8 _ (by decide +kernel) fun t hf y => ?_
  obtain ⟨r, l, rfl⟩ : ∃ (r : Fin 512) (l : Fin 1024), y = ix2 r l := ⟨y 0, y 1, eq_ix2 y⟩
  exact (congrFun (after0_8 m c t) (ix2 r l)).trans (hG t r l)
theorem arr8 : (dats m 0 c).arrAt 8 cfg0.N = rows1 fun i => glu (rw2 (zs m c) i) (rw2 (ga m c main_arg5) 0) :=
  whole8 m c _ fun t r l => by
    rw [left8, emb8]
    refine (u_at _ _ _ _ _ _ r l).trans ?_
    rw [in0, in1, in2, in3, in4, in5]
    rfl
/-- The buffers as the call leaves them. -/
def left : Valuation τ sig (Elt Ideal) := Pipeline.withArrays (cfgs 0).spec c (V0 m c) fun w => (dats m 0 c).arrAt w (cfgs 0).N
theorem shared : Pipeline.SharedIn (cfgs 0).spec := by decide
theorem cast2 (V : Valuation τ sig (Elt Ideal)) : (StableHlo.after (hostOps1 (F := Ideal)) V (Proc.devRef .tc main_v2) : Vec Ideal S8192x1024 .f32) = (V (Proc.devRef .tc main_v1_0) : Vec Ideal S8192x1024 .bf16) := by
  simp only [hostOps1]
  after_results_simp <;> rfl
theorem res2 : StableHlo.after (hostOps1 (F := Ideal)) (left m c) (Proc.devRef .tc main_v2) = rows1 (hs m c) :=
  (cast2 (left m c)).trans (((dats m 0 c).withArrays_arrAt shared (V0 m c) (A_eq m c) 6).trans (arr6 m c))

/-- Every execution of the kernel ends with the normed, the projected and the gated rows in its results. -/
theorem run (ρ : Dev nD → PrngReg) :
    θ_run defs (onTc (τ := τ) (main (F := Ideal))) ⟨m, fun _ => 0, ρ⟩ fun r => ∀ c : Dev nD,
      (r.2.mem ((c.tc : Thread nD τ).loc main_v2) = rows1 (hs m c)
      ∧ r.2.mem ((c.tc : Thread nD τ).loc main_v1_1) = zs m c
      ∧ r.2.mem ((c.tc : Thread nD τ).loc main_v1_2) = rows1 fun i => glu (rw2 (zs m c) i) (rw2 (ga m c main_arg5) 0)) :=
  (θ_run defs _ _).mono (fun r h c => ⟨
      ((h c).2 main_v2 (Pipeline.mem_restRefs_of main_v2 (by decide) (by decide))).trans (res2 m c),
      ((h c).1 7).trans (arr7 m c),
      ((h c).1 8).trans (arr8 m c)⟩)
    (run_main m ρ)
end Results
end Cert.OdFwdIdeal.Val
-- ==== Proof.OdFwdRef.lean ====
module
public import proofs.«01_k».proof.Defs
public import proofs.«01_k».proof.Proof.OdFwdCall
public import proofs.«01_k».proof.Proof.OdInRef
public import proofs.«01_k».proof.Proof.Gen.OdFwdRefIdeal.Run
public import proofs.«01_k».proof.Proof.Gen.OdFwdRefIdeal.Read
@[expose] public section
set_option maxRecDepth 16384
noncomputable section
namespace Cert.OdFwdRefIdeal.Val
open Cert.OdFwdRefIdeal Cert.OdFwdRefIdeal.Gen Cert.OdFwdRefIdeal.Read Idealize.ShloMosaic Idealize.ShloMosaic.TcCoe Idealize.SL.Sem Cert.Norm
open Cert.OdInIdeal.Val (zArr rows1)
open Cert.OdFwdIdeal.Val (hRow glu hs zs)

variable (x : FVec Ideal S8192x1024 .f32) (g : FVec Ideal S1x1024 .f32) (mo ab : FVec Ideal S1x3072 .f32) (w : FVec Ideal S1024x3072 .f32) (b : FVec Ideal S1x3072 .f32)

/-- The normed rows, scaled and shifted. -/
theorem v20_eq : val_main_v20 (F := Ideal) x g mo ab = rows1 (hRow x g mo ab) := by
  funext y
  obtain ⟨i, l, rfl⟩ : ∃ (i : Fin 8192) (l : Fin 1024), y = ix2 i l := ⟨y 0, y 1, eq_ix2 y⟩
  exact Cert.OdInRefIdeal.Val.v23_at x g mo ab i l
/-- Their projection. -/
theorem v21_eq : val_main_v21 (F := Ideal) x g mo ab w = zArr x g mo ab w := Cert.OdInRefIdeal.Val.v24_eq x g mo ab w
theorem v28_at (i : Fin 8192) (l : Fin 1024) : val_main_v28 (F := Ideal) x g mo ab w b (ix2 i l) = part 0 (rw2 (zArr x g mo ab w) i) (rw2 b 0) l :=
  Cert.OdInRefIdeal.Val.v32_at x g mo ab w b i l
theorem v36_at (i : Fin 8192) (l : Fin 1024) : val_main_v36 (F := Ideal) x g mo ab w b (ix2 i l) = gate (rw2 (zArr x g mo ab w) i) (rw2 b 0) l :=
  Cert.OdInRefIdeal.Val.v40_at x g mo ab w b i l
/-- The gated part. -/
theorem v37_eq : val_main_v37 (F := Ideal) x g mo ab w b = rows1 fun i => glu (rw2 (zArr x g mo ab w) i) (rw2 b 0) := by
  funext y
  obtain ⟨i, l, rfl⟩ : ∃ (i : Fin 8192) (l : Fin 1024), y = ix2 i l := ⟨y 0, y 1, eq_ix2 y⟩
  rw [val_main_v37_apply, v28_at, v36_at]
  rfl

/-- The kernel and the reference compute the same normed, projected and gated rows of an odd layer's entry. -/
theorem algebraic : Cert.algebraic_OdFwdIdeal_OdFwdRefIdeal := by
  intro m ρ m' ρ' _ hag
  refine ⟨_, _, _, (θ_run _ _ _).mono (fun r h c => ⟨(h.1 c).1, (h.1 c).2.1, (h.1 c).2.2, h.2 c⟩)
    (θ_run_and (Cert.OdFwdIdeal.Val.run m ρ) (Cert.OdFwdIdeal.Gen.unchanged m ρ)), (θ_run _ _ _).mono (fun r h c => ?_) (Cert.OdFwdRefIdeal.Value.run m' ρ')⟩
  obtain ⟨h20, h21, h37, ha⟩ := h c
  obtain ⟨e0, e1, e2, e3, e4, e5⟩ := hag c
  refine ⟨?_, ?_, ?_, ha⟩
  · rw [h20, val_main_v20_eq]
    show val_main_v20 (F := Ideal) (m' ((c.tc : Thread nD τ).loc main_arg0)) (m' ((c.tc : Thread nD τ).loc main_arg1)) (m' ((c.tc : Thread nD τ).loc main_arg2)) (m' ((c.tc : Thread nD τ).loc main_arg3)) = _
    rw [e0, e1, e2, e3]
    exact v20_eq _ _ _ _
  · rw [h21, val_main_v21_eq]
    show val_main_v21 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = _
    rw [e0, e1, e2, e3, e4]
    exact v21_eq _ _ _ _ _
  · rw [h37, val_main_v37_eq]
    show val_main_v37 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) = _
    rw [e0, e1, e2, e3, e4, e5]
    exact v37_eq _ _ _ _ _ _
end Cert.OdFwdRefIdeal.Val
-- ==== Proof.Enter.lean ====
module
public import Idealize.ShloMosaic.Lib.Pointwise
@[expose] public section
noncomputable section
/-! The order of the even layer's projected columns in the kernel, where the heads of queries and keys are filled up to 128 lanes. -/
namespace Cert.Enter

/-- Where the kernel keeps a column of the reference. -/
def col (j : Fin 2752) : Fin 3328 :=
  if j.val < 256 then ⟨j.val / 64 % 4 * 128 + j.val % 64, by omega⟩
  else if j.val < 512 then ⟨512 + ((j.val - 256) / 64 % 4 * 128 + (j.val - 256) % 64), by omega⟩
  else if h : j.val < 1536 then ⟨j.val + 512, by omega⟩
  else if h : j.val < 2240 then ⟨j.val + 1024, by omega⟩
  else ⟨j.val - 192, by omega⟩
theorem col_val (j : Fin 2752) : (col j).val = if j.val < 256 then j.val / 64 % 4 * 128 + j.val % 64
    else if j.val < 512 then 512 + ((j.val - 256) / 64 % 4 * 128 + (j.val - 256) % 64)
    else if j.val < 1536 then j.val + 512 else if j.val < 2240 then j.val + 1024 else j.val - 192 := by
  unfold col
  repeat' split
  all_goals rfl
end Cert.Enter
-- ==== Proof.EvPreCall.lean ====
module
public import proofs.«01_k».proof.Proof.OdFwdCall
public import proofs.«01_k».proof.Proof.Enter
public import proofs.«01_k».proof.Proof.Gen.EvPreIdeal.Frame
@[expose] public section
set_option maxRecDepth 16384
noncomputable section
namespace Cert.EvPreIdeal.Val
open Cert.EvPreIdeal Cert.EvPreIdeal.Gen Idealize.ShloMosaic Idealize.ShloMosaic.TcCoe Idealize.SL.Sem Cert.Norm
open Cert.OdInIdeal.Val (rows1)
open Cert.OdFwdIdeal.Val (hRow)
open Cert.Enter (col col_val)

/-- An array of 8192 rows, from its rows; and a row of 1024 entries through a matrix of `n` columns. -/
def tall {n : ℕ} (f : Fin 8192 → Fin n → EReal) : (⟨2, ![8192, n]⟩ : Shape).Idx → EReal := fun y => f (y 0) (y 1)
def thru {n : ℕ} (w : Fin 1024 → Fin n → EReal) (y : Fin 1024 → EReal) (j : Fin n) : EReal := ∑ l, y l * w l j

section Blocks
variable (g : Vec Ideal S1x1024 .f32) (mo ab : Vec Ideal S1x3072 .f32) (x : Vec Ideal S512x1024 .f32) (w : Vec Ideal S1024x3328 .bf16) (r : Fin 512)
/-- The rows of a block: normed and projected. -/
theorem h_at (l : Fin 1024) : k0_pay1 (F := Ideal) mo ab x g (ix2 r l) = pre (rw2 x r) (rw2 g 0) (part 1 (rw2 mo 0) (rw2 ab 0)) (part 0 (rw2 mo 0) (rw2 ab 0)) l :=
  Cert.OdInIdeal.Val.pre_at g mo ab x r l
theorem z_at (j : Fin 3328) : k0_pay2 (F := Ideal) mo ab x g w (ix2 r j) = thru (rw2 w) (pre (rw2 x r) (rw2 g 0) (part 1 (rw2 mo 0) (rw2 ab 0)) (part 0 (rw2 mo 0) (rw2 ab 0))) j := by
  unfold thru
  simp only [← h_at]
  unfold k0_pay2
  generalize k0_pay1 (F := Ideal) mo ab x g = A
  unfold rw2
  pointwise
end Blocks

section Lines
variable (w : FVec Ideal S1024x2752 .f32) (z : FVec Ideal S8192x3328 .f32)
/-- Two heads' columns, each head filled up to 128 with zeros; the rotary keys' columns; and the weights in the kernel's order. -/
def hq : FVec Ideal S1024x512 .f32 := shapeCast S1024x512 (pad S1024x4x128 ![0, 0, 0] ![0, 0, 64] ![0, 0, 0]
  (shapeCast S1024x4x64 (extractStridedSlice S1024x256 ![0, 0] w slices_S1024x2752_S1024x256_0_0) shapeCasts_S1024x256_S1024x4x64) (sitofp .f32 (constantI S_ 32 0#32)) pads_S1024x4x64_S1024x4x128_000_000_0640 h_S_) shapeCasts_S1024x4x128_S1024x512
def hk : FVec Ideal S1024x512 .f32 := shapeCast S1024x512 (pad S1024x4x128 ![0, 0, 0] ![0, 0, 64] ![0, 0, 0]
  (shapeCast S1024x4x64 (extractStridedSlice S1024x256 ![0, 256] w slices_S1024x2752_S1024x256_0_256) shapeCasts_S1024x256_S1024x4x64) (sitofp .f32 (constantI S_ 32 0#32)) pads_S1024x4x64_S1024x4x128_000_000_0640 h_S_) shapeCasts_S1024x4x128_S1024x512
def hr : FVec Ideal S1024x128 .f32 := shapeCast S1024x128 (pad S1024x1x128 ![0, 0, 0] ![0, 0, 64] ![0, 0, 0]
  (shapeCast S1024x1x64 (extractStridedSlice S1024x64 ![0, 2176] w slices_S1024x2752_S1024x64_0_2176) shapeCasts_S1024x64_S1024x1x64) (sitofp .f32 (constantI S_ 32 0#32)) pads_S1024x1x64_S1024x1x128_000_000_0640 h_S_) shapeCasts_S1024x1x128_S1024x128
def hw : FVec Ideal S1024x3328 .f32 := concatenate S1024x3328 1 [⟨S1024x512, hq w⟩, ⟨S1024x512, hk w⟩, ⟨S1024x1024, extractStridedSlice S1024x1024 ![0, 512] w slices_S1024x2752_S1024x1024_0_512⟩,
  ⟨S1024x512, extractStridedSlice S1024x512 ![0, 2240] w slices_S1024x2752_S1024x512_0_2240⟩, ⟨S1024x640, extractStridedSlice S1024x640 ![0, 1536] w slices_S1024x2752_S1024x640_0_1536⟩, ⟨S1024x128, hr w⟩] concatenates_S1024x512_S1024x512_S1024x1024_S1024x512_S1024x640_S1024x128_S1024x3328_d1
/-- The projected rows in the reference's order. -/
def hz : FVec Ideal S8192x2752 .f32 := concatenate S8192x2752 1
  [⟨S8192x256, shapeCast S8192x256 (extractStridedSlice S8192x4x64 ![0, 0, 0] (shapeCast S8192x4x128 (extractStridedSlice S8192x512 ![0, 0] z slices_S8192x3328_S8192x512_0_0) shapeCasts_S8192x512_S8192x4x128) slices_S8192x4x128_S8192x4x64_0_0_0) shapeCasts_S8192x4x64_S8192x256⟩,
   ⟨S8192x256, shapeCast S8192x256 (extractStridedSlice S8192x4x64 ![0, 0, 0] (shapeCast S8192x4x128 (extractStridedSlice S8192x512 ![0, 512] z slices_S8192x3328_S8192x512_0_512) shapeCasts_S8192x512_S8192x4x128) slices_S8192x4x128_S8192x4x64_0_0_0) shapeCasts_S8192x4x64_S8192x256⟩,
   ⟨S8192x1024, extractStridedSlice S8192x1024 ![0, 1024] z slices_S8192x3328_S8192x1024_0_1024⟩, ⟨S8192x640, extractStridedSlice S8192x640 ![0, 2560] z slices_S8192x3328_S8192x640_0_2560⟩,
   ⟨S8192x64, extractStridedSlice S8192x64 ![0, 3200] z slices_S8192x3328_S8192x64_0_3200⟩, ⟨S8192x512, extractStridedSlice S8192x512 ![0, 2048] z slices_S8192x3328_S8192x512_0_2048⟩] concatenates_S8192x256_S8192x256_S8192x1024_S8192x640_S8192x64_S8192x512_S8192x2752_d1
theorem hq_at (n : Fin 1024) (l : Fin 512) (j : Fin 2752) (h : l.val % 128 < 64) (hj : j.val = l.val / 128 * 64 + l.val % 128) : hq w (ix2 n l) = w (ix2 n j) := by
  unfold hq
  pointwise
  exact (dif_pos ⟨by omega, h⟩).trans (congrArg (fun k => w (ix2 n k)) (Fin.ext hj.symm))
theorem hk_at (n : Fin 1024) (l : Fin 512) (j : Fin 2752) (h : l.val % 128 < 64) (hj : j.val = 256 + (l.val / 128 * 64 + l.val % 128)) : hk w (ix2 n l) = w (ix2 n j) := by
  unfold hk
  pointwise
  exact (dif_pos ⟨by omega, h⟩).trans (congrArg (fun k => w (ix2 n k)) (Fin.ext hj.symm))
theorem hr_at (n : Fin 1024) (l : Fin 128) (j : Fin 2752) (h : l.val < 64) (hj : j.val = 2176 + l.val) : hr w (ix2 n l) = w (ix2 n j) := by
  unfold hr
  pointwise
  exact (dif_pos h).trans (congrArg (fun k => w (ix2 n k)) (Fin.ext hj.symm))
/-- Every column of the weights stands where `col` says, and is read back from there. -/
theorem hw_at (n : Fin 1024) (j : Fin 2752) : hw w (ix2 n (col j)) = w (ix2 n j) := by
  have hv := col_val j
  have hj := j.isLt
  generalize col j = k at hv ⊢
  unfold hw
  pointwise
  by_cases h0 : j.val < 256
  · rw [if_pos h0] at hv
    rw [dif_pos (by omega)]
    exact hq_at w n _ j (by show k.val % 128 < 64; omega) (by show _ = k.val / 128 * 64 + k.val % 128; omega)
  rw [if_neg h0] at hv
  by_cases h1 : j.val < 512
  · rw [if_pos h1] at hv
    rw [dif_neg (by omega), dif_pos (by omega)]
    exact hk_at w n _ j (by show (k.val - 512) % 128 < 64; omega) (by show _ = 256 + ((k.val - 512) / 128 * 64 + (k.val - 512) % 128); omega)
  rw [if_neg h1] at hv
  have hg : 1024 ≤ k.val := by
    split at hv
    · omega
    · split at hv <;> omega
  rw [dif_neg (by omega), dif_neg (by omega)]
  by_cases h2 : j.val < 1536
  · rw [if_pos h2] at hv
    rw [dif_pos (by omega)]
    exact congrArg (fun a => w (ix2 n a)) (Fin.ext (by show 512 + (k.val - 512 - 512) = j.val; omega))
  rw [if_neg h2] at hv
  have hg' : 2048 ≤ k.val := by split at hv <;> omega
  rw [dif_neg (by omega)]
  by_cases h3 : j.val < 2240
  · rw [if_pos h3] at hv
    rw [dif_neg (by omega)]
    by_cases h4 : j.val < 2176
    · rw [dif_pos (by omega)]
      exact congrArg (fun a => w (ix2 n a)) (Fin.ext (by show 1536 + (k.val - 512 - 512 - 1024 - 512) = j.val; omega))
    · rw [dif_neg (by omega)]
      exact hr_at w n _ j (by show k.val - 512 - 512 - 1024 - 512 - 640 < 64; omega) (by show _ = 2176 + (k.val - 512 - 512 - 1024 - 512 - 640); omega)
  · rw [if_neg h3] at hv
    rw [dif_pos (by omega)]
    exact congrArg (fun a => w (ix2 n a)) (Fin.ext (by show 2240 + (k.val - 512 - 512 - 1024) = j.val; omega))
theorem hz_at (i : Fin 8192) (j : Fin 2752) : hz z (ix2 i j) = z (ix2 i (col j)) := by
  have hv := col_val j
  have hj := j.isLt
  unfold hz
  pointwise
  repeat' split at hv
  all_goals
    repeat' split
    all_goals first
      | exact congrArg (fun k => z (ix2 i k)) (Fin.ext (by simp only []; omega))
      | (exfalso; omega)
end Lines

section Entry
variable (m : (ℓ : Loc nD τ sig) → Buf (Elt Ideal) ℓ) (c : Dev nD)
abbrev ga (b : Ref sig .tc) := m ((c.tc : Thread nD τ).loc b)
theorem entry_w : (V m c main_v16 : FVec Ideal S1024x3328 .bf16) = hw (ga m c main_arg4) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_results_simp <;> rfl
/-- The normed rows of the launch's arguments. -/
abbrev hs (i : Fin 8192) : Fin 1024 → EReal := hRow (ga m c main_arg0) (ga m c main_arg1) (ga m c main_arg2) (ga m c main_arg3) i
end Entry

section Windows
variable (m : (ℓ : Loc nD τ sig) → Buf (Elt Ideal) ℓ) (c : Dev nD) (t : Fin cfg0.N) (r : Fin 512)
/-- The row of the arrays that row `r` of a grid point's blocks is. -/
def row : Fin 8192 := ⟨t.val * 512 + r.val, by have h : t.val < 16 := t.isLt; omega⟩
theorem at0_0 : ∀ t : Fin cfg0.N, win0_0.index t = ![t.val, 0] := by decide +kernel
theorem in0 : rw2 (iblk m c 0 t : Vec Ideal S512x1024 .f32) r = rw2 (ga m c main_arg0) (row t r) := by
  funext l
  refine (congrArg (V m c main_arg0) (?_ : _ = ix2 (row t r) l)).trans (congrFun (V_main_arg0 m c) _)
  unfold row
  blk_ext! [at0_0]
theorem at0_1 : ∀ t : Fin cfg0.N, win0_1.index t = ![0, 0] := by decide +kernel
theorem in1 : rw2 (iblk m c 1 t : Vec Ideal S1x1024 .f32) 0 = rw2 (ga m c main_arg1) 0 := by
  funext l
  refine (congrArg (V m c main_arg1) (?_ : _ = ix2 0 l)).trans (congrFun (V_main_arg1 m c) _)
  blk_ext! [at0_1]
theorem at0_2 : ∀ t : Fin cfg0.N, win0_2.index t = ![0, 0] := by decide +kernel
theorem in2 : rw2 (iblk m c 2 t : Vec Ideal S1x3072 .f32) 0 = rw2 (ga m c main_arg2) 0 := by
  funext l
  refine (congrArg (V m c main_arg2) (?_ : _ = ix2 0 l)).trans (congrFun (V_main_arg2 m c) _)
  blk_ext! [at0_2]
theorem at0_3 : ∀ t : Fin cfg0.N, win0_3.index t = ![0, 0] := by decide +kernel
theorem in3 : rw2 (iblk m c 3 t : Vec Ideal S1x3072 .f32) 0 = rw2 (ga m c main_arg3) 0 := by
  funext l
  refine (congrArg (V m c main_arg3) (?_ : _ = ix2 0 l)).trans (congrFun (V_main_arg3 m c) _)
  blk_ext! [at0_3]
theorem at0_4 : ∀ t : Fin cfg0.N, win0_4.index t = ![0, 0] := by decide +kernel
theorem in4 : rw2 (iblk m c 4 t : Vec Ideal S1024x3328 .bf16) = rw2 (hw (ga m c main_arg4)) := by
  funext n l
  refine (congrArg (V m c main_v16) (?_ : _ = ix2 n l)).trans (congrFun (entry_w m c) _)
  blk_ext! [at0_4]
theorem at0_5 : ∀ t : Fin cfg0.N, win0_5.index t = ![t.val, 0] := by decide +kernel
theorem emb5 (l : Fin 1024) : (win0_5.blk t).view.emb (ix2 r l) = ix2 (row t r) l := by
  unfold row
  blk_ext! [at0_5]
theorem at0_6 : ∀ t : Fin cfg0.N, win0_6.index t = ![t.val, 0] := by decide +kernel
theorem emb6 (l : Fin 3328) : (win0_6.blk t).view.emb (ix2 r l) = ix2 (row t r) l := by
  unfold row
  blk_ext! [at0_6]
/-- What a grid point leaves in the blocks of its results. -/
theorem left5 (y) : out0_5 (iblk m c 0 t) (iblk m c 1 t) (iblk m c 2 t) (iblk m c 3 t) (iblk m c 4 t) y = (k0_pay1 (F := Ideal) (iblk m c 2 t) (iblk m c 3 t) (iblk m c 0 t) (iblk m c 1 t)) y := by
  unfold out0_5
  frame_out
theorem left6 (y) : out0_6 (iblk m c 0 t) (iblk m c 1 t) (iblk m c 2 t) (iblk m c 3 t) (iblk m c 4 t) y = (k0_pay2 (F := Ideal) (iblk m c 2 t) (iblk m c 3 t) (iblk m c 0 t) (iblk m c 1 t) (iblk m c 4 t)) y := by
  unfold out0_6
  frame_out
end Windows

section Results
variable (m : (ℓ : Loc nD τ sig) → Buf (Elt Ideal) ℓ) (c : Dev nD)
theorem whole5 (G : Vec Ideal S8192x1024 .bf16) (hG : ∀ (t : Fin cfg0.N) (r : Fin 512) (l : Fin 1024), out0_5 (iblk m c 0 t) (iblk m c 1 t) (iblk m c 2 t) (iblk m c 3 t) (iblk m c 4 t) (ix2 r l) = G ((win0_5.blk t).view.emb (ix2 r l))) : (dats m 0 c).arrAt 5 cfg0.N = G := by
  refine (dats m 0 c).arrAt_eq_of_covers 5 _ (by decide +kernel) fun t hf y => ?_
  obtain ⟨r, l, rfl⟩ : ∃ (r : Fin 512) (l : Fin 1024), y = ix2 r l := ⟨y 0, y 1, eq_ix2 y⟩
  exact (congrFun (after0_5 m c t) (ix2 r l)).trans (hG t r l)
theorem arr5 : (dats m 0 c).arrAt 5 cfg0.N = rows1 (hs m c) :=
  whole5 m c _ fun t r l => by
    rw [left5, emb5]
    refine (h_at _ _ _ _ r l).trans ?_
    rw [in0, in1, in2, in3]
    rfl
theorem whole6 (G : Vec Ideal S8192x3328 .f32) (hG : ∀ (t : Fin cfg0.N) (r : Fin 512) (l : Fin 3328), out0_6 (iblk m c 0 t) (iblk m c 1 t) (iblk m c 2 t) (iblk m c 3 t) (iblk m c 4 t) (ix2 r l) = G ((win0_6.blk t).view.emb (ix2 r l))) : (dats m 0 c).arrAt 6 cfg0.N = G := by
  refine (dats m 0 c).arrAt_eq_of_covers 6 _ (by decide +kernel) fun t hf y => ?_
  obtain ⟨r, l, rfl⟩ : ∃ (r : Fin 512) (l : Fin 3328), y = ix2 r l := ⟨y 0, y 1, eq_ix2 y⟩
  exact (congrFun (after0_6 m c t) (ix2 r l)).trans (hG t r l)
theorem arr6 : (dats m 0 c).arrAt 6 cfg0.N = tall fun i => thru (rw2 (hw (ga m c main_arg4))) (hs m c i) :=
  whole6 m c _ fun t r l => by
    rw [left6, emb6]
    refine (z_at _ _ _ _ _ r l).trans ?_
    rw [in0, in1, in2, in3, in4]
    rfl
/-- The buffers as the call leaves them. -/
def left : Valuation τ sig (Elt Ideal) := Pipeline.withArrays (cfgs 0).spec c (V0 m c) fun w => (dats m 0 c).arrAt w (cfgs 0).N
theorem shared : Pipeline.SharedIn (cfgs 0).spec := by decide
theorem cast18 (V : Valuation τ sig (Elt Ideal)) : (StableHlo.after (hostOps1 (F := Ideal)) V (Proc.devRef .tc main_v18) : Vec Ideal S8192x1024 .f32) = (V (Proc.devRef .tc main_v17_0) : Vec Ideal S8192x1024 .bf16) := by
  simp only [hostOps1]
  after_results_simp <;> rfl
theorem cast31 (V : Valuation τ sig (Elt Ideal)) : (StableHlo.after (hostOps1 (F := Ideal)) V (Proc.devRef .tc main_v31) : FVec Ideal S8192x2752 .f32) = hz (V (Proc.devRef .tc main_v17_1)) := by
  simp only [hostOps1]
  after_results_simp <;> rfl
theorem res18 : StableHlo.after (hostOps1 (F := Ideal)) (left m c) (Proc.devRef .tc main_v18) = rows1 (hs m c) :=
  (cast18 (left m c)).trans (((dats m 0 c).withArrays_arrAt shared (V0 m c) (A_eq m c) 5).trans (arr5 m c))
theorem res31 : StableHlo.after (hostOps1 (F := Ideal)) (left m c) (Proc.devRef .tc main_v31) = tall fun i => thru (rw2 (ga m c main_arg4)) (hs m c i) := by
  refine (cast31 (left m c)).trans ((congrArg hz (((dats m 0 c).withArrays_arrAt shared (V0 m c) (A_eq m c) 6).trans (arr6 m c))).trans ?_)
  funext y
  obtain ⟨i, j, rfl⟩ : ∃ (i : Fin 8192) (j : Fin 2752), y = ix2 i j := ⟨y 0, y 1, eq_ix2 y⟩
  refine (hz_at _ i j).trans ?_
  show thru (rw2 (hw (ga m c main_arg4))) (hs m c i) (col j) = thru (rw2 (ga m c main_arg4)) (hs m c i) j
  unfold thru
  exact (Finset.sum_congr rfl fun l _ => congrArg (_ * ·) (hw_at (ga m c main_arg4) l j))

/-- Every execution of the kernel ends with the normed and the projected rows in its results. -/
theorem run (ρ : Dev nD → PrngReg) :
    θ_run defs (onTc (τ := τ) (main (F := Ideal))) ⟨m, fun _ => 0, ρ⟩ fun r => ∀ c : Dev nD,
      (r.2.mem ((c.tc : Thread nD τ).loc main_v18) = rows1 (hs m c)
      ∧ r.2.mem ((c.tc : Thread nD τ).loc main_v31) = tall fun i => thru (rw2 (ga m c main_arg4)) (hs m c i)) :=
  (θ_run defs _ _).mono (fun r h c => ⟨
      ((h c).2 main_v18 (Pipeline.mem_restRefs_of main_v18 (by decide) (by decide))).trans (res18 m c),
      ((h c).2 main_v31 (Pipeline.mem_restRefs_of main_v31 (by decide) (by decide))).trans (res31 m c)⟩)
    (run_main m ρ)
end Results
end Cert.EvPreIdeal.Val
-- ==== Proof.EvPreRef.lean ====
module
public import proofs.«01_k».proof.Defs
public import proofs.«01_k».proof.Proof.EvPreCall
public import proofs.«01_k».proof.Proof.OdInRef
public import proofs.«01_k».proof.Proof.Gen.EvPreRefIdeal.Run
public import proofs.«01_k».proof.Proof.Gen.EvPreRefIdeal.Read
@[expose] public section
set_option maxRecDepth 16384
noncomputable section
namespace Cert.EvPreRefIdeal.Val
open Cert.EvPreRefIdeal Cert.EvPreRefIdeal.Gen Cert.EvPreRefIdeal.Read Idealize.ShloMosaic Idealize.ShloMosaic.TcCoe Idealize.SL.Sem Cert.Norm
open Cert.OdInIdeal.Val (rows1)
open Cert.OdFwdIdeal.Val (hRow)
open Cert.EvPreIdeal.Val (tall thru)

variable (x : FVec Ideal S8192x1024 .f32) (g : FVec Ideal S1x1024 .f32) (mo ab : FVec Ideal S1x3072 .f32) (w : FVec Ideal S1024x2752 .f32)

/-- The normed rows, scaled and shifted. -/
theorem v20_at (i : Fin 8192) (l : Fin 1024) : val_main_v20 (F := Ideal) x g mo ab (ix2 i l) = hRow x g mo ab i l := Cert.OdInRefIdeal.Val.v23_at x g mo ab i l
theorem v20_eq : val_main_v20 (F := Ideal) x g mo ab = rows1 (hRow x g mo ab) := by
  funext y
  obtain ⟨i, l, rfl⟩ : ∃ (i : Fin 8192) (l : Fin 1024), y = ix2 i l := ⟨y 0, y 1, eq_ix2 y⟩
  exact v20_at x g mo ab i l
/-- Their projection. -/
theorem v21_eq : val_main_v21 (F := Ideal) x g mo ab w = tall fun i => thru (rw2 w) (hRow x g mo ab i) := by
  funext y
  obtain ⟨i, j, rfl⟩ : ∃ (i : Fin 8192) (j : Fin 2752), y = ix2 i j := ⟨y 0, y 1, eq_ix2 y⟩
  rw [val_main_v21_apply]
  show _ = ∑ l, hRow x g mo ab i l * w (ix2 l j)
  refine Finset.sum_congr rfl fun l _ => ?_
  rw [show lidx_main_v21 (ix2 i j) l = ix2 i l by idx_ext, show ridx_main_v21 (ix2 i j) l = ix2 l j by idx_ext, v20_at]

/-- The kernel and the reference compute the same normed and projected rows of an even layer's entry. -/
theorem algebraic : Cert.algebraic_EvPreIdeal_EvPreRefIdeal := by
  intro m ρ m' ρ' _ hag
  refine ⟨_, _, (θ_run _ _ _).mono (fun r h c => ⟨(h.1 c).1, (h.1 c).2, h.2 c⟩)
    (θ_run_and (Cert.EvPreIdeal.Val.run m ρ) (Cert.EvPreIdeal.Gen.unchanged m ρ)), (θ_run _ _ _).mono (fun r h c => ?_) (Cert.EvPreRefIdeal.Value.run m' ρ')⟩
  obtain ⟨h20, h21, ha⟩ := h c
  obtain ⟨e0, e1, e2, e3, e4⟩ := hag c
  refine ⟨?_, ?_, ha⟩
  · rw [h20, val_main_v20_eq]
    show val_main_v20 (F := Ideal) (m' ((c.tc : Thread nD τ).loc main_arg0)) (m' ((c.tc : Thread nD τ).loc main_arg1)) (m' ((c.tc : Thread nD τ).loc main_arg2)) (m' ((c.tc : Thread nD τ).loc main_arg3)) = _
    rw [e0, e1, e2, e3]
    exact v20_eq _ _ _ _
  · rw [h21, val_main_v21_eq]
    show val_main_v21 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = _
    rw [e0, e1, e2, e3, e4]
    exact v21_eq _ _ _ _ _
end Cert.EvPreRefIdeal.Val
-- ==== Proof.OdEndCall.lean ====
module
public import proofs.«01_k».proof.Proof.LossCall
public import proofs.«01_k».proof.Proof.EvFwdCall
public import proofs.«01_k».proof.Proof.Gen.OdEndIdeal.Frame
@[expose] public section
set_option maxRecDepth 16384
noncomputable section
namespace Cert.OdEndIdeal.Val
open Cert.OdEndIdeal Cert.OdEndIdeal.Gen Idealize.ShloMosaic Idealize.ShloMosaic.TcCoe Idealize.SL.Sem Cert.Norm
open Cert.OdInIdeal.Val (rows1)
open Cert.Exit
open Cert.LossIdeal.Val (Arrays)
open Cert.EvFwdIdeal.Val (added)

/-- The rows an odd layer leaves: its input, plus the gated norm of the mixed rows' product. -/
def leaves (A : Arrays) (i : Fin 8192) : Fin 1024 → EReal := added (rw2 A.x i) (A.out i) (rw2 A.g 0) (part 2 (rw2 A.mo 0) (rw2 A.ab 0))

section Blocks
variable (u z x : Vec Ideal S512x1024 .f32) (p q g : Vec Ideal S1x1024 .f32) (b mo ab : Vec Ideal S1x3072 .f32) (a : FVec Ideal S512x1024 .f32) (w : Vec Ideal S1024x1024 .bf16) (r : Fin 512) (l : Fin 1024)
/-- The mixed rows of a block, their product with the output weights, and what the layer leaves. -/
theorem mixed_at : k0_pay4 (F := Ideal) b p q u z (ix2 r l) = mix (rw2 u r) (rw2 z r) (fun l => rw2 b 0 (third 2 l)) (rw2 p 0) (rw2 q 0) l :=
  Cert.LossIdeal.Val.mixed_at u z p q b r l
theorem prod_at : k0_pay2 (F := Ideal) a w (ix2 r l) = thruW (rw2 a r) (rw2 w) l := Cert.LossIdeal.Val.prod_at w r l a
theorem leaves_at : k0_pay3 (F := Ideal) g mo ab a w x (ix2 r l) = added (rw2 x r) (thruW (rw2 a r) (rw2 w)) (rw2 g 0) (part 2 (rw2 mo 0) (rw2 ab 0)) l := by
  unfold added hat rinv ms
  simp only [← prod_at]
  unfold k0_pay3
  generalize k0_pay2 (F := Ideal) a w = B
  unfold part third rw2
  pointwise
end Blocks

section Entry
variable (m : (ℓ : Loc nD τ sig) → Buf (Elt Ideal) ℓ) (c : Dev nD)
abbrev ga (b : Ref sig .tc) := m ((c.tc : Thread nD τ).loc b)
theorem entry_w : (V m c main_v0 : Vec Ideal S1024x1024 .bf16) = ga m c main_arg3 := by
  show StableHlo.after (List.flatten [hostOps0]) (fun b => m (c, b)) _ = _
  simp only [hostOps0, List.flatten_cons, List.flatten_nil, List.append_nil]
  after_results_simp <;> rfl
/-- The arrays of the launch; no target is among them, and the layer's input stands in its place. -/
def given : Arrays := ⟨ga m c main_arg0, ga m c main_arg1, ga m c main_arg2, ga m c main_arg3, ga m c main_arg4, ga m c main_arg5, ga m c main_arg6, ga m c main_arg7, ga m c main_arg8, ga m c main_arg9, ga m c main_arg2⟩
end Entry

section Windows
variable (m : (ℓ : Loc nD τ sig) → Buf (Elt Ideal) ℓ) (c : Dev nD) (t : Fin cfg0.N) (r : Fin 512)
/-- The row of the arrays that row `r` of a grid point's blocks is. -/
def row : Fin 8192 := ⟨t.val * 512 + r.val, by have h : t.val < 16 := t.isLt; omega⟩
theorem at0_0 : ∀ t : Fin cfg0.N, win0_0.index t = ![t.val, 0] := by decide +kernel
theorem in0 : rw2 (iblk m c 0 t : Vec Ideal S512x1024 .f32) r = rw2 (ga m c main_arg0) (row t r) := by
  funext l
  refine (congrArg (V m c main_arg0) (?_ : _ = ix2 (row t r) l)).trans (congrFun (V_main_arg0 m c) _)
  unfold row
  blk_ext! [at0_0]
theorem at0_1 : ∀ t : Fin cfg0.N, win0_1.index t = ![t.val, 2] := by decide +kernel
theorem in1 : rw2 (iblk m c 1 t : Vec Ideal S512x1024 .f32) r = (given m c).gr (row t r) := by
  funext l
  refine (congrArg (V m c main_arg1) (?_ : _ = ix2 (row t r) (third 2 l))).trans (congrFun (V_main_arg1 m c) _)
  unfold row third
  blk_ext! [at0_1]
theorem at0_2 : ∀ t : Fin cfg0.N, win0_2.index t = ![t.val, 0] := by decide +kernel
theorem in2 : rw2 (iblk m c 2 t : Vec Ideal S512x1024 .f32) r = rw2 (ga m c main_arg2) (row t r) := by
  funext l
  refine (congrArg (V m c main_arg2) (?_ : _ = ix2 (row t r) l)).trans (congrFun (V_main_arg2 m c) _)
  unfold row
  blk_ext! [at0_2]
theorem at0_3 : ∀ t : Fin cfg0.N, win0_3.index t = ![0, 0] := by decide +kernel
theorem in3 : rw2 (iblk m c 3 t : Vec Ideal S1x3072 .f32) 0 = rw2 (ga m c main_arg4) 0 := by
  funext l
  refine (congrArg (V m c main_arg4) (?_ : _ = ix2 0 l)).trans (congrFun (V_main_arg4 m c) _)
  blk_ext! [at0_3]
theorem at0_4 : ∀ t : Fin cfg0.N, win0_4.index t = ![0, 0] := by decide +kernel
theorem in4 : rw2 (iblk m c 4 t : Vec Ideal S1x1024 .f32) 0 = rw2 (ga m c main_arg5) 0 := by
  funext l
  refine (congrArg (V m c main_arg5) (?_ : _ = ix2 0 l)).trans (congrFun (V_main_arg5 m c) _)
  blk_ext! [at0_4]
theorem at0_5 : ∀ t : Fin cfg0.N, win0_5.index t = ![0, 0] := by decide +kernel
theorem in5 : rw2 (iblk m c 5 t : Vec Ideal S1x1024 .f32) 0 = rw2 (ga m c main_arg6) 0 := by
  funext l
  refine (congrArg (V m c main_arg6) (?_ : _ = ix2 0 l)).trans (congrFun (V_main_arg6 m c) _)
  blk_ext! [at0_5]
theorem at0_6 : ∀ t : Fin cfg0.N, win0_6.index t = ![0, 0] := by decide +kernel
theorem in6 : rw2 (iblk m c 6 t : Vec Ideal S1x1024 .f32) 0 = rw2 (ga m c main_arg7) 0 := by
  funext l
  refine (congrArg (V m c main_arg7) (?_ : _ = ix2 0 l)).trans (congrFun (V_main_arg7 m c) _)
  blk_ext! [at0_6]
theorem at0_7 : ∀ t : Fin cfg0.N, win0_7.index t = ![0, 0] := by decide +kernel
theorem in7 : rw2 (iblk m c 7 t : Vec Ideal S1x3072 .f32) 0 = rw2 (ga m c main_arg8) 0 := by
  funext l
  refine (congrArg (V m c main_arg8) (?_ : _ = ix2 0 l)).trans (congrFun (V_main_arg8 m c) _)
  blk_ext! [at0_7]
theorem at0_8 : ∀ t : Fin cfg0.N, win0_8.index t = ![0, 0] := by decide +kernel
theorem in8 : rw2 (iblk m c 8 t : Vec Ideal S1x3072 .f32) 0 = rw2 (ga m c main_arg9) 0 := by
  funext l
  refine (congrArg (V m c main_arg9) (?_ : _ = ix2 0 l)).trans (congrFun (V_main_arg9 m c) _)
  blk_ext! [at0_8]
theorem at0_9 : ∀ t : Fin cfg0.N, win0_9.index t = ![0, 0] := by decide +kernel
theorem in9 : rw2 (iblk m c 9 t : Vec Ideal S1024x1024 .bf16) = rw2 (ga m c main_arg3) := by
  funext n l
  refine (congrArg (V m c main_v0) (?_ : _ = ix2 n l)).trans (congrFun (entry_w m c) _)
  blk_ext! [at0_9]
theorem at0_10 : ∀ t : Fin cfg0.N, win0_10.index t = ![t.val, 0] := by decide +kernel
theorem emb10 (l : Fin 1024) : (win0_10.blk t).view.emb (ix2 r l) = ix2 (row t r) l := by
  unfold row
  blk_ext! [at0_10]
theorem at0_11 : ∀ t : Fin cfg0.N, win0_11.index t = ![t.val, 0] := by decide +kernel
theorem emb11 (l : Fin 1024) : (win0_11.blk t).view.emb (ix2 r l) = ix2 (row t r) l := by
  unfold row
  blk_ext! [at0_11]
theorem at0_12 : ∀ t : Fin cfg0.N, win0_12.index t = ![t.val, 0] := by decide +kernel
theorem emb12 (l : Fin 1024) : (win0_12.blk t).view.emb (ix2 r l) = ix2 (row t r) l := by
  unfold row
  blk_ext! [at0_12]
/-- The mixed rows of a block. -/
abbrev pM : FVec Ideal S512x1024 .f32 := k0_pay4 (F := Ideal) (iblk m c 3 t) (iblk m c 4 t) (iblk m c 5 t) (iblk m c 0 t) (iblk m c 1 t)
theorem row_mixed : rw2 (pM m c t) r = (given m c).mixed (row t r) := by
  funext l
  refine (mixed_at (iblk m c 0 t) (iblk m c 1 t) (iblk m c 4 t) (iblk m c 5 t) (iblk m c 3 t) r l).trans ?_
  rw [in0, in1, in3, in4, in5]
  rfl
/-- What a grid point leaves in the blocks of its results. -/
theorem left10 (y) : out0_10 (iblk m c 0 t) (iblk m c 1 t) (iblk m c 2 t) (iblk m c 3 t) (iblk m c 4 t) (iblk m c 5 t) (iblk m c 6 t) (iblk m c 7 t) (iblk m c 8 t) (iblk m c 9 t) y = (pM m c t) y := by
  unfold out0_10 k0_pay5
  frame_out
  rfl
theorem left11 (y) : out0_11 (iblk m c 0 t) (iblk m c 1 t) (iblk m c 2 t) (iblk m c 3 t) (iblk m c 4 t) (iblk m c 5 t) (iblk m c 6 t) (iblk m c 7 t) (iblk m c 8 t) (iblk m c 9 t) y = (k0_pay2 (F := Ideal) (pM m c t) (iblk m c 9 t)) y := by
  unfold out0_11 k0_pay5
  frame_out
theorem left12 (y) : out0_12 (iblk m c 0 t) (iblk m c 1 t) (iblk m c 2 t) (iblk m c 3 t) (iblk m c 4 t) (iblk m c 5 t) (iblk m c 6 t) (iblk m c 7 t) (iblk m c 8 t) (iblk m c 9 t) y = (k0_pay3 (F := Ideal) (iblk m c 6 t) (iblk m c 7 t) (iblk m c 8 t) (pM m c t) (iblk m c 9 t) (iblk m c 2 t)) y := by
  unfold out0_12 k0_pay5
  frame_out
end Windows

section Results
variable (m : (ℓ : Loc nD τ sig) → Buf (Elt Ideal) ℓ) (c : Dev nD)
theorem whole10 (G : Vec Ideal S8192x1024 .bf16) (hG : ∀ (t : Fin cfg0.N) (r : Fin 512) (l : Fin 1024), out0_10 (iblk m c 0 t) (iblk m c 1 t) (iblk m c 2 t) (iblk m c 3 t) (iblk m c 4 t) (iblk m c 5 t) (iblk m c 6 t) (iblk m c 7 t) (iblk m c 8 t) (iblk m c 9 t) (ix2 r l) = G ((win0_10.blk t).view.emb (ix2 r l))) : (dats m 0 c).arrAt 10 cfg0.N = G := by
  refine (dats m 0 c).arrAt_eq_of_covers 10 _ (by decide +kernel) fun t hf y => ?_
  obtain ⟨r, l, rfl⟩ : ∃ (r : Fin 512) (l : Fin 1024), y = ix2 r l := ⟨y 0, y 1, eq_ix2 y⟩
  exact (congrFun (after0_10 m c t) (ix2 r l)).trans (hG t r l)
theorem arr10 : (dats m 0 c).arrAt 10 cfg0.N = rows1 (given m c).mixed :=
  whole10 m c _ fun t r l => by
    rw [left10, emb10]
    exact congrFun (row_mixed m c t r) l
theorem whole11 (G : Vec Ideal S8192x1024 .f32) (hG : ∀ (t : Fin cfg0.N) (r : Fin 512) (l : Fin 1024), out0_11 (iblk m c 0 t) (iblk m c 1 t) (iblk m c 2 t) (iblk m c 3 t) (iblk m c 4 t) (iblk m c 5 t) (iblk m c 6 t) (iblk m c 7 t) (iblk m c 8 t) (iblk m c 9 t) (ix2 r l) = G ((win0_11.blk t).view.emb (ix2 r l))) : (dats m 0 c).arrAt 11 cfg0.N = G := by
  refine (dats m 0 c).arrAt_eq_of_covers 11 _ (by decide +kernel) fun t hf y => ?_
  obtain ⟨r, l, rfl⟩ : ∃ (r : Fin 512) (l : Fin 1024), y = ix2 r l := ⟨y 0, y 1, eq_ix2 y⟩
  exact (congrFun (after0_11 m c t) (ix2 r l)).trans (hG t r l)
theorem arr11 : (dats m 0 c).arrAt 11 cfg0.N = rows1 (given m c).out :=
  whole11 m c _ fun t r l => by
    rw [left11, emb11]
    refine (prod_at (pM m c t) _ r l).trans ?_
    rw [row_mixed, in9]
    rfl
theorem whole12 (G : Vec Ideal S8192x1024 .f32) (hG : ∀ (t : Fin cfg0.N) (r : Fin 512) (l : Fin 1024), out0_12 (iblk m c 0 t) (iblk m c 1 t) (iblk m c 2 t) (iblk m c 3 t) (iblk m c 4 t) (iblk m c 5 t) (iblk m c 6 t) (iblk m c 7 t) (iblk m c 8 t) (iblk m c 9 t) (ix2 r l) = G ((win0_12.blk t).view.emb (ix2 r l))) : (dats m 0 c).arrAt 12 cfg0.N = G := by
  refine (dats m 0 c).arrAt_eq_of_covers 12 _ (by decide +kernel) fun t hf y => ?_
  obtain ⟨r, l, rfl⟩ : ∃ (r : Fin 512) (l : Fin 1024), y = ix2 r l := ⟨y 0, y 1, eq_ix2 y⟩
  exact (congrFun (after0_12 m c t) (ix2 r l)).trans (hG t r l)
theorem arr12 : (dats m 0 c).arrAt 12 cfg0.N = rows1 (leaves (given m c)) :=
  whole12 m c _ fun t r l => by
    rw [left12, emb12]
    refine (leaves_at _ _ _ _ (pM m c t) _ r l).trans ?_
    rw [row_mixed, in2, in6, in7, in8, in9]
    rfl
/-- The buffers as the call leaves them. -/
def left : Valuation τ sig (Elt Ideal) := Pipeline.withArrays (cfgs 0).spec c (V0 m c) fun w => (dats m 0 c).arrAt w (cfgs 0).N
theorem shared : Pipeline.SharedIn (cfgs 0).spec := by decide
theorem cast2 (V : Valuation τ sig (Elt Ideal)) : (StableHlo.after (hostOps1 (F := Ideal)) V (Proc.devRef .tc main_v2) : Vec Ideal S8192x1024 .f32) = (V (Proc.devRef .tc main_v1_0) : Vec Ideal S8192x1024 .bf16) := by
  simp only [hostOps1]
  after_results_simp <;> rfl
theorem res2 : StableHlo.after (hostOps1 (F := Ideal)) (left m c) (Proc.devRef .tc main_v2) = rows1 (given m c).mixed :=
  (cast2 (left m c)).trans (((dats m 0 c).withArrays_arrAt shared (V0 m c) (A_eq m c) 10).trans (arr10 m c))

/-- Every execution of the kernel ends with the mixed rows, their product and the layer's result in its results. -/
theorem run (ρ : Dev nD → PrngReg) :
    θ_run defs (onTc (τ := τ) (main (F := Ideal))) ⟨m, fun _ => 0, ρ⟩ fun r => ∀ c : Dev nD,
      (r.2.mem ((c.tc : Thread nD τ).loc main_v2) = rows1 (given m c).mixed
      ∧ r.2.mem ((c.tc : Thread nD τ).loc main_v1_1) = rows1 (given m c).out
      ∧ r.2.mem ((c.tc : Thread nD τ).loc main_v1_2) = rows1 (leaves (given m c))) :=
  (θ_run defs _ _).mono (fun r h c => ⟨
      ((h c).2 main_v2 (Pipeline.mem_restRefs_of main_v2 (by decide) (by decide))).trans (res2 m c),
      ((h c).1 11).trans (arr11 m c),
      ((h c).1 12).trans (arr12 m c)⟩)
    (run_main m ρ)
end Results
end Cert.OdEndIdeal.Val
-- ==== Proof.OdEndRef.lean ====
module
public import proofs.«01_k».proof.Defs
public import proofs.«01_k».proof.Proof.OdEndCall
public import proofs.«01_k».proof.Proof.LossRef
public import proofs.«01_k».proof.Proof.Gen.OdEndRefIdeal.Run
public import proofs.«01_k».proof.Proof.Gen.OdEndRefIdeal.Read
@[expose] public section
set_option maxRecDepth 16384
noncomputable section
namespace Cert.OdEndRefIdeal.Val
open Cert.OdEndRefIdeal Cert.OdEndRefIdeal.Gen Cert.OdEndRefIdeal.Read Idealize.ShloMosaic Idealize.ShloMosaic.TcCoe Idealize.SL.Sem Cert.Norm
open Cert.OdInIdeal.Val (rows1)
open Cert.LossIdeal.Val (Arrays)
open Cert.OdEndIdeal.Val (leaves given)

variable (A : Arrays)
/-- The mixed rows, and their product with the output weights. -/
theorem v28_eq : val_main_v28 (F := Ideal) A.u A.z A.b A.p A.q = rows1 A.mixed := Cert.LossRefIdeal.Val.v28_eq A
theorem v29_eq : val_main_v29 (F := Ideal) A.u A.z A.w A.b A.p A.q = rows1 A.out := Cert.LossRefIdeal.Val.v29_eq A
theorem v43_at (i : Fin 8192) (l : Fin 1024) : val_main_v43 (F := Ideal) A.u A.z A.w A.b A.p A.q A.g (ix2 i l) = hat (A.out i) l * rw2 A.g 0 l := Cert.LossRefIdeal.Val.v43_at A i l
/-- What the layer leaves. -/
theorem v46_eq : val_main_v46 (F := Ideal) A.u A.z A.x A.w A.b A.p A.q A.g A.mo A.ab = rows1 (leaves A) := by
  funext y
  obtain ⟨i, l, rfl⟩ : ∃ (i : Fin 8192) (l : Fin 1024), y = ix2 i l := ⟨y 0, y 1, eq_ix2 y⟩
  show _ = rw2 A.x i l + part 2 (rw2 A.mo 0) (rw2 A.ab 0) l * (hat (A.out i) l * rw2 A.g 0 l)
  rw [← v43_at]
  unfold val_main_v46 val_main_v45 val_main_v44 val_main_v31 val_main_v30
  generalize val_main_v43 (F := Ideal) A.u A.z A.w A.b A.p A.q A.g = B
  unfold part third rw2
  pointwise

/-- The kernel and the reference compute the same mixed rows, product and result of an odd layer's exit. -/
theorem algebraic : Cert.algebraic_OdEndIdeal_OdEndRefIdeal := by
  intro m ρ m' ρ' _ hag
  refine ⟨_, _, _, (θ_run _ _ _).mono (fun r h c => ⟨(h.1 c).1, (h.1 c).2.1, (h.1 c).2.2, h.2 c⟩)
    (θ_run_and (Cert.OdEndIdeal.Val.run m ρ) (Cert.OdEndIdeal.Gen.unchanged m ρ)), (θ_run _ _ _).mono (fun r h c => ?_) (Cert.OdEndRefIdeal.Value.run m' ρ')⟩
  obtain ⟨h28, h29, h46, ha⟩ := h c
  obtain ⟨e0, e1, e2, e3, e4, e5, e6, e7, e8, e9⟩ := hag c
  refine ⟨?_, ?_, ?_, ha⟩
  · rw [h28, val_main_v28_eq]
    show val_main_v28 (F := Ideal) (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg6)) = _
    rw [e0, e1, e4, e5, e6]
    exact v28_eq (given m c)
  · rw [h29, val_main_v29_eq]
    show val_main_v29 (F := Ideal) (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) = _
    rw [e0, e1, e3, e4, e5, e6]
    exact v29_eq (given m c)
  · rw [h46, val_main_v46_eq]
    show val_main_v46 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) = _
    rw [e0, e1, e2, e3, e4, e5, e6, e7, e8, e9]
    exact v46_eq (given m c)
end Cert.OdEndRefIdeal.Val
-- ==== Proof.lean ====
module

public import proofs.«01_k».proof.Defs
public import proofs.«01_k».proof.Proof.Gen.Du.Frame
public import proofs.«01_k».proof.Proof.Gen.DuIdeal.Value
public import proofs.«01_k».proof.Proof.Gen.Dw.Frame
public import proofs.«01_k».proof.Proof.Gen.DwIdeal.Value
public import proofs.«01_k».proof.Proof.Gen.DwRefIdeal.Run
public import proofs.«01_k».proof.Proof.Gen.DwRefIdeal.Read
public import proofs.«01_k».proof.Proof.Gen.AttBwdRefIdeal.Run
public import proofs.«01_k».proof.Proof.Gen.AttBwdRefIdeal.Read
public import proofs.«01_k».proof.Proof.Gen.AttBwd.Frame
public import proofs.«01_k».proof.Proof.Gen.AttBwdIdeal.Frame
public import proofs.«01_k».proof.Proof.Gen.Pre_finite
public import proofs.«01_k».proof.Proof.Gen.DuRefIdeal.Run
public import proofs.«01_k».proof.Proof.Gen.Mid.Frame
public import proofs.«01_k».proof.Proof.Gen.MidIdeal.Frame
public import proofs.«01_k».proof.Proof.Gen.MidRefIdeal.Run
public import proofs.«01_k».proof.Proof.Gen.MidRefIdeal.Read
public import proofs.«01_k».proof.Proof.Gen.OdIn.Frame
public import proofs.«01_k».proof.Proof.Gen.OdInIdeal.Frame
public import proofs.«01_k».proof.Proof.Gen.OdInRefIdeal.Run
public import proofs.«01_k».proof.Proof.Gen.OdInRefIdeal.Read
public import proofs.«01_k».proof.Proof.Gen.OdOut.Frame
public import proofs.«01_k».proof.Proof.Gen.OdOutIdeal.Frame
public import proofs.«01_k».proof.Proof.Gen.OdOutRefIdeal.Run
public import proofs.«01_k».proof.Proof.Gen.OdOutRefIdeal.Read
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import proofs.«01_k».proof.Proof.Gen.EvOut.Frame
public import proofs.«01_k».proof.Proof.Gen.EvOutIdeal.Frame
public import proofs.«01_k».proof.Proof.Gen.EvOutRefIdeal.Run
public import proofs.«01_k».proof.Proof.Gen.EvOutRefIdeal.Read
public import proofs.«01_k».proof.Proof.Gen.EvFwd.Frame
public import proofs.«01_k».proof.Proof.Gen.EvFwdIdeal.Frame
public import proofs.«01_k».proof.Proof.Gen.EvFwdRefIdeal.Run
public import proofs.«01_k».proof.Proof.Gen.EvFwdRefIdeal.Read
public import proofs.«01_k».proof.Proof.Gen.OdFwd.Frame
public import proofs.«01_k».proof.Proof.Gen.OdFwdIdeal.Frame
public import proofs.«01_k».proof.Proof.Gen.OdFwdRefIdeal.Run
public import proofs.«01_k».proof.Proof.Gen.OdFwdRefIdeal.Read
public import proofs.«01_k».proof.Proof.Gen.EvPre.Frame
public import proofs.«01_k».proof.Proof.Gen.EvPreIdeal.Frame
public import proofs.«01_k».proof.Proof.Gen.EvPreRefIdeal.Run
public import proofs.«01_k».proof.Proof.Gen.EvPreRefIdeal.Read
public import proofs.«01_k».proof.Proof.Gen.OdEnd.Frame
public import proofs.«01_k».proof.Proof.Gen.OdEndIdeal.Frame
public import proofs.«01_k».proof.Proof.Gen.OdEndRefIdeal.Run
public import proofs.«01_k».proof.Proof.Gen.OdEndRefIdeal.Read
public import proofs.«01_k».proof.Proof.AttFwdBitsFrame
public import proofs.«01_k».proof.Proof.AttFwdFrame
public import proofs.«01_k».proof.Proof.Gen.AttFwdRefIdeal.Run
public import proofs.«01_k».proof.Proof.Gen.AttFwdRefIdeal.Read
public import proofs.«01_k».proof.Proof.Gen.Pre_finite_qkv
public import proofs.«01_k».proof.Proof.Quiet
public import proofs.«01_k».proof.Proof.ConvDuClaim
public import proofs.«01_k».proof.Proof.ConvDwRef
public import proofs.«01_k».proof.Proof.AttClaim
public import proofs.«01_k».proof.Proof.AttFwdClaim
public import proofs.«01_k».proof.Proof.MidRef
public import proofs.«01_k».proof.Proof.OdInRef
public import proofs.«01_k».proof.Proof.OdOutRef
public import proofs.«01_k».proof.Proof.LossRef
public import proofs.«01_k».proof.Proof.EvOutRef
public import proofs.«01_k».proof.Proof.EvFwdRef
public import proofs.«01_k».proof.Proof.OdFwdRef
public import proofs.«01_k».proof.Proof.EvPreRef
public import proofs.«01_k».proof.Proof.OdEndRef

@[expose] public section

noncomputable section

namespace Cert.Proof

open Idealize.ShloMosaic Idealize.SL.Sem

/-- The kernel and the reference compute the same gradient of the convolution's input. -/
theorem algebraic_du : Cert.algebraic_DuIdeal_DuRefIdeal := fun m ρ m' ρ' _ hag =>
  ⟨fun c => Cert.DuRefIdeal.Val.duRef (m ((c.tc : Thread _ _).loc Cert.DuIdeal.main_arg3)) (m ((c.tc : Thread _ _).loc Cert.DuIdeal.main_arg1)),
    (θ_run _ _ _).mono (fun _ h c => ⟨(h c).1.trans ((Cert.DuIdeal.Val.arr_eq m c).trans (Cert.ConvDuClaim.du_eq _ _)), (h c).2⟩) (Cert.DuIdeal.Value.run_blocks (F := Ideal) m ρ),
    (θ_run _ _ _).mono (fun _ h c => ⟨(h c).1.trans (by rw [(hag c).2.1, (hag c).2.2.2]), (h c).2⟩) (Cert.ConvDuClaim.runR m' ρ')⟩

/-- The kernel and the reference compute the same gradients of the convolution's taps and bias. -/
theorem algebraic_dw : Cert.algebraic_DwIdeal_DwRefIdeal := fun m ρ m' ρ' _ hag =>
  ⟨fun c => Cert.DwIdeal.Val.dw (m ((c.tc : Thread _ _).loc Cert.DwIdeal.main_arg0)) (m ((c.tc : Thread _ _).loc Cert.DwIdeal.main_arg3)),
    (θ_run _ _ _).mono (fun _ h c => ⟨(h c).1.trans (Cert.DwIdeal.Val.arr_eq m c), (h c).2⟩) (Cert.DwIdeal.Value.run_blocks (F := Ideal) m ρ),
    (θ_run _ _ _).mono (fun _ h c => ⟨(h c).1.trans (by rw [(hag c).1, (hag c).2.2.2]), (h c).2⟩) (Cert.DwRefIdeal.Val.run m' ρ')⟩

/-- Every claim of the statement. -/
theorem claim : Cert.Claim := ⟨Cert.Du.Gen.facts, Cert.DuIdeal.Gen.facts, Cert.DuRefIdeal.Gen.facts,
  Cert.Dw.Gen.facts, Cert.DwIdeal.Gen.facts, Cert.DwRefIdeal.Gen.facts,
  Cert.AttBwd.Gen.facts, Cert.AttBwdIdeal.Gen.facts, Cert.AttBwdRefIdeal.Gen.facts,
  Cert.Mid.Gen.facts, Cert.MidIdeal.Gen.facts, Cert.MidRefIdeal.Gen.facts,
  Cert.OdIn.Gen.facts, Cert.OdInIdeal.Gen.facts, Cert.OdInRefIdeal.Gen.facts,
  Cert.AttFwd.Gen.facts, Cert.AttFwdIdeal.Gen.facts, Cert.AttFwdRefIdeal.Gen.facts,
  Cert.OdOut.Gen.facts, Cert.OdOutIdeal.Gen.facts, Cert.OdOutRefIdeal.Gen.facts,
  Cert.Loss.Gen.facts, Cert.LossIdeal.Gen.facts, Cert.LossRefIdeal.Gen.facts,
  Cert.EvOut.Gen.facts, Cert.EvOutIdeal.Gen.facts, Cert.EvOutRefIdeal.Gen.facts,
  Cert.EvFwd.Gen.facts, Cert.EvFwdIdeal.Gen.facts, Cert.EvFwdRefIdeal.Gen.facts,
  Cert.OdFwd.Gen.facts, Cert.OdFwdIdeal.Gen.facts, Cert.OdFwdRefIdeal.Gen.facts,
  Cert.EvPre.Gen.facts, Cert.EvPreIdeal.Gen.facts, Cert.EvPreRefIdeal.Gen.facts,
  Cert.OdEnd.Gen.facts, Cert.OdEndIdeal.Gen.facts, Cert.OdEndRefIdeal.Gen.facts, Cert.Pre_finite.Gen.facts, Cert.Pre_finite_qkv.Gen.facts,
  fun m ρ _ => Cert.Du.Gen.frame m ρ, fun m ρ _ => Cert.DuIdeal.Gen.frame m ρ,
  fun m ρ _ => (θ_run _ _ _).mono (fun r h => ⟨fun c => (h c).2, Cert.Quiet.sem_zero (by decide) r.2⟩) (Cert.DuRefIdeal.Value.run m ρ),
  fun m ρ _ => Cert.Dw.Gen.frame m ρ, fun m ρ _ => Cert.DwIdeal.Gen.frame m ρ,
  fun m ρ _ => (θ_run _ _ _).mono (fun r h => ⟨fun c => (h c).2, Cert.Quiet.sem_zero (by decide) r.2⟩) (Cert.DwRefIdeal.Value.run m ρ),
  fun m ρ _ => Cert.AttBwd.Gen.frame m ρ, fun m ρ _ => Cert.AttBwdIdeal.Gen.frame m ρ, fun m ρ _ => Cert.AttBwdIdeal.Gen.frame m ρ,
  Cert.AttClaim.frame_ref, fun m ρ _ => Cert.AttClaim.frame_ref m ρ trivial,
  fun m ρ _ => Cert.Mid.Gen.frame m ρ, fun m ρ _ => Cert.MidIdeal.Gen.frame m ρ,
  fun m ρ _ => (θ_run _ _ _).mono (fun r h => ⟨fun c => (h c).2.2.2.2.2, Cert.Quiet.sem_zero (by decide) r.2⟩) (Cert.MidRefIdeal.Value.run m ρ),
  fun m ρ _ => Cert.OdIn.Gen.frame m ρ, fun m ρ _ => Cert.OdInIdeal.Gen.frame m ρ,
  fun m ρ _ => (θ_run _ _ _).mono (fun r h => ⟨fun c => (h c).2.2.2.2.2.2.2, Cert.Quiet.sem_zero (by decide) r.2⟩) (Cert.OdInRefIdeal.Value.run m ρ),
  fun m ρ _ => Cert.AttFwd.Val.frame_all m ρ, fun m ρ _ => Cert.AttFwdIdeal.Val.frame_all m ρ, fun m ρ _ => Cert.AttFwdIdeal.Val.frame_all m ρ,
  Cert.AttFwdClaim.frame_ref, fun m ρ _ => Cert.AttFwdClaim.frame_ref m ρ trivial,
  fun m ρ _ => Cert.OdOut.Gen.frame m ρ, fun m ρ _ => Cert.OdOutIdeal.Gen.frame m ρ,
  fun m ρ _ => (θ_run _ _ _).mono (fun r h => ⟨fun c => (h c).2.2.2.2.2.2.2.2, Cert.Quiet.sem_zero (by decide) r.2⟩) (Cert.OdOutRefIdeal.Value.run m ρ),
  fun m ρ _ => Cert.Loss.Gen.frame m ρ, fun m ρ _ => Cert.LossIdeal.Gen.frame m ρ,
  fun m ρ _ => (θ_run _ _ _).mono (fun r h => ⟨fun c => (h c).2.2.2.2, Cert.Quiet.sem_zero (by decide) r.2⟩) (Cert.LossRefIdeal.Value.run m ρ),
  fun m ρ _ => Cert.EvOut.Gen.frame m ρ, fun m ρ _ => Cert.EvOutIdeal.Gen.frame m ρ,
  fun m ρ _ => (θ_run _ _ _).mono (fun r h => ⟨fun c => (h c).2.2.2.2.2.2.2, Cert.Quiet.sem_zero (by decide) r.2⟩) (Cert.EvOutRefIdeal.Value.run m ρ),
  fun m ρ _ => Cert.EvFwd.Gen.frame m ρ, fun m ρ _ => Cert.EvFwdIdeal.Gen.frame m ρ,
  fun m ρ _ => (θ_run _ _ _).mono (fun r h => ⟨fun c => (h c).2.2.2, Cert.Quiet.sem_zero (by decide) r.2⟩) (Cert.EvFwdRefIdeal.Value.run m ρ),
  fun m ρ _ => Cert.OdFwd.Gen.frame m ρ, fun m ρ _ => Cert.OdFwdIdeal.Gen.frame m ρ,
  fun m ρ _ => (θ_run _ _ _).mono (fun r h => ⟨fun c => (h c).2.2.2, Cert.Quiet.sem_zero (by decide) r.2⟩) (Cert.OdFwdRefIdeal.Value.run m ρ),
  fun m ρ _ => Cert.EvPre.Gen.frame m ρ, fun m ρ _ => Cert.EvPreIdeal.Gen.frame m ρ,
  fun m ρ _ => (θ_run _ _ _).mono (fun r h => ⟨fun c => (h c).2.2, Cert.Quiet.sem_zero (by decide) r.2⟩) (Cert.EvPreRefIdeal.Value.run m ρ),
  fun m ρ _ => Cert.OdEnd.Gen.frame m ρ, fun m ρ _ => Cert.OdEndIdeal.Gen.frame m ρ,
  fun m ρ _ => (θ_run _ _ _).mono (fun r h => ⟨fun c => (h c).2.2.2, Cert.Quiet.sem_zero (by decide) r.2⟩) (Cert.OdEndRefIdeal.Value.run m ρ),
  trivial, algebraic_du, trivial, algebraic_dw, trivial, Cert.AttClaim.algebraic, trivial, Cert.MidRefIdeal.Val.algebraic, trivial, Cert.OdInRefIdeal.Val.algebraic,
  IdealRules.named_const.statement Cert.AttFwdIdeal.κ "INV_LN2" .f32 0x3FB8AA3B#32 _ rfl, Cert.AttFwdClaim.algebraic,
  trivial, Cert.OdOutRefIdeal.Val.algebraic, trivial, Cert.LossRefIdeal.Val.algebraic,
  trivial, Cert.EvOutRefIdeal.Val.algebraic,
  trivial, Cert.EvFwdRefIdeal.Val.algebraic,
  trivial, Cert.OdFwdRefIdeal.Val.algebraic,
  trivial, Cert.EvPreRefIdeal.Val.algebraic,
  trivial, Cert.OdEndRefIdeal.Val.algebraic⟩

end Cert.Proof

end
